-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Rope (m : (ℓ : Loc Cert.Rope.nD Cert.Rope.τ Cert.Rope.sig) → Buf (Elt Bits) ℓ) : Prop :=
  True

def Pre_RopeIdeal (m : (ℓ : Loc Cert.RopeIdeal.nD Cert.RopeIdeal.τ Cert.RopeIdeal.sig) → Buf (Elt Ideal) ℓ) : Prop :=
  True

def Pre_RopeReferenceIdeal (m : (ℓ : Loc Cert.RopeReferenceIdeal.nD Cert.RopeReferenceIdeal.τ Cert.RopeReferenceIdeal.sig) → Buf (Elt Ideal) ℓ) : Prop :=
  True

def Pre_Val (m : (ℓ : Loc Cert.Val.nD Cert.Val.τ Cert.Val.sig) → Buf (Elt Bits) ℓ) : Prop :=
  True

def Pre_ValIdeal (m : (ℓ : Loc Cert.ValIdeal.nD Cert.ValIdeal.τ Cert.ValIdeal.sig) → Buf (Elt Ideal) ℓ) : Prop :=
  True

def Pre_ValReferenceIdeal (m : (ℓ : Loc Cert.ValReferenceIdeal.nD Cert.ValReferenceIdeal.τ Cert.ValReferenceIdeal.sig) → Buf (Elt Ideal) ℓ) : Prop :=
  True

def Pre_Iw (m : (ℓ : Loc Cert.Iw.nD Cert.Iw.τ Cert.Iw.sig) → Buf (Elt Bits) ℓ) : Prop :=
  True

def Pre_IwIdeal (m : (ℓ : Loc Cert.IwIdeal.nD Cert.IwIdeal.τ Cert.IwIdeal.sig) → Buf (Elt Ideal) ℓ) : Prop :=
  True

def Pre_IwReferenceIdeal (m : (ℓ : Loc Cert.IwReferenceIdeal.nD Cert.IwReferenceIdeal.τ Cert.IwReferenceIdeal.sig) → Buf (Elt Ideal) ℓ) : Prop :=
  True

def Pre_Swa (m : (ℓ : Loc Cert.Swa.nD Cert.Swa.τ Cert.Swa.sig) → Buf (Elt Bits) ℓ) : Prop :=
  True

def Pre_SwaIdeal (m : (ℓ : Loc Cert.SwaIdeal.nD Cert.SwaIdeal.τ Cert.SwaIdeal.sig) → Buf (Elt Ideal) ℓ) : Prop :=
  True

def Pre_SwaIdeal_finite_scores [hPre_finite_scores : Cert.Pre_finite_scores.Facts] (m : (ℓ : Loc Cert.SwaIdeal.nD Cert.SwaIdeal.τ Cert.SwaIdeal.sig) → Buf (Elt Ideal) ℓ) : Prop :=
  ∀ c : Dev Cert.SwaIdeal.nD,
    (Cert.Pre_finite_scores.fn (F := Ideal) (m ((c.tc : Thread Cert.SwaIdeal.nD Cert.SwaIdeal.τ).loc Cert.SwaIdeal.main_arg0)) (m ((c.tc : Thread Cert.SwaIdeal.nD Cert.SwaIdeal.τ).loc Cert.SwaIdeal.main_arg1)) (m ((c.tc : Thread Cert.SwaIdeal.nD Cert.SwaIdeal.τ).loc Cert.SwaIdeal.main_arg2))) = (fun _ => 1#1)

def Pre_SwaReferenceIdeal (m : (ℓ : Loc Cert.SwaReferenceIdeal.nD Cert.SwaReferenceIdeal.τ Cert.SwaReferenceIdeal.sig) → Buf (Elt Ideal) ℓ) : Prop :=
  True

def Pre_SwaReferenceIdeal_finite_scores [hPre_finite_scores : Cert.Pre_finite_scores.Facts] (m : (ℓ : Loc Cert.SwaReferenceIdeal.nD Cert.SwaReferenceIdeal.τ Cert.SwaReferenceIdeal.sig) → Buf (Elt Ideal) ℓ) : Prop :=
  ∀ c : Dev Cert.SwaReferenceIdeal.nD,
    (Cert.Pre_finite_scores.fn (F := Ideal) (m ((c.tc : Thread Cert.SwaReferenceIdeal.nD Cert.SwaReferenceIdeal.τ).loc Cert.SwaReferenceIdeal.main_arg0)) (m ((c.tc : Thread Cert.SwaReferenceIdeal.nD Cert.SwaReferenceIdeal.τ).loc Cert.SwaReferenceIdeal.main_arg1)) (m ((c.tc : Thread Cert.SwaReferenceIdeal.nD Cert.SwaReferenceIdeal.τ).loc Cert.SwaReferenceIdeal.main_arg2))) = (fun _ => 1#1)

def Pre_Band (m : (ℓ : Loc Cert.Band.nD Cert.Band.τ Cert.Band.sig) → Buf (Elt Bits) ℓ) : Prop :=
  True

def Pre_BandIdeal (m : (ℓ : Loc Cert.BandIdeal.nD Cert.BandIdeal.τ Cert.BandIdeal.sig) → Buf (Elt Ideal) ℓ) : Prop :=
  True

def Pre_BandReferenceIdeal (m : (ℓ : Loc Cert.BandReferenceIdeal.nD Cert.BandReferenceIdeal.τ Cert.BandReferenceIdeal.sig) → Buf (Elt Ideal) ℓ) : Prop :=
  True

def Pre_Band4 (m : (ℓ : Loc Cert.Band4.nD Cert.Band4.τ Cert.Band4.sig) → Buf (Elt Bits) ℓ) : Prop :=
  True

def Pre_Band4Ideal (m : (ℓ : Loc Cert.Band4Ideal.nD Cert.Band4Ideal.τ Cert.Band4Ideal.sig) → Buf (Elt Ideal) ℓ) : Prop :=
  True

def Pre_Band4ReferenceIdeal (m : (ℓ : Loc Cert.Band4ReferenceIdeal.nD Cert.Band4ReferenceIdeal.τ Cert.Band4ReferenceIdeal.sig) → Buf (Elt Ideal) ℓ) : Prop :=
  True

def Pre_Band16 (m : (ℓ : Loc Cert.Band16.nD Cert.Band16.τ Cert.Band16.sig) → Buf (Elt Bits) ℓ) : Prop :=
  True

def Pre_Band16Ideal (m : (ℓ : Loc Cert.Band16Ideal.nD Cert.Band16Ideal.τ Cert.Band16Ideal.sig) → Buf (Elt Ideal) ℓ) : Prop :=
  True

def Pre_Band16ReferenceIdeal (m : (ℓ : Loc Cert.Band16ReferenceIdeal.nD Cert.Band16ReferenceIdeal.τ Cert.Band16ReferenceIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutIdeal_finite_lse [hPre_finite_lse : Cert.Pre_finite_lse.Facts] (m : (ℓ : Loc Cert.OutIdeal.nD Cert.OutIdeal.τ Cert.OutIdeal.sig) → Buf (Elt Ideal) ℓ) : Prop :=
  ∀ c : Dev Cert.OutIdeal.nD,
    (Cert.Pre_finite_lse.fn (F := Ideal) (m ((c.tc : Thread Cert.OutIdeal.nD Cert.OutIdeal.τ).loc Cert.OutIdeal.main_arg0)) (m ((c.tc : Thread Cert.OutIdeal.nD Cert.OutIdeal.τ).loc Cert.OutIdeal.main_arg1)) (m ((c.tc : Thread Cert.OutIdeal.nD Cert.OutIdeal.τ).loc Cert.OutIdeal.main_arg2)) (m ((c.tc : Thread Cert.OutIdeal.nD Cert.OutIdeal.τ).loc Cert.OutIdeal.main_arg3)) (m ((c.tc : Thread Cert.OutIdeal.nD Cert.OutIdeal.τ).loc Cert.OutIdeal.main_arg4)) (m ((c.tc : Thread Cert.OutIdeal.nD Cert.OutIdeal.τ).loc Cert.OutIdeal.main_arg5)) (m ((c.tc : Thread Cert.OutIdeal.nD Cert.OutIdeal.τ).loc Cert.OutIdeal.main_arg6)) (m ((c.tc : Thread Cert.OutIdeal.nD Cert.OutIdeal.τ).loc Cert.OutIdeal.main_arg7)) (m ((c.tc : Thread Cert.OutIdeal.nD Cert.OutIdeal.τ).loc Cert.OutIdeal.main_arg8)) (m ((c.tc : Thread Cert.OutIdeal.nD Cert.OutIdeal.τ).loc Cert.OutIdeal.main_arg9))) = (fun _ => 1#1)

def Pre_OutReferenceIdeal (m : (ℓ : Loc Cert.OutReferenceIdeal.nD Cert.OutReferenceIdeal.τ Cert.OutReferenceIdeal.sig) → Buf (Elt Ideal) ℓ) : Prop :=
  True

def Pre_OutReferenceIdeal_finite_lse [hPre_finite_lse : Cert.Pre_finite_lse.Facts] (m : (ℓ : Loc Cert.OutReferenceIdeal.nD Cert.OutReferenceIdeal.τ Cert.OutReferenceIdeal.sig) → Buf (Elt Ideal) ℓ) : Prop :=
  ∀ c : Dev Cert.OutReferenceIdeal.nD,
    (Cert.Pre_finite_lse.fn (F := Ideal) (m ((c.tc : Thread Cert.OutReferenceIdeal.nD Cert.OutReferenceIdeal.τ).loc Cert.OutReferenceIdeal.main_arg0)) (m ((c.tc : Thread Cert.OutReferenceIdeal.nD Cert.OutReferenceIdeal.τ).loc Cert.OutReferenceIdeal.main_arg1)) (m ((c.tc : Thread Cert.OutReferenceIdeal.nD Cert.OutReferenceIdeal.τ).loc Cert.OutReferenceIdeal.main_arg2)) (m ((c.tc : Thread Cert.OutReferenceIdeal.nD Cert.OutReferenceIdeal.τ).loc Cert.OutReferenceIdeal.main_arg3)) (m ((c.tc : Thread Cert.OutReferenceIdeal.nD Cert.OutReferenceIdeal.τ).loc Cert.OutReferenceIdeal.main_arg4)) (m ((c.tc : Thread Cert.OutReferenceIdeal.nD Cert.OutReferenceIdeal.τ).loc Cert.OutReferenceIdeal.main_arg5)) (m ((c.tc : Thread Cert.OutReferenceIdeal.nD Cert.OutReferenceIdeal.τ).loc Cert.OutReferenceIdeal.main_arg6)) (m ((c.tc : Thread Cert.OutReferenceIdeal.nD Cert.OutReferenceIdeal.τ).loc Cert.OutReferenceIdeal.main_arg7)) (m ((c.tc : Thread Cert.OutReferenceIdeal.nD Cert.OutReferenceIdeal.τ).loc Cert.OutReferenceIdeal.main_arg8)) (m ((c.tc : Thread Cert.OutReferenceIdeal.nD Cert.OutReferenceIdeal.τ).loc Cert.OutReferenceIdeal.main_arg9))) = (fun _ => 1#1)

def Pre_Ln (m : (ℓ : Loc Cert.Ln.nD Cert.Ln.τ Cert.Ln.sig) → Buf (Elt Bits) ℓ) : Prop :=
  True

def Pre_LnIdeal (m : (ℓ : Loc Cert.LnIdeal.nD Cert.LnIdeal.τ Cert.LnIdeal.sig) → Buf (Elt Ideal) ℓ) : Prop :=
  True

def Pre_LnReferenceIdeal (m : (ℓ : Loc Cert.LnReferenceIdeal.nD Cert.LnReferenceIdeal.τ Cert.LnReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Rope [hRope : Cert.Rope.Facts] : Prop :=
  ∀ (m : (ℓ : Loc Cert.Rope.nD Cert.Rope.τ Cert.Rope.sig) → Buf (Elt Bits) ℓ) (g : Dev Cert.Rope.nD → PrngReg), Pre_Rope m →
    θ_run (Cert.Rope.defs (F := Bits)) (onTc (τ := Cert.Rope.τ) (Cert.Rope.main (F := Bits))) ⟨m, fun _ => 0, g⟩ (fun r => (∀ c : Dev Cert.Rope.nD,
      r.2.mem ((c.tc : Thread Cert.Rope.nD Cert.Rope.τ).loc Cert.Rope.main_arg0) = m ((c.tc : Thread Cert.Rope.nD Cert.Rope.τ).loc Cert.Rope.main_arg0)
      ∧ r.2.mem ((c.tc : Thread Cert.Rope.nD Cert.Rope.τ).loc Cert.Rope.main_arg1) = m ((c.tc : Thread Cert.Rope.nD Cert.Rope.τ).loc Cert.Rope.main_arg1))
      ∧ r.2.sem = fun _ => 0)

def quiescent_RopeIdeal [hRopeIdeal : Cert.RopeIdeal.Facts] : Prop :=
  ∀ (m : (ℓ : Loc Cert.RopeIdeal.nD Cert.RopeIdeal.τ Cert.RopeIdeal.sig) → Buf (Elt Ideal) ℓ) (g : Dev Cert.RopeIdeal.nD → PrngReg), Pre_RopeIdeal m →
    θ_run (Cert.RopeIdeal.defs (F := Ideal)) (onTc (τ := Cert.RopeIdeal.τ) (Cert.RopeIdeal.main (F := Ideal))) ⟨m, fun _ => 0, g⟩ (fun r => (∀ c : Dev Cert.RopeIdeal.nD,
      r.2.mem ((c.tc : Thread Cert.RopeIdeal.nD Cert.RopeIdeal.τ).loc Cert.RopeIdeal.main_arg0) = m ((c.tc : Thread Cert.RopeIdeal.nD Cert.RopeIdeal.τ).loc Cert.RopeIdeal.main_arg0)
      ∧ r.2.mem ((c.tc : Thread Cert.RopeIdeal.nD Cert.RopeIdeal.τ).loc Cert.RopeIdeal.main_arg1) = m ((c.tc : Thread Cert.RopeIdeal.nD Cert.RopeIdeal.τ).loc Cert.RopeIdeal.main_arg1))
      ∧ r.2.sem = fun _ => 0)

def quiescent_RopeReferenceIdeal [hRopeReferenceIdeal : Cert.RopeReferenceIdeal.Facts] : Prop :=
  ∀ (m : (ℓ : Loc Cert.RopeReferenceIdeal.nD Cert.RopeReferenceIdeal.τ Cert.RopeReferenceIdeal.sig) → Buf (Elt Ideal) ℓ) (g : Dev Cert.RopeReferenceIdeal.nD → PrngReg), Pre_RopeReferenceIdeal m →
    θ_run (Cert.RopeReferenceIdeal.defs (F := Ideal)) (onTc (τ := Cert.RopeReferenceIdeal.τ) (Cert.RopeReferenceIdeal.main (F := Ideal))) ⟨m, fun _ => 0, g⟩ (fun r => (∀ c : Dev Cert.RopeReferenceIdeal.nD,
      r.2.mem ((c.tc : Thread Cert.RopeReferenceIdeal.nD Cert.RopeReferenceIdeal.τ).loc Cert.RopeReferenceIdeal.main_arg0) = m ((c.tc : Thread Cert.RopeReferenceIdeal.nD Cert.RopeReferenceIdeal.τ).loc Cert.RopeReferenceIdeal.main_arg0)
      ∧ r.2.mem ((c.tc : Thread Cert.RopeReferenceIdeal.nD Cert.RopeReferenceIdeal.τ).loc Cert.RopeReferenceIdeal.main_arg1) = m ((c.tc : Thread Cert.RopeReferenceIdeal.nD Cert.RopeReferenceIdeal.τ).loc Cert.RopeReferenceIdeal.main_arg1))
      ∧ r.2.sem = fun _ => 0)

def quiescent_Val [hVal : Cert.Val.Facts] : Prop :=
  ∀ (m : (ℓ : Loc Cert.Val.nD Cert.Val.τ Cert.Val.sig) → Buf (Elt Bits) ℓ) (g : Dev Cert.Val.nD → PrngReg), Pre_Val m →
    θ_run (Cert.Val.defs (F := Bits)) (onTc (τ := Cert.Val.τ) (Cert.Val.main (F := Bits))) ⟨m, fun _ => 0, g⟩ (fun r => (∀ c : Dev Cert.Val.nD,
      r.2.mem ((c.tc : Thread Cert.Val.nD Cert.Val.τ).loc Cert.Val.main_arg0) = m ((c.tc : Thread Cert.Val.nD Cert.Val.τ).loc Cert.Val.main_arg0)
      ∧ r.2.mem ((c.tc : Thread Cert.Val.nD Cert.Val.τ).loc Cert.Val.main_arg1) = m ((c.tc : Thread Cert.Val.nD Cert.Val.τ).loc Cert.Val.main_arg1))
      ∧ r.2.sem = fun _ => 0)

def quiescent_ValIdeal [hValIdeal : Cert.ValIdeal.Facts] : Prop :=
  ∀ (m : (ℓ : Loc Cert.ValIdeal.nD Cert.ValIdeal.τ Cert.ValIdeal.sig) → Buf (Elt Ideal) ℓ) (g : Dev Cert.ValIdeal.nD → PrngReg), Pre_ValIdeal m →
    θ_run (Cert.ValIdeal.defs (F := Ideal)) (onTc (τ := Cert.ValIdeal.τ) (Cert.ValIdeal.main (F := Ideal))) ⟨m, fun _ => 0, g⟩ (fun r => (∀ c : Dev Cert.ValIdeal.nD,
      r.2.mem ((c.tc : Thread Cert.ValIdeal.nD Cert.ValIdeal.τ).loc Cert.ValIdeal.main_arg0) = m ((c.tc : Thread Cert.ValIdeal.nD Cert.ValIdeal.τ).loc Cert.ValIdeal.main_arg0)
      ∧ r.2.mem ((c.tc : Thread Cert.ValIdeal.nD Cert.ValIdeal.τ).loc Cert.ValIdeal.main_arg1) = m ((c.tc : Thread Cert.ValIdeal.nD Cert.ValIdeal.τ).loc Cert.ValIdeal.main_arg1))
      ∧ r.2.sem = fun _ => 0)

def quiescent_ValReferenceIdeal [hValReferenceIdeal : Cert.ValReferenceIdeal.Facts] : Prop :=
  ∀ (m : (ℓ : Loc Cert.ValReferenceIdeal.nD Cert.ValReferenceIdeal.τ Cert.ValReferenceIdeal.sig) → Buf (Elt Ideal) ℓ) (g : Dev Cert.ValReferenceIdeal.nD → PrngReg), Pre_ValReferenceIdeal m →
    θ_run (Cert.ValReferenceIdeal.defs (F := Ideal)) (onTc (τ := Cert.ValReferenceIdeal.τ) (Cert.ValReferenceIdeal.main (F := Ideal))) ⟨m, fun _ => 0, g⟩ (fun r => (∀ c : Dev Cert.ValReferenceIdeal.nD,
      r.2.mem ((c.tc : Thread Cert.ValReferenceIdeal.nD Cert.ValReferenceIdeal.τ).loc Cert.ValReferenceIdeal.main_arg0) = m ((c.tc : Thread Cert.ValReferenceIdeal.nD Cert.ValReferenceIdeal.τ).loc Cert.ValReferenceIdeal.main_arg0)
      ∧ r.2.mem ((c.tc : Thread Cert.ValReferenceIdeal.nD Cert.ValReferenceIdeal.τ).loc Cert.ValReferenceIdeal.main_arg1) = m ((c.tc : Thread Cert.ValReferenceIdeal.nD Cert.ValReferenceIdeal.τ).loc Cert.ValReferenceIdeal.main_arg1))
      ∧ r.2.sem = fun _ => 0)

def quiescent_Iw [hIw : Cert.Iw.Facts] : Prop :=
  ∀ (m : (ℓ : Loc Cert.Iw.nD Cert.Iw.τ Cert.Iw.sig) → Buf (Elt Bits) ℓ) (g : Dev Cert.Iw.nD → PrngReg), Pre_Iw m →
    θ_run (Cert.Iw.defs (F := Bits)) (onTc (τ := Cert.Iw.τ) (Cert.Iw.main (F := Bits))) ⟨m, fun _ => 0, g⟩ (fun r => (∀ c : Dev Cert.Iw.nD,
      r.2.mem ((c.tc : Thread Cert.Iw.nD Cert.Iw.τ).loc Cert.Iw.main_arg0) = m ((c.tc : Thread Cert.Iw.nD Cert.Iw.τ).loc Cert.Iw.main_arg0)
      ∧ r.2.mem ((c.tc : Thread Cert.Iw.nD Cert.Iw.τ).loc Cert.Iw.main_arg1) = m ((c.tc : Thread Cert.Iw.nD Cert.Iw.τ).loc Cert.Iw.main_arg1))
      ∧ r.2.sem = fun _ => 0)

def quiescent_IwIdeal [hIwIdeal : Cert.IwIdeal.Facts] : Prop :=
  ∀ (m : (ℓ : Loc Cert.IwIdeal.nD Cert.IwIdeal.τ Cert.IwIdeal.sig) → Buf (Elt Ideal) ℓ) (g : Dev Cert.IwIdeal.nD → PrngReg), Pre_IwIdeal m →
    θ_run (Cert.IwIdeal.defs (F := Ideal)) (onTc (τ := Cert.IwIdeal.τ) (Cert.IwIdeal.main (F := Ideal))) ⟨m, fun _ => 0, g⟩ (fun r => (∀ c : Dev Cert.IwIdeal.nD,
      r.2.mem ((c.tc : Thread Cert.IwIdeal.nD Cert.IwIdeal.τ).loc Cert.IwIdeal.main_arg0) = m ((c.tc : Thread Cert.IwIdeal.nD Cert.IwIdeal.τ).loc Cert.IwIdeal.main_arg0)
      ∧ r.2.mem ((c.tc : Thread Cert.IwIdeal.nD Cert.IwIdeal.τ).loc Cert.IwIdeal.main_arg1) = m ((c.tc : Thread Cert.IwIdeal.nD Cert.IwIdeal.τ).loc Cert.IwIdeal.main_arg1))
      ∧ r.2.sem = fun _ => 0)

def quiescent_IwReferenceIdeal [hIwReferenceIdeal : Cert.IwReferenceIdeal.Facts] : Prop :=
  ∀ (m : (ℓ : Loc Cert.IwReferenceIdeal.nD Cert.IwReferenceIdeal.τ Cert.IwReferenceIdeal.sig) → Buf (Elt Ideal) ℓ) (g : Dev Cert.IwReferenceIdeal.nD → PrngReg), Pre_IwReferenceIdeal m →
    θ_run (Cert.IwReferenceIdeal.defs (F := Ideal)) (onTc (τ := Cert.IwReferenceIdeal.τ) (Cert.IwReferenceIdeal.main (F := Ideal))) ⟨m, fun _ => 0, g⟩ (fun r => (∀ c : Dev Cert.IwReferenceIdeal.nD,
      r.2.mem ((c.tc : Thread Cert.IwReferenceIdeal.nD Cert.IwReferenceIdeal.τ).loc Cert.IwReferenceIdeal.main_arg0) = m ((c.tc : Thread Cert.IwReferenceIdeal.nD Cert.IwReferenceIdeal.τ).loc Cert.IwReferenceIdeal.main_arg0)
      ∧ r.2.mem ((c.tc : Thread Cert.IwReferenceIdeal.nD Cert.IwReferenceIdeal.τ).loc Cert.IwReferenceIdeal.main_arg1) = m ((c.tc : Thread Cert.IwReferenceIdeal.nD Cert.IwReferenceIdeal.τ).loc Cert.IwReferenceIdeal.main_arg1))
      ∧ r.2.sem = fun _ => 0)

def quiescent_Swa [hSwa : Cert.Swa.Facts] : Prop :=
  ∀ (m : (ℓ : Loc Cert.Swa.nD Cert.Swa.τ Cert.Swa.sig) → Buf (Elt Bits) ℓ) (g : Dev Cert.Swa.nD → PrngReg), Pre_Swa m →
    θ_run (Cert.Swa.defs (F := Bits)) (onTc (τ := Cert.Swa.τ) (Cert.Swa.main (F := Bits))) ⟨m, fun _ => 0, g⟩ (fun r => (∀ c : Dev Cert.Swa.nD,
      r.2.mem ((c.tc : Thread Cert.Swa.nD Cert.Swa.τ).loc Cert.Swa.main_arg0) = m ((c.tc : Thread Cert.Swa.nD Cert.Swa.τ).loc Cert.Swa.main_arg0)
      ∧ r.2.mem ((c.tc : Thread Cert.Swa.nD Cert.Swa.τ).loc Cert.Swa.main_arg1) = m ((c.tc : Thread Cert.Swa.nD Cert.Swa.τ).loc Cert.Swa.main_arg1)
      ∧ r.2.mem ((c.tc : Thread Cert.Swa.nD Cert.Swa.τ).loc Cert.Swa.main_arg2) = m ((c.tc : Thread Cert.Swa.nD Cert.Swa.τ).loc Cert.Swa.main_arg2))
      ∧ r.2.sem = fun _ => 0)

def quiescent_SwaIdeal [hSwaIdeal : Cert.SwaIdeal.Facts] : Prop :=
  ∀ (m : (ℓ : Loc Cert.SwaIdeal.nD Cert.SwaIdeal.τ Cert.SwaIdeal.sig) → Buf (Elt Ideal) ℓ) (g : Dev Cert.SwaIdeal.nD → PrngReg), Pre_SwaIdeal m →
    θ_run (Cert.SwaIdeal.defs (F := Ideal)) (onTc (τ := Cert.SwaIdeal.τ) (Cert.SwaIdeal.main (F := Ideal))) ⟨m, fun _ => 0, g⟩ (fun r => (∀ c : Dev Cert.SwaIdeal.nD,
      r.2.mem ((c.tc : Thread Cert.SwaIdeal.nD Cert.SwaIdeal.τ).loc Cert.SwaIdeal.main_arg0) = m ((c.tc : Thread Cert.SwaIdeal.nD Cert.SwaIdeal.τ).loc Cert.SwaIdeal.main_arg0)
      ∧ r.2.mem ((c.tc : Thread Cert.SwaIdeal.nD Cert.SwaIdeal.τ).loc Cert.SwaIdeal.main_arg1) = m ((c.tc : Thread Cert.SwaIdeal.nD Cert.SwaIdeal.τ).loc Cert.SwaIdeal.main_arg1)
      ∧ r.2.mem ((c.tc : Thread Cert.SwaIdeal.nD Cert.SwaIdeal.τ).loc Cert.SwaIdeal.main_arg2) = m ((c.tc : Thread Cert.SwaIdeal.nD Cert.SwaIdeal.τ).loc Cert.SwaIdeal.main_arg2))
      ∧ r.2.sem = fun _ => 0)

def quiescent_SwaIdeal_pre_finite_scores [hSwaIdeal : Cert.SwaIdeal.Facts] [hPre_finite_scores : Cert.Pre_finite_scores.Facts] : Prop :=
  ∀ (m : (ℓ : Loc Cert.SwaIdeal.nD Cert.SwaIdeal.τ Cert.SwaIdeal.sig) → Buf (Elt Ideal) ℓ) (g : Dev Cert.SwaIdeal.nD → PrngReg), Pre_SwaIdeal_finite_scores m →
    θ_run (Cert.SwaIdeal.defs (F := Ideal)) (onTc (τ := Cert.SwaIdeal.τ) (Cert.SwaIdeal.main (F := Ideal))) ⟨m, fun _ => 0, g⟩ (fun r => (∀ c : Dev Cert.SwaIdeal.nD,
      r.2.mem ((c.tc : Thread Cert.SwaIdeal.nD Cert.SwaIdeal.τ).loc Cert.SwaIdeal.main_arg0) = m ((c.tc : Thread Cert.SwaIdeal.nD Cert.SwaIdeal.τ).loc Cert.SwaIdeal.main_arg0)
      ∧ r.2.mem ((c.tc : Thread Cert.SwaIdeal.nD Cert.SwaIdeal.τ).loc Cert.SwaIdeal.main_arg1) = m ((c.tc : Thread Cert.SwaIdeal.nD Cert.SwaIdeal.τ).loc Cert.SwaIdeal.main_arg1)
      ∧ r.2.mem ((c.tc : Thread Cert.SwaIdeal.nD Cert.SwaIdeal.τ).loc Cert.SwaIdeal.main_arg2) = m ((c.tc : Thread Cert.SwaIdeal.nD Cert.SwaIdeal.τ).loc Cert.SwaIdeal.main_arg2))
      ∧ r.2.sem = fun _ => 0)

def quiescent_SwaReferenceIdeal [hSwaReferenceIdeal : Cert.SwaReferenceIdeal.Facts] : Prop :=
  ∀ (m : (ℓ : Loc Cert.SwaReferenceIdeal.nD Cert.SwaReferenceIdeal.τ Cert.SwaReferenceIdeal.sig) → Buf (Elt Ideal) ℓ) (g : Dev Cert.SwaReferenceIdeal.nD → PrngReg), Pre_SwaReferenceIdeal m →
    θ_run (Cert.SwaReferenceIdeal.defs (F := Ideal)) (onTc (τ := Cert.SwaReferenceIdeal.τ) (Cert.SwaReferenceIdeal.main (F := Ideal))) ⟨m, fun _ => 0, g⟩ (fun r => (∀ c : Dev Cert.SwaReferenceIdeal.nD,
      r.2.mem ((c.tc : Thread Cert.SwaReferenceIdeal.nD Cert.SwaReferenceIdeal.τ).loc Cert.SwaReferenceIdeal.main_arg0) = m ((c.tc : Thread Cert.SwaReferenceIdeal.nD Cert.SwaReferenceIdeal.τ).loc Cert.SwaReferenceIdeal.main_arg0)
      ∧ r.2.mem ((c.tc : Thread Cert.SwaReferenceIdeal.nD Cert.SwaReferenceIdeal.τ).loc Cert.SwaReferenceIdeal.main_arg1) = m ((c.tc : Thread Cert.SwaReferenceIdeal.nD Cert.SwaReferenceIdeal.τ).loc Cert.SwaReferenceIdeal.main_arg1)
      ∧ r.2.mem ((c.tc : Thread Cert.SwaReferenceIdeal.nD Cert.SwaReferenceIdeal.τ).loc Cert.SwaReferenceIdeal.main_arg2) = m ((c.tc : Thread Cert.SwaReferenceIdeal.nD Cert.SwaReferenceIdeal.τ).loc Cert.SwaReferenceIdeal.main_arg2))
      ∧ r.2.sem = fun _ => 0)

def quiescent_SwaReferenceIdeal_pre_finite_scores [hSwaReferenceIdeal : Cert.SwaReferenceIdeal.Facts] [hPre_finite_scores : Cert.Pre_finite_scores.Facts] : Prop :=
  ∀ (m : (ℓ : Loc Cert.SwaReferenceIdeal.nD Cert.SwaReferenceIdeal.τ Cert.SwaReferenceIdeal.sig) → Buf (Elt Ideal) ℓ) (g : Dev Cert.SwaReferenceIdeal.nD → PrngReg), Pre_SwaReferenceIdeal_finite_scores m →
    θ_run (Cert.SwaReferenceIdeal.defs (F := Ideal)) (onTc (τ := Cert.SwaReferenceIdeal.τ) (Cert.SwaReferenceIdeal.main (F := Ideal))) ⟨m, fun _ => 0, g⟩ (fun r => (∀ c : Dev Cert.SwaReferenceIdeal.nD,
      r.2.mem ((c.tc : Thread Cert.SwaReferenceIdeal.nD Cert.SwaReferenceIdeal.τ).loc Cert.SwaReferenceIdeal.main_arg0) = m ((c.tc : Thread Cert.SwaReferenceIdeal.nD Cert.SwaReferenceIdeal.τ).loc Cert.SwaReferenceIdeal.main_arg0)
      ∧ r.2.mem ((c.tc : Thread Cert.SwaReferenceIdeal.nD Cert.SwaReferenceIdeal.τ).loc Cert.SwaReferenceIdeal.main_arg1) = m ((c.tc : Thread Cert.SwaReferenceIdeal.nD Cert.SwaReferenceIdeal.τ).loc Cert.SwaReferenceIdeal.main_arg1)
      ∧ r.2.mem ((c.tc : Thread Cert.SwaReferenceIdeal.nD Cert.SwaReferenceIdeal.τ).loc Cert.SwaReferenceIdeal.main_arg2) = m ((c.tc : Thread Cert.SwaReferenceIdeal.nD Cert.SwaReferenceIdeal.τ).loc Cert.SwaReferenceIdeal.main_arg2))
      ∧ r.2.sem = fun _ => 0)

def quiescent_Band [hBand : Cert.Band.Facts] : Prop :=
  ∀ (m : (ℓ : Loc Cert.Band.nD Cert.Band.τ Cert.Band.sig) → Buf (Elt Bits) ℓ) (g : Dev Cert.Band.nD → PrngReg), Pre_Band m →
    θ_run (Cert.Band.defs (F := Bits)) (onTc (τ := Cert.Band.τ) (Cert.Band.main (F := Bits))) ⟨m, fun _ => 0, g⟩ (fun r => (∀ c : Dev Cert.Band.nD,
      r.2.mem ((c.tc : Thread Cert.Band.nD Cert.Band.τ).loc Cert.Band.main_arg0) = m ((c.tc : Thread Cert.Band.nD Cert.Band.τ).loc Cert.Band.main_arg0)
      ∧ r.2.mem ((c.tc : Thread Cert.Band.nD Cert.Band.τ).loc Cert.Band.main_arg1) = m ((c.tc : Thread Cert.Band.nD Cert.Band.τ).loc Cert.Band.main_arg1))
      ∧ r.2.sem = fun _ => 0)

def quiescent_BandIdeal [hBandIdeal : Cert.BandIdeal.Facts] : Prop :=
  ∀ (m : (ℓ : Loc Cert.BandIdeal.nD Cert.BandIdeal.τ Cert.BandIdeal.sig) → Buf (Elt Ideal) ℓ) (g : Dev Cert.BandIdeal.nD → PrngReg), Pre_BandIdeal m →
    θ_run (Cert.BandIdeal.defs (F := Ideal)) (onTc (τ := Cert.BandIdeal.τ) (Cert.BandIdeal.main (F := Ideal))) ⟨m, fun _ => 0, g⟩ (fun r => (∀ c : Dev Cert.BandIdeal.nD,
      r.2.mem ((c.tc : Thread Cert.BandIdeal.nD Cert.BandIdeal.τ).loc Cert.BandIdeal.main_arg0) = m ((c.tc : Thread Cert.BandIdeal.nD Cert.BandIdeal.τ).loc Cert.BandIdeal.main_arg0)
      ∧ r.2.mem ((c.tc : Thread Cert.BandIdeal.nD Cert.BandIdeal.τ).loc Cert.BandIdeal.main_arg1) = m ((c.tc : Thread Cert.BandIdeal.nD Cert.BandIdeal.τ).loc Cert.BandIdeal.main_arg1))
      ∧ r.2.sem = fun _ => 0)

def quiescent_BandReferenceIdeal [hBandReferenceIdeal : Cert.BandReferenceIdeal.Facts] : Prop :=
  ∀ (m : (ℓ : Loc Cert.BandReferenceIdeal.nD Cert.BandReferenceIdeal.τ Cert.BandReferenceIdeal.sig) → Buf (Elt Ideal) ℓ) (g : Dev Cert.BandReferenceIdeal.nD → PrngReg), Pre_BandReferenceIdeal m →
    θ_run (Cert.BandReferenceIdeal.defs (F := Ideal)) (onTc (τ := Cert.BandReferenceIdeal.τ) (Cert.BandReferenceIdeal.main (F := Ideal))) ⟨m, fun _ => 0, g⟩ (fun r => (∀ c : Dev Cert.BandReferenceIdeal.nD,
      r.2.mem ((c.tc : Thread Cert.BandReferenceIdeal.nD Cert.BandReferenceIdeal.τ).loc Cert.BandReferenceIdeal.main_arg0) = m ((c.tc : Thread Cert.BandReferenceIdeal.nD Cert.BandReferenceIdeal.τ).loc Cert.BandReferenceIdeal.main_arg0)
      ∧ r.2.mem ((c.tc : Thread Cert.BandReferenceIdeal.nD Cert.BandReferenceIdeal.τ).loc Cert.BandReferenceIdeal.main_arg1) = m ((c.tc : Thread Cert.BandReferenceIdeal.nD Cert.BandReferenceIdeal.τ).loc Cert.BandReferenceIdeal.main_arg1))
      ∧ r.2.sem = fun _ => 0)

def quiescent_Band4 [hBand4 : Cert.Band4.Facts] : Prop :=
  ∀ (m : (ℓ : Loc Cert.Band4.nD Cert.Band4.τ Cert.Band4.sig) → Buf (Elt Bits) ℓ) (g : Dev Cert.Band4.nD → PrngReg), Pre_Band4 m →
    θ_run (Cert.Band4.defs (F := Bits)) (onTc (τ := Cert.Band4.τ) (Cert.Band4.main (F := Bits))) ⟨m, fun _ => 0, g⟩ (fun r => (∀ c : Dev Cert.Band4.nD,
      r.2.mem ((c.tc : Thread Cert.Band4.nD Cert.Band4.τ).loc Cert.Band4.main_arg0) = m ((c.tc : Thread Cert.Band4.nD Cert.Band4.τ).loc Cert.Band4.main_arg0)
      ∧ r.2.mem ((c.tc : Thread Cert.Band4.nD Cert.Band4.τ).loc Cert.Band4.main_arg1) = m ((c.tc : Thread Cert.Band4.nD Cert.Band4.τ).loc Cert.Band4.main_arg1))
      ∧ r.2.sem = fun _ => 0)

def quiescent_Band4Ideal [hBand4Ideal : Cert.Band4Ideal.Facts] : Prop :=
  ∀ (m : (ℓ : Loc Cert.Band4Ideal.nD Cert.Band4Ideal.τ Cert.Band4Ideal.sig) → Buf (Elt Ideal) ℓ) (g : Dev Cert.Band4Ideal.nD → PrngReg), Pre_Band4Ideal m →
    θ_run (Cert.Band4Ideal.defs (F := Ideal)) (onTc (τ := Cert.Band4Ideal.τ) (Cert.Band4Ideal.main (F := Ideal))) ⟨m, fun _ => 0, g⟩ (fun r => (∀ c : Dev Cert.Band4Ideal.nD,
      r.2.mem ((c.tc : Thread Cert.Band4Ideal.nD Cert.Band4Ideal.τ).loc Cert.Band4Ideal.main_arg0) = m ((c.tc : Thread Cert.Band4Ideal.nD Cert.Band4Ideal.τ).loc Cert.Band4Ideal.main_arg0)
      ∧ r.2.mem ((c.tc : Thread Cert.Band4Ideal.nD Cert.Band4Ideal.τ).loc Cert.Band4Ideal.main_arg1) = m ((c.tc : Thread Cert.Band4Ideal.nD Cert.Band4Ideal.τ).loc Cert.Band4Ideal.main_arg1))
      ∧ r.2.sem = fun _ => 0)

def quiescent_Band4ReferenceIdeal [hBand4ReferenceIdeal : Cert.Band4ReferenceIdeal.Facts] : Prop :=
  ∀ (m : (ℓ : Loc Cert.Band4ReferenceIdeal.nD Cert.Band4ReferenceIdeal.τ Cert.Band4ReferenceIdeal.sig) → Buf (Elt Ideal) ℓ) (g : Dev Cert.Band4ReferenceIdeal.nD → PrngReg), Pre_Band4ReferenceIdeal m →
    θ_run (Cert.Band4ReferenceIdeal.defs (F := Ideal)) (onTc (τ := Cert.Band4ReferenceIdeal.τ) (Cert.Band4ReferenceIdeal.main (F := Ideal))) ⟨m, fun _ => 0, g⟩ (fun r => (∀ c : Dev Cert.Band4ReferenceIdeal.nD,
      r.2.mem ((c.tc : Thread Cert.Band4ReferenceIdeal.nD Cert.Band4ReferenceIdeal.τ).loc Cert.Band4ReferenceIdeal.main_arg0) = m ((c.tc : Thread Cert.Band4ReferenceIdeal.nD Cert.Band4ReferenceIdeal.τ).loc Cert.Band4ReferenceIdeal.main_arg0)
      ∧ r.2.mem ((c.tc : Thread Cert.Band4ReferenceIdeal.nD Cert.Band4ReferenceIdeal.τ).loc Cert.Band4ReferenceIdeal.main_arg1) = m ((c.tc : Thread Cert.Band4ReferenceIdeal.nD Cert.Band4ReferenceIdeal.τ).loc Cert.Band4ReferenceIdeal.main_arg1))
      ∧ r.2.sem = fun _ => 0)

def quiescent_Band16 [hBand16 : Cert.Band16.Facts] : Prop :=
  ∀ (m : (ℓ : Loc Cert.Band16.nD Cert.Band16.τ Cert.Band16.sig) → Buf (Elt Bits) ℓ) (g : Dev Cert.Band16.nD → PrngReg), Pre_Band16 m →
    θ_run (Cert.Band16.defs (F := Bits)) (onTc (τ := Cert.Band16.τ) (Cert.Band16.main (F := Bits))) ⟨m, fun _ => 0, g⟩ (fun r => (∀ c : Dev Cert.Band16.nD,
      r.2.mem ((c.tc : Thread Cert.Band16.nD Cert.Band16.τ).loc Cert.Band16.main_arg0) = m ((c.tc : Thread Cert.Band16.nD Cert.Band16.τ).loc Cert.Band16.main_arg0)
      ∧ r.2.mem ((c.tc : Thread Cert.Band16.nD Cert.Band16.τ).loc Cert.Band16.main_arg1) = m ((c.tc : Thread Cert.Band16.nD Cert.Band16.τ).loc Cert.Band16.main_arg1))
      ∧ r.2.sem = fun _ => 0)

def quiescent_Band16Ideal [hBand16Ideal : Cert.Band16Ideal.Facts] : Prop :=
  ∀ (m : (ℓ : Loc Cert.Band16Ideal.nD Cert.Band16Ideal.τ Cert.Band16Ideal.sig) → Buf (Elt Ideal) ℓ) (g : Dev Cert.Band16Ideal.nD → PrngReg), Pre_Band16Ideal m →
    θ_run (Cert.Band16Ideal.defs (F := Ideal)) (onTc (τ := Cert.Band16Ideal.τ) (Cert.Band16Ideal.main (F := Ideal))) ⟨m, fun _ => 0, g⟩ (fun r => (∀ c : Dev Cert.Band16Ideal.nD,
      r.2.mem ((c.tc : Thread Cert.Band16Ideal.nD Cert.Band16Ideal.τ).loc Cert.Band16Ideal.main_arg0) = m ((c.tc : Thread Cert.Band16Ideal.nD Cert.Band16Ideal.τ).loc Cert.Band16Ideal.main_arg0)
      ∧ r.2.mem ((c.tc : Thread Cert.Band16Ideal.nD Cert.Band16Ideal.τ).loc Cert.Band16Ideal.main_arg1) = m ((c.tc : Thread Cert.Band16Ideal.nD Cert.Band16Ideal.τ).loc Cert.Band16Ideal.main_arg1))
      ∧ r.2.sem = fun _ => 0)

def quiescent_Band16ReferenceIdeal [hBand16ReferenceIdeal : Cert.Band16ReferenceIdeal.Facts] : Prop :=
  ∀ (m : (ℓ : Loc Cert.Band16ReferenceIdeal.nD Cert.Band16ReferenceIdeal.τ Cert.Band16ReferenceIdeal.sig) → Buf (Elt Ideal) ℓ) (g : Dev Cert.Band16ReferenceIdeal.nD → PrngReg), Pre_Band16ReferenceIdeal m →
    θ_run (Cert.Band16ReferenceIdeal.defs (F := Ideal)) (onTc (τ := Cert.Band16ReferenceIdeal.τ) (Cert.Band16ReferenceIdeal.main (F := Ideal))) ⟨m, fun _ => 0, g⟩ (fun r => (∀ c : Dev Cert.Band16ReferenceIdeal.nD,
      r.2.mem ((c.tc : Thread Cert.Band16ReferenceIdeal.nD Cert.Band16ReferenceIdeal.τ).loc Cert.Band16ReferenceIdeal.main_arg0) = m ((c.tc : Thread Cert.Band16ReferenceIdeal.nD Cert.Band16ReferenceIdeal.τ).loc Cert.Band16ReferenceIdeal.main_arg0)
      ∧ r.2.mem ((c.tc : Thread Cert.Band16ReferenceIdeal.nD Cert.Band16ReferenceIdeal.τ).loc Cert.Band16ReferenceIdeal.main_arg1) = m ((c.tc : Thread Cert.Band16ReferenceIdeal.nD Cert.Band16ReferenceIdeal.τ).loc Cert.Band16ReferenceIdeal.main_arg1))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3)
      ∧ r.2.mem ((c.tc : Thread Cert.Out.nD Cert.Out.τ).loc Cert.Out.main_arg4) = m ((c.tc : Thread Cert.Out.nD Cert.Out.τ).loc Cert.Out.main_arg4)
      ∧ r.2.mem ((c.tc : Thread Cert.Out.nD Cert.Out.τ).loc Cert.Out.main_arg5) = m ((c.tc : Thread Cert.Out.nD Cert.Out.τ).loc Cert.Out.main_arg5)
      ∧ r.2.mem ((c.tc : Thread Cert.Out.nD Cert.Out.τ).loc Cert.Out.main_arg6) = m ((c.tc : Thread Cert.Out.nD Cert.Out.τ).loc Cert.Out.main_arg6)
      ∧ r.2.mem ((c.tc : Thread Cert.Out.nD Cert.Out.τ).loc Cert.Out.main_arg7) = m ((c.tc : Thread Cert.Out.nD Cert.Out.τ).loc Cert.Out.main_arg7)
      ∧ r.2.mem ((c.tc : Thread Cert.Out.nD Cert.Out.τ).loc Cert.Out.main_arg8) = m ((c.tc : Thread Cert.Out.nD Cert.Out.τ).loc Cert.Out.main_arg8)
      ∧ r.2.mem ((c.tc : Thread Cert.Out.nD Cert.Out.τ).loc Cert.Out.main_arg9) = m ((c.tc : Thread Cert.Out.nD Cert.Out.τ).loc Cert.Out.main_arg9))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
      ∧ r.2.mem ((c.tc : Thread Cert.OutIdeal.nD Cert.OutIdeal.τ).loc Cert.OutIdeal.main_arg4) = m ((c.tc : Thread Cert.OutIdeal.nD Cert.OutIdeal.τ).loc Cert.OutIdeal.main_arg4)
      ∧ r.2.mem ((c.tc : Thread Cert.OutIdeal.nD Cert.OutIdeal.τ).loc Cert.OutIdeal.main_arg5) = m ((c.tc : Thread Cert.OutIdeal.nD Cert.OutIdeal.τ).loc Cert.OutIdeal.main_arg5)
      ∧ r.2.mem ((c.tc : Thread Cert.OutIdeal.nD Cert.OutIdeal.τ).loc Cert.OutIdeal.main_arg6) = m ((c.tc : Thread Cert.OutIdeal.nD Cert.OutIdeal.τ).loc Cert.OutIdeal.main_arg6)
      ∧ r.2.mem ((c.tc : Thread Cert.OutIdeal.nD Cert.OutIdeal.τ).loc Cert.OutIdeal.main_arg7) = m ((c.tc : Thread Cert.OutIdeal.nD Cert.OutIdeal.τ).loc Cert.OutIdeal.main_arg7)
      ∧ r.2.mem ((c.tc : Thread Cert.OutIdeal.nD Cert.OutIdeal.τ).loc Cert.OutIdeal.main_arg8) = m ((c.tc : Thread Cert.OutIdeal.nD Cert.OutIdeal.τ).loc Cert.OutIdeal.main_arg8)
      ∧ r.2.mem ((c.tc : Thread Cert.OutIdeal.nD Cert.OutIdeal.τ).loc Cert.OutIdeal.main_arg9) = m ((c.tc : Thread Cert.OutIdeal.nD Cert.OutIdeal.τ).loc Cert.OutIdeal.main_arg9))
      ∧ r.2.sem = fun _ => 0)

def quiescent_OutIdeal_pre_finite_lse [hOutIdeal : Cert.OutIdeal.Facts] [hPre_finite_lse : Cert.Pre_finite_lse.Facts] : Prop :=
  ∀ (m : (ℓ : Loc Cert.OutIdeal.nD Cert.OutIdeal.τ Cert.OutIdeal.sig) → Buf (Elt Ideal) ℓ) (g : Dev Cert.OutIdeal.nD → PrngReg), Pre_OutIdeal_finite_lse m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
      ∧ r.2.mem ((c.tc : Thread Cert.OutIdeal.nD Cert.OutIdeal.τ).loc Cert.OutIdeal.main_arg4) = m ((c.tc : Thread Cert.OutIdeal.nD Cert.OutIdeal.τ).loc Cert.OutIdeal.main_arg4)
      ∧ r.2.mem ((c.tc : Thread Cert.OutIdeal.nD Cert.OutIdeal.τ).loc Cert.OutIdeal.main_arg5) = m ((c.tc : Thread Cert.OutIdeal.nD Cert.OutIdeal.τ).loc Cert.OutIdeal.main_arg5)
      ∧ r.2.mem ((c.tc : Thread Cert.OutIdeal.nD Cert.OutIdeal.τ).loc Cert.OutIdeal.main_arg6) = m ((c.tc : Thread Cert.OutIdeal.nD Cert.OutIdeal.τ).loc Cert.OutIdeal.main_arg6)
      ∧ r.2.mem ((c.tc : Thread Cert.OutIdeal.nD Cert.OutIdeal.τ).loc Cert.OutIdeal.main_arg7) = m ((c.tc : Thread Cert.OutIdeal.nD Cert.OutIdeal.τ).loc Cert.OutIdeal.main_arg7)
      ∧ r.2.mem ((c.tc : Thread Cert.OutIdeal.nD Cert.OutIdeal.τ).loc Cert.OutIdeal.main_arg8) = m ((c.tc : Thread Cert.OutIdeal.nD Cert.OutIdeal.τ).loc Cert.OutIdeal.main_arg8)
      ∧ r.2.mem ((c.tc : Thread Cert.OutIdeal.nD Cert.OutIdeal.τ).loc Cert.OutIdeal.main_arg9) = m ((c.tc : Thread Cert.OutIdeal.nD Cert.OutIdeal.τ).loc Cert.OutIdeal.main_arg9))
      ∧ r.2.sem = fun _ => 0)

def quiescent_OutReferenceIdeal [hOutReferenceIdeal : Cert.OutReferenceIdeal.Facts] : Prop :=
  ∀ (m : (ℓ : Loc Cert.OutReferenceIdeal.nD Cert.OutReferenceIdeal.τ Cert.OutReferenceIdeal.sig) → Buf (Elt Ideal) ℓ) (g : Dev Cert.OutReferenceIdeal.nD → PrngReg), Pre_OutReferenceIdeal m →
    θ_run (Cert.OutReferenceIdeal.defs (F := Ideal)) (onTc (τ := Cert.OutReferenceIdeal.τ) (Cert.OutReferenceIdeal.main (F := Ideal))) ⟨m, fun _ => 0, g⟩ (fun r => (∀ c : Dev Cert.OutReferenceIdeal.nD,
      r.2.mem ((c.tc : Thread Cert.OutReferenceIdeal.nD Cert.OutReferenceIdeal.τ).loc Cert.OutReferenceIdeal.main_arg0) = m ((c.tc : Thread Cert.OutReferenceIdeal.nD Cert.OutReferenceIdeal.τ).loc Cert.OutReferenceIdeal.main_arg0)
      ∧ r.2.mem ((c.tc : Thread Cert.OutReferenceIdeal.nD Cert.OutReferenceIdeal.τ).loc Cert.OutReferenceIdeal.main_arg1) = m ((c.tc : Thread Cert.OutReferenceIdeal.nD Cert.OutReferenceIdeal.τ).loc Cert.OutReferenceIdeal.main_arg1)
      ∧ r.2.mem ((c.tc : Thread Cert.OutReferenceIdeal.nD Cert.OutReferenceIdeal.τ).loc Cert.OutReferenceIdeal.main_arg2) = m ((c.tc : Thread Cert.OutReferenceIdeal.nD Cert.OutReferenceIdeal.τ).loc Cert.OutReferenceIdeal.main_arg2)
      ∧ r.2.mem ((c.tc : Thread Cert.OutReferenceIdeal.nD Cert.OutReferenceIdeal.τ).loc Cert.OutReferenceIdeal.main_arg3) = m ((c.tc : Thread Cert.OutReferenceIdeal.nD Cert.OutReferenceIdeal.τ).loc Cert.OutReferenceIdeal.main_arg3)
      ∧ r.2.mem ((c.tc : Thread Cert.OutReferenceIdeal.nD Cert.OutReferenceIdeal.τ).loc Cert.OutReferenceIdeal.main_arg4) = m ((c.tc : Thread Cert.OutReferenceIdeal.nD Cert.OutReferenceIdeal.τ).loc Cert.OutReferenceIdeal.main_arg4)
      ∧ r.2.mem ((c.tc : Thread Cert.OutReferenceIdeal.nD Cert.OutReferenceIdeal.τ).loc Cert.OutReferenceIdeal.main_arg5) = m ((c.tc : Thread Cert.OutReferenceIdeal.nD Cert.OutReferenceIdeal.τ).loc Cert.OutReferenceIdeal.main_arg5)
      ∧ r.2.mem ((c.tc : Thread Cert.OutReferenceIdeal.nD Cert.OutReferenceIdeal.τ).loc Cert.OutReferenceIdeal.main_arg6) = m ((c.tc : Thread Cert.OutReferenceIdeal.nD Cert.OutReferenceIdeal.τ).loc Cert.OutReferenceIdeal.main_arg6)
      ∧ r.2.mem ((c.tc : Thread Cert.OutReferenceIdeal.nD Cert.OutReferenceIdeal.τ).loc Cert.OutReferenceIdeal.main_arg7) = m ((c.tc : Thread Cert.OutReferenceIdeal.nD Cert.OutReferenceIdeal.τ).loc Cert.OutReferenceIdeal.main_arg7)
      ∧ r.2.mem ((c.tc : Thread Cert.OutReferenceIdeal.nD Cert.OutReferenceIdeal.τ).loc Cert.OutReferenceIdeal.main_arg8) = m ((c.tc : Thread Cert.OutReferenceIdeal.nD Cert.OutReferenceIdeal.τ).loc Cert.OutReferenceIdeal.main_arg8)
      ∧ r.2.mem ((c.tc : Thread Cert.OutReferenceIdeal.nD Cert.OutReferenceIdeal.τ).loc Cert.OutReferenceIdeal.main_arg9) = m ((c.tc : Thread Cert.OutReferenceIdeal.nD Cert.OutReferenceIdeal.τ).loc Cert.OutReferenceIdeal.main_arg9))
      ∧ r.2.sem = fun _ => 0)

def quiescent_OutReferenceIdeal_pre_finite_lse [hOutReferenceIdeal : Cert.OutReferenceIdeal.Facts] [hPre_finite_lse : Cert.Pre_finite_lse.Facts] : Prop :=
  ∀ (m : (ℓ : Loc Cert.OutReferenceIdeal.nD Cert.OutReferenceIdeal.τ Cert.OutReferenceIdeal.sig) → Buf (Elt Ideal) ℓ) (g : Dev Cert.OutReferenceIdeal.nD → PrngReg), Pre_OutReferenceIdeal_finite_lse m →
    θ_run (Cert.OutReferenceIdeal.defs (F := Ideal)) (onTc (τ := Cert.OutReferenceIdeal.τ) (Cert.OutReferenceIdeal.main (F := Ideal))) ⟨m, fun _ => 0, g⟩ (fun r => (∀ c : Dev Cert.OutReferenceIdeal.nD,
      r.2.mem ((c.tc : Thread Cert.OutReferenceIdeal.nD Cert.OutReferenceIdeal.τ).loc Cert.OutReferenceIdeal.main_arg0) = m ((c.tc : Thread Cert.OutReferenceIdeal.nD Cert.OutReferenceIdeal.τ).loc Cert.OutReferenceIdeal.main_arg0)
      ∧ r.2.mem ((c.tc : Thread Cert.OutReferenceIdeal.nD Cert.OutReferenceIdeal.τ).loc Cert.OutReferenceIdeal.main_arg1) = m ((c.tc : Thread Cert.OutReferenceIdeal.nD Cert.OutReferenceIdeal.τ).loc Cert.OutReferenceIdeal.main_arg1)
      ∧ r.2.mem ((c.tc : Thread Cert.OutReferenceIdeal.nD Cert.OutReferenceIdeal.τ).loc Cert.OutReferenceIdeal.main_arg2) = m ((c.tc : Thread Cert.OutReferenceIdeal.nD Cert.OutReferenceIdeal.τ).loc Cert.OutReferenceIdeal.main_arg2)
      ∧ r.2.mem ((c.tc : Thread Cert.OutReferenceIdeal.nD Cert.OutReferenceIdeal.τ).loc Cert.OutReferenceIdeal.main_arg3) = m ((c.tc : Thread Cert.OutReferenceIdeal.nD Cert.OutReferenceIdeal.τ).loc Cert.OutReferenceIdeal.main_arg3)
      ∧ r.2.mem ((c.tc : Thread Cert.OutReferenceIdeal.nD Cert.OutReferenceIdeal.τ).loc Cert.OutReferenceIdeal.main_arg4) = m ((c.tc : Thread Cert.OutReferenceIdeal.nD Cert.OutReferenceIdeal.τ).loc Cert.OutReferenceIdeal.main_arg4)
      ∧ r.2.mem ((c.tc : Thread Cert.OutReferenceIdeal.nD Cert.OutReferenceIdeal.τ).loc Cert.OutReferenceIdeal.main_arg5) = m ((c.tc : Thread Cert.OutReferenceIdeal.nD Cert.OutReferenceIdeal.τ).loc Cert.OutReferenceIdeal.main_arg5)
      ∧ r.2.mem ((c.tc : Thread Cert.OutReferenceIdeal.nD Cert.OutReferenceIdeal.τ).loc Cert.OutReferenceIdeal.main_arg6) = m ((c.tc : Thread Cert.OutReferenceIdeal.nD Cert.OutReferenceIdeal.τ).loc Cert.OutReferenceIdeal.main_arg6)
      ∧ r.2.mem ((c.tc : Thread Cert.OutReferenceIdeal.nD Cert.OutReferenceIdeal.τ).loc Cert.OutReferenceIdeal.main_arg7) = m ((c.tc : Thread Cert.OutReferenceIdeal.nD Cert.OutReferenceIdeal.τ).loc Cert.OutReferenceIdeal.main_arg7)
      ∧ r.2.mem ((c.tc : Thread Cert.OutReferenceIdeal.nD Cert.OutReferenceIdeal.τ).loc Cert.OutReferenceIdeal.main_arg8) = m ((c.tc : Thread Cert.OutReferenceIdeal.nD Cert.OutReferenceIdeal.τ).loc Cert.OutReferenceIdeal.main_arg8)
      ∧ r.2.mem ((c.tc : Thread Cert.OutReferenceIdeal.nD Cert.OutReferenceIdeal.τ).loc Cert.OutReferenceIdeal.main_arg9) = m ((c.tc : Thread Cert.OutReferenceIdeal.nD Cert.OutReferenceIdeal.τ).loc Cert.OutReferenceIdeal.main_arg9))
      ∧ r.2.sem = fun _ => 0)

def quiescent_Ln [hLn : Cert.Ln.Facts] : Prop :=
  ∀ (m : (ℓ : Loc Cert.Ln.nD Cert.Ln.τ Cert.Ln.sig) → Buf (Elt Bits) ℓ) (g : Dev Cert.Ln.nD → PrngReg), Pre_Ln m →
    θ_run (Cert.Ln.defs (F := Bits)) (onTc (τ := Cert.Ln.τ) (Cert.Ln.main (F := Bits))) ⟨m, fun _ => 0, g⟩ (fun r => (∀ c : Dev Cert.Ln.nD,
      r.2.mem ((c.tc : Thread Cert.Ln.nD Cert.Ln.τ).loc Cert.Ln.main_arg0) = m ((c.tc : Thread Cert.Ln.nD Cert.Ln.τ).loc Cert.Ln.main_arg0)
      ∧ r.2.mem ((c.tc : Thread Cert.Ln.nD Cert.Ln.τ).loc Cert.Ln.main_arg1) = m ((c.tc : Thread Cert.Ln.nD Cert.Ln.τ).loc Cert.Ln.main_arg1)
      ∧ r.2.mem ((c.tc : Thread Cert.Ln.nD Cert.Ln.τ).loc Cert.Ln.main_arg2) = m ((c.tc : Thread Cert.Ln.nD Cert.Ln.τ).loc Cert.Ln.main_arg2)
      ∧ r.2.mem ((c.tc : Thread Cert.Ln.nD Cert.Ln.τ).loc Cert.Ln.main_arg3) = m ((c.tc : Thread Cert.Ln.nD Cert.Ln.τ).loc Cert.Ln.main_arg3))
      ∧ r.2.sem = fun _ => 0)

def quiescent_LnIdeal [hLnIdeal : Cert.LnIdeal.Facts] : Prop :=
  ∀ (m : (ℓ : Loc Cert.LnIdeal.nD Cert.LnIdeal.τ Cert.LnIdeal.sig) → Buf (Elt Ideal) ℓ) (g : Dev Cert.LnIdeal.nD → PrngReg), Pre_LnIdeal m →
    θ_run (Cert.LnIdeal.defs (F := Ideal)) (onTc (τ := Cert.LnIdeal.τ) (Cert.LnIdeal.main (F := Ideal))) ⟨m, fun _ => 0, g⟩ (fun r => (∀ c : Dev Cert.LnIdeal.nD,
      r.2.mem ((c.tc : Thread Cert.LnIdeal.nD Cert.LnIdeal.τ).loc Cert.LnIdeal.main_arg0) = m ((c.tc : Thread Cert.LnIdeal.nD Cert.LnIdeal.τ).loc Cert.LnIdeal.main_arg0)
      ∧ r.2.mem ((c.tc : Thread Cert.LnIdeal.nD Cert.LnIdeal.τ).loc Cert.LnIdeal.main_arg1) = m ((c.tc : Thread Cert.LnIdeal.nD Cert.LnIdeal.τ).loc Cert.LnIdeal.main_arg1)
      ∧ r.2.mem ((c.tc : Thread Cert.LnIdeal.nD Cert.LnIdeal.τ).loc Cert.LnIdeal.main_arg2) = m ((c.tc : Thread Cert.LnIdeal.nD Cert.LnIdeal.τ).loc Cert.LnIdeal.main_arg2)
      ∧ r.2.mem ((c.tc : Thread Cert.LnIdeal.nD Cert.LnIdeal.τ).loc Cert.LnIdeal.main_arg3) = m ((c.tc : Thread Cert.LnIdeal.nD Cert.LnIdeal.τ).loc Cert.LnIdeal.main_arg3))
      ∧ r.2.sem = fun _ => 0)

def quiescent_LnReferenceIdeal [hLnReferenceIdeal : Cert.LnReferenceIdeal.Facts] : Prop :=
  ∀ (m : (ℓ : Loc Cert.LnReferenceIdeal.nD Cert.LnReferenceIdeal.τ Cert.LnReferenceIdeal.sig) → Buf (Elt Ideal) ℓ) (g : Dev Cert.LnReferenceIdeal.nD → PrngReg), Pre_LnReferenceIdeal m →
    θ_run (Cert.LnReferenceIdeal.defs (F := Ideal)) (onTc (τ := Cert.LnReferenceIdeal.τ) (Cert.LnReferenceIdeal.main (F := Ideal))) ⟨m, fun _ => 0, g⟩ (fun r => (∀ c : Dev Cert.LnReferenceIdeal.nD,
      r.2.mem ((c.tc : Thread Cert.LnReferenceIdeal.nD Cert.LnReferenceIdeal.τ).loc Cert.LnReferenceIdeal.main_arg0) = m ((c.tc : Thread Cert.LnReferenceIdeal.nD Cert.LnReferenceIdeal.τ).loc Cert.LnReferenceIdeal.main_arg0)
      ∧ r.2.mem ((c.tc : Thread Cert.LnReferenceIdeal.nD Cert.LnReferenceIdeal.τ).loc Cert.LnReferenceIdeal.main_arg1) = m ((c.tc : Thread Cert.LnReferenceIdeal.nD Cert.LnReferenceIdeal.τ).loc Cert.LnReferenceIdeal.main_arg1)
      ∧ r.2.mem ((c.tc : Thread Cert.LnReferenceIdeal.nD Cert.LnReferenceIdeal.τ).loc Cert.LnReferenceIdeal.main_arg2) = m ((c.tc : Thread Cert.LnReferenceIdeal.nD Cert.LnReferenceIdeal.τ).loc Cert.LnReferenceIdeal.main_arg2)
      ∧ r.2.mem ((c.tc : Thread Cert.LnReferenceIdeal.nD Cert.LnReferenceIdeal.τ).loc Cert.LnReferenceIdeal.main_arg3) = m ((c.tc : Thread Cert.LnReferenceIdeal.nD Cert.LnReferenceIdeal.τ).loc Cert.LnReferenceIdeal.main_arg3))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v75) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Rope_RopeIdeal : Prop :=
  True

def algebraic_RopeIdeal_RopeReferenceIdeal [hRopeIdeal : Cert.RopeIdeal.Facts] [hRopeReferenceIdeal : Cert.RopeReferenceIdeal.Facts] : Prop :=
  ∀ (m : (ℓ : Loc Cert.RopeIdeal.nD Cert.RopeIdeal.τ Cert.RopeIdeal.sig) → Buf (Elt Ideal) ℓ) (g : Dev Cert.RopeIdeal.nD → PrngReg)
    (m' : (ℓ : Loc Cert.RopeReferenceIdeal.nD Cert.RopeReferenceIdeal.τ Cert.RopeReferenceIdeal.sig) → Buf (Elt Ideal) ℓ) (g' : Dev Cert.RopeReferenceIdeal.nD → PrngReg), Pre_RopeIdeal m →
    (∀ c : Dev Cert.RopeIdeal.nD,
      m' ((c.tc : Thread Cert.RopeReferenceIdeal.nD Cert.RopeReferenceIdeal.τ).loc Cert.RopeReferenceIdeal.main_arg0) = m ((c.tc : Thread Cert.RopeIdeal.nD Cert.RopeIdeal.τ).loc Cert.RopeIdeal.main_arg0)
      ∧ m' ((c.tc : Thread Cert.RopeReferenceIdeal.nD Cert.RopeReferenceIdeal.τ).loc Cert.RopeReferenceIdeal.main_arg1) = m ((c.tc : Thread Cert.RopeIdeal.nD Cert.RopeIdeal.τ).loc Cert.RopeIdeal.main_arg1)) →
    ∃ (v0 : (c : Dev Cert.RopeIdeal.nD) → Buf (Elt Ideal) ((c.tc : Thread Cert.RopeIdeal.nD Cert.RopeIdeal.τ).loc Cert.RopeIdeal.main_v51)),
      θ_run (Cert.RopeIdeal.defs (F := Ideal)) (onTc (τ := Cert.RopeIdeal.τ) (Cert.RopeIdeal.main (F := Ideal))) ⟨m, fun _ => 0, g⟩ (fun r => ∀ c : Dev Cert.RopeIdeal.nD,
          r.2.mem ((c.tc : Thread Cert.RopeIdeal.nD Cert.RopeIdeal.τ).loc Cert.RopeIdeal.main_v51) = v0 c
          ∧ r.2.mem ((c.tc : Thread Cert.RopeIdeal.nD Cert.RopeIdeal.τ).loc Cert.RopeIdeal.main_arg0) = m ((c.tc : Thread Cert.RopeIdeal.nD Cert.RopeIdeal.τ).loc Cert.RopeIdeal.main_arg0)
          ∧ r.2.mem ((c.tc : Thread Cert.RopeIdeal.nD Cert.RopeIdeal.τ).loc Cert.RopeIdeal.main_arg1) = m ((c.tc : Thread Cert.RopeIdeal.nD Cert.RopeIdeal.τ).loc Cert.RopeIdeal.main_arg1))
      ∧ θ_run (Cert.RopeReferenceIdeal.defs (F := Ideal)) (onTc (τ := Cert.RopeReferenceIdeal.τ) (Cert.RopeReferenceIdeal.main (F := Ideal))) ⟨m', fun _ => 0, g'⟩ (fun r => ∀ c : Dev Cert.RopeReferenceIdeal.nD,
          r.2.mem ((c.tc : Thread Cert.RopeReferenceIdeal.nD Cert.RopeReferenceIdeal.τ).loc Cert.RopeReferenceIdeal.main_v52) = v0 c
          ∧ r.2.mem ((c.tc : Thread Cert.RopeReferenceIdeal.nD Cert.RopeReferenceIdeal.τ).loc Cert.RopeReferenceIdeal.main_arg0) = m' ((c.tc : Thread Cert.RopeReferenceIdeal.nD Cert.RopeReferenceIdeal.τ).loc Cert.RopeReferenceIdeal.main_arg0)
          ∧ r.2.mem ((c.tc : Thread Cert.RopeReferenceIdeal.nD Cert.RopeReferenceIdeal.τ).loc Cert.RopeReferenceIdeal.main_arg1) = m' ((c.tc : Thread Cert.RopeReferenceIdeal.nD Cert.RopeReferenceIdeal.τ).loc Cert.RopeReferenceIdeal.main_arg1))

def preserves_Val_ValIdeal : Prop :=
  True

def algebraic_ValIdeal_ValReferenceIdeal [hValIdeal : Cert.ValIdeal.Facts] [hValReferenceIdeal : Cert.ValReferenceIdeal.Facts] : Prop :=
  ∀ (m : (ℓ : Loc Cert.ValIdeal.nD Cert.ValIdeal.τ Cert.ValIdeal.sig) → Buf (Elt Ideal) ℓ) (g : Dev Cert.ValIdeal.nD → PrngReg)
    (m' : (ℓ : Loc Cert.ValReferenceIdeal.nD Cert.ValReferenceIdeal.τ Cert.ValReferenceIdeal.sig) → Buf (Elt Ideal) ℓ) (g' : Dev Cert.ValReferenceIdeal.nD → PrngReg), Pre_ValIdeal m →
    (∀ c : Dev Cert.ValIdeal.nD,
      m' ((c.tc : Thread Cert.ValReferenceIdeal.nD Cert.ValReferenceIdeal.τ).loc Cert.ValReferenceIdeal.main_arg0) = m ((c.tc : Thread Cert.ValIdeal.nD Cert.ValIdeal.τ).loc Cert.ValIdeal.main_arg0)
      ∧ m' ((c.tc : Thread Cert.ValReferenceIdeal.nD Cert.ValReferenceIdeal.τ).loc Cert.ValReferenceIdeal.main_arg1) = m ((c.tc : Thread Cert.ValIdeal.nD Cert.ValIdeal.τ).loc Cert.ValIdeal.main_arg1)) →
    ∃ (v0 : (c : Dev Cert.ValIdeal.nD) → Buf (Elt Ideal) ((c.tc : Thread Cert.ValIdeal.nD Cert.ValIdeal.τ).loc Cert.ValIdeal.main_v23)),
      θ_run (Cert.ValIdeal.defs (F := Ideal)) (onTc (τ := Cert.ValIdeal.τ) (Cert.ValIdeal.main (F := Ideal))) ⟨m, fun _ => 0, g⟩ (fun r => ∀ c : Dev Cert.ValIdeal.nD,
          r.2.mem ((c.tc : Thread Cert.ValIdeal.nD Cert.ValIdeal.τ).loc Cert.ValIdeal.main_v23) = v0 c
          ∧ r.2.mem ((c.tc : Thread Cert.ValIdeal.nD Cert.ValIdeal.τ).loc Cert.ValIdeal.main_arg0) = m ((c.tc : Thread Cert.ValIdeal.nD Cert.ValIdeal.τ).loc Cert.ValIdeal.main_arg0)
          ∧ r.2.mem ((c.tc : Thread Cert.ValIdeal.nD Cert.ValIdeal.τ).loc Cert.ValIdeal.main_arg1) = m ((c.tc : Thread Cert.ValIdeal.nD Cert.ValIdeal.τ).loc Cert.ValIdeal.main_arg1))
      ∧ θ_run (Cert.ValReferenceIdeal.defs (F := Ideal)) (onTc (τ := Cert.ValReferenceIdeal.τ) (Cert.ValReferenceIdeal.main (F := Ideal))) ⟨m', fun _ => 0, g'⟩ (fun r => ∀ c : Dev Cert.ValReferenceIdeal.nD,
          r.2.mem ((c.tc : Thread Cert.ValReferenceIdeal.nD Cert.ValReferenceIdeal.τ).loc Cert.ValReferenceIdeal.main_v18) = v0 c
          ∧ r.2.mem ((c.tc : Thread Cert.ValReferenceIdeal.nD Cert.ValReferenceIdeal.τ).loc Cert.ValReferenceIdeal.main_arg0) = m' ((c.tc : Thread Cert.ValReferenceIdeal.nD Cert.ValReferenceIdeal.τ).loc Cert.ValReferenceIdeal.main_arg0)
          ∧ r.2.mem ((c.tc : Thread Cert.ValReferenceIdeal.nD Cert.ValReferenceIdeal.τ).loc Cert.ValReferenceIdeal.main_arg1) = m' ((c.tc : Thread Cert.ValReferenceIdeal.nD Cert.ValReferenceIdeal.τ).loc Cert.ValReferenceIdeal.main_arg1))

def preserves_Iw_IwIdeal : Prop :=
  True

def algebraic_IwIdeal_IwReferenceIdeal [hIwIdeal : Cert.IwIdeal.Facts] [hIwReferenceIdeal : Cert.IwReferenceIdeal.Facts] : Prop :=
  ∀ (m : (ℓ : Loc Cert.IwIdeal.nD Cert.IwIdeal.τ Cert.IwIdeal.sig) → Buf (Elt Ideal) ℓ) (g : Dev Cert.IwIdeal.nD → PrngReg)
    (m' : (ℓ : Loc Cert.IwReferenceIdeal.nD Cert.IwReferenceIdeal.τ Cert.IwReferenceIdeal.sig) → Buf (Elt Ideal) ℓ) (g' : Dev Cert.IwReferenceIdeal.nD → PrngReg), Pre_IwIdeal m →
    (∀ c : Dev Cert.IwIdeal.nD,
      m' ((c.tc : Thread Cert.IwReferenceIdeal.nD Cert.IwReferenceIdeal.τ).loc Cert.IwReferenceIdeal.main_arg0) = m ((c.tc : Thread Cert.IwIdeal.nD Cert.IwIdeal.τ).loc Cert.IwIdeal.main_arg0)
      ∧ m' ((c.tc : Thread Cert.IwReferenceIdeal.nD Cert.IwReferenceIdeal.τ).loc Cert.IwReferenceIdeal.main_arg1) = m ((c.tc : Thread Cert.IwIdeal.nD Cert.IwIdeal.τ).loc Cert.IwIdeal.main_arg1)) →
    ∃ (v0 : (c : Dev Cert.IwIdeal.nD) → Buf (Elt Ideal) ((c.tc : Thread Cert.IwIdeal.nD Cert.IwIdeal.τ).loc Cert.IwIdeal.main_v23)),
      θ_run (Cert.IwIdeal.defs (F := Ideal)) (onTc (τ := Cert.IwIdeal.τ) (Cert.IwIdeal.main (F := Ideal))) ⟨m, fun _ => 0, g⟩ (fun r => ∀ c : Dev Cert.IwIdeal.nD,
          r.2.mem ((c.tc : Thread Cert.IwIdeal.nD Cert.IwIdeal.τ).loc Cert.IwIdeal.main_v23) = v0 c
          ∧ r.2.mem ((c.tc : Thread Cert.IwIdeal.nD Cert.IwIdeal.τ).loc Cert.IwIdeal.main_arg0) = m ((c.tc : Thread Cert.IwIdeal.nD Cert.IwIdeal.τ).loc Cert.IwIdeal.main_arg0)
          ∧ r.2.mem ((c.tc : Thread Cert.IwIdeal.nD Cert.IwIdeal.τ).loc Cert.IwIdeal.main_arg1) = m ((c.tc : Thread Cert.IwIdeal.nD Cert.IwIdeal.τ).loc Cert.IwIdeal.main_arg1))
      ∧ θ_run (Cert.IwReferenceIdeal.defs (F := Ideal)) (onTc (τ := Cert.IwReferenceIdeal.τ) (Cert.IwReferenceIdeal.main (F := Ideal))) ⟨m', fun _ => 0, g'⟩ (fun r => ∀ c : Dev Cert.IwReferenceIdeal.nD,
          r.2.mem ((c.tc : Thread Cert.IwReferenceIdeal.nD Cert.IwReferenceIdeal.τ).loc Cert.IwReferenceIdeal.main_v17) = v0 c
          ∧ r.2.mem ((c.tc : Thread Cert.IwReferenceIdeal.nD Cert.IwReferenceIdeal.τ).loc Cert.IwReferenceIdeal.main_arg0) = m' ((c.tc : Thread Cert.IwReferenceIdeal.nD Cert.IwReferenceIdeal.τ).loc Cert.IwReferenceIdeal.main_arg0)
          ∧ r.2.mem ((c.tc : Thread Cert.IwReferenceIdeal.nD Cert.IwReferenceIdeal.τ).loc Cert.IwReferenceIdeal.main_arg1) = m' ((c.tc : Thread Cert.IwReferenceIdeal.nD Cert.IwReferenceIdeal.τ).loc Cert.IwReferenceIdeal.main_arg1))

def preserves_Swa_SwaIdeal : Prop :=
  IdealRules.named_const.Statement Cert.SwaIdeal.κ "mask" .f32 0xF149F2CA#32 ⊥

def algebraic_SwaIdeal_SwaReferenceIdeal_pre_finite_scores [hSwaIdeal : Cert.SwaIdeal.Facts] [hSwaReferenceIdeal : Cert.SwaReferenceIdeal.Facts] [hPre_finite_scores : Cert.Pre_finite_scores.Facts] : Prop :=
  ∀ (m : (ℓ : Loc Cert.SwaIdeal.nD Cert.SwaIdeal.τ Cert.SwaIdeal.sig) → Buf (Elt Ideal) ℓ) (g : Dev Cert.SwaIdeal.nD → PrngReg)
    (m' : (ℓ : Loc Cert.SwaReferenceIdeal.nD Cert.SwaReferenceIdeal.τ Cert.SwaReferenceIdeal.sig) → Buf (Elt Ideal) ℓ) (g' : Dev Cert.SwaReferenceIdeal.nD → PrngReg), Pre_SwaIdeal_finite_scores m →
    (∀ c : Dev Cert.SwaIdeal.nD,
      m' ((c.tc : Thread Cert.SwaReferenceIdeal.nD Cert.SwaReferenceIdeal.τ).loc Cert.SwaReferenceIdeal.main_arg0) = m ((c.tc : Thread Cert.SwaIdeal.nD Cert.SwaIdeal.τ).loc Cert.SwaIdeal.main_arg0)
      ∧ m' ((c.tc : Thread Cert.SwaReferenceIdeal.nD Cert.SwaReferenceIdeal.τ).loc Cert.SwaReferenceIdeal.main_arg1) = m ((c.tc : Thread Cert.SwaIdeal.nD Cert.SwaIdeal.τ).loc Cert.SwaIdeal.main_arg1)
      ∧ m' ((c.tc : Thread Cert.SwaReferenceIdeal.nD Cert.SwaReferenceIdeal.τ).loc Cert.SwaReferenceIdeal.main_arg2) = m ((c.tc : Thread Cert.SwaIdeal.nD Cert.SwaIdeal.τ).loc Cert.SwaIdeal.main_arg2)) →
    ∃ (v0 : (c : Dev Cert.SwaIdeal.nD) → Buf (Elt Ideal) ((c.tc : Thread Cert.SwaIdeal.nD Cert.SwaIdeal.τ).loc Cert.SwaIdeal.main_v3)),
      θ_run (Cert.SwaIdeal.defs (F := Ideal)) (onTc (τ := Cert.SwaIdeal.τ) (Cert.SwaIdeal.main (F := Ideal))) ⟨m, fun _ => 0, g⟩ (fun r => ∀ c : Dev Cert.SwaIdeal.nD,
          r.2.mem ((c.tc : Thread Cert.SwaIdeal.nD Cert.SwaIdeal.τ).loc Cert.SwaIdeal.main_v3) = v0 c
          ∧ r.2.mem ((c.tc : Thread Cert.SwaIdeal.nD Cert.SwaIdeal.τ).loc Cert.SwaIdeal.main_arg0) = m ((c.tc : Thread Cert.SwaIdeal.nD Cert.SwaIdeal.τ).loc Cert.SwaIdeal.main_arg0)
          ∧ r.2.mem ((c.tc : Thread Cert.SwaIdeal.nD Cert.SwaIdeal.τ).loc Cert.SwaIdeal.main_arg1) = m ((c.tc : Thread Cert.SwaIdeal.nD Cert.SwaIdeal.τ).loc Cert.SwaIdeal.main_arg1)
          ∧ r.2.mem ((c.tc : Thread Cert.SwaIdeal.nD Cert.SwaIdeal.τ).loc Cert.SwaIdeal.main_arg2) = m ((c.tc : Thread Cert.SwaIdeal.nD Cert.SwaIdeal.τ).loc Cert.SwaIdeal.main_arg2))
      ∧ θ_run (Cert.SwaReferenceIdeal.defs (F := Ideal)) (onTc (τ := Cert.SwaReferenceIdeal.τ) (Cert.SwaReferenceIdeal.main (F := Ideal))) ⟨m', fun _ => 0, g'⟩ (fun r => ∀ c : Dev Cert.SwaReferenceIdeal.nD,
          r.2.mem ((c.tc : Thread Cert.SwaReferenceIdeal.nD Cert.SwaReferenceIdeal.τ).loc Cert.SwaReferenceIdeal.main_v89) = v0 c
          ∧ r.2.mem ((c.tc : Thread Cert.SwaReferenceIdeal.nD Cert.SwaReferenceIdeal.τ).loc Cert.SwaReferenceIdeal.main_arg0) = m' ((c.tc : Thread Cert.SwaReferenceIdeal.nD Cert.SwaReferenceIdeal.τ).loc Cert.SwaReferenceIdeal.main_arg0)
          ∧ r.2.mem ((c.tc : Thread Cert.SwaReferenceIdeal.nD Cert.SwaReferenceIdeal.τ).loc Cert.SwaReferenceIdeal.main_arg1) = m' ((c.tc : Thread Cert.SwaReferenceIdeal.nD Cert.SwaReferenceIdeal.τ).loc Cert.SwaReferenceIdeal.main_arg1)
          ∧ r.2.mem ((c.tc : Thread Cert.SwaReferenceIdeal.nD Cert.SwaReferenceIdeal.τ).loc Cert.SwaReferenceIdeal.main_arg2) = m' ((c.tc : Thread Cert.SwaReferenceIdeal.nD Cert.SwaReferenceIdeal.τ).loc Cert.SwaReferenceIdeal.main_arg2))

def preserves_Band_BandIdeal : Prop :=
  IdealRules.named_const.Statement Cert.BandIdeal.κ "mask" .f32 0xF149F2CA#32 ⊥

def algebraic_BandIdeal_BandReferenceIdeal [hBandIdeal : Cert.BandIdeal.Facts] [hBandReferenceIdeal : Cert.BandReferenceIdeal.Facts] : Prop :=
  ∀ (m : (ℓ : Loc Cert.BandIdeal.nD Cert.BandIdeal.τ Cert.BandIdeal.sig) → Buf (Elt Ideal) ℓ) (g : Dev Cert.BandIdeal.nD → PrngReg)
    (m' : (ℓ : Loc Cert.BandReferenceIdeal.nD Cert.BandReferenceIdeal.τ Cert.BandReferenceIdeal.sig) → Buf (Elt Ideal) ℓ) (g' : Dev Cert.BandReferenceIdeal.nD → PrngReg), Pre_BandIdeal m →
    (∀ c : Dev Cert.BandIdeal.nD,
      m' ((c.tc : Thread Cert.BandReferenceIdeal.nD Cert.BandReferenceIdeal.τ).loc Cert.BandReferenceIdeal.main_arg0) = m ((c.tc : Thread Cert.BandIdeal.nD Cert.BandIdeal.τ).loc Cert.BandIdeal.main_arg0)
      ∧ m' ((c.tc : Thread Cert.BandReferenceIdeal.nD Cert.BandReferenceIdeal.τ).loc Cert.BandReferenceIdeal.main_arg1) = m ((c.tc : Thread Cert.BandIdeal.nD Cert.BandIdeal.τ).loc Cert.BandIdeal.main_arg1)) →
    ∃ (v0 : (c : Dev Cert.BandIdeal.nD) → Buf (Elt Ideal) ((c.tc : Thread Cert.BandIdeal.nD Cert.BandIdeal.τ).loc Cert.BandIdeal.main_v5)),
      θ_run (Cert.BandIdeal.defs (F := Ideal)) (onTc (τ := Cert.BandIdeal.τ) (Cert.BandIdeal.main (F := Ideal))) ⟨m, fun _ => 0, g⟩ (fun r => ∀ c : Dev Cert.BandIdeal.nD,
          r.2.mem ((c.tc : Thread Cert.BandIdeal.nD Cert.BandIdeal.τ).loc Cert.BandIdeal.main_v5) = v0 c
          ∧ r.2.mem ((c.tc : Thread Cert.BandIdeal.nD Cert.BandIdeal.τ).loc Cert.BandIdeal.main_arg0) = m ((c.tc : Thread Cert.BandIdeal.nD Cert.BandIdeal.τ).loc Cert.BandIdeal.main_arg0)
          ∧ r.2.mem ((c.tc : Thread Cert.BandIdeal.nD Cert.BandIdeal.τ).loc Cert.BandIdeal.main_arg1) = m ((c.tc : Thread Cert.BandIdeal.nD Cert.BandIdeal.τ).loc Cert.BandIdeal.main_arg1))
      ∧ θ_run (Cert.BandReferenceIdeal.defs (F := Ideal)) (onTc (τ := Cert.BandReferenceIdeal.τ) (Cert.BandReferenceIdeal.main (F := Ideal))) ⟨m', fun _ => 0, g'⟩ (fun r => ∀ c : Dev Cert.BandReferenceIdeal.nD,
          r.2.mem ((c.tc : Thread Cert.BandReferenceIdeal.nD Cert.BandReferenceIdeal.τ).loc Cert.BandReferenceIdeal.main_v92) = v0 c
          ∧ r.2.mem ((c.tc : Thread Cert.BandReferenceIdeal.nD Cert.BandReferenceIdeal.τ).loc Cert.BandReferenceIdeal.main_arg0) = m' ((c.tc : Thread Cert.BandReferenceIdeal.nD Cert.BandReferenceIdeal.τ).loc Cert.BandReferenceIdeal.main_arg0)
          ∧ r.2.mem ((c.tc : Thread Cert.BandReferenceIdeal.nD Cert.BandReferenceIdeal.τ).loc Cert.BandReferenceIdeal.main_arg1) = m' ((c.tc : Thread Cert.BandReferenceIdeal.nD Cert.BandReferenceIdeal.τ).loc Cert.BandReferenceIdeal.main_arg1))

def preserves_Band4_Band4Ideal : Prop :=
  IdealRules.named_const.Statement Cert.Band4Ideal.κ "mask" .f32 0xF149F2CA#32 ⊥

def algebraic_Band4Ideal_Band4ReferenceIdeal [hBand4Ideal : Cert.Band4Ideal.Facts] [hBand4ReferenceIdeal : Cert.Band4ReferenceIdeal.Facts] : Prop :=
  ∀ (m : (ℓ : Loc Cert.Band4Ideal.nD Cert.Band4Ideal.τ Cert.Band4Ideal.sig) → Buf (Elt Ideal) ℓ) (g : Dev Cert.Band4Ideal.nD → PrngReg)
    (m' : (ℓ : Loc Cert.Band4ReferenceIdeal.nD Cert.Band4ReferenceIdeal.τ Cert.Band4ReferenceIdeal.sig) → Buf (Elt Ideal) ℓ) (g' : Dev Cert.Band4ReferenceIdeal.nD → PrngReg), Pre_Band4Ideal m →
    (∀ c : Dev Cert.Band4Ideal.nD,
      m' ((c.tc : Thread Cert.Band4ReferenceIdeal.nD Cert.Band4ReferenceIdeal.τ).loc Cert.Band4ReferenceIdeal.main_arg0) = m ((c.tc : Thread Cert.Band4Ideal.nD Cert.Band4Ideal.τ).loc Cert.Band4Ideal.main_arg0)
      ∧ m' ((c.tc : Thread Cert.Band4ReferenceIdeal.nD Cert.Band4ReferenceIdeal.τ).loc Cert.Band4ReferenceIdeal.main_arg1) = m ((c.tc : Thread Cert.Band4Ideal.nD Cert.Band4Ideal.τ).loc Cert.Band4Ideal.main_arg1)) →
    ∃ (v0 : (c : Dev Cert.Band4Ideal.nD) → Buf (Elt Ideal) ((c.tc : Thread Cert.Band4Ideal.nD Cert.Band4Ideal.τ).loc Cert.Band4Ideal.main_v7)),
      θ_run (Cert.Band4Ideal.defs (F := Ideal)) (onTc (τ := Cert.Band4Ideal.τ) (Cert.Band4Ideal.main (F := Ideal))) ⟨m, fun _ => 0, g⟩ (fun r => ∀ c : Dev Cert.Band4Ideal.nD,
          r.2.mem ((c.tc : Thread Cert.Band4Ideal.nD Cert.Band4Ideal.τ).loc Cert.Band4Ideal.main_v7) = v0 c
          ∧ r.2.mem ((c.tc : Thread Cert.Band4Ideal.nD Cert.Band4Ideal.τ).loc Cert.Band4Ideal.main_arg0) = m ((c.tc : Thread Cert.Band4Ideal.nD Cert.Band4Ideal.τ).loc Cert.Band4Ideal.main_arg0)
          ∧ r.2.mem ((c.tc : Thread Cert.Band4Ideal.nD Cert.Band4Ideal.τ).loc Cert.Band4Ideal.main_arg1) = m ((c.tc : Thread Cert.Band4Ideal.nD Cert.Band4Ideal.τ).loc Cert.Band4Ideal.main_arg1))
      ∧ θ_run (Cert.Band4ReferenceIdeal.defs (F := Ideal)) (onTc (τ := Cert.Band4ReferenceIdeal.τ) (Cert.Band4ReferenceIdeal.main (F := Ideal))) ⟨m', fun _ => 0, g'⟩ (fun r => ∀ c : Dev Cert.Band4ReferenceIdeal.nD,
          r.2.mem ((c.tc : Thread Cert.Band4ReferenceIdeal.nD Cert.Band4ReferenceIdeal.τ).loc Cert.Band4ReferenceIdeal.main_v102) = v0 c
          ∧ r.2.mem ((c.tc : Thread Cert.Band4ReferenceIdeal.nD Cert.Band4ReferenceIdeal.τ).loc Cert.Band4ReferenceIdeal.main_arg0) = m' ((c.tc : Thread Cert.Band4ReferenceIdeal.nD Cert.Band4ReferenceIdeal.τ).loc Cert.Band4ReferenceIdeal.main_arg0)
          ∧ r.2.mem ((c.tc : Thread Cert.Band4ReferenceIdeal.nD Cert.Band4ReferenceIdeal.τ).loc Cert.Band4ReferenceIdeal.main_arg1) = m' ((c.tc : Thread Cert.Band4ReferenceIdeal.nD Cert.Band4ReferenceIdeal.τ).loc Cert.Band4ReferenceIdeal.main_arg1))

def preserves_Band16_Band16Ideal : Prop :=
  IdealRules.named_const.Statement Cert.Band16Ideal.κ "mask" .f32 0xF149F2CA#32 ⊥

def algebraic_Band16Ideal_Band16ReferenceIdeal [hBand16Ideal : Cert.Band16Ideal.Facts] [hBand16ReferenceIdeal : Cert.Band16ReferenceIdeal.Facts] : Prop :=
  ∀ (m : (ℓ : Loc Cert.Band16Ideal.nD Cert.Band16Ideal.τ Cert.Band16Ideal.sig) → Buf (Elt Ideal) ℓ) (g : Dev Cert.Band16Ideal.nD → PrngReg)
    (m' : (ℓ : Loc Cert.Band16ReferenceIdeal.nD Cert.Band16ReferenceIdeal.τ Cert.Band16ReferenceIdeal.sig) → Buf (Elt Ideal) ℓ) (g' : Dev Cert.Band16ReferenceIdeal.nD → PrngReg), Pre_Band16Ideal m →
    (∀ c : Dev Cert.Band16Ideal.nD,
      m' ((c.tc : Thread Cert.Band16ReferenceIdeal.nD Cert.Band16ReferenceIdeal.τ).loc Cert.Band16ReferenceIdeal.main_arg0) = m ((c.tc : Thread Cert.Band16Ideal.nD Cert.Band16Ideal.τ).loc Cert.Band16Ideal.main_arg0)
      ∧ m' ((c.tc : Thread Cert.Band16ReferenceIdeal.nD Cert.Band16ReferenceIdeal.τ).loc Cert.Band16ReferenceIdeal.main_arg1) = m ((c.tc : Thread Cert.Band16Ideal.nD Cert.Band16Ideal.τ).loc Cert.Band16Ideal.main_arg1)) →
    ∃ (v0 : (c : Dev Cert.Band16Ideal.nD) → Buf (Elt Ideal) ((c.tc : Thread Cert.Band16Ideal.nD Cert.Band16Ideal.τ).loc Cert.Band16Ideal.main_v7)),
      θ_run (Cert.Band16Ideal.defs (F := Ideal)) (onTc (τ := Cert.Band16Ideal.τ) (Cert.Band16Ideal.main (F := Ideal))) ⟨m, fun _ => 0, g⟩ (fun r => ∀ c : Dev Cert.Band16Ideal.nD,
          r.2.mem ((c.tc : Thread Cert.Band16Ideal.nD Cert.Band16Ideal.τ).loc Cert.Band16Ideal.main_v7) = v0 c
          ∧ r.2.mem ((c.tc : Thread Cert.Band16Ideal.nD Cert.Band16Ideal.τ).loc Cert.Band16Ideal.main_arg0) = m ((c.tc : Thread Cert.Band16Ideal.nD Cert.Band16Ideal.τ).loc Cert.Band16Ideal.main_arg0)
          ∧ r.2.mem ((c.tc : Thread Cert.Band16Ideal.nD Cert.Band16Ideal.τ).loc Cert.Band16Ideal.main_arg1) = m ((c.tc : Thread Cert.Band16Ideal.nD Cert.Band16Ideal.τ).loc Cert.Band16Ideal.main_arg1))
      ∧ θ_run (Cert.Band16ReferenceIdeal.defs (F := Ideal)) (onTc (τ := Cert.Band16ReferenceIdeal.τ) (Cert.Band16ReferenceIdeal.main (F := Ideal))) ⟨m', fun _ => 0, g'⟩ (fun r => ∀ c : Dev Cert.Band16ReferenceIdeal.nD,
          r.2.mem ((c.tc : Thread Cert.Band16ReferenceIdeal.nD Cert.Band16ReferenceIdeal.τ).loc Cert.Band16ReferenceIdeal.main_v102) = v0 c
          ∧ r.2.mem ((c.tc : Thread Cert.Band16ReferenceIdeal.nD Cert.Band16ReferenceIdeal.τ).loc Cert.Band16ReferenceIdeal.main_arg0) = m' ((c.tc : Thread Cert.Band16ReferenceIdeal.nD Cert.Band16ReferenceIdeal.τ).loc Cert.Band16ReferenceIdeal.main_arg0)
          ∧ r.2.mem ((c.tc : Thread Cert.Band16ReferenceIdeal.nD Cert.Band16ReferenceIdeal.τ).loc Cert.Band16ReferenceIdeal.main_arg1) = m' ((c.tc : Thread Cert.Band16ReferenceIdeal.nD Cert.Band16ReferenceIdeal.τ).loc Cert.Band16ReferenceIdeal.main_arg1))

def preserves_Out_OutIdeal : Prop :=
  True

def algebraic_OutIdeal_OutReferenceIdeal_pre_finite_lse [hOutIdeal : Cert.OutIdeal.Facts] [hOutReferenceIdeal : Cert.OutReferenceIdeal.Facts] [hPre_finite_lse : Cert.Pre_finite_lse.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutReferenceIdeal.nD Cert.OutReferenceIdeal.τ Cert.OutReferenceIdeal.sig) → Buf (Elt Ideal) ℓ) (g' : Dev Cert.OutReferenceIdeal.nD → PrngReg), Pre_OutIdeal_finite_lse m →
    (∀ c : Dev Cert.OutIdeal.nD,
      m' ((c.tc : Thread Cert.OutReferenceIdeal.nD Cert.OutReferenceIdeal.τ).loc Cert.OutReferenceIdeal.main_arg0) = m ((c.tc : Thread Cert.OutIdeal.nD Cert.OutIdeal.τ).loc Cert.OutIdeal.main_arg0)
      ∧ m' ((c.tc : Thread Cert.OutReferenceIdeal.nD Cert.OutReferenceIdeal.τ).loc Cert.OutReferenceIdeal.main_arg1) = m ((c.tc : Thread Cert.OutIdeal.nD Cert.OutIdeal.τ).loc Cert.OutIdeal.main_arg1)
      ∧ m' ((c.tc : Thread Cert.OutReferenceIdeal.nD Cert.OutReferenceIdeal.τ).loc Cert.OutReferenceIdeal.main_arg2) = m ((c.tc : Thread Cert.OutIdeal.nD Cert.OutIdeal.τ).loc Cert.OutIdeal.main_arg2)
      ∧ m' ((c.tc : Thread Cert.OutReferenceIdeal.nD Cert.OutReferenceIdeal.τ).loc Cert.OutReferenceIdeal.main_arg3) = m ((c.tc : Thread Cert.OutIdeal.nD Cert.OutIdeal.τ).loc Cert.OutIdeal.main_arg3)
      ∧ m' ((c.tc : Thread Cert.OutReferenceIdeal.nD Cert.OutReferenceIdeal.τ).loc Cert.OutReferenceIdeal.main_arg4) = m ((c.tc : Thread Cert.OutIdeal.nD Cert.OutIdeal.τ).loc Cert.OutIdeal.main_arg4)
      ∧ m' ((c.tc : Thread Cert.OutReferenceIdeal.nD Cert.OutReferenceIdeal.τ).loc Cert.OutReferenceIdeal.main_arg5) = m ((c.tc : Thread Cert.OutIdeal.nD Cert.OutIdeal.τ).loc Cert.OutIdeal.main_arg5)
      ∧ m' ((c.tc : Thread Cert.OutReferenceIdeal.nD Cert.OutReferenceIdeal.τ).loc Cert.OutReferenceIdeal.main_arg6) = m ((c.tc : Thread Cert.OutIdeal.nD Cert.OutIdeal.τ).loc Cert.OutIdeal.main_arg6)
      ∧ m' ((c.tc : Thread Cert.OutReferenceIdeal.nD Cert.OutReferenceIdeal.τ).loc Cert.OutReferenceIdeal.main_arg7) = m ((c.tc : Thread Cert.OutIdeal.nD Cert.OutIdeal.τ).loc Cert.OutIdeal.main_arg7)
      ∧ m' ((c.tc : Thread Cert.OutReferenceIdeal.nD Cert.OutReferenceIdeal.τ).loc Cert.OutReferenceIdeal.main_arg8) = m ((c.tc : Thread Cert.OutIdeal.nD Cert.OutIdeal.τ).loc Cert.OutIdeal.main_arg8)
      ∧ m' ((c.tc : Thread Cert.OutReferenceIdeal.nD Cert.OutReferenceIdeal.τ).loc Cert.OutReferenceIdeal.main_arg9) = m ((c.tc : Thread Cert.OutIdeal.nD Cert.OutIdeal.τ).loc Cert.OutIdeal.main_arg9)) →
    ∃ (v0 : (c : Dev Cert.OutIdeal.nD) → Buf (Elt Ideal) ((c.tc : Thread Cert.OutIdeal.nD Cert.OutIdeal.τ).loc Cert.OutIdeal.main_v3_0)) (v1 : (c : Dev Cert.OutIdeal.nD) → Buf (Elt Ideal) ((c.tc : Thread Cert.OutIdeal.nD Cert.OutIdeal.τ).loc Cert.OutIdeal.main_v3_1)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v3_0) = v0 c
          ∧ r.2.mem ((c.tc : Thread Cert.OutIdeal.nD Cert.OutIdeal.τ).loc Cert.OutIdeal.main_v3_1) = v1 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
          ∧ r.2.mem ((c.tc : Thread Cert.OutIdeal.nD Cert.OutIdeal.τ).loc Cert.OutIdeal.main_arg4) = m ((c.tc : Thread Cert.OutIdeal.nD Cert.OutIdeal.τ).loc Cert.OutIdeal.main_arg4)
          ∧ r.2.mem ((c.tc : Thread Cert.OutIdeal.nD Cert.OutIdeal.τ).loc Cert.OutIdeal.main_arg5) = m ((c.tc : Thread Cert.OutIdeal.nD Cert.OutIdeal.τ).loc Cert.OutIdeal.main_arg5)
          ∧ r.2.mem ((c.tc : Thread Cert.OutIdeal.nD Cert.OutIdeal.τ).loc Cert.OutIdeal.main_arg6) = m ((c.tc : Thread Cert.OutIdeal.nD Cert.OutIdeal.τ).loc Cert.OutIdeal.main_arg6)
          ∧ r.2.mem ((c.tc : Thread Cert.OutIdeal.nD Cert.OutIdeal.τ).loc Cert.OutIdeal.main_arg7) = m ((c.tc : Thread Cert.OutIdeal.nD Cert.OutIdeal.τ).loc Cert.OutIdeal.main_arg7)
          ∧ r.2.mem ((c.tc : Thread Cert.OutIdeal.nD Cert.OutIdeal.τ).loc Cert.OutIdeal.main_arg8) = m ((c.tc : Thread Cert.OutIdeal.nD Cert.OutIdeal.τ).loc Cert.OutIdeal.main_arg8)
          ∧ r.2.mem ((c.tc : Thread Cert.OutIdeal.nD Cert.OutIdeal.τ).loc Cert.OutIdeal.main_arg9) = m ((c.tc : Thread Cert.OutIdeal.nD Cert.OutIdeal.τ).loc Cert.OutIdeal.main_arg9))
      ∧ θ_run (Cert.OutReferenceIdeal.defs (F := Ideal)) (onTc (τ := Cert.OutReferenceIdeal.τ) (Cert.OutReferenceIdeal.main (F := Ideal))) ⟨m', fun _ => 0, g'⟩ (fun r => ∀ c : Dev Cert.OutReferenceIdeal.nD,
          r.2.mem ((c.tc : Thread Cert.OutReferenceIdeal.nD Cert.OutReferenceIdeal.τ).loc Cert.OutReferenceIdeal.main_v52) = v0 c
          ∧ r.2.mem ((c.tc : Thread Cert.OutReferenceIdeal.nD Cert.OutReferenceIdeal.τ).loc Cert.OutReferenceIdeal.main_v53) = v1 c
          ∧ r.2.mem ((c.tc : Thread Cert.OutReferenceIdeal.nD Cert.OutReferenceIdeal.τ).loc Cert.OutReferenceIdeal.main_arg0) = m' ((c.tc : Thread Cert.OutReferenceIdeal.nD Cert.OutReferenceIdeal.τ).loc Cert.OutReferenceIdeal.main_arg0)
          ∧ r.2.mem ((c.tc : Thread Cert.OutReferenceIdeal.nD Cert.OutReferenceIdeal.τ).loc Cert.OutReferenceIdeal.main_arg1) = m' ((c.tc : Thread Cert.OutReferenceIdeal.nD Cert.OutReferenceIdeal.τ).loc Cert.OutReferenceIdeal.main_arg1)
          ∧ r.2.mem ((c.tc : Thread Cert.OutReferenceIdeal.nD Cert.OutReferenceIdeal.τ).loc Cert.OutReferenceIdeal.main_arg2) = m' ((c.tc : Thread Cert.OutReferenceIdeal.nD Cert.OutReferenceIdeal.τ).loc Cert.OutReferenceIdeal.main_arg2)
          ∧ r.2.mem ((c.tc : Thread Cert.OutReferenceIdeal.nD Cert.OutReferenceIdeal.τ).loc Cert.OutReferenceIdeal.main_arg3) = m' ((c.tc : Thread Cert.OutReferenceIdeal.nD Cert.OutReferenceIdeal.τ).loc Cert.OutReferenceIdeal.main_arg3)
          ∧ r.2.mem ((c.tc : Thread Cert.OutReferenceIdeal.nD Cert.OutReferenceIdeal.τ).loc Cert.OutReferenceIdeal.main_arg4) = m' ((c.tc : Thread Cert.OutReferenceIdeal.nD Cert.OutReferenceIdeal.τ).loc Cert.OutReferenceIdeal.main_arg4)
          ∧ r.2.mem ((c.tc : Thread Cert.OutReferenceIdeal.nD Cert.OutReferenceIdeal.τ).loc Cert.OutReferenceIdeal.main_arg5) = m' ((c.tc : Thread Cert.OutReferenceIdeal.nD Cert.OutReferenceIdeal.τ).loc Cert.OutReferenceIdeal.main_arg5)
          ∧ r.2.mem ((c.tc : Thread Cert.OutReferenceIdeal.nD Cert.OutReferenceIdeal.τ).loc Cert.OutReferenceIdeal.main_arg6) = m' ((c.tc : Thread Cert.OutReferenceIdeal.nD Cert.OutReferenceIdeal.τ).loc Cert.OutReferenceIdeal.main_arg6)
          ∧ r.2.mem ((c.tc : Thread Cert.OutReferenceIdeal.nD Cert.OutReferenceIdeal.τ).loc Cert.OutReferenceIdeal.main_arg7) = m' ((c.tc : Thread Cert.OutReferenceIdeal.nD Cert.OutReferenceIdeal.τ).loc Cert.OutReferenceIdeal.main_arg7)
          ∧ r.2.mem ((c.tc : Thread Cert.OutReferenceIdeal.nD Cert.OutReferenceIdeal.τ).loc Cert.OutReferenceIdeal.main_arg8) = m' ((c.tc : Thread Cert.OutReferenceIdeal.nD Cert.OutReferenceIdeal.τ).loc Cert.OutReferenceIdeal.main_arg8)
          ∧ r.2.mem ((c.tc : Thread Cert.OutReferenceIdeal.nD Cert.OutReferenceIdeal.τ).loc Cert.OutReferenceIdeal.main_arg9) = m' ((c.tc : Thread Cert.OutReferenceIdeal.nD Cert.OutReferenceIdeal.τ).loc Cert.OutReferenceIdeal.main_arg9))

def preserves_Ln_LnIdeal : Prop :=
  True

def algebraic_LnIdeal_LnReferenceIdeal [hLnIdeal : Cert.LnIdeal.Facts] [hLnReferenceIdeal : Cert.LnReferenceIdeal.Facts] : Prop :=
  ∀ (m : (ℓ : Loc Cert.LnIdeal.nD Cert.LnIdeal.τ Cert.LnIdeal.sig) → Buf (Elt Ideal) ℓ) (g : Dev Cert.LnIdeal.nD → PrngReg)
    (m' : (ℓ : Loc Cert.LnReferenceIdeal.nD Cert.LnReferenceIdeal.τ Cert.LnReferenceIdeal.sig) → Buf (Elt Ideal) ℓ) (g' : Dev Cert.LnReferenceIdeal.nD → PrngReg), Pre_LnIdeal m →
    (∀ c : Dev Cert.LnIdeal.nD,
      m' ((c.tc : Thread Cert.LnReferenceIdeal.nD Cert.LnReferenceIdeal.τ).loc Cert.LnReferenceIdeal.main_arg0) = m ((c.tc : Thread Cert.LnIdeal.nD Cert.LnIdeal.τ).loc Cert.LnIdeal.main_arg0)
      ∧ m' ((c.tc : Thread Cert.LnReferenceIdeal.nD Cert.LnReferenceIdeal.τ).loc Cert.LnReferenceIdeal.main_arg1) = m ((c.tc : Thread Cert.LnIdeal.nD Cert.LnIdeal.τ).loc Cert.LnIdeal.main_arg1)
      ∧ m' ((c.tc : Thread Cert.LnReferenceIdeal.nD Cert.LnReferenceIdeal.τ).loc Cert.LnReferenceIdeal.main_arg2) = m ((c.tc : Thread Cert.LnIdeal.nD Cert.LnIdeal.τ).loc Cert.LnIdeal.main_arg2)
      ∧ m' ((c.tc : Thread Cert.LnReferenceIdeal.nD Cert.LnReferenceIdeal.τ).loc Cert.LnReferenceIdeal.main_arg3) = m ((c.tc : Thread Cert.LnIdeal.nD Cert.LnIdeal.τ).loc Cert.LnIdeal.main_arg3)) →
    ∃ (v0 : (c : Dev Cert.LnIdeal.nD) → Buf (Elt Ideal) ((c.tc : Thread Cert.LnIdeal.nD Cert.LnIdeal.τ).loc Cert.LnIdeal.main_v2_0)) (v1 : (c : Dev Cert.LnIdeal.nD) → Buf (Elt Ideal) ((c.tc : Thread Cert.LnIdeal.nD Cert.LnIdeal.τ).loc Cert.LnIdeal.main_v2_1)),
      θ_run (Cert.LnIdeal.defs (F := Ideal)) (onTc (τ := Cert.LnIdeal.τ) (Cert.LnIdeal.main (F := Ideal))) ⟨m, fun _ => 0, g⟩ (fun r => ∀ c : Dev Cert.LnIdeal.nD,
          r.2.mem ((c.tc : Thread Cert.LnIdeal.nD Cert.LnIdeal.τ).loc Cert.LnIdeal.main_v2_0) = v0 c
          ∧ r.2.mem ((c.tc : Thread Cert.LnIdeal.nD Cert.LnIdeal.τ).loc Cert.LnIdeal.main_v2_1) = v1 c
          ∧ r.2.mem ((c.tc : Thread Cert.LnIdeal.nD Cert.LnIdeal.τ).loc Cert.LnIdeal.main_arg0) = m ((c.tc : Thread Cert.LnIdeal.nD Cert.LnIdeal.τ).loc Cert.LnIdeal.main_arg0)
          ∧ r.2.mem ((c.tc : Thread Cert.LnIdeal.nD Cert.LnIdeal.τ).loc Cert.LnIdeal.main_arg1) = m ((c.tc : Thread Cert.LnIdeal.nD Cert.LnIdeal.τ).loc Cert.LnIdeal.main_arg1)
          ∧ r.2.mem ((c.tc : Thread Cert.LnIdeal.nD Cert.LnIdeal.τ).loc Cert.LnIdeal.main_arg2) = m ((c.tc : Thread Cert.LnIdeal.nD Cert.LnIdeal.τ).loc Cert.LnIdeal.main_arg2)
          ∧ r.2.mem ((c.tc : Thread Cert.LnIdeal.nD Cert.LnIdeal.τ).loc Cert.LnIdeal.main_arg3) = m ((c.tc : Thread Cert.LnIdeal.nD Cert.LnIdeal.τ).loc Cert.LnIdeal.main_arg3))
      ∧ θ_run (Cert.LnReferenceIdeal.defs (F := Ideal)) (onTc (τ := Cert.LnReferenceIdeal.τ) (Cert.LnReferenceIdeal.main (F := Ideal))) ⟨m', fun _ => 0, g'⟩ (fun r => ∀ c : Dev Cert.LnReferenceIdeal.nD,
          r.2.mem ((c.tc : Thread Cert.LnReferenceIdeal.nD Cert.LnReferenceIdeal.τ).loc Cert.LnReferenceIdeal.main_v26) = v0 c
          ∧ r.2.mem ((c.tc : Thread Cert.LnReferenceIdeal.nD Cert.LnReferenceIdeal.τ).loc Cert.LnReferenceIdeal.main_v27) = v1 c
          ∧ r.2.mem ((c.tc : Thread Cert.LnReferenceIdeal.nD Cert.LnReferenceIdeal.τ).loc Cert.LnReferenceIdeal.main_arg0) = m' ((c.tc : Thread Cert.LnReferenceIdeal.nD Cert.LnReferenceIdeal.τ).loc Cert.LnReferenceIdeal.main_arg0)
          ∧ r.2.mem ((c.tc : Thread Cert.LnReferenceIdeal.nD Cert.LnReferenceIdeal.τ).loc Cert.LnReferenceIdeal.main_arg1) = m' ((c.tc : Thread Cert.LnReferenceIdeal.nD Cert.LnReferenceIdeal.τ).loc Cert.LnReferenceIdeal.main_arg1)
          ∧ r.2.mem ((c.tc : Thread Cert.LnReferenceIdeal.nD Cert.LnReferenceIdeal.τ).loc Cert.LnReferenceIdeal.main_arg2) = m' ((c.tc : Thread Cert.LnReferenceIdeal.nD Cert.LnReferenceIdeal.τ).loc Cert.LnReferenceIdeal.main_arg2)
          ∧ r.2.mem ((c.tc : Thread Cert.LnReferenceIdeal.nD Cert.LnReferenceIdeal.τ).loc Cert.LnReferenceIdeal.main_arg3) = m' ((c.tc : Thread Cert.LnReferenceIdeal.nD Cert.LnReferenceIdeal.τ).loc Cert.LnReferenceIdeal.main_arg3))

def Claim : Prop :=
  ∃ (hKernel : Cert.Kernel.Facts) (hKernelIdeal : Cert.KernelIdeal.Facts) (hReferenceIdeal : Cert.ReferenceIdeal.Facts) (hRope : Cert.Rope.Facts) (hRopeIdeal : Cert.RopeIdeal.Facts) (hRopeReferenceIdeal : Cert.RopeReferenceIdeal.Facts) (hVal : Cert.Val.Facts) (hValIdeal : Cert.ValIdeal.Facts) (hValReferenceIdeal : Cert.ValReferenceIdeal.Facts) (hIw : Cert.Iw.Facts) (hIwIdeal : Cert.IwIdeal.Facts) (hIwReferenceIdeal : Cert.IwReferenceIdeal.Facts) (hSwa : Cert.Swa.Facts) (hSwaIdeal : Cert.SwaIdeal.Facts) (hSwaReferenceIdeal : Cert.SwaReferenceIdeal.Facts) (hBand : Cert.Band.Facts) (hBandIdeal : Cert.BandIdeal.Facts) (hBandReferenceIdeal : Cert.BandReferenceIdeal.Facts) (hBand4 : Cert.Band4.Facts) (hBand4Ideal : Cert.Band4Ideal.Facts) (hBand4ReferenceIdeal : Cert.Band4ReferenceIdeal.Facts) (hBand16 : Cert.Band16.Facts) (hBand16Ideal : Cert.Band16Ideal.Facts) (hBand16ReferenceIdeal : Cert.Band16ReferenceIdeal.Facts) (hOut : Cert.Out.Facts) (hOutIdeal : Cert.OutIdeal.Facts) (hOutReferenceIdeal : Cert.OutReferenceIdeal.Facts) (hLn : Cert.Ln.Facts) (hLnIdeal : Cert.LnIdeal.Facts) (hLnReferenceIdeal : Cert.LnReferenceIdeal.Facts) (hPre_finite_inputs : Cert.Pre_finite_inputs.Facts) (hPre_finite_scores : Cert.Pre_finite_scores.Facts) (hPre_finite_lse : Cert.Pre_finite_lse.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ quiescent_Rope (hRope := hRope)
    ∧ quiescent_RopeIdeal (hRopeIdeal := hRopeIdeal)
    ∧ quiescent_RopeReferenceIdeal (hRopeReferenceIdeal := hRopeReferenceIdeal)
    ∧ quiescent_Val (hVal := hVal)
    ∧ quiescent_ValIdeal (hValIdeal := hValIdeal)
    ∧ quiescent_ValReferenceIdeal (hValReferenceIdeal := hValReferenceIdeal)
    ∧ quiescent_Iw (hIw := hIw)
    ∧ quiescent_IwIdeal (hIwIdeal := hIwIdeal)
    ∧ quiescent_IwReferenceIdeal (hIwReferenceIdeal := hIwReferenceIdeal)
    ∧ quiescent_Swa (hSwa := hSwa)
    ∧ quiescent_SwaIdeal (hSwaIdeal := hSwaIdeal)
    ∧ quiescent_SwaIdeal_pre_finite_scores (hSwaIdeal := hSwaIdeal) (hPre_finite_scores := hPre_finite_scores)
    ∧ quiescent_SwaReferenceIdeal (hSwaReferenceIdeal := hSwaReferenceIdeal)
    ∧ quiescent_SwaReferenceIdeal_pre_finite_scores (hSwaReferenceIdeal := hSwaReferenceIdeal) (hPre_finite_scores := hPre_finite_scores)
    ∧ quiescent_Band (hBand := hBand)
    ∧ quiescent_BandIdeal (hBandIdeal := hBandIdeal)
    ∧ quiescent_BandReferenceIdeal (hBandReferenceIdeal := hBandReferenceIdeal)
    ∧ quiescent_Band4 (hBand4 := hBand4)
    ∧ quiescent_Band4Ideal (hBand4Ideal := hBand4Ideal)
    ∧ quiescent_Band4ReferenceIdeal (hBand4ReferenceIdeal := hBand4ReferenceIdeal)
    ∧ quiescent_Band16 (hBand16 := hBand16)
    ∧ quiescent_Band16Ideal (hBand16Ideal := hBand16Ideal)
    ∧ quiescent_Band16ReferenceIdeal (hBand16ReferenceIdeal := hBand16ReferenceIdeal)
    ∧ quiescent_Out (hOut := hOut)
    ∧ quiescent_OutIdeal (hOutIdeal := hOutIdeal)
    ∧ quiescent_OutIdeal_pre_finite_lse (hOutIdeal := hOutIdeal) (hPre_finite_lse := hPre_finite_lse)
    ∧ quiescent_OutReferenceIdeal (hOutReferenceIdeal := hOutReferenceIdeal)
    ∧ quiescent_OutReferenceIdeal_pre_finite_lse (hOutReferenceIdeal := hOutReferenceIdeal) (hPre_finite_lse := hPre_finite_lse)
    ∧ quiescent_Ln (hLn := hLn)
    ∧ quiescent_LnIdeal (hLnIdeal := hLnIdeal)
    ∧ quiescent_LnReferenceIdeal (hLnReferenceIdeal := hLnReferenceIdeal)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
    ∧ preserves_Rope_RopeIdeal
    ∧ algebraic_RopeIdeal_RopeReferenceIdeal (hRopeIdeal := hRopeIdeal) (hRopeReferenceIdeal := hRopeReferenceIdeal)
    ∧ preserves_Val_ValIdeal
    ∧ algebraic_ValIdeal_ValReferenceIdeal (hValIdeal := hValIdeal) (hValReferenceIdeal := hValReferenceIdeal)
    ∧ preserves_Iw_IwIdeal
    ∧ algebraic_IwIdeal_IwReferenceIdeal (hIwIdeal := hIwIdeal) (hIwReferenceIdeal := hIwReferenceIdeal)
    ∧ preserves_Swa_SwaIdeal
    ∧ algebraic_SwaIdeal_SwaReferenceIdeal_pre_finite_scores (hSwaIdeal := hSwaIdeal) (hSwaReferenceIdeal := hSwaReferenceIdeal) (hPre_finite_scores := hPre_finite_scores)
    ∧ preserves_Band_BandIdeal
    ∧ algebraic_BandIdeal_BandReferenceIdeal (hBandIdeal := hBandIdeal) (hBandReferenceIdeal := hBandReferenceIdeal)
    ∧ preserves_Band4_Band4Ideal
    ∧ algebraic_Band4Ideal_Band4ReferenceIdeal (hBand4Ideal := hBand4Ideal) (hBand4ReferenceIdeal := hBand4ReferenceIdeal)
    ∧ preserves_Band16_Band16Ideal
    ∧ algebraic_Band16Ideal_Band16ReferenceIdeal (hBand16Ideal := hBand16Ideal) (hBand16ReferenceIdeal := hBand16ReferenceIdeal)
    ∧ preserves_Out_OutIdeal
    ∧ algebraic_OutIdeal_OutReferenceIdeal_pre_finite_lse (hOutIdeal := hOutIdeal) (hOutReferenceIdeal := hOutReferenceIdeal) (hPre_finite_lse := hPre_finite_lse)
    ∧ preserves_Ln_LnIdeal
    ∧ algebraic_LnIdeal_LnReferenceIdeal (hLnIdeal := hLnIdeal) (hLnReferenceIdeal := hLnReferenceIdeal)
-- ==== Pre_finite_inputs.lean ====
abbrev S8192x3840 : Shape := ⟨2, ![8192, 3840]⟩
abbrev S8192x1280 : Shape := ⟨2, ![8192, 1280]⟩
abbrev S4x64 : Shape := ⟨2, ![4, 64]⟩
abbrev S128 : Shape := ⟨1, ![128]⟩
abbrev S_ : Shape := ⟨0, ![]⟩

class Facts : Prop where
  bitsLt_bf16_f32 : FTy.bits .bf16 < FTy.bits .f32
  bcast_S_S8192x3840 : S_.BroadcastsInDim S8192x3840 (![] : Fin 0 → Fin S8192x3840.rank)
  reducesTo_S8192x3840_S_d0_1 : S8192x3840.ReducesTo [0, 1] S_
  h_S_ : 0 < S_.numel
  bcast_S_S8192x1280 : S_.BroadcastsInDim S8192x1280 (![] : Fin 0 → Fin S8192x1280.rank)
  reducesTo_S8192x1280_S_d0_1 : S8192x1280.ReducesTo [0, 1] S_
  bcast_S_S4x64 : S_.BroadcastsInDim S4x64 (![] : Fin 0 → Fin S4x64.rank)
  reducesTo_S4x64_S_d0_1 : S4x64.ReducesTo [0, 1] S_

variable [Facts]

def fn {F : FTy → Type} [FloatOps F] (main_arg0 : FVec F S8192x3840 .bf16) (main_arg1 : FVec F S8192x1280 .bf16) (main_arg2 : FVec F S4x64 .f32) (main_arg3 : FVec F S128 .f32) : IVec S_ 1 :=
  let main_v0 : FVec F S8192x3840 .f32 := (extf .f32 · bitsLt_bf16_f32) main_arg0
  let main_v1 : FVec F S8192x3840 .f32 := Host.absf main_v0
  let main_cst : FVec F S_ .f32 := constant S_ .f32 0x7F800000#32
  let main_v2 : FVec F S8192x3840 .f32 := broadcastInDim S8192x3840 ![] bcast_S_S8192x3840 main_cst
  let main_v3 : IVec S8192x3840 1 := cmpf .olt main_v1 main_v2
  let main_c : IVec S_ 1 := constantI S_ 1 1#1
  let main_v4 : IVec S_ 1 := (fun x v => Host.reduce IntOp.andi x v reducesTo_S8192x3840_S_d0_1 h_S_) main_v3 main_c
  let main_v5 : FVec F S8192x1280 .f32 := (extf .f32 · bitsLt_bf16_f32) main_arg1
  let main_v6 : FVec F S8192x1280 .f32 := Host.absf main_v5
  let main_cst_0 : FVec F S_ .f32 := constant S_ .f32 0x7F800000#32
  let main_v7 : FVec F S8192x1280 .f32 := broadcastInDim S8192x1280 ![] bcast_S_S8192x1280 main_cst_0
  let main_v8 : IVec S8192x1280 1 := cmpf .olt main_v6 main_v7
  let main_c_1 : IVec S_ 1 := constantI S_ 1 1#1
  let main_v9 : IVec S_ 1 := (fun x v => Host.reduce IntOp.andi x v reducesTo_S8192x1280_S_d0_1 h_S_) main_v8 main_c_1
  let main_v10 : IVec S_ 1 := andi main_v4 main_v9
  let main_v11 : FVec F S4x64 .f32 := Host.absf main_arg2
  let main_cst_2 : FVec F S_ .f32 := constant S_ .f32 0x7F800000#32
  let main_v12 : FVec F S4x64 .f32 := broadcastInDim S4x64 ![] bcast_S_S4x64 main_cst_2
  let main_v13 : IVec S4x64 1 := cmpf .olt main_v11 main_v12
  let main_c_3 : IVec S_ 1 := constantI S_ 1 1#1
  let main_v14 : IVec S_ 1 := (fun x v => Host.reduce IntOp.andi x v reducesTo_S4x64_S_d0_1 h_S_) main_v13 main_c_3
  let main_v15 : IVec S_ 1 := andi main_v10 main_v14
  main_v15
-- ==== Pre_finite_lse.lean ====
abbrev S8192x2048 : Shape := ⟨2, ![8192, 2048]⟩
abbrev S8192x512 : Shape := ⟨2, ![8192, 512]⟩
abbrev S8192x640 : Shape := ⟨2, ![8192, 640]⟩
abbrev S2048x2048 : Shape := ⟨2, ![2048, 2048]⟩
abbrev S2048 : Shape := ⟨1, ![2048]⟩
abbrev S8192x8 : Shape := ⟨2, ![8192, 8]⟩
abbrev S_ : Shape := ⟨0, ![]⟩

class Facts : Prop where
  slices_S8192x640_S8192x8_0_512 : S8192x640.Slices ![0, 512] S8192x8
  bcast_S_S8192x8 : S_.BroadcastsInDim S8192x8 (![] : Fin 0 → Fin S8192x8.rank)
  reducesTo_S8192x8_S_d0_1 : S8192x8.ReducesTo [0, 1] S_
  h_S_ : 0 < S_.numel

variable [Facts]

def fn {F : FTy → Type} [FloatOps F] (main_arg0 : FVec F S8192x2048 .f32) (main_arg1 : FVec F S8192x512 .bf16) (main_arg2 : FVec F S8192x512 .bf16) (main_arg3 : FVec F S8192x640 .f32) (main_arg4 : FVec F S8192x640 .f32) (main_arg5 : FVec F S8192x640 .f32) (main_arg6 : FVec F S8192x512 .bf16) (main_arg7 : FVec F S2048x2048 .f32) (main_arg8 : FVec F S2048 .f32) (main_arg9 : FVec F S2048 .f32) : IVec S_ 1 :=
  let main_v0 : FVec F S8192x8 .f32 := (extractStridedSlice S8192x8 ![0, 512] · slices_S8192x640_S8192x8_0_512) main_arg3
  let main_v1 : FVec F S8192x8 .f32 := Host.absf main_v0
  let main_cst : FVec F S_ .f32 := constant S_ .f32 0x7F800000#32
  let main_v2 : FVec F S8192x8 .f32 := broadcastInDim S8192x8 ![] bcast_S_S8192x8 main_cst
  let main_v3 : IVec S8192x8 1 := cmpf .olt main_v1 main_v2
  let main_c : IVec S_ 1 := constantI S_ 1 1#1
  let main_v4 : IVec S_ 1 := (fun x v => Host.reduce IntOp.andi x v reducesTo_S8192x8_S_d0_1 h_S_) main_v3 main_c
  let main_v5 : FVec F S8192x8 .f32 := (extractStridedSlice S8192x8 ![0, 512] · slices_S8192x640_S8192x8_0_512) main_arg4
  let main_v6 : FVec F S8192x8 .f32 := Host.absf main_v5
  let main_cst_0 : FVec F S_ .f32 := constant S_ .f32 0x7F800000#32
  let main_v7 : FVec F S8192x8 .f32 := broadcastInDim S8192x8 ![] bcast_S_S8192x8 main_cst_0
  let main_v8 : IVec S8192x8 1 := cmpf .olt main_v6 main_v7
  let main_c_1 : IVec S_ 1 := constantI S_ 1 1#1
  let main_v9 : IVec S_ 1 := (fun x v => Host.reduce IntOp.andi x v reducesTo_S8192x8_S_d0_1 h_S_) main_v8 main_c_1
  let main_v10 : IVec S_ 1 := andi main_v4 main_v9
  let main_v11 : FVec F S8192x8 .f32 := (extractStridedSlice S8192x8 ![0, 512] · slices_S8192x640_S8192x8_0_512) main_arg5
  let main_v12 : FVec F S8192x8 .f32 := Host.absf main_v11
  let main_cst_2 : FVec F S_ .f32 := constant S_ .f32 0x7F800000#32
  let main_v13 : FVec F S8192x8 .f32 := broadcastInDim S8192x8 ![] bcast_S_S8192x8 main_cst_2
  let main_v14 : IVec S8192x8 1 := cmpf .olt main_v12 main_v13
  let main_c_3 : IVec S_ 1 := constantI S_ 1 1#1
  let main_v15 : IVec S_ 1 := (fun x v => Host.reduce IntOp.andi x v reducesTo_S8192x8_S_d0_1 h_S_) main_v14 main_c_3
  let main_v16 : IVec S_ 1 := andi main_v10 main_v15
  main_v16
-- ==== Pre_finite_scores.lean ====
abbrev S8192x3840 : Shape := ⟨2, ![8192, 3840]⟩
abbrev S8192x1280 : Shape := ⟨2, ![8192, 1280]⟩
abbrev S8 : Shape := ⟨1, ![8]⟩
abbrev S8192x512 : Shape := ⟨2, ![8192, 512]⟩
abbrev S_ : Shape := ⟨0, ![]⟩
abbrev S8192x128 : Shape := ⟨2, ![8192, 128]⟩

class Facts : Prop where
  slices_S8192x3840_S8192x512_0_0 : S8192x3840.Slices ![0, 0] S8192x512
  bitsLt_bf16_f32 : FTy.bits .bf16 < FTy.bits .f32
  bcast_S_S8192x512 : S_.BroadcastsInDim S8192x512 (![] : Fin 0 → Fin S8192x512.rank)
  reducesTo_S8192x512_S_d0_1 : S8192x512.ReducesTo [0, 1] S_
  h_S_ : 0 < S_.numel
  slices_S8192x3840_S8192x128_0_3584 : S8192x3840.Slices ![0, 3584] S8192x128
  bcast_S_S8192x128 : S_.BroadcastsInDim S8192x128 (![] : Fin 0 → Fin S8192x128.rank)
  reducesTo_S8192x128_S_d0_1 : S8192x128.ReducesTo [0, 1] S_
  bcast_S_S8 : S_.BroadcastsInDim S8 (![] : Fin 0 → Fin S8.rank)
  reducesTo_S8_S_d0 : S8.ReducesTo [0] S_

variable [Facts]

def fn {F : FTy → Type} [FloatOps F] (main_arg0 : FVec F S8192x3840 .bf16) (main_arg1 : FVec F S8192x1280 .bf16) (main_arg2 : FVec F S8 .f32) : IVec S_ 1 :=
  let main_v0 : FVec F S8192x512 .bf16 := (extractStridedSlice S8192x512 ![0, 0] · slices_S8192x3840_S8192x512_0_0) main_arg0
  let main_v1 : FVec F S8192x512 .f32 := (extf .f32 · bitsLt_bf16_f32) main_v0
  let main_v2 : FVec F S8192x512 .f32 := Host.absf main_v1
  let main_cst : FVec F S_ .f32 := constant S_ .f32 0x7F800000#32
  let main_v3 : FVec F S8192x512 .f32 := broadcastInDim S8192x512 ![] bcast_S_S8192x512 main_cst
  let main_v4 : IVec S8192x512 1 := cmpf .olt main_v2 main_v3
  let main_c : IVec S_ 1 := constantI S_ 1 1#1
  let main_v5 : IVec S_ 1 := (fun x v => Host.reduce IntOp.andi x v reducesTo_S8192x512_S_d0_1 h_S_) main_v4 main_c
  let main_v6 : FVec F S8192x128 .bf16 := (extractStridedSlice S8192x128 ![0, 3584] · slices_S8192x3840_S8192x128_0_3584) main_arg0
  let main_v7 : FVec F S8192x128 .f32 := (extf .f32 · bitsLt_bf16_f32) main_v6
  let main_v8 : FVec F S8192x128 .f32 := Host.absf main_v7
  let main_cst_0 : FVec F S_ .f32 := constant S_ .f32 0x7F800000#32
  let main_v9 : FVec F S8192x128 .f32 := broadcastInDim S8192x128 ![] bcast_S_S8192x128 main_cst_0
  let main_v10 : IVec S8192x128 1 := cmpf .olt main_v8 main_v9
  let main_c_1 : IVec S_ 1 := constantI S_ 1 1#1
  let main_v11 : IVec S_ 1 := (fun x v => Host.reduce IntOp.andi x v reducesTo_S8192x128_S_d0_1 h_S_) main_v10 main_c_1
  let main_v12 : IVec S_ 1 := andi main_v5 main_v11
  let main_v13 : FVec F S8 .f32 := Host.absf main_arg2
  let main_cst_2 : FVec F S_ .f32 := constant S_ .f32 0x7F800000#32
  let main_v14 : FVec F S8 .f32 := broadcastInDim S8 ![] bcast_S_S8 main_cst_2
  let main_v15 : IVec S8 1 := cmpf .olt main_v13 main_v14
  let main_c_3 : IVec S_ 1 := constantI S_ 1 1#1
  let main_v16 : IVec S_ 1 := (fun x v => Host.reduce IntOp.andi x v reducesTo_S8_S_d0 h_S_) main_v15 main_c_3
  let main_v17 : IVec S_ 1 := andi main_v12 main_v16
  main_v17
-- ==== Kernel.lean ====
abbrev S8192x3840 : Shape := ⟨2, ![8192, 3840]⟩
abbrev S8192x1280 : Shape := ⟨2, ![8192, 1280]⟩
abbrev S4x64 : Shape := ⟨2, ![4, 64]⟩
abbrev S128 : Shape := ⟨1, ![128]⟩
abbrev S1x128 : Shape := ⟨2, ![1, 128]⟩
abbrev S8192x512 : Shape := ⟨2, ![8192, 512]⟩
abbrev S512x128 : Shape := ⟨2, ![512, 128]⟩
abbrev S8192x128 : Shape := ⟨2, ![8192, 128]⟩
abbrev S4x256x1 : Shape := ⟨3, ![4, 256, 1]⟩
abbrev S4x256x256 : Shape := ⟨3, ![4, 256, 256]⟩
abbrev S256x128 : Shape := ⟨2, ![256, 128]⟩
abbrev S1024x128 : Shape := ⟨2, ![1024, 128]⟩
abbrev S1024x256 : Shape := ⟨2, ![1024, 256]⟩
abbrev S256x1024 : Shape := ⟨2, ![256, 1024]⟩
abbrev S1x256x1 : Shape := ⟨3, ![1, 256, 1]⟩
abbrev S256x1 : Shape := ⟨2, ![256, 1]⟩
abbrev S256 : Shape := ⟨1, ![256]⟩
abbrev S1x256x256 : Shape := ⟨3, ![1, 256, 256]⟩
abbrev S256x256 : Shape := ⟨2, ![256, 256]⟩
abbrev S1x64 : Shape := ⟨2, ![1, 64]⟩
abbrev S1 : Shape := ⟨1, ![1]⟩
abbrev S1x1 : Shape := ⟨2, ![1, 1]⟩
abbrev S512 : Shape := ⟨1, ![512]⟩
abbrev S512x1 : Shape := ⟨2, ![512, 1]⟩

abbrev nBuf : Space → Nat
  | .hbm => 6
  | .vmem => 12
  | .smem => 0
  | _ => 0

abbrev bufTy : (tb : Table) → Fin (tcTables nBuf tb) → BufTy
  | .hbm, ⟨0, _⟩ => ⟨S8192x3840, .bf16⟩
  | .hbm, ⟨1, _⟩ => ⟨S8192x1280, .bf16⟩
  | .hbm, ⟨2, _⟩ => ⟨S4x64, .f32⟩
  | .hbm, ⟨3, _⟩ => ⟨S128, .f32⟩
  | .hbm, ⟨4, _⟩ => ⟨S1x128, .f32⟩
  | .hbm, ⟨5, _⟩ => ⟨S8192x512, .bf16⟩
  | .local _ .vmem, ⟨0, _⟩ => ⟨S4x64, .f32⟩
  | .local _ .vmem, ⟨1, _⟩ => ⟨S1x128, .f32⟩
  | .local _ .vmem, ⟨2, _⟩ => ⟨S512x128, .bf16⟩
  | .local _ .vmem, ⟨3, _⟩ => ⟨S512x128, .bf16⟩
  | .local _ .vmem, ⟨4, _⟩ => ⟨S8192x128, .bf16⟩
  | .local _ .vmem, ⟨5, _⟩ => ⟨S8192x128, .bf16⟩
  | .local _ .vmem, ⟨6, _⟩ => ⟨S8192x128, .bf16⟩
  | .local _ .vmem, ⟨7, _⟩ => ⟨S8192x128, .bf16⟩
  | .local _ .vmem, ⟨8, _⟩ => ⟨S512x128, .bf16⟩
  | .local _ .vmem, ⟨9, _⟩ => ⟨S512x128, .bf16⟩
  | .local _ .vmem, ⟨10, _⟩ => ⟨S4x256x1, .f32⟩
  | .local _ .vmem, ⟨11, _⟩ => ⟨S4x256x256, .f32⟩
  | _, _ => ⟨S8192x3840, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![4, 16], ![false, false]⟩

@[reducible] def k0_t1_loop (i : grid0.Coords) : Scf.Loop 32 :=
  let c0_i32_19 : BitVec 32 := 0#32
  let arg1 : BitVec 32 := BitVec.ofNat 32 (i 1).val
  let c512_i32 : BitVec 32 := 512#32
  let v30 : BitVec 32 := Scalar.muli arg1 c512_i32
  let c0_i32_13 : BitVec 32 := 0#32
  let v32 : BitVec 1 := Scalar.cmpi .sgt v30 c0_i32_13
  let v33 : BitVec 32 := Scalar.extui v32
  let c0_i32_14 : BitVec 32 := 0#32
  let v34 : BitVec 1 := Scalar.cmpi .slt v30 c0_i32_14
  let v35 : BitVec 32 := Scalar.extui v34
  let v36 : BitVec 32 := Scalar.subi v33 v35
  let c1024_i32 : BitVec 32 := 1024#32
  let c0_i32_15 : BitVec 32 := 0#32
  let v37 : BitVec 1 := Scalar.cmpi .sgt c1024_i32 c0_i32_15
  let v38 : BitVec 32 := Scalar.extui v37
  let c0_i32_16 : BitVec 32 := 0#32
  let v39 : BitVec 1 := Scalar.cmpi .slt c1024_i32 c0_i32_16
  let v40 : BitVec 32 := Scalar.extui v39
  let v41 : BitVec 32 := Scalar.subi v38 v40
  let v42 : BitVec 1 := Scalar.cmpi .ne v36 v41
  let v43 : BitVec 32 := Scalar.remsi v30 c1024_i32
  let c0_i32_17 : BitVec 32 := 0#32
  let v44 : BitVec 1 := Scalar.cmpi .ne v43 c0_i32_17
  let v45 : BitVec 1 := Scalar.andi v42 v44
  let v31 : BitVec 32 := Scalar.divsi v30 c1024_i32
  let c1_i32 : BitVec 32 := 1#32
  let v46 : BitVec 32 := Scalar.subi v31 c1_i32
  let v47 : BitVec 32 := Scalar.select v45 v46 v31
  let v48 : BitVec 32 := Scalar.subi v47 c0_i32_19
  let c1_i32_20 : BitVec 32 := 1#32
  let v50 : BitVec 32 := Scalar.divsi v48 c1_i32_20
  let v51 : BitVec 32 := Scalar.muli v50 c1_i32_20
  let v52 : BitVec 32 := Scalar.addi c0_i32_19 v51
  let c1_i32_21 : BitVec 32 := 1#32
  ⟨c0_i32_19, v52, c1_i32_21⟩
def k0_mult1 (i : grid0.Coords) (k0_t1 : Fin (k0_t1_loop i).trips) : BitVec 32 :=
  let c0_i32_19 : BitVec 32 := 0#32
  let c1_i32_21 : BitVec 32 := 1#32
  let arg10 : BitVec 32 := Scf.iv c0_i32_19 c1_i32_21 k0_t1
  let c1024_i32_131 : BitVec 32 := 1024#32
  let v271 : BitVec 32 := Scalar.muli arg10 c1024_i32_131
  v271
def k0_off1 (i : grid0.Coords) (k0_t1 : Fin (k0_t1_loop i).trips) : Fin 2 → Nat :=
  let c0_i32_19 : BitVec 32 := 0#32
  let c1_i32_21 : BitVec 32 := 1#32
  let arg10 : BitVec 32 := Scf.iv c0_i32_19 c1_i32_21 k0_t1
  let c1024_i32_131 : BitVec 32 := 1024#32
  let v271 : BitVec 32 := Scalar.muli arg10 c1024_i32_131
  let v272 : BitVec 32 := v271
  let v273 : Index := Scalar.indexCast v272
  let c0_132 : Index := 0#32
  ![v273.toNat, 0]
@[reducible] def k0_t2_loop (i : grid0.Coords) : Scf.Loop 32 :=
  let c0_i32_19 : BitVec 32 := 0#32
  let arg1 : BitVec 32 := BitVec.ofNat 32 (i 1).val
  let c512_i32 : BitVec 32 := 512#32
  let v30 : BitVec 32 := Scalar.muli arg1 c512_i32
  let c0_i32_13 : BitVec 32 := 0#32
  let v32 : BitVec 1 := Scalar.cmpi .sgt v30 c0_i32_13
  let v33 : BitVec 32 := Scalar.extui v32
  let c0_i32_14 : BitVec 32 := 0#32
  let v34 : BitVec 1 := Scalar.cmpi .slt v30 c0_i32_14
  let v35 : BitVec 32 := Scalar.extui v34
  let v36 : BitVec 32 := Scalar.subi v33 v35
  let c1024_i32 : BitVec 32 := 1024#32
  let c0_i32_15 : BitVec 32 := 0#32
  let v37 : BitVec 1 := Scalar.cmpi .sgt c1024_i32 c0_i32_15
  let v38 : BitVec 32 := Scalar.extui v37
  let c0_i32_16 : BitVec 32 := 0#32
  let v39 : BitVec 1 := Scalar.cmpi .slt c1024_i32 c0_i32_16
  let v40 : BitVec 32 := Scalar.extui v39
  let v41 : BitVec 32 := Scalar.subi v38 v40
  let v42 : BitVec 1 := Scalar.cmpi .ne v36 v41
  let v43 : BitVec 32 := Scalar.remsi v30 c1024_i32
  let c0_i32_17 : BitVec 32 := 0#32
  let v44 : BitVec 1 := Scalar.cmpi .ne v43 c0_i32_17
  let v45 : BitVec 1 := Scalar.andi v42 v44
  let v31 : BitVec 32 := Scalar.divsi v30 c1024_i32
  let c1_i32 : BitVec 32 := 1#32
  let v46 : BitVec 32 := Scalar.subi v31 c1_i32
  let v47 : BitVec 32 := Scalar.select v45 v46 v31
  let v48 : BitVec 32 := Scalar.subi v47 c0_i32_19
  let c1_i32_20 : BitVec 32 := 1#32
  let v50 : BitVec 32 := Scalar.divsi v48 c1_i32_20
  let v51 : BitVec 32 := Scalar.muli v50 c1_i32_20
  let v52 : BitVec 32 := Scalar.addi c0_i32_19 v51
  let v49 : BitVec 32 := Scalar.addi c0_i32_19 v48
  let c1_i32_22 : BitVec 32 := 1#32
  ⟨v52, v49, c1_i32_22⟩
def k0_mult2 (i : grid0.Coords) (k0_t2 : Fin (k0_t2_loop i).trips) : BitVec 32 :=
  let c0_i32_19 : BitVec 32 := 0#32
  let arg1 : BitVec 32 := BitVec.ofNat 32 (i 1).val
  let c512_i32 : BitVec 32 := 512#32
  let v30 : BitVec 32 := Scalar.muli arg1 c512_i32
  let c0_i32_13 : BitVec 32 := 0#32
  let v32 : BitVec 1 := Scalar.cmpi .sgt v30 c0_i32_13
  let v33 : BitVec 32 := Scalar.extui v32
  let c0_i32_14 : BitVec 32 := 0#32
  let v34 : BitVec 1 := Scalar.cmpi .slt v30 c0_i32_14
  let v35 : BitVec 32 := Scalar.extui v34
  let v36 : BitVec 32 := Scalar.subi v33 v35
  let c1024_i32 : BitVec 32 := 1024#32
  let c0_i32_15 : BitVec 32 := 0#32
  let v37 : BitVec 1 := Scalar.cmpi .sgt c1024_i32 c0_i32_15
  let v38 : BitVec 32 := Scalar.extui v37
  let c0_i32_16 : BitVec 32 := 0#32
  let v39 : BitVec 1 := Scalar.cmpi .slt c1024_i32 c0_i32_16
  let v40 : BitVec 32 := Scalar.extui v39
  let v41 : BitVec 32 := Scalar.subi v38 v40
  let v42 : BitVec 1 := Scalar.cmpi .ne v36 v41
  let v43 : BitVec 32 := Scalar.remsi v30 c1024_i32
  let c0_i32_17 : BitVec 32 := 0#32
  let v44 : BitVec 1 := Scalar.cmpi .ne v43 c0_i32_17
  let v45 : BitVec 1 := Scalar.andi v42 v44
  let v31 : BitVec 32 := Scalar.divsi v30 c1024_i32
  let c1_i32 : BitVec 32 := 1#32
  let v46 : BitVec 32 := Scalar.subi v31 c1_i32
  let v47 : BitVec 32 := Scalar.select v45 v46 v31
  let v48 : BitVec 32 := Scalar.subi v47 c0_i32_19
  let c1_i32_20 : BitVec 32 := 1#32
  let v50 : BitVec 32 := Scalar.divsi v48 c1_i32_20
  let v51 : BitVec 32 := Scalar.muli v50 c1_i32_20
  let v52 : BitVec 32 := Scalar.addi c0_i32_19 v51
  let c1_i32_22 : BitVec 32 := 1#32
  let arg10 : BitVec 32 := Scf.iv v52 c1_i32_22 k0_t2
  let c1024_i32_131 : BitVec 32 := 1024#32
  let v271 : BitVec 32 := Scalar.muli arg10 c1024_i32_131
  v271
def k0_off2 (i : grid0.Coords) (k0_t2 : Fin (k0_t2_loop i).trips) : Fin 2 → Nat :=
  let c0_i32_19 : BitVec 32 := 0#32
  let arg1 : BitVec 32 := BitVec.ofNat 32 (i 1).val
  let c512_i32 : BitVec 32 := 512#32
  let v30 : BitVec 32 := Scalar.muli arg1 c512_i32
  let c0_i32_13 : BitVec 32 := 0#32
  let v32 : BitVec 1 := Scalar.cmpi .sgt v30 c0_i32_13
  let v33 : BitVec 32 := Scalar.extui v32
  let c0_i32_14 : BitVec 32 := 0#32
  let v34 : BitVec 1 := Scalar.cmpi .slt v30 c0_i32_14
  let v35 : BitVec 32 := Scalar.extui v34
  let v36 : BitVec 32 := Scalar.subi v33 v35
  let c1024_i32 : BitVec 32 := 1024#32
  let c0_i32_15 : BitVec 32 := 0#32
  let v37 : BitVec 1 := Scalar.cmpi .sgt c1024_i32 c0_i32_15
  let v38 : BitVec 32 := Scalar.extui v37
  let c0_i32_16 : BitVec 32 := 0#32
  let v39 : BitVec 1 := Scalar.cmpi .slt c1024_i32 c0_i32_16
  let v40 : BitVec 32 := Scalar.extui v39
  let v41 : BitVec 32 := Scalar.subi v38 v40
  let v42 : BitVec 1 := Scalar.cmpi .ne v36 v41
  let v43 : BitVec 32 := Scalar.remsi v30 c1024_i32
  let c0_i32_17 : BitVec 32 := 0#32
  let v44 : BitVec 1 := Scalar.cmpi .ne v43 c0_i32_17
  let v45 : BitVec 1 := Scalar.andi v42 v44
  let v31 : BitVec 32 := Scalar.divsi v30 c1024_i32
  let c1_i32 : BitVec 32 := 1#32
  let v46 : BitVec 32 := Scalar.subi v31 c1_i32
  let v47 : BitVec 32 := Scalar.select v45 v46 v31
  let v48 : BitVec 32 := Scalar.subi v47 c0_i32_19
  let c1_i32_20 : BitVec 32 := 1#32
  let v50 : BitVec 32 := Scalar.divsi v48 c1_i32_20
  let v51 : BitVec 32 := Scalar.muli v50 c1_i32_20
  let v52 : BitVec 32 := Scalar.addi c0_i32_19 v51
  let c1_i32_22 : BitVec 32 := 1#32
  let arg10 : BitVec 32 := Scf.iv v52 c1_i32_22 k0_t2
  let c1024_i32_131 : BitVec 32 := 1024#32
  let v271 : BitVec 32 := Scalar.muli arg10 c1024_i32_131
  let v272 : BitVec 32 := v271
  let v273 : Index := Scalar.indexCast v272
  let c0_132 : Index := 0#32
  ![v273.toNat, 0]
def k0_mult3 (i : grid0.Coords) : BitVec 32 :=
  let arg1 : BitVec 32 := BitVec.ofNat 32 (i 1).val
  let c512_i32 : BitVec 32 := 512#32
  let v30 : BitVec 32 := Scalar.muli arg1 c512_i32
  let c0_i32_13 : BitVec 32 := 0#32
  let v32 : BitVec 1 := Scalar.cmpi .sgt v30 c0_i32_13
  let v33 : BitVec 32 := Scalar.extui v32
  let c0_i32_14 : BitVec 32 := 0#32
  let v34 : BitVec 1 := Scalar.cmpi .slt v30 c0_i32_14
  let v35 : BitVec 32 := Scalar.extui v34
  let v36 : BitVec 32 := Scalar.subi v33 v35
  let c1024_i32 : BitVec 32 := 1024#32
  let c0_i32_15 : BitVec 32 := 0#32
  let v37 : BitVec 1 := Scalar.cmpi .sgt c1024_i32 c0_i32_15
  let v38 : BitVec 32 := Scalar.extui v37
  let c0_i32_16 : BitVec 32 := 0#32
  let v39 : BitVec 1 := Scalar.cmpi .slt c1024_i32 c0_i32_16
  let v40 : BitVec 32 := Scalar.extui v39
  let v41 : BitVec 32 := Scalar.subi v38 v40
  let v42 : BitVec 1 := Scalar.cmpi .ne v36 v41
  let v43 : BitVec 32 := Scalar.remsi v30 c1024_i32
  let c0_i32_17 : BitVec 32 := 0#32
  let v44 : BitVec 1 := Scalar.cmpi .ne v43 c0_i32_17
  let v45 : BitVec 1 := Scalar.andi v42 v44
  let v31 : BitVec 32 := Scalar.divsi v30 c1024_i32
  let c1_i32 : BitVec 32 := 1#32
  let v46 : BitVec 32 := Scalar.subi v31 c1_i32
  let v47 : BitVec 32 := Scalar.select v45 v46 v31
  let c1024_i32_23 : BitVec 32 := 1024#32
  let v53 : BitVec 32 := Scalar.muli v47 c1024_i32_23
  v53
def k0_off3 (i : grid0.Coords) : Fin 2 → Nat :=
  let arg1 : BitVec 32 := BitVec.ofNat 32 (i 1).val
  let c512_i32 : BitVec 32 := 512#32
  let v30 : BitVec 32 := Scalar.muli arg1 c512_i32
  let c0_i32_13 : BitVec 32 := 0#32
  let v32 : BitVec 1 := Scalar.cmpi .sgt v30 c0_i32_13
  let v33 : BitVec 32 := Scalar.extui v32
  let c0_i32_14 : BitVec 32 := 0#32
  let v34 : BitVec 1 := Scalar.cmpi .slt v30 c0_i32_14
  let v35 : BitVec 32 := Scalar.extui v34
  let v36 : BitVec 32 := Scalar.subi v33 v35
  let c1024_i32 : BitVec 32 := 1024#32
  let c0_i32_15 : BitVec 32 := 0#32
  let v37 : BitVec 1 := Scalar.cmpi .sgt c1024_i32 c0_i32_15
  let v38 : BitVec 32 := Scalar.extui v37
  let c0_i32_16 : BitVec 32 := 0#32
  let v39 : BitVec 1 := Scalar.cmpi .slt c1024_i32 c0_i32_16
  let v40 : BitVec 32 := Scalar.extui v39
  let v41 : BitVec 32 := Scalar.subi v38 v40
  let v42 : BitVec 1 := Scalar.cmpi .ne v36 v41
  let v43 : BitVec 32 := Scalar.remsi v30 c1024_i32
  let c0_i32_17 : BitVec 32 := 0#32
  let v44 : BitVec 1 := Scalar.cmpi .ne v43 c0_i32_17
  let v45 : BitVec 1 := Scalar.andi v42 v44
  let v31 : BitVec 32 := Scalar.divsi v30 c1024_i32
  let c1_i32 : BitVec 32 := 1#32
  let v46 : BitVec 32 := Scalar.subi v31 c1_i32
  let v47 : BitVec 32 := Scalar.select v45 v46 v31
  let c1024_i32_23 : BitVec 32 := 1024#32
  let v53 : BitVec 32 := Scalar.muli v47 c1024_i32_23
  let v54 : BitVec 32 := v53
  let v55 : Index := Scalar.indexCast v54
  let c0_24 : Index := 0#32
  ![v55.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 1 → Memref sig .tc .vmem S4x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8192x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S8192x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S8192x3840 : Shape := ⟨2, ![8192, 3840]⟩
abbrev S8192x1280 : Shape := ⟨2, ![8192, 1280]⟩
abbrev S4x64 : Shape := ⟨2, ![4, 64]⟩
abbrev S128 : Shape := ⟨1, ![128]⟩
abbrev S8192x512 : Shape := ⟨2, ![8192, 512]⟩
abbrev S8192x4x2x64 : Shape := ⟨4, ![8192, 4, 2, 64]⟩
abbrev S2x4x8192x64 : Shape := ⟨4, ![2, 4, 8192, 64]⟩
abbrev S8192x4x128 : Shape := ⟨3, ![8192, 4, 128]⟩
abbrev S4x8192x128 : Shape := ⟨3, ![4, 8192, 128]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S1x1x8192x8192 : Shape := ⟨4, ![1, 1, 8192, 8192]⟩
abbrev S2x4x8192x8192 : Shape := ⟨4, ![2, 4, 8192, 8192]⟩
abbrev S_ : Shape := ⟨0, ![]⟩
abbrev S2x4x8192 : Shape := ⟨3, ![2, 4, 8192]⟩
abbrev S2x4x8192x1 : Shape := ⟨4, ![2, 4, 8192, 1]⟩
abbrev S1x64 : Shape := ⟨2, ![1, 64]⟩
abbrev S64 : Shape := ⟨1, ![64]⟩
abbrev S1x4x8192x8192 : Shape := ⟨4, ![1, 4, 8192, 8192]⟩
abbrev S4x8192x8192 : Shape := ⟨3, ![4, 8192, 8192]⟩
abbrev S4x8192 : Shape := ⟨2, ![4, 8192]⟩
abbrev S4x8192x1 : Shape := ⟨3, ![4, 8192, 1]⟩
abbrev S1x1x128 : Shape := ⟨3, ![1, 1, 128]⟩

abbrev nBuf : Space → Nat
  | .hbm => 95
  | .vmem => 0
  | .smem => 0
  | _ => 0

abbrev bufTy : (tb : Table) → Fin (tcTables nBuf tb) → BufTy
  | .hbm, ⟨0, _⟩ => ⟨S8192x3840, .bf16⟩
  | .hbm, ⟨1, _⟩ => ⟨S8192x1280, .bf16⟩
  | .hbm, ⟨2, _⟩ => ⟨S4x64, .f32⟩
  | .hbm, ⟨3, _⟩ => ⟨S128, .f32⟩
  | .hbm, ⟨4, _⟩ => ⟨S8192x512, .bf16⟩
  | .hbm, ⟨5, _⟩ => ⟨S8192x512, .f32⟩
  | .hbm, ⟨6, _⟩ => ⟨S8192x4x2x64, .f32⟩
  | .hbm, ⟨7, _⟩ => ⟨S2x4x8192x64, .f32⟩
  | .hbm, ⟨8, _⟩ => ⟨S8192x512, .bf16⟩
  | .hbm, ⟨9, _⟩ => ⟨S8192x512, .f32⟩
  | .hbm, ⟨10, _⟩ => ⟨S8192x4x2x64, .f32⟩
  | .hbm, ⟨11, _⟩ => ⟨S2x4x8192x64, .f32⟩
  | .hbm, ⟨12, _⟩ => ⟨S8192x512, .bf16⟩
  | .hbm, ⟨13, _⟩ => ⟨S8192x512, .f32⟩
  | .hbm, ⟨14, _⟩ => ⟨S8192x4x128, .f32⟩
  | .hbm, ⟨15, _⟩ => ⟨S4x8192x128, .f32⟩
  | .hbm, ⟨16, _⟩ => ⟨S8192, .i32⟩
  | .hbm, ⟨17, _⟩ => ⟨S1x8192, .i32⟩
  | .hbm, ⟨18, _⟩ => ⟨S8192x1, .i32⟩
  | .hbm, ⟨19, _⟩ => ⟨S8192x8192, .i32⟩
  | .hbm, ⟨20, _⟩ => ⟨S8192x8192, .i32⟩
  | .hbm, ⟨21, _⟩ => ⟨S8192x8192, .i1⟩
  | .hbm, ⟨22, _⟩ => ⟨S1x1x8192x8192, .i1⟩
  | .hbm, ⟨23, _⟩ => ⟨S2x4x8192x8192, .f32⟩
  | .hbm, ⟨24, _⟩ => ⟨S_, .f32⟩
  | .hbm, ⟨25, _⟩ => ⟨S2x4x8192x8192, .f32⟩
  | .hbm, ⟨26, _⟩ => ⟨S2x4x8192x8192, .f32⟩
  | .hbm, ⟨27, _⟩ => ⟨S_, .f32⟩
  | .hbm, ⟨28, _⟩ => ⟨S_, .f32⟩
  | .hbm, ⟨29, _⟩ => ⟨S2x4x8192x8192, .i1⟩
  | .hbm, ⟨30, _⟩ => ⟨S2x4x8192x8192, .f32⟩
  | .hbm, ⟨31, _⟩ => ⟨S2x4x8192x8192, .f32⟩
  | .hbm, ⟨32, _⟩ => ⟨S_, .f32⟩
  | .hbm, ⟨33, _⟩ => ⟨S2x4x8192, .f32⟩
  | .hbm, ⟨34, _⟩ => ⟨S_, .f32⟩
  | .hbm, ⟨35, _⟩ => ⟨S2x4x8192, .f32⟩
  | .hbm, ⟨36, _⟩ => ⟨S2x4x8192, .f32⟩
  | .hbm, ⟨37, _⟩ => ⟨S2x4x8192x1, .f32⟩
  | .hbm, ⟨38, _⟩ => ⟨S2x4x8192x8192, .f32⟩
  | .hbm, ⟨39, _⟩ => ⟨S2x4x8192x8192, .f32⟩
  | .hbm, ⟨40, _⟩ => ⟨S2x4x8192x8192, .f32⟩
  | .hbm, ⟨41, _⟩ => ⟨S_, .f32⟩
  | .hbm, ⟨42, _⟩ => ⟨S2x4x8192, .f32⟩
  | .hbm, ⟨43, _⟩ => ⟨S2x4x8192x1, .f32⟩
  | .hbm, ⟨44, _⟩ => ⟨S2x4x8192x8192, .f32⟩
  | .hbm, ⟨45, _⟩ => ⟨S2x4x8192x8192, .f32⟩
  | .hbm, ⟨46, _⟩ => ⟨S1x64, .f32⟩
  | .hbm, ⟨47, _⟩ => ⟨S64, .f32⟩
  | .hbm, ⟨48, _⟩ => ⟨S1x64, .f32⟩
  | .hbm, ⟨49, _⟩ => ⟨S64, .f32⟩
  | .hbm, ⟨50, _⟩ => ⟨S64, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S1x64, .f32⟩
  | .hbm, ⟨55, _⟩ => ⟨S64, .f32⟩
  | .hbm, ⟨56, _⟩ => ⟨S1x64, .f32⟩
  | .hbm, ⟨57, _⟩ => ⟨S64, .f32⟩
  | .hbm, ⟨58, _⟩ => ⟨S64, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S1x4x8192x8192, .f32⟩
  | .hbm, ⟨66, _⟩ => ⟨S4x8192x8192, .f32⟩
  | .hbm, ⟨67, _⟩ => ⟨S1x4x8192x8192, .f32⟩
  | .hbm, ⟨68, _⟩ => ⟨S4x8192x8192, .f32⟩
  | .hbm, ⟨69, _⟩ => ⟨S4x8192x8192, .f32⟩
  | .hbm, ⟨70, _⟩ => ⟨S4x8192x8192, .f32⟩
  | .hbm, ⟨71, _⟩ => ⟨S4x8192x8192, .f32⟩
  | .hbm, ⟨72, _⟩ => ⟨S4x8192x128, .f32⟩
  | .hbm, ⟨73, _⟩ => ⟨S4x8192x128, .f32⟩
  | .hbm, ⟨74, _⟩ => ⟨S_, .f32⟩
  | .hbm, ⟨75, _⟩ => ⟨S4x8192, .f32⟩
  | .hbm, ⟨76, _⟩ => ⟨S4x8192x1, .f32⟩
  | .hbm, ⟨77, _⟩ => ⟨S_, .f32⟩
  | .hbm, ⟨78, _⟩ => ⟨S4x8192x1, .f32⟩
  | .hbm, ⟨79, _⟩ => ⟨S4x8192x1, .f32⟩
  | .hbm, ⟨80, _⟩ => ⟨S_, .f32⟩
  | .hbm, ⟨81, _⟩ => ⟨S4x8192x1, .f32⟩
  | .hbm, ⟨82, _⟩ => ⟨S4x8192x1, .f32⟩
  | .hbm, ⟨83, _⟩ => ⟨S4x8192x1, .f32⟩
  | .hbm, ⟨84, _⟩ => ⟨S4x8192x128, .f32⟩
  | .hbm, ⟨85, _⟩ => ⟨S4x8192x128, .f32⟩
  | .hbm, ⟨86, _⟩ => ⟨S1x1x128, .f32⟩
  | .hbm, ⟨87, _⟩ => ⟨S4x8192x128, .f32⟩
  | .hbm, ⟨88, _⟩ => ⟨S4x8192x128, .f32⟩
  | .hbm, ⟨89, _⟩ => ⟨S_, .f32⟩
  | .hbm, ⟨90, _⟩ => ⟨S4x8192x128, .f32⟩
  | .hbm, ⟨91, _⟩ => ⟨S4x8192x128, .f32⟩
  | .hbm, ⟨92, _⟩ => ⟨S8192x4x128, .f32⟩
  | .hbm, ⟨93, _⟩ => ⟨S8192x512, .f32⟩
  | .hbm, ⟨94, _⟩ => ⟨S8192x512, .bf16⟩
  | _, _ => ⟨S8192x3840, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_cst : Ref sig .tc := ⟨.hbm, 24, rfl⟩
abbrev main_v20 : Ref sig .tc := ⟨.hbm, 25, rfl⟩
abbrev main_v21 : Ref sig .tc := ⟨.hbm, 26, rfl⟩
abbrev main_cst_0 : Ref sig .tc := ⟨.hbm, 27, rfl⟩
abbrev main_call0_v0 : Ref sig .tc := ⟨.hbm, 28, rfl⟩
abbrev main_call0_v1 : Ref sig .tc := ⟨.hbm, 29, rfl⟩
abbrev main_call0_v2 : Ref sig .tc := ⟨.hbm, 30, rfl⟩
abbrev main_v22 : Ref sig .tc := ⟨.hbm, 31, rfl⟩
abbrev main_cst_1 : Ref sig .tc := ⟨.hbm, 32, rfl⟩
abbrev main_v23 : Ref sig .tc := ⟨.hbm, 33, rfl⟩
abbrev main_cst_2 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_3 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_cst_4 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_cst_5 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_cst_6 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_cst_7 : Ref sig .tc := ⟨.hbm, 74, rfl⟩
abbrev main_v59 : Ref sig .tc := ⟨.hbm, 75, rfl⟩
abbrev main_v60 : Ref sig .tc := ⟨.hbm, 76, rfl⟩
abbrev main_cst_8 : Ref sig .tc := ⟨.hbm, 77, rfl⟩
abbrev main_v61 : Ref sig .tc := ⟨.hbm, 78, rfl⟩
abbrev main_v62 : Ref sig .tc := ⟨.hbm, 79, rfl⟩
abbrev main_cst_9 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_cst_10 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩

abbrev nD : Nat := 1
abbrev τ : Topo := Topo.v7x

variable {F : FTy → Type} [FloatOps F]
-- ==== Rope.lean ====
abbrev S8192x2048 : Shape := ⟨2, ![8192, 2048]⟩
abbrev S2048x5064 : Shape := ⟨2, ![2048, 5064]⟩
abbrev S2048x512 : Shape := ⟨2, ![2048, 512]⟩
abbrev S2048x128 : Shape := ⟨2, ![2048, 128]⟩
abbrev S2048x64 : Shape := ⟨2, ![2048, 64]⟩
abbrev S2048x3840 : Shape := ⟨2, ![2048, 3840]⟩
abbrev S_ : Shape := ⟨0, ![]⟩
abbrev S2048x1280 : Shape := ⟨2, ![2048, 1280]⟩
abbrev S2048x120 : Shape := ⟨2, ![2048, 120]⟩
abbrev S2048x8 : Shape := ⟨2, ![2048, 8]⟩
abbrev S32 : Shape := ⟨1, ![32]⟩
abbrev S8192 : Shape := ⟨1, ![8192]⟩
abbrev S8192x1 : Shape := ⟨2, ![8192, 1]⟩
abbrev S1x32 : Shape := ⟨2, ![1, 32]⟩
abbrev S8192x32 : Shape := ⟨2, ![8192, 32]⟩
abbrev S8192x64 : Shape := ⟨2, ![8192, 64]⟩
abbrev S1x8192x1x64 : Shape := ⟨4, ![1, 8192, 1, 64]⟩
abbrev S1x8192x12x64 : Shape := ⟨4, ![1, 8192, 12, 64]⟩
abbrev S8192x768 : Shape := ⟨2, ![8192, 768]⟩
abbrev S8192x3840 : Shape := ⟨2, ![8192, 3840]⟩
abbrev S512x2048 : Shape := ⟨2, ![512, 2048]⟩
abbrev S2048x768 : Shape := ⟨2, ![2048, 768]⟩
abbrev S512x768 : Shape := ⟨2, ![512, 768]⟩
abbrev S512x128 : Shape := ⟨2, ![512, 128]⟩

abbrev nBuf : Space → Nat
  | .hbm => 59
  | .vmem => 13
  | .smem => 0
  | _ => 0

abbrev bufTy : (tb : Table) → Fin (tcTables nBuf tb) → BufTy
  | .hbm, ⟨0, _⟩ => ⟨S8192x2048, .f32⟩
  | .hbm, ⟨1, _⟩ => ⟨S2048x5064, .f32⟩
  | .hbm, ⟨2, _⟩ => ⟨S2048x512, .f32⟩
  | .hbm, ⟨3, _⟩ => ⟨S2048x512, .f32⟩
  | .hbm, ⟨4, _⟩ => ⟨S2048x512, .f32⟩
  | .hbm, ⟨5, _⟩ => ⟨S2048x512, .f32⟩
  | .hbm, ⟨6, _⟩ => ⟨S2048x512, .f32⟩
  | .hbm, ⟨7, _⟩ => ⟨S2048x512, .f32⟩
  | .hbm, ⟨8, _⟩ => ⟨S2048x512, .f32⟩
  | .hbm, ⟨9, _⟩ => ⟨S2048x128, .f32⟩
  | .hbm, ⟨10, _⟩ => ⟨S2048x64, .f32⟩
  | .hbm, ⟨11, _⟩ => ⟨S2048x64, .f32⟩
  | .hbm, ⟨12, _⟩ => ⟨S2048x3840, .f32⟩
  | .hbm, ⟨13, _⟩ => ⟨S2048x3840, .bf16⟩
  | .hbm, ⟨14, _⟩ => ⟨S_, .f32⟩
  | .hbm, ⟨15, _⟩ => ⟨S2048x64, .f32⟩
  | .hbm, ⟨16, _⟩ => ⟨S2048x512, .f32⟩
  | .hbm, ⟨17, _⟩ => ⟨S2048x512, .f32⟩
  | .hbm, ⟨18, _⟩ => ⟨S2048x128, .f32⟩
  | .hbm, ⟨19, _⟩ => ⟨S2048x64, .f32⟩
  | .hbm, ⟨20, _⟩ => ⟨S2048x1280, .f32⟩
  | .hbm, ⟨21, _⟩ => ⟨S2048x1280, .bf16⟩
  | .hbm, ⟨22, _⟩ => ⟨S_, .f32⟩
  | .hbm, ⟨23, _⟩ => ⟨S2048x120, .f32⟩
  | .hbm, ⟨24, _⟩ => ⟨S2048x8, .f32⟩
  | .hbm, ⟨25, _⟩ => ⟨S2048x128, .f32⟩
  | .hbm, ⟨26, _⟩ => ⟨S2048x128, .bf16⟩
  | .hbm, ⟨27, _⟩ => ⟨S32, .f32⟩
  | .hbm, ⟨28, _⟩ => ⟨S32, .f32⟩
  | .hbm, ⟨29, _⟩ => ⟨S_, .f32⟩
  | .hbm, ⟨30, _⟩ => ⟨S32, .f32⟩
  | .hbm, ⟨31, _⟩ => ⟨S32, .f32⟩
  | .hbm, ⟨32, _⟩ => ⟨S_, .f32⟩
  | .hbm, ⟨33, _⟩ => ⟨S32, .f32⟩
  | .hbm, ⟨34, _⟩ => ⟨S32, .f32⟩
  | .hbm, ⟨35, _⟩ => ⟨S8192, .f32⟩
  | .hbm, ⟨36, _⟩ => ⟨S8192x1, .f32⟩
  | .hbm, ⟨37, _⟩ => ⟨S1x32, .f32⟩
  | .hbm, ⟨38, _⟩ => ⟨S8192x32, .f32⟩
  | .hbm, ⟨39, _⟩ => ⟨S8192x32, .f32⟩
  | .hbm, ⟨40, _⟩ => ⟨S8192x32, .f32⟩
  | .hbm, ⟨41, _⟩ => ⟨S8192x32, .f32⟩
  | .hbm, ⟨42, _⟩ => ⟨S8192x32, .f32⟩
  | .hbm, ⟨43, _⟩ => ⟨S_, .f32⟩
  | .hbm, ⟨44, _⟩ => ⟨S8192x32, .f32⟩
  | .hbm, ⟨45, _⟩ => ⟨S8192x64, .f32⟩
  | .hbm, ⟨46, _⟩ => ⟨S1x8192x1x64, .f32⟩
  | .hbm, ⟨47, _⟩ => ⟨S1x8192x12x64, .f32⟩
  | .hbm, ⟨48, _⟩ => ⟨S8192x768, .f32⟩
  | .hbm, ⟨49, _⟩ => ⟨S8192x32, .f32⟩
  | .hbm, ⟨50, _⟩ => ⟨S8192x64, .f32⟩
  | .hbm, ⟨51, _⟩ => ⟨S1x8192x1x64, .f32⟩
  | .hbm, ⟨52, _⟩ => ⟨S1x8192x12x64, .f32⟩
  | .hbm, ⟨53, _⟩ => ⟨S8192x768, .f32⟩
  | .hbm, ⟨54, _⟩ => ⟨S8192x64, .f32⟩
  | .hbm, ⟨55, _⟩ => ⟨S1x8192x1x64, .f32⟩
  | .hbm, ⟨56, _⟩ => ⟨S1x8192x12x64, .f32⟩
  | .hbm, ⟨57, _⟩ => ⟨S8192x768, .f32⟩
  | .hbm, ⟨58, _⟩ => ⟨S8192x3840, .bf16⟩
  | .local _ .vmem, ⟨0, _⟩ => ⟨S512x2048, .f32⟩
  | .local _ .vmem, ⟨1, _⟩ => ⟨S512x2048, .f32⟩
  | .local _ .vmem, ⟨2, _⟩ => ⟨S2048x768, .bf16⟩
  | .local _ .vmem, ⟨3, _⟩ => ⟨S2048x768, .bf16⟩
  | .local _ .vmem, ⟨4, _⟩ => ⟨S512x768, .f32⟩
  | .local _ .vmem, ⟨5, _⟩ => ⟨S512x768, .f32⟩
  | .local _ .vmem, ⟨6, _⟩ => ⟨S512x768, .f32⟩
  | .local _ .vmem, ⟨7, _⟩ => ⟨S512x768, .f32⟩
  | .local _ .vmem, ⟨8, _⟩ => ⟨S512x768, .f32⟩
  | .local _ .vmem, ⟨9, _⟩ => ⟨S512x768, .f32⟩
  | .local _ .vmem, ⟨10, _⟩ => ⟨S512x768, .bf16⟩
  | .local _ .vmem, ⟨11, _⟩ => ⟨S512x768, .bf16⟩
  | .local _ .vmem, ⟨12, _⟩ => ⟨S512x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_cst : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_cst_0 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_cst_1 : Ref sig .tc := ⟨.hbm, 29, rfl⟩
abbrev main_v25 : Ref sig .tc := ⟨.hbm, 30, rfl⟩
abbrev main_v26 : Ref sig .tc := ⟨.hbm, 31, rfl⟩
abbrev main_cst_2 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_cst_3 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![16, 5], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x768 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== RopeReferenceIdeal.lean ====
abbrev S8192x2048 : Shape := ⟨2, ![8192, 2048]⟩
abbrev S2048x5064 : Shape := ⟨2, ![2048, 5064]⟩
abbrev S8192x5064 : Shape := ⟨2, ![8192, 5064]⟩
abbrev S8192x512 : Shape := ⟨2, ![8192, 512]⟩
abbrev S8192x128 : Shape := ⟨2, ![8192, 128]⟩
abbrev S8192x64 : Shape := ⟨2, ![8192, 64]⟩
abbrev S8192x8 : Shape := ⟨2, ![8192, 8]⟩
abbrev S32 : Shape := ⟨1, ![32]⟩
abbrev S_ : Shape := ⟨0, ![]⟩
abbrev S8192 : Shape := ⟨1, ![8192]⟩
abbrev S8192x1 : Shape := ⟨2, ![8192, 1]⟩
abbrev S1x32 : Shape := ⟨2, ![1, 32]⟩
abbrev S8192x32 : Shape := ⟨2, ![8192, 32]⟩
abbrev S8192x3840 : Shape := ⟨2, ![8192, 3840]⟩
abbrev S8192x60x64 : Shape := ⟨3, ![8192, 60, 64]⟩
abbrev S60x8192x64 : Shape := ⟨3, ![60, 8192, 64]⟩
abbrev S60x8192x32 : Shape := ⟨3, ![60, 8192, 32]⟩
abbrev S1x8192x32 : Shape := ⟨3, ![1, 8192, 32]⟩

abbrev nBuf : Space → Nat
  | .hbm => 57
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x5064, .f32⟩
  | .hbm, ⟨2, _⟩ => ⟨S8192x5064, .f32⟩
  | .hbm, ⟨3, _⟩ => ⟨S8192x512, .f32⟩
  | .hbm, ⟨4, _⟩ => ⟨S8192x128, .f32⟩
  | .hbm, ⟨5, _⟩ => ⟨S8192x128, .f32⟩
  | .hbm, ⟨6, _⟩ => ⟨S8192x512, .f32⟩
  | .hbm, ⟨7, _⟩ => ⟨S8192x512, .f32⟩
  | .hbm, ⟨8, _⟩ => ⟨S8192x512, .f32⟩
  | .hbm, ⟨9, _⟩ => ⟨S8192x512, .f32⟩
  | .hbm, ⟨10, _⟩ => ⟨S8192x512, .f32⟩
  | .hbm, ⟨11, _⟩ => ⟨S8192x512, .f32⟩
  | .hbm, ⟨12, _⟩ => ⟨S8192x512, .f32⟩
  | .hbm, ⟨13, _⟩ => ⟨S8192x64, .f32⟩
  | .hbm, ⟨14, _⟩ => ⟨S8192x64, .f32⟩
  | .hbm, ⟨15, _⟩ => ⟨S8192x512, .f32⟩
  | .hbm, ⟨16, _⟩ => ⟨S8192x64, .f32⟩
  | .hbm, ⟨17, _⟩ => ⟨S8192x8, .f32⟩
  | .hbm, ⟨18, _⟩ => ⟨S32, .f32⟩
  | .hbm, ⟨19, _⟩ => ⟨S32, .f32⟩
  | .hbm, ⟨20, _⟩ => ⟨S_, .f32⟩
  | .hbm, ⟨21, _⟩ => ⟨S32, .f32⟩
  | .hbm, ⟨22, _⟩ => ⟨S32, .f32⟩
  | .hbm, ⟨23, _⟩ => ⟨S_, .f32⟩
  | .hbm, ⟨24, _⟩ => ⟨S32, .f32⟩
  | .hbm, ⟨25, _⟩ => ⟨S32, .f32⟩
  | .hbm, ⟨26, _⟩ => ⟨S8192, .f32⟩
  | .hbm, ⟨27, _⟩ => ⟨S8192x1, .f32⟩
  | .hbm, ⟨28, _⟩ => ⟨S1x32, .f32⟩
  | .hbm, ⟨29, _⟩ => ⟨S8192x32, .f32⟩
  | .hbm, ⟨30, _⟩ => ⟨S8192x32, .f32⟩
  | .hbm, ⟨31, _⟩ => ⟨S8192x32, .f32⟩
  | .hbm, ⟨32, _⟩ => ⟨S8192x3840, .f32⟩
  | .hbm, ⟨33, _⟩ => ⟨S8192x60x64, .f32⟩
  | .hbm, ⟨34, _⟩ => ⟨S60x8192x64, .f32⟩
  | .hbm, ⟨35, _⟩ => ⟨S8192x32, .f32⟩
  | .hbm, ⟨36, _⟩ => ⟨S8192x32, .f32⟩
  | .hbm, ⟨37, _⟩ => ⟨S60x8192x32, .f32⟩
  | .hbm, ⟨38, _⟩ => ⟨S60x8192x32, .f32⟩
  | .hbm, ⟨39, _⟩ => ⟨S1x8192x32, .f32⟩
  | .hbm, ⟨40, _⟩ => ⟨S60x8192x32, .f32⟩
  | .hbm, ⟨41, _⟩ => ⟨S60x8192x32, .f32⟩
  | .hbm, ⟨42, _⟩ => ⟨S1x8192x32, .f32⟩
  | .hbm, ⟨43, _⟩ => ⟨S60x8192x32, .f32⟩
  | .hbm, ⟨44, _⟩ => ⟨S60x8192x32, .f32⟩
  | .hbm, ⟨45, _⟩ => ⟨S60x8192x32, .f32⟩
  | .hbm, ⟨46, _⟩ => ⟨S1x8192x32, .f32⟩
  | .hbm, ⟨47, _⟩ => ⟨S60x8192x32, .f32⟩
  | .hbm, ⟨48, _⟩ => ⟨S60x8192x32, .f32⟩
  | .hbm, ⟨49, _⟩ => ⟨S1x8192x32, .f32⟩
  | .hbm, ⟨50, _⟩ => ⟨S60x8192x32, .f32⟩
  | .hbm, ⟨51, _⟩ => ⟨S60x8192x32, .f32⟩
  | .hbm, ⟨52, _⟩ => ⟨S60x8192x32, .f32⟩
  | .hbm, ⟨53, _⟩ => ⟨S60x8192x64, .f32⟩
  | .hbm, ⟨54, _⟩ => ⟨S8192x60x64, .f32⟩
  | .hbm, ⟨55, _⟩ => ⟨S8192x3840, .f32⟩
  | .hbm, ⟨56, _⟩ => ⟨S8192x3840, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_cst : Ref sig .tc := ⟨.hbm, 20, rfl⟩
abbrev main_v18 : Ref sig .tc := ⟨.hbm, 21, rfl⟩
abbrev main_v19 : Ref sig .tc := ⟨.hbm, 22, rfl⟩
abbrev main_cst_0 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_v38 : Ref sig .tc := ⟨.hbm, 42, rfl⟩
abbrev main_v39 : Ref sig .tc := ⟨.hbm, 43, rfl⟩
abbrev main_v40 : Ref sig .tc := ⟨.hbm, 44, rfl⟩
abbrev main_v41 : Ref sig .tc := ⟨.hbm, 45, rfl⟩
abbrev main_v42 : Ref sig .tc := ⟨.hbm, 46, rfl⟩
abbrev main_v43 : Ref sig .tc := ⟨.hbm, 47, rfl⟩
abbrev main_v44 : Ref sig .tc := ⟨.hbm, 48, rfl⟩
abbrev main_v45 : Ref sig .tc := ⟨.hbm, 49, rfl⟩
abbrev main_v46 : Ref sig .tc := ⟨.hbm, 50, rfl⟩
abbrev main_v47 : Ref sig .tc := ⟨.hbm, 51, rfl⟩
abbrev main_v48 : Ref sig .tc := ⟨.hbm, 52, rfl⟩
abbrev main_v49 : Ref sig .tc := ⟨.hbm, 53, rfl⟩
abbrev main_v50 : Ref sig .tc := ⟨.hbm, 54, rfl⟩
abbrev main_v51 : Ref sig .tc := ⟨.hbm, 55, rfl⟩
abbrev main_v52 : Ref sig .tc := ⟨.hbm, 56, rfl⟩

abbrev nD : Nat := 1
abbrev τ : Topo := Topo.v7x

variable {F : FTy → Type} [FloatOps F]
-- ==== Val.lean ====
abbrev S8192x2048 : Shape := ⟨2, ![8192, 2048]⟩
abbrev S2048x5064 : Shape := ⟨2, ![2048, 5064]⟩
abbrev S2048x512 : Shape := ⟨2, ![2048, 512]⟩
abbrev S2048x128 : Shape := ⟨2, ![2048, 128]⟩
abbrev S2048x64 : Shape := ⟨2, ![2048, 64]⟩
abbrev S2048x3840 : Shape := ⟨2, ![2048, 3840]⟩
abbrev S_ : Shape := ⟨0, ![]⟩
abbrev S2048x1280 : Shape := ⟨2, ![2048, 1280]⟩
abbrev S2048x120 : Shape := ⟨2, ![2048, 120]⟩
abbrev S2048x8 : Shape := ⟨2, ![2048, 8]⟩
abbrev S8192x1280 : Shape := ⟨2, ![8192, 1280]⟩
abbrev S512x2048 : Shape := ⟨2, ![512, 2048]⟩
abbrev S2048x640 : Shape := ⟨2, ![2048, 640]⟩
abbrev S512x640 : Shape := ⟨2, ![512, 640]⟩

abbrev nBuf : Space → Nat
  | .hbm => 28
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S2048x5064, .f32⟩
  | .hbm, ⟨2, _⟩ => ⟨S2048x512, .f32⟩
  | .hbm, ⟨3, _⟩ => ⟨S2048x512, .f32⟩
  | .hbm, ⟨4, _⟩ => ⟨S2048x512, .f32⟩
  | .hbm, ⟨5, _⟩ => ⟨S2048x512, .f32⟩
  | .hbm, ⟨6, _⟩ => ⟨S2048x512, .f32⟩
  | .hbm, ⟨7, _⟩ => ⟨S2048x512, .f32⟩
  | .hbm, ⟨8, _⟩ => ⟨S2048x512, .f32⟩
  | .hbm, ⟨9, _⟩ => ⟨S2048x128, .f32⟩
  | .hbm, ⟨10, _⟩ => ⟨S2048x64, .f32⟩
  | .hbm, ⟨11, _⟩ => ⟨S2048x64, .f32⟩
  | .hbm, ⟨12, _⟩ => ⟨S2048x3840, .f32⟩
  | .hbm, ⟨13, _⟩ => ⟨S2048x3840, .bf16⟩
  | .hbm, ⟨14, _⟩ => ⟨S_, .f32⟩
  | .hbm, ⟨15, _⟩ => ⟨S2048x64, .f32⟩
  | .hbm, ⟨16, _⟩ => ⟨S2048x512, .f32⟩
  | .hbm, ⟨17, _⟩ => ⟨S2048x512, .f32⟩
  | .hbm, ⟨18, _⟩ => ⟨S2048x128, .f32⟩
  | .hbm, ⟨19, _⟩ => ⟨S2048x64, .f32⟩
  | .hbm, ⟨20, _⟩ => ⟨S2048x1280, .f32⟩
  | .hbm, ⟨21, _⟩ => ⟨S2048x1280, .bf16⟩
  | .hbm, ⟨22, _⟩ => ⟨S_, .f32⟩
  | .hbm, ⟨23, _⟩ => ⟨S2048x120, .f32⟩
  | .hbm, ⟨24, _⟩ => ⟨S2048x8, .f32⟩
  | .hbm, ⟨25, _⟩ => ⟨S2048x128, .f32⟩
  | .hbm, ⟨26, _⟩ => ⟨S2048x128, .bf16⟩
  | .hbm, ⟨27, _⟩ => ⟨S8192x1280, .bf16⟩
  | .local _ .vmem, ⟨0, _⟩ => ⟨S512x2048, .f32⟩
  | .local _ .vmem, ⟨1, _⟩ => ⟨S512x2048, .f32⟩
  | .local _ .vmem, ⟨2, _⟩ => ⟨S2048x640, .bf16⟩
  | .local _ .vmem, ⟨3, _⟩ => ⟨S2048x640, .bf16⟩
  | .local _ .vmem, ⟨4, _⟩ => ⟨S512x640, .bf16⟩
  | .local _ .vmem, ⟨5, _⟩ => ⟨S512x640, .bf16⟩
  | .local _ .vmem, ⟨6, _⟩ => ⟨S512x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_cst : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_cst_0 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x640 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x640 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ValReferenceIdeal.lean ====
abbrev S8192x2048 : Shape := ⟨2, ![8192, 2048]⟩
abbrev S2048x5064 : Shape := ⟨2, ![2048, 5064]⟩
abbrev S8192x5064 : Shape := ⟨2, ![8192, 5064]⟩
abbrev S8192x512 : Shape := ⟨2, ![8192, 512]⟩
abbrev S8192x128 : Shape := ⟨2, ![8192, 128]⟩
abbrev S8192x64 : Shape := ⟨2, ![8192, 64]⟩
abbrev S8192x8 : Shape := ⟨2, ![8192, 8]⟩
abbrev S_ : Shape := ⟨0, ![]⟩
abbrev S8192x1280 : Shape := ⟨2, ![8192, 1280]⟩

abbrev nBuf : Space → Nat
  | .hbm => 22
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x5064, .f32⟩
  | .hbm, ⟨2, _⟩ => ⟨S8192x5064, .f32⟩
  | .hbm, ⟨3, _⟩ => ⟨S8192x512, .f32⟩
  | .hbm, ⟨4, _⟩ => ⟨S8192x128, .f32⟩
  | .hbm, ⟨5, _⟩ => ⟨S8192x128, .f32⟩
  | .hbm, ⟨6, _⟩ => ⟨S8192x512, .f32⟩
  | .hbm, ⟨7, _⟩ => ⟨S8192x512, .f32⟩
  | .hbm, ⟨8, _⟩ => ⟨S8192x512, .f32⟩
  | .hbm, ⟨9, _⟩ => ⟨S8192x512, .f32⟩
  | .hbm, ⟨10, _⟩ => ⟨S8192x512, .f32⟩
  | .hbm, ⟨11, _⟩ => ⟨S8192x512, .f32⟩
  | .hbm, ⟨12, _⟩ => ⟨S8192x512, .f32⟩
  | .hbm, ⟨13, _⟩ => ⟨S8192x64, .f32⟩
  | .hbm, ⟨14, _⟩ => ⟨S8192x64, .f32⟩
  | .hbm, ⟨15, _⟩ => ⟨S8192x512, .f32⟩
  | .hbm, ⟨16, _⟩ => ⟨S8192x64, .f32⟩
  | .hbm, ⟨17, _⟩ => ⟨S8192x8, .f32⟩
  | .hbm, ⟨18, _⟩ => ⟨S_, .f32⟩
  | .hbm, ⟨19, _⟩ => ⟨S8192x64, .f32⟩
  | .hbm, ⟨20, _⟩ => ⟨S8192x1280, .f32⟩
  | .hbm, ⟨21, _⟩ => ⟨S8192x1280, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_cst : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩

abbrev nD : Nat := 1
abbrev τ : Topo := Topo.v7x

variable {F : FTy → Type} [FloatOps F]
-- ==== Iw.lean ====
abbrev S8192x2048 : Shape := ⟨2, ![8192, 2048]⟩
abbrev S2048x5064 : Shape := ⟨2, ![2048, 5064]⟩
abbrev S2048x512 : Shape := ⟨2, ![2048, 512]⟩
abbrev S2048x128 : Shape := ⟨2, ![2048, 128]⟩
abbrev S2048x64 : Shape := ⟨2, ![2048, 64]⟩
abbrev S2048x3840 : Shape := ⟨2, ![2048, 3840]⟩
abbrev S_ : Shape := ⟨0, ![]⟩
abbrev S2048x1280 : Shape := ⟨2, ![2048, 1280]⟩
abbrev S2048x120 : Shape := ⟨2, ![2048, 120]⟩
abbrev S2048x8 : Shape := ⟨2, ![2048, 8]⟩
abbrev S8192x128 : Shape := ⟨2, ![8192, 128]⟩
abbrev S512x2048 : Shape := ⟨2, ![512, 2048]⟩
abbrev S512x128 : Shape := ⟨2, ![512, 128]⟩

abbrev nBuf : Space → Nat
  | .hbm => 28
  | .vmem => 6
  | .smem => 0
  | _ => 0

abbrev bufTy : (tb : Table) → Fin (tcTables nBuf tb) → BufTy
  | .hbm, ⟨0, _⟩ => ⟨S8192x2048, .f32⟩
  | .hbm, ⟨1, _⟩ => ⟨S2048x5064, .f32⟩
  | .hbm, ⟨2, _⟩ => ⟨S2048x512, .f32⟩
  | .hbm, ⟨3, _⟩ => ⟨S2048x512, .f32⟩
  | .hbm, ⟨4, _⟩ => ⟨S2048x512, .f32⟩
  | .hbm, ⟨5, _⟩ => ⟨S2048x512, .f32⟩
  | .hbm, ⟨6, _⟩ => ⟨S2048x512, .f32⟩
  | .hbm, ⟨7, _⟩ => ⟨S2048x512, .f32⟩
  | .hbm, ⟨8, _⟩ => ⟨S2048x512, .f32⟩
  | .hbm, ⟨9, _⟩ => ⟨S2048x128, .f32⟩
  | .hbm, ⟨10, _⟩ => ⟨S2048x64, .f32⟩
  | .hbm, ⟨11, _⟩ => ⟨S2048x64, .f32⟩
  | .hbm, ⟨12, _⟩ => ⟨S2048x3840, .f32⟩
  | .hbm, ⟨13, _⟩ => ⟨S2048x3840, .bf16⟩
  | .hbm, ⟨14, _⟩ => ⟨S_, .f32⟩
  | .hbm, ⟨15, _⟩ => ⟨S2048x64, .f32⟩
  | .hbm, ⟨16, _⟩ => ⟨S2048x512, .f32⟩
  | .hbm, ⟨17, _⟩ => ⟨S2048x512, .f32⟩
  | .hbm, ⟨18, _⟩ => ⟨S2048x128, .f32⟩
  | .hbm, ⟨19, _⟩ => ⟨S2048x64, .f32⟩
  | .hbm, ⟨20, _⟩ => ⟨S2048x1280, .f32⟩
  | .hbm, ⟨21, _⟩ => ⟨S2048x1280, .bf16⟩
  | .hbm, ⟨22, _⟩ => ⟨S_, .f32⟩
  | .hbm, ⟨23, _⟩ => ⟨S2048x120, .f32⟩
  | .hbm, ⟨24, _⟩ => ⟨S2048x8, .f32⟩
  | .hbm, ⟨25, _⟩ => ⟨S2048x128, .f32⟩
  | .hbm, ⟨26, _⟩ => ⟨S2048x128, .bf16⟩
  | .hbm, ⟨27, _⟩ => ⟨S8192x128, .f32⟩
  | .local _ .vmem, ⟨0, _⟩ => ⟨S512x2048, .f32⟩
  | .local _ .vmem, ⟨1, _⟩ => ⟨S512x2048, .f32⟩
  | .local _ .vmem, ⟨2, _⟩ => ⟨S2048x128, .bf16⟩
  | .local _ .vmem, ⟨3, _⟩ => ⟨S512x128, .f32⟩
  | .local _ .vmem, ⟨4, _⟩ => ⟨S512x128, .f32⟩
  | .local _ .vmem, ⟨5, _⟩ => ⟨S512x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_cst : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_cst_0 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== IwReferenceIdeal.lean ====
abbrev S8192x2048 : Shape := ⟨2, ![8192, 2048]⟩
abbrev S2048x5064 : Shape := ⟨2, ![2048, 5064]⟩
abbrev S8192x5064 : Shape := ⟨2, ![8192, 5064]⟩
abbrev S8192x512 : Shape := ⟨2, ![8192, 512]⟩
abbrev S8192x128 : Shape := ⟨2, ![8192, 128]⟩
abbrev S8192x64 : Shape := ⟨2, ![8192, 64]⟩
abbrev S8192x8 : Shape := ⟨2, ![8192, 8]⟩
abbrev S_ : Shape := ⟨0, ![]⟩
abbrev S8192x120 : Shape := ⟨2, ![8192, 120]⟩

abbrev nBuf : Space → Nat
  | .hbm => 21
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x5064, .f32⟩
  | .hbm, ⟨2, _⟩ => ⟨S8192x5064, .f32⟩
  | .hbm, ⟨3, _⟩ => ⟨S8192x512, .f32⟩
  | .hbm, ⟨4, _⟩ => ⟨S8192x128, .f32⟩
  | .hbm, ⟨5, _⟩ => ⟨S8192x128, .f32⟩
  | .hbm, ⟨6, _⟩ => ⟨S8192x512, .f32⟩
  | .hbm, ⟨7, _⟩ => ⟨S8192x512, .f32⟩
  | .hbm, ⟨8, _⟩ => ⟨S8192x512, .f32⟩
  | .hbm, ⟨9, _⟩ => ⟨S8192x512, .f32⟩
  | .hbm, ⟨10, _⟩ => ⟨S8192x512, .f32⟩
  | .hbm, ⟨11, _⟩ => ⟨S8192x512, .f32⟩
  | .hbm, ⟨12, _⟩ => ⟨S8192x512, .f32⟩
  | .hbm, ⟨13, _⟩ => ⟨S8192x64, .f32⟩
  | .hbm, ⟨14, _⟩ => ⟨S8192x64, .f32⟩
  | .hbm, ⟨15, _⟩ => ⟨S8192x512, .f32⟩
  | .hbm, ⟨16, _⟩ => ⟨S8192x64, .f32⟩
  | .hbm, ⟨17, _⟩ => ⟨S8192x8, .f32⟩
  | .hbm, ⟨18, _⟩ => ⟨S_, .f32⟩
  | .hbm, ⟨19, _⟩ => ⟨S8192x120, .f32⟩
  | .hbm, ⟨20, _⟩ => ⟨S8192x128, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_cst : Ref sig .tc := ⟨.hbm, 18, rfl⟩
abbrev main_v16 : Ref sig .tc := ⟨.hbm, 19, rfl⟩
abbrev main_v17 : Ref sig .tc := ⟨.hbm, 20, rfl⟩

abbrev nD : Nat := 1
abbrev τ : Topo := Topo.v7x

variable {F : FTy → Type} [FloatOps F]
-- ==== Swa.lean ====
abbrev S8192x3840 : Shape := ⟨2, ![8192, 3840]⟩
abbrev S8192x1280 : Shape := ⟨2, ![8192, 1280]⟩
abbrev S8 : Shape := ⟨1, ![8]⟩
abbrev S1x8192x3840 : Shape := ⟨3, ![1, 8192, 3840]⟩
abbrev S1x8192x1280 : Shape := ⟨3, ![1, 8192, 1280]⟩
abbrev S1x8192x512 : Shape := ⟨3, ![1, 8192, 512]⟩
abbrev S1x128x512 : Shape := ⟨3, ![1, 128, 512]⟩
abbrev S1x128x128 : Shape := ⟨3, ![1, 128, 128]⟩
abbrev S128x512 : Shape := ⟨2, ![128, 512]⟩
abbrev S128x128 : Shape := ⟨2, ![128, 128]⟩
abbrev S256x128 : Shape := ⟨2, ![256, 128]⟩
abbrev S128x256 : Shape := ⟨2, ![128, 256]⟩
abbrev S256x64 : Shape := ⟨2, ![256, 64]⟩
abbrev S128x64 : Shape := ⟨2, ![128, 64]⟩
abbrev S128 : Shape := ⟨1, ![128]⟩
abbrev S128x1 : Shape := ⟨2, ![128, 1]⟩
abbrev S1 : Shape := ⟨1, ![1]⟩

abbrev nBuf : Space → Nat
  | .hbm => 7
  | .vmem => 12
  | .smem => 1
  | _ => 0

abbrev bufTy : (tb : Table) → Fin (tcTables nBuf tb) → BufTy
  | .hbm, ⟨0, _⟩ => ⟨S8192x3840, .bf16⟩
  | .hbm, ⟨1, _⟩ => ⟨S8192x1280, .bf16⟩
  | .hbm, ⟨2, _⟩ => ⟨S8, .f32⟩
  | .hbm, ⟨3, _⟩ => ⟨S1x8192x3840, .bf16⟩
  | .hbm, ⟨4, _⟩ => ⟨S1x8192x3840, .bf16⟩
  | .hbm, ⟨5, _⟩ => ⟨S1x8192x1280, .bf16⟩
  | .hbm, ⟨6, _⟩ => ⟨S1x8192x512, .bf16⟩
  | .local _ .vmem, ⟨0, _⟩ => ⟨S1x128x512, .bf16⟩
  | .local _ .vmem, ⟨1, _⟩ => ⟨S1x128x512, .bf16⟩
  | .local _ .vmem, ⟨2, _⟩ => ⟨S1x128x128, .bf16⟩
  | .local _ .vmem, ⟨3, _⟩ => ⟨S1x128x128, .bf16⟩
  | .local _ .vmem, ⟨4, _⟩ => ⟨S1x128x128, .bf16⟩
  | .local _ .vmem, ⟨5, _⟩ => ⟨S1x128x128, .bf16⟩
  | .local _ .vmem, ⟨6, _⟩ => ⟨S1x128x128, .bf16⟩
  | .local _ .vmem, ⟨7, _⟩ => ⟨S1x128x128, .bf16⟩
  | .local _ .vmem, ⟨8, _⟩ => ⟨S1x128x128, .bf16⟩
  | .local _ .vmem, ⟨9, _⟩ => ⟨S1x128x128, .bf16⟩
  | .local _ .vmem, ⟨10, _⟩ => ⟨S1x128x512, .bf16⟩
  | .local _ .vmem, ⟨11, _⟩ => ⟨S1x128x512, .bf16⟩
  | .local _ .smem, ⟨0, _⟩ => ⟨S8, .f32⟩
  | _, _ => ⟨S8192x3840, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .smem, ⟨0, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![1, 64], ![false, false]⟩

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c28_i32 : BitVec 32 := 28#32
  let c0_i32_0 : BitVec 32 := 0#32
  ![arg0.toNat, v1.toNat, c28_i32.toNat]

def cc0_transform_3 (i : grid0.Coords) : Fin 3 → Nat :=
  let arg0 : BitVec 32 := BitVec.ofNat 32 (i 0).val
  let arg1 : BitVec 32 := BitVec.ofNat 32 (i 1).val
  let c28_i32 : BitVec 32 := 28#32
  let c0_i32 : BitVec 32 := 0#32
  ![arg0.toNat, arg1.toNat, c28_i32.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c8_i32 : BitVec 32 := 8#32
  let c0_i32_0 : BitVec 32 := 0#32
  ![arg0.toNat, v1.toNat, c8_i32.toNat]

def cc0_transform_5 (i : grid0.Coords) : Fin 3 → Nat :=
  let arg0 : BitVec 32 := BitVec.ofNat 32 (i 0).val
  let arg1 : BitVec 32 := BitVec.ofNat 32 (i 1).val
  let c8_i32 : BitVec 32 := 8#32
  let c0_i32 : BitVec 32 := 0#32
  ![arg0.toNat, arg1.toNat, c8_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x128x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== SwaIdeal.lean ====
variable {F : FTy → Type} [FloatOps F] [Named F]
def κ : String → Option EReal := fun
  | "mask" => some ⊥
  | _ => none
-- ==== SwaReferenceIdeal.lean ====
abbrev S8192x3840 : Shape := ⟨2, ![8192, 3840]⟩
abbrev S8192x1280 : Shape := ⟨2, ![8192, 1280]⟩
abbrev S8 : Shape := ⟨1, ![8]⟩
abbrev S8192x512 : Shape := ⟨2, ![8192, 512]⟩
abbrev S8192x8x64 : Shape := ⟨3, ![8192, 8, 64]⟩
abbrev S8x8192x64 : Shape := ⟨3, ![8, 8192, 64]⟩
abbrev S8192x128 : Shape := ⟨2, ![8192, 128]⟩
abbrev S8192x2x64 : Shape := ⟨3, ![8192, 2, 64]⟩
abbrev S2x8192x64 : Shape := ⟨3, ![2, 8192, 64]⟩
abbrev S2x4x8192x64 : Shape := ⟨4, ![2, 4, 8192, 64]⟩
abbrev S2x4x64x128x64 : Shape := ⟨5, ![2, 4, 64, 128, 64]⟩
abbrev S_ : Shape := ⟨0, ![]⟩
abbrev S2x128x64 : Shape := ⟨3, ![2, 128, 64]⟩
abbrev S2x8320x64 : Shape := ⟨3, ![2, 8320, 64]⟩
abbrev S2x65x128x64 : Shape := ⟨4, ![2, 65, 128, 64]⟩
abbrev S2x64x128x64 : Shape := ⟨4, ![2, 64, 128, 64]⟩
abbrev S2x64x256x64 : Shape := ⟨4, ![2, 64, 256, 64]⟩
abbrev S2x64x256x4x128 : Shape := ⟨5, ![2, 64, 256, 4, 128]⟩
abbrev S2x4x64x128x256 : Shape := ⟨5, ![2, 4, 64, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S64 : Shape := ⟨1, ![64]⟩
abbrev S64x1x1 : Shape := ⟨3, ![64, 1, 1]⟩
abbrev S1x1x256 : Shape := ⟨3, ![1, 1, 256]⟩
abbrev S64x1x256 : Shape := ⟨3, ![64, 1, 256]⟩
abbrev S1x128x256 : Shape := ⟨3, ![1, 128, 256]⟩
abbrev S64x128x256 : Shape := ⟨3, ![64, 128, 256]⟩
abbrev S2x4x64x128 : Shape := ⟨4, ![2, 4, 64, 128]⟩
abbrev S2x4x64x128x1 : Shape := ⟨5, ![2, 4, 64, 128, 1]⟩
abbrev S2x64x64x4x128 : Shape := ⟨5, ![2, 64, 64, 4, 128]⟩
abbrev S2x4x8192 : Shape := ⟨3, ![2, 4, 8192]⟩
abbrev S2x4x1 : Shape := ⟨3, ![2, 4, 1]⟩
abbrev S2x4x8192x1 : Shape := ⟨4, ![2, 4, 8192, 1]⟩
abbrev S1x8192x512 : Shape := ⟨3, ![1, 8192, 512]⟩

abbrev nBuf : Space → Nat
  | .hbm => 108
  | .vmem => 0
  | .smem => 0
  | _ => 0

abbrev bufTy : (tb : Table) → Fin (tcTables nBuf tb) → BufTy
  | .hbm, ⟨0, _⟩ => ⟨S8192x3840, .bf16⟩
  | .hbm, ⟨1, _⟩ => ⟨S8192x1280, .bf16⟩
  | .hbm, ⟨2, _⟩ => ⟨S8, .f32⟩
  | .hbm, ⟨3, _⟩ => ⟨S8192x512, .bf16⟩
  | .hbm, ⟨4, _⟩ => ⟨S8192x512, .f32⟩
  | .hbm, ⟨5, _⟩ => ⟨S8192x8x64, .f32⟩
  | .hbm, ⟨6, _⟩ => ⟨S8x8192x64, .f32⟩
  | .hbm, ⟨7, _⟩ => ⟨S8192x128, .bf16⟩
  | .hbm, ⟨8, _⟩ => ⟨S8192x128, .f32⟩
  | .hbm, ⟨9, _⟩ => ⟨S8192x2x64, .f32⟩
  | .hbm, ⟨10, _⟩ => ⟨S2x8192x64, .f32⟩
  | .hbm, ⟨11, _⟩ => ⟨S8192x128, .bf16⟩
  | .hbm, ⟨12, _⟩ => ⟨S8192x128, .f32⟩
  | .hbm, ⟨13, _⟩ => ⟨S8192x2x64, .f32⟩
  | .hbm, ⟨14, _⟩ => ⟨S2x8192x64, .f32⟩
  | .hbm, ⟨15, _⟩ => ⟨S2x4x8192x64, .f32⟩
  | .hbm, ⟨16, _⟩ => ⟨S2x4x64x128x64, .f32⟩
  | .hbm, ⟨17, _⟩ => ⟨S_, .f32⟩
  | .hbm, ⟨18, _⟩ => ⟨S2x128x64, .f32⟩
  | .hbm, ⟨19, _⟩ => ⟨S2x8320x64, .f32⟩
  | .hbm, ⟨20, _⟩ => ⟨S2x65x128x64, .f32⟩
  | .hbm, ⟨21, _⟩ => ⟨S2x64x128x64, .f32⟩
  | .hbm, ⟨22, _⟩ => ⟨S2x64x128x64, .f32⟩
  | .hbm, ⟨23, _⟩ => ⟨S2x64x256x64, .f32⟩
  | .hbm, ⟨24, _⟩ => ⟨S_, .f32⟩
  | .hbm, ⟨25, _⟩ => ⟨S2x128x64, .f32⟩
  | .hbm, ⟨26, _⟩ => ⟨S2x8320x64, .f32⟩
  | .hbm, ⟨27, _⟩ => ⟨S2x65x128x64, .f32⟩
  | .hbm, ⟨28, _⟩ => ⟨S2x64x128x64, .f32⟩
  | .hbm, ⟨29, _⟩ => ⟨S2x64x128x64, .f32⟩
  | .hbm, ⟨30, _⟩ => ⟨S2x64x256x64, .f32⟩
  | .hbm, ⟨31, _⟩ => ⟨S2x64x256x4x128, .f32⟩
  | .hbm, ⟨32, _⟩ => ⟨S2x4x64x128x256, .f32⟩
  | .hbm, ⟨33, _⟩ => ⟨S_, .f32⟩
  | .hbm, ⟨34, _⟩ => ⟨S2x4x64x128x256, .f32⟩
  | .hbm, ⟨35, _⟩ => ⟨S2x4x64x128x256, .f32⟩
  | .hbm, ⟨36, _⟩ => ⟨S128, .i32⟩
  | .hbm, ⟨37, _⟩ => ⟨S128x1, .i32⟩
  | .hbm, ⟨38, _⟩ => ⟨S_, .i32⟩
  | .hbm, ⟨39, _⟩ => ⟨S128x1, .i32⟩
  | .hbm, ⟨40, _⟩ => ⟨S128x1, .i32⟩
  | .hbm, ⟨41, _⟩ => ⟨S256, .i32⟩
  | .hbm, ⟨42, _⟩ => ⟨S1x256, .i32⟩
  | .hbm, ⟨43, _⟩ => ⟨S128x256, .i32⟩
  | .hbm, ⟨44, _⟩ => ⟨S128x256, .i32⟩
  | .hbm, ⟨45, _⟩ => ⟨S128x256, .i32⟩
  | .hbm, ⟨46, _⟩ => ⟨S64, .i32⟩
  | .hbm, ⟨47, _⟩ => ⟨S64x1x1, .i32⟩
  | .hbm, ⟨48, _⟩ => ⟨S_, .i32⟩
  | .hbm, ⟨49, _⟩ => ⟨S64x1x1, .i32⟩
  | .hbm, ⟨50, _⟩ => ⟨S64x1x1, .i32⟩
  | .hbm, ⟨51, _⟩ => ⟨S_, .i32⟩
  | .hbm, ⟨52, _⟩ => ⟨S64x1x1, .i32⟩
  | .hbm, ⟨53, _⟩ => ⟨S64x1x1, .i32⟩
  | .hbm, ⟨54, _⟩ => ⟨S1x1x256, .i32⟩
  | .hbm, ⟨55, _⟩ => ⟨S64x1x256, .i32⟩
  | .hbm, ⟨56, _⟩ => ⟨S64x1x256, .i32⟩
  | .hbm, ⟨57, _⟩ => ⟨S64x1x256, .i32⟩
  | .hbm, ⟨58, _⟩ => ⟨S_, .i32⟩
  | .hbm, ⟨59, _⟩ => ⟨S128x256, .i32⟩
  | .hbm, ⟨60, _⟩ => ⟨S128x256, .i1⟩
  | .hbm, ⟨61, _⟩ => ⟨S_, .i32⟩
  | .hbm, ⟨62, _⟩ => ⟨S128x256, .i32⟩
  | .hbm, ⟨63, _⟩ => ⟨S128x256, .i1⟩
  | .hbm, ⟨64, _⟩ => ⟨S128x256, .i1⟩
  | .hbm, ⟨65, _⟩ => ⟨S1x128x256, .i1⟩
  | .hbm, ⟨66, _⟩ => ⟨S_, .i32⟩
  | .hbm, ⟨67, _⟩ => ⟨S64x1x256, .i32⟩
  | .hbm, ⟨68, _⟩ => ⟨S64x1x256, .i1⟩
  | .hbm, ⟨69, _⟩ => ⟨S64x128x256, .i1⟩
  | .hbm, ⟨70, _⟩ => ⟨S64x128x256, .i1⟩
  | .hbm, ⟨71, _⟩ => ⟨S64x128x256, .i1⟩
  | .hbm, ⟨72, _⟩ => ⟨S_, .f32⟩
  | .hbm, ⟨73, _⟩ => ⟨S_, .f32⟩
  | .hbm, ⟨74, _⟩ => ⟨S2x4x64x128x256, .i1⟩
  | .hbm, ⟨75, _⟩ => ⟨S2x4x64x128x256, .f32⟩
  | .hbm, ⟨76, _⟩ => ⟨S2x4x64x128x256, .f32⟩
  | .hbm, ⟨77, _⟩ => ⟨S_, .f32⟩
  | .hbm, ⟨78, _⟩ => ⟨S2x4x64x128, .f32⟩
  | .hbm, ⟨79, _⟩ => ⟨S2x4x64x128x1, .f32⟩
  | .hbm, ⟨80, _⟩ => ⟨S2x4x64x128x256, .f32⟩
  | .hbm, ⟨81, _⟩ => ⟨S2x4x64x128x256, .f32⟩
  | .hbm, ⟨82, _⟩ => ⟨S2x4x64x128x256, .f32⟩
  | .hbm, ⟨83, _⟩ => ⟨S_, .f32⟩
  | .hbm, ⟨84, _⟩ => ⟨S2x4x64x128, .f32⟩
  | .hbm, ⟨85, _⟩ => ⟨S2x64x64x4x128, .f32⟩
  | .hbm, ⟨86, _⟩ => ⟨S2x4x64x128x64, .f32⟩
  | .hbm, ⟨87, _⟩ => ⟨S2x4x8192x64, .f32⟩
  | .hbm, ⟨88, _⟩ => ⟨S2x4x8192, .f32⟩
  | .hbm, ⟨89, _⟩ => ⟨S2x4x8192, .f32⟩
  | .hbm, ⟨90, _⟩ => ⟨S2x4x1, .f32⟩
  | .hbm, ⟨91, _⟩ => ⟨S2x4x8192, .f32⟩
  | .hbm, ⟨92, _⟩ => ⟨S2x4x8192, .f32⟩
  | .hbm, ⟨93, _⟩ => ⟨S2x4x8192, .f32⟩
  | .hbm, ⟨94, _⟩ => ⟨S2x4x8192, .f32⟩
  | .hbm, ⟨95, _⟩ => ⟨S2x4x8192, .f32⟩
  | .hbm, ⟨96, _⟩ => ⟨S2x4x8192, .f32⟩
  | .hbm, ⟨97, _⟩ => ⟨S2x4x8192, .f32⟩
  | .hbm, ⟨98, _⟩ => ⟨S2x4x8192, .f32⟩
  | .hbm, ⟨99, _⟩ => ⟨S2x4x8192, .f32⟩
  | .hbm, ⟨100, _⟩ => ⟨S2x4x8192, .f32⟩
  | .hbm, ⟨101, _⟩ => ⟨S2x4x8192x1, .f32⟩
  | .hbm, ⟨102, _⟩ => ⟨S2x4x8192x64, .f32⟩
  | .hbm, ⟨103, _⟩ => ⟨S2x4x8192x64, .f32⟩
  | .hbm, ⟨104, _⟩ => ⟨S8x8192x64, .f32⟩
  | .hbm, ⟨105, _⟩ => ⟨S8192x8x64, .f32⟩
  | .hbm, ⟨106, _⟩ => ⟨S1x8192x512, .f32⟩
  | .hbm, ⟨107, _⟩ => ⟨S1x8192x512, .bf16⟩
  | _, _ => ⟨S8192x3840, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_cst : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_cst_0 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_cst_1 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_c : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_c_2 : Ref sig .tc := ⟨.hbm, 48, rfl⟩
abbrev main_v41 : Ref sig .tc := ⟨.hbm, 49, rfl⟩
abbrev main_v42 : Ref sig .tc := ⟨.hbm, 50, rfl⟩
abbrev main_c_3 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_c_4 : Ref sig .tc := ⟨.hbm, 58, rfl⟩
abbrev main_v49 : Ref sig .tc := ⟨.hbm, 59, rfl⟩
abbrev main_v50 : Ref sig .tc := ⟨.hbm, 60, rfl⟩
abbrev main_c_5 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_c_6 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_cst_7 : Ref sig .tc := ⟨.hbm, 72, rfl⟩
abbrev main_call0_v0 : Ref sig .tc := ⟨.hbm, 73, rfl⟩
abbrev main_call0_v1 : Ref sig .tc := ⟨.hbm, 74, rfl⟩
abbrev main_call0_v2 : Ref sig .tc := ⟨.hbm, 75, rfl⟩
abbrev main_v60 : Ref sig .tc := ⟨.hbm, 76, rfl⟩
abbrev main_cst_8 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_cst_9 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩
abbrev main_v88 : Ref sig .tc := ⟨.hbm, 106, rfl⟩
abbrev main_v89 : Ref sig .tc := ⟨.hbm, 107, rfl⟩

abbrev nD : Nat := 1
abbrev τ : Topo := Topo.v7x

variable {F : FTy → Type} [FloatOps F]
-- ==== Band.lean ====
abbrev S8192x3840 : Shape := ⟨2, ![8192, 3840]⟩
abbrev S8192x1280 : Shape := ⟨2, ![8192, 1280]⟩
abbrev S8192x1024 : Shape := ⟨2, ![8192, 1024]⟩
abbrev S8192x512 : Shape := ⟨2, ![8192, 512]⟩
abbrev S8192x1536 : Shape := ⟨2, ![8192, 1536]⟩
abbrev S8192x1x1536 : Shape := ⟨3, ![8192, 1, 1536]⟩
abbrev S1x8192x1536 : Shape := ⟨3, ![1, 8192, 1536]⟩
abbrev S1x8192x640 : Shape := ⟨3, ![1, 8192, 640]⟩
abbrev S1x128x512 : Shape := ⟨3, ![1, 128, 512]⟩
abbrev S1x128x640 : Shape := ⟨3, ![1, 128, 640]⟩
abbrev S128x512 : Shape := ⟨2, ![128, 512]⟩
abbrev S256x512 : Shape := ⟨2, ![256, 512]⟩
abbrev S128x256 : Shape := ⟨2, ![128, 256]⟩
abbrev S128x128 : Shape := ⟨2, ![128, 128]⟩
abbrev S256x64 : Shape := ⟨2, ![256, 64]⟩
abbrev S128x64 : Shape := ⟨2, ![128, 64]⟩
abbrev S128 : Shape := ⟨1, ![128]⟩
abbrev S128x1 : Shape := ⟨2, ![128, 1]⟩
abbrev S128x640 : Shape := ⟨2, ![128, 640]⟩

abbrev nBuf : Space → Nat
  | .hbm => 8
  | .vmem => 12
  | .smem => 0
  | _ => 0

abbrev bufTy : (tb : Table) → Fin (tcTables nBuf tb) → BufTy
  | .hbm, ⟨0, _⟩ => ⟨S8192x3840, .bf16⟩
  | .hbm, ⟨1, _⟩ => ⟨S8192x1280, .bf16⟩
  | .hbm, ⟨2, _⟩ => ⟨S8192x1024, .bf16⟩
  | .hbm, ⟨3, _⟩ => ⟨S8192x512, .bf16⟩
  | .hbm, ⟨4, _⟩ => ⟨S8192x1536, .bf16⟩
  | .hbm, ⟨5, _⟩ => ⟨S8192x1x1536, .bf16⟩
  | .hbm, ⟨6, _⟩ => ⟨S1x8192x1536, .bf16⟩
  | .hbm, ⟨7, _⟩ => ⟨S1x8192x640, .f32⟩
  | .local _ .vmem, ⟨0, _⟩ => ⟨S1x128x512, .bf16⟩
  | .local _ .vmem, ⟨1, _⟩ => ⟨S1x128x512, .bf16⟩
  | .local _ .vmem, ⟨2, _⟩ => ⟨S1x128x512, .bf16⟩
  | .local _ .vmem, ⟨3, _⟩ => ⟨S1x128x512, .bf16⟩
  | .local _ .vmem, ⟨4, _⟩ => ⟨S1x128x512, .bf16⟩
  | .local _ .vmem, ⟨5, _⟩ => ⟨S1x128x512, .bf16⟩
  | .local _ .vmem, ⟨6, _⟩ => ⟨S1x128x512, .bf16⟩
  | .local _ .vmem, ⟨7, _⟩ => ⟨S1x128x512, .bf16⟩
  | .local _ .vmem, ⟨8, _⟩ => ⟨S1x128x512, .bf16⟩
  | .local _ .vmem, ⟨9, _⟩ => ⟨S1x128x512, .bf16⟩
  | .local _ .vmem, ⟨10, _⟩ => ⟨S1x128x640, .f32⟩
  | .local _ .vmem, ⟨11, _⟩ => ⟨S1x128x640, .f32⟩
  | _, _ => ⟨S8192x3840, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![1, 64], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c1_i32_0 : BitVec 32 := 1#32
  let c0_i32_1 : BitVec 32 := 0#32
  ![arg0.toNat, v1.toNat, c1_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, arg1.toNat, c1_i32.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c2_i32 : BitVec 32 := 2#32
  let c0_i32_0 : BitVec 32 := 0#32
  ![arg0.toNat, v1.toNat, c2_i32.toNat]

def cc0_transform_4 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  ![arg0.toNat, arg1.toNat, c2_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x640 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== BandIdeal.lean ====
variable {F : FTy → Type} [FloatOps F] [Named F]
def κ : String → Option EReal := fun
  | "mask" => some ⊥
  | _ => none
-- ==== BandReferenceIdeal.lean ====
abbrev S8192x3840 : Shape := ⟨2, ![8192, 3840]⟩
abbrev S8192x1280 : Shape := ⟨2, ![8192, 1280]⟩
abbrev S8192x512 : Shape := ⟨2, ![8192, 512]⟩
abbrev S8192x8x64 : Shape := ⟨3, ![8192, 8, 64]⟩
abbrev S8x8192x64 : Shape := ⟨3, ![8, 8192, 64]⟩
abbrev S8x8192x1x64 : Shape := ⟨4, ![8, 8192, 1, 64]⟩
abbrev S1x8x8192x64 : Shape := ⟨4, ![1, 8, 8192, 64]⟩
abbrev S8x1x8192x64 : Shape := ⟨4, ![8, 1, 8192, 64]⟩
abbrev S8x1x64x128x64 : Shape := ⟨5, ![8, 1, 64, 128, 64]⟩
abbrev S_ : Shape := ⟨0, ![]⟩
abbrev S8x128x64 : Shape := ⟨3, ![8, 128, 64]⟩
abbrev S8x8320x64 : Shape := ⟨3, ![8, 8320, 64]⟩
abbrev S8x65x128x64 : Shape := ⟨4, ![8, 65, 128, 64]⟩
abbrev S8x64x128x64 : Shape := ⟨4, ![8, 64, 128, 64]⟩
abbrev S8x64x256x64 : Shape := ⟨4, ![8, 64, 256, 64]⟩
abbrev S8x64x256x1x128 : Shape := ⟨5, ![8, 64, 256, 1, 128]⟩
abbrev S8x1x64x128x256 : Shape := ⟨5, ![8, 1, 64, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S64 : Shape := ⟨1, ![64]⟩
abbrev S64x1x1 : Shape := ⟨3, ![64, 1, 1]⟩
abbrev S1x1x256 : Shape := ⟨3, ![1, 1, 256]⟩
abbrev S64x1x256 : Shape := ⟨3, ![64, 1, 256]⟩
abbrev S1x128x256 : Shape := ⟨3, ![1, 128, 256]⟩
abbrev S64x128x256 : Shape := ⟨3, ![64, 128, 256]⟩
abbrev S8x1x64x128 : Shape := ⟨4, ![8, 1, 64, 128]⟩
abbrev S8x1x64x128x1 : Shape := ⟨5, ![8, 1, 64, 128, 1]⟩
abbrev S8x64x64x1x128 : Shape := ⟨5, ![8, 64, 64, 1, 128]⟩
abbrev S8x1x8192 : Shape := ⟨3, ![8, 1, 8192]⟩
abbrev S8x1x8192x1 : Shape := ⟨4, ![8, 1, 8192, 1]⟩
abbrev S1x8192x8x64 : Shape := ⟨4, ![1, 8192, 8, 64]⟩
abbrev S1x8192x512 : Shape := ⟨3, ![1, 8192, 512]⟩
abbrev S1x8x8192 : Shape := ⟨3, ![1, 8, 8192]⟩
abbrev S1x8192x8 : Shape := ⟨3, ![1, 8192, 8]⟩
abbrev S1x8192x120 : Shape := ⟨3, ![1, 8192, 120]⟩
abbrev S1x8192x640 : Shape := ⟨3, ![1, 8192, 640]⟩

abbrev nBuf : Space → Nat
  | .hbm => 111
  | .vmem => 0
  | .smem => 0
  | _ => 0

abbrev bufTy : (tb : Table) → Fin (tcTables nBuf tb) → BufTy
  | .hbm, ⟨0, _⟩ => ⟨S8192x3840, .bf16⟩
  | .hbm, ⟨1, _⟩ => ⟨S8192x1280, .bf16⟩
  | .hbm, ⟨2, _⟩ => ⟨S8192x512, .bf16⟩
  | .hbm, ⟨3, _⟩ => ⟨S8192x512, .f32⟩
  | .hbm, ⟨4, _⟩ => ⟨S8192x8x64, .f32⟩
  | .hbm, ⟨5, _⟩ => ⟨S8x8192x64, .f32⟩
  | .hbm, ⟨6, _⟩ => ⟨S8192x512, .bf16⟩
  | .hbm, ⟨7, _⟩ => ⟨S8192x512, .f32⟩
  | .hbm, ⟨8, _⟩ => ⟨S8192x8x64, .f32⟩
  | .hbm, ⟨9, _⟩ => ⟨S8x8192x64, .f32⟩
  | .hbm, ⟨10, _⟩ => ⟨S8192x512, .bf16⟩
  | .hbm, ⟨11, _⟩ => ⟨S8192x512, .f32⟩
  | .hbm, ⟨12, _⟩ => ⟨S8192x8x64, .f32⟩
  | .hbm, ⟨13, _⟩ => ⟨S8x8192x64, .f32⟩
  | .hbm, ⟨14, _⟩ => ⟨S8x8192x1x64, .f32⟩
  | .hbm, ⟨15, _⟩ => ⟨S1x8x8192x64, .f32⟩
  | .hbm, ⟨16, _⟩ => ⟨S8x8192x64, .f32⟩
  | .hbm, ⟨17, _⟩ => ⟨S8x1x8192x64, .f32⟩
  | .hbm, ⟨18, _⟩ => ⟨S8x8192x1x64, .f32⟩
  | .hbm, ⟨19, _⟩ => ⟨S1x8x8192x64, .f32⟩
  | .hbm, ⟨20, _⟩ => ⟨S8x8192x64, .f32⟩
  | .hbm, ⟨21, _⟩ => ⟨S8x8192x1x64, .f32⟩
  | .hbm, ⟨22, _⟩ => ⟨S1x8x8192x64, .f32⟩
  | .hbm, ⟨23, _⟩ => ⟨S8x8192x64, .f32⟩
  | .hbm, ⟨24, _⟩ => ⟨S8x1x64x128x64, .f32⟩
  | .hbm, ⟨25, _⟩ => ⟨S_, .f32⟩
  | .hbm, ⟨26, _⟩ => ⟨S8x128x64, .f32⟩
  | .hbm, ⟨27, _⟩ => ⟨S8x8320x64, .f32⟩
  | .hbm, ⟨28, _⟩ => ⟨S8x65x128x64, .f32⟩
  | .hbm, ⟨29, _⟩ => ⟨S8x64x128x64, .f32⟩
  | .hbm, ⟨30, _⟩ => ⟨S8x64x128x64, .f32⟩
  | .hbm, ⟨31, _⟩ => ⟨S8x64x256x64, .f32⟩
  | .hbm, ⟨32, _⟩ => ⟨S_, .f32⟩
  | .hbm, ⟨33, _⟩ => ⟨S8x128x64, .f32⟩
  | .hbm, ⟨34, _⟩ => ⟨S8x8320x64, .f32⟩
  | .hbm, ⟨35, _⟩ => ⟨S8x65x128x64, .f32⟩
  | .hbm, ⟨36, _⟩ => ⟨S8x64x128x64, .f32⟩
  | .hbm, ⟨37, _⟩ => ⟨S8x64x128x64, .f32⟩
  | .hbm, ⟨38, _⟩ => ⟨S8x64x256x64, .f32⟩
  | .hbm, ⟨39, _⟩ => ⟨S8x64x256x1x128, .f32⟩
  | .hbm, ⟨40, _⟩ => ⟨S8x1x64x128x256, .f32⟩
  | .hbm, ⟨41, _⟩ => ⟨S_, .f32⟩
  | .hbm, ⟨42, _⟩ => ⟨S8x1x64x128x256, .f32⟩
  | .hbm, ⟨43, _⟩ => ⟨S8x1x64x128x256, .f32⟩
  | .hbm, ⟨44, _⟩ => ⟨S128, .i32⟩
  | .hbm, ⟨45, _⟩ => ⟨S128x1, .i32⟩
  | .hbm, ⟨46, _⟩ => ⟨S_, .i32⟩
  | .hbm, ⟨47, _⟩ => ⟨S128x1, .i32⟩
  | .hbm, ⟨48, _⟩ => ⟨S128x1, .i32⟩
  | .hbm, ⟨49, _⟩ => ⟨S256, .i32⟩
  | .hbm, ⟨50, _⟩ => ⟨S1x256, .i32⟩
  | .hbm, ⟨51, _⟩ => ⟨S128x256, .i32⟩
  | .hbm, ⟨52, _⟩ => ⟨S128x256, .i32⟩
  | .hbm, ⟨53, _⟩ => ⟨S128x256, .i32⟩
  | .hbm, ⟨54, _⟩ => ⟨S64, .i32⟩
  | .hbm, ⟨55, _⟩ => ⟨S64x1x1, .i32⟩
  | .hbm, ⟨56, _⟩ => ⟨S_, .i32⟩
  | .hbm, ⟨57, _⟩ => ⟨S64x1x1, .i32⟩
  | .hbm, ⟨58, _⟩ => ⟨S64x1x1, .i32⟩
  | .hbm, ⟨59, _⟩ => ⟨S_, .i32⟩
  | .hbm, ⟨60, _⟩ => ⟨S64x1x1, .i32⟩
  | .hbm, ⟨61, _⟩ => ⟨S64x1x1, .i32⟩
  | .hbm, ⟨62, _⟩ => ⟨S1x1x256, .i32⟩
  | .hbm, ⟨63, _⟩ => ⟨S64x1x256, .i32⟩
  | .hbm, ⟨64, _⟩ => ⟨S64x1x256, .i32⟩
  | .hbm, ⟨65, _⟩ => ⟨S64x1x256, .i32⟩
  | .hbm, ⟨66, _⟩ => ⟨S_, .i32⟩
  | .hbm, ⟨67, _⟩ => ⟨S128x256, .i32⟩
  | .hbm, ⟨68, _⟩ => ⟨S128x256, .i1⟩
  | .hbm, ⟨69, _⟩ => ⟨S_, .i32⟩
  | .hbm, ⟨70, _⟩ => ⟨S128x256, .i32⟩
  | .hbm, ⟨71, _⟩ => ⟨S128x256, .i1⟩
  | .hbm, ⟨72, _⟩ => ⟨S128x256, .i1⟩
  | .hbm, ⟨73, _⟩ => ⟨S1x128x256, .i1⟩
  | .hbm, ⟨74, _⟩ => ⟨S_, .i32⟩
  | .hbm, ⟨75, _⟩ => ⟨S64x1x256, .i32⟩
  | .hbm, ⟨76, _⟩ => ⟨S64x1x256, .i1⟩
  | .hbm, ⟨77, _⟩ => ⟨S64x128x256, .i1⟩
  | .hbm, ⟨78, _⟩ => ⟨S64x128x256, .i1⟩
  | .hbm, ⟨79, _⟩ => ⟨S64x128x256, .i1⟩
  | .hbm, ⟨80, _⟩ => ⟨S_, .f32⟩
  | .hbm, ⟨81, _⟩ => ⟨S_, .f32⟩
  | .hbm, ⟨82, _⟩ => ⟨S8x1x64x128x256, .i1⟩
  | .hbm, ⟨83, _⟩ => ⟨S8x1x64x128x256, .f32⟩
  | .hbm, ⟨84, _⟩ => ⟨S8x1x64x128x256, .f32⟩
  | .hbm, ⟨85, _⟩ => ⟨S_, .f32⟩
  | .hbm, ⟨86, _⟩ => ⟨S8x1x64x128, .f32⟩
  | .hbm, ⟨87, _⟩ => ⟨S8x1x64x128x1, .f32⟩
  | .hbm, ⟨88, _⟩ => ⟨S8x1x64x128x256, .f32⟩
  | .hbm, ⟨89, _⟩ => ⟨S8x1x64x128x256, .f32⟩
  | .hbm, ⟨90, _⟩ => ⟨S8x1x64x128x256, .f32⟩
  | .hbm, ⟨91, _⟩ => ⟨S_, .f32⟩
  | .hbm, ⟨92, _⟩ => ⟨S8x1x64x128, .f32⟩
  | .hbm, ⟨93, _⟩ => ⟨S8x64x64x1x128, .f32⟩
  | .hbm, ⟨94, _⟩ => ⟨S8x1x64x128x64, .f32⟩
  | .hbm, ⟨95, _⟩ => ⟨S8x1x8192x64, .f32⟩
  | .hbm, ⟨96, _⟩ => ⟨S8x1x8192, .f32⟩
  | .hbm, ⟨97, _⟩ => ⟨S8x1x8192, .f32⟩
  | .hbm, ⟨98, _⟩ => ⟨S8x1x8192x1, .f32⟩
  | .hbm, ⟨99, _⟩ => ⟨S8x1x8192x64, .f32⟩
  | .hbm, ⟨100, _⟩ => ⟨S8x1x8192x64, .f32⟩
  | .hbm, ⟨101, _⟩ => ⟨S1x8x8192x64, .f32⟩
  | .hbm, ⟨102, _⟩ => ⟨S1x8192x8x64, .f32⟩
  | .hbm, ⟨103, _⟩ => ⟨S1x8192x512, .f32⟩
  | .hbm, ⟨104, _⟩ => ⟨S8x1x8192, .f32⟩
  | .hbm, ⟨105, _⟩ => ⟨S8x1x8192, .f32⟩
  | .hbm, ⟨106, _⟩ => ⟨S1x8x8192, .f32⟩
  | .hbm, ⟨107, _⟩ => ⟨S1x8192x8, .f32⟩
  | .hbm, ⟨108, _⟩ => ⟨S_, .f32⟩
  | .hbm, ⟨109, _⟩ => ⟨S1x8192x120, .f32⟩
  | .hbm, ⟨110, _⟩ => ⟨S1x8192x640, .f32⟩
  | _, _ => ⟨S8192x3840, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩
abbrev main_v21 : Ref sig .tc := ⟨.hbm, 23, rfl⟩
abbrev main_v22 : Ref sig .tc := ⟨.hbm, 24, rfl⟩
abbrev main_cst : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_cst_0 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_cst_1 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_c : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩
abbrev main_c_2 : Ref sig .tc := ⟨.hbm, 56, rfl⟩
abbrev main_v50 : Ref sig .tc := ⟨.hbm, 57, rfl⟩
abbrev main_v51 : Ref sig .tc := ⟨.hbm, 58, rfl⟩
abbrev main_c_3 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_c_4 : Ref sig .tc := ⟨.hbm, 66, rfl⟩
abbrev main_v58 : Ref sig .tc := ⟨.hbm, 67, rfl⟩
abbrev main_v59 : Ref sig .tc := ⟨.hbm, 68, rfl⟩
abbrev main_c_5 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_c_6 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_cst_7 : Ref sig .tc := ⟨.hbm, 80, rfl⟩
abbrev main_call0_v0 : Ref sig .tc := ⟨.hbm, 81, rfl⟩
abbrev main_call0_v1 : Ref sig .tc := ⟨.hbm, 82, rfl⟩
abbrev main_call0_v2 : Ref sig .tc := ⟨.hbm, 83, rfl⟩
abbrev main_v69 : Ref sig .tc := ⟨.hbm, 84, rfl⟩
abbrev main_cst_8 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_cst_9 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩
abbrev main_v86 : Ref sig .tc := ⟨.hbm, 103, rfl⟩
abbrev main_v87 : Ref sig .tc := ⟨.hbm, 104, rfl⟩
abbrev main_v88 : Ref sig .tc := ⟨.hbm, 105, rfl⟩
abbrev main_v89 : Ref sig .tc := ⟨.hbm, 106, rfl⟩
abbrev main_v90 : Ref sig .tc := ⟨.hbm, 107, rfl⟩
abbrev main_cst_10 : Ref sig .tc := ⟨.hbm, 108, rfl⟩
abbrev main_v91 : Ref sig .tc := ⟨.hbm, 109, rfl⟩
abbrev main_v92 : Ref sig .tc := ⟨.hbm, 110, rfl⟩

abbrev nD : Nat := 1
abbrev τ : Topo := Topo.v7x

variable {F : FTy → Type} [FloatOps F]
-- ==== Band4.lean ====
abbrev S8192x3840 : Shape := ⟨2, ![8192, 3840]⟩
abbrev S8192x1280 : Shape := ⟨2, ![8192, 1280]⟩
abbrev S8192x1024 : Shape := ⟨2, ![8192, 1024]⟩
abbrev S8192x512 : Shape := ⟨2, ![8192, 512]⟩
abbrev S8192x1536 : Shape := ⟨2, ![8192, 1536]⟩
abbrev S2048x4x1536 : Shape := ⟨3, ![2048, 4, 1536]⟩
abbrev S4x2048x1536 : Shape := ⟨3, ![4, 2048, 1536]⟩
abbrev S4x2048x640 : Shape := ⟨3, ![4, 2048, 640]⟩
abbrev S1x128x512 : Shape := ⟨3, ![1, 128, 512]⟩
abbrev S1x128x640 : Shape := ⟨3, ![1, 128, 640]⟩
abbrev S128x512 : Shape := ⟨2, ![128, 512]⟩
abbrev S256x512 : Shape := ⟨2, ![256, 512]⟩
abbrev S128x256 : Shape := ⟨2, ![128, 256]⟩
abbrev S128x128 : Shape := ⟨2, ![128, 128]⟩
abbrev S256x64 : Shape := ⟨2, ![256, 64]⟩
abbrev S128x64 : Shape := ⟨2, ![128, 64]⟩
abbrev S128 : Shape := ⟨1, ![128]⟩
abbrev S128x1 : Shape := ⟨2, ![128, 1]⟩
abbrev S128x640 : Shape := ⟨2, ![128, 640]⟩
abbrev S2048x4x640 : Shape := ⟨3, ![2048, 4, 640]⟩
abbrev S8192x640 : Shape := ⟨2, ![8192, 640]⟩

abbrev nBuf : Space → Nat
  | .hbm => 10
  | .vmem => 12
  | .smem => 0
  | _ => 0

abbrev bufTy : (tb : Table) → Fin (tcTables nBuf tb) → BufTy
  | .hbm, ⟨0, _⟩ => ⟨S8192x3840, .bf16⟩
  | .hbm, ⟨1, _⟩ => ⟨S8192x1280, .bf16⟩
  | .hbm, ⟨2, _⟩ => ⟨S8192x1024, .bf16⟩
  | .hbm, ⟨3, _⟩ => ⟨S8192x512, .bf16⟩
  | .hbm, ⟨4, _⟩ => ⟨S8192x1536, .bf16⟩
  | .hbm, ⟨5, _⟩ => ⟨S2048x4x1536, .bf16⟩
  | .hbm, ⟨6, _⟩ => ⟨S4x2048x1536, .bf16⟩
  | .hbm, ⟨7, _⟩ => ⟨S4x2048x640, .f32⟩
  | .hbm, ⟨8, _⟩ => ⟨S2048x4x640, .f32⟩
  | .hbm, ⟨9, _⟩ => ⟨S8192x640, .f32⟩
  | .local _ .vmem, ⟨0, _⟩ => ⟨S1x128x512, .bf16⟩
  | .local _ .vmem, ⟨1, _⟩ => ⟨S1x128x512, .bf16⟩
  | .local _ .vmem, ⟨2, _⟩ => ⟨S1x128x512, .bf16⟩
  | .local _ .vmem, ⟨3, _⟩ => ⟨S1x128x512, .bf16⟩
  | .local _ .vmem, ⟨4, _⟩ => ⟨S1x128x512, .bf16⟩
  | .local _ .vmem, ⟨5, _⟩ => ⟨S1x128x512, .bf16⟩
  | .local _ .vmem, ⟨6, _⟩ => ⟨S1x128x512, .bf16⟩
  | .local _ .vmem, ⟨7, _⟩ => ⟨S1x128x512, .bf16⟩
  | .local _ .vmem, ⟨8, _⟩ => ⟨S1x128x512, .bf16⟩
  | .local _ .vmem, ⟨9, _⟩ => ⟨S1x128x512, .bf16⟩
  | .local _ .vmem, ⟨10, _⟩ => ⟨S1x128x640, .f32⟩
  | .local _ .vmem, ⟨11, _⟩ => ⟨S1x128x640, .f32⟩
  | _, _ => ⟨S8192x3840, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c1_i32_0 : BitVec 32 := 1#32
  let c0_i32_1 : BitVec 32 := 0#32
  ![arg0.toNat, v1.toNat, c1_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, arg1.toNat, c1_i32.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c2_i32 : BitVec 32 := 2#32
  let c0_i32_0 : BitVec 32 := 0#32
  ![arg0.toNat, v1.toNat, c2_i32.toNat]

def cc0_transform_4 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  ![arg0.toNat, arg1.toNat, c2_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x640 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Band4Ideal.lean ====
variable {F : FTy → Type} [FloatOps F] [Named F]
def κ : String → Option EReal := fun
  | "mask" => some ⊥
  | _ => none
-- ==== Band4ReferenceIdeal.lean ====
abbrev S8192x3840 : Shape := ⟨2, ![8192, 3840]⟩
abbrev S8192x1280 : Shape := ⟨2, ![8192, 1280]⟩
abbrev S8192x512 : Shape := ⟨2, ![8192, 512]⟩
abbrev S8192x8x64 : Shape := ⟨3, ![8192, 8, 64]⟩
abbrev S8x8192x64 : Shape := ⟨3, ![8, 8192, 64]⟩
abbrev S8x2048x4x64 : Shape := ⟨4, ![8, 2048, 4, 64]⟩
abbrev S4x8x2048x64 : Shape := ⟨4, ![4, 8, 2048, 64]⟩
abbrev S32x2048x64 : Shape := ⟨3, ![32, 2048, 64]⟩
abbrev S32x1x2048x64 : Shape := ⟨4, ![32, 1, 2048, 64]⟩
abbrev S32x1x16x128x64 : Shape := ⟨5, ![32, 1, 16, 128, 64]⟩
abbrev S_ : Shape := ⟨0, ![]⟩
abbrev S32x128x64 : Shape := ⟨3, ![32, 128, 64]⟩
abbrev S32x2176x64 : Shape := ⟨3, ![32, 2176, 64]⟩
abbrev S32x17x128x64 : Shape := ⟨4, ![32, 17, 128, 64]⟩
abbrev S32x16x128x64 : Shape := ⟨4, ![32, 16, 128, 64]⟩
abbrev S32x16x256x64 : Shape := ⟨4, ![32, 16, 256, 64]⟩
abbrev S32x16x256x1x128 : Shape := ⟨5, ![32, 16, 256, 1, 128]⟩
abbrev S32x1x16x128x256 : Shape := ⟨5, ![32, 1, 16, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S16 : Shape := ⟨1, ![16]⟩
abbrev S16x1x1 : Shape := ⟨3, ![16, 1, 1]⟩
abbrev S1x1x256 : Shape := ⟨3, ![1, 1, 256]⟩
abbrev S16x1x256 : Shape := ⟨3, ![16, 1, 256]⟩
abbrev S1x128x256 : Shape := ⟨3, ![1, 128, 256]⟩
abbrev S16x128x256 : Shape := ⟨3, ![16, 128, 256]⟩
abbrev S32x1x16x128 : Shape := ⟨4, ![32, 1, 16, 128]⟩
abbrev S32x1x16x128x1 : Shape := ⟨5, ![32, 1, 16, 128, 1]⟩
abbrev S32x16x64x1x128 : Shape := ⟨5, ![32, 16, 64, 1, 128]⟩
abbrev S32x1x2048 : Shape := ⟨3, ![32, 1, 2048]⟩
abbrev S32x2048 : Shape := ⟨2, ![32, 2048]⟩
abbrev S4x8x2048 : Shape := ⟨3, ![4, 8, 2048]⟩
abbrev S8x2048x4 : Shape := ⟨3, ![8, 2048, 4]⟩
abbrev S8x8192 : Shape := ⟨2, ![8, 8192]⟩
abbrev S8x8192x1 : Shape := ⟨3, ![8, 8192, 1]⟩
abbrev S8192x8 : Shape := ⟨2, ![8192, 8]⟩
abbrev S8192x120 : Shape := ⟨2, ![8192, 120]⟩
abbrev S8192x640 : Shape := ⟨2, ![8192, 640]⟩

abbrev nBuf : Space → Nat
  | .hbm => 121
  | .vmem => 0
  | .smem => 0
  | _ => 0

abbrev bufTy : (tb : Table) → Fin (tcTables nBuf tb) → BufTy
  | .hbm, ⟨0, _⟩ => ⟨S8192x3840, .bf16⟩
  | .hbm, ⟨1, _⟩ => ⟨S8192x1280, .bf16⟩
  | .hbm, ⟨2, _⟩ => ⟨S8192x512, .bf16⟩
  | .hbm, ⟨3, _⟩ => ⟨S8192x512, .f32⟩
  | .hbm, ⟨4, _⟩ => ⟨S8192x8x64, .f32⟩
  | .hbm, ⟨5, _⟩ => ⟨S8x8192x64, .f32⟩
  | .hbm, ⟨6, _⟩ => ⟨S8192x512, .bf16⟩
  | .hbm, ⟨7, _⟩ => ⟨S8192x512, .f32⟩
  | .hbm, ⟨8, _⟩ => ⟨S8192x8x64, .f32⟩
  | .hbm, ⟨9, _⟩ => ⟨S8x8192x64, .f32⟩
  | .hbm, ⟨10, _⟩ => ⟨S8192x512, .bf16⟩
  | .hbm, ⟨11, _⟩ => ⟨S8192x512, .f32⟩
  | .hbm, ⟨12, _⟩ => ⟨S8192x8x64, .f32⟩
  | .hbm, ⟨13, _⟩ => ⟨S8x8192x64, .f32⟩
  | .hbm, ⟨14, _⟩ => ⟨S8x2048x4x64, .f32⟩
  | .hbm, ⟨15, _⟩ => ⟨S4x8x2048x64, .f32⟩
  | .hbm, ⟨16, _⟩ => ⟨S32x2048x64, .f32⟩
  | .hbm, ⟨17, _⟩ => ⟨S32x1x2048x64, .f32⟩
  | .hbm, ⟨18, _⟩ => ⟨S8x2048x4x64, .f32⟩
  | .hbm, ⟨19, _⟩ => ⟨S4x8x2048x64, .f32⟩
  | .hbm, ⟨20, _⟩ => ⟨S32x2048x64, .f32⟩
  | .hbm, ⟨21, _⟩ => ⟨S8x2048x4x64, .f32⟩
  | .hbm, ⟨22, _⟩ => ⟨S4x8x2048x64, .f32⟩
  | .hbm, ⟨23, _⟩ => ⟨S32x2048x64, .f32⟩
  | .hbm, ⟨24, _⟩ => ⟨S32x1x16x128x64, .f32⟩
  | .hbm, ⟨25, _⟩ => ⟨S_, .f32⟩
  | .hbm, ⟨26, _⟩ => ⟨S32x128x64, .f32⟩
  | .hbm, ⟨27, _⟩ => ⟨S32x2176x64, .f32⟩
  | .hbm, ⟨28, _⟩ => ⟨S32x17x128x64, .f32⟩
  | .hbm, ⟨29, _⟩ => ⟨S32x16x128x64, .f32⟩
  | .hbm, ⟨30, _⟩ => ⟨S32x16x128x64, .f32⟩
  | .hbm, ⟨31, _⟩ => ⟨S32x16x256x64, .f32⟩
  | .hbm, ⟨32, _⟩ => ⟨S_, .f32⟩
  | .hbm, ⟨33, _⟩ => ⟨S32x128x64, .f32⟩
  | .hbm, ⟨34, _⟩ => ⟨S32x2176x64, .f32⟩
  | .hbm, ⟨35, _⟩ => ⟨S32x17x128x64, .f32⟩
  | .hbm, ⟨36, _⟩ => ⟨S32x16x128x64, .f32⟩
  | .hbm, ⟨37, _⟩ => ⟨S32x16x128x64, .f32⟩
  | .hbm, ⟨38, _⟩ => ⟨S32x16x256x64, .f32⟩
  | .hbm, ⟨39, _⟩ => ⟨S32x16x256x1x128, .f32⟩
  | .hbm, ⟨40, _⟩ => ⟨S32x1x16x128x256, .f32⟩
  | .hbm, ⟨41, _⟩ => ⟨S_, .f32⟩
  | .hbm, ⟨42, _⟩ => ⟨S32x1x16x128x256, .f32⟩
  | .hbm, ⟨43, _⟩ => ⟨S32x1x16x128x256, .f32⟩
  | .hbm, ⟨44, _⟩ => ⟨S128, .i32⟩
  | .hbm, ⟨45, _⟩ => ⟨S128x1, .i32⟩
  | .hbm, ⟨46, _⟩ => ⟨S_, .i32⟩
  | .hbm, ⟨47, _⟩ => ⟨S128x1, .i32⟩
  | .hbm, ⟨48, _⟩ => ⟨S128x1, .i32⟩
  | .hbm, ⟨49, _⟩ => ⟨S256, .i32⟩
  | .hbm, ⟨50, _⟩ => ⟨S1x256, .i32⟩
  | .hbm, ⟨51, _⟩ => ⟨S128x256, .i32⟩
  | .hbm, ⟨52, _⟩ => ⟨S128x256, .i32⟩
  | .hbm, ⟨53, _⟩ => ⟨S128x256, .i32⟩
  | .hbm, ⟨54, _⟩ => ⟨S16, .i32⟩
  | .hbm, ⟨55, _⟩ => ⟨S16x1x1, .i32⟩
  | .hbm, ⟨56, _⟩ => ⟨S_, .i32⟩
  | .hbm, ⟨57, _⟩ => ⟨S16x1x1, .i32⟩
  | .hbm, ⟨58, _⟩ => ⟨S16x1x1, .i32⟩
  | .hbm, ⟨59, _⟩ => ⟨S_, .i32⟩
  | .hbm, ⟨60, _⟩ => ⟨S16x1x1, .i32⟩
  | .hbm, ⟨61, _⟩ => ⟨S16x1x1, .i32⟩
  | .hbm, ⟨62, _⟩ => ⟨S1x1x256, .i32⟩
  | .hbm, ⟨63, _⟩ => ⟨S16x1x256, .i32⟩
  | .hbm, ⟨64, _⟩ => ⟨S16x1x256, .i32⟩
  | .hbm, ⟨65, _⟩ => ⟨S16x1x256, .i32⟩
  | .hbm, ⟨66, _⟩ => ⟨S_, .i32⟩
  | .hbm, ⟨67, _⟩ => ⟨S128x256, .i32⟩
  | .hbm, ⟨68, _⟩ => ⟨S128x256, .i1⟩
  | .hbm, ⟨69, _⟩ => ⟨S_, .i32⟩
  | .hbm, ⟨70, _⟩ => ⟨S128x256, .i32⟩
  | .hbm, ⟨71, _⟩ => ⟨S128x256, .i1⟩
  | .hbm, ⟨72, _⟩ => ⟨S128x256, .i1⟩
  | .hbm, ⟨73, _⟩ => ⟨S1x128x256, .i1⟩
  | .hbm, ⟨74, _⟩ => ⟨S_, .i32⟩
  | .hbm, ⟨75, _⟩ => ⟨S16x1x256, .i32⟩
  | .hbm, ⟨76, _⟩ => ⟨S16x1x256, .i1⟩
  | .hbm, ⟨77, _⟩ => ⟨S16x128x256, .i1⟩
  | .hbm, ⟨78, _⟩ => ⟨S16x128x256, .i1⟩
  | .hbm, ⟨79, _⟩ => ⟨S16x128x256, .i1⟩
  | .hbm, ⟨80, _⟩ => ⟨S_, .f32⟩
  | .hbm, ⟨81, _⟩ => ⟨S_, .f32⟩
  | .hbm, ⟨82, _⟩ => ⟨S32x1x16x128x256, .i1⟩
  | .hbm, ⟨83, _⟩ => ⟨S32x1x16x128x256, .f32⟩
  | .hbm, ⟨84, _⟩ => ⟨S32x1x16x128x256, .f32⟩
  | .hbm, ⟨85, _⟩ => ⟨S_, .f32⟩
  | .hbm, ⟨86, _⟩ => ⟨S32x1x16x128, .f32⟩
  | .hbm, ⟨87, _⟩ => ⟨S32x1x16x128x1, .f32⟩
  | .hbm, ⟨88, _⟩ => ⟨S32x1x16x128x256, .f32⟩
  | .hbm, ⟨89, _⟩ => ⟨S32x1x16x128x256, .f32⟩
  | .hbm, ⟨90, _⟩ => ⟨S32x1x16x128x256, .f32⟩
  | .hbm, ⟨91, _⟩ => ⟨S_, .f32⟩
  | .hbm, ⟨92, _⟩ => ⟨S32x1x16x128, .f32⟩
  | .hbm, ⟨93, _⟩ => ⟨S32x16x64x1x128, .f32⟩
  | .hbm, ⟨94, _⟩ => ⟨S32x1x16x128x64, .f32⟩
  | .hbm, ⟨95, _⟩ => ⟨S32x1x2048x64, .f32⟩
  | .hbm, ⟨96, _⟩ => ⟨S32x1x2048, .f32⟩
  | .hbm, ⟨97, _⟩ => ⟨S32x1x2048, .f32⟩
  | .hbm, ⟨98, _⟩ => ⟨S32x2048x64, .f32⟩
  | .hbm, ⟨99, _⟩ => ⟨S4x8x2048x64, .f32⟩
  | .hbm, ⟨100, _⟩ => ⟨S8x2048x4x64, .f32⟩
  | .hbm, ⟨101, _⟩ => ⟨S8x8192x64, .f32⟩
  | .hbm, ⟨102, _⟩ => ⟨S32x2048, .f32⟩
  | .hbm, ⟨103, _⟩ => ⟨S4x8x2048, .f32⟩
  | .hbm, ⟨104, _⟩ => ⟨S8x2048x4, .f32⟩
  | .hbm, ⟨105, _⟩ => ⟨S8x8192, .f32⟩
  | .hbm, ⟨106, _⟩ => ⟨S32x2048, .f32⟩
  | .hbm, ⟨107, _⟩ => ⟨S4x8x2048, .f32⟩
  | .hbm, ⟨108, _⟩ => ⟨S8x2048x4, .f32⟩
  | .hbm, ⟨109, _⟩ => ⟨S8x8192, .f32⟩
  | .hbm, ⟨110, _⟩ => ⟨S8x8192x1, .f32⟩
  | .hbm, ⟨111, _⟩ => ⟨S8x8192x64, .f32⟩
  | .hbm, ⟨112, _⟩ => ⟨S8x8192x64, .f32⟩
  | .hbm, ⟨113, _⟩ => ⟨S8192x8x64, .f32⟩
  | .hbm, ⟨114, _⟩ => ⟨S8192x512, .f32⟩
  | .hbm, ⟨115, _⟩ => ⟨S8x8192, .f32⟩
  | .hbm, ⟨116, _⟩ => ⟨S8x8192, .f32⟩
  | .hbm, ⟨117, _⟩ => ⟨S8192x8, .f32⟩
  | .hbm, ⟨118, _⟩ => ⟨S_, .f32⟩
  | .hbm, ⟨119, _⟩ => ⟨S8192x120, .f32⟩
  | .hbm, ⟨120, _⟩ => ⟨S8192x640, .f32⟩
  | _, _ => ⟨S8192x3840, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩
abbrev main_v21 : Ref sig .tc := ⟨.hbm, 23, rfl⟩
abbrev main_v22 : Ref sig .tc := ⟨.hbm, 24, rfl⟩
abbrev main_cst : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_cst_0 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_cst_1 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_c : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩
abbrev main_c_2 : Ref sig .tc := ⟨.hbm, 56, rfl⟩
abbrev main_v50 : Ref sig .tc := ⟨.hbm, 57, rfl⟩
abbrev main_v51 : Ref sig .tc := ⟨.hbm, 58, rfl⟩
abbrev main_c_3 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_c_4 : Ref sig .tc := ⟨.hbm, 66, rfl⟩
abbrev main_v58 : Ref sig .tc := ⟨.hbm, 67, rfl⟩
abbrev main_v59 : Ref sig .tc := ⟨.hbm, 68, rfl⟩
abbrev main_c_5 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_c_6 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_cst_7 : Ref sig .tc := ⟨.hbm, 80, rfl⟩
abbrev main_call0_v0 : Ref sig .tc := ⟨.hbm, 81, rfl⟩
abbrev main_call0_v1 : Ref sig .tc := ⟨.hbm, 82, rfl⟩
abbrev main_call0_v2 : Ref sig .tc := ⟨.hbm, 83, rfl⟩
abbrev main_v69 : Ref sig .tc := ⟨.hbm, 84, rfl⟩
abbrev main_cst_8 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_cst_9 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩
abbrev main_v86 : Ref sig .tc := ⟨.hbm, 103, rfl⟩
abbrev main_v87 : Ref sig .tc := ⟨.hbm, 104, rfl⟩
abbrev main_v88 : Ref sig .tc := ⟨.hbm, 105, rfl⟩
abbrev main_v89 : Ref sig .tc := ⟨.hbm, 106, rfl⟩
abbrev main_v90 : Ref sig .tc := ⟨.hbm, 107, rfl⟩
abbrev main_v91 : Ref sig .tc := ⟨.hbm, 108, rfl⟩
abbrev main_v92 : Ref sig .tc := ⟨.hbm, 109, rfl⟩
abbrev main_v93 : Ref sig .tc := ⟨.hbm, 110, rfl⟩
abbrev main_v94 : Ref sig .tc := ⟨.hbm, 111, rfl⟩
abbrev main_v95 : Ref sig .tc := ⟨.hbm, 112, rfl⟩
abbrev main_v96 : Ref sig .tc := ⟨.hbm, 113, rfl⟩
abbrev main_v97 : Ref sig .tc := ⟨.hbm, 114, rfl⟩
abbrev main_v98 : Ref sig .tc := ⟨.hbm, 115, rfl⟩
abbrev main_v99 : Ref sig .tc := ⟨.hbm, 116, rfl⟩
abbrev main_v100 : Ref sig .tc := ⟨.hbm, 117, rfl⟩
abbrev main_cst_10 : Ref sig .tc := ⟨.hbm, 118, rfl⟩
abbrev main_v101 : Ref sig .tc := ⟨.hbm, 119, rfl⟩
abbrev main_v102 : Ref sig .tc := ⟨.hbm, 120, rfl⟩

abbrev nD : Nat := 1
abbrev τ : Topo := Topo.v7x

variable {F : FTy → Type} [FloatOps F]
-- ==== Band16.lean ====
abbrev S8192x3840 : Shape := ⟨2, ![8192, 3840]⟩
abbrev S8192x1280 : Shape := ⟨2, ![8192, 1280]⟩
abbrev S8192x1024 : Shape := ⟨2, ![8192, 1024]⟩
abbrev S8192x512 : Shape := ⟨2, ![8192, 512]⟩
abbrev S8192x1536 : Shape := ⟨2, ![8192, 1536]⟩
abbrev S512x16x1536 : Shape := ⟨3, ![512, 16, 1536]⟩
abbrev S16x512x1536 : Shape := ⟨3, ![16, 512, 1536]⟩
abbrev S16x512x640 : Shape := ⟨3, ![16, 512, 640]⟩
abbrev S1x128x512 : Shape := ⟨3, ![1, 128, 512]⟩
abbrev S1x128x640 : Shape := ⟨3, ![1, 128, 640]⟩
abbrev S128x512 : Shape := ⟨2, ![128, 512]⟩
abbrev S256x512 : Shape := ⟨2, ![256, 512]⟩
abbrev S128x256 : Shape := ⟨2, ![128, 256]⟩
abbrev S128x128 : Shape := ⟨2, ![128, 128]⟩
abbrev S256x64 : Shape := ⟨2, ![256, 64]⟩
abbrev S128x64 : Shape := ⟨2, ![128, 64]⟩
abbrev S128 : Shape := ⟨1, ![128]⟩
abbrev S128x1 : Shape := ⟨2, ![128, 1]⟩
abbrev S128x640 : Shape := ⟨2, ![128, 640]⟩
abbrev S512x16x640 : Shape := ⟨3, ![512, 16, 640]⟩
abbrev S8192x640 : Shape := ⟨2, ![8192, 640]⟩

abbrev nBuf : Space → Nat
  | .hbm => 10
  | .vmem => 12
  | .smem => 0
  | _ => 0

abbrev bufTy : (tb : Table) → Fin (tcTables nBuf tb) → BufTy
  | .hbm, ⟨0, _⟩ => ⟨S8192x3840, .bf16⟩
  | .hbm, ⟨1, _⟩ => ⟨S8192x1280, .bf16⟩
  | .hbm, ⟨2, _⟩ => ⟨S8192x1024, .bf16⟩
  | .hbm, ⟨3, _⟩ => ⟨S8192x512, .bf16⟩
  | .hbm, ⟨4, _⟩ => ⟨S8192x1536, .bf16⟩
  | .hbm, ⟨5, _⟩ => ⟨S512x16x1536, .bf16⟩
  | .hbm, ⟨6, _⟩ => ⟨S16x512x1536, .bf16⟩
  | .hbm, ⟨7, _⟩ => ⟨S16x512x640, .f32⟩
  | .hbm, ⟨8, _⟩ => ⟨S512x16x640, .f32⟩
  | .hbm, ⟨9, _⟩ => ⟨S8192x640, .f32⟩
  | .local _ .vmem, ⟨0, _⟩ => ⟨S1x128x512, .bf16⟩
  | .local _ .vmem, ⟨1, _⟩ => ⟨S1x128x512, .bf16⟩
  | .local _ .vmem, ⟨2, _⟩ => ⟨S1x128x512, .bf16⟩
  | .local _ .vmem, ⟨3, _⟩ => ⟨S1x128x512, .bf16⟩
  | .local _ .vmem, ⟨4, _⟩ => ⟨S1x128x512, .bf16⟩
  | .local _ .vmem, ⟨5, _⟩ => ⟨S1x128x512, .bf16⟩
  | .local _ .vmem, ⟨6, _⟩ => ⟨S1x128x512, .bf16⟩
  | .local _ .vmem, ⟨7, _⟩ => ⟨S1x128x512, .bf16⟩
  | .local _ .vmem, ⟨8, _⟩ => ⟨S1x128x512, .bf16⟩
  | .local _ .vmem, ⟨9, _⟩ => ⟨S1x128x512, .bf16⟩
  | .local _ .vmem, ⟨10, _⟩ => ⟨S1x128x640, .f32⟩
  | .local _ .vmem, ⟨11, _⟩ => ⟨S1x128x640, .f32⟩
  | _, _ => ⟨S8192x3840, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c1_i32_0 : BitVec 32 := 1#32
  let c0_i32_1 : BitVec 32 := 0#32
  ![arg0.toNat, v1.toNat, c1_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, arg1.toNat, c1_i32.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c2_i32 : BitVec 32 := 2#32
  let c0_i32_0 : BitVec 32 := 0#32
  ![arg0.toNat, v1.toNat, c2_i32.toNat]

def cc0_transform_4 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  ![arg0.toNat, arg1.toNat, c2_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x640 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Band16Ideal.lean ====
variable {F : FTy → Type} [FloatOps F] [Named F]
def κ : String → Option EReal := fun
  | "mask" => some ⊥
  | _ => none
-- ==== Band16ReferenceIdeal.lean ====
abbrev S8192x3840 : Shape := ⟨2, ![8192, 3840]⟩
abbrev S8192x1280 : Shape := ⟨2, ![8192, 1280]⟩
abbrev S8192x512 : Shape := ⟨2, ![8192, 512]⟩
abbrev S8192x8x64 : Shape := ⟨3, ![8192, 8, 64]⟩
abbrev S8x8192x64 : Shape := ⟨3, ![8, 8192, 64]⟩
abbrev S8x512x16x64 : Shape := ⟨4, ![8, 512, 16, 64]⟩
abbrev S16x8x512x64 : Shape := ⟨4, ![16, 8, 512, 64]⟩
abbrev S128x512x64 : Shape := ⟨3, ![128, 512, 64]⟩
abbrev S128x1x512x64 : Shape := ⟨4, ![128, 1, 512, 64]⟩
abbrev S128x1x4x128x64 : Shape := ⟨5, ![128, 1, 4, 128, 64]⟩
abbrev S_ : Shape := ⟨0, ![]⟩
abbrev S128x128x64 : Shape := ⟨3, ![128, 128, 64]⟩
abbrev S128x640x64 : Shape := ⟨3, ![128, 640, 64]⟩
abbrev S128x5x128x64 : Shape := ⟨4, ![128, 5, 128, 64]⟩
abbrev S128x4x128x64 : Shape := ⟨4, ![128, 4, 128, 64]⟩
abbrev S128x4x256x64 : Shape := ⟨4, ![128, 4, 256, 64]⟩
abbrev S128x4x256x1x128 : Shape := ⟨5, ![128, 4, 256, 1, 128]⟩
abbrev S128x1x4x128x256 : Shape := ⟨5, ![128, 1, 4, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S4 : Shape := ⟨1, ![4]⟩
abbrev S4x1x1 : Shape := ⟨3, ![4, 1, 1]⟩
abbrev S1x1x256 : Shape := ⟨3, ![1, 1, 256]⟩
abbrev S4x1x256 : Shape := ⟨3, ![4, 1, 256]⟩
abbrev S1x128x256 : Shape := ⟨3, ![1, 128, 256]⟩
abbrev S4x128x256 : Shape := ⟨3, ![4, 128, 256]⟩
abbrev S128x1x4x128 : Shape := ⟨4, ![128, 1, 4, 128]⟩
abbrev S128x1x4x128x1 : Shape := ⟨5, ![128, 1, 4, 128, 1]⟩
abbrev S128x4x64x1x128 : Shape := ⟨5, ![128, 4, 64, 1, 128]⟩
abbrev S128x1x512 : Shape := ⟨3, ![128, 1, 512]⟩
abbrev S128x512 : Shape := ⟨2, ![128, 512]⟩
abbrev S16x8x512 : Shape := ⟨3, ![16, 8, 512]⟩
abbrev S8x512x16 : Shape := ⟨3, ![8, 512, 16]⟩
abbrev S8x8192 : Shape := ⟨2, ![8, 8192]⟩
abbrev S8x8192x1 : Shape := ⟨3, ![8, 8192, 1]⟩
abbrev S8192x8 : Shape := ⟨2, ![8192, 8]⟩
abbrev S8192x120 : Shape := ⟨2, ![8192, 120]⟩
abbrev S8192x640 : Shape := ⟨2, ![8192, 640]⟩

abbrev nBuf : Space → Nat
  | .hbm => 121
  | .vmem => 0
  | .smem => 0
  | _ => 0

abbrev bufTy : (tb : Table) → Fin (tcTables nBuf tb) → BufTy
  | .hbm, ⟨0, _⟩ => ⟨S8192x3840, .bf16⟩
  | .hbm, ⟨1, _⟩ => ⟨S8192x1280, .bf16⟩
  | .hbm, ⟨2, _⟩ => ⟨S8192x512, .bf16⟩
  | .hbm, ⟨3, _⟩ => ⟨S8192x512, .f32⟩
  | .hbm, ⟨4, _⟩ => ⟨S8192x8x64, .f32⟩
  | .hbm, ⟨5, _⟩ => ⟨S8x8192x64, .f32⟩
  | .hbm, ⟨6, _⟩ => ⟨S8192x512, .bf16⟩
  | .hbm, ⟨7, _⟩ => ⟨S8192x512, .f32⟩
  | .hbm, ⟨8, _⟩ => ⟨S8192x8x64, .f32⟩
  | .hbm, ⟨9, _⟩ => ⟨S8x8192x64, .f32⟩
  | .hbm, ⟨10, _⟩ => ⟨S8192x512, .bf16⟩
  | .hbm, ⟨11, _⟩ => ⟨S8192x512, .f32⟩
  | .hbm, ⟨12, _⟩ => ⟨S8192x8x64, .f32⟩
  | .hbm, ⟨13, _⟩ => ⟨S8x8192x64, .f32⟩
  | .hbm, ⟨14, _⟩ => ⟨S8x512x16x64, .f32⟩
  | .hbm, ⟨15, _⟩ => ⟨S16x8x512x64, .f32⟩
  | .hbm, ⟨16, _⟩ => ⟨S128x512x64, .f32⟩
  | .hbm, ⟨17, _⟩ => ⟨S128x1x512x64, .f32⟩
  | .hbm, ⟨18, _⟩ => ⟨S8x512x16x64, .f32⟩
  | .hbm, ⟨19, _⟩ => ⟨S16x8x512x64, .f32⟩
  | .hbm, ⟨20, _⟩ => ⟨S128x512x64, .f32⟩
  | .hbm, ⟨21, _⟩ => ⟨S8x512x16x64, .f32⟩
  | .hbm, ⟨22, _⟩ => ⟨S16x8x512x64, .f32⟩
  | .hbm, ⟨23, _⟩ => ⟨S128x512x64, .f32⟩
  | .hbm, ⟨24, _⟩ => ⟨S128x1x4x128x64, .f32⟩
  | .hbm, ⟨25, _⟩ => ⟨S_, .f32⟩
  | .hbm, ⟨26, _⟩ => ⟨S128x128x64, .f32⟩
  | .hbm, ⟨27, _⟩ => ⟨S128x640x64, .f32⟩
  | .hbm, ⟨28, _⟩ => ⟨S128x5x128x64, .f32⟩
  | .hbm, ⟨29, _⟩ => ⟨S128x4x128x64, .f32⟩
  | .hbm, ⟨30, _⟩ => ⟨S128x4x128x64, .f32⟩
  | .hbm, ⟨31, _⟩ => ⟨S128x4x256x64, .f32⟩
  | .hbm, ⟨32, _⟩ => ⟨S_, .f32⟩
  | .hbm, ⟨33, _⟩ => ⟨S128x128x64, .f32⟩
  | .hbm, ⟨34, _⟩ => ⟨S128x640x64, .f32⟩
  | .hbm, ⟨35, _⟩ => ⟨S128x5x128x64, .f32⟩
  | .hbm, ⟨36, _⟩ => ⟨S128x4x128x64, .f32⟩
  | .hbm, ⟨37, _⟩ => ⟨S128x4x128x64, .f32⟩
  | .hbm, ⟨38, _⟩ => ⟨S128x4x256x64, .f32⟩
  | .hbm, ⟨39, _⟩ => ⟨S128x4x256x1x128, .f32⟩
  | .hbm, ⟨40, _⟩ => ⟨S128x1x4x128x256, .f32⟩
  | .hbm, ⟨41, _⟩ => ⟨S_, .f32⟩
  | .hbm, ⟨42, _⟩ => ⟨S128x1x4x128x256, .f32⟩
  | .hbm, ⟨43, _⟩ => ⟨S128x1x4x128x256, .f32⟩
  | .hbm, ⟨44, _⟩ => ⟨S128, .i32⟩
  | .hbm, ⟨45, _⟩ => ⟨S128x1, .i32⟩
  | .hbm, ⟨46, _⟩ => ⟨S_, .i32⟩
  | .hbm, ⟨47, _⟩ => ⟨S128x1, .i32⟩
  | .hbm, ⟨48, _⟩ => ⟨S128x1, .i32⟩
  | .hbm, ⟨49, _⟩ => ⟨S256, .i32⟩
  | .hbm, ⟨50, _⟩ => ⟨S1x256, .i32⟩
  | .hbm, ⟨51, _⟩ => ⟨S128x256, .i32⟩
  | .hbm, ⟨52, _⟩ => ⟨S128x256, .i32⟩
  | .hbm, ⟨53, _⟩ => ⟨S128x256, .i32⟩
  | .hbm, ⟨54, _⟩ => ⟨S4, .i32⟩
  | .hbm, ⟨55, _⟩ => ⟨S4x1x1, .i32⟩
  | .hbm, ⟨56, _⟩ => ⟨S_, .i32⟩
  | .hbm, ⟨57, _⟩ => ⟨S4x1x1, .i32⟩
  | .hbm, ⟨58, _⟩ => ⟨S4x1x1, .i32⟩
  | .hbm, ⟨59, _⟩ => ⟨S_, .i32⟩
  | .hbm, ⟨60, _⟩ => ⟨S4x1x1, .i32⟩
  | .hbm, ⟨61, _⟩ => ⟨S4x1x1, .i32⟩
  | .hbm, ⟨62, _⟩ => ⟨S1x1x256, .i32⟩
  | .hbm, ⟨63, _⟩ => ⟨S4x1x256, .i32⟩
  | .hbm, ⟨64, _⟩ => ⟨S4x1x256, .i32⟩
  | .hbm, ⟨65, _⟩ => ⟨S4x1x256, .i32⟩
  | .hbm, ⟨66, _⟩ => ⟨S_, .i32⟩
  | .hbm, ⟨67, _⟩ => ⟨S128x256, .i32⟩
  | .hbm, ⟨68, _⟩ => ⟨S128x256, .i1⟩
  | .hbm, ⟨69, _⟩ => ⟨S_, .i32⟩
  | .hbm, ⟨70, _⟩ => ⟨S128x256, .i32⟩
  | .hbm, ⟨71, _⟩ => ⟨S128x256, .i1⟩
  | .hbm, ⟨72, _⟩ => ⟨S128x256, .i1⟩
  | .hbm, ⟨73, _⟩ => ⟨S1x128x256, .i1⟩
  | .hbm, ⟨74, _⟩ => ⟨S_, .i32⟩
  | .hbm, ⟨75, _⟩ => ⟨S4x1x256, .i32⟩
  | .hbm, ⟨76, _⟩ => ⟨S4x1x256, .i1⟩
  | .hbm, ⟨77, _⟩ => ⟨S4x128x256, .i1⟩
  | .hbm, ⟨78, _⟩ => ⟨S4x128x256, .i1⟩
  | .hbm, ⟨79, _⟩ => ⟨S4x128x256, .i1⟩
  | .hbm, ⟨80, _⟩ => ⟨S_, .f32⟩
  | .hbm, ⟨81, _⟩ => ⟨S_, .f32⟩
  | .hbm, ⟨82, _⟩ => ⟨S128x1x4x128x256, .i1⟩
  | .hbm, ⟨83, _⟩ => ⟨S128x1x4x128x256, .f32⟩
  | .hbm, ⟨84, _⟩ => ⟨S128x1x4x128x256, .f32⟩
  | .hbm, ⟨85, _⟩ => ⟨S_, .f32⟩
  | .hbm, ⟨86, _⟩ => ⟨S128x1x4x128, .f32⟩
  | .hbm, ⟨87, _⟩ => ⟨S128x1x4x128x1, .f32⟩
  | .hbm, ⟨88, _⟩ => ⟨S128x1x4x128x256, .f32⟩
  | .hbm, ⟨89, _⟩ => ⟨S128x1x4x128x256, .f32⟩
  | .hbm, ⟨90, _⟩ => ⟨S128x1x4x128x256, .f32⟩
  | .hbm, ⟨91, _⟩ => ⟨S_, .f32⟩
  | .hbm, ⟨92, _⟩ => ⟨S128x1x4x128, .f32⟩
  | .hbm, ⟨93, _⟩ => ⟨S128x4x64x1x128, .f32⟩
  | .hbm, ⟨94, _⟩ => ⟨S128x1x4x128x64, .f32⟩
  | .hbm, ⟨95, _⟩ => ⟨S128x1x512x64, .f32⟩
  | .hbm, ⟨96, _⟩ => ⟨S128x1x512, .f32⟩
  | .hbm, ⟨97, _⟩ => ⟨S128x1x512, .f32⟩
  | .hbm, ⟨98, _⟩ => ⟨S128x512x64, .f32⟩
  | .hbm, ⟨99, _⟩ => ⟨S16x8x512x64, .f32⟩
  | .hbm, ⟨100, _⟩ => ⟨S8x512x16x64, .f32⟩
  | .hbm, ⟨101, _⟩ => ⟨S8x8192x64, .f32⟩
  | .hbm, ⟨102, _⟩ => ⟨S128x512, .f32⟩
  | .hbm, ⟨103, _⟩ => ⟨S16x8x512, .f32⟩
  | .hbm, ⟨104, _⟩ => ⟨S8x512x16, .f32⟩
  | .hbm, ⟨105, _⟩ => ⟨S8x8192, .f32⟩
  | .hbm, ⟨106, _⟩ => ⟨S128x512, .f32⟩
  | .hbm, ⟨107, _⟩ => ⟨S16x8x512, .f32⟩
  | .hbm, ⟨108, _⟩ => ⟨S8x512x16, .f32⟩
  | .hbm, ⟨109, _⟩ => ⟨S8x8192, .f32⟩
  | .hbm, ⟨110, _⟩ => ⟨S8x8192x1, .f32⟩
  | .hbm, ⟨111, _⟩ => ⟨S8x8192x64, .f32⟩
  | .hbm, ⟨112, _⟩ => ⟨S8x8192x64, .f32⟩
  | .hbm, ⟨113, _⟩ => ⟨S8192x8x64, .f32⟩
  | .hbm, ⟨114, _⟩ => ⟨S8192x512, .f32⟩
  | .hbm, ⟨115, _⟩ => ⟨S8x8192, .f32⟩
  | .hbm, ⟨116, _⟩ => ⟨S8x8192, .f32⟩
  | .hbm, ⟨117, _⟩ => ⟨S8192x8, .f32⟩
  | .hbm, ⟨118, _⟩ => ⟨S_, .f32⟩
  | .hbm, ⟨119, _⟩ => ⟨S8192x120, .f32⟩
  | .hbm, ⟨120, _⟩ => ⟨S8192x640, .f32⟩
  | _, _ => ⟨S8192x3840, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩
abbrev main_v21 : Ref sig .tc := ⟨.hbm, 23, rfl⟩
abbrev main_v22 : Ref sig .tc := ⟨.hbm, 24, rfl⟩
abbrev main_cst : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_cst_0 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_cst_1 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_c : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩
abbrev main_c_2 : Ref sig .tc := ⟨.hbm, 56, rfl⟩
abbrev main_v50 : Ref sig .tc := ⟨.hbm, 57, rfl⟩
abbrev main_v51 : Ref sig .tc := ⟨.hbm, 58, rfl⟩
abbrev main_c_3 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_c_4 : Ref sig .tc := ⟨.hbm, 66, rfl⟩
abbrev main_v58 : Ref sig .tc := ⟨.hbm, 67, rfl⟩
abbrev main_v59 : Ref sig .tc := ⟨.hbm, 68, rfl⟩
abbrev main_c_5 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_c_6 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_cst_7 : Ref sig .tc := ⟨.hbm, 80, rfl⟩
abbrev main_call0_v0 : Ref sig .tc := ⟨.hbm, 81, rfl⟩
abbrev main_call0_v1 : Ref sig .tc := ⟨.hbm, 82, rfl⟩
abbrev main_call0_v2 : Ref sig .tc := ⟨.hbm, 83, rfl⟩
abbrev main_v69 : Ref sig .tc := ⟨.hbm, 84, rfl⟩
abbrev main_cst_8 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_cst_9 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩
abbrev main_v86 : Ref sig .tc := ⟨.hbm, 103, rfl⟩
abbrev main_v87 : Ref sig .tc := ⟨.hbm, 104, rfl⟩
abbrev main_v88 : Ref sig .tc := ⟨.hbm, 105, rfl⟩
abbrev main_v89 : Ref sig .tc := ⟨.hbm, 106, rfl⟩
abbrev main_v90 : Ref sig .tc := ⟨.hbm, 107, rfl⟩
abbrev main_v91 : Ref sig .tc := ⟨.hbm, 108, rfl⟩
abbrev main_v92 : Ref sig .tc := ⟨.hbm, 109, rfl⟩
abbrev main_v93 : Ref sig .tc := ⟨.hbm, 110, rfl⟩
abbrev main_v94 : Ref sig .tc := ⟨.hbm, 111, rfl⟩
abbrev main_v95 : Ref sig .tc := ⟨.hbm, 112, rfl⟩
abbrev main_v96 : Ref sig .tc := ⟨.hbm, 113, rfl⟩
abbrev main_v97 : Ref sig .tc := ⟨.hbm, 114, rfl⟩
abbrev main_v98 : Ref sig .tc := ⟨.hbm, 115, rfl⟩
abbrev main_v99 : Ref sig .tc := ⟨.hbm, 116, rfl⟩
abbrev main_v100 : Ref sig .tc := ⟨.hbm, 117, rfl⟩
abbrev main_cst_10 : Ref sig .tc := ⟨.hbm, 118, rfl⟩
abbrev main_v101 : Ref sig .tc := ⟨.hbm, 119, rfl⟩
abbrev main_v102 : Ref sig .tc := ⟨.hbm, 120, rfl⟩

abbrev nD : Nat := 1
abbrev τ : Topo := Topo.v7x

variable {F : FTy → Type} [FloatOps F]
-- ==== Out.lean ====
abbrev S8192x2048 : Shape := ⟨2, ![8192, 2048]⟩
abbrev S8192x512 : Shape := ⟨2, ![8192, 512]⟩
abbrev S8192x640 : Shape := ⟨2, ![8192, 640]⟩
abbrev S2048x2048 : Shape := ⟨2, ![2048, 2048]⟩
abbrev S2048 : Shape := ⟨1, ![2048]⟩
abbrev S1x2048 : Shape := ⟨2, ![1, 2048]⟩
abbrev S256x2048 : Shape := ⟨2, ![256, 2048]⟩
abbrev S256x512 : Shape := ⟨2, ![256, 512]⟩
abbrev S256x640 : Shape := ⟨2, ![256, 640]⟩
abbrev S256x128 : Shape := ⟨2, ![256, 128]⟩
abbrev S512x2048 : Shape := ⟨2, ![512, 2048]⟩
abbrev S256x1 : Shape := ⟨2, ![256, 1]⟩
abbrev S256x64 : Shape := ⟨2, ![256, 64]⟩
abbrev S256 : Shape := ⟨1, ![256]⟩

abbrev nBuf : Space → Nat
  | .hbm => 15
  | .vmem => 21
  | .smem => 0
  | _ => 0

abbrev bufTy : (tb : Table) → Fin (tcTables nBuf tb) → BufTy
  | .hbm, ⟨0, _⟩ => ⟨S8192x2048, .f32⟩
  | .hbm, ⟨1, _⟩ => ⟨S8192x512, .bf16⟩
  | .hbm, ⟨2, _⟩ => ⟨S8192x512, .bf16⟩
  | .hbm, ⟨3, _⟩ => ⟨S8192x640, .f32⟩
  | .hbm, ⟨4, _⟩ => ⟨S8192x640, .f32⟩
  | .hbm, ⟨5, _⟩ => ⟨S8192x640, .f32⟩
  | .hbm, ⟨6, _⟩ => ⟨S8192x512, .bf16⟩
  | .hbm, ⟨7, _⟩ => ⟨S2048x2048, .f32⟩
  | .hbm, ⟨8, _⟩ => ⟨S2048, .f32⟩
  | .hbm, ⟨9, _⟩ => ⟨S2048, .f32⟩
  | .hbm, ⟨10, _⟩ => ⟨S2048x2048, .bf16⟩
  | .hbm, ⟨11, _⟩ => ⟨S1x2048, .f32⟩
  | .hbm, ⟨12, _⟩ => ⟨S1x2048, .f32⟩
  | .hbm, ⟨13, _⟩ => ⟨S8192x2048, .f32⟩
  | .hbm, ⟨14, _⟩ => ⟨S8192x2048, .bf16⟩
  | .local _ .vmem, ⟨0, _⟩ => ⟨S256x2048, .f32⟩
  | .local _ .vmem, ⟨1, _⟩ => ⟨S256x2048, .f32⟩
  | .local _ .vmem, ⟨2, _⟩ => ⟨S256x512, .bf16⟩
  | .local _ .vmem, ⟨3, _⟩ => ⟨S256x512, .bf16⟩
  | .local _ .vmem, ⟨4, _⟩ => ⟨S256x512, .bf16⟩
  | .local _ .vmem, ⟨5, _⟩ => ⟨S256x512, .bf16⟩
  | .local _ .vmem, ⟨6, _⟩ => ⟨S256x640, .f32⟩
  | .local _ .vmem, ⟨7, _⟩ => ⟨S256x640, .f32⟩
  | .local _ .vmem, ⟨8, _⟩ => ⟨S256x640, .f32⟩
  | .local _ .vmem, ⟨9, _⟩ => ⟨S256x640, .f32⟩
  | .local _ .vmem, ⟨10, _⟩ => ⟨S256x640, .f32⟩
  | .local _ .vmem, ⟨11, _⟩ => ⟨S256x640, .f32⟩
  | .local _ .vmem, ⟨12, _⟩ => ⟨S256x512, .bf16⟩
  | .local _ .vmem, ⟨13, _⟩ => ⟨S256x512, .bf16⟩
  | .local _ .vmem, ⟨14, _⟩ => ⟨S2048x2048, .bf16⟩
  | .local _ .vmem, ⟨15, _⟩ => ⟨S1x2048, .f32⟩
  | .local _ .vmem, ⟨16, _⟩ => ⟨S1x2048, .f32⟩
  | .local _ .vmem, ⟨17, _⟩ => ⟨S256x2048, .f32⟩
  | .local _ .vmem, ⟨18, _⟩ => ⟨S256x2048, .f32⟩
  | .local _ .vmem, ⟨19, _⟩ => ⟨S256x2048, .bf16⟩
  | .local _ .vmem, ⟨20, _⟩ => ⟨S256x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3_0 : Ref sig .tc := ⟨.hbm, 13, rfl⟩
abbrev main_v3_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem10_1 : DmaSem sig := 18
abbrev cc0_sem11_0 : DmaSem sig := 19
abbrev cc0_sem11_1 : DmaSem sig := 20

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x640 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x640 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x640 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S2048x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x2048 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== OutReferenceIdeal.lean ====
abbrev S8192x2048 : Shape := ⟨2, ![8192, 2048]⟩
abbrev S8192x512 : Shape := ⟨2, ![8192, 512]⟩
abbrev S8192x640 : Shape := ⟨2, ![8192, 640]⟩
abbrev S2048x2048 : Shape := ⟨2, ![2048, 2048]⟩
abbrev S2048 : Shape := ⟨1, ![2048]⟩
abbrev S1x8192x640 : Shape := ⟨3, ![1, 8192, 640]⟩
abbrev S3x8192x640 : Shape := ⟨3, ![3, 8192, 640]⟩
abbrev S3x8192x512 : Shape := ⟨3, ![3, 8192, 512]⟩
abbrev S3x8192x8x64 : Shape := ⟨4, ![3, 8192, 8, 64]⟩
abbrev S3x8192x8 : Shape := ⟨3, ![3, 8192, 8]⟩
abbrev S_ : Shape := ⟨0, ![]⟩
abbrev S8192x8 : Shape := ⟨2, ![8192, 8]⟩
abbrev S1x8192x8 : Shape := ⟨3, ![1, 8192, 8]⟩
abbrev S3x8192x8x1 : Shape := ⟨4, ![3, 8192, 8, 1]⟩
abbrev S8192x8x64 : Shape := ⟨3, ![8192, 8, 64]⟩
abbrev S8192x8x1 : Shape := ⟨3, ![8192, 8, 1]⟩
abbrev S8192 : Shape := ⟨1, ![8192]⟩
abbrev S8192x1 : Shape := ⟨2, ![8192, 1]⟩
abbrev S1x2048 : Shape := ⟨2, ![1, 2048]⟩

abbrev nBuf : Space → Nat
  | .hbm => 73
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x512, .bf16⟩
  | .hbm, ⟨2, _⟩ => ⟨S8192x512, .bf16⟩
  | .hbm, ⟨3, _⟩ => ⟨S8192x640, .f32⟩
  | .hbm, ⟨4, _⟩ => ⟨S8192x640, .f32⟩
  | .hbm, ⟨5, _⟩ => ⟨S8192x640, .f32⟩
  | .hbm, ⟨6, _⟩ => ⟨S8192x512, .bf16⟩
  | .hbm, ⟨7, _⟩ => ⟨S2048x2048, .f32⟩
  | .hbm, ⟨8, _⟩ => ⟨S2048, .f32⟩
  | .hbm, ⟨9, _⟩ => ⟨S2048, .f32⟩
  | .hbm, ⟨10, _⟩ => ⟨S1x8192x640, .f32⟩
  | .hbm, ⟨11, _⟩ => ⟨S1x8192x640, .f32⟩
  | .hbm, ⟨12, _⟩ => ⟨S1x8192x640, .f32⟩
  | .hbm, ⟨13, _⟩ => ⟨S3x8192x640, .f32⟩
  | .hbm, ⟨14, _⟩ => ⟨S3x8192x512, .f32⟩
  | .hbm, ⟨15, _⟩ => ⟨S3x8192x8x64, .f32⟩
  | .hbm, ⟨16, _⟩ => ⟨S3x8192x8, .f32⟩
  | .hbm, ⟨17, _⟩ => ⟨S_, .f32⟩
  | .hbm, ⟨18, _⟩ => ⟨S8192x8, .f32⟩
  | .hbm, ⟨19, _⟩ => ⟨S1x8192x8, .f32⟩
  | .hbm, ⟨20, _⟩ => ⟨S3x8192x8, .f32⟩
  | .hbm, ⟨21, _⟩ => ⟨S3x8192x8, .f32⟩
  | .hbm, ⟨22, _⟩ => ⟨S3x8192x8, .f32⟩
  | .hbm, ⟨23, _⟩ => ⟨S3x8192x8x1, .f32⟩
  | .hbm, ⟨24, _⟩ => ⟨S3x8192x8x64, .f32⟩
  | .hbm, ⟨25, _⟩ => ⟨S3x8192x8x64, .f32⟩
  | .hbm, ⟨26, _⟩ => ⟨S_, .f32⟩
  | .hbm, ⟨27, _⟩ => ⟨S8192x8x64, .f32⟩
  | .hbm, ⟨28, _⟩ => ⟨S_, .f32⟩
  | .hbm, ⟨29, _⟩ => ⟨S8192x8, .f32⟩
  | .hbm, ⟨30, _⟩ => ⟨S8192x8x1, .f32⟩
  | .hbm, ⟨31, _⟩ => ⟨S8192x8x64, .f32⟩
  | .hbm, ⟨32, _⟩ => ⟨S8192x8x64, .f32⟩
  | .hbm, ⟨33, _⟩ => ⟨S8192x512, .f32⟩
  | .hbm, ⟨34, _⟩ => ⟨S8192x512, .f32⟩
  | .hbm, ⟨35, _⟩ => ⟨S8192x512, .f32⟩
  | .hbm, ⟨36, _⟩ => ⟨S8192x512, .f32⟩
  | .hbm, ⟨37, _⟩ => ⟨S8192x2048, .f32⟩
  | .hbm, ⟨38, _⟩ => ⟨S8192x2048, .f32⟩
  | .hbm, ⟨39, _⟩ => ⟨S_, .f32⟩
  | .hbm, ⟨40, _⟩ => ⟨S8192x2048, .f32⟩
  | .hbm, ⟨41, _⟩ => ⟨S8192x2048, .f32⟩
  | .hbm, ⟨42, _⟩ => ⟨S8192x2048, .f32⟩
  | .hbm, ⟨43, _⟩ => ⟨S_, .f32⟩
  | .hbm, ⟨44, _⟩ => ⟨S8192, .f32⟩
  | .hbm, ⟨45, _⟩ => ⟨S8192x1, .f32⟩
  | .hbm, ⟨46, _⟩ => ⟨S_, .f32⟩
  | .hbm, ⟨47, _⟩ => ⟨S8192x1, .f32⟩
  | .hbm, ⟨48, _⟩ => ⟨S8192x1, .f32⟩
  | .hbm, ⟨49, _⟩ => ⟨S8192x2048, .f32⟩
  | .hbm, ⟨50, _⟩ => ⟨S8192x2048, .f32⟩
  | .hbm, ⟨51, _⟩ => ⟨S8192x2048, .f32⟩
  | .hbm, ⟨52, _⟩ => ⟨S_, .f32⟩
  | .hbm, ⟨53, _⟩ => ⟨S8192, .f32⟩
  | .hbm, ⟨54, _⟩ => ⟨S8192x1, .f32⟩
  | .hbm, ⟨55, _⟩ => ⟨S_, .f32⟩
  | .hbm, ⟨56, _⟩ => ⟨S8192x1, .f32⟩
  | .hbm, ⟨57, _⟩ => ⟨S8192x1, .f32⟩
  | .hbm, ⟨58, _⟩ => ⟨S8192x2048, .f32⟩
  | .hbm, ⟨59, _⟩ => ⟨S8192x2048, .f32⟩
  | .hbm, ⟨60, _⟩ => ⟨S_, .f32⟩
  | .hbm, ⟨61, _⟩ => ⟨S8192x1, .f32⟩
  | .hbm, ⟨62, _⟩ => ⟨S8192x1, .f32⟩
  | .hbm, ⟨63, _⟩ => ⟨S8192x1, .f32⟩
  | .hbm, ⟨64, _⟩ => ⟨S8192x2048, .f32⟩
  | .hbm, ⟨65, _⟩ => ⟨S8192x2048, .f32⟩
  | .hbm, ⟨66, _⟩ => ⟨S1x2048, .f32⟩
  | .hbm, ⟨67, _⟩ => ⟨S8192x2048, .f32⟩
  | .hbm, ⟨68, _⟩ => ⟨S8192x2048, .f32⟩
  | .hbm, ⟨69, _⟩ => ⟨S1x2048, .f32⟩
  | .hbm, ⟨70, _⟩ => ⟨S8192x2048, .f32⟩
  | .hbm, ⟨71, _⟩ => ⟨S8192x2048, .f32⟩
  | .hbm, ⟨72, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_0 : Ref sig .tc := ⟨.hbm, 26, rfl⟩
abbrev main_v15 : Ref sig .tc := ⟨.hbm, 27, rfl⟩
abbrev main_cst_1 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_2 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_3 : Ref sig .tc := ⟨.hbm, 43, rfl⟩
abbrev main_v29 : Ref sig .tc := ⟨.hbm, 44, rfl⟩
abbrev main_v30 : Ref sig .tc := ⟨.hbm, 45, rfl⟩
abbrev main_cst_4 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_5 : Ref sig .tc := ⟨.hbm, 52, rfl⟩
abbrev main_v36 : Ref sig .tc := ⟨.hbm, 53, rfl⟩
abbrev main_v37 : Ref sig .tc := ⟨.hbm, 54, rfl⟩
abbrev main_cst_6 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_7 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩

abbrev nD : Nat := 1
abbrev τ : Topo := Topo.v7x

variable {F : FTy → Type} [FloatOps F]
-- ==== Ln.lean ====
abbrev S8192x2048 : Shape := ⟨2, ![8192, 2048]⟩
abbrev S2048 : Shape := ⟨1, ![2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 8
  | .vmem => 10
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S2048, .f32⟩
  | .hbm, ⟨3, _⟩ => ⟨S2048, .f32⟩
  | .hbm, ⟨4, _⟩ => ⟨S1x2048, .f32⟩
  | .hbm, ⟨5, _⟩ => ⟨S1x2048, .f32⟩
  | .hbm, ⟨6, _⟩ => ⟨S8192x2048, .f32⟩
  | .hbm, ⟨7, _⟩ => ⟨S8192x2048, .bf16⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S1x2048, .f32⟩
  | .local _ .vmem, ⟨5, _⟩ => ⟨S1x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .bf16⟩
  | .local _ .vmem, ⟨9, _⟩ => ⟨S256x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== LnReferenceIdeal.lean ====
abbrev S8192x2048 : Shape := ⟨2, ![8192, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩

abbrev nBuf : Space → Nat
  | .hbm => 38
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S2048, .f32⟩
  | .hbm, ⟨3, _⟩ => ⟨S2048, .f32⟩
  | .hbm, ⟨4, _⟩ => ⟨S_, .f32⟩
  | .hbm, ⟨5, _⟩ => ⟨S8192x2048, .f32⟩
  | .hbm, ⟨6, _⟩ => ⟨S8192x2048, .f32⟩
  | .hbm, ⟨7, _⟩ => ⟨S8192x2048, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x2048, .f32⟩
  | .hbm, ⟨15, _⟩ => ⟨S8192x2048, .f32⟩
  | .hbm, ⟨16, _⟩ => ⟨S8192x2048, .f32⟩
  | .hbm, ⟨17, _⟩ => ⟨S_, .f32⟩
  | .hbm, ⟨18, _⟩ => ⟨S8192, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S8192x2048, .f32⟩
  | .hbm, ⟨24, _⟩ => ⟨S8192x2048, .f32⟩
  | .hbm, ⟨25, _⟩ => ⟨S_, .f32⟩
  | .hbm, ⟨26, _⟩ => ⟨S8192x1, .f32⟩
  | .hbm, ⟨27, _⟩ => ⟨S8192x1, .f32⟩
  | .hbm, ⟨28, _⟩ => ⟨S8192x1, .f32⟩
  | .hbm, ⟨29, _⟩ => ⟨S8192x2048, .f32⟩
  | .hbm, ⟨30, _⟩ => ⟨S8192x2048, .f32⟩
  | .hbm, ⟨31, _⟩ => ⟨S1x2048, .f32⟩
  | .hbm, ⟨32, _⟩ => ⟨S8192x2048, .f32⟩
  | .hbm, ⟨33, _⟩ => ⟨S8192x2048, .f32⟩
  | .hbm, ⟨34, _⟩ => ⟨S1x2048, .f32⟩
  | .hbm, ⟨35, _⟩ => ⟨S8192x2048, .f32⟩
  | .hbm, ⟨36, _⟩ => ⟨S8192x2048, .f32⟩
  | .hbm, ⟨37, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_4 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩

abbrev nD : Nat := 1
abbrev τ : Topo := Topo.v7x

variable {F : FTy → Type} [FloatOps F]
-- ==== Proof.Trip.lean ====
module

public import proofs.«01_k».proof.Proof.Gen.KernelIdeal.Value

@[expose] public section

set_option maxRecDepth 16384
noncomputable section

/-! One trip of the loop over the full key tiles, slot by slot: what it leaves in a chain's running maximum and in
    its accumulator, as a function of what it found there. -/

namespace Cert.Proof.Trip
open Cert.KernelIdeal Cert.KernelIdeal.Gen Idealize.ShloMosaic Idealize.ShloMosaic.TcCoe Idealize.SL.Sem

section generic
variable {sig : RefSig} {κ : Kind} {sp : Space} {s : Shape} {e : EltTy} {Val : EltTy → Type}

/-- A load of the box the last store wrote reads what it stored. -/
theorem rd_same (v : View sig κ sp s e) (f : v.ty.Contents Val) (r : Rect s) (w : r.shape.Idx → Val e)
    (L : List (View.Piece Val s e)) : v.readAt Val r.toLoadRect (v.writes Val f (⟨r, w⟩ :: L)) = w :=
  funext fun j => View.read_writes_cons_emb v f r w L j

/-- A load of a box that the last store does not meet reads the earlier stores. -/
theorem rd_skip (v : View sig κ sp s e) (f : v.ty.Contents Val) (r : Rect s) (w : r.shape.Idx → Val e)
    (L : List (View.Piece Val s e)) (B : LoadRect s) (h : LoadRect.disj r B = true) :
    v.readAt Val B (v.writes Val f (⟨r, w⟩ :: L)) = v.readAt Val B (v.writes Val f L) := by
  have h' := View.readAt_writes_of_forall_not_mem v (v.writes Val f L) [⟨r, w⟩] B
    (fun j p hp => by
      obtain rfl := List.mem_singleton.mp hp
      exact LoadRect.idx_not_mem_of_disj h j)
  exact h'

/-- After one store into each of four slots, in order, the first slot holds the first payload, -/
theorem rd_four0 (v : View sig κ sp s e) (f : v.ty.Contents Val) (r0 r1 r2 r3 : Rect s) (w0 : r0.shape.Idx → Val e)
    (w1 : r1.shape.Idx → Val e) (w2 : r2.shape.Idx → Val e) (w3 : r3.shape.Idx → Val e)
    (h1 : LoadRect.disj r1 r0.toLoadRect = true) (h2 : LoadRect.disj r2 r0.toLoadRect = true) (h3 : LoadRect.disj r3 r0.toLoadRect = true) :
    v.readAt Val r0.toLoadRect (v.writes Val f [⟨r3, w3⟩, ⟨r2, w2⟩, ⟨r1, w1⟩, ⟨r0, w0⟩]) = w0 := by
  rw [rd_skip v f r3 w3 _ _ h3, rd_skip v f r2 w2 _ _ h2, rd_skip v f r1 w1 _ _ h1, rd_same]

/-- the second slot the second, -/
theorem rd_four1 (v : View sig κ sp s e) (f : v.ty.Contents Val) (r0 r1 r2 r3 : Rect s) (w0 : r0.shape.Idx → Val e)
    (w1 : r1.shape.Idx → Val e) (w2 : r2.shape.Idx → Val e) (w3 : r3.shape.Idx → Val e)
    (h2 : LoadRect.disj r2 r1.toLoadRect = true) (h3 : LoadRect.disj r3 r1.toLoadRect = true) :
    v.readAt Val r1.toLoadRect (v.writes Val f [⟨r3, w3⟩, ⟨r2, w2⟩, ⟨r1, w1⟩, ⟨r0, w0⟩]) = w1 := by
  rw [rd_skip v f r3 w3 _ _ h3, rd_skip v f r2 w2 _ _ h2, rd_same]

/-- the third slot the third, -/
theorem rd_four2 (v : View sig κ sp s e) (f : v.ty.Contents Val) (r0 r1 r2 r3 : Rect s) (w0 : r0.shape.Idx → Val e)
    (w1 : r1.shape.Idx → Val e) (w2 : r2.shape.Idx → Val e) (w3 : r3.shape.Idx → Val e)
    (h3 : LoadRect.disj r3 r2.toLoadRect = true) :
    v.readAt Val r2.toLoadRect (v.writes Val f [⟨r3, w3⟩, ⟨r2, w2⟩, ⟨r1, w1⟩, ⟨r0, w0⟩]) = w2 := by
  rw [rd_skip v f r3 w3 _ _ h3, rd_same]

end generic

/-- The scores of one chain's queries against a key tile. -/
abbrev scores (q : FVec Ideal S256x128 .bf16) (kt : Vec Ideal S1024x128 .bf16) : FVec Ideal S256x1024 .f32 := k0_pay9 q kt
/-- The running maximum after a tile with scores `S`. -/
abbrev stepM (S : FVec Ideal S256x1024 .f32) (mo : Vec Ideal S1x256x1 .f32) : Vec Ideal S1x256x1 .f32 := k0_pay13 S mo
/-- The accumulator after a tile with scores `S` and values `W` (the values beside a column of ones). -/
abbrev stepA (W : FVec Ideal S1024x256 .bf16) (S : FVec Ideal S256x1024 .f32) (mo : Vec Ideal S1x256x1 .f32)
    (ao : Vec Ideal S1x256x256 .f32) : Vec Ideal S1x256x256 .f32 := k0_pay12 W S mo ao

/-- The slot of chain 0 in the scratch of maxima, and those of chains 1, 2, 3. -/
abbrev sm0 : Rect S4x256x1 := Rect.unit ![0, 0, 0] S1x256x1.size inb_S4x256x1_S1x256x1_0_0_0
abbrev sm1 : Rect S4x256x1 := Rect.unit ![1, 0, 0] S1x256x1.size inb_S4x256x1_S1x256x1_1_0_0
abbrev sm2 : Rect S4x256x1 := Rect.unit ![2, 0, 0] S1x256x1.size inb_S4x256x1_S1x256x1_2_0_0
abbrev sm3 : Rect S4x256x1 := Rect.unit ![3, 0, 0] S1x256x1.size inb_S4x256x1_S1x256x1_3_0_0
/-- The slot of chain 0 in the scratch of accumulators, and those of chains 1, 2, 3. -/
abbrev sa0 : Rect S4x256x256 := Rect.unit ![0, 0, 0] S1x256x256.size inb_S4x256x256_S1x256x256_0_0_0
abbrev sa1 : Rect S4x256x256 := Rect.unit ![1, 0, 0] S1x256x256.size inb_S4x256x256_S1x256x256_1_0_0
abbrev sa2 : Rect S4x256x256 := Rect.unit ![2, 0, 0] S1x256x256.size inb_S4x256x256_S1x256x256_2_0_0
abbrev sa3 : Rect S4x256x256 := Rect.unit ![3, 0, 0] S1x256x256.size inb_S4x256x256_S1x256x256_3_0_0

section trip
variable (𝒱 : Variants) (c : Dev nD) (bd : Option 𝒱.V) (i : grid0.Coords)
  (arg2 : Memref sig .tc .vmem S4x64 .f32) (harg2 : arg2.IsWhole) (arg3 : Memref sig .tc .vmem S1x128 .f32) (harg3 : arg3.IsWhole)
  (arg4 : Memref sig .tc .vmem S512x128 .bf16) (harg4 : arg4.IsWhole) (arg5 : Memref sig .tc .vmem S8192x128 .bf16) (harg5 : arg5.IsWhole)
  (arg6 : Memref sig .tc .vmem S8192x128 .bf16) (harg6 : arg6.IsWhole) (arg7 : Memref sig .tc .vmem S512x128 .bf16) (harg7 : arg7.IsWhole)
  (arg8 : Memref sig .tc .vmem S4x256x1 .f32) (harg8 : arg8.IsWhole) (arg9 : Memref sig .tc .vmem S4x256x256 .f32) (harg9 : arg9.IsWhole)
  (arg1 : BitVec 32) (q0 q1 q2 q3 : FVec Ideal S256x128 .bf16) (v29 : FVec Ideal S1024x128 .bf16)
  (v30 w1024 v31 v33 : BitVec 32) (v34 : BitVec 1)
  (X5 : BufTy.Contents (Elt Ideal) arg5.view.ty) (X6 : BufTy.Contents (Elt Ideal) arg6.view.ty)

/-- The key tile of trip `k`. -/
abbrev kT (k : Fin (k0_t1_loop i).trips) : Vec Ideal S1024x128 .bf16 :=
  View.readAt (Elt Ideal) arg5.view (Rect.unit (s := S8192x128) (k0_off1 i k) S1024x128.size (k0_off1_inb i k)).toLoadRect X5
/-- The value tile of trip `k`, beside `v29`. -/
abbrev vT (k : Fin (k0_t1_loop i).trips) : FVec Ideal S1024x256 .bf16 :=
  k0_pay19 v29 (View.readAt (Elt Ideal) arg6.view (Rect.unit (s := S8192x128) (k0_off1 i k) S1024x128.size (k0_off1_inb i k)).toLoadRect X6)

set_option maxHeartbeats 4000000 in
/-- The stores of one trip into the maxima: one per chain. -/
theorem trip_m (k : Fin (k0_t1_loop i).trips) (f8 : BufTy.Contents (Elt Ideal) arg8.view.ty) (f9 : BufTy.Contents (Elt Ideal) arg9.view.ty) :
    (tripL_k0_t1 (F := Ideal) 𝒱 c bd i arg2 harg2 arg3 harg3 arg4 harg4 arg5 harg5 arg6 harg6 arg7 harg7 arg8 harg8 arg9 harg9 arg1 q0 q1 q2 q3 v29 v30 w1024 v31 v33 v34 X5 X6 k f8 f9).1
      = [⟨sm3, stepM (scores q3 (kT i arg5 X5 k)) (View.readAt (Elt Ideal) arg8.view sm3.toLoadRect f8)⟩,
         ⟨sm2, stepM (scores q2 (kT i arg5 X5 k)) (View.readAt (Elt Ideal) arg8.view sm2.toLoadRect f8)⟩,
         ⟨sm1, stepM (scores q1 (kT i arg5 X5 k)) (View.readAt (Elt Ideal) arg8.view sm1.toLoadRect f8)⟩,
         ⟨sm0, stepM (scores q0 (kT i arg5 X5 k)) (View.readAt (Elt Ideal) arg8.view sm0.toLoadRect f8)⟩] := by
  unfold tripL_k0_t1 trip_k0_t1
  dsimp only
  rfl

set_option maxHeartbeats 4000000 in
/-- The stores of one trip into the accumulators: one per chain. -/
theorem trip_a (k : Fin (k0_t1_loop i).trips) (f8 : BufTy.Contents (Elt Ideal) arg8.view.ty) (f9 : BufTy.Contents (Elt Ideal) arg9.view.ty) :
    (tripL_k0_t1 (F := Ideal) 𝒱 c bd i arg2 harg2 arg3 harg3 arg4 harg4 arg5 harg5 arg6 harg6 arg7 harg7 arg8 harg8 arg9 harg9 arg1 q0 q1 q2 q3 v29 v30 w1024 v31 v33 v34 X5 X6 k f8 f9).2
      = [⟨sa3, stepA (vT i arg6 v29 X6 k) (scores q3 (kT i arg5 X5 k)) (View.readAt (Elt Ideal) arg8.view sm3.toLoadRect f8) (View.readAt (Elt Ideal) arg9.view sa3.toLoadRect f9)⟩,
         ⟨sa2, stepA (vT i arg6 v29 X6 k) (scores q2 (kT i arg5 X5 k)) (View.readAt (Elt Ideal) arg8.view sm2.toLoadRect f8) (View.readAt (Elt Ideal) arg9.view sa2.toLoadRect f9)⟩,
         ⟨sa1, stepA (vT i arg6 v29 X6 k) (scores q1 (kT i arg5 X5 k)) (View.readAt (Elt Ideal) arg8.view sm1.toLoadRect f8) (View.readAt (Elt Ideal) arg9.view sa1.toLoadRect f9)⟩,
         ⟨sa0, stepA (vT i arg6 v29 X6 k) (scores q0 (kT i arg5 X5 k)) (View.readAt (Elt Ideal) arg8.view sm0.toLoadRect f8) (View.readAt (Elt Ideal) arg9.view sa0.toLoadRect f9)⟩] := by
  unfold tripL_k0_t1 trip_k0_t1
  dsimp only
  rfl

end trip

/-- A chain's running maximum before tile `n`: queries `q`, key tiles `K`, from `m0`. -/
def chM (q : FVec Ideal S256x128 .bf16) (K : ℕ → Vec Ideal S1024x128 .bf16) (m0 : Vec Ideal S1x256x1 .f32) : ℕ → Vec Ideal S1x256x1 .f32
  | 0 => m0
  | n + 1 => stepM (scores q (K n)) (chM q K m0 n)

/-- A chain's accumulator before tile `n`: `W` the value tiles beside the column of ones, from `a0`. -/
def chA (q : FVec Ideal S256x128 .bf16) (K : ℕ → Vec Ideal S1024x128 .bf16) (W : ℕ → FVec Ideal S1024x256 .bf16)
    (m0 : Vec Ideal S1x256x1 .f32) (a0 : Vec Ideal S1x256x256 .f32) : ℕ → Vec Ideal S1x256x256 .f32
  | 0 => a0
  | n + 1 => stepA (W n) (scores q (K n)) (chM q K m0 n) (chA q K W m0 a0 n)

section trip
variable (𝒱 : Variants) (c : Dev nD) (bd : Option 𝒱.V) (i : grid0.Coords)
  (arg2 : Memref sig .tc .vmem S4x64 .f32) (harg2 : arg2.IsWhole) (arg3 : Memref sig .tc .vmem S1x128 .f32) (harg3 : arg3.IsWhole)
  (arg4 : Memref sig .tc .vmem S512x128 .bf16) (harg4 : arg4.IsWhole) (arg5 : Memref sig .tc .vmem S8192x128 .bf16) (harg5 : arg5.IsWhole)
  (arg6 : Memref sig .tc .vmem S8192x128 .bf16) (harg6 : arg6.IsWhole) (arg7 : Memref sig .tc .vmem S512x128 .bf16) (harg7 : arg7.IsWhole)
  (arg8 : Memref sig .tc .vmem S4x256x1 .f32) (harg8 : arg8.IsWhole) (arg9 : Memref sig .tc .vmem S4x256x256 .f32) (harg9 : arg9.IsWhole)
  (arg1 : BitVec 32) (q0 q1 q2 q3 : FVec Ideal S256x128 .bf16) (v29 : FVec Ideal S1024x128 .bf16)
  (v30 w1024 v31 v33 : BitVec 32) (v34 : BitVec 1)
  (X5 : BufTy.Contents (Elt Ideal) arg5.view.ty) (X6 : BufTy.Contents (Elt Ideal) arg6.view.ty)

/-- THE LOOP, slot by slot: before trip `n` each chain's slot holds `chM`, its accumulator `chA`. -/
theorem loop_slots (K : ℕ → Vec Ideal S1024x128 .bf16) (W : ℕ → FVec Ideal S1024x256 .bf16)
    (hK : ∀ k : Fin (k0_t1_loop i).trips, kT i arg5 X5 k = K k) (hW : ∀ k : Fin (k0_t1_loop i).trips, vT i arg6 v29 X6 k = W k)
    (f8 : BufTy.Contents (Elt Ideal) arg8.view.ty) (f9 : BufTy.Contents (Elt Ideal) arg9.view.ty) :
    ∀ n : ℕ, n ≤ (k0_t1_loop i).trips →
    let P := pb_k0_t1 (F := Ideal) 𝒱 c bd i arg2 harg2 arg3 harg3 arg4 harg4 arg5 harg5 arg6 harg6 arg7 harg7 arg8 harg8 arg9 harg9 arg1 q0 q1 q2 q3 v29 v30 w1024 v31 v33 v34 X5 X6 f8 f9 n
    (View.readAt (Elt Ideal) arg8.view sm0.toLoadRect (arg8.view.writes (Elt Ideal) f8 P.1) = chM q0 K (View.readAt (Elt Ideal) arg8.view sm0.toLoadRect f8) n
    ∧ View.readAt (Elt Ideal) arg8.view sm1.toLoadRect (arg8.view.writes (Elt Ideal) f8 P.1) = chM q1 K (View.readAt (Elt Ideal) arg8.view sm1.toLoadRect f8) n
    ∧ View.readAt (Elt Ideal) arg8.view sm2.toLoadRect (arg8.view.writes (Elt Ideal) f8 P.1) = chM q2 K (View.readAt (Elt Ideal) arg8.view sm2.toLoadRect f8) n
    ∧ View.readAt (Elt Ideal) arg8.view sm3.toLoadRect (arg8.view.writes (Elt Ideal) f8 P.1) = chM q3 K (View.readAt (Elt Ideal) arg8.view sm3.toLoadRect f8) n)
    ∧ (View.readAt (Elt Ideal) arg9.view sa0.toLoadRect (arg9.view.writes (Elt Ideal) f9 P.2) = chA q0 K W (View.readAt (Elt Ideal) arg8.view sm0.toLoadRect f8) (View.readAt (Elt Ideal) arg9.view sa0.toLoadRect f9) n
    ∧ View.readAt (Elt Ideal) arg9.view sa1.toLoadRect (arg9.view.writes (Elt Ideal) f9 P.2) = chA q1 K W (View.readAt (Elt Ideal) arg8.view sm1.toLoadRect f8) (View.readAt (Elt Ideal) arg9.view sa1.toLoadRect f9) n
    ∧ View.readAt (Elt Ideal) arg9.view sa2.toLoadRect (arg9.view.writes (Elt Ideal) f9 P.2) = chA q2 K W (View.readAt (Elt Ideal) arg8.view sm2.toLoadRect f8) (View.readAt (Elt Ideal) arg9.view sa2.toLoadRect f9) n
    ∧ View.readAt (Elt Ideal) arg9.view sa3.toLoadRect (arg9.view.writes (Elt Ideal) f9 P.2) = chA q3 K W (View.readAt (Elt Ideal) arg8.view sm3.toLoadRect f8) (View.readAt (Elt Ideal) arg9.view sa3.toLoadRect f9) n)
  | 0, _ => ⟨⟨rfl, rfl, rfl, rfl⟩, rfl, rfl, rfl, rfl⟩
  | n + 1, h => by
    obtain ⟨⟨m0, m1, m2, m3⟩, a0, a1, a2, a3⟩ := loop_slots K W hK hW f8 f9 n (by omega)
    have e := pb_k0_t1_succ (F := Ideal) 𝒱 c bd i arg2 harg2 arg3 harg3 arg4 harg4 arg5 harg5 arg6 harg6 arg7 harg7 arg8 harg8 arg9 harg9 arg1 q0 q1 q2 q3 v29 v30 w1024 v31 v33 v34 X5 X6 f8 f9 ⟨n, h⟩
    rw [trip_m, trip_a] at e
    dsimp only at e m0 m1 m2 m3 a0 a1 a2 a3 ⊢
    rw [e]
    dsimp only
    rw [View.writes_append, View.writes_append, m0, m1, m2, m3, a0, a1, a2, a3, hK ⟨n, h⟩, hW ⟨n, h⟩]
    refine ⟨⟨?_, ?_, ?_, ?_⟩, ?_, ?_, ?_, ?_⟩
    · exact rd_four0 arg8.view _ sm0 sm1 sm2 sm3 _ _ _ _ rfl rfl rfl
    · exact rd_four1 arg8.view _ sm0 sm1 sm2 sm3 _ _ _ _ rfl rfl
    · exact rd_four2 arg8.view _ sm0 sm1 sm2 sm3 _ _ _ _ rfl
    · exact rd_same arg8.view _ sm3 _ _
    · exact rd_four0 arg9.view _ sa0 sa1 sa2 sa3 _ _ _ _ rfl rfl rfl
    · exact rd_four1 arg9.view _ sa0 sa1 sa2 sa3 _ _ _ _ rfl rfl
    · exact rd_four2 arg9.view _ sa0 sa1 sa2 sa3 _ _ _ _ rfl
    · exact rd_same arg9.view _ sa3 _ _

end trip

/-- The loop over the full tiles makes `i₁ / 2` trips, -/
theorem trips1 (i : grid0.Coords) : (k0_t1_loop i).trips = (i 1).val / 2 := by
  have h : ∀ a : Fin 4, ∀ b : Fin 16, (k0_t1_loop (fun | 0 => a | 1 => b)).trips = b.val / 2 := by decide
  have e : i = (fun | 0 => i 0 | 1 => i 1) := by
    funext a
    match a with
    | 0 => rfl
    | 1 => rfl
  rw [e]
  exact h _ _

/-- and the second loop none. -/
theorem trips2 (i : grid0.Coords) : (k0_t2_loop i).trips = 0 := by
  have h : ∀ a : Fin 4, ∀ b : Fin 16, (k0_t2_loop (fun | 0 => a | 1 => b)).trips = 0 := by decide
  have e : i = (fun | 0 => i 0 | 1 => i 1) := by
    funext a
    match a with
    | 0 => rfl
    | 1 => rfl
  rw [e]
  exact h _ _

/-- The masked tile is tile `i₁ / 2`. -/
theorem off3 (i : grid0.Coords) : k0_off3 i = ![1024 * ((i 1).val / 2), 0] := by
  have h : ∀ a : Fin 4, ∀ b : Fin 16, k0_off3 (fun | 0 => a | 1 => b) = ![1024 * (b.val / 2), 0] := by decide
  have e : i = (fun | 0 => i 0 | 1 => i 1) := by
    funext a
    match a with
    | 0 => rfl
    | 1 => rfl
  rw [e]
  exact h _ _

/-- Trip `k` reads tile `k`. -/
theorem off1 (i : grid0.Coords) (k : Fin (k0_t1_loop i).trips) : k0_off1 i k = ![1024 * k.val, 0] := by
  have hk : k.val < 8 := by
    have h1 := Nat.lt_of_lt_of_eq k.isLt (trips1 i)
    have : (i 1).val < 16 := (i 1).isLt
    omega
  have h : ∀ n : Fin 8, (Scalar.indexCast (Scalar.muli (Scf.iv 0#32 1#32 n.val) 1024#32)).toNat = 1024 * n.val := by decide
  have := h ⟨k.val, hk⟩
  unfold k0_off1
  dsimp only at this ⊢
  rw [this]

end Cert.Proof.Trip
-- ==== Proof.Body.lean ====
module

public import proofs.«01_k».proof.Proof.Trip
public import Idealize.ShloMosaic.Lib.WholeRead
public import Idealize.ShloMosaic.Lib.Pipeline.ReadBack

@[expose] public section

set_option maxRecDepth 16384
noncomputable section

/-! What the body of the kernel leaves in its output block, as a function of its input blocks: the four chains' loops,
    the masked tile and the combination at the end. -/

namespace Cert.Proof.Body
open Cert.KernelIdeal Cert.KernelIdeal.Gen Idealize.ShloMosaic Idealize.ShloMosaic.TcCoe Idealize.SL.Sem
open Cert.Proof.Trip

/-- Row `k` of tile `j` of an array of 8192 rows. -/
def tile (x : Vec Ideal S8192x128 .bf16) (j : ℕ) : Vec Ideal S1024x128 .bf16 :=
  fun y => x fun | 0 => ⟨(1024 * j + (y 0).val) % 8192, Nat.mod_lt _ (by decide)⟩ | 1 => y 1

/-- A value tile beside the column of ones. -/
abbrev vtile (x : Vec Ideal S8192x128 .bf16) (j : ℕ) : FVec Ideal S1024x256 .bf16 := k0_pay19 k0_pay46 (tile x j)

/-- A running maximum before any tile: the mask. -/
def mInit : Vec Ideal S1x256x1 .f32 := fun _ => Named.named (F := Ideal) κ "mask" (φ := .f32) 0xF149F2CA#32
/-- An accumulator before any tile: zero. -/
def aInit : Vec Ideal S1x256x256 .f32 := fun _ => Scalar.ofBits (F := Ideal) .f32 0x00000000#32

/-- The scores of the masked tile: `w` the chain's first query row, `v` the tile's first key row. -/
def maskedS (v w : BitVec 32) (q : FVec Ideal S256x128 .bf16) (kt : Vec Ideal S1024x128 .bf16) : FVec Ideal S256x1024 .f32 :=
  k0_pay77 (scores q kt)
    (cmpi .sle (addi (broadcast S256x1024 v) (iota .tc S256x1024 32 [1] iota_S256x1024_d1_w32))
      (addi (broadcast S256x1024 w) (iota .tc S256x1024 32 [0] iota_S256x1024_d0_w32))) k0_pay76

/-- A chain's accumulator after the masked tile `n`, whose scores are `S`. -/
def fin (q : FVec Ideal S256x128 .bf16) (S : FVec Ideal S256x1024 .f32) (x3 x4 : Vec Ideal S8192x128 .bf16) (n : ℕ) : Vec Ideal S1x256x256 .f32 :=
  stepA (vtile x4 n) S (chM q (tile x3) mInit n) (chA q (tile x3) (vtile x4) mInit aInit n)

/-- The combination at the end of the body. -/
def combine (x0 : Vec Ideal S4x64 .f32) (x1 : Vec Ideal S1x128 .f32) (a0 a1 a2 a3 : Vec Ideal S1x256x256 .f32) : Vec Ideal S512x128 .bf16 :=
  k0_pay1 (k0_pay92 (k0_pay89 x0) (k0_pay90 a0 a0) (k0_pay91 a1) a1 a2 a2 a3 a3 x1)

section body
variable (c : Dev nD) (i : grid0.Coords)
  (arg2 : Memref sig .tc .vmem S4x64 .f32) (harg2 : arg2.IsWhole) (arg3 : Memref sig .tc .vmem S1x128 .f32) (harg3 : arg3.IsWhole)
  (arg4 : Memref sig .tc .vmem S512x128 .bf16) (harg4 : arg4.IsWhole) (arg5 : Memref sig .tc .vmem S8192x128 .bf16) (harg5 : arg5.IsWhole)
  (arg6 : Memref sig .tc .vmem S8192x128 .bf16) (harg6 : arg6.IsWhole) (arg7 : Memref sig .tc .vmem S512x128 .bf16) (harg7 : arg7.IsWhole)
  (arg8 : Memref sig .tc .vmem S4x256x1 .f32) (harg8 : arg8.IsWhole) (arg9 : Memref sig .tc .vmem S4x256x256 .f32) (harg9 : arg9.IsWhole)
  (x0 : Vec Ideal S4x64 .f32) (x1 : Vec Ideal S1x128 .f32) (x2 : Vec Ideal S512x128 .bf16) (x3 x4 : Vec Ideal S8192x128 .bf16)

/-- A load of 1024 rows from row `1024 j` of a whole block reads tile `j`. -/
theorem read_tile (m : Memref sig .tc .vmem S8192x128 .bf16) (hm : m.IsWhole) (x : Vec Ideal S8192x128 .bf16) (j : ℕ)
    (off : Fin 2 → ℕ) (ho : off = ![1024 * j, 0]) (inb : ∀ a, off a + S1024x128.size a ≤ S8192x128.size a) :
    View.readAt (Elt Ideal) m.view (Rect.unit (s := S8192x128) off S1024x128.size inb).toLoadRect (hm.unread x) = tile x j := by
  subst ho
  funext y
  rw [Memref.IsWhole.readAt_unread]
  refine congrArg x (funext fun a => ?_)
  have h0 : 1024 * j + 1024 ≤ 8192 := inb 0
  have hy : (y 0).val < 1024 := (y 0).isLt
  match a with
  | 0 =>
    apply Fin.ext
    show 1024 * j + 1 * (y 0).val = (1024 * j + (y 0).val) % 8192
    rw [Nat.mod_eq_of_lt (by omega), Nat.one_mul]
  | 1 =>
    apply Fin.ext
    show 0 + 1 * (y 1).val = (y 1).val
    omega

/-- A load of a whole block held at `x` reads `x`. -/
theorem read_whole {s : Shape} {e : EltTy} (m : Memref sig .tc .vmem s e) (hm : m.IsWhole) (x : s.Idx → Elt Ideal e)
    (off : Fin s.rank → ℕ) (ho : ∀ a, off a = 0) (inb : ∀ a, off a + s.size a ≤ s.size a) :
    View.readAt (Elt Ideal) m.view (Rect.unit off s.size inb).toLoadRect (hm.unread x) = x := by
  funext y
  rw [Memref.IsWhole.readAt_unread]
  refine congrArg x (funext fun a => Fin.ext ?_)
  show off a + 1 * (y a).val = (y a).val
  rw [ho a]; omega

theorem r_eq : kernelRun0_A.sl.r (F := Ideal) c arg4 harg4 x2 = k0_pay40 x2 :=
  congrArg k0_pay40 (read_whole arg4 harg4 x2 _ (by decide) _)
theorem r1_eq : kernelRun0_A.sl.r_1 (F := Ideal) c arg4 harg4 x2 = k0_pay41 x2 :=
  congrArg k0_pay41 (read_whole arg4 harg4 x2 _ (by decide) _)
theorem r2_eq : kernelRun0_A.sl.r_2 (F := Ideal) c arg4 harg4 x2 = k0_pay42 x2 :=
  congrArg k0_pay42 (read_whole arg4 harg4 x2 _ (by decide) _)
theorem r3_eq : kernelRun0_A.sl.r_3 (F := Ideal) c arg4 harg4 x2 = k0_pay43 x2 :=
  congrArg k0_pay43 (read_whole arg4 harg4 x2 _ (by decide) _)

/-- The masked tile's keys, -/
theorem r4_eq : kernelRun0_A.sl.r_4 (F := Ideal) i arg5 harg5 x3 = tile x3 ((i 1).val / 2) :=
  read_tile arg5 harg5 x3 _ _ (off3 i) _
/-- and its values, beside the column of ones. -/
theorem r5_eq : kernelRun0_A.sl.r_5 (F := Ideal) i arg6 harg6 x4 = vtile x4 ((i 1).val / 2) :=
  congrArg (k0_pay59 k0_pay46) (read_tile arg6 harg6 x4 _ _ (off3 i) _)

/-- The pieces stored into the maxima by the fill and the loops, -/
abbrev L8 := (pb_k0_t2 (F := Ideal) Variants.none c none i arg2 harg2 arg3 harg3 arg4 harg4 arg5 harg5 arg6 harg6 arg7 harg7 arg8 harg8 arg9 harg9 (BitVec.ofNat 32 (i 1).val) (kernelRun0_A.sl.r c arg4 harg4 x2) (kernelRun0_A.sl.r_1 c arg4 harg4 x2) (kernelRun0_A.sl.r_2 c arg4 harg4 x2) (kernelRun0_A.sl.r_3 c arg4 harg4 x2) k0_pay46 (kernelRun0_A.sl.v30 i) (1024#32) (kernelRun0_A.sl.v31 i) (kernelRun0_A.sl.v33 i) (kernelRun0_A.sl.v34 i) (kernelRun0_A.sl.v52 i) (harg5.unread x3) (harg6.unread x4)
        (arg8.view.writes (Elt Ideal) arg8.view.junk ((pb_k0_t1 Variants.none c none i arg2 harg2 arg3 harg3 arg4 harg4 arg5 harg5 arg6 harg6 arg7 harg7 arg8 harg8 arg9 harg9 (BitVec.ofNat 32 (i 1).val) (kernelRun0_A.sl.r c arg4 harg4 x2) (kernelRun0_A.sl.r_1 c arg4 harg4 x2) (kernelRun0_A.sl.r_2 c arg4 harg4 x2) (kernelRun0_A.sl.r_3 c arg4 harg4 x2) k0_pay46 (kernelRun0_A.sl.v30 i) (1024#32) (kernelRun0_A.sl.v31 i) (kernelRun0_A.sl.v33 i) (kernelRun0_A.sl.v34 i) (harg5.unread x3) (harg6.unread x4)
                (arg8.view.writes (Elt Ideal) arg8.view.junk kernelRun0_A.sl.HS0_1) (arg9.view.writes (Elt Ideal) arg9.view.junk kernelRun0_A.sl.HS1_1)
                (Scf.trips (k0_t1_loop i).lb (k0_t1_loop i).ub (k0_t1_loop i).st)).1 ++ kernelRun0_A.sl.HS0_1))
        (arg9.view.writes (Elt Ideal) arg9.view.junk ((pb_k0_t1 Variants.none c none i arg2 harg2 arg3 harg3 arg4 harg4 arg5 harg5 arg6 harg6 arg7 harg7 arg8 harg8 arg9 harg9 (BitVec.ofNat 32 (i 1).val) (kernelRun0_A.sl.r c arg4 harg4 x2) (kernelRun0_A.sl.r_1 c arg4 harg4 x2) (kernelRun0_A.sl.r_2 c arg4 harg4 x2) (kernelRun0_A.sl.r_3 c arg4 harg4 x2) k0_pay46 (kernelRun0_A.sl.v30 i) (1024#32) (kernelRun0_A.sl.v31 i) (kernelRun0_A.sl.v33 i) (kernelRun0_A.sl.v34 i) (harg5.unread x3) (harg6.unread x4)
                (arg8.view.writes (Elt Ideal) arg8.view.junk kernelRun0_A.sl.HS0_1) (arg9.view.writes (Elt Ideal) arg9.view.junk kernelRun0_A.sl.HS1_1)
                (Scf.trips (k0_t1_loop i).lb (k0_t1_loop i).ub (k0_t1_loop i).st)).2 ++ kernelRun0_A.sl.HS1_1))
        (Scf.trips (k0_t2_loop i).lb (k0_t2_loop i).ub (k0_t2_loop i).st)).1 ++
      ((pb_k0_t1 (F := Ideal) Variants.none c none i arg2 harg2 arg3 harg3 arg4 harg4 arg5 harg5 arg6 harg6 arg7 harg7 arg8 harg8 arg9 harg9 (BitVec.ofNat 32 (i 1).val) (kernelRun0_A.sl.r c arg4 harg4 x2) (kernelRun0_A.sl.r_1 c arg4 harg4 x2) (kernelRun0_A.sl.r_2 c arg4 harg4 x2) (kernelRun0_A.sl.r_3 c arg4 harg4 x2) k0_pay46 (kernelRun0_A.sl.v30 i) (1024#32) (kernelRun0_A.sl.v31 i) (kernelRun0_A.sl.v33 i) (kernelRun0_A.sl.v34 i) (harg5.unread x3) (harg6.unread x4)
          (arg8.view.writes (Elt Ideal) arg8.view.junk kernelRun0_A.sl.HS0_1) (arg9.view.writes (Elt Ideal) arg9.view.junk kernelRun0_A.sl.HS1_1)
          (Scf.trips (k0_t1_loop i).lb (k0_t1_loop i).ub (k0_t1_loop i).st)).1 ++ kernelRun0_A.sl.HS0_1)
/-- and those stored into the accumulators. -/
abbrev L9 := (pb_k0_t2 (F := Ideal) Variants.none c none i arg2 harg2 arg3 harg3 arg4 harg4 arg5 harg5 arg6 harg6 arg7 harg7 arg8 harg8 arg9 harg9 (BitVec.ofNat 32 (i 1).val) (kernelRun0_A.sl.r c arg4 harg4 x2) (kernelRun0_A.sl.r_1 c arg4 harg4 x2) (kernelRun0_A.sl.r_2 c arg4 harg4 x2) (kernelRun0_A.sl.r_3 c arg4 harg4 x2) k0_pay46 (kernelRun0_A.sl.v30 i) (1024#32) (kernelRun0_A.sl.v31 i) (kernelRun0_A.sl.v33 i) (kernelRun0_A.sl.v34 i) (kernelRun0_A.sl.v52 i) (harg5.unread x3) (harg6.unread x4)
        (arg8.view.writes (Elt Ideal) arg8.view.junk ((pb_k0_t1 Variants.none c none i arg2 harg2 arg3 harg3 arg4 harg4 arg5 harg5 arg6 harg6 arg7 harg7 arg8 harg8 arg9 harg9 (BitVec.ofNat 32 (i 1).val) (kernelRun0_A.sl.r c arg4 harg4 x2) (kernelRun0_A.sl.r_1 c arg4 harg4 x2) (kernelRun0_A.sl.r_2 c arg4 harg4 x2) (kernelRun0_A.sl.r_3 c arg4 harg4 x2) k0_pay46 (kernelRun0_A.sl.v30 i) (1024#32) (kernelRun0_A.sl.v31 i) (kernelRun0_A.sl.v33 i) (kernelRun0_A.sl.v34 i) (harg5.unread x3) (harg6.unread x4)
                (arg8.view.writes (Elt Ideal) arg8.view.junk kernelRun0_A.sl.HS0_1) (arg9.view.writes (Elt Ideal) arg9.view.junk kernelRun0_A.sl.HS1_1)
                (Scf.trips (k0_t1_loop i).lb (k0_t1_loop i).ub (k0_t1_loop i).st)).1 ++ kernelRun0_A.sl.HS0_1))
        (arg9.view.writes (Elt Ideal) arg9.view.junk ((pb_k0_t1 Variants.none c none i arg2 harg2 arg3 harg3 arg4 harg4 arg5 harg5 arg6 harg6 arg7 harg7 arg8 harg8 arg9 harg9 (BitVec.ofNat 32 (i 1).val) (kernelRun0_A.sl.r c arg4 harg4 x2) (kernelRun0_A.sl.r_1 c arg4 harg4 x2) (kernelRun0_A.sl.r_2 c arg4 harg4 x2) (kernelRun0_A.sl.r_3 c arg4 harg4 x2) k0_pay46 (kernelRun0_A.sl.v30 i) (1024#32) (kernelRun0_A.sl.v31 i) (kernelRun0_A.sl.v33 i) (kernelRun0_A.sl.v34 i) (harg5.unread x3) (harg6.unread x4)
                (arg8.view.writes (Elt Ideal) arg8.view.junk kernelRun0_A.sl.HS0_1) (arg9.view.writes (Elt Ideal) arg9.view.junk kernelRun0_A.sl.HS1_1)
                (Scf.trips (k0_t1_loop i).lb (k0_t1_loop i).ub (k0_t1_loop i).st)).2 ++ kernelRun0_A.sl.HS1_1))
        (Scf.trips (k0_t2_loop i).lb (k0_t2_loop i).ub (k0_t2_loop i).st)).2 ++
      ((pb_k0_t1 (F := Ideal) Variants.none c none i arg2 harg2 arg3 harg3 arg4 harg4 arg5 harg5 arg6 harg6 arg7 harg7 arg8 harg8 arg9 harg9 (BitVec.ofNat 32 (i 1).val) (kernelRun0_A.sl.r c arg4 harg4 x2) (kernelRun0_A.sl.r_1 c arg4 harg4 x2) (kernelRun0_A.sl.r_2 c arg4 harg4 x2) (kernelRun0_A.sl.r_3 c arg4 harg4 x2) k0_pay46 (kernelRun0_A.sl.v30 i) (1024#32) (kernelRun0_A.sl.v31 i) (kernelRun0_A.sl.v33 i) (kernelRun0_A.sl.v34 i) (harg5.unread x3) (harg6.unread x4)
          (arg8.view.writes (Elt Ideal) arg8.view.junk kernelRun0_A.sl.HS0_1) (arg9.view.writes (Elt Ideal) arg9.view.junk kernelRun0_A.sl.HS1_1)
          (Scf.trips (k0_t1_loop i).lb (k0_t1_loop i).ub (k0_t1_loop i).st)).2 ++ kernelRun0_A.sl.HS1_1)

/-- A load of a slot of the maxima after the fill reads the mask, -/
theorem fill8 (r : Rect S4x256x1) : View.readAt (Elt Ideal) arg8.view r.toLoadRect (arg8.view.writes (Elt Ideal) arg8.view.junk kernelRun0_A.sl.HS0_1)
    = fun _ => Named.named (F := Ideal) κ "mask" (φ := .f32) 0xF149F2CA#32 :=
  View.readCov_fill (Val := Elt Ideal) arg8.view inb_S4x256x1_S4x256x1_0_0_0 (k0_pay44 (F := Ideal)) [] r (by decide)
/-- a load of a slot of the accumulators zero. -/
theorem fill9 (r : Rect S4x256x256) : View.readAt (Elt Ideal) arg9.view r.toLoadRect (arg9.view.writes (Elt Ideal) arg9.view.junk kernelRun0_A.sl.HS1_1)
    = fun _ => Scalar.ofBits (F := Ideal) .f32 0x00000000#32 :=
  View.readCov_fill (Val := Elt Ideal) arg9.view inb_S4x256x256_S4x256x256_0_0_0 (k0_pay45 (F := Ideal)) [] r (by decide)

/-- After the fill and the loops each chain's slots hold its running maximum and accumulator over the full tiles. -/
theorem base :
    (View.readAt (Elt Ideal) arg8.view sm0.toLoadRect (arg8.view.writes (Elt Ideal) arg8.view.junk (L8 c i arg2 harg2 arg3 harg3 arg4 harg4 arg5 harg5 arg6 harg6 arg7 harg7 arg8 harg8 arg9 harg9 x2 x3 x4)) = chM (k0_pay40 x2) (tile x3) mInit ((i 1).val / 2)
    ∧ View.readAt (Elt Ideal) arg8.view sm1.toLoadRect (arg8.view.writes (Elt Ideal) arg8.view.junk (L8 c i arg2 harg2 arg3 harg3 arg4 harg4 arg5 harg5 arg6 harg6 arg7 harg7 arg8 harg8 arg9 harg9 x2 x3 x4)) = chM (k0_pay41 x2) (tile x3) mInit ((i 1).val / 2)
    ∧ View.readAt (Elt Ideal) arg8.view sm2.toLoadRect (arg8.view.writes (Elt Ideal) arg8.view.junk (L8 c i arg2 harg2 arg3 harg3 arg4 harg4 arg5 harg5 arg6 harg6 arg7 harg7 arg8 harg8 arg9 harg9 x2 x3 x4)) = chM (k0_pay42 x2) (tile x3) mInit ((i 1).val / 2)
    ∧ View.readAt (Elt Ideal) arg8.view sm3.toLoadRect (arg8.view.writes (Elt Ideal) arg8.view.junk (L8 c i arg2 harg2 arg3 harg3 arg4 harg4 arg5 harg5 arg6 harg6 arg7 harg7 arg8 harg8 arg9 harg9 x2 x3 x4)) = chM (k0_pay43 x2) (tile x3) mInit ((i 1).val / 2))
    ∧ (View.readAt (Elt Ideal) arg9.view sa0.toLoadRect (arg9.view.writes (Elt Ideal) arg9.view.junk (L9 c i arg2 harg2 arg3 harg3 arg4 harg4 arg5 harg5 arg6 harg6 arg7 harg7 arg8 harg8 arg9 harg9 x2 x3 x4)) = chA (k0_pay40 x2) (tile x3) (vtile x4) mInit aInit ((i 1).val / 2)
    ∧ View.readAt (Elt Ideal) arg9.view sa1.toLoadRect (arg9.view.writes (Elt Ideal) arg9.view.junk (L9 c i arg2 harg2 arg3 harg3 arg4 harg4 arg5 harg5 arg6 harg6 arg7 harg7 arg8 harg8 arg9 harg9 x2 x3 x4)) = chA (k0_pay41 x2) (tile x3) (vtile x4) mInit aInit ((i 1).val / 2)
    ∧ View.readAt (Elt Ideal) arg9.view sa2.toLoadRect (arg9.view.writes (Elt Ideal) arg9.view.junk (L9 c i arg2 harg2 arg3 harg3 arg4 harg4 arg5 harg5 arg6 harg6 arg7 harg7 arg8 harg8 arg9 harg9 x2 x3 x4)) = chA (k0_pay42 x2) (tile x3) (vtile x4) mInit aInit ((i 1).val / 2)
    ∧ View.readAt (Elt Ideal) arg9.view sa3.toLoadRect (arg9.view.writes (Elt Ideal) arg9.view.junk (L9 c i arg2 harg2 arg3 harg3 arg4 harg4 arg5 harg5 arg6 harg6 arg7 harg7 arg8 harg8 arg9 harg9 x2 x3 x4)) = chA (k0_pay43 x2) (tile x3) (vtile x4) mInit aInit ((i 1).val / 2)) := by
  have h2 : Scf.trips (k0_t2_loop i).lb (k0_t2_loop i).ub (k0_t2_loop i).st = 0 := trips2 i
  have h1 : Scf.trips (k0_t1_loop i).lb (k0_t1_loop i).ub (k0_t1_loop i).st = (i 1).val / 2 := trips1 i
  have h := loop_slots Variants.none c none i arg2 harg2 arg3 harg3 arg4 harg4 arg5 harg5 arg6 harg6 arg7 harg7 arg8 harg8 arg9 harg9 (BitVec.ofNat 32 (i 1).val) (kernelRun0_A.sl.r c arg4 harg4 x2) (kernelRun0_A.sl.r_1 c arg4 harg4 x2) (kernelRun0_A.sl.r_2 c arg4 harg4 x2) (kernelRun0_A.sl.r_3 c arg4 harg4 x2) k0_pay46 (kernelRun0_A.sl.v30 i) (1024#32) (kernelRun0_A.sl.v31 i) (kernelRun0_A.sl.v33 i) (kernelRun0_A.sl.v34 i) (harg5.unread x3) (harg6.unread x4)
    (tile x3) (vtile x4) (fun k => read_tile arg5 harg5 x3 _ _ (off1 i k) _)
    (fun k => congrArg (k0_pay19 k0_pay46) (read_tile arg6 harg6 x4 _ _ (off1 i k) _))
    (arg8.view.writes (Elt Ideal) arg8.view.junk kernelRun0_A.sl.HS0_1) (arg9.view.writes (Elt Ideal) arg9.view.junk kernelRun0_A.sl.HS1_1)
    ((i 1).val / 2) (le_of_eq (trips1 i).symm)
  dsimp only [L8, L9]
  rw [h2, pb_k0_t2.eq_1, h1]
  dsimp only at h ⊢
  rw [List.nil_append, List.nil_append, View.writes_append, View.writes_append]
  simp only [fill8, fill9, r_eq, r1_eq, r2_eq, r3_eq] at h ⊢
  exact h

/-- Chain 0's maximum before the masked tile, -/
theorem v84_eq : kernelRun0_A.sl.v84 (F := Ideal) c i arg2 harg2 arg3 harg3 arg4 harg4 arg5 harg5 arg6 harg6 arg7 harg7 arg8 harg8 arg9 harg9 x2 x3 x4 = chM (k0_pay40 x2) (tile x3) mInit ((i 1).val / 2) := by
  have h := base c i arg2 harg2 arg3 harg3 arg4 harg4 arg5 harg5 arg6 harg6 arg7 harg7 arg8 harg8 arg9 harg9 x2 x3 x4
  exact h.1.1
/-- and its accumulator. -/
theorem v95_eq : kernelRun0_A.sl.v95 (F := Ideal) c i arg2 harg2 arg3 harg3 arg4 harg4 arg5 harg5 arg6 harg6 arg7 harg7 arg8 harg8 arg9 harg9 x2 x3 x4 = chA (k0_pay40 x2) (tile x3) (vtile x4) mInit aInit ((i 1).val / 2) := by
  have h := base c i arg2 harg2 arg3 harg3 arg4 harg4 arg5 harg5 arg6 harg6 arg7 harg7 arg8 harg8 arg9 harg9 x2 x3 x4
  exact h.2.1

/-- Chain 1's maximum before the masked tile, -/
theorem v119_eq : kernelRun0_A.sl.v119 (F := Ideal) c i arg2 harg2 arg3 harg3 arg4 harg4 arg5 harg5 arg6 harg6 arg7 harg7 arg8 harg8 arg9 harg9 x2 x3 x4 = chM (k0_pay41 x2) (tile x3) mInit ((i 1).val / 2) := by
  have h := base c i arg2 harg2 arg3 harg3 arg4 harg4 arg5 harg5 arg6 harg6 arg7 harg7 arg8 harg8 arg9 harg9 x2 x3 x4
  refine (rd_skip arg8.view _ sm0 _ _ _ rfl).trans ?_
  exact h.1.2.1
/-- and its accumulator. -/
theorem v130_eq : kernelRun0_A.sl.v130 (F := Ideal) c i arg2 harg2 arg3 harg3 arg4 harg4 arg5 harg5 arg6 harg6 arg7 harg7 arg8 harg8 arg9 harg9 x2 x3 x4 = chA (k0_pay41 x2) (tile x3) (vtile x4) mInit aInit ((i 1).val / 2) := by
  have h := base c i arg2 harg2 arg3 harg3 arg4 harg4 arg5 harg5 arg6 harg6 arg7 harg7 arg8 harg8 arg9 harg9 x2 x3 x4
  refine (rd_skip arg9.view _ sa0 _ _ _ rfl).trans ?_
  exact h.2.2.1

/-- Chain 2's maximum before the masked tile, -/
theorem v154_eq : kernelRun0_A.sl.v154 (F := Ideal) c i arg2 harg2 arg3 harg3 arg4 harg4 arg5 harg5 arg6 harg6 arg7 harg7 arg8 harg8 arg9 harg9 x2 x3 x4 = chM (k0_pay42 x2) (tile x3) mInit ((i 1).val / 2) := by
  have h := base c i arg2 harg2 arg3 harg3 arg4 harg4 arg5 harg5 arg6 harg6 arg7 harg7 arg8 harg8 arg9 harg9 x2 x3 x4
  refine (rd_skip arg8.view _ sm1 _ _ _ rfl).trans ?_
  refine (rd_skip arg8.view _ sm0 _ _ _ rfl).trans ?_
  exact h.1.2.2.1
/-- and its accumulator. -/
theorem v165_eq : kernelRun0_A.sl.v165 (F := Ideal) c i arg2 harg2 arg3 harg3 arg4 harg4 arg5 harg5 arg6 harg6 arg7 harg7 arg8 harg8 arg9 harg9 x2 x3 x4 = chA (k0_pay42 x2) (tile x3) (vtile x4) mInit aInit ((i 1).val / 2) := by
  have h := base c i arg2 harg2 arg3 harg3 arg4 harg4 arg5 harg5 arg6 harg6 arg7 harg7 arg8 harg8 arg9 harg9 x2 x3 x4
  refine (rd_skip arg9.view _ sa1 _ _ _ rfl).trans ?_
  refine (rd_skip arg9.view _ sa0 _ _ _ rfl).trans ?_
  exact h.2.2.2.1

/-- Chain 3's maximum before the masked tile, -/
theorem v177_eq : kernelRun0_A.sl.v177 (F := Ideal) c i arg2 harg2 arg3 harg3 arg4 harg4 arg5 harg5 arg6 harg6 arg7 harg7 arg8 harg8 arg9 harg9 x2 x3 x4 = chM (k0_pay43 x2) (tile x3) mInit ((i 1).val / 2) := by
  have h := base c i arg2 harg2 arg3 harg3 arg4 harg4 arg5 harg5 arg6 harg6 arg7 harg7 arg8 harg8 arg9 harg9 x2 x3 x4
  refine (rd_skip arg8.view _ sm2 _ _ _ rfl).trans ?_
  refine (rd_skip arg8.view _ sm1 _ _ _ rfl).trans ?_
  refine (rd_skip arg8.view _ sm0 _ _ _ rfl).trans ?_
  exact h.1.2.2.2
/-- and its accumulator. -/
theorem v188_eq : kernelRun0_A.sl.v188 (F := Ideal) c i arg2 harg2 arg3 harg3 arg4 harg4 arg5 harg5 arg6 harg6 arg7 harg7 arg8 harg8 arg9 harg9 x2 x3 x4 = chA (k0_pay43 x2) (tile x3) (vtile x4) mInit aInit ((i 1).val / 2) := by
  have h := base c i arg2 harg2 arg3 harg3 arg4 harg4 arg5 harg5 arg6 harg6 arg7 harg7 arg8 harg8 arg9 harg9 x2 x3 x4
  refine (rd_skip arg9.view _ sa2 _ _ _ rfl).trans ?_
  refine (rd_skip arg9.view _ sa1 _ _ _ rfl).trans ?_
  refine (rd_skip arg9.view _ sa0 _ _ _ rfl).trans ?_
  exact h.2.2.2.2

/-- Chain 0's scores of the masked tile. -/
theorem s0_eq : kernelRun0_A.sl.r_6 (F := Ideal) c i arg4 harg4 arg5 harg5 x2 x3 = (maskedS (kernelRun0_A.sl.v53 i) (Scalar.addi (kernelRun0_A.sl.v73 i) 0#32) (k0_pay40 x2) (tile x3 ((i 1).val / 2))) := by
  have h4 := r4_eq i arg5 harg5 x3
  have hr := r_eq c arg4 harg4 x2
  have e : kernelRun0_A.sl.r_6 (F := Ideal) c i arg4 harg4 arg5 harg5 x2 x3 = maskedS (kernelRun0_A.sl.v53 i) (Scalar.addi (kernelRun0_A.sl.v73 i) 0#32) (kernelRun0_A.sl.r c arg4 harg4 x2) (kernelRun0_A.sl.r_4 i arg5 harg5 x3) := rfl
  rw [e, h4, hr]

/-- Chain 1's scores of the masked tile. -/
theorem s1_eq : kernelRun0_A.sl.r_8 (F := Ideal) c i arg4 harg4 arg5 harg5 x2 x3 = (maskedS (kernelRun0_A.sl.v53 i) (Scalar.addi (kernelRun0_A.sl.v73 i) 256#32) (k0_pay41 x2) (tile x3 ((i 1).val / 2))) := by
  have h4 := r4_eq i arg5 harg5 x3
  have hr := r1_eq c arg4 harg4 x2
  have e : kernelRun0_A.sl.r_8 (F := Ideal) c i arg4 harg4 arg5 harg5 x2 x3 = maskedS (kernelRun0_A.sl.v53 i) (Scalar.addi (kernelRun0_A.sl.v73 i) 256#32) (kernelRun0_A.sl.r_1 c arg4 harg4 x2) (kernelRun0_A.sl.r_4 i arg5 harg5 x3) := rfl
  rw [e, h4, hr]

/-- Chain 2's scores of the masked tile. -/
theorem s2_eq : kernelRun0_A.sl.r_11 (F := Ideal) c i arg4 harg4 arg5 harg5 x2 x3 = (maskedS (kernelRun0_A.sl.v53 i) (Scalar.addi (kernelRun0_A.sl.v73 i) 0#32) (k0_pay42 x2) (tile x3 ((i 1).val / 2))) := by
  have h4 := r4_eq i arg5 harg5 x3
  have hr := r2_eq c arg4 harg4 x2
  have e : kernelRun0_A.sl.r_11 (F := Ideal) c i arg4 harg4 arg5 harg5 x2 x3 = maskedS (kernelRun0_A.sl.v53 i) (Scalar.addi (kernelRun0_A.sl.v73 i) 0#32) (kernelRun0_A.sl.r_2 c arg4 harg4 x2) (kernelRun0_A.sl.r_4 i arg5 harg5 x3) := rfl
  rw [e, h4, hr]

/-- Chain 3's scores of the masked tile. -/
theorem s3_eq : k0_pay77 (kernelRun0_A.sl.r_12 (F := Ideal) c i arg4 harg4 arg5 harg5 x2 x3) (kernelRun0_A.sl.r_13 i) k0_pay76 = (maskedS (kernelRun0_A.sl.v53 i) (Scalar.addi (kernelRun0_A.sl.v73 i) 256#32) (k0_pay43 x2) (tile x3 ((i 1).val / 2))) := by
  have h4 := r4_eq i arg5 harg5 x3
  have hr := r3_eq c arg4 harg4 x2
  have e : k0_pay77 (kernelRun0_A.sl.r_12 (F := Ideal) c i arg4 harg4 arg5 harg5 x2 x3) (kernelRun0_A.sl.r_13 i) k0_pay76 = maskedS (kernelRun0_A.sl.v53 i) (Scalar.addi (kernelRun0_A.sl.v73 i) 256#32) (kernelRun0_A.sl.r_3 c arg4 harg4 x2) (kernelRun0_A.sl.r_4 i arg5 harg5 x3) := rfl
  rw [e, h4, hr]

/-- Chain 0's accumulator at the end of the body. -/
theorem v216_eq : kernelRun0_A.sl.v216 (F := Ideal) c i arg2 harg2 arg3 harg3 arg4 harg4 arg5 harg5 arg6 harg6 arg7 harg7 arg8 harg8 arg9 harg9 x2 x3 x4 = fin (k0_pay40 x2) (maskedS (kernelRun0_A.sl.v53 i) (Scalar.addi (kernelRun0_A.sl.v73 i) 0#32) (k0_pay40 x2) (tile x3 ((i 1).val / 2))) x3 x4 ((i 1).val / 2) := by
  refine (rd_skip arg9.view _ sa3 _ _ _ rfl).trans ?_
  refine (rd_skip arg9.view _ sa2 _ _ _ rfl).trans ?_
  refine (rd_skip arg9.view _ sa1 _ _ _ rfl).trans ?_
  refine (rd_same arg9.view _ sa0 _ _).trans ?_
  have hs := s0_eq c i arg4 harg4 arg5 harg5 x2 x3
  have hm := v84_eq c i arg2 harg2 arg3 harg3 arg4 harg4 arg5 harg5 arg6 harg6 arg7 harg7 arg8 harg8 arg9 harg9 x2 x3 x4
  have ha := v95_eq c i arg2 harg2 arg3 harg3 arg4 harg4 arg5 harg5 arg6 harg6 arg7 harg7 arg8 harg8 arg9 harg9 x2 x3 x4
  have h5 := r5_eq i arg6 harg6 x4
  have e : fin (k0_pay40 x2) (maskedS (kernelRun0_A.sl.v53 i) (Scalar.addi (kernelRun0_A.sl.v73 i) 0#32) (k0_pay40 x2) (tile x3 ((i 1).val / 2))) x3 x4 ((i 1).val / 2) = stepA (kernelRun0_A.sl.r_5 i arg6 harg6 x4) (kernelRun0_A.sl.r_6 (F := Ideal) c i arg4 harg4 arg5 harg5 x2 x3) (kernelRun0_A.sl.v84 c i arg2 harg2 arg3 harg3 arg4 harg4 arg5 harg5 arg6 harg6 arg7 harg7 arg8 harg8 arg9 harg9 x2 x3 x4) (kernelRun0_A.sl.v95 c i arg2 harg2 arg3 harg3 arg4 harg4 arg5 harg5 arg6 harg6 arg7 harg7 arg8 harg8 arg9 harg9 x2 x3 x4) := by
    rw [hs, hm, ha, h5]; rfl
  rw [e]
  rfl

/-- Chain 1's accumulator at the end of the body. -/
theorem v224_eq : kernelRun0_A.sl.v224 (F := Ideal) c i arg2 harg2 arg3 harg3 arg4 harg4 arg5 harg5 arg6 harg6 arg7 harg7 arg8 harg8 arg9 harg9 x2 x3 x4 = fin (k0_pay41 x2) (maskedS (kernelRun0_A.sl.v53 i) (Scalar.addi (kernelRun0_A.sl.v73 i) 256#32) (k0_pay41 x2) (tile x3 ((i 1).val / 2))) x3 x4 ((i 1).val / 2) := by
  refine (rd_skip arg9.view _ sa3 _ _ _ rfl).trans ?_
  refine (rd_skip arg9.view _ sa2 _ _ _ rfl).trans ?_
  refine (rd_same arg9.view _ sa1 _ _).trans ?_
  have hs := s1_eq c i arg4 harg4 arg5 harg5 x2 x3
  have hm := v119_eq c i arg2 harg2 arg3 harg3 arg4 harg4 arg5 harg5 arg6 harg6 arg7 harg7 arg8 harg8 arg9 harg9 x2 x3 x4
  have ha := v130_eq c i arg2 harg2 arg3 harg3 arg4 harg4 arg5 harg5 arg6 harg6 arg7 harg7 arg8 harg8 arg9 harg9 x2 x3 x4
  have h5 := r5_eq i arg6 harg6 x4
  have e : fin (k0_pay41 x2) (maskedS (kernelRun0_A.sl.v53 i) (Scalar.addi (kernelRun0_A.sl.v73 i) 256#32) (k0_pay41 x2) (tile x3 ((i 1).val / 2))) x3 x4 ((i 1).val / 2) = stepA (kernelRun0_A.sl.r_5 i arg6 harg6 x4) (kernelRun0_A.sl.r_8 (F := Ideal) c i arg4 harg4 arg5 harg5 x2 x3) (kernelRun0_A.sl.v119 c i arg2 harg2 arg3 harg3 arg4 harg4 arg5 harg5 arg6 harg6 arg7 harg7 arg8 harg8 arg9 harg9 x2 x3 x4) (kernelRun0_A.sl.v130 c i arg2 harg2 arg3 harg3 arg4 harg4 arg5 harg5 arg6 harg6 arg7 harg7 arg8 harg8 arg9 harg9 x2 x3 x4) := by
    rw [hs, hm, ha, h5]; rfl
  rw [e]
  rfl

/-- Chain 2's accumulator at the end of the body. -/
theorem v232_eq : kernelRun0_A.sl.v232 (F := Ideal) c i arg2 harg2 arg3 harg3 arg4 harg4 arg5 harg5 arg6 harg6 arg7 harg7 arg8 harg8 arg9 harg9 x2 x3 x4 = fin (k0_pay42 x2) (maskedS (kernelRun0_A.sl.v53 i) (Scalar.addi (kernelRun0_A.sl.v73 i) 0#32) (k0_pay42 x2) (tile x3 ((i 1).val / 2))) x3 x4 ((i 1).val / 2) := by
  refine (rd_skip arg9.view _ sa3 _ _ _ rfl).trans ?_
  refine (rd_same arg9.view _ sa2 _ _).trans ?_
  have hs := s2_eq c i arg4 harg4 arg5 harg5 x2 x3
  have hm := v154_eq c i arg2 harg2 arg3 harg3 arg4 harg4 arg5 harg5 arg6 harg6 arg7 harg7 arg8 harg8 arg9 harg9 x2 x3 x4
  have ha := v165_eq c i arg2 harg2 arg3 harg3 arg4 harg4 arg5 harg5 arg6 harg6 arg7 harg7 arg8 harg8 arg9 harg9 x2 x3 x4
  have h5 := r5_eq i arg6 harg6 x4
  have e : fin (k0_pay42 x2) (maskedS (kernelRun0_A.sl.v53 i) (Scalar.addi (kernelRun0_A.sl.v73 i) 0#32) (k0_pay42 x2) (tile x3 ((i 1).val / 2))) x3 x4 ((i 1).val / 2) = stepA (kernelRun0_A.sl.r_5 i arg6 harg6 x4) (kernelRun0_A.sl.r_11 (F := Ideal) c i arg4 harg4 arg5 harg5 x2 x3) (kernelRun0_A.sl.v154 c i arg2 harg2 arg3 harg3 arg4 harg4 arg5 harg5 arg6 harg6 arg7 harg7 arg8 harg8 arg9 harg9 x2 x3 x4) (kernelRun0_A.sl.v165 c i arg2 harg2 arg3 harg3 arg4 harg4 arg5 harg5 arg6 harg6 arg7 harg7 arg8 harg8 arg9 harg9 x2 x3 x4) := by
    rw [hs, hm, ha, h5]; rfl
  rw [e]
  rfl

/-- Chain 3's accumulator at the end of the body. -/
theorem v240_eq : kernelRun0_A.sl.v240 (F := Ideal) c i arg2 harg2 arg3 harg3 arg4 harg4 arg5 harg5 arg6 harg6 arg7 harg7 arg8 harg8 arg9 harg9 x2 x3 x4 = fin (k0_pay43 x2) (maskedS (kernelRun0_A.sl.v53 i) (Scalar.addi (kernelRun0_A.sl.v73 i) 256#32) (k0_pay43 x2) (tile x3 ((i 1).val / 2))) x3 x4 ((i 1).val / 2) := by
  refine (rd_same arg9.view _ sa3 _ _).trans ?_
  have hs := s3_eq c i arg4 harg4 arg5 harg5 x2 x3
  have hm := v177_eq c i arg2 harg2 arg3 harg3 arg4 harg4 arg5 harg5 arg6 harg6 arg7 harg7 arg8 harg8 arg9 harg9 x2 x3 x4
  have ha := v188_eq c i arg2 harg2 arg3 harg3 arg4 harg4 arg5 harg5 arg6 harg6 arg7 harg7 arg8 harg8 arg9 harg9 x2 x3 x4
  have h5 := r5_eq i arg6 harg6 x4
  have e : fin (k0_pay43 x2) (maskedS (kernelRun0_A.sl.v53 i) (Scalar.addi (kernelRun0_A.sl.v73 i) 256#32) (k0_pay43 x2) (tile x3 ((i 1).val / 2))) x3 x4 ((i 1).val / 2) = stepA (kernelRun0_A.sl.r_5 i arg6 harg6 x4) (k0_pay77 (kernelRun0_A.sl.r_12 (F := Ideal) c i arg4 harg4 arg5 harg5 x2 x3) (kernelRun0_A.sl.r_13 i) k0_pay76) (kernelRun0_A.sl.v177 c i arg2 harg2 arg3 harg3 arg4 harg4 arg5 harg5 arg6 harg6 arg7 harg7 arg8 harg8 arg9 harg9 x2 x3 x4) (kernelRun0_A.sl.v188 c i arg2 harg2 arg3 harg3 arg4 harg4 arg5 harg5 arg6 harg6 arg7 harg7 arg8 harg8 arg9 harg9 x2 x3 x4) := by
    rw [hs, hm, ha, h5]; rfl
  rw [e]
  rfl

/-- THE BODY: the value stored into the output block. -/
theorem body_eq : k0_pay1 (kernelRun0_A.sl.r_21 (F := Ideal) c i arg2 harg2 arg3 harg3 arg4 harg4 arg5 harg5 arg6 harg6 arg7 harg7 arg8 harg8 arg9 harg9 x0 x1 x2 x3 x4) =
    combine x0 x1 (fin (k0_pay40 x2) (maskedS (kernelRun0_A.sl.v53 i) (Scalar.addi (kernelRun0_A.sl.v73 i) 0#32) (k0_pay40 x2) (tile x3 ((i 1).val / 2))) x3 x4 ((i 1).val / 2))
      (fin (k0_pay41 x2) (maskedS (kernelRun0_A.sl.v53 i) (Scalar.addi (kernelRun0_A.sl.v73 i) 256#32) (k0_pay41 x2) (tile x3 ((i 1).val / 2))) x3 x4 ((i 1).val / 2))
      (fin (k0_pay42 x2) (maskedS (kernelRun0_A.sl.v53 i) (Scalar.addi (kernelRun0_A.sl.v73 i) 0#32) (k0_pay42 x2) (tile x3 ((i 1).val / 2))) x3 x4 ((i 1).val / 2))
      (fin (k0_pay43 x2) (maskedS (kernelRun0_A.sl.v53 i) (Scalar.addi (kernelRun0_A.sl.v73 i) 256#32) (k0_pay43 x2) (tile x3 ((i 1).val / 2))) x3 x4 ((i 1).val / 2)) := by
  have h0 := v216_eq c i arg2 harg2 arg3 harg3 arg4 harg4 arg5 harg5 arg6 harg6 arg7 harg7 arg8 harg8 arg9 harg9 x2 x3 x4
  have h1 := v224_eq c i arg2 harg2 arg3 harg3 arg4 harg4 arg5 harg5 arg6 harg6 arg7 harg7 arg8 harg8 arg9 harg9 x2 x3 x4
  have h2 := v232_eq c i arg2 harg2 arg3 harg3 arg4 harg4 arg5 harg5 arg6 harg6 arg7 harg7 arg8 harg8 arg9 harg9 x2 x3 x4
  have h3 := v240_eq c i arg2 harg2 arg3 harg3 arg4 harg4 arg5 harg5 arg6 harg6 arg7 harg7 arg8 harg8 arg9 harg9 x2 x3 x4
  have l0 := read_whole arg2 harg2 x0 ![0, 0] (by decide) inb_S4x64_S4x64_0_0
  have l1 := read_whole arg3 harg3 x1 ![0, 0] (by decide) inb_S1x128_S1x128_0_0
  have e : k0_pay1 (kernelRun0_A.sl.r_21 (F := Ideal) c i arg2 harg2 arg3 harg3 arg4 harg4 arg5 harg5 arg6 harg6 arg7 harg7 arg8 harg8 arg9 harg9 x0 x1 x2 x3 x4) =
    combine (View.readAt (Elt Ideal) arg2.view (Rect.unit ![0, 0] S4x64.size inb_S4x64_S4x64_0_0).toLoadRect (harg2.unread x0))
      (View.readAt (Elt Ideal) arg3.view (Rect.unit ![0, 0] S1x128.size inb_S1x128_S1x128_0_0).toLoadRect (harg3.unread x1))
      (kernelRun0_A.sl.v216 c i arg2 harg2 arg3 harg3 arg4 harg4 arg5 harg5 arg6 harg6 arg7 harg7 arg8 harg8 arg9 harg9 x2 x3 x4) (kernelRun0_A.sl.v224 c i arg2 harg2 arg3 harg3 arg4 harg4 arg5 harg5 arg6 harg6 arg7 harg7 arg8 harg8 arg9 harg9 x2 x3 x4) (kernelRun0_A.sl.v232 c i arg2 harg2 arg3 harg3 arg4 harg4 arg5 harg5 arg6 harg6 arg7 harg7 arg8 harg8 arg9 harg9 x2 x3 x4) (kernelRun0_A.sl.v240 c i arg2 harg2 arg3 harg3 arg4 harg4 arg5 harg5 arg6 harg6 arg7 harg7 arg8 harg8 arg9 harg9 x2 x3 x4) := rfl
  rw [e, l0, l1, h0, h1, h2, h3]

end body

end Cert.Proof.Body
-- ==== Proof.Softmax.lean ====
module

public import Idealize.ShloMosaic.Lib.Pointwise

@[expose] public section

set_option maxRecDepth 16384
noncomputable section

/-! The softmax over extended reals: tile by tile with a running maximum, and at once. Both come out as quotients of
    sums of exponentials of the scores; which number was subtracted in the exponent does not matter. -/

namespace Cert.Proof.Softmax
open Idealize.ShloMosaic

/-- A finite sum of reals, as an extended real. -/
theorem coe_fsum {ι : Type} (t : Finset ι) (f : ι → ℝ) : ((∑ x ∈ t, f x : ℝ) : EReal) = ∑ x ∈ t, (f x : EReal) := by
  classical
  induction t using Finset.induction_on with
  | empty => simp
  | insert a t ha ih => rw [Finset.sum_insert ha, Finset.sum_insert ha, EReal.coe_add, ih]

/-- The exponential of a score as a real number; zero for a masked score. -/
def E (s : EReal) : ℝ := (Ideal.exp s).toReal

theorem E_bot : E ⊥ = 0 := by simp [E]
theorem E_coe (r : ℝ) : E (r : EReal) = Real.exp r := by simp [E]
theorem E_nonneg (s : EReal) : 0 ≤ E s := by
  induction s with
  | bot => rw [E_bot]
  | coe r => rw [E_coe]; exact (Real.exp_pos r).le
  | top => simp [E]

/-- The exponential of a score less a real number. -/
theorem exp_sub (s : EReal) (hs : s ≠ ⊤) (M : ℝ) : Ideal.exp (s - (M : EReal)) = ((E s * Real.exp (-M) : ℝ) : EReal) := by
  induction s with
  | bot => rw [EReal.bot_sub, Ideal.exp_bot, E_bot]; simp
  | coe r => rw [← EReal.coe_sub, Ideal.exp_coe, E_coe, ← Real.exp_add, sub_eq_add_neg]
  | top => exact absurd rfl hs

/-- A running maximum of scores none of which is +∞ is not +∞. -/
theorem fold_ne_top {n : ℕ} (b : EReal) (hb : b = ⊥) (s : Fin n → EReal) (hs : ∀ x, s x ≠ ⊤) :
    Finset.univ.fold max b s ≠ ⊤ := by
  apply ne_of_lt
  rw [Finset.fold_max_lt]
  exact ⟨hb ▸ bot_lt_top, fun x _ => lt_top_iff_ne_top.2 (hs x)⟩

/-- A score is at most the maximum of its tile. -/
theorem le_fold {n : ℕ} (b : EReal) (s : Fin n → EReal) (x : Fin n) : s x ≤ Finset.univ.fold max b s := by
  rw [Finset.le_fold_max]
  exact Or.inr ⟨x, Finset.mem_univ x, le_rfl⟩

/-- The state of an accumulator: `Z` the weighted sum of exponentials so far, held scaled down by the running maximum. -/
def St (m a : EReal) (Z : ℝ) : Prop :=
  (m = ⊥ ∧ a = 0 ∧ Z = 0) ∨ ∃ M : ℝ, m = (M : EReal) ∧ a = ((Real.exp (-M) * Z : ℝ) : EReal)

theorem St.ne_top {m a : EReal} {Z : ℝ} (h : St m a Z) : m ≠ ⊤ := by
  rcases h with ⟨h, _⟩ | ⟨M, h, _⟩
  · rw [h]; exact bot_ne_top
  · rw [h]; exact EReal.coe_ne_top M

/-- One tile: the accumulator rescaled and the tile's terms added. -/
theorem St.step {n : ℕ} {m a : EReal} {Z : ℝ} (h : St m a Z) (s : Fin n → EReal) (hs : ∀ x, s x ≠ ⊤) (w : Fin n → ℝ)
    (b : EReal) (hb : b = ⊥) :
    St (max m (Finset.univ.fold max b s))
      (Ideal.exp (m - max m (Finset.univ.fold max b s)) * a
        + ∑ x, Ideal.exp (s x - max m (Finset.univ.fold max b s)) * (w x : EReal))
      (Z + ∑ x, E (s x) * w x) := by
  have ht : max m (Finset.univ.fold max b s) ≠ ⊤ := by
    rcases max_choice m (Finset.univ.fold max b s) with e | e <;> rw [e]
    · exact h.ne_top
    · exact fold_ne_top b hb s hs
  have hle : ∀ x, s x ≤ max m (Finset.univ.fold max b s) := fun x => (le_fold b s x).trans (le_max_right _ _)
  have hm : m ≤ max m (Finset.univ.fold max b s) := le_max_left _ _
  generalize max m (Finset.univ.fold max b s) = m' at ht hle hm
  induction m' with
  | top => exact absurd rfl ht
  | bot =>
    have hmb : m = ⊥ := le_bot_iff.1 hm
    have hsb : ∀ x, s x = ⊥ := fun x => le_bot_iff.1 (hle x)
    rcases h with ⟨_, ha, hZ⟩ | ⟨M, hM, _⟩
    · refine Or.inl ⟨rfl, ?_, ?_⟩
      · rw [ha, mul_zero, zero_add]
        refine Finset.sum_eq_zero fun x _ => ?_
        rw [hsb x, EReal.bot_sub, Ideal.exp_bot, zero_mul]
      · rw [hZ, zero_add]
        refine Finset.sum_eq_zero fun x _ => ?_
        rw [hsb x, E_bot, zero_mul]
    · rw [hmb] at hM; exact absurd hM (EReal.bot_ne_coe M)
  | coe M' =>
    refine Or.inr ⟨M', rfl, ?_⟩
    have hsum : ∑ x, Ideal.exp (s x - (M' : EReal)) * (w x : EReal) = ((Real.exp (-M') * ∑ x, E (s x) * w x : ℝ) : EReal) := by
      rw [Finset.mul_sum, coe_fsum]
      refine Finset.sum_congr rfl fun x _ => ?_
      rw [exp_sub _ (hs x), ← EReal.coe_mul]
      congr 1; ring
    rw [hsum]
    rcases h with ⟨hmb, ha, hZ⟩ | ⟨M, hM, ha⟩
    · rw [ha, mul_zero, zero_add, hZ, zero_add]
    · rw [ha, hM, exp_sub _ (EReal.coe_ne_top M), E_coe, ← EReal.coe_mul, ← EReal.coe_add]
      congr 1
      have : Real.exp M * Real.exp (-M) = 1 := by rw [← Real.exp_add]; simp
      linear_combination (Real.exp (-M') * Z) * this

/-- The quotient of two accumulators under the same maximum is the quotient of their sums. -/
theorem St.div {m a l : EReal} {Z Y : ℝ} (h : St m a Z) (h' : St m l Y) (hY : Y ≠ 0) : Ideal.div a l = ((Z / Y : ℝ) : EReal) := by
  rcases h' with ⟨_, _, h0⟩ | ⟨M, hM, hl⟩
  · exact absurd h0 hY
  · rcases h with ⟨hb, _⟩ | ⟨M', hM', ha⟩
    · rw [hM] at hb; exact absurd hb (EReal.coe_ne_bot M)
    · have : M = M' := by rw [hM] at hM'; exact_mod_cast hM'
      subst this
      have he := (Real.exp_pos (-M)).ne'
      rw [ha, hl, Ideal.div_coe (mul_ne_zero he hY), ← EReal.coe_mul]
      congr 1
      field_simp

/-- The sum of exponentials of scores of which one is not masked is positive. -/
theorem sum_E_pos {n : ℕ} (s : Fin n → EReal) (k : Fin n) (hk : s k ≠ ⊥) (hk' : s k ≠ ⊤) : 0 < ∑ x, E (s x) := by
  refine Finset.sum_pos' (fun x _ => E_nonneg _) ⟨k, Finset.mem_univ k, ?_⟩
  generalize s k = t at hk hk'
  induction t with
  | bot => exact absurd rfl hk
  | top => exact absurd rfl hk'
  | coe r => rw [E_coe]; exact Real.exp_pos r

/-- The softmax at once. -/
theorem softmax {n : ℕ} (s : Fin n → EReal) (hs : ∀ x, s x ≠ ⊤) (k0 : Fin n) (h0 : s k0 ≠ ⊥) (b : EReal) (hb : b = ⊥) (m : EReal)
    (hm : m = max b (Finset.univ.fold max b s)) (k : Fin n) :
    Ideal.div (Ideal.exp (s k - m)) (∑ x, Ideal.exp (s x - m)) = ((E (s k) / ∑ x, E (s x) : ℝ) : EReal) := by
  have ht : m ≠ ⊤ := by
    rw [hm, hb, max_eq_right bot_le]; exact fold_ne_top ⊥ rfl s hs
  have hbot : m ≠ ⊥ := by
    intro e
    apply h0
    refine le_bot_iff.1 ?_
    rw [← e, hm]
    exact (le_fold b s k0).trans (le_max_right _ _)
  clear hm
  induction m with
  | bot => exact absurd rfl hbot
  | top => exact absurd rfl ht
  | coe M =>
    have hsum : ∑ x, Ideal.exp (s x - (M : EReal)) = (((∑ x, E (s x)) * Real.exp (-M) : ℝ) : EReal) := by
      rw [Finset.sum_mul, coe_fsum]
      exact Finset.sum_congr rfl fun x _ => exp_sub _ (hs x) M
    have hp := sum_E_pos s k0 h0 (hs k0)
    have he := (Real.exp_pos (-M)).ne'
    rw [hsum, exp_sub _ (hs k), Ideal.div_coe (mul_ne_zero hp.ne' he), ← EReal.coe_mul]
    congr 1
    field_simp

/-- A weighted sum of a difference of real weights, split. -/
theorem sum_diff {n : ℕ} (p p' v : Fin n → ℝ) (l : ℝ) :
    ∑ k, ((p k : EReal) - (l : EReal) * (p' k : EReal)) * (v k : EReal)
      = ((∑ k, p k * v k : ℝ) : EReal) - (l : EReal) * ((∑ k, p' k * v k : ℝ) : EReal) := by
  rw [← EReal.coe_mul, ← EReal.coe_sub, Finset.mul_sum, ← Finset.sum_sub_distrib, coe_fsum]
  refine Finset.sum_congr rfl fun k _ => ?_
  rw [← EReal.coe_mul, ← EReal.coe_sub, ← EReal.coe_mul]
  congr 1; ring

/-- An extended real between the infinities is its real part. -/
theorem coe_real {x : EReal} (h : x ≠ ⊥ ∧ x ≠ ⊤) : x = ((x.toReal : ℝ) : EReal) := (EReal.coe_toReal h.2 h.1).symm

end Cert.Proof.Softmax
end
-- ==== Proof.Step.lean ====
module

public import proofs.«01_k».proof.Proof.Body
public import proofs.«01_k».proof.Proof.Softmax

@[expose] public section

set_option maxRecDepth 16384
noncomputable section

/-! The body's operations read at an index, and a chain's accumulator as a weighted sum of exponentials. -/

namespace Cert.Proof.Step
open Cert.KernelIdeal Cert.KernelIdeal.Gen Idealize.ShloMosaic Idealize.ShloMosaic.TcCoe Idealize.SL.Sem
open Cert.Proof.Trip Cert.Proof.Body Cert.Proof.Softmax

/-- The pattern of minus infinity is minus infinity. -/
theorem bits_bot : Ideal.ofBits .f32 0xFF800000#32 = ⊥ := by
  simp [Ideal.ofBits, Ideal.ieee]

/-- A score is a product of a query row with a key row. -/
theorem scores_apply (q : FVec Ideal S256x128 .bf16) (kt : Vec Ideal S1024x128 .bf16) (r : Fin 256) (k : Fin 1024) :
    k0_pay9 q kt (ix2 r k) = ∑ x : Fin 128, q (ix2 r x) * kt (ix2 k x) := by
  pointwise [k0_pay9]

/-- The running maximum after a tile. -/
theorem stepM_apply (S : FVec Ideal S256x1024 .f32) (mo : Vec Ideal S1x256x1 .f32) (r : Fin 256) :
    k0_pay13 S mo (ix3 0 r 0)
      = max (mo (ix3 0 r 0)) (Finset.univ.fold max (Ideal.ofBits .f32 0xFF800000#32) fun x : Fin 1024 => S (ix2 r x)) := by
  pointwise [k0_pay13, k0_pay11, k0_pay10]

/-- The accumulator after a tile. -/
theorem stepA_apply (W : FVec Ideal S1024x256 .bf16) (S : FVec Ideal S256x1024 .f32) (mo : Vec Ideal S1x256x1 .f32)
    (ao : Vec Ideal S1x256x256 .f32) (r : Fin 256) (d : Fin 256) :
    k0_pay12 W S mo ao (ix3 0 r d)
      = Ideal.exp (mo (ix3 0 r 0) - max (mo (ix3 0 r 0)) (Finset.univ.fold max (Ideal.ofBits .f32 0xFF800000#32) fun x : Fin 1024 => S (ix2 r x)))
          * ao (ix3 0 r d)
        + ∑ x : Fin 1024, Ideal.exp (S (ix2 r x) - max (mo (ix3 0 r 0)) (Finset.univ.fold max (Ideal.ofBits .f32 0xFF800000#32) fun x : Fin 1024 => S (ix2 r x)))
            * W (ix2 x d) := by
  pointwise [k0_pay12, k0_pay11, k0_pay10]

/-- A value tile beside the column of ones: the values, -/
theorem pay19_lo (x : Vec Ideal S1024x128 .bf16) (k : Fin 1024) (d : Fin 128) :
    k0_pay19 k0_pay46 x (ix2 k ⟨d.val, by have := d.isLt; omega⟩) = x (ix2 k d) := by
  pointwise [k0_pay19, k0_pay46]
/-- and the ones. -/
theorem pay19_one (x : Vec Ideal S1024x128 .bf16) (k : Fin 1024) :
    k0_pay19 k0_pay46 x (ix2 k 128) = 1 := by
  pointwise [k0_pay19, k0_pay46]

/-- The first 256 rows of the first half's queries, scaled, -/
theorem q0_apply (x : Vec Ideal S512x128 .bf16) (r : Fin 256) (d : Fin 128) :
    k0_pay40 x (ix2 r d) = if d.val < 64 then x (ix2 ⟨r.val, by have := r.isLt; omega⟩ d) * Ideal.ofBits .bf16 0x3E00#16 else 0 := by
  pointwise [k0_pay40, k0_pay38, k0_pay36, k0_pay37]
  word_cmp
/-- the last 256 rows, -/
theorem q1_apply (x : Vec Ideal S512x128 .bf16) (r : Fin 256) (d : Fin 128) :
    k0_pay41 x (ix2 r d) = if d.val < 64 then x (ix2 ⟨256 + r.val, by have := r.isLt; omega⟩ d) * Ideal.ofBits .bf16 0x3E00#16 else 0 := by
  pointwise [k0_pay41, k0_pay38, k0_pay36, k0_pay37]
  word_cmp
/-- the first 256 rows of the second half's, -/
theorem q2_apply (x : Vec Ideal S512x128 .bf16) (r : Fin 256) (d : Fin 128) :
    k0_pay42 x (ix2 r d) = if 64 ≤ d.val then x (ix2 ⟨r.val, by have := r.isLt; omega⟩ d) * Ideal.ofBits .bf16 0x3E00#16 else 0 := by
  pointwise [k0_pay42, k0_pay39, k0_pay36, k0_pay37]
  word_cmp
/-- and the last 256 rows. -/
theorem q3_apply (x : Vec Ideal S512x128 .bf16) (r : Fin 256) (d : Fin 128) :
    k0_pay43 x (ix2 r d) = if 64 ≤ d.val then x (ix2 ⟨256 + r.val, by have := r.isLt; omega⟩ d) * Ideal.ofBits .bf16 0x3E00#16 else 0 := by
  pointwise [k0_pay43, k0_pay39, k0_pay36, k0_pay37]
  word_cmp

/-- The mask denotes minus infinity. -/
theorem named_bot : Named.named (F := Ideal) κ "mask" (φ := .f32) 0xF149F2CA#32 = (⊥ : EReal) :=
  IdealRules.named_const.ideal_named_scalar _ _ _ _ rfl

/-- A masked score. -/
theorem mask_apply (v w : BitVec 32) (q : FVec Ideal S256x128 .bf16) (kt : Vec Ideal S1024x128 .bf16) (r : Fin 256) (k : Fin 1024)
    (a b : ℕ) (hv : v = BitVec.ofNat 32 a) (hw : w = BitVec.ofNat 32 b) (ha : a ≤ 8192) (hb : b ≤ 8192) :
    maskedS v w q kt (ix2 r k) = if a + k.val ≤ b + r.val then scores q kt (ix2 r k) else ⊥ := by
  subst hv hw
  have e1 : IntOp.addi (BitVec.ofNat 32 a) (BitVec.ofNat 32 k.val) = BitVec.ofNat 32 (a + k.val) := by
    simp [IntOp.addi, BitVec.ofNat_add]
  have e2 : IntOp.addi (BitVec.ofNat 32 b) (BitVec.ofNat 32 r.val) = BitVec.ofNat 32 (b + r.val) := by
    simp [IntOp.addi, BitVec.ofNat_add]
  have hk := k.isLt
  have hr := r.isLt
  pointwise [maskedS, k0_pay77, k0_pay76, e1, e2, named_bot]
  rw [WordCmp.cmpi_sle_ofNat (by omega) (by omega), WordCmp.select_ofBool]
  simp only [decide_eq_true_eq]

/-- A row of the output: the normalized row, weighted. -/
def outRow (a : Fin 128 → EReal) (g : EReal) (d : Fin 128) : EReal :=
  a d * Ideal.rsqrt (Ideal.div (∑ x : Fin 128, a x * a x) (Ideal.ofBits .f32 0x43000000#32) + Ideal.ofBits .f32 0x3727C5AC#32)
    * g * Ideal.ofBits .f32 0x3F4CCCCD#32

/-- The weight of the second half. -/
def lamE (x0 : Vec Ideal S4x64 .f32) : EReal :=
  Ideal.exp (∑ x : Fin 64, x0 (ix2 0 x) * x0 (ix2 1 x)) - Ideal.exp (∑ x : Fin 64, x0 (ix2 2 x) * x0 (ix2 3 x)) + Ideal.ofBits .f32 0x3E4CCCCD#32

/-- The quotient of an accumulator by its column of ones. -/
def quot (a : Vec Ideal S1x256x256 .f32) (r : Fin 256) (d : Fin 128) : EReal :=
  Ideal.div (a (ix3 0 r ⟨d.val, by have := d.isLt; omega⟩)) (a (ix3 0 r 128))

/-- The first 256 rows of the output block, -/
theorem combine_lo (x0 : Vec Ideal S4x64 .f32) (x1 : Vec Ideal S1x128 .f32) (a0 a1 a2 a3 : Vec Ideal S1x256x256 .f32) (r : Fin 256) (d : Fin 128) :
    combine x0 x1 a0 a1 a2 a3 (ix2 ⟨r.val, by have := r.isLt; omega⟩ d)
      = outRow (fun x => quot a0 r x - lamE x0 * quot a2 r x) (x1 (ix2 0 d)) d := by
  have hr := r.isLt
  pointwise [combine, k0_pay1, k0_pay92, k0_pay89, k0_pay90, k0_pay91, outRow, lamE, quot]
/-- and the last. -/
theorem combine_hi (x0 : Vec Ideal S4x64 .f32) (x1 : Vec Ideal S1x128 .f32) (a0 a1 a2 a3 : Vec Ideal S1x256x256 .f32) (r : Fin 256) (d : Fin 128) :
    combine x0 x1 a0 a1 a2 a3 (ix2 ⟨256 + r.val, by have := r.isLt; omega⟩ d)
      = outRow (fun x => quot a1 r x - lamE x0 * quot a3 r x) (x1 (ix2 0 d)) d := by
  have hr := r.isLt
  pointwise [combine, k0_pay1, k0_pay92, k0_pay89, k0_pay90, k0_pay91, outRow, lamE, quot]

/-- The chain's accumulator before tile `n`. -/
theorem chain_St (q : FVec Ideal S256x128 .bf16) (x3 x4 : Vec Ideal S8192x128 .bf16) (r d : Fin 256) (t : ℕ → EReal) (w : ℕ → ℝ)
    (ht : ∀ k, t k ≠ ⊤) (N : ℕ)
    (hs : ∀ j, j < N → ∀ k : Fin 1024, scores q (tile x3 j) (ix2 r k) = t (1024 * j + k.val))
    (hw : ∀ j, j < N → ∀ k : Fin 1024, vtile x4 j (ix2 k d) = ((w (1024 * j + k.val) : ℝ) : EReal)) :
    ∀ n, n ≤ N → St (chM q (tile x3) mInit n (ix3 0 r 0)) (chA q (tile x3) (vtile x4) mInit aInit n (ix3 0 r d))
      (∑ k ∈ Finset.range (1024 * n), E (t k) * w k)
  | 0, _ => Or.inl ⟨named_bot, Ideal.ofBits_zero_f32, by simp⟩
  | n + 1, h => by
    have ih := chain_St q x3 x4 r d t w ht N hs hw n (by omega)
    have h1 := St.step ih (fun x : Fin 1024 => scores q (tile x3 n) (ix2 r x)) (fun x => by rw [hs n (by omega)]; exact ht _)
      (fun x => w (1024 * n + x.val)) (Ideal.ofBits .f32 0xFF800000#32) bits_bot
    rw [show 1024 * (n + 1) = 1024 * n + 1024 by ring, Finset.sum_range_add, Finset.sum_range (n := 1024)]
    show St (k0_pay13 (F := Ideal) _ _ _) (k0_pay12 (F := Ideal) _ _ _ _ _) _
    rw [stepM_apply, stepA_apply]
    simp only [hw n (by omega)]
    have e : ∀ x : Fin 1024, E (scores q (tile x3 n) (ix2 r x)) = E (t (1024 * n + x.val)) := fun x => by rw [hs n (by omega)]
    simp only [e] at h1
    exact h1

/-- The chain's accumulator after the masked tile, once its maximum is known: for two columns at once, their quotient. -/
theorem fin_St (q : FVec Ideal S256x128 .bf16) (S : FVec Ideal S256x1024 .f32) (x3 x4 : Vec Ideal S8192x128 .bf16) (r d : Fin 256)
    (t : ℕ → EReal) (w : ℕ → ℝ) (ht : ∀ k, t k ≠ ⊤) (n : ℕ) (hn : n < 8)
    (hs : ∀ j, j < n → ∀ k : Fin 1024, scores q (tile x3 j) (ix2 r k) = t (1024 * j + k.val))
    (hS : ∀ k : Fin 1024, S (ix2 r k) = t (1024 * n + k.val))
    (hw : ∀ j, j < 8 → ∀ k : Fin 1024, vtile x4 j (ix2 k d) = ((w (1024 * j + k.val) : ℝ) : EReal))
    (h0 : ∀ k, 1024 * (n + 1) ≤ k → t k = ⊥) :
    St (k0_pay13 S (chM q (tile x3) mInit n) (ix3 0 r 0)) (fin q S x3 x4 n (ix3 0 r d)) (∑ k ∈ Finset.range 8192, E (t k) * w k) := by
  have ih := chain_St q x3 x4 r d t w ht n hs (fun j hj => hw j (by omega)) n le_rfl
  have h1 := St.step ih (fun x : Fin 1024 => S (ix2 r x)) (fun x => by rw [hS]; exact ht _)
    (fun x => w (1024 * n + x.val)) (Ideal.ofBits .f32 0xFF800000#32) bits_bot
  have e : ∑ k ∈ Finset.range 8192, E (t k) * w k = ∑ k ∈ Finset.range (1024 * n + 1024), E (t k) * w k := by
    symm
    refine Finset.sum_subset (Finset.range_subset_range.2 (by omega)) fun k _ hk => ?_
    rw [Finset.mem_range, not_lt] at hk
    rw [h0 k (by omega), E_bot, zero_mul]
  rw [e, Finset.sum_range_add, Finset.sum_range (n := 1024)]
  unfold fin
  show St _ (k0_pay12 (F := Ideal) _ _ _ _ _) _
  rw [stepM_apply, stepA_apply]
  simp only [hw n (by omega)]
  simp only [hS] at h1 ⊢
  exact h1

/-- So a chain's quotient is the softmax-weighted mean of the values. -/
theorem quot_eq (q : FVec Ideal S256x128 .bf16) (S : FVec Ideal S256x1024 .f32) (x3 x4 : Vec Ideal S8192x128 .bf16) (r : Fin 256) (d : Fin 128)
    (t : ℕ → EReal) (w : ℕ → ℝ) (ht : ∀ k, t k ≠ ⊤) (n : ℕ) (hn : n < 8)
    (hs : ∀ j, j < n → ∀ k : Fin 1024, scores q (tile x3 j) (ix2 r k) = t (1024 * j + k.val))
    (hS : ∀ k : Fin 1024, S (ix2 r k) = t (1024 * n + k.val))
    (hw : ∀ k : Fin 8192, x4 (ix2 k d) = ((w k.val : ℝ) : EReal))
    (h0 : ∀ k, 1024 * (n + 1) ≤ k → t k = ⊥) (hp : (∑ k ∈ Finset.range 8192, E (t k)) ≠ 0) :
    quot (fin q S x3 x4 n) r d = (((∑ k ∈ Finset.range 8192, E (t k) * w k) / ∑ k ∈ Finset.range 8192, E (t k) : ℝ) : EReal) := by
  have ha := fin_St q S x3 x4 r ⟨d.val, by have := d.isLt; omega⟩ t w ht n hn hs hS (fun j hj k => by
    have hk := k.isLt
    show k0_pay19 k0_pay46 (tile x4 j) _ = _
    rw [pay19_lo]
    have e : (1024 * j + k.val) % 8192 = 1024 * j + k.val := Nat.mod_eq_of_lt (by omega)
    have := hw ⟨1024 * j + k.val, by omega⟩
    rw [← this]
    show x4 _ = x4 _
    congr 1
    funext a
    match a with
    | 0 => exact Fin.ext e
    | 1 => rfl) h0
  have hl := fin_St q S x3 x4 r 128 t (fun _ => 1) ht n hn hs hS (fun j hj k => by
    show k0_pay19 k0_pay46 (tile x4 j) _ = _
    rw [pay19_one]
    norm_cast) h0
  simp only [mul_one] at hl
  exact St.div ha hl hp

end Cert.Proof.Step
end
-- ==== Proof.Ref.lean ====
module

public import proofs.«01_k».proof.Proof.Gen.ReferenceIdeal.Run
public import Idealize.ShloMosaic.Lib.Pointwise

@[expose] public section

set_option maxRecDepth 16384
noncomputable section

/-! The reference's composed term, cut at its named intermediate arrays. -/

namespace Cert.Proof.Ref
open Cert.ReferenceIdeal Cert.ReferenceIdeal.Gen Idealize.ShloMosaic Idealize.ShloMosaic.TcCoe Idealize.SL.Sem Idealize.ShloMosaic.StableHlo

variable (X : FVec Ideal S8192x3840 .bf16) (V : FVec Ideal S8192x1280 .bf16) (Lp : FVec Ideal S4x64 .f32) (g : FVec Ideal S128 .f32)

/-- The queries, by half, head, row. -/
def bq : FVec Ideal S2x4x8192x64 .f32 :=
  transpose S2x4x8192x64 [2, 1, 0, 3] (shapeCast S8192x4x2x64 (extf .f32 (extractStridedSlice S8192x512 ![0, 512] X slices_S8192x3840_S8192x512_0_512) bitsLt_bf16_f32) shapeCasts_S8192x512_S8192x4x2x64) transposes_S8192x4x2x64_S2x4x8192x64_2_1_0_3
/-- The keys, by half, head, row. -/
def bk : FVec Ideal S2x4x8192x64 .f32 :=
  transpose S2x4x8192x64 [2, 1, 0, 3] (shapeCast S8192x4x2x64 (extf .f32 (extractStridedSlice S8192x512 ![0, 1024] X slices_S8192x3840_S8192x512_0_1024) bitsLt_bf16_f32) shapeCasts_S8192x512_S8192x4x2x64) transposes_S8192x4x2x64_S2x4x8192x64_2_1_0_3
/-- The values, by head and row. -/
def bv : FVec Ideal S4x8192x128 .f32 :=
  transpose S4x8192x128 [1, 0, 2] (shapeCast S8192x4x128 (extf .f32 (extractStridedSlice S8192x512 ![0, 0] V slices_S8192x1280_S8192x512_0_0) bitsLt_bf16_f32) shapeCasts_S8192x512_S8192x4x128) transposes_S8192x4x128_S4x8192x128_1_0_2
/-- The causal mask. -/
def causal : IVec S2x4x8192x8192 1 :=
  broadcastInDim S2x4x8192x8192 ![0, 1, 2, 3] bcast_S1x1x8192x8192_S2x4x8192x8192_0_1_2_3 (broadcastInDim S1x1x8192x8192 ![2, 3] bcast_S8192x8192_S1x1x8192x8192_2_3 (cmpi .sle (broadcastInDim S8192x8192 ![0, 1] bcast_S1x8192_S8192x8192_0_1 (broadcastInDim S1x8192 ![1] bcast_S8192_S1x8192_1 (iotaInDim S8192 32 0))) (broadcastInDim S8192x8192 ![0, 1] bcast_S8192x1_S8192x8192_0_1 (broadcastInDim S8192x1 ![0] bcast_S8192_S8192x1_0 (iotaInDim S8192 32 0)))))
/-- The masked scores. -/
def sc : FVec Ideal S2x4x8192x8192 .f32 :=
  select causal (mulf (Host.dotGeneral dot_S2x4x8192x64_S2x4x8192x64_S2x4x8192x8192_3_3_2_2_01_01 none (bq X) (bk X)) (broadcastInDim S2x4x8192x8192 ![] bcast_S_S2x4x8192x8192 (constant S_ .f32 0x3E000000#32))) (broadcastInDim S2x4x8192x8192 ![] bcast_S_S2x4x8192x8192 (id (constant S_ .f32 0xFF800000#32)))
/-- The row maxima, before the comparison with the initial value. -/
def mx0 : FVec Ideal S2x4x8192 .f32 :=
  Host.reduce FloatOps.maximumf (sc X) (constant S_ .f32 0xFF800000#32) reducesTo_S2x4x8192x8192_S2x4x8192_d3 h_S_
/-- The row maxima. -/
def mx : FVec Ideal S2x4x8192 .f32 :=
  maximumf (broadcastInDim S2x4x8192 ![] bcast_S_S2x4x8192 (constant S_ .f32 0xFF800000#32)) (mx0 X)
/-- The exponentials of the scores less the row maximum. -/
def ex : FVec Ideal S2x4x8192x8192 .f32 :=
  Host.exp (subf (sc X) (broadcastInDim S2x4x8192x8192 ![0, 1, 2, 3] bcast_S2x4x8192x1_S2x4x8192x8192_0_1_2_3 (broadcastInDim S2x4x8192x1 ![0, 1, 2] bcast_S2x4x8192_S2x4x8192x1_0_1_2 (mx X))))
/-- Their sums. -/
def sm : FVec Ideal S2x4x8192 .f32 :=
  Host.reduceAdd (ex X) (constant S_ .f32 0x00000000#32) reducesTo_S2x4x8192x8192_S2x4x8192_d3 h_S_
/-- The probabilities. -/
def pr : FVec Ideal S2x4x8192x8192 .f32 :=
  Host.divf (ex X) (broadcastInDim S2x4x8192x8192 ![0, 1, 2, 3] bcast_S2x4x8192x1_S2x4x8192x8192_0_1_2_3 (broadcastInDim S2x4x8192x1 ![0, 1, 2] bcast_S2x4x8192_S2x4x8192x1_0_1_2 (sm X)))
/-- The weight of the second half. -/
def lam : FVec Ideal S_ .f32 :=
  addf (subf (Host.exp (Host.reduceAdd (mulf (shapeCast S64 (extractStridedSlice S1x64 ![0, 0] Lp slices_S4x64_S1x64_0_0) shapeCasts_S1x64_S64) (shapeCast S64 (extractStridedSlice S1x64 ![1, 0] Lp slices_S4x64_S1x64_1_0) shapeCasts_S1x64_S64)) (constant S_ .f32 0x00000000#32) reducesTo_S64_S_d0 h_S_)) (Host.exp (Host.reduceAdd (mulf (shapeCast S64 (extractStridedSlice S1x64 ![2, 0] Lp slices_S4x64_S1x64_2_0) shapeCasts_S1x64_S64) (shapeCast S64 (extractStridedSlice S1x64 ![3, 0] Lp slices_S4x64_S1x64_3_0) shapeCasts_S1x64_S64)) (constant S_ .f32 0x00000000#32) reducesTo_S64_S_d0 h_S_))) (constant S_ .f32 0x3E4CCCCD#32)
/-- The difference of the two halves' probabilities. -/
def df : FVec Ideal S4x8192x8192 .f32 :=
  subf (shapeCast S4x8192x8192 (extractStridedSlice S1x4x8192x8192 ![0, 0, 0, 0] (pr X) slices_S2x4x8192x8192_S1x4x8192x8192_0_0_0_0) shapeCasts_S1x4x8192x8192_S4x8192x8192) (mulf (broadcastInDim S4x8192x8192 ![] bcast_S_S4x8192x8192 (lam Lp)) (shapeCast S4x8192x8192 (extractStridedSlice S1x4x8192x8192 ![1, 0, 0, 0] (pr X) slices_S2x4x8192x8192_S1x4x8192x8192_1_0_0_0) shapeCasts_S1x4x8192x8192_S4x8192x8192))
/-- The heads' outputs before the normalization. -/
def ob : FVec Ideal S4x8192x128 .f32 :=
  Host.dotGeneral dot_S4x8192x8192_S4x8192x128_S4x8192x128_2_1_1_2_0_0 none (df X Lp) (bv V)
/-- The normalization and the result. -/
def norm (o : FVec Ideal S4x8192x128 .f32) : FVec Ideal S8192x512 .bf16 :=
  truncf .bf16 (shapeCast S8192x512 (transpose S8192x4x128 [1, 0, 2] (mulf (mulf (mulf o (broadcastInDim S4x8192x128 ![0, 1, 2] bcast_S4x8192x1_S4x8192x128_0_1_2 (Host.rsqrt (addf (Host.divf (broadcastInDim S4x8192x1 ![0, 1] bcast_S4x8192_S4x8192x1_0_1 (Host.reduceAdd (mulf o o) (constant S_ .f32 0x00000000#32) reducesTo_S4x8192x128_S4x8192_d2 h_S_)) (broadcastInDim S4x8192x1 ![] bcast_S_S4x8192x1 (constant S_ .f32 0x43000000#32))) (broadcastInDim S4x8192x1 ![] bcast_S_S4x8192x1 (constant S_ .f32 0x3727C5AC#32)))))) (broadcastInDim S4x8192x128 ![0, 1, 2] bcast_S1x1x128_S4x8192x128_0_1_2 (broadcastInDim S1x1x128 ![2] bcast_S128_S1x1x128_2 g))) (broadcastInDim S4x8192x128 ![] bcast_S_S4x8192x128 (constant S_ .f32 0x3F4CCCCD#32))) transposes_S4x8192x128_S8192x4x128_1_0_2) shapeCasts_S8192x4x128_S8192x512) bitsLt_bf16_f32

/-- The reference's result is the normalized output of the staged arrays. -/
theorem res_eq (m : (ℓ : Loc nD τ sig) → Buf (Elt Ideal) ℓ) (c : Dev nD) :
    Cert.ReferenceIdeal.Value.res_main_v75 (F := Ideal) m c
      = norm (m ((c.tc : Thread nD τ).loc main_arg3))
          (ob (m ((c.tc : Thread nD τ).loc main_arg0)) (m ((c.tc : Thread nD τ).loc main_arg1)) (m ((c.tc : Thread nD τ).loc main_arg2))) := by
  unfold Cert.ReferenceIdeal.Value.res_main_v75
  rfl

/-- The row maximum at an index, -/
theorem mx0_apply (n : Fin 2) (h : Fin 4) (q : Fin 8192) :
    mx0 X (ix3 n h q) = Finset.univ.fold max (Ideal.ofBits .f32 0xFF800000#32) fun k : Fin 8192 => sc X (ix4 n h q k) := by
  unfold mx0
  generalize sc X = s
  pointwise
/-- the comparison with the initial value, -/
theorem mx_aux (s : FVec Ideal S2x4x8192 .f32) (i : S2x4x8192.Idx) :
    maximumf (broadcastInDim S2x4x8192 ![] bcast_S_S2x4x8192 (constant S_ .f32 0xFF800000#32)) s i = max (Ideal.ofBits .f32 0xFF800000#32) (s i) := rfl
/-- the row maximum in full, -/
theorem mx_apply (n : Fin 2) (h : Fin 4) (q : Fin 8192) : mx X (ix3 n h q)
    = max (Ideal.ofBits .f32 0xFF800000#32) (Finset.univ.fold max (Ideal.ofBits .f32 0xFF800000#32) fun k : Fin 8192 => sc X (ix4 n h q k)) :=
  (mx_aux _ _).trans (congrArg _ (mx0_apply X n h q))
/-- an exponential, -/
theorem ex_apply (n : Fin 2) (h : Fin 4) (q k : Fin 8192) : ex X (ix4 n h q k) = Ideal.exp (sc X (ix4 n h q k) - mx X (ix3 n h q)) := by
  unfold ex
  generalize mx X = s
  generalize sc X = s
  pointwise
/-- the sum of the exponentials, -/
theorem sm_apply (n : Fin 2) (h : Fin 4) (q : Fin 8192) :
    sm X (ix3 n h q) = ∑ k : Fin 8192, ex X (ix4 n h q k) := by
  unfold sm
  generalize ex X = s
  pointwise
/-- a probability, -/
theorem pr_apply (n : Fin 2) (h : Fin 4) (q k : Fin 8192) :
    pr X (ix4 n h q k) = Ideal.div (ex X (ix4 n h q k)) (sm X (ix3 n h q)) := by
  unfold pr
  generalize ex X = s
  generalize sm X = s
  pointwise
/-- the weight of the second half, -/
theorem lam_apply : lam Lp ix0 = Ideal.exp (∑ x : Fin 64, Lp (ix2 0 x) * Lp (ix2 1 x)) - Ideal.exp (∑ x : Fin 64, Lp (ix2 2 x) * Lp (ix2 3 x)) + Ideal.ofBits .f32 0x3E4CCCCD#32 := by
  pointwise [lam]
/-- which is the same at every index, -/
theorem bc_apply (l : FVec Ideal S_ .f32) (i : S4x8192x8192.Idx) : broadcastInDim S4x8192x8192 ![] bcast_S_S4x8192x8192 l i = l ix0 := by
  show l _ = l _
  congr 1
  funext a
  exact a.elim0
/-- the probabilities of the first half, -/
theorem slice0 (s : FVec Ideal S2x4x8192x8192 .f32) (h : Fin 4) (q k : Fin 8192) :
    shapeCast S4x8192x8192 (extractStridedSlice S1x4x8192x8192 ![0, 0, 0, 0] s slices_S2x4x8192x8192_S1x4x8192x8192_0_0_0_0) shapeCasts_S1x4x8192x8192_S4x8192x8192 (ix3 h q k) = s (ix4 0 h q k) := by
  pointwise
/-- those of the second, -/
theorem slice1 (s : FVec Ideal S2x4x8192x8192 .f32) (h : Fin 4) (q k : Fin 8192) :
    shapeCast S4x8192x8192 (extractStridedSlice S1x4x8192x8192 ![1, 0, 0, 0] s slices_S2x4x8192x8192_S1x4x8192x8192_1_0_0_0) shapeCasts_S1x4x8192x8192_S4x8192x8192 (ix3 h q k) = s (ix4 1 h q k) := by
  pointwise
/-- a difference with a product, at an index, -/
theorem df_aux (a b c : FVec Ideal S4x8192x8192 .f32) (i : S4x8192x8192.Idx) : subf a (mulf b c) i = a i - b i * c i := rfl
/-- the difference of the two halves' probabilities, -/
theorem df_apply (h : Fin 4) (q k : Fin 8192) : df X Lp (ix3 h q k) = pr X (ix4 0 h q k) - lam Lp ix0 * pr X (ix4 1 h q k) := by
  unfold df
  rw [df_aux, bc_apply, slice0, slice1]
/-- a value, -/
theorem bv_apply (h : Fin 4) (q : Fin 8192) (d : Fin 128) :
    bv V (ix3 h q d) = V (ix2 q ⟨h.val * 128 + d.val, by have := h.isLt; have := d.isLt; omega⟩) := by
  pointwise [bv]
/-- an output before the normalization, -/
theorem ob_apply (h : Fin 4) (q : Fin 8192) (d : Fin 128) :
    ob X V Lp (ix3 h q d) = ∑ k : Fin 8192, df X Lp (ix3 h q k) * bv V (ix3 h k d) := by
  unfold ob
  generalize df X Lp = s
  generalize bv V = w
  pointwise
/-- a masked score, -/
theorem sc_apply (n : Fin 2) (h : Fin 4) (q k : Fin 8192) : sc X (ix4 n h q k)
    = Scalar.select (IntOp.cmpi .sle (BitVec.ofNat 32 k.val) (BitVec.ofNat 32 q.val))
      ((∑ x : Fin 64, X (ix2 q ⟨512 + (h.val * 128 + n.val * 64 + x.val), by have := h.isLt; have := n.isLt; have := x.isLt; omega⟩)
          * X (ix2 k ⟨1024 + (h.val * 128 + n.val * 64 + x.val), by have := h.isLt; have := n.isLt; have := x.isLt; omega⟩))
        * Ideal.ofBits .f32 0x3E000000#32) (Ideal.ofBits .f32 0xFF800000#32) := by
  pointwise [sc, causal, bq, bk]
  rfl
/-- and the result. -/
theorem norm_apply (o : FVec Ideal S4x8192x128 .f32) (q : Fin 8192) (h : Fin 4) (d : Fin 128) :
    norm g o (ix2 q ⟨h.val * 128 + d.val, by have := h.isLt; have := d.isLt; omega⟩)
      = o (ix3 h q d) * Ideal.rsqrt (Ideal.div (∑ x : Fin 128, o (ix3 h q x) * o (ix3 h q x)) (Ideal.ofBits .f32 0x43000000#32)
          + Ideal.ofBits .f32 0x3727C5AC#32) * g (ix1 d) * Ideal.ofBits .f32 0x3F4CCCCD#32 := by
  have e1 : (h.val * 128 + d.val) / 128 = h.val := by have := d.isLt; omega
  have e2 : (h.val * 128 + d.val) % 128 = d.val := by have := d.isLt; omega
  pointwise [norm, e1, e2]

end Cert.Proof.Ref
end
-- ==== Proof.Pure.lean ====
module

public import proofs.«01_k».proof.Proof.Step
public import proofs.«01_k».proof.Proof.Ref

@[expose] public section

set_option maxRecDepth 16384
noncomputable section

/-! A row of the body's output block is the reference's row, when the block's entries are the arrays' and the arrays
    are finite. -/

namespace Cert.Proof.Pure
open Cert.KernelIdeal Cert.KernelIdeal.Gen Idealize.ShloMosaic Idealize.ShloMosaic.TcCoe Idealize.SL.Sem
open Cert.Proof.Trip Cert.Proof.Body Cert.Proof.Softmax Cert.Proof.Step

/-- The scale's pattern in the kernel -/
theorem eighth_bf16 : Ideal.ofBits .bf16 0x3E00#16 = (((1 : ℝ) / 8 : ℝ) : EReal) := by
  simp [Ideal.ofBits, Ideal.ieee, -EReal.coe_mul]; norm_num
/-- and in the reference is one eighth. -/
theorem eighth_f32 : Ideal.ofBits .f32 0x3E000000#32 = (((1 : ℝ) / 8 : ℝ) : EReal) := by
  simp [Ideal.ofBits, Ideal.ieee, -EReal.coe_mul]; norm_num
/-- The initial weight's pattern is a real number. -/
theorem lam_init_real : ∃ z : ℝ, Ideal.ofBits .f32 0x3E4CCCCD#32 = (z : EReal) := by
  refine ⟨13421773 / 67108864, ?_⟩
  simp [Ideal.ofBits, Ideal.ieee, -EReal.coe_mul]; norm_num

/-- A sum of 128 real products whose last 64 are cleared, -/
theorem half_lo (a b : Fin 128 → ℝ) (c : ℝ) :
    ∑ x : Fin 128, (if x.val < 64 then (a x : EReal) * (c : EReal) else 0) * (b x : EReal)
      = (((∑ x : Fin 64, a ⟨x.val, by have := x.isLt; omega⟩ * b ⟨x.val, by have := x.isLt; omega⟩) * c : ℝ) : EReal) := by
  refine (Fin.sum_univ_add (a := 64) (b := 64) _).trans ?_
  rw [Finset.sum_mul, coe_fsum]
  have hz : ∑ i : Fin 64, (if (Fin.natAdd 64 i : Fin 128).val < 64 then (a (Fin.natAdd 64 i) : EReal) * (c : EReal) else 0) * (b (Fin.natAdd 64 i) : EReal) = 0 := by
    refine Finset.sum_eq_zero fun i _ => ?_
    rw [if_neg (by simp), zero_mul]
  rw [hz, add_zero]
  refine Finset.sum_congr rfl fun i _ => ?_
  rw [if_pos (by have := i.isLt; simp), ← EReal.coe_mul, ← EReal.coe_mul]
  congr 1
  exact mul_right_comm _ _ _
/-- and one whose first 64 are. -/
theorem half_hi (a b : Fin 128 → ℝ) (c : ℝ) :
    ∑ x : Fin 128, (if 64 ≤ x.val then (a x : EReal) * (c : EReal) else 0) * (b x : EReal)
      = (((∑ x : Fin 64, a ⟨64 + x.val, by have := x.isLt; omega⟩ * b ⟨64 + x.val, by have := x.isLt; omega⟩) * c : ℝ) : EReal) := by
  refine (Fin.sum_univ_add (a := 64) (b := 64) _).trans ?_
  rw [Finset.sum_mul, coe_fsum]
  have hz : ∑ i : Fin 64, (if 64 ≤ (Fin.castAdd 64 i : Fin 128).val then (a (Fin.castAdd 64 i) : EReal) * (c : EReal) else 0) * (b (Fin.castAdd 64 i) : EReal) = 0 := by
    refine Finset.sum_eq_zero fun i _ => ?_
    rw [if_neg (by have := i.isLt; simp), zero_mul]
  rw [hz, zero_add]
  refine Finset.sum_congr rfl fun i _ => ?_
  rw [if_pos (by simp), ← EReal.coe_mul, ← EReal.coe_mul]
  congr 1
  exact mul_right_comm _ _ _

section row
variable (X : FVec Ideal Cert.ReferenceIdeal.S8192x3840 .bf16) (V : FVec Ideal Cert.ReferenceIdeal.S8192x1280 .bf16)
  (Lp : FVec Ideal Cert.ReferenceIdeal.S4x64 .f32) (g : FVec Ideal Cert.ReferenceIdeal.S128 .f32)
  (xr : Fin 8192 → Fin 3840 → ℝ) (hX : ∀ i j, X (ix2 i j) = ((xr i j : ℝ) : EReal))
  (vr : Fin 8192 → Fin 1280 → ℝ) (hV : ∀ i j, V (ix2 i j) = ((vr i j : ℝ) : EReal))
  (h : Fin 4)

/-- The score of query `q` against key `k`, half `s`. -/
def sr (s : Fin 2) (q k : Fin 8192) : ℝ :=
  (∑ x : Fin 64, xr q ⟨512 + (h.val * 128 + s.val * 64 + x.val), by have := h.isLt; have := s.isLt; have := x.isLt; omega⟩
    * xr k ⟨1024 + (h.val * 128 + s.val * 64 + x.val), by have := h.isLt; have := s.isLt; have := x.isLt; omega⟩) * (1 / 8)

include hX in
/-- The reference's score at a key not after the query, -/
theorem sc_le (s : Fin 2) (q k : Fin 8192) (hk : k.val ≤ q.val) : Ref.sc X (ix4 s h q k) = ((sr xr h s q k : ℝ) : EReal) := by
  have h1 := q.isLt
  have h2 := k.isLt
  rw [Ref.sc_apply, WordCmp.cmpi_sle_ofNat (by omega) (by omega), WordCmp.select_ofBool, if_pos (by simpa using hk), eighth_f32]
  unfold sr
  rw [EReal.coe_mul, coe_fsum]
  congr 1
  refine Finset.sum_congr rfl fun x _ => ?_
  rw [hX, hX, ← EReal.coe_mul]
/-- and at one after it. -/
theorem sc_gt (s : Fin 2) (q k : Fin 8192) (hk : q.val < k.val) : Ref.sc X (ix4 s h q k) = ⊥ := by
  have h1 := q.isLt
  have h2 := k.isLt
  rw [Ref.sc_apply, WordCmp.cmpi_sle_ofNat (by omega) (by omega), WordCmp.select_ofBool, if_neg (by simpa using hk), bits_bot]

/-- The reference's scores of a row, by the key's number. -/
def tt (s : Fin 2) (q : Fin 8192) (k : ℕ) : EReal := if hk : k < 8192 then Ref.sc X (ix4 s h q ⟨k, hk⟩) else ⊥
/-- A column of the values, by the key's number. -/
def ww (c : Fin 1280) (k : ℕ) : ℝ := if hk : k < 8192 then vr ⟨k, hk⟩ c else 0
/-- The column of the values of head `h`, lane `d`. -/
def vc (d : Fin 128) : Fin 1280 := ⟨h.val * 128 + d.val, by have := h.isLt; have := d.isLt; omega⟩

theorem tt_fin (s : Fin 2) (q k : Fin 8192) : tt X h s q k.val = Ref.sc X (ix4 s h q k) := by
  unfold tt; rw [dif_pos k.isLt]
theorem ww_fin (c : Fin 1280) (k : Fin 8192) : ww vr c k.val = vr k c := by
  unfold ww; rw [dif_pos k.isLt]

include hX in
theorem tt_ne_top (s : Fin 2) (q : Fin 8192) (k : ℕ) : tt X h s q k ≠ ⊤ := by
  by_cases hk : k < 8192
  · rw [show k = (⟨k, hk⟩ : Fin 8192).val from rfl, tt_fin]
    rcases le_or_gt k q.val with h1 | h1
    · rw [sc_le X xr hX h s q ⟨k, hk⟩ h1]; exact EReal.coe_ne_top _
    · rw [sc_gt X h s q ⟨k, hk⟩ h1]; exact bot_ne_top
  · unfold tt; rw [dif_neg hk]; exact bot_ne_top

include hX in
theorem tt_zero (s : Fin 2) (q : Fin 8192) : Ref.sc X (ix4 s h q 0) ≠ ⊥ := by
  rw [sc_le X xr hX h s q 0 (Nat.zero_le _)]; exact EReal.coe_ne_bot _

theorem tt_gt (s : Fin 2) (q : Fin 8192) (k : ℕ) (hk : q.val < k) : tt X h s q k = ⊥ := by
  by_cases h1 : k < 8192
  · rw [show k = (⟨k, h1⟩ : Fin 8192).val from rfl, tt_fin, sc_gt X h s q ⟨k, h1⟩ hk]
  · unfold tt; rw [dif_neg h1]

/-- The sum of a row's exponentials, -/
def Zs (s : Fin 2) (q : Fin 8192) : ℝ := ∑ k ∈ Finset.range 8192, E (tt X h s q k)
/-- and the softmax-weighted mean of the values. -/
def Ps (s : Fin 2) (q : Fin 8192) (d : Fin 128) : ℝ :=
  (∑ k ∈ Finset.range 8192, E (tt X h s q k) * ww vr (vc h d) k) / Zs X h s q

theorem Zs_eq (s : Fin 2) (q : Fin 8192) : Zs X h s q = ∑ k : Fin 8192, E (Ref.sc X (ix4 s h q k)) := by
  unfold Zs
  rw [Finset.sum_range]
  exact Finset.sum_congr rfl fun k _ => by rw [tt_fin]

include hX in
theorem Zs_pos (s : Fin 2) (q : Fin 8192) : 0 < Zs X h s q := by
  rw [Zs_eq]
  refine sum_E_pos _ 0 (tt_zero X xr hX h s q) ?_
  rw [← tt_fin]; exact tt_ne_top X xr hX h s q _

include hX in
/-- A probability of the reference. -/
theorem pr_eq (s : Fin 2) (q k : Fin 8192) :
    Ref.pr X (ix4 s h q k) = ((E (Ref.sc X (ix4 s h q k)) / Zs X h s q : ℝ) : EReal) := by
  rw [Ref.pr_apply, Ref.sm_apply, Ref.ex_apply, Zs_eq]
  simp only [Ref.ex_apply]
  exact softmax (fun k => Ref.sc X (ix4 s h q k)) (fun k => by rw [← tt_fin]; exact tt_ne_top X xr hX h s q _) 0
    (tt_zero X xr hX h s q) _ bits_bot _ (Ref.mx_apply X s h q) k

include hX hV in
/-- The reference's output before the normalization, as a difference of two means. -/
theorem ob_eq (l : ℝ) (hl : Ref.lam Lp ix0 = (l : EReal)) (q : Fin 8192) (d : Fin 128) :
    Ref.ob X V Lp (ix3 h q d) = ((Ps X vr h 0 q d : ℝ) : EReal) - (l : EReal) * ((Ps X vr h 1 q d : ℝ) : EReal) := by
  have key : ∀ s : Fin 2, Ps X vr h s q d = ∑ k : Fin 8192, E (Ref.sc X (ix4 s h q k)) / Zs X h s q * vr k (vc h d) := fun s => by
    unfold Ps
    rw [Finset.sum_range, Finset.sum_div]
    refine Finset.sum_congr rfl fun k _ => ?_
    rw [tt_fin, ww_fin]; ring
  rw [Ref.ob_apply, key, key, ← sum_diff]
  refine Finset.sum_congr rfl fun k _ => ?_
  rw [Ref.df_apply, Ref.bv_apply, hl, pr_eq X xr hX, pr_eq X xr hX, hV]
  rfl

section chain
variable (q : FVec Ideal S256x128 .bf16) (x3 x4 : Vec Ideal S8192x128 .bf16) (r : Fin 256) (s : Fin 2) (Q : Fin 8192)
  (hq : ∀ k : Fin 8192, ∑ x : Fin 128, q (ix2 r x) * x3 (ix2 k x) = ((sr xr h s Q k : ℝ) : EReal))
  (hx4 : ∀ (k : Fin 8192) (d : Fin 128), x4 (ix2 k d) = ((vr k (vc h d) : ℝ) : EReal))

include hq in
/-- A score of a chain against a key of tile `j`. -/
theorem scores_eq (j : ℕ) (hj : j < 8) (k : Fin 1024) :
    scores q (tile x3 j) (ix2 r k) = ((sr xr h s Q ⟨1024 * j + k.val, by have := k.isLt; omega⟩ : ℝ) : EReal) := by
  have hk := k.isLt
  rw [← hq]
  show k0_pay9 q _ _ = _
  rw [scores_apply]
  refine Finset.sum_congr rfl fun x _ => ?_
  congr 1
  show x3 _ = x3 _
  congr 1
  funext a
  match a with
  | 0 => exact Fin.ext (Nat.mod_eq_of_lt (show 1024 * j + k.val < 8192 by omega))
  | 1 => rfl

include hX hq hx4 in
/-- A chain's quotient is the softmax-weighted mean of its row. -/
theorem quot_chain (v w : BitVec 32) (n b : ℕ) (hn : n < 8) (hv : v = BitVec.ofNat 32 (1024 * n)) (hw : w = BitVec.ofNat 32 b)
    (hb : b + r.val = Q.val) (h1 : 1024 * n ≤ Q.val) (h2 : Q.val < 1024 * (n + 1)) (d : Fin 128) :
    quot (fin q (maskedS v w q (tile x3 n)) x3 x4 n) r d = ((Ps X vr h s Q d : ℝ) : EReal) := by
  refine quot_eq q _ x3 x4 r d (tt X h s Q) (ww vr (vc h d)) (tt_ne_top X xr hX h s Q) n hn ?_ ?_ ?_ ?_ (Zs_pos X xr hX h s Q).ne'
  · intro j hj k
    have hk := k.isLt
    rw [scores_eq xr h q x3 r s Q hq j (by omega), ← sc_le X xr hX h s Q _ (by show 1024 * j + k.val ≤ _; omega), ← tt_fin]
  · intro k
    have hk := k.isLt
    have hQ := Q.isLt
    rw [mask_apply v w q _ r k (1024 * n) b hv hw (by omega) (by omega), scores_eq xr h q x3 r s Q hq n hn]
    split
    · rw [← sc_le X xr hX h s Q _ (by show 1024 * n + k.val ≤ _; omega), ← tt_fin]
    · rw [tt_gt]; omega
  · intro k
    rw [hx4, ww_fin]
  · intro k hk
    rw [tt_gt]; omega

end chain

section body
/-- The array row of the block's row `R`. -/
def row (i : Fin 16) (R : Fin 512) : Fin 8192 := ⟨512 * i.val + R.val, by have := i.isLt; have := R.isLt; omega⟩
/-- The column of a query's entry, -/
def qc (h : Fin 4) (d : Fin 128) : Fin 3840 := ⟨512 + (h.val * 128 + d.val), by have := h.isLt; have := d.isLt; omega⟩
/-- of a key's, -/
def kc (h : Fin 4) (d : Fin 128) : Fin 3840 := ⟨1024 + (h.val * 128 + d.val), by have := h.isLt; have := d.isLt; omega⟩
/-- and of an output's. -/
def oc (h : Fin 4) (d : Fin 128) : Fin 512 := ⟨h.val * 128 + d.val, by have := h.isLt; have := d.isLt; omega⟩

variable (x0 : Vec Ideal S4x64 .f32) (x1 : Vec Ideal S1x128 .f32) (x2 : Vec Ideal S512x128 .bf16) (x3 x4 : Vec Ideal S8192x128 .bf16)
  (i : Fin 16)
  (hx0 : lamE x0 = Ref.lam Lp ix0)
  (hx1 : ∀ d : Fin 128, x1 (ix2 0 d) = g (ix1 d))
  (hx2 : ∀ (r : Fin 512) (c : Fin 128), x2 (ix2 r c) = ((xr (row i r) (qc h c) : ℝ) : EReal))
  (hx3 : ∀ (k : Fin 8192) (c : Fin 128), x3 (ix2 k c) = ((xr k (kc h c) : ℝ) : EReal))
  (hx4 : ∀ (k : Fin 8192) (d : Fin 128), x4 (ix2 k d) = ((vr k (vc h d) : ℝ) : EReal))

include hx2 hx3 in
/-- The scores of the first chain's row, -/
theorem hq0 (r : Fin 256) (k : Fin 8192) : ∑ x : Fin 128, k0_pay40 x2 (ix2 r x) * x3 (ix2 k x)
    = ((sr xr h 0 (row i ⟨r.val, by have := r.isLt; omega⟩) k : ℝ) : EReal) := by
  simp only [q0_apply, hx2, hx3, eighth_bf16]
  refine (half_lo _ _ _).trans ?_
  unfold sr row qc kc
  simp
include hx2 hx3 in
/-- the second's, -/
theorem hq1 (r : Fin 256) (k : Fin 8192) : ∑ x : Fin 128, k0_pay41 x2 (ix2 r x) * x3 (ix2 k x)
    = ((sr xr h 0 (row i ⟨256 + r.val, by have := r.isLt; omega⟩) k : ℝ) : EReal) := by
  simp only [q1_apply, hx2, hx3, eighth_bf16]
  refine (half_lo _ _ _).trans ?_
  unfold sr row qc kc
  simp
include hx2 hx3 in
/-- the third's, -/
theorem hq2 (r : Fin 256) (k : Fin 8192) : ∑ x : Fin 128, k0_pay42 x2 (ix2 r x) * x3 (ix2 k x)
    = ((sr xr h 1 (row i ⟨r.val, by have := r.isLt; omega⟩) k : ℝ) : EReal) := by
  simp only [q2_apply, hx2, hx3, eighth_bf16]
  refine (half_hi _ _ _).trans ?_
  unfold sr row qc kc
  simp [add_assoc]
include hx2 hx3 in
/-- and the fourth's. -/
theorem hq3 (r : Fin 256) (k : Fin 8192) : ∑ x : Fin 128, k0_pay43 x2 (ix2 r x) * x3 (ix2 k x)
    = ((sr xr h 1 (row i ⟨256 + r.val, by have := r.isLt; omega⟩) k : ℝ) : EReal) := by
  simp only [q3_apply, hx2, hx3, eighth_bf16]
  refine (half_hi _ _ _).trans ?_
  unfold sr row qc kc
  simp [add_assoc]

include hX hV hx0 hx1 hx2 hx3 hx4 in
/-- THE BLOCK: a row of the body's output is the reference's. -/
theorem block_eq (l : ℝ) (hl : Ref.lam Lp ix0 = (l : EReal)) (v w : BitVec 32) (hv : v = BitVec.ofNat 32 (1024 * (i.val / 2)))
    (hw : w = BitVec.ofNat 32 (512 * i.val)) (R : Fin 512) (d : Fin 128) :
    combine x0 x1 (fin (k0_pay40 x2) (maskedS v (Scalar.addi w 0#32) (k0_pay40 x2) (tile x3 (i.val / 2))) x3 x4 (i.val / 2))
      (fin (k0_pay41 x2) (maskedS v (Scalar.addi w 256#32) (k0_pay41 x2) (tile x3 (i.val / 2))) x3 x4 (i.val / 2))
      (fin (k0_pay42 x2) (maskedS v (Scalar.addi w 0#32) (k0_pay42 x2) (tile x3 (i.val / 2))) x3 x4 (i.val / 2))
      (fin (k0_pay43 x2) (maskedS v (Scalar.addi w 256#32) (k0_pay43 x2) (tile x3 (i.val / 2))) x3 x4 (i.val / 2)) (ix2 R d)
    = Ref.norm g (Ref.ob X V Lp) (ix2 (row i R) (oc h d)) := by
  have hi := i.isLt
  have w0 : Scalar.addi w 0#32 = BitVec.ofNat 32 (512 * i.val) := by
    subst hw; show _ + _ = _; simp
  have w1 : Scalar.addi w 256#32 = BitVec.ofNat 32 (512 * i.val + 256) := by
    subst hw; show _ + _ = _; rw [BitVec.ofNat_add]
  unfold oc
  rw [Ref.norm_apply]
  simp only [ob_eq X V Lp xr hX vr hV h l hl]
  rcases lt_or_ge R.val 256 with hR | hR
  · obtain ⟨r, rfl⟩ : ∃ r : Fin 256, R = ⟨r.val, Nat.lt_trans r.isLt (by decide)⟩ := ⟨⟨R.val, hR⟩, rfl⟩
    rw [combine_lo, hx0, hl, hx1]
    have e0 := quot_chain X xr hX vr h (k0_pay40 x2) x3 x4 r 0 (row i ⟨r.val, by have := r.isLt; omega⟩)
      (hq0 xr h x2 x3 i hx2 hx3 r) hx4 v _ (i.val / 2) (512 * i.val) (by omega) hv w0 rfl (by show _ ≤ 512 * i.val + r.val; omega)
      (by show 512 * i.val + r.val < _; omega)
    have e2 := quot_chain X xr hX vr h (k0_pay42 x2) x3 x4 r 1 (row i ⟨r.val, by have := r.isLt; omega⟩)
      (hq2 xr h x2 x3 i hx2 hx3 r) hx4 v _ (i.val / 2) (512 * i.val) (by omega) hv w0 rfl (by show _ ≤ 512 * i.val + r.val; omega)
      (by show 512 * i.val + r.val < _; omega)
    simp only [e0, e2]
    rfl
  · obtain ⟨r, rfl⟩ : ∃ r : Fin 256, R = ⟨256 + r.val, Nat.add_lt_add_left r.isLt 256⟩ :=
      ⟨⟨R.val - 256, by have := R.isLt; omega⟩, Fin.ext (by show R.val = 256 + (R.val - 256); omega)⟩
    have hr := r.isLt
    rw [combine_hi, hx0, hl, hx1]
    have e1 := quot_chain X xr hX vr h (k0_pay41 x2) x3 x4 r 0 (row i ⟨256 + r.val, by have := r.isLt; omega⟩)
      (hq1 xr h x2 x3 i hx2 hx3 r) hx4 v _ (i.val / 2) (512 * i.val + 256) (by omega) hv w1
      (by show _ = 512 * i.val + (256 + r.val); omega) (by show _ ≤ 512 * i.val + (256 + r.val); omega)
      (by show 512 * i.val + (256 + r.val) < _; omega)
    have e3 := quot_chain X xr hX vr h (k0_pay43 x2) x3 x4 r 1 (row i ⟨256 + r.val, by have := r.isLt; omega⟩)
      (hq3 xr h x2 x3 i hx2 hx3 r) hx4 v _ (i.val / 2) (512 * i.val + 256) (by omega) hv w1
      (by show _ = 512 * i.val + (256 + r.val); omega) (by show _ ≤ 512 * i.val + (256 + r.val); omega)
      (by show 512 * i.val + (256 + r.val) < _; omega)
    simp only [e1, e3]
    rfl

end body
end row

end Cert.Proof.Pure
end
-- ==== Proof.Value.lean ====
module

public import proofs.«01_k».proof.Proof.Pure
public import Idealize.ShloMosaic.Lib.Pipeline.ValueKit

@[expose] public section

set_option maxRecDepth 16384
noncomputable section

/-! The kernel's output array after the run is the reference's result over the same arguments. -/

namespace Cert.Proof.Value
open Cert.KernelIdeal Cert.KernelIdeal.Gen Idealize.ShloMosaic Idealize.ShloMosaic.TcCoe Idealize.SL.Sem
open Idealize.ShloMosaic.Pipeline (Dat)
open Cert.Proof.Trip Cert.Proof.Body Cert.Proof.Softmax Cert.Proof.Step Cert.Proof.Pure

/-- The windows' block indices at every grid point. -/
theorem idx : ∀ t : Fin cfg0.N, win0_0.index t = ![0, 0] ∧ win0_1.index t = ![0, 0]
    ∧ win0_2.index t = ![(grid0.coords t 1).val, 4 + (grid0.coords t 0).val] ∧ win0_3.index t = ![0, 8 + (grid0.coords t 0).val]
    ∧ win0_4.index t = ![0, (grid0.coords t 0).val] ∧ win0_5.index t = ![(grid0.coords t 1).val, (grid0.coords t 0).val] :=
  (by decide +kernel : ∀ t : Fin grid0.N, _)

section
variable (m : (ℓ : Loc nD τ sig) → Buf (Elt Ideal) ℓ) (c : Dev nD) (t : Fin cfg0.N)

/-- The head of a grid point -/
abbrev hd : Fin 4 := ⟨(grid0.coords t 0).val, (grid0.coords t 0).isLt⟩
/-- and its block of query rows. -/
abbrev qi : Fin 16 := ⟨(grid0.coords t 1).val, (grid0.coords t 1).isLt⟩

/-- The weights' block is their array, -/
theorem blk0 (r : Fin 4) (x : Fin 64) : (iblk m c 0 t : FVec Ideal S4x64 .f32) (ix2 r x) = (m ((c : Thread nD τ).loc main_arg2) : FVec Ideal S4x64 .f32) (ix2 r x) := by
  blk_ext [iblk, V, idx t]
/-- the gain's is the gain as a row, -/
theorem blk1 (d : Fin 128) : (iblk m c 1 t : FVec Ideal S1x128 .f32) (ix2 0 d) = (m ((c : Thread nD τ).loc main_arg3) : FVec Ideal S128 .f32) (ix1 d) := by
  blk_simp [iblk, idx t]
  entry_read
  pointwise
  blk_ext [idx t]
/-- the queries' are the head's columns of the block's rows, -/
theorem blk2 (r : Fin 512) (x : Fin 128) : (iblk m c 2 t : FVec Ideal S512x128 .bf16) (ix2 r x)
    = (m ((c : Thread nD τ).loc main_arg0) : FVec Ideal S8192x3840 .bf16) (ix2 (row (qi t) r) (qc (hd t) x)) := by
  unfold row qc
  blk_ext [iblk, V, idx t]
/-- the keys' the head's columns of all rows, -/
theorem blk3 (r : Fin 8192) (x : Fin 128) : (iblk m c 3 t : FVec Ideal S8192x128 .bf16) (ix2 r x)
    = (m ((c : Thread nD τ).loc main_arg0) : FVec Ideal S8192x3840 .bf16) (ix2 r (kc (hd t) x)) := by
  unfold kc
  blk_ext [iblk, V, idx t]
/-- and the values' too. -/
theorem blk4 (r : Fin 8192) (x : Fin 128) : (iblk m c 4 t : FVec Ideal S8192x128 .bf16) (ix2 r x)
    = (m ((c : Thread nD τ).loc main_arg1) : FVec Ideal S8192x1280 .bf16) (ix2 r (vc (hd t) x)) := by
  unfold vc
  blk_ext [iblk, V, idx t]
end

/-- What the body leaves in the output block is its last stored value. -/
theorem out_eq (c : Dev nD) (i : grid0.Coords)
  (arg2 : Memref sig .tc .vmem S4x64 .f32) (harg2 : arg2.IsWhole) (arg3 : Memref sig .tc .vmem S1x128 .f32) (harg3 : arg3.IsWhole)
  (arg4 : Memref sig .tc .vmem S512x128 .bf16) (harg4 : arg4.IsWhole) (arg5 : Memref sig .tc .vmem S8192x128 .bf16) (harg5 : arg5.IsWhole)
  (arg6 : Memref sig .tc .vmem S8192x128 .bf16) (harg6 : arg6.IsWhole) (arg7 : Memref sig .tc .vmem S512x128 .bf16) (harg7 : arg7.IsWhole)
  (arg8 : Memref sig .tc .vmem S4x256x1 .f32) (harg8 : arg8.IsWhole) (arg9 : Memref sig .tc .vmem S4x256x256 .f32) (harg9 : arg9.IsWhole)
  (x0 : Vec Ideal S4x64 .f32) (x1 : Vec Ideal S1x128 .f32) (x2 : Vec Ideal S512x128 .bf16) (x3 x4 : Vec Ideal S8192x128 .bf16) (y : S512x128.Idx) :
  out0_A_5 c i arg2 harg2 arg3 harg3 arg4 harg4 arg5 harg5 arg6 harg6 arg7 harg7 arg8 harg8 arg9 harg9 x0 x1 x2 x3 x4 y =
     k0_pay1 (kernelRun0_A.sl.r_21 c i arg2 harg2 arg3 harg3 arg4 harg4 arg5 harg5 arg6 harg6 arg7 harg7 arg8 harg8 arg9 harg9 x0 x1 x2 x3 x4) y := by
  frame_out

/-- The first key of the last tile, as a word, -/
theorem w53 (i : grid0.Coords) : kernelRun0_A.sl.v53 i = BitVec.ofNat 32 (1024 * ((i 1).val / 2)) :=
  (by decide +kernel : ∀ i : grid0.Coords, kernelRun0_A.sl.v53 i = BitVec.ofNat 32 (1024 * ((i 1).val / 2))) i
/-- and the first query. -/
theorem w73 (i : grid0.Coords) : kernelRun0_A.sl.v73 i = BitVec.ofNat 32 (512 * (i 1).val) :=
  (by decide +kernel : ∀ i : grid0.Coords, kernelRun0_A.sl.v73 i = BitVec.ofNat 32 (512 * (i 1).val)) i

/-- The mixing weight of real weights is real. -/
theorem lam_real (Lp : FVec Ideal Cert.ReferenceIdeal.S4x64 .f32) (f : Fin 4 → Fin 64 → ℝ) (hf : ∀ i j, Lp (ix2 i j) = ((f i j : ℝ) : EReal)) :
    ∃ l : ℝ, Ref.lam Lp ix0 = (l : EReal) := by
  obtain ⟨z, hz⟩ := lam_init_real
  refine ⟨Real.exp (∑ x : Fin 64, f 0 x * f 1 x) - Real.exp (∑ x : Fin 64, f 2 x * f 3 x) + z, ?_⟩
  rw [Ref.lam_apply, hz]
  simp only [hf, ← EReal.coe_mul]
  rw [← coe_fsum, ← coe_fsum]
  rfl

section
variable (m : (ℓ : Loc nD τ sig) → Buf (Elt Ideal) ℓ) (c : Dev nD)

/-- The reference's result over the kernel's arguments. -/
def REF : FVec Ideal S8192x512 .bf16 :=
  Ref.norm (m ((c : Thread nD τ).loc main_arg3)) (Ref.ob (m ((c : Thread nD τ).loc main_arg0)) (m ((c : Thread nD τ).loc main_arg1)) (m ((c : Thread nD τ).loc main_arg2)))

variable (xr : Fin 8192 → Fin 3840 → ℝ) (hX : ∀ i j, (m ((c : Thread nD τ).loc main_arg0) : FVec Ideal S8192x3840 .bf16) (ix2 i j) = ((xr i j : ℝ) : EReal))
  (vr : Fin 8192 → Fin 1280 → ℝ) (hV : ∀ i j, (m ((c : Thread nD τ).loc main_arg1) : FVec Ideal S8192x1280 .bf16) (ix2 i j) = ((vr i j : ℝ) : EReal))
  (f : Fin 4 → Fin 64 → ℝ) (hf : ∀ i j, (m ((c : Thread nD τ).loc main_arg2) : FVec Ideal S4x64 .f32) (ix2 i j) = ((f i j : ℝ) : EReal))

include hX hV hf in
/-- A grid point's block is the reference's. -/
theorem point (t : Fin cfg0.N) (R : Fin 512) (d : Fin 128) : outsAt0 m c t (ix2 R d)
    = REF m c (ix2 (row (qi t) R) (oc (hd t) d)) := by
  obtain ⟨l, hl⟩ := lam_real _ f hf
  unfold outsAt0
  rw [out_eq, body_eq]
  refine block_eq _ _ _ _ xr hX vr hV (hd t) _ _ _ _ _ (qi t) ?_ (blk1 m c t) ?_ ?_ ?_ l hl _ _ (w53 _) (w73 _) R d
  · unfold lamE
    simp only [blk0]
    exact (Ref.lam_apply _).symm
  · intro r x; rw [blk2, hX]
  · intro r x; rw [blk3, hX]
  · intro r x; rw [blk4, hV]

include hX hV hf in
/-- THE KERNEL'S OUTPUT, whole: the reference's result. -/
theorem final : (dats m 0 c).arrAt 5 (cfgs 0).N = REF m c := by
  refine (dats m 0 c).arrAt_eq_of_covers 5 _ (by decide +kernel) fun t _ y => ?_
  blk_simp
  rw [after0_5]
  obtain ⟨R, d, rfl⟩ : ∃ (R : Fin 512) (d : Fin 128), y = ix2 R d := ⟨y 0, y 1, (ix2_eta y).symm⟩
  rw [point m c xr hX vr hV f hf t R d]
  unfold row oc
  blk_ext [idx t]
end

end Cert.Proof.Value
end
-- ==== Proof.Finite.lean ====
module

public import proofs.«01_k».proof.Defs
public import Idealize.ShloMosaic.PureOps.Ideal
public import Idealize.ShloMosaic.Lib.ReduceAll

@[expose] public section

set_option maxRecDepth 16384
noncomputable section

/-! What the precondition says of the arguments: every element is a real number. -/

namespace Cert.Proof.Finite
open Idealize.ShloMosaic Cert.Pre_finite_inputs

/-- The side conditions of the precondition's operations. -/
theorem facts : Cert.Pre_finite_inputs.Facts where
  bitsLt_bf16_f32 := by decide
  bcast_S_S8192x3840 := by decide
  reducesTo_S8192x3840_S_d0_1 := by decide
  h_S_ := by decide
  bcast_S_S8192x1280 := by decide
  reducesTo_S8192x1280_S_d0_1 := by decide
  bcast_S_S4x64 := by decide
  reducesTo_S4x64_S_d0_1 := by decide

instance : Subsingleton S_.Idx := ⟨fun a b => funext fun x => x.elim0⟩

/-- The word of the bound is infinity. -/
theorem bits_top : Ideal.ofBits .f32 0x7F800000#32 = ⊤ := by
  simp [Ideal.ofBits, Ideal.ieee]

/-- A number whose absolute value is below infinity is real. -/
theorem real_of_lt (x : EReal) (h : (FloatOps.cmpf .olt (max x (-x) : Ideal .f32) (Ideal.ofBits .f32 0x7F800000#32 : Ideal .f32)) = 1#1) : x ≠ ⊥ ∧ x ≠ ⊤ := by
  rw [bits_top] at h
  have h2 : max x (-x) < ⊤ := by
    by_contra hc
    have e : (FloatOps.cmpf .olt (max x (-x) : Ideal .f32) (⊤ : Ideal .f32)) = BitVec.ofBool (decide (max x (-x) < ⊤)) := rfl
    rw [e, decide_eq_false hc] at h
    exact absurd h (by decide)
  constructor
  · rintro rfl; simp at h2
  · rintro rfl; simp at h2

/-- From the precondition: the three arrays it names hold real numbers. -/
theorem finite [Facts] (a : FVec Ideal S8192x3840 .bf16) (b : FVec Ideal S8192x1280 .bf16) (l : FVec Ideal S4x64 .f32) (g : FVec Ideal S128 .f32)
    (h : fn (F := Ideal) a b l g = fun _ => 1#1) :
    (∀ i, a i ≠ ⊥ ∧ a i ≠ ⊤) ∧ (∀ i, b i ≠ ⊥ ∧ b i ≠ ⊤) ∧ (∀ i, l i ≠ ⊥ ∧ l i ≠ ⊤) := by
  have e := congrFun h (fun a => a.elim0)
  simp only [fn] at e
  obtain ⟨e1, e3⟩ := IntOp.andi_eq_one.1 e
  obtain ⟨e1, e2⟩ := IntOp.andi_eq_one.1 e1
  exact ⟨fun i => real_of_lt _ (Host.reduce_andi_all _ _ _ _ _ e1 i), fun i => real_of_lt _ (Host.reduce_andi_all _ _ _ _ _ e2 i),
    fun i => real_of_lt _ (Host.reduce_andi_all _ _ _ _ _ e3 i)⟩

end Cert.Proof.Finite
end
-- ==== Proof.RopeRef.lean ====
module

public import proofs.«01_k».proof.Proof.Gen.RopeReferenceIdeal.Run
public import Idealize.ShloMosaic.Lib.Pipeline.ValueKit

@[expose] public section

set_option maxRecDepth 16384
noncomputable section

/-! The rotated columns' reference, entry by entry: the gathered projection, each half of a head mixed with the other. -/

namespace Cert.Proof.RopeRef
open Cert.RopeReferenceIdeal Cert.RopeReferenceIdeal.Gen Cert.RopeReferenceIdeal.Value Idealize.ShloMosaic Idealize.ShloMosaic.TcCoe Idealize.SL.Sem Idealize.ShloMosaic.StableHlo

variable (X : FVec Ideal S8192x2048 .f32) (W : FVec Ideal S2048x5064 .f32)

/-- The whole projection. -/
def proj : FVec Ideal S8192x5064 .f32 := Host.dotGeneral dot_S8192x2048_S2048x5064_S8192x5064_1_0_0_1_n_n none X W

/-- Its gathered columns. -/
def cat (P : FVec Ideal S8192x5064 .f32) : FVec Ideal S8192x3840 .f32 := concatenate S8192x3840 1 [⟨S8192x512, (extractStridedSlice S8192x512 ![0, 0] P slices_S8192x5064_S8192x512_0_0 : FVec Ideal S8192x512 .f32)⟩, ⟨S8192x512, (extractStridedSlice S8192x512 ![0, 768] P slices_S8192x5064_S8192x512_0_768 : FVec Ideal S8192x512 .f32)⟩, ⟨S8192x512, (extractStridedSlice S8192x512 ![0, 1280] P slices_S8192x5064_S8192x512_0_1280 : FVec Ideal S8192x512 .f32)⟩, ⟨S8192x512, (extractStridedSlice S8192x512 ![0, 2304] P slices_S8192x5064_S8192x512_0_2304 : FVec Ideal S8192x512 .f32)⟩, ⟨S8192x512, (extractStridedSlice S8192x512 ![0, 2816] P slices_S8192x5064_S8192x512_0_2816 : FVec Ideal S8192x512 .f32)⟩, ⟨S8192x512, (extractStridedSlice S8192x512 ![0, 3840] P slices_S8192x5064_S8192x512_0_3840 : FVec Ideal S8192x512 .f32)⟩, ⟨S8192x512, (extractStridedSlice S8192x512 ![0, 4480] P slices_S8192x5064_S8192x512_0_4480 : FVec Ideal S8192x512 .f32)⟩, ⟨S8192x128, (extractStridedSlice S8192x128 ![0, 512] P slices_S8192x5064_S8192x128_0_512 : FVec Ideal S8192x128 .f32)⟩, ⟨S8192x64, (extractStridedSlice S8192x64 ![0, 4352] P slices_S8192x5064_S8192x64_0_4352 : FVec Ideal S8192x64 .f32)⟩, ⟨S8192x64, (extractStridedSlice S8192x64 ![0, 4992] P slices_S8192x5064_S8192x64_0_4992 : FVec Ideal S8192x64 .f32)⟩] concatenates_S8192x512_S8192x512_S8192x512_S8192x512_S8192x512_S8192x512_S8192x512_S8192x128_S8192x64_S8192x64_S8192x3840_d1

/-- The angles. -/
def ang : FVec Ideal S8192x32 .f32 :=
  mulf (broadcastInDim S8192x32 ![0, 1] bcast_S8192x1_S8192x32_0_1 (broadcastInDim S8192x1 ![0] bcast_S8192_S8192x1_0 (sitofp .f32 (iotaInDim S8192 32 0)))) (broadcastInDim S8192x32 ![0, 1] bcast_S1x32_S8192x32_0_1 (broadcastInDim S1x32 ![1] bcast_S32_S1x32_1 (Host.powf (broadcastInDim S32 ![] bcast_S_S32 (constant S_ .f32 0x461C4000#32)) (Host.divf (Host.negf (sitofp .f32 (iotaInDim S32 32 0))) (broadcastInDim S32 ![] bcast_S_S32 (constant S_ .f32 0x42000000#32))))))

/-- The columns by head and row. -/
def heads (Y : FVec Ideal S8192x3840 .f32) : FVec Ideal S60x8192x64 .f32 :=
  transpose S60x8192x64 [1, 0, 2] (shapeCast S8192x60x64 Y shapeCasts_S8192x3840_S8192x60x64) transposes_S8192x60x64_S60x8192x64_1_0_2
/-- The first half of each head. -/
def lo (Y : FVec Ideal S8192x3840 .f32) : FVec Ideal S60x8192x32 .f32 := extractStridedSlice S60x8192x32 ![0, 0, 0] (heads Y) slices_S60x8192x64_S60x8192x32_0_0_0
/-- The second half of each head. -/
def hi (Y : FVec Ideal S8192x3840 .f32) : FVec Ideal S60x8192x32 .f32 := extractStridedSlice S60x8192x32 ![0, 0, 32] (heads Y) slices_S60x8192x64_S60x8192x32_0_0_32
/-- A table repeated over the heads. -/
def spread (T : FVec Ideal S8192x32 .f32) : FVec Ideal S60x8192x32 .f32 := broadcastInDim S60x8192x32 ![0, 1, 2] bcast_S1x8192x32_S60x8192x32_0_1_2 (broadcastInDim S1x8192x32 ![1, 2] bcast_S8192x32_S1x8192x32_1_2 T)
/-- The rotated heads. -/
def rot (Y : FVec Ideal S8192x3840 .f32) (C S : FVec Ideal S8192x32 .f32) : FVec Ideal S60x8192x64 .f32 :=
  fn_main_v49 (F := Ideal) (subf (mulf (lo Y) (spread C)) (mulf (hi Y) (spread S))) (addf (mulf (lo Y) (spread S)) (mulf (hi Y) (spread C)))
/-- The rotated heads as columns again. -/
def out (Y : FVec Ideal S8192x3840 .f32) (C S : FVec Ideal S8192x32 .f32) : FVec Ideal S8192x3840 .bf16 :=
  truncf .bf16 (shapeCast S8192x3840 (transpose S8192x60x64 [1, 0, 2] (rot Y C S) transposes_S60x8192x64_S8192x60x64_1_0_2) shapeCasts_S8192x60x64_S8192x3840) bitsLt_bf16_f32
/-- The reference's result. -/
def res : FVec Ideal S8192x3840 .bf16 := out (cat (proj X W)) (Host.cos ang) (Host.sin ang)

/-- The reference's composed term is this result. -/
theorem res_eq (m : (ℓ : Loc nD τ sig) → Buf (Elt Ideal) ℓ) (c : Dev nD) :
    res_main_v52 (F := Ideal) m c = res (m ((c.tc : Thread nD τ).loc main_arg0)) (m ((c.tc : Thread nD τ).loc main_arg1)) := rfl

/-- The weight that gathered column `c` uses at input `k`. -/
def wcol (k : Fin 2048) (c : Fin 3840) : EReal :=
  if h0 : c.val < 512 then W (ix2 k ⟨c.val, by omega⟩)
  else if h1 : c.val - 512 < 512 then W (ix2 k ⟨768 + (c.val - 512), by omega⟩)
  else if h2 : c.val - 512 - 512 < 512 then W (ix2 k ⟨1280 + (c.val - 512 - 512), by omega⟩)
  else if h3 : c.val - 512 - 512 - 512 < 512 then W (ix2 k ⟨2304 + (c.val - 512 - 512 - 512), by omega⟩)
  else if h4 : c.val - 512 - 512 - 512 - 512 < 512 then W (ix2 k ⟨2816 + (c.val - 512 - 512 - 512 - 512), by omega⟩)
  else if h5 : c.val - 512 - 512 - 512 - 512 - 512 < 512 then W (ix2 k ⟨3840 + (c.val - 512 - 512 - 512 - 512 - 512), by omega⟩)
  else if h6 : c.val - 512 - 512 - 512 - 512 - 512 - 512 < 512 then W (ix2 k ⟨4480 + (c.val - 512 - 512 - 512 - 512 - 512 - 512), by omega⟩)
  else if h7 : c.val - 512 - 512 - 512 - 512 - 512 - 512 - 512 < 128 then W (ix2 k ⟨512 + (c.val - 512 - 512 - 512 - 512 - 512 - 512 - 512), by omega⟩)
  else if h8 : c.val - 512 - 512 - 512 - 512 - 512 - 512 - 512 - 128 < 64 then W (ix2 k ⟨4352 + (c.val - 512 - 512 - 512 - 512 - 512 - 512 - 512 - 128), by omega⟩)
  else W (ix2 k ⟨4992 + (c.val - 512 - 512 - 512 - 512 - 512 - 512 - 512 - 128 - 64), by omega⟩)

/-- The projection at an entry. -/
theorem proj_apply (l : Fin 8192) (c : Fin 5064) : proj X W (ix2 l c) = ∑ k : Fin 2048, X (ix2 l k) * W (ix2 k c) := by
  pointwise [proj]

/-- The gathered projection at an entry. -/
theorem cat_apply (l : Fin 8192) (c : Fin 3840) : cat (proj X W) (ix2 l c) = ∑ k : Fin 2048, X (ix2 l k) * wcol W k c := by
  unfold cat wcol
  pointwise
  by_cases h0 : c.val < 512
  · simp only [dif_pos h0]; exact proj_apply X W _ _
  simp only [dif_neg h0]
  by_cases h1 : c.val - 512 < 512
  · simp only [dif_pos h1]; exact proj_apply X W _ _
  simp only [dif_neg h1]
  by_cases h2 : c.val - 512 - 512 < 512
  · simp only [dif_pos h2]; exact proj_apply X W _ _
  simp only [dif_neg h2]
  by_cases h3 : c.val - 512 - 512 - 512 < 512
  · simp only [dif_pos h3]; exact proj_apply X W _ _
  simp only [dif_neg h3]
  by_cases h4 : c.val - 512 - 512 - 512 - 512 < 512
  · simp only [dif_pos h4]; exact proj_apply X W _ _
  simp only [dif_neg h4]
  by_cases h5 : c.val - 512 - 512 - 512 - 512 - 512 < 512
  · simp only [dif_pos h5]; exact proj_apply X W _ _
  simp only [dif_neg h5]
  by_cases h6 : c.val - 512 - 512 - 512 - 512 - 512 - 512 < 512
  · simp only [dif_pos h6]; exact proj_apply X W _ _
  simp only [dif_neg h6]
  by_cases h7 : c.val - 512 - 512 - 512 - 512 - 512 - 512 - 512 < 128
  · simp only [dif_pos h7]; exact proj_apply X W _ _
  simp only [dif_neg h7]
  by_cases h8 : c.val - 512 - 512 - 512 - 512 - 512 - 512 - 512 - 128 < 64
  · simp only [dif_pos h8]; exact proj_apply X W _ _
  simp only [dif_neg h8]
  exact proj_apply X W _ _

/-- The result at an entry of a head's first half, -/
theorem out_lo (Y : FVec Ideal S8192x3840 .f32) (C S : FVec Ideal S8192x32 .f32) (l : Fin 8192) (c c' : Fin 3840) (d : Fin 32)
    (hd : d.val = c.val % 64) (hc : c'.val = c.val + 32) :
    out Y C S (ix2 l c) = Y (ix2 l c) * C (ix2 l d) - Y (ix2 l c') * S (ix2 l d) := by
  unfold out rot lo hi spread heads fn_main_v49
  pointwise
  have h : c.val % 64 < 32 := by omega
  simp only [dif_pos h]
  have e1 : (⟨c.val % 64, h⟩ : Fin 32) = d := Fin.ext hd.symm
  have e2 : (⟨c.val / 64 * 64 + (32 + c.val % 64), by omega⟩ : Fin 3840) = c' := Fin.ext (by dsimp only; omega)
  simp only [e1, e2]
/-- and of its second half. -/
theorem out_hi (Y : FVec Ideal S8192x3840 .f32) (C S : FVec Ideal S8192x32 .f32) (l : Fin 8192) (c c' : Fin 3840) (d : Fin 32)
    (hd : d.val + 32 = c.val % 64) (hc : c'.val + 32 = c.val) :
    out Y C S (ix2 l c) = Y (ix2 l c') * S (ix2 l d) + Y (ix2 l c) * C (ix2 l d) := by
  unfold out rot lo hi spread heads fn_main_v49
  pointwise
  have h : ¬ c.val % 64 < 32 := by omega
  simp only [dif_neg h]
  have e1 : (⟨c.val % 64 - 32, by omega⟩ : Fin 32) = d := Fin.ext (by dsimp only; omega)
  have e2 : (⟨c.val / 64 * 64 + (c.val % 64 - 32), by omega⟩ : Fin 3840) = c' := Fin.ext (by dsimp only; omega)
  have e : (⟨c.val / 64 * 64 + (32 + (c.val % 64 - 32)), by omega⟩ : Fin 3840) = c := Fin.ext (by dsimp only; omega)
  simp only [e, e1, e2]
end Cert.Proof.RopeRef
end
-- ==== Proof.RopeBody.lean ====
module

public import proofs.«01_k».proof.Proof.RopeRef
public import proofs.«01_k».proof.Proof.Gen.RopeIdeal.Value
public import Idealize.ShloMosaic.Lib.Pipeline.ValueKit
public import Idealize.ShloMosaic.Lib.Pipeline.ReadBack

@[expose] public section

set_option maxRecDepth 16384
noncomputable section

/-! The rotating kernel's body: one entry of its output block, from the point's blocks. -/

namespace Cert.Proof.RopeBody
open Cert.RopeIdeal Cert.RopeIdeal.Gen Idealize.ShloMosaic Idealize.ShloMosaic.TcCoe Idealize.SL.Sem

/-- The cast of the input block is the block. -/
theorem pay1 (x : Vec Ideal S512x2048 .f32) (r : Fin 512) (k : Fin 2048) : k0_pay1 (F := Ideal) x (ix2 r k) = x (ix2 r k) := by
  pointwise [k0_pay1]
/-- The block product at an entry. -/
theorem pay2 (x : Vec Ideal S512x2048 .bf16) (w : Vec Ideal S2048x768 .bf16) (r : Fin 512) (d : Fin 768) :
    k0_pay2 (F := Ideal) x w (ix2 r d) = ∑ k : Fin 2048, x (ix2 r k) * w (ix2 k d) := by
  pointwise [k0_pay2]

/-- The lane `s` past lane `e`, around the lanes of its tile of 128. -/
def lane (s : ℕ) (e : Fin 768) : Fin 768 := ⟨128 * (e.val / 128) + (e.val % 128 + s) % 128, by omega⟩

/-- An entry of the rotated product: the entry and its two neighbours in the tile, each times its table. -/
def ent (y : FVec Ideal S512x768 .f32) (C A B : Vec Ideal S512x768 .f32) (r : Fin 512) (e : Fin 768) : EReal :=
  y (ix2 r e) * C (ix2 r e) + y (ix2 r (lane 32 e)) * A (ix2 r e) + y (ix2 r (lane 96 e)) * B (ix2 r e)

/-- The same sum with the indices spelled another way is that entry. -/
theorem ent_of (y : FVec Ideal S512x768 .f32) (C A B : Vec Ideal S512x768 .f32) (r q : Fin 512) (e a a1 a2 : Fin 768)
    (hq : r.val = q.val) (ha : a.val = e.val) (h1 : a1.val = 128 * (e.val / 128) + (e.val % 128 + 32) % 128) (h2 : a2.val = 128 * (e.val / 128) + (e.val % 128 + 96) % 128) :
    y (ix2 q a) * C (ix2 q a) + y (ix2 q a1) * A (ix2 q a) + y (ix2 q a2) * B (ix2 q a) = ent y C A B r e := by
  obtain rfl : r = q := Fin.ext hq
  obtain rfl : a = e := Fin.ext ha
  obtain rfl : a1 = lane 32 a := Fin.ext h1
  obtain rfl : a2 = lane 96 a := Fin.ext h2
  rfl

/-- A point that casts its input block leaves these entries of the block's product, -/
theorem out_A (c : Dev nD) (i : grid0.Coords) (arg2 : Memref sig .tc .vmem S512x2048 .f32) (harg2 : arg2.IsWhole) (arg3 : Memref sig .tc .vmem S2048x768 .bf16) (harg3 : arg3.IsWhole) (arg4 : Memref sig .tc .vmem S512x768 .f32) (harg4 : arg4.IsWhole) (arg5 : Memref sig .tc .vmem S512x768 .f32) (harg5 : arg5.IsWhole) (arg6 : Memref sig .tc .vmem S512x768 .f32) (harg6 : arg6.IsWhole) (arg7 : Memref sig .tc .vmem S512x768 .bf16) (harg7 : arg7.IsWhole) (arg8 : Memref sig .tc .vmem S512x2048 .bf16) (harg8 : arg8.IsWhole) (hc0 : cond0_0 i)
    (x0 : Vec Ideal S512x2048 .f32) (x1 : Vec Ideal S2048x768 .bf16) (x2 x3 x4 : Vec Ideal S512x768 .f32) (r : Fin 512) (e : Fin 768) :
    out0_A_5 c i arg2 harg2 arg3 harg3 arg4 harg4 arg5 harg5 arg6 harg6 arg7 harg7 arg8 harg8 hc0 x0 x1 x2 x3 x4 (ix2 r e) = ent (k0_pay2 (F := Ideal) (k0_pay1 (F := Ideal) x0) x1) x2 x3 x4 r e := by
  frame_out
  canon_tiles x h
  all_goals
    open_payloads; pointwise
    have h1 : e.val = _ := h1
    refine ent_of _ _ _ _ _ _ _ _ _ _ h0 ?_ ?_ ?_ <;> (dsimp only; omega)
/-- and a later point of the same rows the product with the block carried. -/
theorem out_B (c : Dev nD) (i : grid0.Coords) (arg2 : Memref sig .tc .vmem S512x2048 .f32) (harg2 : arg2.IsWhole) (arg3 : Memref sig .tc .vmem S2048x768 .bf16) (harg3 : arg3.IsWhole) (arg4 : Memref sig .tc .vmem S512x768 .f32) (harg4 : arg4.IsWhole) (arg5 : Memref sig .tc .vmem S512x768 .f32) (harg5 : arg5.IsWhole) (arg6 : Memref sig .tc .vmem S512x768 .f32) (harg6 : arg6.IsWhole) (arg7 : Memref sig .tc .vmem S512x768 .bf16) (harg7 : arg7.IsWhole) (arg8 : Memref sig .tc .vmem S512x2048 .bf16) (harg8 : arg8.IsWhole) (hc0 : ¬cond0_0 i)
    (x0 : Vec Ideal S512x2048 .f32) (x1 : Vec Ideal S2048x768 .bf16) (x2 x3 x4 : Vec Ideal S512x768 .f32) (xs : Vec Ideal S512x2048 .bf16) (r : Fin 512) (e : Fin 768) :
    out0_B_5 c i arg2 harg2 arg3 harg3 arg4 harg4 arg5 harg5 arg6 harg6 arg7 harg7 arg8 harg8 hc0 x0 x1 x2 x3 x4 xs (ix2 r e) = ent (k0_pay2 (F := Ideal) xs x1) x2 x3 x4 r e := by
  frame_out
  canon_tiles x h
  all_goals
    open_payloads; pointwise
    have h1 : e.val = _ := h1
    refine ent_of _ _ _ _ _ _ _ _ _ _ h0 ?_ ?_ ?_ <;> (dsimp only; omega)
end Cert.Proof.RopeBody
end
-- ==== Proof.RopeHost.lean ====
module

public import proofs.«01_k».proof.Proof.RopeBody

@[expose] public section

set_option maxRecDepth 16384
noncomputable section

/-! What the rotating kernel's region finds in its host-computed arrays: the gathered weights and the three tables. -/

namespace Cert.Proof.RopeHost
open Cert.RopeIdeal Cert.RopeIdeal.Gen Idealize.ShloMosaic Idealize.ShloMosaic.TcCoe Idealize.SL.Sem
open Cert.Proof.RopeRef (wcol ang)

/-- The gathered weight columns. -/
def wcat (W : FVec Ideal S2048x5064 .f32) : FVec Ideal S2048x3840 .bf16 := truncf .bf16 (concatenate S2048x3840 1 [⟨S2048x512, (extractStridedSlice S2048x512 ![0, 0] W slices_S2048x5064_S2048x512_0_0 : FVec Ideal S2048x512 .f32)⟩, ⟨S2048x512, (extractStridedSlice S2048x512 ![0, 768] W slices_S2048x5064_S2048x512_0_768 : FVec Ideal S2048x512 .f32)⟩, ⟨S2048x512, (extractStridedSlice S2048x512 ![0, 1280] W slices_S2048x5064_S2048x512_0_1280 : FVec Ideal S2048x512 .f32)⟩, ⟨S2048x512, (extractStridedSlice S2048x512 ![0, 2304] W slices_S2048x5064_S2048x512_0_2304 : FVec Ideal S2048x512 .f32)⟩, ⟨S2048x512, (extractStridedSlice S2048x512 ![0, 2816] W slices_S2048x5064_S2048x512_0_2816 : FVec Ideal S2048x512 .f32)⟩, ⟨S2048x512, (extractStridedSlice S2048x512 ![0, 3840] W slices_S2048x5064_S2048x512_0_3840 : FVec Ideal S2048x512 .f32)⟩, ⟨S2048x512, (extractStridedSlice S2048x512 ![0, 4480] W slices_S2048x5064_S2048x512_0_4480 : FVec Ideal S2048x512 .f32)⟩, ⟨S2048x128, (extractStridedSlice S2048x128 ![0, 512] W slices_S2048x5064_S2048x128_0_512 : FVec Ideal S2048x128 .f32)⟩, ⟨S2048x64, (extractStridedSlice S2048x64 ![0, 4352] W slices_S2048x5064_S2048x64_0_4352 : FVec Ideal S2048x64 .f32)⟩, ⟨S2048x64, (extractStridedSlice S2048x64 ![0, 4992] W slices_S2048x5064_S2048x64_0_4992 : FVec Ideal S2048x64 .f32)⟩] concatenates_S2048x512_S2048x512_S2048x512_S2048x512_S2048x512_S2048x512_S2048x512_S2048x128_S2048x64_S2048x64_S2048x3840_d1 : FVec Ideal S2048x3840 .f32) bitsLt_bf16_f32
/-- They hold each output column's weights. -/
theorem wcat_apply (W : FVec Ideal S2048x5064 .f32) (k : Fin 2048) (d : Fin 3840) : wcat W (ix2 k d) = wcol W k d := by
  unfold wcol
  pointwise [wcat]

/-- The angles, -/
def angK : FVec Ideal S8192x32 .f32 :=
  mulf (broadcastInDim S8192x32 ![0, 1] bcast_S8192x1_S8192x32_0_1 (broadcastInDim S8192x1 ![0] bcast_S8192_S8192x1_0 (sitofp .f32 (iotaInDim S8192 32 0)))) (broadcastInDim S8192x32 ![0, 1] bcast_S1x32_S8192x32_0_1 (broadcastInDim S1x32 ![1] bcast_S32_S1x32_1 (Host.powf (broadcastInDim S32 ![] bcast_S_S32 (constant S_ .f32 0x461C4000#32)) (Host.divf (Host.negf (sitofp .f32 (iotaInDim S32 32 0))) (broadcastInDim S32 ![] bcast_S_S32 (constant S_ .f32 0x42000000#32))))))
/-- which are the reference's. -/
theorem angK_eq : angK = ang := rfl
/-- Zeros. -/
def zer : FVec Ideal S8192x32 .f32 := broadcastInDim S8192x32 ![] bcast_S_S8192x32 (constant S_ .f32 0x00000000#32)
/-- Each is zero. -/
theorem zer_apply (l : Fin 8192) (d : Fin 32) : zer (ix2 l d) = 0 := by
  pointwise [zer]
/-- A negated table at an entry. -/
theorem neg_apply (T : FVec Ideal S8192x32 .f32) (l : Fin 8192) (d : Fin 32) : (Host.negf T : FVec Ideal S8192x32 .f32) (ix2 l d) = -(T (ix2 l d)) := rfl

/-- Two halves side by side, -/
def pair (P Q : FVec Ideal S8192x32 .f32) : FVec Ideal S8192x64 .f32 := concatenate S8192x64 1 [⟨S8192x32, P⟩, ⟨S8192x32, Q⟩] concatenates_S8192x32_S8192x32_S8192x64_d1
/-- and twelve copies of 64 lanes. -/
def tile (T : FVec Ideal S8192x64 .f32) : FVec Ideal S8192x768 .f32 :=
  shapeCast S8192x768 (broadcastInDim S1x8192x12x64 ![0, 1, 2, 3] bcast_S1x8192x1x64_S1x8192x12x64_0_1_2_3 (shapeCast S1x8192x1x64 T shapeCasts_S8192x64_S1x8192x1x64)) shapeCasts_S1x8192x12x64_S8192x768

/-- The table in a first half -/
theorem tile_lo (P Q : FVec Ideal S8192x32 .f32) (l : Fin 8192) (e : Fin 768) (d : Fin 32) (hd : d.val = e.val % 64) : tile (pair P Q) (ix2 l e) = P (ix2 l d) := by
  unfold tile pair
  pointwise
  have h : e.val % 64 < 32 := by omega
  have e1 : (⟨e.val % 64, h⟩ : Fin 32) = d := Fin.ext hd.symm
  simp only [dif_pos h, e1]
/-- and in a second half. -/
theorem tile_hi (P Q : FVec Ideal S8192x32 .f32) (l : Fin 8192) (e : Fin 768) (d : Fin 32) (hd : d.val + 32 = e.val % 64) : tile (pair P Q) (ix2 l e) = Q (ix2 l d) := by
  unfold tile pair
  pointwise
  have h : ¬ e.val % 64 < 32 := by omega
  have e1 : (⟨e.val % 64 - 32, by omega⟩ : Fin 32) = d := Fin.ext (by dsimp only; omega)
  simp only [dif_neg h, e1]

section
variable (m : (ℓ : Loc nD τ sig) → Buf (Elt Ideal) ℓ) (c : Dev nD)

set_option maxHeartbeats 2000000 in
/-- The weights the region finds are the gathered columns, -/
theorem V_weights : V m c main_v11 = wcat (m ((c : Thread nD τ).loc main_arg1)) := by
  unfold V wcat
  after_results_simp <;> (try dsimp only [Matrix.cons_val]) <;> (try after_results_simp) <;> rfl
set_option maxHeartbeats 2000000 in
/-- the first table the cosines, -/
theorem V_cos : V m c main_v41 = tile (pair (Host.cos angK) (Host.cos angK)) := by
  unfold V tile pair angK
  after_results_simp <;> (try dsimp only [Matrix.cons_val]) <;> (try after_results_simp) <;> rfl
set_option maxHeartbeats 2000000 in
/-- the second the negated sines in the first halves, -/
theorem V_sinA : V m c main_v46 = tile (pair (Host.negf (Host.sin angK)) zer) := by
  unfold V tile pair angK zer
  after_results_simp <;> (try dsimp only [Matrix.cons_val]) <;> (try after_results_simp) <;> rfl
set_option maxHeartbeats 2000000 in
/-- the third the sines in the second halves. -/
theorem V_sinB : V m c main_v50 = tile (pair zer (Host.sin angK)) := by
  unfold V tile pair angK zer
  after_results_simp <;> (try dsimp only [Matrix.cons_val]) <;> (try after_results_simp) <;> rfl
end
end Cert.Proof.RopeHost
end
-- ==== Proof.RopeValue.lean ====
module

public import proofs.«01_k».proof.Proof.RopeHost

@[expose] public section

set_option maxRecDepth 16384
noncomputable section

/-! The rotating kernel: its output array after the run is the reference's result over the same arguments. -/

namespace Cert.Proof.RopeValue
open Cert.RopeIdeal Cert.RopeIdeal.Gen Idealize.ShloMosaic Idealize.ShloMosaic.TcCoe Idealize.SL.Sem
open Idealize.ShloMosaic.Pipeline (Dat)
open Cert.Proof.RopeBody Cert.Proof.RopeHost
open Cert.Proof.RopeRef (wcol ang res cat proj cat_apply out_lo out_hi)

/-- The windows' block indices at every grid point. -/
theorem idx : ∀ t : Fin cfg0.N, win0_0.index t = ![t.val / 5, 0] ∧ win0_1.index t = ![0, t.val % 5] ∧ win0_2.index t = ![t.val / 5, 0]
    ∧ win0_3.index t = ![t.val / 5, 0] ∧ win0_4.index t = ![t.val / 5, 0] ∧ win0_5.index t = ![t.val / 5, t.val % 5] :=
  (by decide +kernel : ∀ t : Fin grid0.N, _)

/-- The grid has 80 points. -/
theorem lt80 (t : Fin cfg0.N) : t.val < 80 := lt_of_lt_of_eq t.isLt N_0

/-- Row `r` of the block a grid point writes, -/
def row (n : ℕ) (h : n < 80) (r : Fin 512) : Fin 8192 := ⟨512 * (n / 5) + r.val, by omega⟩
/-- and its column `e`. -/
def col (n : ℕ) (e : Fin 768) : Fin 3840 := ⟨768 * (n % 5) + e.val, by omega⟩

section
variable (m : (ℓ : Loc nD τ sig) → Buf (Elt Ideal) ℓ) (c : Dev nD)

/-- The input block of a grid point, -/
theorem blk0 (t : Fin cfg0.N) (r : Fin 512) (k : Fin 2048) : (iblk m c 0 t : FVec Ideal S512x2048 .f32) (ix2 r k)
    = (m ((c : Thread nD τ).loc main_arg0) : FVec Ideal S8192x2048 .f32) (ix2 (row t.val (lt80 t) r) k) := by
  unfold row
  blk_ext [iblk, V, idx t]
/-- its weight block, -/
theorem blk1 (t : Fin cfg0.N) (k : Fin 2048) (e : Fin 768) : (iblk m c 1 t : FVec Ideal S2048x768 .bf16) (ix2 k e)
    = wcol (m ((c : Thread nD τ).loc main_arg1)) k (col t.val e) := by
  refine Eq.trans (b := wcat (m ((c : Thread nD τ).loc main_arg1)) (ix2 k (col t.val e))) ?_ (wcat_apply _ k _)
  unfold col
  blk_simp [iblk, idx t]
  rw [V_weights]
  blk_ext [idx t]
/-- its cosines, -/
theorem blk2 (t : Fin cfg0.N) (r : Fin 512) (e : Fin 768) : (iblk m c 2 t : FVec Ideal S512x768 .f32) (ix2 r e)
    = tile (pair (Host.cos angK) (Host.cos angK)) (ix2 (row t.val (lt80 t) r) e) := by
  unfold row
  blk_simp [iblk, idx t]
  rw [V_cos]
  blk_ext [idx t]
/-- its negated sines, -/
theorem blk3 (t : Fin cfg0.N) (r : Fin 512) (e : Fin 768) : (iblk m c 3 t : FVec Ideal S512x768 .f32) (ix2 r e)
    = tile (pair (Host.negf (Host.sin angK)) zer) (ix2 (row t.val (lt80 t) r) e) := by
  unfold row
  blk_simp [iblk, idx t]
  rw [V_sinA]
  blk_ext [idx t]
/-- and its sines. -/
theorem blk4 (t : Fin cfg0.N) (r : Fin 512) (e : Fin 768) : (iblk m c 4 t : FVec Ideal S512x768 .f32) (ix2 r e)
    = tile (pair zer (Host.sin angK)) (ix2 (row t.val (lt80 t) r) e) := by
  unfold row
  blk_simp [iblk, idx t]
  rw [V_sinB]
  blk_ext [idx t]

/-- What the scratch carries: the input block of the point's rows. -/
theorem scratch : ∀ (n : ℕ) (hn : n < cfg0.N) (r : Fin 512) (k : Fin 2048), (outsAt0 m c n hn).2 (ix2 r k)
    = (m ((c : Thread nD τ).loc main_arg0) : FVec Ideal S8192x2048 .f32) (ix2 (row n (lt80 ⟨n, hn⟩) r) k) := by
  intro n
  induction n using Nat.strong_induction_on with
  | _ n ih =>
    intro hn r k
    by_cases h0 : n % 5 = 0
    · have e := outsAt0_A m c ⟨n, hn⟩ h0
      dsimp only at e
      rw [e]
      refine Eq.trans (b := k0_pay1 (F := Ideal) (iblk m c 0 ⟨n, hn⟩) (ix2 r k)) (by frame_out) ?_
      rw [pay1, blk0]
    · have e := outsAt0_B m c ⟨n, hn⟩ h0
      dsimp only at e
      rw [e]
      refine (ih (n - 1) (by omega) (by omega) r k).trans ?_
      have h : (n - 1) / 5 = n / 5 := by omega
      unfold row
      simp only [h]

/-- The reference's result over the kernel's arguments. -/
def REF : FVec Ideal S8192x3840 .bf16 := res (m ((c : Thread nD τ).loc main_arg0)) (m ((c : Thread nD τ).loc main_arg1))
/-- The reference's gathered projection over them. -/
def Y : FVec Ideal S8192x3840 .f32 := cat (proj (m ((c : Thread nD τ).loc main_arg0)) (m ((c : Thread nD τ).loc main_arg1)))

/-- A block whose product is the gathered projection's is the reference's. -/
theorem ent_eq (t : Fin cfg0.N) (y : FVec Ideal S512x768 .f32) (r : Fin 512) (e : Fin 768)
    (hy : ∀ e' : Fin 768, y (ix2 r e') = Y m c (ix2 (row t.val (lt80 t) r) (col t.val e'))) :
    ent y (iblk m c 2 t) (iblk m c 3 t) (iblk m c 4 t) r e = REF m c (ix2 (row t.val (lt80 t) r) (col t.val e)) := by
  unfold ent REF res
  rw [hy, hy, hy, blk2, blk3, blk4, angK_eq]
  change _ = Cert.Proof.RopeRef.out (Y m c) _ _ _
  generalize Y m c = Z
  by_cases h : e.val % 64 < 32
  · rw [tile_lo _ _ _ e ⟨e.val % 64, h⟩ rfl, tile_lo _ _ _ e ⟨e.val % 64, h⟩ rfl, tile_lo _ _ _ e ⟨e.val % 64, h⟩ rfl,
      out_lo Z _ _ _ _ (col t.val (lane 32 e)) ⟨e.val % 64, h⟩ (by simp only [col]; omega) (by simp only [col, lane]; omega), neg_apply, zer_apply]
    rw [mul_zero, add_zero, mul_neg, ← sub_eq_add_neg]
  · rw [tile_hi _ _ _ e ⟨e.val % 64 - 32, by omega⟩ (by dsimp only; omega), tile_hi _ _ _ e ⟨e.val % 64 - 32, by omega⟩ (by dsimp only; omega), tile_hi _ _ _ e ⟨e.val % 64 - 32, by omega⟩ (by dsimp only; omega),
      out_hi Z _ _ _ _ (col t.val (lane 96 e)) ⟨e.val % 64 - 32, by omega⟩ (by simp only [col]; omega) (by simp only [col, lane]; omega), zer_apply]
    rw [mul_zero, add_zero, add_comm]

/-- A grid point's block is the reference's. -/
theorem point (t : Fin cfg0.N) (r : Fin 512) (e : Fin 768) : (outsAt0 m c t.val t.isLt).1 (ix2 r e)
    = REF m c (ix2 (row t.val (lt80 t) r) (col t.val e)) := by
  by_cases h0 : t.val % 5 = 0
  · rw [outsAt0_A m c t h0]
    refine Eq.trans (b := ent (k0_pay2 (F := Ideal) (k0_pay1 (F := Ideal) (iblk m c 0 t)) (iblk m c 1 t)) (iblk m c 2 t) (iblk m c 3 t) (iblk m c 4 t) r e) ?_ (ent_eq m c t (k0_pay2 (F := Ideal) (k0_pay1 (F := Ideal) (iblk m c 0 t)) (iblk m c 1 t)) r e fun e' => ?_)
    · dsimp only
      exact out_A c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (iblk m c 0 t) (iblk m c 1 t) (iblk m c 2 t) (iblk m c 3 t) (iblk m c 4 t) r e
    rw [pay2]
    refine Eq.trans ?_ (cat_apply _ _ _ _).symm
    refine Finset.sum_congr rfl fun k _ => ?_
    rw [pay1, blk0, blk1]
  · rw [outsAt0_B m c t h0]
    refine Eq.trans (b := ent (k0_pay2 (F := Ideal) (outsAt0 m c (t.val - 1) (Nat.lt_of_le_of_lt (Nat.sub_le _ _) t.isLt)).2 (iblk m c 1 t)) (iblk m c 2 t) (iblk m c 3 t) (iblk m c 4 t) r e) ?_ (ent_eq m c t (k0_pay2 (F := Ideal) (outsAt0 m c (t.val - 1) (Nat.lt_of_le_of_lt (Nat.sub_le _ _) t.isLt)).2 (iblk m c 1 t)) r e fun e' => ?_)
    · dsimp only
      exact out_B c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (iblk m c 0 t) (iblk m c 1 t) (iblk m c 2 t) (iblk m c 3 t) (iblk m c 4 t) (outsAt0 m c (t.val - 1) (Nat.lt_of_le_of_lt (Nat.sub_le _ _) t.isLt)).2 r e
    rw [pay2]
    refine Eq.trans ?_ (cat_apply _ _ _ _).symm
    refine Finset.sum_congr rfl fun k _ => ?_
    rw [scratch, blk1]
    have h : (t.val - 1) / 5 = t.val / 5 := by omega
    unfold row
    simp only [h]

/-- THE KERNEL'S OUTPUT, whole: the reference's result. -/
theorem final : (dats m 0 c).arrAt 5 (cfgs 0).N = REF m c := by
  refine (dats m 0 c).arrAt_eq_of_covers 5 _ (by decide +kernel) fun t _ y => ?_
  blk_simp
  rw [after0_5]
  obtain ⟨r, e, rfl⟩ : ∃ (r : Fin 512) (e : Fin 768), y = ix2 r e := ⟨y 0, y 1, (ix2_eta y).symm⟩
  rw [point m c t r e]
  unfold row col
  blk_ext [idx t]
end

end Cert.Proof.RopeValue
end
-- ==== Proof.ValRef.lean ====
module

public import proofs.«01_k».proof.Proof.Gen.ValReferenceIdeal.Run
public import Idealize.ShloMosaic.Lib.Pointwise

@[expose] public section

set_option maxRecDepth 16384
noncomputable section

/-! The value columns' reference, entry by entry: the input times the gathered weight columns. -/

namespace Cert.Proof.ValRef
open Cert.ValReferenceIdeal Cert.ValReferenceIdeal.Gen Idealize.ShloMosaic Idealize.ShloMosaic.TcCoe Idealize.SL.Sem Idealize.ShloMosaic.StableHlo

variable (X : FVec Ideal S8192x2048 .f32) (W : FVec Ideal S2048x5064 .f32)

/-- The whole projection. -/
def proj : FVec Ideal S8192x5064 .f32 := Host.dotGeneral dot_S8192x2048_S2048x5064_S8192x5064_1_0_0_1_n_n none X W

/-- The reference's result. -/
def res : FVec Ideal S8192x1280 .bf16 := truncf .bf16 ((concatenate S8192x1280 1 [⟨S8192x512, ((extractStridedSlice S8192x512 ![0, 1792] (proj X W) slices_S8192x5064_S8192x512_0_1792) : FVec Ideal S8192x512 .f32)⟩, ⟨S8192x512, ((extractStridedSlice S8192x512 ![0, 3328] (proj X W) slices_S8192x5064_S8192x512_0_3328) : FVec Ideal S8192x512 .f32)⟩, ⟨S8192x128, ((extractStridedSlice S8192x128 ![0, 640] (proj X W) slices_S8192x5064_S8192x128_0_640) : FVec Ideal S8192x128 .f32)⟩, ⟨S8192x64, ((extractStridedSlice S8192x64 ![0, 4416] (proj X W) slices_S8192x5064_S8192x64_0_4416) : FVec Ideal S8192x64 .f32)⟩, ⟨S8192x64, ((broadcastInDim S8192x64 ![] bcast_S_S8192x64 (constant S_ .f32 0x00000000#32)) : FVec Ideal S8192x64 .f32)⟩] concatenates_S8192x512_S8192x512_S8192x128_S8192x64_S8192x64_S8192x1280_d1 : FVec Ideal S8192x1280 .f32)) bitsLt_bf16_f32

/-- The weight that output column `c` uses at input `k`; none in the last 64 columns. -/
def wcol (k : Fin 2048) (c : Fin 1280) : EReal :=
  if h1 : c.val < 512 then W (ix2 k ⟨1792 + c.val, by omega⟩)
  else if h2 : c.val - 512 < 512 then W (ix2 k ⟨3328 + (c.val - 512), by omega⟩)
  else if h3 : c.val - 512 - 512 < 128 then W (ix2 k ⟨640 + (c.val - 512 - 512), by omega⟩)
  else if h4 : c.val - 512 - 512 - 128 < 64 then W (ix2 k ⟨4416 + (c.val - 512 - 512 - 128), by omega⟩)
  else 0

/-- The projection at an entry. -/
theorem proj_apply (l : Fin 8192) (c : Fin 5064) : proj X W (ix2 l c) = ∑ k : Fin 2048, X (ix2 l k) * W (ix2 k c) := by
  pointwise [proj]

/-- The reference at an entry. -/
theorem res_apply (l : Fin 8192) (c : Fin 1280) : res X W (ix2 l c) = ∑ k : Fin 2048, X (ix2 l k) * wcol W k c := by
  unfold res wcol
  pointwise
  split_ifs
  all_goals first | exact proj_apply X W _ _ | simp only [mul_zero, Finset.sum_const_zero]
end Cert.Proof.ValRef
end
-- ==== Proof.ValValue.lean ====
module

public import proofs.«01_k».proof.Proof.ValRef
public import proofs.«01_k».proof.Proof.Gen.ValIdeal.Value
public import Idealize.ShloMosaic.Lib.Pipeline.ValueKit
public import Idealize.ShloMosaic.Lib.Pipeline.ReadBack

@[expose] public section

set_option maxRecDepth 16384
noncomputable section

/-! The value columns' kernel: its output array after the run is the reference's result over the same arguments. -/

namespace Cert.Proof.ValValue
open Cert.ValIdeal Cert.ValIdeal.Gen Idealize.ShloMosaic Idealize.ShloMosaic.TcCoe Idealize.SL.Sem
open Idealize.ShloMosaic.Pipeline (Dat)
open Cert.Proof.ValRef

/-- The windows' block indices at every grid point. -/
theorem idx : ∀ t : Fin cfg0.N, win0_0.index t = ![t.val / 2, 0] ∧ win0_1.index t = ![0, t.val % 2] ∧ win0_2.index t = ![t.val / 2, t.val % 2] :=
  (by decide +kernel : ∀ t : Fin grid0.N, _)

/-- The grid has 32 points. -/
theorem lt32 (t : Fin cfg0.N) : t.val < 32 := lt_of_lt_of_eq t.isLt N_0

/-- Row `r` of the block a grid point writes, -/
def row (n : ℕ) (h : n < 32) (r : Fin 512) : Fin 8192 := ⟨512 * (n / 2) + r.val, by omega⟩
/-- and its column `d`. -/
def col (n : ℕ) (d : Fin 640) : Fin 1280 := ⟨640 * (n % 2) + d.val, by omega⟩

/-- The cast of the input block is the block. -/
theorem pay1 (x : Vec Ideal S512x2048 .f32) (r : Fin 512) (k : Fin 2048) : k0_pay1 (F := Ideal) x (ix2 r k) = x (ix2 r k) := by
  pointwise [k0_pay1]
/-- The block product at an entry. -/
theorem pay2 (x : Vec Ideal S512x2048 .bf16) (w : Vec Ideal S2048x640 .bf16) (r : Fin 512) (d : Fin 640) :
    k0_pay2 (F := Ideal) x w (ix2 r d) = ∑ k : Fin 2048, x (ix2 r k) * w (ix2 k d) := by
  pointwise [k0_pay2]

/-- The gathered weight columns. -/
def wcat (W : FVec Ideal S2048x5064 .f32) : FVec Ideal S2048x1280 .bf16 :=
  truncf .bf16 (concatenate S2048x1280 1 [⟨S2048x512, (extractStridedSlice S2048x512 ![0, 1792] W slices_S2048x5064_S2048x512_0_1792 : FVec Ideal S2048x512 .f32)⟩, ⟨S2048x512, (extractStridedSlice S2048x512 ![0, 3328] W slices_S2048x5064_S2048x512_0_3328 : FVec Ideal S2048x512 .f32)⟩, ⟨S2048x128, (extractStridedSlice S2048x128 ![0, 640] W slices_S2048x5064_S2048x128_0_640 : FVec Ideal S2048x128 .f32)⟩, ⟨S2048x64, (extractStridedSlice S2048x64 ![0, 4416] W slices_S2048x5064_S2048x64_0_4416 : FVec Ideal S2048x64 .f32)⟩, ⟨S2048x64, (broadcastInDim S2048x64 ![] bcast_S_S2048x64 (constant S_ .f32 0x00000000#32) : FVec Ideal S2048x64 .f32)⟩] concatenates_S2048x512_S2048x512_S2048x128_S2048x64_S2048x64_S2048x1280_d1 : FVec Ideal S2048x1280 .f32) bitsLt_bf16_f32
/-- They hold each output column's weights. -/
theorem wcat_apply (W : FVec Ideal S2048x5064 .f32) (k : Fin 2048) (d : Fin 1280) : wcat W (ix2 k d) = wcol W k d := by
  unfold wcol
  pointwise [wcat]

section
variable (m : (ℓ : Loc nD τ sig) → Buf (Elt Ideal) ℓ) (c : Dev nD)

/-- The weights the kernel's region finds are the gathered columns. -/
theorem V_weights : V m c main_v18 = wcat (m ((c : Thread nD τ).loc main_arg1)) := by
  unfold V wcat
  after_results_simp <;> (try dsimp only [Matrix.cons_val]) <;> (try after_results_simp) <;> rfl

/-- The input block of a grid point. -/
theorem blk0 (t : Fin cfg0.N) (r : Fin 512) (k : Fin 2048) : (iblk m c 0 t : FVec Ideal S512x2048 .f32) (ix2 r k)
    = (m ((c : Thread nD τ).loc main_arg0) : FVec Ideal S8192x2048 .f32) (ix2 (row t.val (lt32 t) r) k) := by
  unfold row
  blk_ext [iblk, V, idx t]
/-- The weight block of a grid point. -/
theorem blk1 (t : Fin cfg0.N) (k : Fin 2048) (d : Fin 640) : (iblk m c 1 t : FVec Ideal S2048x640 .bf16) (ix2 k d)
    = wcol (m ((c : Thread nD τ).loc main_arg1)) k (col t.val d) := by
  refine Eq.trans (b := wcat (m ((c : Thread nD τ).loc main_arg1)) (ix2 k (col t.val d))) ?_ (wcat_apply _ k _)
  unfold col
  blk_simp [iblk, idx t]
  rw [V_weights]
  blk_ext [idx t]

/-- What the scratch carries: the input block of the point's rows. -/
theorem scratch : ∀ (n : ℕ) (hn : n < cfg0.N) (r : Fin 512) (k : Fin 2048), (outsAt0 m c n hn).2 (ix2 r k)
    = (m ((c : Thread nD τ).loc main_arg0) : FVec Ideal S8192x2048 .f32) (ix2 (row n (lt32 ⟨n, hn⟩) r) k) := by
  intro n
  induction n using Nat.strong_induction_on with
  | _ n ih =>
    intro hn r k
    by_cases h0 : n % 2 = 0
    · have e := outsAt0_A m c ⟨n, hn⟩ h0
      dsimp only at e
      rw [e]
      refine Eq.trans (b := k0_pay1 (F := Ideal) (iblk m c 0 ⟨n, hn⟩) (ix2 r k)) (by frame_out) ?_
      rw [pay1, blk0]
    · have e := outsAt0_B m c ⟨n, hn⟩ h0
      dsimp only at e
      rw [e]
      refine (ih (n - 1) (by omega) (by omega) r k).trans ?_
      have h : (n - 1) / 2 = n / 2 := by omega
      unfold row
      simp only [h]

/-- The reference's result over the kernel's arguments. -/
def REF : FVec Ideal S8192x1280 .bf16 := res (m ((c : Thread nD τ).loc main_arg0)) (m ((c : Thread nD τ).loc main_arg1))

/-- A grid point's block is the reference's. -/
theorem point (t : Fin cfg0.N) (r : Fin 512) (d : Fin 640) : (outsAt0 m c t.val t.isLt).1 (ix2 r d)
    = REF m c (ix2 (row t.val (lt32 t) r) (col t.val d)) := by
  unfold REF
  rw [res_apply]
  by_cases h0 : t.val % 2 = 0
  · rw [outsAt0_A m c t h0]
    refine Eq.trans (b := k0_pay2 (F := Ideal) (k0_pay1 (F := Ideal) (iblk m c 0 t)) (iblk m c 1 t) (ix2 r d)) (by frame_out) ?_
    rw [pay2]
    refine Finset.sum_congr rfl fun k _ => ?_
    rw [pay1, blk0, blk1]
  · rw [outsAt0_B m c t h0]
    refine Eq.trans (b := k0_pay2 (F := Ideal) (outsAt0 m c (t.val - 1) (Nat.lt_of_le_of_lt (Nat.sub_le _ _) t.isLt)).2 (iblk m c 1 t) (ix2 r d)) (by frame_out; simp only [read_unread_whole]) ?_
    rw [pay2]
    refine Finset.sum_congr rfl fun k _ => ?_
    rw [scratch, blk1]
    have h : (t.val - 1) / 2 = t.val / 2 := by omega
    unfold row
    simp only [h]

/-- THE KERNEL'S OUTPUT, whole: the reference's result. -/
theorem final : (dats m 0 c).arrAt 2 (cfgs 0).N = REF m c := by
  refine (dats m 0 c).arrAt_eq_of_covers 2 _ (by decide +kernel) fun t _ y => ?_
  blk_simp
  rw [after0_2]
  obtain ⟨r, d, rfl⟩ : ∃ (r : Fin 512) (d : Fin 640), y = ix2 r d := ⟨y 0, y 1, (ix2_eta y).symm⟩
  rw [point m c t r d]
  unfold row col
  blk_ext [idx t]
end

end Cert.Proof.ValValue
end
-- ==== Proof.IwRef.lean ====
module

public import proofs.«01_k».proof.Proof.Gen.IwReferenceIdeal.Run
public import Idealize.ShloMosaic.Lib.Pointwise

@[expose] public section

set_option maxRecDepth 16384
noncomputable section

/-! The reference of the indexer's weights, entry by entry: the input times the eight weight columns. -/

namespace Cert.Proof.IwRef
open Cert.IwReferenceIdeal Cert.IwReferenceIdeal.Gen Idealize.ShloMosaic Idealize.ShloMosaic.TcCoe Idealize.SL.Sem Idealize.ShloMosaic.StableHlo

variable (X : FVec Ideal S8192x2048 .f32) (W : FVec Ideal S2048x5064 .f32)

/-- The whole projection. -/
def proj : FVec Ideal S8192x5064 .f32 := Host.dotGeneral dot_S8192x2048_S2048x5064_S8192x5064_1_0_0_1_n_n none X W

/-- The reference's result. -/
def res : FVec Ideal S8192x128 .f32 := concatenate S8192x128 1 [⟨S8192x8, ((extractStridedSlice S8192x8 ![0, 5056] (proj X W) slices_S8192x5064_S8192x8_0_5056) : FVec Ideal S8192x8 .f32)⟩, ⟨S8192x120, ((broadcastInDim S8192x120 ![] bcast_S_S8192x120 (constant S_ .f32 0x00000000#32)) : FVec Ideal S8192x120 .f32)⟩] concatenates_S8192x8_S8192x120_S8192x128_d1

/-- The weight that output column `c` uses at input `k`; none in the last 120 columns. -/
def wcol (k : Fin 2048) (c : Fin 128) : EReal :=
  if h1 : c.val < 8 then W (ix2 k ⟨5056 + c.val, by omega⟩) else 0

/-- The projection at an entry. -/
theorem proj_apply (l : Fin 8192) (c : Fin 5064) : proj X W (ix2 l c) = ∑ k : Fin 2048, X (ix2 l k) * W (ix2 k c) := by
  pointwise [proj]

/-- The reference at an entry. -/
theorem res_apply (l : Fin 8192) (c : Fin 128) : res X W (ix2 l c) = ∑ k : Fin 2048, X (ix2 l k) * wcol W k c := by
  unfold res wcol
  pointwise
  split_ifs
  all_goals first | exact proj_apply X W _ _ | simp only [mul_zero, Finset.sum_const_zero]
end Cert.Proof.IwRef
end
-- ==== Proof.IwValue.lean ====
module

public import proofs.«01_k».proof.Proof.IwRef
public import proofs.«01_k».proof.Proof.Gen.IwIdeal.Value
public import Idealize.ShloMosaic.Lib.Pipeline.ValueKit
public import Idealize.ShloMosaic.Lib.Pipeline.ReadBack

@[expose] public section

set_option maxRecDepth 16384
noncomputable section

/-! The kernel of the indexer's weights: its output array after the run is the reference's result over the same arguments. -/

namespace Cert.Proof.IwValue
open Cert.IwIdeal Cert.IwIdeal.Gen Idealize.ShloMosaic Idealize.ShloMosaic.TcCoe Idealize.SL.Sem
open Idealize.ShloMosaic.Pipeline (Dat)
open Cert.Proof.IwRef

/-- The windows' block indices at every grid point. -/
theorem idx : ∀ t : Fin cfg0.N, win0_0.index t = ![t.val, 0] ∧ win0_1.index t = ![0, 0] ∧ win0_2.index t = ![t.val, 0] :=
  (by decide +kernel : ∀ t : Fin grid0.N, _)

/-- The grid has 16 points. -/
theorem lt16 (t : Fin cfg0.N) : t.val < 16 := lt_of_lt_of_eq t.isLt N_0

/-- Row `r` of the block a grid point writes. -/
def row (n : ℕ) (h : n < 16) (r : Fin 512) : Fin 8192 := ⟨512 * n + r.val, by omega⟩

/-- The cast of the input block is the block. -/
theorem pay1 (x : Vec Ideal S512x2048 .f32) (r : Fin 512) (k : Fin 2048) : k0_pay1 (F := Ideal) x (ix2 r k) = x (ix2 r k) := by
  pointwise [k0_pay1]
/-- The block product at an entry. -/
theorem pay2 (x : Vec Ideal S512x2048 .bf16) (w : Vec Ideal S2048x128 .bf16) (r : Fin 512) (d : Fin 128) :
    k0_pay2 (F := Ideal) x w (ix2 r d) = ∑ k : Fin 2048, x (ix2 r k) * w (ix2 k d) := by
  pointwise [k0_pay2]

/-- The gathered weight columns. -/
def wcat (W : FVec Ideal S2048x5064 .f32) : FVec Ideal S2048x128 .bf16 :=
  truncf .bf16 (concatenate S2048x128 1 [⟨S2048x8, (extractStridedSlice S2048x8 ![0, 5056] W slices_S2048x5064_S2048x8_0_5056 : FVec Ideal S2048x8 .f32)⟩, ⟨S2048x120, (broadcastInDim S2048x120 ![] bcast_S_S2048x120 (constant S_ .f32 0x00000000#32) : FVec Ideal S2048x120 .f32)⟩] concatenates_S2048x8_S2048x120_S2048x128_d1 : FVec Ideal S2048x128 .f32) bitsLt_bf16_f32
/-- They hold each output column's weights. -/
theorem wcat_apply (W : FVec Ideal S2048x5064 .f32) (k : Fin 2048) (d : Fin 128) : wcat W (ix2 k d) = wcol W k d := by
  unfold wcol
  pointwise [wcat]

section
variable (m : (ℓ : Loc nD τ sig) → Buf (Elt Ideal) ℓ) (c : Dev nD)

/-- The weights the kernel's region finds are the gathered columns. -/
theorem V_weights : V m c main_v22 = wcat (m ((c : Thread nD τ).loc main_arg1)) := by
  unfold V wcat
  after_results_simp <;> (try dsimp only [Matrix.cons_val]) <;> (try after_results_simp) <;> rfl

/-- The input block of a grid point. -/
theorem blk0 (t : Fin cfg0.N) (r : Fin 512) (k : Fin 2048) : (iblk m c 0 t : FVec Ideal S512x2048 .f32) (ix2 r k)
    = (m ((c : Thread nD τ).loc main_arg0) : FVec Ideal S8192x2048 .f32) (ix2 (row t.val (lt16 t) r) k) := by
  unfold row
  blk_ext [iblk, V, idx t]
/-- The weight block of a grid point. -/
theorem blk1 (t : Fin cfg0.N) (k : Fin 2048) (d : Fin 128) : (iblk m c 1 t : FVec Ideal S2048x128 .bf16) (ix2 k d)
    = wcol (m ((c : Thread nD τ).loc main_arg1)) k d := by
  refine Eq.trans (b := wcat (m ((c : Thread nD τ).loc main_arg1)) (ix2 k d)) ?_ (wcat_apply _ k _)
  blk_simp [iblk, idx t]
  rw [V_weights]
  blk_ext [idx t]

/-- The reference's result over the kernel's arguments. -/
def REF : FVec Ideal S8192x128 .f32 := res (m ((c : Thread nD τ).loc main_arg0)) (m ((c : Thread nD τ).loc main_arg1))

/-- A grid point's block is the reference's. -/
theorem point (t : Fin cfg0.N) (r : Fin 512) (d : Fin 128) : outsAt0 m c t (ix2 r d)
    = REF m c (ix2 (row t.val (lt16 t) r) d) := by
  unfold REF
  rw [res_apply]
  refine Eq.trans (b := k0_pay2 (F := Ideal) (k0_pay1 (F := Ideal) (iblk m c 0 t)) (iblk m c 1 t) (ix2 r d)) (by unfold outsAt0; frame_out) ?_
  rw [pay2]
  refine Finset.sum_congr rfl fun k _ => ?_
  rw [pay1, blk0, blk1]

/-- THE KERNEL'S OUTPUT, whole: the reference's result. -/
theorem final : (dats m 0 c).arrAt 2 (cfgs 0).N = REF m c := by
  refine (dats m 0 c).arrAt_eq_of_covers 2 _ (by decide +kernel) fun t _ y => ?_
  blk_simp
  rw [after0_2]
  obtain ⟨r, d, rfl⟩ : ∃ (r : Fin 512) (d : Fin 128), y = ix2 r d := ⟨y 0, y 1, (ix2_eta y).symm⟩
  rw [point m c t r d]
  unfold row
  blk_ext [idx t]
end

end Cert.Proof.IwValue
end
-- ==== Proof.OutRow.lean ====
module

public import Idealize.ShloMosaic.Lib.Pointwise

@[expose] public section

set_option maxRecDepth 16384
noncomputable section

/-! The merge of the three configurations' outputs, over the extended reals, and the four parts of the projected row. -/

namespace Cert.Proof.OutRow
open Idealize.ShloMosaic

/-- The greatest of three logarithms. -/
def top (a b c : EReal) : EReal := max (max a b) c
/-- The sum of their weights. -/
def den (a b c : EReal) : EReal := Ideal.exp (a - top a b c) + Ideal.exp (b - top a b c) + Ideal.exp (c - top a b c)
/-- The weighted sum of three outputs. -/
def num (a b c x y z : EReal) : EReal := Ideal.exp (a - top a b c) * x + Ideal.exp (b - top a b c) * y + Ideal.exp (c - top a b c) * z
/-- The weighted sum over the sum of the weights. -/
def mrg (a b c x y z : EReal) : EReal := Ideal.div (num a b c x y z) (den a b c)

/-- The word of one. -/
theorem bits_one : Ideal.ofBits .f32 0x3F800000#32 = 1 := by
  simp [Ideal.ofBits, Ideal.ieee]
  rw [← EReal.coe_mul]
  norm_num

/-- Of real logarithms the sum of the weights is not zero. -/
theorem den_ne (a b c : ℝ) : den a b c ≠ 0 := by
  have p : ∀ r s : ℝ, Ideal.exp ((r : EReal) - (s : EReal)) = ((Real.exp (r - s) : ℝ) : EReal) := by
    intro r s
    rw [← EReal.coe_sub]
    rfl
  have e : top (a : EReal) b c = ((max (max a b) c : ℝ) : EReal) := by
    unfold top
    rw [EReal.coe_strictMono.monotone.map_max, EReal.coe_strictMono.monotone.map_max]
  unfold den
  rw [e, p, p, p, ← EReal.coe_add, ← EReal.coe_add]
  exact EReal.coe_ne_zero.2 (ne_of_gt (by positivity))

/-- The kernel multiplies by the reciprocal of the sum of the weights: for real logarithms that is the quotient. -/
theorem mul_recip (a b c : ℝ) (x y z : EReal) :
    num a b c x y z * Ideal.div 1 (den a b c) = mrg a b c x y z := by
  unfold mrg Ideal.div
  rw [if_neg (den_ne a b c), if_neg (den_ne a b c), one_mul]

/-- The four parts of a row's columns. -/
def part (i : ℕ) (h : i < 4) (k : Fin 512) : Fin 2048 := ⟨512 * i + k.val, by omega⟩
/-- A sum over the columns is the sum over the four parts. -/
theorem sum_part (f : Fin 2048 → EReal) :
    ∑ k : Fin 2048, f k = (∑ k, f (part 0 (by omega) k)) + (∑ k, f (part 1 (by omega) k)) + (∑ k, f (part 2 (by omega) k)) + ∑ k, f (part 3 (by omega) k) := by
  have e := (Equiv.sum_comp (finProdFinEquiv (m := 4) (n := 512)) (fun k : Fin (4 * 512) => f k)).symm
  refine Eq.trans e ?_
  rw [Fintype.sum_prod_type, Fin.sum_univ_four]
  have q : ∀ (i : Fin 4) (k : Fin 512), finProdFinEquiv (i, k) = part i.val i.isLt k := by
    intro i k
    apply Fin.ext
    show k.val + 512 * i.val = 512 * i.val + k.val
    omega
  simp only [q]
  rfl

/-- The column of a configuration's array that holds an entry of its output, -/
def ocol (k : Fin 512) : Fin 640 := ⟨k.val, by omega⟩
/-- and that of its head's logarithm. -/
def lcol (k : Fin 512) : Fin 640 := ⟨512 + k.val / 64, by omega⟩

end Cert.Proof.OutRow
end
-- ==== Proof.OutFinite.lean ====
module

public import proofs.«01_k».proof.Defs
public import proofs.«01_k».proof.Proof.OutRow
public import proofs.«01_k».proof.Proof.Finite
public import Idealize.ShloMosaic.PureOps.Ideal
public import Idealize.ShloMosaic.Lib.ReduceAll
public import Idealize.ShloMosaic.Lib.Pointwise

@[expose] public section

set_option maxRecDepth 16384
noncomputable section

/-! What the precondition of the output projection says of its arguments: the logarithms are real numbers. -/

namespace Cert.Proof.OutFinite
open Idealize.ShloMosaic Cert.Pre_finite_lse Cert.Proof.OutRow

/-- The side conditions of the precondition's operations. -/
theorem facts : Cert.Pre_finite_lse.Facts where
  slices_S8192x640_S8192x8_0_512 := by decide
  bcast_S_S8192x8 := by decide
  reducesTo_S8192x8_S_d0_1 := by decide
  h_S_ := by decide

instance : Subsingleton S_.Idx := ⟨fun a b => funext fun x => x.elim0⟩

/-- A number that is not infinite is real. -/
theorem coe_real (x : EReal) (h : x ≠ ⊥ ∧ x ≠ ⊤) : ∃ a : ℝ, x = a := ⟨x.toReal, (EReal.coe_toReal h.2 h.1).symm⟩

/-- The entry of the slice of the logarithms that a column's head reads. -/
theorem slice_apply [Facts] (o : FVec Ideal S8192x640 .f32) (l : Fin 8192) (k : Fin 512) :
    (extractStridedSlice S8192x8 ![0, 512] o Facts.slices_S8192x640_S8192x8_0_512 : FVec Ideal S8192x8 .f32) (ix2 l ⟨k.val / 64, by omega⟩) = o (ix2 l (lcol k)) := by
  unfold lcol
  pointwise

/-- From the precondition: the logarithms are real numbers. -/
theorem finite [Facts] (x0 : FVec Ideal S8192x2048 .f32) (x1 x2 : FVec Ideal S8192x512 .bf16) (x3 x4 x5 : FVec Ideal S8192x640 .f32) (x6 : FVec Ideal S8192x512 .bf16) (x7 : FVec Ideal S2048x2048 .f32) (x8 x9 : FVec Ideal S2048 .f32)
    (h : fn (F := Ideal) x0 x1 x2 x3 x4 x5 x6 x7 x8 x9 = fun _ => 1#1) (l : Fin 8192) (k : Fin 512) :
    (∃ a : ℝ, x3 (ix2 l (lcol k)) = a) ∧ (∃ a : ℝ, x4 (ix2 l (lcol k)) = a) ∧ (∃ a : ℝ, x5 (ix2 l (lcol k)) = a) := by
  have e := congrFun h (fun a => a.elim0)
  simp only [fn] at e
  obtain ⟨e1, e3⟩ := IntOp.andi_eq_one.1 e
  obtain ⟨e1, e2⟩ := IntOp.andi_eq_one.1 e1
  rw [← slice_apply x3, ← slice_apply x4, ← slice_apply x5]
  exact ⟨coe_real _ (Finite.real_of_lt _ (Host.reduce_andi_all _ _ _ _ _ e1 _)), coe_real _ (Finite.real_of_lt _ (Host.reduce_andi_all _ _ _ _ _ e2 _)),
    coe_real _ (Finite.real_of_lt _ (Host.reduce_andi_all _ _ _ _ _ e3 _))⟩

end Cert.Proof.OutFinite
end
-- ==== Proof.SwaFinite.lean ====
module

public import proofs.«01_k».proof.Defs
public import proofs.«01_k».proof.Proof.Finite
public import proofs.«01_k».proof.Proof.OutFinite
public import Idealize.ShloMosaic.PureOps.Ideal
public import Idealize.ShloMosaic.Lib.ReduceAll
public import Idealize.ShloMosaic.Lib.Pointwise

@[expose] public section

set_option maxRecDepth 16384
noncomputable section

/-! What the precondition of the sliding-window attention says of its arguments: its queries, keys and sinks are real numbers. -/

namespace Cert.Proof.SwaFinite
open Idealize.ShloMosaic Cert.Pre_finite_scores

/-- The side conditions of the precondition's operations. -/
theorem facts : Cert.Pre_finite_scores.Facts where
  slices_S8192x3840_S8192x512_0_0 := by decide
  bitsLt_bf16_f32 := by decide
  bcast_S_S8192x512 := by decide
  reducesTo_S8192x512_S_d0_1 := by decide
  h_S_ := by decide
  slices_S8192x3840_S8192x128_0_3584 := by decide
  bcast_S_S8192x128 := by decide
  reducesTo_S8192x128_S_d0_1 := by decide
  bcast_S_S8 := by decide
  reducesTo_S8_S_d0 := by decide

instance : Subsingleton S_.Idx := ⟨fun a b => funext fun x => x.elim0⟩

/-- A query entry of the slice, -/
theorem query_apply [Facts] (x : FVec Ideal S8192x3840 .bf16) (l : Fin 8192) (e : Fin 512) :
    (extractStridedSlice S8192x512 ![0, 0] x Facts.slices_S8192x3840_S8192x512_0_0 : FVec Ideal S8192x512 .bf16) (ix2 l e) = x (ix2 l ⟨e.val, by omega⟩) := by
  pointwise
/-- and a key entry. -/
theorem key_apply [Facts] (x : FVec Ideal S8192x3840 .bf16) (l : Fin 8192) (e : Fin 128) :
    (extractStridedSlice S8192x128 ![0, 3584] x Facts.slices_S8192x3840_S8192x128_0_3584 : FVec Ideal S8192x128 .bf16) (ix2 l e) = x (ix2 l ⟨3584 + e.val, by omega⟩) := by
  pointwise

/-- From the precondition: queries, keys and sinks are real numbers. -/
theorem finite [Facts] (x0 : FVec Ideal S8192x3840 .bf16) (x1 : FVec Ideal S8192x1280 .bf16) (x2 : FVec Ideal S8 .f32)
    (h : fn (F := Ideal) x0 x1 x2 = fun _ => 1#1) :
    (∀ (l : Fin 8192) (e : Fin 512), ∃ a : ℝ, x0 (ix2 l ⟨e.val, by omega⟩) = a) ∧ (∀ (l : Fin 8192) (e : Fin 128), ∃ a : ℝ, x0 (ix2 l ⟨3584 + e.val, by omega⟩) = a)
      ∧ ∀ k : Fin 8, ∃ a : ℝ, x2 (ix1 k) = a := by
  have e := congrFun h (fun a => a.elim0)
  simp only [fn] at e
  obtain ⟨e1, e3⟩ := IntOp.andi_eq_one.1 e
  obtain ⟨e1, e2⟩ := IntOp.andi_eq_one.1 e1
  refine ⟨fun l e => ?_, fun l e => ?_, fun k => ?_⟩
  · rw [← query_apply x0]
    exact OutFinite.coe_real _ (Finite.real_of_lt _ (Host.reduce_andi_all _ _ _ _ _ e1 _))
  · rw [← key_apply x0]
    exact OutFinite.coe_real _ (Finite.real_of_lt _ (Host.reduce_andi_all _ _ _ _ _ e2 _))
  · exact OutFinite.coe_real _ (Finite.real_of_lt _ (Host.reduce_andi_all _ _ _ _ _ e3 _))

end Cert.Proof.SwaFinite
end
-- ==== Proof.SwaRow.lean ====
module

public import proofs.«01_k».proof.Proof.Softmax
public import Idealize.ShloMosaic.Lib.Affine
public import Idealize.ShloMosaic.Lib.ReduceAll

@[expose] public section

set_option maxRecDepth 16384
noncomputable section

/-! One row of the sliding-window attention with a sink: the softmax taken with the sink at once is the softmax
    without it, corrected afterwards; and which keys a row admits. -/

namespace Cert.Proof.SwaRow
open Idealize.ShloMosaic Cert.Proof.Softmax

/-- A real factor that is not negative moves out of a sum of extended reals. -/
theorem pull {ι : Type} (t : Finset ι) (c : ℝ) (hc : 0 ≤ c) (f : ι → EReal) : ∑ x ∈ t, (c : EReal) * f x = (c : EReal) * ∑ x ∈ t, f x := by
  classical
  induction t using Finset.induction_on with
  | empty => simp
  | insert a t ha ih =>
    rw [Finset.sum_insert ha, Finset.sum_insert ha, ih]
    exact (EReal.left_distrib_of_nonneg_of_ne_top (EReal.coe_nonneg.2 hc) (EReal.coe_ne_top c) _ _).symm

/-- The row with the sink in the maximum and in the denominator from the start. -/
def atOnce (S v : Fin 256 → EReal) (z : EReal) : EReal :=
  Ideal.div (∑ j, Ideal.exp (S j - max (Finset.univ.fold max ⊥ S) z) * v j)
    (∑ j, Ideal.exp (S j - max (Finset.univ.fold max ⊥ S) z) + Ideal.exp (z - max (Finset.univ.fold max ⊥ S) z))

/-- The row without the sink, corrected by it afterwards. -/
def after (S v : Fin 256 → EReal) (z : EReal) : EReal :=
  (∑ j, v j * Ideal.exp (S j - Finset.univ.fold max ⊥ S))
    * Ideal.div (Ideal.exp (Finset.univ.fold max ⊥ S - max (Finset.univ.fold max ⊥ S) z))
      ((∑ j, Ideal.exp (S j - Finset.univ.fold max ⊥ S)) * Ideal.exp (Finset.univ.fold max ⊥ S - max (Finset.univ.fold max ⊥ S) z)
        + Ideal.exp (z - max (Finset.univ.fold max ⊥ S) z))

/-- The sum of the exponentials less a real number. -/
theorem sum_exp (S : Fin 256 → EReal) (hS : ∀ j, S j ≠ ⊤) (M : ℝ) :
    ∑ j, Ideal.exp (S j - (M : EReal)) = ((Real.exp (-M) * ∑ j, E (S j) : ℝ) : EReal) := by
  rw [Finset.mul_sum, coe_fsum]
  refine Finset.sum_congr rfl fun j _ => ?_
  rw [exp_sub _ (hS j), mul_comm]

/-- The weighted sum of the exponentials less a real number. -/
theorem sum_exp_mul (S v : Fin 256 → EReal) (hS : ∀ j, S j ≠ ⊤) (M : ℝ) :
    ∑ j, Ideal.exp (S j - (M : EReal)) * v j = ((Real.exp (-M) : ℝ) : EReal) * ∑ j, ((E (S j) : ℝ) : EReal) * v j := by
  rw [← pull _ _ (Real.exp_pos _).le]
  refine Finset.sum_congr rfl fun j _ => ?_
  rw [exp_sub _ (hS j), mul_comm (E _), EReal.coe_mul, mul_assoc]

/-- The two rows are equal: the scores real or masked, one of them real, the sink real, the values equal where the
    score is not masked. -/
theorem row (S v w : Fin 256 → EReal) (z : EReal) (hS : ∀ j, S j ≠ ⊤) (k0 : Fin 256) (h0 : S k0 ≠ ⊥) (y : ℝ) (hz : z = (y : EReal))
    (hv : ∀ j, S j ≠ ⊥ → v j = w j) : atOnce S v z = after S w z := by
  unfold atOnce after
  have ht : Finset.univ.fold max ⊥ S ≠ ⊤ := fold_ne_top ⊥ rfl S hS
  have hb : Finset.univ.fold max ⊥ S ≠ ⊥ := by
    intro e
    apply h0
    refine le_bot_iff.1 ?_
    rw [← e]
    exact le_fold ⊥ S k0
  generalize Finset.univ.fold max ⊥ S = m at ht hb
  induction m with
  | bot => exact absurd rfl hb
  | top => exact absurd rfl ht
  | coe a =>
    subst hz
    rw [← EReal.coe_strictMono.monotone.map_max]
    generalize max a y = M
    have hw : ∑ j, w j * Ideal.exp (S j - (a : EReal)) = ((Real.exp (-a) : ℝ) : EReal) * ∑ j, ((E (S j) : ℝ) : EReal) * v j := by
      rw [← sum_exp_mul S v hS a]
      refine Finset.sum_congr rfl fun j _ => ?_
      by_cases h : S j = ⊥
      · rw [h, EReal.bot_sub, Ideal.exp_bot, zero_mul, mul_zero]
      · rw [hv j h, mul_comm]
    have hp := sum_E_pos S k0 h0 (hS k0)
    rw [hw, sum_exp_mul S v hS, sum_exp S hS, sum_exp S hS, exp_sub _ (EReal.coe_ne_top _), exp_sub _ (EReal.coe_ne_top _), E_coe, E_coe,
      ← EReal.coe_mul, ← EReal.coe_add, ← EReal.coe_add]
    generalize ∑ j, ((E (S j) : ℝ) : EReal) * v j = N
    generalize ∑ j, E (S j) = D at hp
    have h1 := Real.exp_pos (-M)
    have h2 := Real.exp_pos y
    have h3 := Real.exp_pos (-a)
    have h4 := Real.exp_pos a
    have h5 : Real.exp a * Real.exp (-a) = 1 := by rw [← Real.exp_add]; simp
    have e1 : Real.exp (-M) * D + Real.exp y * Real.exp (-M) ≠ 0 := by positivity
    have e2 : Real.exp (-a) * D * (Real.exp a * Real.exp (-M)) + Real.exp y * Real.exp (-M) = Real.exp (-M) * D + Real.exp y * Real.exp (-M) := by
      linear_combination (D * Real.exp (-M)) * h5
    rw [e2, Ideal.div_coe e1, Ideal.div_coe e1, mul_comm _ N, mul_comm _ N, mul_assoc, mul_assoc, ← EReal.coe_mul, ← EReal.coe_mul, ← EReal.coe_mul]
    congr 2
    rw [← mul_assoc, ← mul_assoc, mul_comm (Real.exp (-a)), h5, one_mul]

/-- Key `j` of the 256 that the block `n` of queries sees is admitted for its row `r`. -/
def adm (n r j : ℕ) : Prop := j ≤ r + 128 ∧ r + 1 ≤ j ∧ 128 ≤ 128 * n + j

instance (n r j : ℕ) : Decidable (adm n r j) := inferInstanceAs (Decidable (_ ∧ _ ∧ _))

/-- The word of a small number. -/
theorem word (a : ℕ) (h : a < 2147483648) : (BitVec.ofNat 32 a).toInt = a := by
  rw [BitVec.toInt_eq_toNat_cond, BitVec.toNat_ofNat]
  omega

/-- The distance of a key, as a word. -/
theorem dist (r j : ℕ) (hr : r < 128) (hj : j < 256) : (IntOp.subi (IntOp.addi (BitVec.ofNat 32 r) 128#32) (BitVec.ofNat 32 j)).toInt = (r : ℤ) + 128 - j := by
  have e1 : (128#32).toInt = 128 := by decide
  show (BitVec.ofNat 32 r + 128#32 - BitVec.ofNat 32 j).toInt = _
  simp only [BitVec.toInt_sub, BitVec.toInt_add, word r (by omega), word j (by omega), e1, Int.bmod_def]
  omega

/-- The two comparisons of the distance. -/
theorem band (r j : ℕ) (hr : r < 128) (hj : j < 256) :
    IntOp.andi (IntOp.cmpi .sge (IntOp.subi (IntOp.addi (BitVec.ofNat 32 r) 128#32) (BitVec.ofNat 32 j)) 0#32)
      (IntOp.cmpi .sle (IntOp.subi (IntOp.addi (BitVec.ofNat 32 r) 128#32) (BitVec.ofNat 32 j)) 127#32) = 1#1 ↔ j ≤ r + 128 ∧ r + 1 ≤ j := by
  rw [IntOp.andi_eq_one, IntOp.cmpi_sge, IntOp.cmpi_sle, dist r j hr hj]
  have e0 : (0#32).toInt = 0 := by decide
  have e1 : (127#32).toInt = 127 := by decide
  rw [e0, e1]
  omega

/-- The absolute place of a key, as a word. -/
theorem place (n j : ℕ) (hn : n < 64) (hj : j < 256) :
    (IntOp.addi (IntOp.subi (IntOp.muli (BitVec.ofNat 32 n) 128#32) 128#32) (BitVec.ofNat 32 j)).toInt = 128 * (n : ℤ) - 128 + j := by
  have e1 : (128#32).toInt = 128 := by decide
  show (BitVec.ofNat 32 n * 128#32 - 128#32 + BitVec.ofNat 32 j).toInt = _
  simp only [BitVec.toInt_sub, BitVec.toInt_add, BitVec.toInt_mul, word n (by omega), word j (by omega), e1, Int.bmod_def]
  omega

/-- A masked score: minus infinity where the key is not admitted. -/
def msk (n r j : ℕ) (s : EReal) : EReal := if adm n r j then s else ⊥

/-- The mask of the form whose keys start with zeros. -/
theorem sel_ref (n r j : ℕ) (hn : n < 64) (hr : r < 128) (hj : j < 256) (s : EReal) :
    Scalar.select (IntOp.andi (IntOp.andi (IntOp.cmpi .sge (IntOp.subi (IntOp.addi (BitVec.ofNat 32 r) 128#32) (BitVec.ofNat 32 j)) 0#32)
      (IntOp.cmpi .sle (IntOp.subi (IntOp.addi (BitVec.ofNat 32 r) 128#32) (BitVec.ofNat 32 j)) 127#32))
      (IntOp.cmpi .sge (IntOp.addi (IntOp.subi (IntOp.muli (BitVec.ofNat 32 n) 128#32) 128#32) (BitVec.ofNat 32 j)) 0#32)) s ⊥ = msk n r j s := by
  unfold Scalar.select msk
  have e0 : (0#32).toInt = 0 := by decide
  refine if_congr (IntOp.andi_eq_one.trans ?_) rfl rfl
  rw [band r j hr hj, IntOp.cmpi_sge, place n j hn hj, e0]
  unfold adm
  omega

/-- The mask of the form that excludes the first block's previous keys by a bound on the column. -/
theorem sel_ker (n r j : ℕ) (hn : n < 64) (hr : r < 128) (hj : j < 256) (s : EReal) :
    Scalar.select (IntOp.andi (IntOp.andi (IntOp.cmpi .sge (IntOp.subi (IntOp.addi (BitVec.ofNat 32 r) 128#32) (BitVec.ofNat 32 j)) 0#32)
      (IntOp.cmpi .sle (IntOp.subi (IntOp.addi (BitVec.ofNat 32 r) 128#32) (BitVec.ofNat 32 j)) 127#32))
      (IntOp.cmpi .sge (BitVec.ofNat 32 j) (Scalar.select (Scalar.cmpi .sgt (BitVec.ofNat 32 n) 0#32) 0#32 128#32))) s ⊥ = msk n r j s := by
  have e0 : (0#32).toInt = 0 := by decide
  have e1 : (128#32).toInt = 128 := by decide
  have ej : (BitVec.ofNat 32 j).toInt = j := word _ (by omega)
  have en : (BitVec.ofNat 32 n).toInt = n := word _ (by omega)
  have hc : Scalar.cmpi .sgt (BitVec.ofNat 32 n) 0#32 = 1#1 ↔ 0 < n := by
    refine (IntOp.cmpi_sgt).trans ?_
    rw [e0, en]; omega
  unfold Scalar.select msk
  refine if_congr (IntOp.andi_eq_one.trans ?_) rfl rfl
  rw [band r j hr hj, IntOp.cmpi_sge, ej]
  unfold adm
  by_cases h : 0 < n
  · rw [if_pos (show Scalar.cmpi .sgt (BitVec.ofNat 32 n) 0#32 = 1 from hc.2 h), e0]; omega
  · rw [if_neg (show ¬ Scalar.cmpi .sgt (BitVec.ofNat 32 n) 0#32 = 1 from fun e => h (hc.1 e)), e1]; omega

/-- Rows of masked real scores satisfy what the comparison of the two forms asks. -/
theorem msk_ne_top (n r j : ℕ) (s : EReal) (hs : s ≠ ⊤) : msk n r j s ≠ ⊤ := by
  unfold msk
  split_ifs
  · exact hs
  · exact bot_ne_top

/-- The row's own key is admitted. -/
theorem msk_self (n r : ℕ) (s : EReal) (hr : r < 128) : msk n r (r + 128) s = s := by
  have h : adm n r (r + 128) := by unfold adm; omega
  unfold msk
  rw [if_pos h]

/-- A score that is not masked belongs to an admitted key. -/
theorem adm_of (n r j : ℕ) (s : EReal) (h : msk n r j s ≠ ⊥) : adm n r j := by
  by_contra hn
  apply h
  unfold msk
  rw [if_neg hn]

end Cert.Proof.SwaRow
end
-- ==== Proof.SwaRef.lean ====
module

public import proofs.«01_k».proof.Proof.Gen.SwaReferenceIdeal.Run
public import proofs.«01_k».proof.Proof.SwaRow
public import Idealize.ShloMosaic.Lib.Pointwise

@[expose] public section

set_option maxRecDepth 16384
noncomputable section

/-! The sliding-window attention's reference, entry by entry. -/

namespace Cert.Proof.SwaRef
open Cert.SwaReferenceIdeal Cert.SwaReferenceIdeal.Gen Idealize.ShloMosaic Idealize.ShloMosaic.TcCoe Idealize.SL.Sem Idealize.ShloMosaic.StableHlo
open Cert.Proof.SwaRow

variable (X : FVec Ideal S8192x3840 .bf16) (V : FVec Ideal S8192x1280 .bf16) (z : FVec Ideal S8 .f32)

/-- The queries, by key head, query head within it, block, row. -/
def bq : FVec Ideal S2x4x64x128x64 .f32 :=
  shapeCast _ (shapeCast _ (transpose S8x8192x64 [1, 0, 2] (shapeCast _ (extf .f32 (extractStridedSlice S8192x512 ![0, 0] X slices_S8192x3840_S8192x512_0_0) bitsLt_bf16_f32) shapeCasts_S8192x512_S8192x8x64) transposes_S8192x8x64_S8x8192x64_1_0_2) shapeCasts_S8x8192x64_S2x4x8192x64) shapeCasts_S2x4x8192x64_S2x4x64x128x64
/-- The keys by head. -/
def ks : FVec Ideal S2x8192x64 .f32 :=
  transpose S2x8192x64 [1, 0, 2] (shapeCast _ (extf .f32 (extractStridedSlice S8192x128 ![0, 3584] X slices_S8192x3840_S8192x128_0_3584) bitsLt_bf16_f32) shapeCasts_S8192x128_S8192x2x64) transposes_S8192x2x64_S2x8192x64_1_0_2
/-- The values by head. -/
def vs : FVec Ideal S2x8192x64 .f32 :=
  transpose S2x8192x64 [1, 0, 2] (shapeCast _ (extf .f32 (extractStridedSlice S8192x128 ![0, 1024] V slices_S8192x1280_S8192x128_0_1024) bitsLt_bf16_f32) shapeCasts_S8192x128_S8192x2x64) transposes_S8192x2x64_S2x8192x64_1_0_2
/-- A block of zeros in front, cut into blocks. -/
def pad (u : FVec Ideal S2x8192x64 .f32) : FVec Ideal S2x65x128x64 .f32 :=
  shapeCast _ (concatenate S2x8320x64 1 [⟨S2x128x64, (broadcastInDim S2x128x64 ![] bcast_S_S2x128x64 (constant S_ .f32 0x00000000#32))⟩, ⟨S2x8192x64, u⟩] concatenates_S2x128x64_S2x8192x64_S2x8320x64_d1) shapeCasts_S2x8320x64_S2x65x128x64
/-- Each block after the one before it. -/
def two (p : FVec Ideal S2x65x128x64 .f32) : FVec Ideal S2x64x256x64 .f32 :=
  concatenate S2x64x256x64 2 [⟨S2x64x128x64, (extractStridedSlice S2x64x128x64 ![0, 0, 0, 0] p slices_S2x65x128x64_S2x64x128x64_0_0_0_0)⟩, ⟨S2x64x128x64, (extractStridedSlice S2x64x128x64 ![0, 1, 0, 0] p slices_S2x65x128x64_S2x64x128x64_0_1_0_0)⟩] concatenates_S2x64x128x64_S2x64x128x64_S2x64x256x64_d2
/-- The scores before the mask. -/
def sc : FVec Ideal S2x4x64x128x256 .f32 :=
  mulf (transpose S2x4x64x128x256 [0, 3, 1, 4, 2] (Host.dotGeneral dot_S2x64x256x64_S2x4x64x128x64_S2x64x256x4x128_3_4_2_13_01_02 none (two (pad (ks X))) (bq X)) transposes_S2x64x256x4x128_S2x4x64x128x256_0_3_1_4_2) (broadcastInDim S2x4x64x128x256 ![] bcast_S_S2x4x64x128x256 (constant S_ .f32 0x3E000000#32))
/-- The mask. -/
def mask : IVec S64x128x256 1 :=
  andi (broadcastInDim S64x128x256 ![0, 1, 2] bcast_S1x128x256_S64x128x256_0_1_2 (broadcastInDim S1x128x256 ![1, 2] bcast_S128x256_S1x128x256_1_2 (andi (cmpi .sge (subi (broadcastInDim S128x256 ![0, 1] bcast_S128x1_S128x256_0_1 (addi (broadcastInDim S128x1 ![0] bcast_S128_S128x1_0 (iotaInDim S128 32 0)) (broadcastInDim S128x1 ![] bcast_S_S128x1 (constantI S_ 32 128#32)))) (broadcastInDim S128x256 ![0, 1] bcast_S1x256_S128x256_0_1 (broadcastInDim S1x256 ![1] bcast_S256_S1x256_1 (iotaInDim S256 32 0)))) (broadcastInDim S128x256 ![] bcast_S_S128x256 (constantI S_ 32 0#32))) (cmpi .sle (subi (broadcastInDim S128x256 ![0, 1] bcast_S128x1_S128x256_0_1 (addi (broadcastInDim S128x1 ![0] bcast_S128_S128x1_0 (iotaInDim S128 32 0)) (broadcastInDim S128x1 ![] bcast_S_S128x1 (constantI S_ 32 128#32)))) (broadcastInDim S128x256 ![0, 1] bcast_S1x256_S128x256_0_1 (broadcastInDim S1x256 ![1] bcast_S256_S1x256_1 (iotaInDim S256 32 0)))) (broadcastInDim S128x256 ![] bcast_S_S128x256 (constantI S_ 32 127#32)))))) (broadcastInDim S64x128x256 ![0, 1, 2] bcast_S64x1x256_S64x128x256_0_1_2 (cmpi .sge (addi (broadcastInDim S64x1x256 ![0, 1, 2] bcast_S64x1x1_S64x1x256_0_1_2 (subi (muli (broadcastInDim S64x1x1 ![0] bcast_S64_S64x1x1_0 (iotaInDim S64 32 0)) (broadcastInDim S64x1x1 ![] bcast_S_S64x1x1 (constantI S_ 32 128#32))) (broadcastInDim S64x1x1 ![] bcast_S_S64x1x1 (constantI S_ 32 128#32)))) (broadcastInDim S64x1x256 ![0, 1, 2] bcast_S1x1x256_S64x1x256_0_1_2 (broadcastInDim S1x1x256 ![1, 2] bcast_S1x256_S1x1x256_1_2 (broadcastInDim S1x256 ![1] bcast_S256_S1x256_1 (iotaInDim S256 32 0))))) (broadcastInDim S64x1x256 ![] bcast_S_S64x1x256 (constantI S_ 32 0#32))))
/-- The masked scores. -/
def ms : FVec Ideal S2x4x64x128x256 .f32 :=
  select (broadcastInDim S2x4x64x128x256 ![2, 3, 4] bcast_S64x128x256_S2x4x64x128x256_2_3_4 mask) (sc X) (broadcastInDim S2x4x64x128x256 ![] bcast_S_S2x4x64x128x256 (id (constant S_ .f32 0xFF800000#32)))
/-- The row maxima. -/
def mx (s : FVec Ideal S2x4x64x128x256 .f32) : FVec Ideal S2x4x64x128 .f32 :=
  Host.reduce FloatOps.maximumf s (constant S_ .f32 0xFF800000#32) reducesTo_S2x4x64x128x256_S2x4x64x128_d4 h_S_
/-- The exponentials. -/
def ex (s : FVec Ideal S2x4x64x128x256 .f32) (m : FVec Ideal S2x4x64x128 .f32) : FVec Ideal S2x4x64x128x256 .f32 :=
  Host.exp (subf s (broadcastInDim S2x4x64x128x256 ![0, 1, 2, 3, 4] bcast_S2x4x64x128x1_S2x4x64x128x256_0_1_2_3_4 (broadcastInDim S2x4x64x128x1 ![0, 1, 2, 3] bcast_S2x4x64x128_S2x4x64x128x1_0_1_2_3 m)))
/-- Their sums. -/
def sm (p : FVec Ideal S2x4x64x128x256 .f32) : FVec Ideal S2x4x64x128 .f32 :=
  Host.reduceAdd p (constant S_ .f32 0x00000000#32) reducesTo_S2x4x64x128x256_S2x4x64x128_d4 h_S_
/-- The sums of the values weighted by them. -/
def ac (p : FVec Ideal S2x4x64x128x256 .f32) : FVec Ideal S2x4x64x128x64 .f32 :=
  transpose S2x4x64x128x64 [0, 3, 1, 4, 2] (Host.dotGeneral dot_S2x64x256x64_S2x4x64x128x256_S2x64x64x4x128_2_4_3_13_01_02 none (two (pad (vs V))) p) transposes_S2x64x64x4x128_S2x4x64x128x64_0_3_1_4_2
/-- The sinks at every row. -/
def zb : FVec Ideal S2x4x8192 .f32 := broadcastInDim S2x4x8192 ![0, 1, 2] bcast_S2x4x1_S2x4x8192_0_1_2 (shapeCast _ z shapeCasts_S8_S2x4x1)
/-- The factor that corrects the sums by the sink. -/
def fc (z m l : FVec Ideal S2x4x8192 .f32) : FVec Ideal S2x4x8192 .f32 :=
  Host.divf (Host.exp (subf m (maximumf m z))) (addf (mulf l (Host.exp (subf m (maximumf m z)))) (Host.exp (subf z (maximumf m z))))
/-- The result of the corrected sums. -/
def fin (a : FVec Ideal S2x4x64x128x64 .f32) (f : FVec Ideal S2x4x8192 .f32) : FVec Ideal S1x8192x512 .bf16 :=
  truncf .bf16 (shapeCast _ (transpose S8192x8x64 [1, 0, 2] (shapeCast _ (mulf (shapeCast _ a shapeCasts_S2x4x64x128x64_S2x4x8192x64) (broadcastInDim S2x4x8192x64 ![0, 1, 2, 3] bcast_S2x4x8192x1_S2x4x8192x64_0_1_2_3 (broadcastInDim S2x4x8192x1 ![0, 1, 2] bcast_S2x4x8192_S2x4x8192x1_0_1_2 f))) shapeCasts_S2x4x8192x64_S8x8192x64) transposes_S8x8192x64_S8192x8x64_1_0_2) shapeCasts_S8192x8x64_S1x8192x512) bitsLt_bf16_f32
/-- The row maxima of the scores, -/
def MX : FVec Ideal S2x4x64x128 .f32 := mx (ms X)
/-- their exponentials, -/
def EX : FVec Ideal S2x4x64x128x256 .f32 := ex (ms X) (MX X)
/-- and the whole result. -/
def res : FVec Ideal S1x8192x512 .bf16 :=
  fin (ac V (EX X)) (fc (zb z) (shapeCast _ (MX X) shapeCasts_S2x4x64x128_S2x4x8192) (shapeCast _ (sm (EX X)) shapeCasts_S2x4x64x128_S2x4x8192))

/-- The reference's composed term is the staged result. -/
theorem res_eq (m : (ℓ : Loc nD τ sig) → Buf (Elt Ideal) ℓ) (c : Dev nD) :
    Cert.SwaReferenceIdeal.Value.res_out0 (F := Ideal) m c
      = res (m ((c.tc : Thread nD τ).loc main_arg0)) (m ((c.tc : Thread nD τ).loc main_arg1)) (m ((c.tc : Thread nD τ).loc main_arg2)) := by
  unfold Cert.SwaReferenceIdeal.Value.res_out0 Cert.SwaReferenceIdeal.Value.res_main_v89
  rfl

/-- Row `r` of block `n`. -/
def row (n : Fin 64) (r : Fin 128) : Fin 8192 := ⟨n.val * 128 + r.val, by omega⟩
/-- The column of a query entry, -/
def qcol (a : Fin 2) (b : Fin 4) (d : Fin 64) : Fin 3840 := ⟨(a.val * 4 + b.val) * 64 + d.val, by omega⟩
/-- of a key entry, -/
def kcol (a : Fin 2) (d : Fin 64) : Fin 3840 := ⟨3584 + (a.val * 64 + d.val), by omega⟩
/-- of a value entry, -/
def vcol (a : Fin 2) (d : Fin 64) : Fin 1280 := ⟨1024 + (a.val * 64 + d.val), by omega⟩
/-- and of a result entry. -/
def ocol (a : Fin 2) (b : Fin 4) (d : Fin 64) : Fin 512 := ⟨(a.val * 4 + b.val) * 64 + d.val, by omega⟩
/-- A head. -/
def hd (a : Fin 2) (b : Fin 4) : Fin 8 := ⟨a.val * 4 + b.val, by omega⟩

/-- A query entry. -/
theorem bq_apply (a : Fin 2) (b : Fin 4) (n : Fin 64) (r : Fin 128) (d : Fin 64) : bq X (ix5 a b n r d) = X (ix2 (row n r) (qcol a b d)) := by
  unfold row qcol
  pointwise [bq]
/-- A key entry. -/
theorem ks_apply (a : Fin 2) (l : Fin 8192) (d : Fin 64) : ks X (ix3 a l d) = X (ix2 l (kcol a d)) := by
  unfold kcol
  pointwise [ks]
/-- A value entry. -/
theorem vs_apply (a : Fin 2) (l : Fin 8192) (d : Fin 64) : vs V (ix3 a l d) = V (ix2 l (vcol a d)) := by
  unfold vcol
  pointwise [vs]
/-- The rows a block sees: zeros before the first. -/
theorem two_apply (u : FVec Ideal S2x8192x64 .f32) (a : Fin 2) (n : Fin 64) (j : Fin 256) (d : Fin 64) :
    two (pad u) (ix4 a n j d) = if h : 128 ≤ 128 * n.val + j.val then u (ix3 a ⟨128 * n.val + j.val - 128, by omega⟩ d) else 0 := by
  pointwise [two, pad]
  by_cases h : 128 ≤ 128 * n.val + j.val
  · rw [dif_pos h]
    split_ifs <;> first
      | (exfalso; omega)
      | exact congrArg (fun e => u (ix3 a e d)) (Fin.ext (by dsimp only; omega))
  · rw [dif_neg h]
    split_ifs <;> first
      | rfl
      | (exfalso; omega)
/-- The mask. -/
theorem mask_apply (n : Fin 64) (r : Fin 128) (j : Fin 256) : mask (ix3 n r j)
    = IntOp.andi (IntOp.andi (IntOp.cmpi .sge (IntOp.subi (IntOp.addi (BitVec.ofNat 32 r.val) 128#32) (BitVec.ofNat 32 j.val)) 0#32)
      (IntOp.cmpi .sle (IntOp.subi (IntOp.addi (BitVec.ofNat 32 r.val) 128#32) (BitVec.ofNat 32 j.val)) 127#32))
      (IntOp.cmpi .sge (IntOp.addi (IntOp.subi (IntOp.muli (BitVec.ofNat 32 n.val) 128#32) 128#32) (BitVec.ofNat 32 j.val)) 0#32) := by
  pointwise [mask]
/-- A score before the mask. -/
theorem sc_apply (a : Fin 2) (b : Fin 4) (n : Fin 64) (r : Fin 128) (j : Fin 256) : sc X (ix5 a b n r j)
    = (∑ d : Fin 64, two (pad (ks X)) (ix4 a n j d) * bq X (ix5 a b n r d)) * Ideal.ofBits .f32 0x3E000000#32 := by
  unfold sc
  generalize two (pad (ks X)) = K
  generalize bq X = Q
  pointwise
/-- A masked score. -/
theorem ms_apply (a : Fin 2) (b : Fin 4) (n : Fin 64) (r : Fin 128) (j : Fin 256) : ms X (ix5 a b n r j)
    = Scalar.select (mask (ix3 n r j)) (sc X (ix5 a b n r j)) (Ideal.ofBits .f32 0xFF800000#32) := by
  unfold ms
  generalize mask = M
  generalize sc X = S
  pointwise
  rfl
/-- A row maximum. -/
theorem mx_apply (s : FVec Ideal S2x4x64x128x256 .f32) (a : Fin 2) (b : Fin 4) (n : Fin 64) (r : Fin 128) :
    mx s (ix4 a b n r) = Finset.univ.fold max (Ideal.ofBits .f32 0xFF800000#32) fun j : Fin 256 => s (ix5 a b n r j) := by
  pointwise [mx]
/-- An exponential. -/
theorem ex_apply (s : FVec Ideal S2x4x64x128x256 .f32) (m : FVec Ideal S2x4x64x128 .f32) (a : Fin 2) (b : Fin 4) (n : Fin 64) (r : Fin 128) (j : Fin 256) :
    ex s m (ix5 a b n r j) = Ideal.exp (s (ix5 a b n r j) - m (ix4 a b n r)) := by
  pointwise [ex]
/-- A sum. -/
theorem sm_apply (p : FVec Ideal S2x4x64x128x256 .f32) (a : Fin 2) (b : Fin 4) (n : Fin 64) (r : Fin 128) :
    sm p (ix4 a b n r) = ∑ j : Fin 256, p (ix5 a b n r j) := by
  pointwise [sm]
/-- A weighted sum. -/
theorem ac_apply (p : FVec Ideal S2x4x64x128x256 .f32) (a : Fin 2) (b : Fin 4) (n : Fin 64) (r : Fin 128) (d : Fin 64) :
    ac V p (ix5 a b n r d) = ∑ j : Fin 256, two (pad (vs V)) (ix4 a n j d) * p (ix5 a b n r j) := by
  unfold ac
  generalize two (pad (vs V)) = K
  pointwise
/-- A sink. -/
theorem zb_apply (a : Fin 2) (b : Fin 4) (l : Fin 8192) : zb z (ix3 a b l) = z (ix1 (hd a b)) := by
  unfold hd
  pointwise [zb]
/-- A factor. -/
theorem fc_apply (z m l : FVec Ideal S2x4x8192 .f32) (a : Fin 2) (b : Fin 4) (q : Fin 8192) : fc z m l (ix3 a b q)
    = Ideal.div (Ideal.exp (m (ix3 a b q) - max (m (ix3 a b q)) (z (ix3 a b q)))) (l (ix3 a b q) * Ideal.exp (m (ix3 a b q) - max (m (ix3 a b q)) (z (ix3 a b q))) + Ideal.exp (z (ix3 a b q) - max (m (ix3 a b q)) (z (ix3 a b q)))) := by
  pointwise [fc]
/-- The rows of the blocks, in line. -/
theorem flat_apply (m : FVec Ideal S2x4x64x128 .f32) (a : Fin 2) (b : Fin 4) (n : Fin 64) (r : Fin 128) :
    (shapeCast S2x4x8192 m shapeCasts_S2x4x64x128_S2x4x8192 : FVec Ideal S2x4x8192 .f32) (ix3 a b (row n r)) = m (ix4 a b n r) := by
  have e1 : (n.val * 128 + r.val) / 128 = n.val := by omega
  have e2 : (n.val * 128 + r.val) % 128 = r.val := by omega
  unfold row
  pointwise [e1, e2]
/-- A result entry. -/
theorem fin_apply (A : FVec Ideal S2x4x64x128x64 .f32) (f : FVec Ideal S2x4x8192 .f32) (a : Fin 2) (b : Fin 4) (n : Fin 64) (r : Fin 128) (d : Fin 64) :
    fin A f (ix3 0 (row n r) (ocol a b d)) = A (ix5 a b n r d) * f (ix3 a b (row n r)) := by
  unfold row ocol
  pointwise [fin]

end Cert.Proof.SwaRef
end
-- ==== Proof.SwaEntry.lean ====
module

public import proofs.«01_k».proof.Proof.SwaRef
public import Idealize.ShloMosaic.Lib.Pointwise

@[expose] public section

set_option maxRecDepth 16384
noncomputable section

/-! The sliding-window attention's reference: a result entry is a row corrected by its sink afterwards. -/

namespace Cert.Proof.SwaEntry
open Cert.SwaReferenceIdeal Cert.SwaReferenceIdeal.Gen Idealize.ShloMosaic Idealize.ShloMosaic.TcCoe Idealize.SL.Sem Idealize.ShloMosaic.StableHlo
open Cert.Proof.SwaRow Cert.Proof.SwaRef

variable (X : FVec Ideal S8192x3840 .bf16) (V : FVec Ideal S8192x1280 .bf16) (z : FVec Ideal S8 .f32)

/-- The word of minus infinity. -/
theorem bits_bot : Ideal.ofBits .f32 0xFF800000#32 = ⊥ := by
  simp [Ideal.ofBits, Ideal.ieee]

/-- A masked score is the score where the key is admitted. -/
theorem ms_row (a : Fin 2) (b : Fin 4) (n : Fin 64) (r : Fin 128) (j : Fin 256) :
    ms X (ix5 a b n r j) = msk n.val r.val j.val (sc X (ix5 a b n r j)) := by
  rw [ms_apply, mask_apply, bits_bot, sel_ref _ _ _ n.isLt r.isLt j.isLt]

/-- A row's maximum. -/
theorem MX_row (a : Fin 2) (b : Fin 4) (n : Fin 64) (r : Fin 128) :
    MX X (ix4 a b n r) = Finset.univ.fold max ⊥ fun j : Fin 256 => msk n.val r.val j.val (sc X (ix5 a b n r j)) := by
  unfold MX
  rw [mx_apply, bits_bot]
  simp only [ms_row]

/-- A row's exponentials. -/
theorem EX_row (a : Fin 2) (b : Fin 4) (n : Fin 64) (r : Fin 128) (j : Fin 256) :
    EX X (ix5 a b n r j) = Ideal.exp (msk n.val r.val j.val (sc X (ix5 a b n r j)) - Finset.univ.fold max ⊥ fun j : Fin 256 => msk n.val r.val j.val (sc X (ix5 a b n r j))) := by
  unfold EX
  rw [ex_apply, MX_row, ms_row]

/-- A result entry. -/
theorem res_apply (a : Fin 2) (b : Fin 4) (n : Fin 64) (r : Fin 128) (d : Fin 64) : res X V z (ix3 0 (row n r) (ocol a b d))
    = SwaRow.after (fun j => msk n.val r.val j.val (sc X (ix5 a b n r j))) (fun j => two (pad (vs V)) (ix4 a n j d)) (z (ix1 (hd a b))) := by
  unfold res SwaRow.after
  rw [fin_apply, fc_apply, zb_apply, flat_apply, flat_apply, ac_apply, sm_apply, MX_row]
  simp only [EX_row]

end Cert.Proof.SwaEntry
end
-- ==== Proof.SwaBody.lean ====
module

public import proofs.«01_k».proof.Proof.Gen.SwaIdeal.Frame
public import proofs.«01_k».proof.Proof.SwaRow
public import Idealize.ShloMosaic.Lib.Pointwise
public import Idealize.ShloMosaic.Lib.Pipeline.Value
public import Idealize.ShloMosaic.Lib.Pipeline.ValueKit
public import Idealize.ShloMosaic.Lib.Pipeline.ReadBack

@[expose] public section

set_option maxRecDepth 16384
noncomputable section

/-! The sliding-window attention's body: its block, entry by entry, is the row with the sink taken at once. -/

namespace Cert.Proof.SwaBody
open Cert.SwaIdeal Cert.SwaIdeal.Gen Idealize.ShloMosaic Idealize.ShloMosaic.TcCoe Idealize.SL.Sem
open Cert.Proof.SwaRow

/-- The scores of a head: its 64 query columns, from column `n` on, against its keys. -/
def score (n : ℕ) (hs : S128x512.Slices ![0, n] S128x64) (q : FVec Ideal S128x512 .bf16) (k : FVec Ideal S256x64 .bf16) : FVec Ideal S128x256 .f32 :=
  matmul dot_S128x64_S256x64_S128x256_1_1_0_0_n_n none (extractStridedSlice S128x64 ![0, n] q hs) k (constant S128x256 .f32 0x00000000#32)

/-- A score. -/
theorem score_apply (n : ℕ) (hs : S128x512.Slices ![0, n] S128x64) (hn : n + 64 ≤ 512) (q : FVec Ideal S128x512 .bf16) (k : FVec Ideal S256x64 .bf16) (r : Fin 128) (j : Fin 256) :
    score n hs q k (ix2 r j) = ∑ d : Fin 64, q (ix2 r ⟨n + d.val, by omega⟩) * k (ix2 j d) := by
  pointwise [score]

/-- The named constant is minus infinity. -/
theorem named_bot : Named.named (F := Ideal) κ "mask" (φ := .f32) 0xF149F2CA#32 = (⊥ : EReal) :=
  IdealRules.named_const.ideal_named_scalar _ _ _ _ rfl

/-- The word of minus infinity. -/
theorem bits_bot : Ideal.ofBits .f32 0xFF800000#32 = ⊥ := by
  simp [Ideal.ofBits, Ideal.ieee]

/-- A head's output. -/
theorem head_apply (mk : IVec S128x256 1) (v : FVec Ideal S256x64 .bf16) (s : FVec Ideal S128x256 .f32) (z : Elt Ideal .f32) (r : Fin 128) (d : Fin 64) :
    k0_pay11 (F := Ideal) mk v s z z (ix2 r d)
      = atOnce (fun j => Scalar.select (mk (ix2 r j)) (s (ix2 r j)) ⊥) (fun j => v (ix2 j d)) z := by
  unfold atOnce
  pointwise [k0_pay11, named_bot, bits_bot]

/-- The mask. -/
theorem mask_apply (i : grid0.Coords) (r : Fin 128) (j : Fin 256) : k0_pay5 i (ix2 r j)
    = IntOp.andi (IntOp.andi (IntOp.cmpi .sge (IntOp.subi (IntOp.addi (BitVec.ofNat 32 r.val) 128#32) (BitVec.ofNat 32 j.val)) 0#32)
      (IntOp.cmpi .sle (IntOp.subi (IntOp.addi (BitVec.ofNat 32 r.val) 128#32) (BitVec.ofNat 32 j.val)) 127#32))
      (IntOp.cmpi .sge (BitVec.ofNat 32 j.val) (Scalar.select (Scalar.cmpi .sgt (BitVec.ofNat 32 (i 1).val) 0#32) 0#32 128#32)) := by
  pointwise [k0_pay5]

/-- A query, scaled. -/
theorem pay2 (x : Vec Ideal S1x128x512 .bf16) (r : Fin 128) (e : Fin 512) :
    k0_pay2 (F := Ideal) x (ix2 r e) = x (ix3 0 r e) * Ideal.ofBits .bf16 0x3E00#16 := by
  pointwise [k0_pay2]

/-- Two blocks of 128 rows, one after the other, at an entry. -/
def two (x y : Vec Ideal S1x128x128 .bf16) (j : Fin 256) (e : Fin 128) : EReal :=
  if h : j.val < 128 then x (ix3 0 ⟨j.val, h⟩ e) else y (ix3 0 ⟨j.val - 128, by omega⟩ e)

/-- The keys of the first head, -/
theorem pay6 (x y : Vec Ideal S1x128x128 .bf16) (j : Fin 256) (d : Fin 64) :
    k0_pay6 (F := Ideal) x y (ix2 j d) = two x y j ⟨0 * 64 + d.val, by omega⟩ := by
  unfold two
  pointwise [k0_pay6, k0_pay3]
/-- of the second, -/
theorem pay7 (x y : Vec Ideal S1x128x128 .bf16) (j : Fin 256) (d : Fin 64) :
    k0_pay7 (F := Ideal) x y (ix2 j d) = two x y j ⟨1 * 64 + d.val, by omega⟩ := by
  unfold two
  pointwise [k0_pay7, k0_pay3]
/-- the values of the first head, -/
theorem pay8 (x y : Vec Ideal S1x128x128 .bf16) (j : Fin 256) (d : Fin 64) :
    k0_pay8 (F := Ideal) x y (ix2 j d) = two x y j ⟨0 * 64 + d.val, by omega⟩ := by
  unfold two
  pointwise [k0_pay8, k0_pay4]
/-- and of the second. -/
theorem pay9 (x y : Vec Ideal S1x128x128 .bf16) (j : Fin 256) (d : Fin 64) :
    k0_pay9 (F := Ideal) x y (ix2 j d) = two x y j ⟨1 * 64 + d.val, by omega⟩ := by
  unfold two
  pointwise [k0_pay9, k0_pay4]

/-- Eight heads side by side, rounded. -/
def cat (H : Fin 8 → FVec Ideal S128x64 .f32) : FVec Ideal S128x512 .bf16 :=
  truncf .bf16 (concatenate S128x512 1 [⟨S128x64, H 0⟩, ⟨S128x64, H 1⟩, ⟨S128x64, H 2⟩, ⟨S128x64, H 3⟩, ⟨S128x64, H 4⟩, ⟨S128x64, H 5⟩, ⟨S128x64, H 6⟩, ⟨S128x64, H 7⟩] concatenates_S128x64_S128x64_S128x64_S128x64_S128x64_S128x64_S128x64_S128x64_S128x512_d1) bitsLt_bf16_f32

/-- The same head and column. -/
theorem side (H : Fin 8 → FVec Ideal S128x64 .f32) (h k : Fin 8) (r : Fin 128) (d : Fin 64) (e : ℕ) (he : e < 64) (hk : h.val = k.val) (hd : e = d.val) :
    H k (ix2 r ⟨e, he⟩) = H h (ix2 r d) := by
  obtain rfl := Fin.ext hk
  subst hd
  rfl

/-- The block at an entry of a head. -/
theorem cat_apply (H : Fin 8 → FVec Ideal S128x64 .f32) (h : Fin 8) (r : Fin 128) (d : Fin 64) :
    k0_pay1 (F := Ideal) (cat H) (ix3 0 r ⟨h.val * 64 + d.val, by omega⟩) = H h (ix2 r d) := by
  have hd := d.isLt
  have hh := h.isLt
  pointwise [k0_pay1, cat]
  split_ifs <;> first
    | exact side H h 0 r d _ _ (show h.val = 0 by omega) (by omega)
    | exact side H h 1 r d _ _ (show h.val = 1 by omega) (by omega)
    | exact side H h 2 r d _ _ (show h.val = 2 by omega) (by omega)
    | exact side H h 3 r d _ _ (show h.val = 3 by omega) (by omega)
    | exact side H h 4 r d _ _ (show h.val = 4 by omega) (by omega)
    | exact side H h 5 r d _ _ (show h.val = 5 by omega) (by omega)
    | exact side H h 6 r d _ _ (show h.val = 6 by omega) (by omega)
    | exact side H h 7 r d _ _ (show h.val = 7 by omega) (by omega)

section
variable (i : grid0.Coords) (x1 : Vec Ideal S1x128x512 .bf16) (x2 x3 x4 x5 : Vec Ideal S1x128x128 .bf16) (z : Fin 8 → EReal)

/-- The heads' outputs. -/
def heads : Fin 8 → FVec Ideal S128x64 .f32 := ![
  k0_pay11 (F := Ideal) (k0_pay5 i) (k0_pay8 x4 x5) (score 0 slices_S128x512_o0_0_S128x64 (k0_pay2 x1) (k0_pay6 x2 x3)) (z 0) (z 0),
  k0_pay11 (F := Ideal) (k0_pay5 i) (k0_pay8 x4 x5) (score 64 slices_S128x512_o0_64_S128x64 (k0_pay2 x1) (k0_pay6 x2 x3)) (z 1) (z 1),
  k0_pay11 (F := Ideal) (k0_pay5 i) (k0_pay8 x4 x5) (score 128 slices_S128x512_o0_128_S128x64 (k0_pay2 x1) (k0_pay6 x2 x3)) (z 2) (z 2),
  k0_pay11 (F := Ideal) (k0_pay5 i) (k0_pay8 x4 x5) (score 192 slices_S128x512_o0_192_S128x64 (k0_pay2 x1) (k0_pay6 x2 x3)) (z 3) (z 3),
  k0_pay11 (F := Ideal) (k0_pay5 i) (k0_pay9 x4 x5) (score 256 slices_S128x512_o0_256_S128x64 (k0_pay2 x1) (k0_pay7 x2 x3)) (z 4) (z 4),
  k0_pay11 (F := Ideal) (k0_pay5 i) (k0_pay9 x4 x5) (score 320 slices_S128x512_o0_320_S128x64 (k0_pay2 x1) (k0_pay7 x2 x3)) (z 5) (z 5),
  k0_pay11 (F := Ideal) (k0_pay5 i) (k0_pay9 x4 x5) (score 384 slices_S128x512_o0_384_S128x64 (k0_pay2 x1) (k0_pay7 x2 x3)) (z 6) (z 6),
  k0_pay11 (F := Ideal) (k0_pay5 i) (k0_pay9 x4 x5) (score 448 slices_S128x512_o0_448_S128x64 (k0_pay2 x1) (k0_pay7 x2 x3)) (z 7) (z 7)]

/-- The score of a row and a key -/
def raw (h : Fin 8) (r : Fin 128) (j : Fin 256) : EReal :=
  ∑ d : Fin 64, x1 (ix3 0 r ⟨h.val * 64 + d.val, by omega⟩) * Ideal.ofBits .bf16 0x3E00#16 * two x2 x3 j ⟨h.val / 4 * 64 + d.val, by omega⟩
/-- and under the mask. -/
def S (n : ℕ) (h : Fin 8) (r : Fin 128) (j : Fin 256) : EReal := msk n r.val j.val (raw x1 x2 x3 h r j)

/-- A head's output, once its keys, values and query columns are known. -/
theorem one (h : Fin 8) (w : EReal) (K W : FVec Ideal S256x64 .bf16)
    (hK : ∀ (j : Fin 256) (d : Fin 64), K (ix2 j d) = two x2 x3 j ⟨h.val / 4 * 64 + d.val, by omega⟩)
    (hW : ∀ (j : Fin 256) (d : Fin 64), W (ix2 j d) = two x4 x5 j ⟨h.val / 4 * 64 + d.val, by omega⟩)
    (hs : S128x512.Slices ![0, h.val * 64] S128x64) (r : Fin 128) (d : Fin 64) :
    k0_pay11 (F := Ideal) (k0_pay5 i) W (score (h.val * 64) hs (k0_pay2 x1) K) w w (ix2 r d)
      = atOnce (S x1 x2 x3 (i 1).val h r) (fun j => two x4 x5 j ⟨h.val / 4 * 64 + d.val, by omega⟩) w := by
  rw [head_apply]
  congr 1
  · funext j
    rw [mask_apply, sel_ker _ _ _ (i 1).isLt r.isLt j.isLt, score_apply _ _ (by omega)]
    unfold S raw
    congr 1
    refine Finset.sum_congr rfl fun d _ => ?_
    rw [pay2, hK]
  · funext j
    exact hW j d

/-- A head's output. -/
theorem heads_apply (h : Fin 8) (r : Fin 128) (d : Fin 64) : heads i x1 x2 x3 x4 x5 z h (ix2 r d)
    = atOnce (S x1 x2 x3 (i 1).val h r) (fun j => two x4 x5 j ⟨h.val / 4 * 64 + d.val, by omega⟩) (z h) := by
  fin_cases h
  · exact one i x1 x2 x3 x4 x5 0 (z 0) _ _ (pay6 x2 x3) (pay8 x4 x5) slices_S128x512_o0_0_S128x64 r d
  · exact one i x1 x2 x3 x4 x5 1 (z 1) _ _ (pay6 x2 x3) (pay8 x4 x5) slices_S128x512_o0_64_S128x64 r d
  · exact one i x1 x2 x3 x4 x5 2 (z 2) _ _ (pay6 x2 x3) (pay8 x4 x5) slices_S128x512_o0_128_S128x64 r d
  · exact one i x1 x2 x3 x4 x5 3 (z 3) _ _ (pay6 x2 x3) (pay8 x4 x5) slices_S128x512_o0_192_S128x64 r d
  · exact one i x1 x2 x3 x4 x5 4 (z 4) _ _ (pay7 x2 x3) (pay9 x4 x5) slices_S128x512_o0_256_S128x64 r d
  · exact one i x1 x2 x3 x4 x5 5 (z 5) _ _ (pay7 x2 x3) (pay9 x4 x5) slices_S128x512_o0_320_S128x64 r d
  · exact one i x1 x2 x3 x4 x5 6 (z 6) _ _ (pay7 x2 x3) (pay9 x4 x5) slices_S128x512_o0_384_S128x64 r d
  · exact one i x1 x2 x3 x4 x5 7 (z 7) _ _ (pay7 x2 x3) (pay9 x4 x5) slices_S128x512_o0_448_S128x64 r d
end

section
variable (i : grid0.Coords) (x1 : Vec Ideal S1x128x512 .bf16) (x2 x3 x4 x5 : Vec Ideal S1x128x128 .bf16) (z0 z1 z2 z3 z4 z5 z6 z7 : EReal)

/-- The last two heads with the six before them. -/
theorem joined (mk : IVec S128x256 1) (q : FVec Ideal S128x512 .bf16) (k v : FVec Ideal S256x64 .bf16) (h0 h1 h2 h3 h4 h5 : FVec Ideal S128x64 .f32) :
    k0_pay20 (F := Ideal) q mk k v h0 h1 h2 h3 h4 (k0_pay18 (F := Ideal) q k) h5 z6 z6 z7 z7
      = cat ![h0, h1, h2, h3, h4, h5, k0_pay11 (F := Ideal) mk v (score 384 slices_S128x512_o0_384_S128x64 q k) z6 z6,
          k0_pay11 (F := Ideal) mk v (score 448 slices_S128x512_o0_448_S128x64 q k) z7 z7] := by
  unfold k0_pay20 k0_pay18 cat k0_pay11 score
  rfl

/-- The body's block is the heads side by side. -/
theorem assembled : k0_pay20 (F := Ideal) (k0_pay2 x1) (k0_pay5 i) (k0_pay7 x2 x3) (k0_pay9 x4 x5)
      (k0_pay11 (k0_pay5 i) (k0_pay8 x4 x5) (k0_pay10 x1 x2 x3) z0 z0)
      (k0_pay13 (k0_pay2 x1) (k0_pay5 i) (k0_pay6 x2 x3) (k0_pay8 x4 x5) z1 z1)
      (k0_pay14 (k0_pay5 i) (k0_pay8 x4 x5) (k0_pay12 (k0_pay2 x1) (k0_pay6 x2 x3)) z2 z2)
      (k0_pay16 (k0_pay2 x1) (k0_pay5 i) (k0_pay6 x2 x3) (k0_pay8 x4 x5) z3 z3)
      (k0_pay17 (k0_pay5 i) (k0_pay9 x4 x5) (k0_pay15 (k0_pay2 x1) (k0_pay7 x2 x3)) z4 z4)
      (k0_pay18 (k0_pay2 x1) (k0_pay7 x2 x3))
      (k0_pay19 (k0_pay2 x1) (k0_pay5 i) (k0_pay7 x2 x3) (k0_pay9 x4 x5) z5 z5) z6 z6 z7 z7
    = cat (heads i x1 x2 x3 x4 x5 ![z0, z1, z2, z3, z4, z5, z6, z7]) := by
  rw [joined]
  refine congrArg cat ?_
  funext h
  fin_cases h
  · show k0_pay11 (F := Ideal) _ _ _ _ _ = k0_pay11 (F := Ideal) _ _ _ _ _
    rfl
  · show k0_pay13 (F := Ideal) _ _ _ _ _ _ = k0_pay11 (F := Ideal) _ _ _ _ _
    rfl
  · show k0_pay14 (F := Ideal) _ _ _ _ _ = k0_pay11 (F := Ideal) _ _ _ _ _
    rfl
  · show k0_pay16 (F := Ideal) _ _ _ _ _ _ = k0_pay11 (F := Ideal) _ _ _ _ _
    rfl
  · show k0_pay17 (F := Ideal) _ _ _ _ _ = k0_pay11 (F := Ideal) _ _ _ _ _
    rfl
  · show k0_pay19 (F := Ideal) _ _ _ _ _ _ = k0_pay11 (F := Ideal) _ _ _ _ _
    rfl
  · rfl
  · rfl
end

/-- A sink read from the fast memory. -/
theorem sink (x : Vec Ideal S8 .f32) (o : ℕ) (k : Fin 8) (ho : k.val = o) (h1 : ∀ a, (![o] : Fin 1 → ℕ) a + S1.size a ≤ S8.size a) (h2 : 0 < S1.numel) :
    View.ld x (Rect.unit (s := S8) ![o] S1.size h1) (Shape.Idx.first h2) = x (ix1 k) := by
  subst ho
  refine congrArg x (funext fun a => Fin.ext ?_)
  obtain rfl : a = 0 := Subsingleton.elim _ _
  have e : ((Shape.Idx.first h2) (0 : Fin 1)).val = 0 := rfl
  show k.val + 1 * ((Shape.Idx.first h2) (0 : Fin 1)).val = k.val
  omega

section
variable (m : (ℓ : Loc nD τ sig) → Buf (Elt Ideal) ℓ) (c : Dev nD)

/-- What the body leaves in the output's buffer. -/
theorem outs (t : Fin cfg0.N) : outsAt0 m c t
    = k0_pay1 (F := Ideal) (cat (heads (grid0.coords t) (X0_1 m c t) (iblk m c 2 t) (iblk m c 3 t) (iblk m c 4 t) (iblk m c 5 t)
        (fun h => (iblk m c 0 t : FVec Ideal S8 .f32) (ix1 h)))) := by
  unfold outsAt0
  frame_out
  rw [assembled]
  refine congrArg (fun z => k0_pay1 (F := Ideal) (cat (heads (grid0.coords t) (X0_1 m c t) (iblk m c 2 t) (iblk m c 3 t) (iblk m c 4 t) (iblk m c 5 t) z))) ?_
  funext h
  fin_cases h
  · exact sink (iblk m c 0 t) 0 0 rfl inb_S8_S1_0 (by decide)
  · exact sink (iblk m c 0 t) 1 1 rfl inb_S8_S1_1 (by decide)
  · exact sink (iblk m c 0 t) 2 2 rfl inb_S8_S1_2 (by decide)
  · exact sink (iblk m c 0 t) 3 3 rfl inb_S8_S1_3 (by decide)
  · exact sink (iblk m c 0 t) 4 4 rfl inb_S8_S1_4 (by decide)
  · exact sink (iblk m c 0 t) 5 5 rfl inb_S8_S1_5 (by decide)
  · exact sink (iblk m c 0 t) 6 6 rfl inb_S8_S1_6 (by decide)
  · exact sink (iblk m c 0 t) 7 7 rfl inb_S8_S1_7 (by decide)
end

end Cert.Proof.SwaBody
end
-- ==== Proof.SwaValue.lean ====
module

public import proofs.«01_k».proof.Proof.SwaEntry
public import proofs.«01_k».proof.Proof.SwaBody
public import proofs.«01_k».proof.Proof.Pure
public import proofs.«01_k».proof.Proof.Gen.SwaIdeal.Frame
public import Idealize.ShloMosaic.Lib.Pipeline.Value
public import Idealize.ShloMosaic.Lib.Pipeline.ValueKit
public import Idealize.ShloMosaic.Lib.Pipeline.ReadBack

@[expose] public section

set_option maxRecDepth 16384
noncomputable section

/-! The sliding-window attention's kernel: its output array after the run is the reference's result over the same arguments. -/

namespace Cert.Proof.SwaValue
open Cert.SwaIdeal Cert.SwaIdeal.Gen Idealize.ShloMosaic Idealize.ShloMosaic.TcCoe Idealize.SL.Sem
open Idealize.ShloMosaic.Pipeline (Dat)
open Cert.Proof.SwaRow Cert.Proof.SwaBody
open Cert.Proof.SwaRef (res sc bq ks vs pad row qcol kcol vcol ocol hd bq_apply ks_apply vs_apply two_apply sc_apply)

/-- The windows' block indices at every grid point. -/
theorem idx : ∀ t : Fin cfg0.N, win0_0.index t = ![0] ∧ win0_1.index t = ![0, t.val, 0] ∧ win0_2.index t = ![0, t.val - 1, 28] ∧ win0_3.index t = ![0, t.val, 28]
    ∧ win0_4.index t = ![0, t.val - 1, 8] ∧ win0_5.index t = ![0, t.val, 8] ∧ win0_6.index t = ![0, t.val, 0] :=
  (by decide +kernel : ∀ t : Fin grid0.N, _)

/-- The grid has 64 points, -/
theorem lt64 (t : Fin cfg0.N) : t.val < 64 := lt_of_lt_of_eq t.isLt N_0
/-- and the second coordinate is the point. -/
theorem coord : ∀ t : Fin cfg0.N, (grid0.coords t 1).val = t.val :=
  (by decide +kernel : ∀ t : Fin grid0.N, _)

/-- A grid point as a block. -/
def blk (t : Fin cfg0.N) : Fin 64 := ⟨t.val, lt64 t⟩
/-- The block before it. -/
def prev (t : Fin cfg0.N) : Fin 64 := ⟨t.val - 1, by have := lt64 t; omega⟩

section
variable (m : (ℓ : Loc nD τ sig) → Buf (Elt Ideal) ℓ) (c : Dev nD)

/-- The queries and keys, -/
abbrev X : FVec Ideal S8192x3840 .bf16 := m ((c : Thread nD τ).loc main_arg0)
/-- the values -/
abbrev Y : FVec Ideal S8192x1280 .bf16 := m ((c : Thread nD τ).loc main_arg1)
/-- and the sinks of the launch. -/
abbrev Z : FVec Ideal S8 .f32 := m ((c : Thread nD τ).loc main_arg2)

/-- The sinks' block. -/
theorem blk0 (t : Fin cfg0.N) (h : Fin 8) : (iblk m c 0 t : FVec Ideal S8 .f32) (ix1 h) = Z m c (ix1 h) := by
  blk_ext [iblk, V, idx t]
/-- The queries' block. -/
theorem blk1 (t : Fin cfg0.N) (r : Fin 128) (e : Fin 512) : (X0_1 m c t : FVec Ideal S1x128x512 .bf16) (ix3 0 r e)
    = X m c (ix2 (row (blk t) r) ⟨e.val, by omega⟩) := by
  unfold X0_1 Pipeline.Window.fill
  rw [dif_pos (moved0_1 t _)]
  unfold SwaRef.row blk
  blk_simp [iblk, idx t]
  entry_read
  pointwise
  blk_ext [idx t]
/-- The previous keys' block, -/
theorem blk2 (t : Fin cfg0.N) (r : Fin 128) (e : Fin 128) : (iblk m c 2 t : FVec Ideal S1x128x128 .bf16) (ix3 0 r e)
    = X m c (ix2 (row (prev t) r) ⟨3584 + e.val, by omega⟩) := by
  unfold SwaRef.row prev
  blk_simp [iblk, idx t]
  entry_read
  pointwise
  blk_ext [idx t]
/-- the current, -/
theorem blk3 (t : Fin cfg0.N) (r : Fin 128) (e : Fin 128) : (iblk m c 3 t : FVec Ideal S1x128x128 .bf16) (ix3 0 r e)
    = X m c (ix2 (row (blk t) r) ⟨3584 + e.val, by omega⟩) := by
  unfold SwaRef.row blk
  blk_simp [iblk, idx t]
  entry_read
  pointwise
  blk_ext [idx t]
/-- the previous values', -/
theorem blk4 (t : Fin cfg0.N) (r : Fin 128) (e : Fin 128) : (iblk m c 4 t : FVec Ideal S1x128x128 .bf16) (ix3 0 r e)
    = Y m c (ix2 (row (prev t) r) ⟨1024 + e.val, by omega⟩) := by
  unfold SwaRef.row prev
  blk_simp [iblk, idx t]
  entry_read
  pointwise
  blk_ext [idx t]
/-- and the current. -/
theorem blk5 (t : Fin cfg0.N) (r : Fin 128) (e : Fin 128) : (iblk m c 5 t : FVec Ideal S1x128x128 .bf16) (ix3 0 r e)
    = Y m c (ix2 (row (blk t) r) ⟨1024 + e.val, by omega⟩) := by
  unfold SwaRef.row blk
  blk_simp [iblk, idx t]
  entry_read
  pointwise
  blk_ext [idx t]

/-- The row of the array that holds key `j` of a grid point. -/
def at_ (t : Fin cfg0.N) (j : Fin 256) : Fin 8192 :=
  if h : j.val < 128 then row (prev t) ⟨j.val, h⟩ else row (blk t) ⟨j.val - 128, by omega⟩

/-- A key of the two blocks, -/
theorem keys (t : Fin cfg0.N) (j : Fin 256) (e : Fin 128) :
    SwaBody.two (iblk m c 2 t) (iblk m c 3 t) j e = X m c (ix2 (at_ t j) ⟨3584 + e.val, by omega⟩) := by
  unfold SwaBody.two at_
  split_ifs
  · exact blk2 m c t _ e
  · exact blk3 m c t _ e
/-- and a value. -/
theorem vals (t : Fin cfg0.N) (j : Fin 256) (e : Fin 128) :
    SwaBody.two (iblk m c 4 t) (iblk m c 5 t) j e = Y m c (ix2 (at_ t j) ⟨1024 + e.val, by omega⟩) := by
  unfold SwaBody.two at_
  split_ifs
  · exact blk4 m c t _ e
  · exact blk5 m c t _ e

/-- For an admitted key it is the row the padded array has there. -/
theorem at_val (t : Fin cfg0.N) (j : Fin 256) (h : 128 ≤ 128 * t.val + j.val) : (at_ t j).val = 128 * t.val + j.val - 128 := by
  unfold at_ SwaRef.row prev blk
  split_ifs <;> (dsimp only; omega)

/-- The rows the reference sees at an admitted key. -/
theorem two_at (u : FVec Ideal Cert.SwaReferenceIdeal.S2x8192x64 .f32) (a : Fin 2) (t : Fin cfg0.N) (j : Fin 256) (d : Fin 64) (h : 128 ≤ 128 * t.val + j.val) :
    SwaRef.two (pad u) (ix4 a (blk t) j d) = u (ix3 a (at_ t j) d) := by
  rw [two_apply, dif_pos (show 128 ≤ 128 * (blk t).val + j.val from h)]
  exact congrArg (fun e => u (ix3 a e d)) (Fin.ext (at_val t j h).symm)

/-- The arguments' queries, keys and sinks are real numbers. -/
def RealArgs : Prop := (∀ (l : Fin 8192) (e : Fin 512), ∃ a : ℝ, X m c (ix2 l ⟨e.val, by omega⟩) = a)
  ∧ (∀ (l : Fin 8192) (e : Fin 128), ∃ a : ℝ, X m c (ix2 l ⟨3584 + e.val, by omega⟩) = a) ∧ ∀ k : Fin 8, ∃ a : ℝ, Z m c (ix1 k) = a

/-- A sum of real numbers is real. -/
theorem real_sum (f : Fin 64 → EReal) (h : ∀ d, ∃ a : ℝ, f d = a) : ∃ a : ℝ, ∑ d, f d = a := by
  choose g hg using h
  refine ⟨∑ d, g d, ?_⟩
  rw [Softmax.coe_fsum]
  exact Finset.sum_congr rfl fun d _ => hg d

/-- The kernel's score, before the mask. -/
def kscore (t : Fin cfg0.N) (h : Fin 8) (r : Fin 128) (j : Fin 256) : EReal :=
  raw (X0_1 m c t) (iblk m c 2 t) (iblk m c 3 t) h r j

/-- It is real. -/
theorem kscore_real (hf : RealArgs m c) (t : Fin cfg0.N) (h : Fin 8) (r : Fin 128) (j : Fin 256) : ∃ a : ℝ, kscore m c t h r j = a := by
  unfold kscore raw
  refine real_sum _ fun d => ?_
  rw [blk1, keys, Pure.eighth_bf16]
  obtain ⟨a, ha⟩ := hf.1 (row (blk t) r) ⟨h.val * 64 + d.val, by omega⟩
  obtain ⟨b, hb⟩ := hf.2.1 (at_ t j) ⟨h.val / 4 * 64 + d.val, by omega⟩
  refine ⟨a * (1 / 8) * b, ?_⟩
  rw [EReal.coe_mul, EReal.coe_mul, ← ha, ← hb]

/-- For an admitted key it is the reference's. -/
theorem kscore_eq (t : Fin cfg0.N) (a : Fin 2) (b : Fin 4) (r : Fin 128) (j : Fin 256) (hj : 128 ≤ 128 * t.val + j.val) :
    kscore m c t (hd a b) r j = sc (X m c) (ix5 a b (blk t) r j) := by
  unfold kscore raw
  rw [sc_apply, Pure.eighth_f32, mul_comm _ (((1 / 8 : ℝ)) : EReal), ← pull _ _ (by norm_num)]
  refine Finset.sum_congr rfl fun d _ => ?_
  rw [blk1, keys, Pure.eighth_bf16, two_at _ _ _ _ _ hj, ks_apply, bq_apply, mul_comm _ (((1 / 8 : ℝ)) : EReal), mul_assoc, mul_comm (X m c _) (X m c _)]
  have e : (⟨3584 + ((hd a b).val / 4 * 64 + d.val), by have := (hd a b).isLt; omega⟩ : Fin 3840) = kcol a d := by
    unfold kcol hd
    refine Fin.ext ?_
    have := b.isLt
    show 3584 + ((a.val * 4 + b.val) / 4 * 64 + d.val) = 3584 + (a.val * 64 + d.val)
    omega
  exact congrArg₂ (· * ·) rfl (congrArg₂ (· * ·) (congrArg (fun e => X m c (ix2 (at_ t j) e)) e) rfl)

/-- The value of an admitted key is the reference's. -/
theorem val_eq (t : Fin cfg0.N) (a : Fin 2) (b : Fin 4) (d : Fin 64) (j : Fin 256) (hj : 128 ≤ 128 * t.val + j.val) :
    SwaBody.two (iblk m c 4 t) (iblk m c 5 t) j ⟨(hd a b).val / 4 * 64 + d.val, by have := (hd a b).isLt; omega⟩ = SwaRef.two (pad (vs (Y m c))) (ix4 a (blk t) j d) := by
  rw [vals, two_at _ _ _ _ _ hj, vs_apply]
  refine congrArg (fun e => Y m c (ix2 (at_ t j) e)) ?_
  unfold vcol hd
  refine Fin.ext ?_
  have := b.isLt
  show 1024 + ((a.val * 4 + b.val) / 4 * 64 + d.val) = 1024 + (a.val * 64 + d.val)
  omega

/-- The reference's result over the kernel's arguments. -/
def REF : FVec Ideal S1x8192x512 .bf16 := res (X m c) (Y m c) (Z m c)

/-- The block of a grid point is the reference's. -/
theorem point (hf : RealArgs m c) (t : Fin cfg0.N) (a : Fin 2) (b : Fin 4) (r : Fin 128) (d : Fin 64) :
    outsAt0 m c t (ix3 0 r (ocol a b d)) = REF m c (ix3 0 (row (blk t) r) (ocol a b d)) := by
  unfold REF
  rw [SwaEntry.res_apply, outs]
  refine (cat_apply _ (hd a b) r d).trans ?_
  rw [heads_apply, coord, blk0]
  have eS : S (X0_1 m c t) (iblk m c 2 t) (iblk m c 3 t) t.val (hd a b) r = fun j => msk (blk t).val r.val j.val (sc (X m c) (ix5 a b (blk t) r j)) := by
    funext j
    show msk t.val r.val j.val (kscore m c t (hd a b) r j) = msk t.val r.val j.val _
    unfold msk
    split_ifs with h
    · exact kscore_eq m c t a b r j h.2.2
    · rfl
  rw [← eS]
  obtain ⟨y, hy⟩ := hf.2.2 (hd a b)
  refine SwaRow.row _ _ _ _ (fun j => ?_) ⟨r.val + 128, by omega⟩ ?_ y hy (fun j hj => ?_)
  · refine msk_ne_top _ _ _ _ ?_
    obtain ⟨s, hs⟩ := kscore_real m c hf t (hd a b) r j
    rw [show raw (X0_1 m c t) (iblk m c 2 t) (iblk m c 3 t) (hd a b) r j = (s : EReal) from hs]
    exact EReal.coe_ne_top s
  · obtain ⟨s, hs⟩ := kscore_real m c hf t (hd a b) r ⟨r.val + 128, by omega⟩
    show msk t.val r.val (r.val + 128) (kscore m c t (hd a b) r ⟨r.val + 128, by omega⟩) ≠ ⊥
    rw [msk_self _ _ _ r.isLt, hs]
    exact EReal.coe_ne_bot s
  · exact val_eq m c t a b d j (adm_of _ _ _ _ hj).2.2

/-- THE KERNEL'S OUTPUT, whole: the reference's result. -/
theorem final (hf : RealArgs m c) : (dats m 0 c).arrAt 6 (cfgs 0).N = REF m c := by
  refine (dats m 0 c).arrAt_eq_of_covers 6 _ (by decide +kernel) fun t _ y => ?_
  blk_simp
  rw [after0_6]
  obtain ⟨q, r, e, rfl⟩ : ∃ (q : Fin 1) (r : Fin 128) (e : Fin 512), y = ix3 q r e := ⟨y 0, y 1, y 2, (ix3_eta y).symm⟩
  obtain rfl : q = 0 := Subsingleton.elim _ _
  obtain ⟨a, b, d, rfl⟩ : ∃ (a : Fin 2) (b : Fin 4) (d : Fin 64), e = ocol a b d := by
    refine ⟨⟨e.val / 256, by omega⟩, ⟨e.val / 64 % 4, by omega⟩, ⟨e.val % 64, by omega⟩, Fin.ext ?_⟩
    unfold ocol
    show e.val = (e.val / 256 * 4 + e.val / 64 % 4) * 64 + e.val % 64
    omega
  rw [point m c hf t a b r d]
  unfold SwaRef.row blk
  blk_ext [idx t]
end

/-- The run: the output array is the reference's, and the arguments are as launched. -/
theorem run (m : (ℓ : Loc nD τ sig) → Buf (Elt Ideal) ℓ) (ρ : Dev nD → PrngReg) (hf : ∀ c, RealArgs m c) :
    θ_run defs (onTc (τ := τ) (main (F := Ideal))) ⟨m, fun _ => 0, ρ⟩ fun r => ∀ c : Dev nD,
      r.2.mem ((c : Thread nD τ).loc main_v3) = REF m c
      ∧ r.2.mem ((c : Thread nD τ).loc main_arg0) = m ((c : Thread nD τ).loc main_arg0) ∧ r.2.mem ((c : Thread nD τ).loc main_arg1) = m ((c : Thread nD τ).loc main_arg1) ∧ r.2.mem ((c : Thread nD τ).loc main_arg2) = m ((c : Thread nD τ).loc main_arg2) :=
  (θ_run _ _ _).mono (fun r h c => ⟨((h.1 c).1 6).trans (final m c (hf c)), h.2 c⟩)
    (θ_run_and (run_main (F := Ideal) m ρ) (unchanged (F := Ideal) m ρ))

end Cert.Proof.SwaValue
end
-- ==== Proof.BandRow.lean ====
module

public import proofs.«01_k».proof.Proof.SwaRow
public import Idealize.ShloMosaic.Lib.WordCmp

@[expose] public section

set_option maxRecDepth 16384
noncomputable section

/-! One row of the dilated band attention: the softmax of masked scores, its logarithm of the denominator, and which keys
    a row admits. Nothing here asks a score or a value to be a real number. -/

namespace Cert.Proof.BandRow
open Idealize.ShloMosaic Cert.Proof.Softmax Cert.Proof.SwaRow

/-- The largest score. -/
def top (S : Fin 256 → EReal) : EReal := Finset.univ.fold max ⊥ S
/-- The sum of the exponentials. -/
def den (S : Fin 256 → EReal) : EReal := ∑ j, Ideal.exp (S j - top S)
/-- The softmax's average of the values. -/
def avg (S v : Fin 256 → EReal) : EReal := Ideal.div (∑ j, Ideal.exp (S j - top S) * v j) (den S)
/-- The logarithm of the softmax's denominator. -/
def lse (S : Fin 256 → EReal) : EReal := top S + Ideal.log (den S)

/-- The average asks for the values of unmasked keys only, and the order of a product does not matter. -/
theorem avg_eq (S v w : Fin 256 → EReal) (hv : ∀ j, S j ≠ ⊥ → v j = w j) :
    avg S v = Ideal.div (∑ j, w j * Ideal.exp (S j - top S)) (den S) := by
  unfold avg
  congr 1
  refine Finset.sum_congr rfl fun j _ => ?_
  by_cases h : S j = ⊥
  · rw [h, EReal.bot_sub, Ideal.exp_bot, zero_mul, mul_zero]
  · rw [hv j h, mul_comm]

/-- Key `j` of the 256 that the block `n` of queries sees is admitted for its row `r`: at most 128 before it. -/
def adm (n r j : ℕ) : Prop := j ≤ r + 128 ∧ r ≤ j ∧ 128 ≤ 128 * n + j

instance (n r j : ℕ) : Decidable (adm n r j) := inferInstanceAs (Decidable (_ ∧ _ ∧ _))

/-- The two comparisons of the distance. -/
theorem band (r j : ℕ) (hr : r < 128) (hj : j < 256) :
    IntOp.andi (IntOp.cmpi .sge (IntOp.subi (IntOp.addi (BitVec.ofNat 32 r) 128#32) (BitVec.ofNat 32 j)) 0#32)
      (IntOp.cmpi .sle (IntOp.subi (IntOp.addi (BitVec.ofNat 32 r) 128#32) (BitVec.ofNat 32 j)) 128#32) = 1#1 ↔ j ≤ r + 128 ∧ r ≤ j := by
  rw [IntOp.andi_eq_one, IntOp.cmpi_sge, IntOp.cmpi_sle, dist r j hr hj]
  have e0 : (0#32).toInt = 0 := by decide
  have e1 : (128#32).toInt = 128 := by decide
  rw [e0, e1]
  omega

/-- A masked score: minus infinity where the key is not admitted. -/
def msk (n r j : ℕ) (s : EReal) : EReal := if adm n r j then s else ⊥

/-- The mask of the form whose keys start with zeros. -/
theorem sel_ref (n r j : ℕ) (hn : n < 64) (hr : r < 128) (hj : j < 256) (s : EReal) :
    Scalar.select (IntOp.andi (IntOp.andi (IntOp.cmpi .sge (IntOp.subi (IntOp.addi (BitVec.ofNat 32 r) 128#32) (BitVec.ofNat 32 j)) 0#32)
      (IntOp.cmpi .sle (IntOp.subi (IntOp.addi (BitVec.ofNat 32 r) 128#32) (BitVec.ofNat 32 j)) 128#32))
      (IntOp.cmpi .sge (IntOp.addi (IntOp.subi (IntOp.muli (BitVec.ofNat 32 n) 128#32) 128#32) (BitVec.ofNat 32 j)) 0#32)) s ⊥ = msk n r j s := by
  unfold Scalar.select msk
  have e0 : (0#32).toInt = 0 := by decide
  refine if_congr (IntOp.andi_eq_one.trans ?_) rfl rfl
  rw [band r j hr hj, IntOp.cmpi_sge, place n j hn hj, e0]
  unfold adm
  omega

/-- The mask of the form that excludes the first block's previous keys by a bound on the column. -/
theorem sel_ker (n r j : ℕ) (hn : n < 64) (hr : r < 128) (hj : j < 256) (s : EReal) :
    Scalar.select (IntOp.andi (IntOp.andi (IntOp.cmpi .sge (IntOp.subi (IntOp.addi (BitVec.ofNat 32 r) 128#32) (BitVec.ofNat 32 j)) 0#32)
      (IntOp.cmpi .sle (IntOp.subi (IntOp.addi (BitVec.ofNat 32 r) 128#32) (BitVec.ofNat 32 j)) 128#32))
      (IntOp.cmpi .sge (BitVec.ofNat 32 j) (Scalar.select (Scalar.cmpi .sgt (BitVec.ofNat 32 n) 0#32) 0#32 128#32))) s ⊥ = msk n r j s := by
  have e0 : (0#32).toInt = 0 := by decide
  have e1 : (128#32).toInt = 128 := by decide
  have ej : (BitVec.ofNat 32 j).toInt = j := word _ (by omega)
  have en : (BitVec.ofNat 32 n).toInt = n := word _ (by omega)
  have hc : Scalar.cmpi .sgt (BitVec.ofNat 32 n) 0#32 = 1#1 ↔ 0 < n := by
    refine (IntOp.cmpi_sgt).trans ?_
    rw [e0, en]; omega
  unfold Scalar.select msk
  refine if_congr (IntOp.andi_eq_one.trans ?_) rfl rfl
  rw [band r j hr hj, IntOp.cmpi_sge, ej]
  unfold adm
  by_cases h : 0 < n
  · rw [if_pos (show Scalar.cmpi .sgt (BitVec.ofNat 32 n) 0#32 = 1 from hc.2 h), e0]; omega
  · rw [if_neg (show ¬ Scalar.cmpi .sgt (BitVec.ofNat 32 n) 0#32 = 1 from fun e => h (hc.1 e)), e1]; omega

/-- A score that is not masked belongs to an admitted key. -/
theorem adm_of (n r j : ℕ) (s : EReal) (h : msk n r j s ≠ ⊥) : adm n r j := by
  by_contra hn
  apply h
  unfold msk
  rw [if_neg hn]

/-- A selection by the equality of two small numbers. -/
theorem sel_eq (a b : ℕ) (ha : a < 2147483648) (hb : b < 2147483648) (x y : EReal) :
    Scalar.select (IntOp.cmpi .eq (BitVec.ofNat 32 a) (BitVec.ofNat 32 b)) x y = if a = b then x else y := by
  have h : IntOp.cmpi .eq (BitVec.ofNat 32 a) (BitVec.ofNat 32 b) = 1 ↔ a = b := by
    refine IntOp.cmpi_eq.trans ?_
    constructor
    · intro e
      have := congrArg BitVec.toNat e
      rw [BitVec.toNat_ofNat, BitVec.toNat_ofNat] at this
      omega
    · rintro rfl
      rfl
  unfold Scalar.select
  exact if_congr h rfl rfl

end Cert.Proof.BandRow
end
-- ==== Proof.BandRef.lean ====
module

public import proofs.«01_k».proof.Proof.Gen.BandReferenceIdeal.Run
public import proofs.«01_k».proof.Proof.BandRow
public import Idealize.ShloMosaic.Lib.Pointwise

@[expose] public section

set_option maxRecDepth 16384
noncomputable section

/-! The dilated band attention's reference, entry by entry. -/

namespace Cert.Proof.BandRef
open Cert.BandReferenceIdeal Cert.BandReferenceIdeal.Gen Idealize.ShloMosaic Idealize.ShloMosaic.TcCoe Idealize.SL.Sem Idealize.ShloMosaic.StableHlo
open Cert.Proof.BandRow

variable (X : FVec Ideal S8192x3840 .bf16) (V : FVec Ideal S8192x1280 .bf16)

/-- The residue classes of the rows, class by class: one class here. -/
def fold (u : FVec Ideal S8x8192x64 .f32) : FVec Ideal S8x8192x64 .f32 :=
  shapeCast _ (transpose S1x8x8192x64 [2, 0, 1, 3] (shapeCast _ u shapeCasts_S8x8192x64_S8x8192x1x64) transposes_S8x8192x1x64_S1x8x8192x64_2_0_1_3) shapeCasts_S1x8x8192x64_S8x8192x64
/-- Columns of the projections, by head. -/
def byHead (u : FVec Ideal S8192x512 .bf16) : FVec Ideal S8x8192x64 .f32 :=
  fold (transpose S8x8192x64 [1, 0, 2] (shapeCast _ (extf .f32 u bitsLt_bf16_f32) shapeCasts_S8192x512_S8192x8x64) transposes_S8192x8x64_S8x8192x64_1_0_2)
/-- The queries, by head, block, row. -/
def bq : FVec Ideal S8x1x64x128x64 .f32 :=
  shapeCast _ (broadcastInDim S8x1x8192x64 ![0, 2, 3] bcast_S8x8192x64_S8x1x8192x64_0_2_3 (byHead (extractStridedSlice S8192x512 ![0, 1536] X slices_S8192x3840_S8192x512_0_1536))) shapeCasts_S8x1x8192x64_S8x1x64x128x64
/-- The keys by head. -/
def ks : FVec Ideal S8x8192x64 .f32 := byHead (extractStridedSlice S8192x512 ![0, 2048] X slices_S8192x3840_S8192x512_0_2048)
/-- The values by head. -/
def vs : FVec Ideal S8x8192x64 .f32 := byHead (extractStridedSlice S8192x512 ![0, 512] V slices_S8192x1280_S8192x512_0_512)
/-- A block of zeros in front, cut into blocks. -/
def pad (u : FVec Ideal S8x8192x64 .f32) : FVec Ideal S8x65x128x64 .f32 :=
  shapeCast _ (concatenate S8x8320x64 1 [⟨S8x128x64, (broadcastInDim S8x128x64 ![] bcast_S_S8x128x64 (constant S_ .f32 0x00000000#32))⟩, ⟨S8x8192x64, u⟩] concatenates_S8x128x64_S8x8192x64_S8x8320x64_d1) shapeCasts_S8x8320x64_S8x65x128x64
/-- Each block after the one before it. -/
def two (p : FVec Ideal S8x65x128x64 .f32) : FVec Ideal S8x64x256x64 .f32 :=
  concatenate S8x64x256x64 2 [⟨S8x64x128x64, (extractStridedSlice S8x64x128x64 ![0, 0, 0, 0] p slices_S8x65x128x64_S8x64x128x64_0_0_0_0)⟩, ⟨S8x64x128x64, (extractStridedSlice S8x64x128x64 ![0, 1, 0, 0] p slices_S8x65x128x64_S8x64x128x64_0_1_0_0)⟩] concatenates_S8x64x128x64_S8x64x128x64_S8x64x256x64_d2
/-- The scores before the mask. -/
def sc : FVec Ideal S8x1x64x128x256 .f32 :=
  mulf (transpose S8x1x64x128x256 [0, 3, 1, 4, 2] (Host.dotGeneral dot_S8x64x256x64_S8x1x64x128x64_S8x64x256x1x128_3_4_2_13_01_02 none (two (pad (ks X))) (bq X)) transposes_S8x64x256x1x128_S8x1x64x128x256_0_3_1_4_2) (broadcastInDim S8x1x64x128x256 ![] bcast_S_S8x1x64x128x256 (constant S_ .f32 0x3E000000#32))
/-- The mask. -/
def mask : IVec S64x128x256 1 :=
  andi (broadcastInDim S64x128x256 ![0, 1, 2] bcast_S1x128x256_S64x128x256_0_1_2 (broadcastInDim S1x128x256 ![1, 2] bcast_S128x256_S1x128x256_1_2 (andi (cmpi .sge (subi (broadcastInDim S128x256 ![0, 1] bcast_S128x1_S128x256_0_1 (addi (broadcastInDim S128x1 ![0] bcast_S128_S128x1_0 (iotaInDim S128 32 0)) (broadcastInDim S128x1 ![] bcast_S_S128x1 (constantI S_ 32 128#32)))) (broadcastInDim S128x256 ![0, 1] bcast_S1x256_S128x256_0_1 (broadcastInDim S1x256 ![1] bcast_S256_S1x256_1 (iotaInDim S256 32 0)))) (broadcastInDim S128x256 ![] bcast_S_S128x256 (constantI S_ 32 0#32))) (cmpi .sle (subi (broadcastInDim S128x256 ![0, 1] bcast_S128x1_S128x256_0_1 (addi (broadcastInDim S128x1 ![0] bcast_S128_S128x1_0 (iotaInDim S128 32 0)) (broadcastInDim S128x1 ![] bcast_S_S128x1 (constantI S_ 32 128#32)))) (broadcastInDim S128x256 ![0, 1] bcast_S1x256_S128x256_0_1 (broadcastInDim S1x256 ![1] bcast_S256_S1x256_1 (iotaInDim S256 32 0)))) (broadcastInDim S128x256 ![] bcast_S_S128x256 (constantI S_ 32 128#32)))))) (broadcastInDim S64x128x256 ![0, 1, 2] bcast_S64x1x256_S64x128x256_0_1_2 (cmpi .sge (addi (broadcastInDim S64x1x256 ![0, 1, 2] bcast_S64x1x1_S64x1x256_0_1_2 (subi (muli (broadcastInDim S64x1x1 ![0] bcast_S64_S64x1x1_0 (iotaInDim S64 32 0)) (broadcastInDim S64x1x1 ![] bcast_S_S64x1x1 (constantI S_ 32 128#32))) (broadcastInDim S64x1x1 ![] bcast_S_S64x1x1 (constantI S_ 32 128#32)))) (broadcastInDim S64x1x256 ![0, 1, 2] bcast_S1x1x256_S64x1x256_0_1_2 (broadcastInDim S1x1x256 ![1, 2] bcast_S1x256_S1x1x256_1_2 (broadcastInDim S1x256 ![1] bcast_S256_S1x256_1 (iotaInDim S256 32 0))))) (broadcastInDim S64x1x256 ![] bcast_S_S64x1x256 (constantI S_ 32 0#32))))
/-- The masked scores. -/
def ms : FVec Ideal S8x1x64x128x256 .f32 :=
  select (broadcastInDim S8x1x64x128x256 ![2, 3, 4] bcast_S64x128x256_S8x1x64x128x256_2_3_4 mask) (sc X) (broadcastInDim S8x1x64x128x256 ![] bcast_S_S8x1x64x128x256 (id (constant S_ .f32 0xFF800000#32)))
/-- The row maxima. -/
def mx (s : FVec Ideal S8x1x64x128x256 .f32) : FVec Ideal S8x1x64x128 .f32 :=
  Host.reduce FloatOps.maximumf s (constant S_ .f32 0xFF800000#32) reducesTo_S8x1x64x128x256_S8x1x64x128_d4 h_S_
/-- The exponentials. -/
def ex (s : FVec Ideal S8x1x64x128x256 .f32) (m : FVec Ideal S8x1x64x128 .f32) : FVec Ideal S8x1x64x128x256 .f32 :=
  Host.exp (subf s (broadcastInDim S8x1x64x128x256 ![0, 1, 2, 3, 4] bcast_S8x1x64x128x1_S8x1x64x128x256_0_1_2_3_4 (broadcastInDim S8x1x64x128x1 ![0, 1, 2, 3] bcast_S8x1x64x128_S8x1x64x128x1_0_1_2_3 m)))
/-- Their sums. -/
def sm (p : FVec Ideal S8x1x64x128x256 .f32) : FVec Ideal S8x1x64x128 .f32 :=
  Host.reduceAdd p (constant S_ .f32 0x00000000#32) reducesTo_S8x1x64x128x256_S8x1x64x128_d4 h_S_
/-- The sums of the values weighted by them. -/
def ac (p : FVec Ideal S8x1x64x128x256 .f32) : FVec Ideal S8x1x64x128x64 .f32 :=
  transpose S8x1x64x128x64 [0, 3, 1, 4, 2] (Host.dotGeneral dot_S8x64x256x64_S8x1x64x128x256_S8x64x64x1x128_2_4_3_13_01_02 none (two (pad (vs V))) p) transposes_S8x64x64x1x128_S8x1x64x128x64_0_3_1_4_2
/-- Rows of blocks, in line. -/
def flat (m : FVec Ideal S8x1x64x128 .f32) : FVec Ideal S8x1x8192 .f32 := shapeCast _ m shapeCasts_S8x1x64x128_S8x1x8192
/-- The heads' averages, side by side. -/
def outs (a : FVec Ideal S8x1x64x128x64 .f32) (l : FVec Ideal S8x1x8192 .f32) : FVec Ideal S1x8192x512 .f32 :=
  shapeCast _ (transpose S1x8192x8x64 [0, 2, 1, 3] (shapeCast _ (Host.divf (shapeCast _ a shapeCasts_S8x1x64x128x64_S8x1x8192x64) (broadcastInDim S8x1x8192x64 ![0, 1, 2, 3] bcast_S8x1x8192x1_S8x1x8192x64_0_1_2_3 (broadcastInDim S8x1x8192x1 ![0, 1, 2] bcast_S8x1x8192_S8x1x8192x1_0_1_2 l))) shapeCasts_S8x1x8192x64_S1x8x8192x64) transposes_S1x8x8192x64_S1x8192x8x64_0_2_1_3) shapeCasts_S1x8192x8x64_S1x8192x512
/-- The heads' logarithms of the denominators. -/
def logs (m l : FVec Ideal S8x1x8192 .f32) : FVec Ideal S1x8192x8 .f32 :=
  transpose S1x8192x8 [0, 2, 1] (shapeCast _ (addf m (Host.log l)) shapeCasts_S8x1x8192_S1x8x8192) transposes_S1x8x8192_S1x8192x8_0_2_1
/-- Averages, logarithms and zeros. -/
def all (o : FVec Ideal S1x8192x512 .f32) (e : FVec Ideal S1x8192x8 .f32) : FVec Ideal S1x8192x640 .f32 :=
  concatenate S1x8192x640 2 [⟨S1x8192x512, o⟩, ⟨S1x8192x8, e⟩, ⟨S1x8192x120, (broadcastInDim S1x8192x120 ![] bcast_S_S1x8192x120 (constant S_ .f32 0x00000000#32))⟩] concatenates_S1x8192x512_S1x8192x8_S1x8192x120_S1x8192x640_d2
/-- The row maxima of the scores, -/
def MX : FVec Ideal S8x1x64x128 .f32 := mx (ms X)
/-- their exponentials, -/
def EX : FVec Ideal S8x1x64x128x256 .f32 := ex (ms X) (MX X)
/-- and the whole result. -/
def res : FVec Ideal S1x8192x640 .f32 :=
  all (outs (ac V (EX X)) (flat (sm (EX X)))) (logs (flat (MX X)) (flat (sm (EX X))))

/-- The reference's composed term is the staged result. -/
theorem res_eq (m : (ℓ : Loc nD τ sig) → Buf (Elt Ideal) ℓ) (c : Dev nD) :
    Cert.BandReferenceIdeal.Value.res_out0 (F := Ideal) m c
      = res (m ((c.tc : Thread nD τ).loc main_arg0)) (m ((c.tc : Thread nD τ).loc main_arg1)) := by
  unfold Cert.BandReferenceIdeal.Value.res_out0 Cert.BandReferenceIdeal.Value.res_main_v92
  rfl

/-- Row `r` of block `n`. -/
def row (n : Fin 64) (r : Fin 128) : Fin 8192 := ⟨n.val * 128 + r.val, by omega⟩
/-- The column of a query entry, -/
def qcol (h : Fin 8) (d : Fin 64) : Fin 3840 := ⟨1536 + (h.val * 64 + d.val), by omega⟩
/-- of a key entry, -/
def kcol (h : Fin 8) (d : Fin 64) : Fin 3840 := ⟨2048 + (h.val * 64 + d.val), by omega⟩
/-- of a value entry, -/
def vcol (h : Fin 8) (d : Fin 64) : Fin 1280 := ⟨512 + (h.val * 64 + d.val), by omega⟩
/-- of an average, -/
def ocol (h : Fin 8) (d : Fin 64) : Fin 640 := ⟨h.val * 64 + d.val, by omega⟩
/-- of a logarithm, -/
def lcol (h : Fin 8) : Fin 640 := ⟨512 + h.val, by omega⟩
/-- and of a zero. -/
def zcol (x : Fin 120) : Fin 640 := ⟨520 + x.val, by omega⟩

/-- A folded entry is the entry. -/
theorem fold_apply (u : FVec Ideal S8x8192x64 .f32) (h : Fin 8) (l : Fin 8192) (d : Fin 64) : fold u (ix3 h l d) = u (ix3 h l d) := by
  pointwise [fold]
/-- An entry by head. -/
theorem byHead_apply (u : FVec Ideal S8192x512 .bf16) (h : Fin 8) (l : Fin 8192) (d : Fin 64) :
    byHead u (ix3 h l d) = u (ix2 l ⟨h.val * 64 + d.val, by omega⟩) := by
  unfold byHead
  rw [fold_apply]
  pointwise
/-- A query entry. -/
theorem bq_apply (h : Fin 8) (n : Fin 64) (r : Fin 128) (d : Fin 64) : bq X (ix5 h 0 n r d) = X (ix2 (row n r) (qcol h d)) := by
  have e : bq X (ix5 h 0 n r d) = byHead (extractStridedSlice S8192x512 ![0, 1536] X slices_S8192x3840_S8192x512_0_1536) (ix3 h (row n r) d) := by
    unfold bq row
    generalize byHead _ = u
    pointwise
  rw [e, byHead_apply]
  unfold qcol
  pointwise
/-- A key entry. -/
theorem ks_apply (h : Fin 8) (l : Fin 8192) (d : Fin 64) : ks X (ix3 h l d) = X (ix2 l (kcol h d)) := by
  unfold ks kcol
  rw [byHead_apply]
  pointwise
/-- A value entry. -/
theorem vs_apply (h : Fin 8) (l : Fin 8192) (d : Fin 64) : vs V (ix3 h l d) = V (ix2 l (vcol h d)) := by
  unfold vs vcol
  rw [byHead_apply]
  pointwise
/-- The rows a block sees: zeros before the first. -/
theorem two_apply (u : FVec Ideal S8x8192x64 .f32) (a : Fin 8) (n : Fin 64) (j : Fin 256) (d : Fin 64) :
    two (pad u) (ix4 a n j d) = if h : 128 ≤ 128 * n.val + j.val then u (ix3 a ⟨128 * n.val + j.val - 128, by omega⟩ d) else 0 := by
  pointwise [two, pad]
  by_cases h : 128 ≤ 128 * n.val + j.val
  · rw [dif_pos h]
    split_ifs <;> first
      | (exfalso; omega)
      | exact congrArg (fun e => u (ix3 a e d)) (Fin.ext (by dsimp only; omega))
  · rw [dif_neg h]
    split_ifs <;> first
      | rfl
      | (exfalso; omega)
/-- The mask. -/
theorem mask_apply (n : Fin 64) (r : Fin 128) (j : Fin 256) : mask (ix3 n r j)
    = IntOp.andi (IntOp.andi (IntOp.cmpi .sge (IntOp.subi (IntOp.addi (BitVec.ofNat 32 r.val) 128#32) (BitVec.ofNat 32 j.val)) 0#32)
      (IntOp.cmpi .sle (IntOp.subi (IntOp.addi (BitVec.ofNat 32 r.val) 128#32) (BitVec.ofNat 32 j.val)) 128#32))
      (IntOp.cmpi .sge (IntOp.addi (IntOp.subi (IntOp.muli (BitVec.ofNat 32 n.val) 128#32) 128#32) (BitVec.ofNat 32 j.val)) 0#32) := by
  pointwise [mask]
/-- A score before the mask. -/
theorem sc_apply (h : Fin 8) (n : Fin 64) (r : Fin 128) (j : Fin 256) : sc X (ix5 h 0 n r j)
    = (∑ d : Fin 64, two (pad (ks X)) (ix4 h n j d) * bq X (ix5 h 0 n r d)) * Ideal.ofBits .f32 0x3E000000#32 := by
  unfold sc
  generalize two (pad (ks X)) = K
  generalize bq X = Q
  pointwise
/-- A masked score. -/
theorem ms_apply (h : Fin 8) (n : Fin 64) (r : Fin 128) (j : Fin 256) : ms X (ix5 h 0 n r j)
    = Scalar.select (mask (ix3 n r j)) (sc X (ix5 h 0 n r j)) (Ideal.ofBits .f32 0xFF800000#32) := by
  unfold ms
  generalize mask = M
  generalize sc X = S
  pointwise
  rfl
/-- A row maximum. -/
theorem mx_apply (s : FVec Ideal S8x1x64x128x256 .f32) (h : Fin 8) (n : Fin 64) (r : Fin 128) :
    mx s (ix4 h 0 n r) = Finset.univ.fold max (Ideal.ofBits .f32 0xFF800000#32) fun j : Fin 256 => s (ix5 h 0 n r j) := by
  pointwise [mx]
/-- An exponential. -/
theorem ex_apply (s : FVec Ideal S8x1x64x128x256 .f32) (m : FVec Ideal S8x1x64x128 .f32) (h : Fin 8) (n : Fin 64) (r : Fin 128) (j : Fin 256) :
    ex s m (ix5 h 0 n r j) = Ideal.exp (s (ix5 h 0 n r j) - m (ix4 h 0 n r)) := by
  pointwise [ex]
/-- A sum. -/
theorem sm_apply (p : FVec Ideal S8x1x64x128x256 .f32) (h : Fin 8) (n : Fin 64) (r : Fin 128) :
    sm p (ix4 h 0 n r) = ∑ j : Fin 256, p (ix5 h 0 n r j) := by
  pointwise [sm]
/-- A weighted sum. -/
theorem ac_apply (p : FVec Ideal S8x1x64x128x256 .f32) (h : Fin 8) (n : Fin 64) (r : Fin 128) (d : Fin 64) :
    ac V p (ix5 h 0 n r d) = ∑ j : Fin 256, two (pad (vs V)) (ix4 h n j d) * p (ix5 h 0 n r j) := by
  unfold ac
  generalize two (pad (vs V)) = K
  pointwise
/-- The rows of the blocks, in line. -/
theorem flat_apply (m : FVec Ideal S8x1x64x128 .f32) (h : Fin 8) (n : Fin 64) (r : Fin 128) :
    flat m (ix3 h 0 (row n r)) = m (ix4 h 0 n r) := by
  have e1 : (n.val * 128 + r.val) / 128 = n.val := by omega
  have e2 : (n.val * 128 + r.val) % 128 = r.val := by omega
  unfold row
  pointwise [flat, e1, e2]
/-- An average. -/
theorem outs_apply (A : FVec Ideal S8x1x64x128x64 .f32) (l : FVec Ideal S8x1x8192 .f32) (h : Fin 8) (n : Fin 64) (r : Fin 128) (d : Fin 64) :
    outs A l (ix3 0 (row n r) ⟨h.val * 64 + d.val, by omega⟩) = Ideal.div (A (ix5 h 0 n r d)) (l (ix3 h 0 (row n r))) := by
  unfold row
  pointwise [outs]
/-- A logarithm. -/
theorem logs_apply (m l : FVec Ideal S8x1x8192 .f32) (h : Fin 8) (q : Fin 8192) :
    logs m l (ix3 0 q h) = m (ix3 h 0 q) + Ideal.log (l (ix3 h 0 q)) := by
  pointwise [logs]
/-- The result's averages, -/
theorem all_out (o : FVec Ideal S1x8192x512 .f32) (e : FVec Ideal S1x8192x8 .f32) (q : Fin 8192) (h : Fin 8) (d : Fin 64) :
    all o e (ix3 0 q (ocol h d)) = o (ix3 0 q ⟨h.val * 64 + d.val, by omega⟩) := by
  unfold ocol
  pointwise [all]
  rw [dif_pos (by omega)]
/-- logarithms -/
theorem all_log (o : FVec Ideal S1x8192x512 .f32) (e : FVec Ideal S1x8192x8 .f32) (q : Fin 8192) (h : Fin 8) :
    all o e (ix3 0 q (lcol h)) = e (ix3 0 q h) := by
  unfold lcol
  pointwise [all]
/-- and zeros. -/
theorem all_zero (o : FVec Ideal S1x8192x512 .f32) (e : FVec Ideal S1x8192x8 .f32) (q : Fin 8192) (x : Fin 120) :
    all o e (ix3 0 q (zcol x)) = 0 := by
  unfold zcol
  pointwise [all]
  rw [dif_neg (by omega), dif_neg (by omega)]

end Cert.Proof.BandRef
end
-- ==== Proof.BandEntry.lean ====
module

public import proofs.«01_k».proof.Proof.BandRef
public import Idealize.ShloMosaic.Lib.Pointwise

@[expose] public section

set_option maxRecDepth 16384
noncomputable section

/-! The dilated band attention's reference: what each column of its result holds. -/

namespace Cert.Proof.BandEntry
open Cert.BandReferenceIdeal Cert.BandReferenceIdeal.Gen Idealize.ShloMosaic Idealize.ShloMosaic.TcCoe Idealize.SL.Sem Idealize.ShloMosaic.StableHlo
open Cert.Proof.BandRow Cert.Proof.BandRef

variable (X : FVec Ideal S8192x3840 .bf16) (V : FVec Ideal S8192x1280 .bf16)

/-- The word of minus infinity. -/
theorem bits_bot : Ideal.ofBits .f32 0xFF800000#32 = ⊥ := by
  simp [Ideal.ofBits, Ideal.ieee]

/-- The masked scores of a row. -/
def S (h : Fin 8) (n : Fin 64) (r : Fin 128) (j : Fin 256) : EReal := msk n.val r.val j.val (sc X (ix5 h 0 n r j))

/-- A masked score is the score where the key is admitted. -/
theorem ms_row (h : Fin 8) (n : Fin 64) (r : Fin 128) (j : Fin 256) : ms X (ix5 h 0 n r j) = S X h n r j := by
  rw [ms_apply, mask_apply, bits_bot, sel_ref _ _ _ n.isLt r.isLt j.isLt]
  rfl

/-- A row's maximum. -/
theorem MX_row (h : Fin 8) (n : Fin 64) (r : Fin 128) : MX X (ix4 h 0 n r) = top (S X h n r) := by
  unfold MX top
  rw [mx_apply, bits_bot]
  simp only [ms_row]

/-- A row's exponentials. -/
theorem EX_row (h : Fin 8) (n : Fin 64) (r : Fin 128) (j : Fin 256) : EX X (ix5 h 0 n r j) = Ideal.exp (S X h n r j - top (S X h n r)) := by
  unfold EX
  rw [ex_apply, MX_row, ms_row]

/-- A row's denominator. -/
theorem sm_row (h : Fin 8) (n : Fin 64) (r : Fin 128) : sm (EX X) (ix4 h 0 n r) = den (S X h n r) := by
  unfold den
  rw [sm_apply]
  simp only [EX_row]

/-- A head's average, -/
theorem res_out (h : Fin 8) (n : Fin 64) (r : Fin 128) (d : Fin 64) : res X V (ix3 0 (row n r) (ocol h d))
    = Ideal.div (∑ j : Fin 256, two (pad (vs V)) (ix4 h n j d) * Ideal.exp (S X h n r j - top (S X h n r))) (den (S X h n r)) := by
  unfold res
  rw [all_out, outs_apply, flat_apply, ac_apply, sm_row]
  simp only [EX_row]

/-- the logarithm of its denominator, -/
theorem res_log (h : Fin 8) (n : Fin 64) (r : Fin 128) : res X V (ix3 0 (row n r) (lcol h)) = lse (S X h n r) := by
  unfold res lse
  rw [all_log, logs_apply, flat_apply, flat_apply, MX_row, sm_row]

/-- and a zero. -/
theorem res_zero (q : Fin 8192) (x : Fin 120) : res X V (ix3 0 q (zcol x)) = 0 := by
  unfold res
  rw [all_zero]

end Cert.Proof.BandEntry
end
-- ==== Proof.BandBody.lean ====
module

public import proofs.«01_k».proof.Proof.Gen.BandIdeal.Frame
public import proofs.«01_k».proof.Proof.BandRow
public import Idealize.ShloMosaic.Lib.Pointwise
public import Idealize.ShloMosaic.Lib.Pipeline.Value
public import Idealize.ShloMosaic.Lib.Pipeline.ValueKit
public import Idealize.ShloMosaic.Lib.Pipeline.ReadBack

@[expose] public section

set_option maxRecDepth 16384
noncomputable section

/-! The dilated band attention's body: its block, entry by entry, is the heads' averages and the logarithms of their
    denominators. -/

namespace Cert.Proof.BandBody
open Cert.BandIdeal Cert.BandIdeal.Gen Idealize.ShloMosaic Idealize.ShloMosaic.TcCoe Idealize.SL.Sem
open Cert.Proof.BandRow

/-- The scores of a head: its 64 query columns, from column `n` on, against its keys. -/
def score (n : ℕ) (hs : S128x512.Slices ![0, n] S128x64) (q : FVec Ideal S128x512 .bf16) (k : FVec Ideal S256x64 .bf16) : FVec Ideal S128x256 .f32 :=
  matmul dot_S128x64_S256x64_S128x256_1_1_0_0_n_n none (extractStridedSlice S128x64 ![0, n] q hs) k (constant S128x256 .f32 0x00000000#32)

/-- A score. -/
theorem score_apply (n : ℕ) (hs : S128x512.Slices ![0, n] S128x64) (hn : n + 64 ≤ 512) (q : FVec Ideal S128x512 .bf16) (k : FVec Ideal S256x64 .bf16) (r : Fin 128) (j : Fin 256) :
    score n hs q k (ix2 r j) = ∑ d : Fin 64, q (ix2 r ⟨n + d.val, by omega⟩) * k (ix2 j d) := by
  pointwise [score]

/-- The named constant is minus infinity. -/
theorem named_bot : Named.named (F := Ideal) κ "mask" (φ := .f32) 0xF149F2CA#32 = (⊥ : EReal) :=
  IdealRules.named_const.ideal_named_scalar _ _ _ _ rfl

/-- The word of minus infinity. -/
theorem bits_bot : Ideal.ofBits .f32 0xFF800000#32 = ⊥ := by
  simp [Ideal.ofBits, Ideal.ieee]

/-- The masked scores of a row. -/
def masked (mk : IVec S128x256 1) (s : FVec Ideal S128x256 .f32) (r : Fin 128) (j : Fin 256) : EReal :=
  Scalar.select (mk (ix2 r j)) (s (ix2 r j)) ⊥

/-- A head's average. -/
theorem head_apply (mk : IVec S128x256 1) (v : FVec Ideal S256x64 .bf16) (s : FVec Ideal S128x256 .f32) (r : Fin 128) (d : Fin 64) :
    k0_pay38 (F := Ideal) mk v s (ix2 r d) = avg (masked mk s r) (fun j => v (ix2 j d)) := by
  unfold avg den top masked
  pointwise [k0_pay38, k0_pay37, k0_pay36, k0_pay35, k0_pay34, named_bot, bits_bot]

/-- A head's logarithms of the denominators. -/
def logs (mk : IVec S128x256 1) (s : FVec Ideal S128x256 .f32) : FVec Ideal S128x1 .f32 :=
  addf (k0_pay35 (F := Ideal) mk s) (log (k0_pay37 (F := Ideal) mk s))

/-- A logarithm. -/
theorem logs_apply (mk : IVec S128x256 1) (s : FVec Ideal S128x256 .f32) (r : Fin 128) : logs mk s (ix2 r 0) = lse (masked mk s r) := by
  unfold lse den top masked
  pointwise [logs, k0_pay37, k0_pay36, k0_pay35, k0_pay34, named_bot, bits_bot]

/-- The mask. -/
theorem mask_apply (i : grid0.Coords) (r : Fin 128) (j : Fin 256) : k0_pay5 i (ix2 r j)
    = IntOp.andi (IntOp.andi (IntOp.cmpi .sge (IntOp.subi (IntOp.addi (BitVec.ofNat 32 r.val) 128#32) (BitVec.ofNat 32 j.val)) 0#32)
      (IntOp.cmpi .sle (IntOp.subi (IntOp.addi (BitVec.ofNat 32 r.val) 128#32) (BitVec.ofNat 32 j.val)) 128#32))
      (IntOp.cmpi .sge (BitVec.ofNat 32 j.val) (Scalar.select (Scalar.cmpi .sgt (BitVec.ofNat 32 (i 1).val) 0#32) 0#32 128#32)) := by
  pointwise [k0_pay5]

/-- A query, scaled. -/
theorem pay2 (x : Vec Ideal S1x128x512 .bf16) (r : Fin 128) (e : Fin 512) :
    k0_pay2 (F := Ideal) x (ix2 r e) = x (ix3 0 r e) * Ideal.ofBits .bf16 0x3E00#16 := by
  pointwise [k0_pay2]

/-- Two blocks of 128 rows, one after the other, at an entry. -/
def two (x y : Vec Ideal S1x128x512 .bf16) (j : Fin 256) (e : Fin 512) : EReal :=
  if h : j.val < 128 then x (ix3 0 ⟨j.val, h⟩ e) else y (ix3 0 ⟨j.val - 128, by omega⟩ e)

/-- The columns of a head, of the previous and the current block. -/
def part (n : ℕ) (hs : S256x512.Slices ![0, n] S256x64) (x y : Vec Ideal S1x128x512 .bf16) : FVec Ideal S256x64 .bf16 :=
  extractStridedSlice S256x64 ![0, n] (k0_pay3 (F := Ideal) x y) hs

/-- An entry of them. -/
theorem part_apply (n : ℕ) (hs : S256x512.Slices ![0, n] S256x64) (hn : n + 64 ≤ 512) (x y : Vec Ideal S1x128x512 .bf16) (j : Fin 256) (d : Fin 64) :
    part n hs x y (ix2 j d) = two x y j ⟨n + d.val, by omega⟩ := by
  unfold two
  pointwise [part, k0_pay3]

/-- The tile of logarithms: lane `h` holds those of head `h`, the other lanes zeros. -/
def tile (L : Fin 8 → FVec Ideal S128x1 .f32) : FVec Ideal S128x128 .f32 :=
  let lane : IVec S128x128 32 := iota .tc S128x128 32 [1] iota_S128x128_d1_w32
  let put : BitVec 32 → FVec Ideal S128x1 .f32 → FVec Ideal S128x128 .f32 → FVec Ideal S128x128 .f32 := fun k l t =>
    select (cmpi .eq lane (broadcast S128x128 k)) (broadcastTo S128x128 (shapeCast S128x1 l shapeCasts_S128x1_S128x1) broadcasts_S128x1_S128x128) t
  put 7#32 (L 7) (put 6#32 (L 6) (put 5#32 (L 5) (put 4#32 (L 4) (put 3#32 (L 3) (put 2#32 (L 2) (put 1#32 (L 1) (put 0#32 (L 0) (broadcast S128x128 (Scalar.ofBits (F := Ideal) .f32 0x00000000#32)))))))))

/-- Its entry. -/
theorem tile_apply (L : Fin 8 → FVec Ideal S128x1 .f32) (r : Fin 128) (e : Fin 128) :
    tile L (ix2 r e) = if h : e.val < 8 then L ⟨e.val, h⟩ (ix2 r 0) else 0 := by
  have sel := fun (b : ℕ) (hb : b < 2147483648) (x y : EReal) => sel_eq e.val b (by omega) hb x y
  have s0 := sel 0 (by omega)
  have s1 := sel 1 (by omega)
  have s2 := sel 2 (by omega)
  have s3 := sel 3 (by omega)
  have s4 := sel 4 (by omega)
  have s5 := sel 5 (by omega)
  have s6 := sel 6 (by omega)
  have s7 := sel 7 (by omega)
  pointwise [tile, s0, s1, s2, s3, s4, s5, s6, s7]
  by_cases h : e.val < 8
  · rw [dif_pos h]
    obtain ⟨e, he⟩ := e
    have h' : e < 8 := h
    interval_cases e <;> rfl
  · rw [dif_neg h]
    split_ifs <;> first
      | (exfalso; omega)
      | rfl

/-- Eight heads and the tile side by side. -/
def cat (H : Fin 8 → FVec Ideal S128x64 .f32) (T : FVec Ideal S128x128 .f32) : FVec Ideal S128x640 .f32 :=
  concatenate S128x640 1 [⟨S128x64, H 0⟩, ⟨S128x64, H 1⟩, ⟨S128x64, H 2⟩, ⟨S128x64, H 3⟩, ⟨S128x64, H 4⟩, ⟨S128x64, H 5⟩, ⟨S128x64, H 6⟩, ⟨S128x64, H 7⟩, ⟨S128x128, T⟩] concatenates_S128x64_S128x64_S128x64_S128x64_S128x64_S128x64_S128x64_S128x64_S128x128_S128x640_d1

/-- The same head and column. -/
theorem side (H : Fin 8 → FVec Ideal S128x64 .f32) (h k : Fin 8) (r : Fin 128) (d : Fin 64) (e : ℕ) (he : e < 64) (hk : h.val = k.val) (hd : e = d.val) :
    H k (ix2 r ⟨e, he⟩) = H h (ix2 r d) := by
  obtain rfl := Fin.ext hk
  subst hd
  rfl

/-- The block at an entry of a head. -/
theorem cat_apply (H : Fin 8 → FVec Ideal S128x64 .f32) (T : FVec Ideal S128x128 .f32) (h : Fin 8) (r : Fin 128) (d : Fin 64) :
    k0_pay1 (F := Ideal) (cat H T) (ix3 0 r ⟨h.val * 64 + d.val, by omega⟩) = H h (ix2 r d) := by
  have hd := d.isLt
  have hh := h.isLt
  pointwise [k0_pay1, cat]
  split_ifs <;> first
    | exact side H h 0 r d _ _ (show h.val = 0 by omega) (by omega)
    | exact side H h 1 r d _ _ (show h.val = 1 by omega) (by omega)
    | exact side H h 2 r d _ _ (show h.val = 2 by omega) (by omega)
    | exact side H h 3 r d _ _ (show h.val = 3 by omega) (by omega)
    | exact side H h 4 r d _ _ (show h.val = 4 by omega) (by omega)
    | exact side H h 5 r d _ _ (show h.val = 5 by omega) (by omega)
    | exact side H h 6 r d _ _ (show h.val = 6 by omega) (by omega)
    | exact side H h 7 r d _ _ (show h.val = 7 by omega) (by omega)
    | (exfalso; omega)

/-- The block at an entry of the tile. -/
theorem cat_tile (H : Fin 8 → FVec Ideal S128x64 .f32) (T : FVec Ideal S128x128 .f32) (r : Fin 128) (e : Fin 128) :
    k0_pay1 (F := Ideal) (cat H T) (ix3 0 r ⟨512 + e.val, by omega⟩) = T (ix2 r e) := by
  have he := e.isLt
  pointwise [k0_pay1, cat]
  split_ifs <;> first
    | (exfalso; omega)
    | exact congrArg (fun e => T (ix2 r e)) (Fin.ext (by dsimp only; omega))

section
variable (i : grid0.Coords) (x0 x1 x2 x3 x4 : Vec Ideal S1x128x512 .bf16)

/-- The scores of the heads. -/
def scores : Fin 8 → FVec Ideal S128x256 .f32 := ![
  score 0 slices_S128x512_o0_0_S128x64 (k0_pay2 x0) (part 0 slices_S256x512_o0_0_S256x64 x1 x2),
  score 64 slices_S128x512_o0_64_S128x64 (k0_pay2 x0) (part 64 slices_S256x512_o0_64_S256x64 x1 x2),
  score 128 slices_S128x512_o0_128_S128x64 (k0_pay2 x0) (part 128 slices_S256x512_o0_128_S256x64 x1 x2),
  score 192 slices_S128x512_o0_192_S128x64 (k0_pay2 x0) (part 192 slices_S256x512_o0_192_S256x64 x1 x2),
  score 256 slices_S128x512_o0_256_S128x64 (k0_pay2 x0) (part 256 slices_S256x512_o0_256_S256x64 x1 x2),
  score 320 slices_S128x512_o0_320_S128x64 (k0_pay2 x0) (part 320 slices_S256x512_o0_320_S256x64 x1 x2),
  score 384 slices_S128x512_o0_384_S128x64 (k0_pay2 x0) (part 384 slices_S256x512_o0_384_S256x64 x1 x2),
  score 448 slices_S128x512_o0_448_S128x64 (k0_pay2 x0) (part 448 slices_S256x512_o0_448_S256x64 x1 x2)]

/-- The values of the heads. -/
def values : Fin 8 → FVec Ideal S256x64 .bf16 := ![
  part 0 slices_S256x512_o0_0_S256x64 x3 x4, part 64 slices_S256x512_o0_64_S256x64 x3 x4,
  part 128 slices_S256x512_o0_128_S256x64 x3 x4, part 192 slices_S256x512_o0_192_S256x64 x3 x4,
  part 256 slices_S256x512_o0_256_S256x64 x3 x4, part 320 slices_S256x512_o0_320_S256x64 x3 x4,
  part 384 slices_S256x512_o0_384_S256x64 x3 x4, part 448 slices_S256x512_o0_448_S256x64 x3 x4]

/-- The score of a row and a key -/
def raw (h : Fin 8) (r : Fin 128) (j : Fin 256) : EReal :=
  ∑ d : Fin 64, x0 (ix3 0 r ⟨h.val * 64 + d.val, by omega⟩) * Ideal.ofBits .bf16 0x3E00#16 * two x1 x2 j ⟨h.val * 64 + d.val, by omega⟩
/-- and under the mask. -/
def S (n : ℕ) (h : Fin 8) (r : Fin 128) (j : Fin 256) : EReal := msk n r.val j.val (raw x0 x1 x2 h r j)

/-- A head's score, once its columns are known, -/
theorem one (h : Fin 8) (hs : S128x512.Slices ![0, h.val * 64] S128x64) (hp : S256x512.Slices ![0, h.val * 64] S256x64) (r : Fin 128) (j : Fin 256) :
    score (h.val * 64) hs (k0_pay2 x0) (part (h.val * 64) hp x1 x2) (ix2 r j) = raw x0 x1 x2 h r j := by
  rw [score_apply _ _ (by omega)]
  unfold raw
  refine Finset.sum_congr rfl fun d _ => ?_
  rw [pay2, part_apply _ _ (by omega)]
/-- whichever the head, -/
theorem scores_apply (h : Fin 8) (r : Fin 128) (j : Fin 256) : scores x0 x1 x2 h (ix2 r j) = raw x0 x1 x2 h r j := by
  fin_cases h
  · exact one x0 x1 x2 0 slices_S128x512_o0_0_S128x64 slices_S256x512_o0_0_S256x64 r j
  · exact one x0 x1 x2 1 slices_S128x512_o0_64_S128x64 slices_S256x512_o0_64_S256x64 r j
  · exact one x0 x1 x2 2 slices_S128x512_o0_128_S128x64 slices_S256x512_o0_128_S256x64 r j
  · exact one x0 x1 x2 3 slices_S128x512_o0_192_S128x64 slices_S256x512_o0_192_S256x64 r j
  · exact one x0 x1 x2 4 slices_S128x512_o0_256_S128x64 slices_S256x512_o0_256_S256x64 r j
  · exact one x0 x1 x2 5 slices_S128x512_o0_320_S128x64 slices_S256x512_o0_320_S256x64 r j
  · exact one x0 x1 x2 6 slices_S128x512_o0_384_S128x64 slices_S256x512_o0_384_S256x64 r j
  · exact one x0 x1 x2 7 slices_S128x512_o0_448_S128x64 slices_S256x512_o0_448_S256x64 r j
/-- and a head's value. -/
theorem values_apply (h : Fin 8) (j : Fin 256) (d : Fin 64) : values x3 x4 h (ix2 j d) = two x3 x4 j ⟨h.val * 64 + d.val, by omega⟩ := by
  fin_cases h
  · exact part_apply (0 * 64) slices_S256x512_o0_0_S256x64 (by omega) x3 x4 j d
  · exact part_apply (1 * 64) slices_S256x512_o0_64_S256x64 (by omega) x3 x4 j d
  · exact part_apply (2 * 64) slices_S256x512_o0_128_S256x64 (by omega) x3 x4 j d
  · exact part_apply (3 * 64) slices_S256x512_o0_192_S256x64 (by omega) x3 x4 j d
  · exact part_apply (4 * 64) slices_S256x512_o0_256_S256x64 (by omega) x3 x4 j d
  · exact part_apply (5 * 64) slices_S256x512_o0_320_S256x64 (by omega) x3 x4 j d
  · exact part_apply (6 * 64) slices_S256x512_o0_384_S256x64 (by omega) x3 x4 j d
  · exact part_apply (7 * 64) slices_S256x512_o0_448_S256x64 (by omega) x3 x4 j d

/-- A row of masked scores. -/
theorem masked_apply (h : Fin 8) (r : Fin 128) : masked (k0_pay5 i) (scores x0 x1 x2 h) r = S x0 x1 x2 (i 1).val h r := by
  funext j
  unfold masked S
  rw [mask_apply, sel_ker _ _ _ (i 1).isLt r.isLt j.isLt, scores_apply]

/-- The heads' averages, -/
def heads : Fin 8 → FVec Ideal S128x64 .f32 := fun h => k0_pay38 (F := Ideal) (k0_pay5 i) (values x3 x4 h) (scores x0 x1 x2 h)
/-- and their logarithms of the denominators. -/
def lses : Fin 8 → FVec Ideal S128x1 .f32 := fun h => logs (k0_pay5 i) (scores x0 x1 x2 h)

/-- A head's average. -/
theorem heads_apply (h : Fin 8) (r : Fin 128) (d : Fin 64) : heads i x0 x1 x2 x3 x4 h (ix2 r d)
    = avg (S x0 x1 x2 (i 1).val h r) (fun j => two x3 x4 j ⟨h.val * 64 + d.val, by omega⟩) := by
  unfold heads
  rw [head_apply, masked_apply]
  congr 1
  funext j
  exact values_apply x3 x4 h j d

/-- A head's logarithm. -/
theorem lses_apply (h : Fin 8) (r : Fin 128) : lses i x0 x1 x2 h (ix2 r 0) = lse (S x0 x1 x2 (i 1).val h r) := by
  unfold lses
  rw [logs_apply, masked_apply]

/-- The body's block is the heads side by side, and the tile. -/
theorem assembled : out0_5 (F := Ideal) i x0 x1 x2 x3 x4 = k0_pay1 (F := Ideal) (cat (heads i x0 x1 x2 x3 x4) (tile (lses i x0 x1 x2))) := by
  unfold_out out0_5
  frame_out
  rfl
end

end Cert.Proof.BandBody
end
-- ==== Proof.BandValue.lean ====
module

public import proofs.«01_k».proof.Proof.BandEntry
public import proofs.«01_k».proof.Proof.BandBody
public import proofs.«01_k».proof.Proof.Pure
public import proofs.«01_k».proof.Proof.Gen.BandIdeal.Frame
public import Idealize.ShloMosaic.Lib.Pipeline.Value
public import Idealize.ShloMosaic.Lib.Pipeline.ValueKit
public import Idealize.ShloMosaic.Lib.Pipeline.ReadBack

@[expose] public section

set_option maxRecDepth 16384
noncomputable section

/-! The dilated band attention's kernel: its output array after the run is the reference's result over the same arguments. -/

namespace Cert.Proof.BandValue
open Cert.BandIdeal Cert.BandIdeal.Gen Idealize.ShloMosaic Idealize.ShloMosaic.TcCoe Idealize.SL.Sem
open Idealize.ShloMosaic.Pipeline (Dat)
open Cert.Proof.BandRow Cert.Proof.BandBody
open Cert.Proof.SwaRow (pull)
open Cert.Proof.BandRef (res sc bq ks vs pad row qcol kcol vcol ocol lcol zcol bq_apply ks_apply vs_apply two_apply sc_apply)

/-- The windows' block indices at every grid point. -/
theorem idx : ∀ t : Fin cfg0.N, win0_0.index t = ![0, t.val, 0] ∧ win0_1.index t = ![0, t.val - 1, 1] ∧ win0_2.index t = ![0, t.val, 1]
    ∧ win0_3.index t = ![0, t.val - 1, 2] ∧ win0_4.index t = ![0, t.val, 2] ∧ win0_5.index t = ![0, t.val, 0] :=
  (by decide +kernel : ∀ t : Fin grid0.N, _)

/-- The grid has 64 points, -/
theorem lt64 (t : Fin cfg0.N) : t.val < 64 := lt_of_lt_of_eq t.isLt N_0
/-- and the second coordinate is the point. -/
theorem coord : ∀ t : Fin cfg0.N, (grid0.coords t 1).val = t.val :=
  (by decide +kernel : ∀ t : Fin grid0.N, _)

/-- A grid point as a block. -/
def blk (t : Fin cfg0.N) : Fin 64 := ⟨t.val, lt64 t⟩
/-- The block before it. -/
def prev (t : Fin cfg0.N) : Fin 64 := ⟨t.val - 1, by have := lt64 t; omega⟩

section
variable (m : (ℓ : Loc nD τ sig) → Buf (Elt Ideal) ℓ) (c : Dev nD)

/-- The queries and keys -/
abbrev X : FVec Ideal S8192x3840 .bf16 := m ((c : Thread nD τ).loc main_arg0)
/-- and the values of the launch. -/
abbrev Y : FVec Ideal S8192x1280 .bf16 := m ((c : Thread nD τ).loc main_arg1)

/-- The queries' block. -/
theorem blk0 (t : Fin cfg0.N) (r : Fin 128) (e : Fin 512) : (iblk m c 0 t : FVec Ideal S1x128x512 .bf16) (ix3 0 r e)
    = X m c (ix2 (row (blk t) r) ⟨1536 + e.val, by omega⟩) := by
  unfold BandRef.row blk
  blk_simp [iblk, idx t]
  entry_read
  pointwise
  blk_simp [idx t]
  rw [dif_pos (by omega)]
  blk_ext [idx t]
/-- The previous keys' block, -/
theorem blk1 (t : Fin cfg0.N) (r : Fin 128) (e : Fin 512) : (iblk m c 1 t : FVec Ideal S1x128x512 .bf16) (ix3 0 r e)
    = X m c (ix2 (row (prev t) r) ⟨2048 + e.val, by omega⟩) := by
  unfold BandRef.row prev
  blk_simp [iblk, idx t]
  entry_read
  pointwise
  blk_simp [idx t]
  rw [dif_pos (by omega)]
  blk_ext [idx t]
/-- the current, -/
theorem blk2 (t : Fin cfg0.N) (r : Fin 128) (e : Fin 512) : (iblk m c 2 t : FVec Ideal S1x128x512 .bf16) (ix3 0 r e)
    = X m c (ix2 (row (blk t) r) ⟨2048 + e.val, by omega⟩) := by
  unfold BandRef.row blk
  blk_simp [iblk, idx t]
  entry_read
  pointwise
  blk_simp [idx t]
  rw [dif_pos (by omega)]
  blk_ext [idx t]
/-- the previous values', -/
theorem blk3 (t : Fin cfg0.N) (r : Fin 128) (e : Fin 512) : (iblk m c 3 t : FVec Ideal S1x128x512 .bf16) (ix3 0 r e)
    = Y m c (ix2 (row (prev t) r) ⟨512 + e.val, by omega⟩) := by
  unfold BandRef.row prev
  blk_simp [iblk, idx t]
  entry_read
  pointwise
  blk_simp [idx t]
  rw [dif_neg (by omega)]
  blk_ext [idx t]
/-- and the current. -/
theorem blk4 (t : Fin cfg0.N) (r : Fin 128) (e : Fin 512) : (iblk m c 4 t : FVec Ideal S1x128x512 .bf16) (ix3 0 r e)
    = Y m c (ix2 (row (blk t) r) ⟨512 + e.val, by omega⟩) := by
  unfold BandRef.row blk
  blk_simp [iblk, idx t]
  entry_read
  pointwise
  blk_simp [idx t]
  rw [dif_neg (by omega)]
  blk_ext [idx t]

/-- The row of the array that holds key `j` of a grid point. -/
def at_ (t : Fin cfg0.N) (j : Fin 256) : Fin 8192 :=
  if h : j.val < 128 then row (prev t) ⟨j.val, h⟩ else row (blk t) ⟨j.val - 128, by omega⟩

/-- A key of the two blocks, -/
theorem keys (t : Fin cfg0.N) (j : Fin 256) (e : Fin 512) :
    BandBody.two (iblk m c 1 t) (iblk m c 2 t) j e = X m c (ix2 (at_ t j) ⟨2048 + e.val, by omega⟩) := by
  unfold BandBody.two at_
  split_ifs
  · exact blk1 m c t _ e
  · exact blk2 m c t _ e
/-- and a value. -/
theorem vals (t : Fin cfg0.N) (j : Fin 256) (e : Fin 512) :
    BandBody.two (iblk m c 3 t) (iblk m c 4 t) j e = Y m c (ix2 (at_ t j) ⟨512 + e.val, by omega⟩) := by
  unfold BandBody.two at_
  split_ifs
  · exact blk3 m c t _ e
  · exact blk4 m c t _ e

/-- For an admitted key it is the row the padded array has there. -/
theorem at_val (t : Fin cfg0.N) (j : Fin 256) (h : 128 ≤ 128 * t.val + j.val) : (at_ t j).val = 128 * t.val + j.val - 128 := by
  unfold at_ BandRef.row prev blk
  split_ifs <;> (dsimp only; omega)

/-- The rows the reference sees at an admitted key. -/
theorem two_at (u : FVec Ideal Cert.BandReferenceIdeal.S8x8192x64 .f32) (a : Fin 8) (t : Fin cfg0.N) (j : Fin 256) (d : Fin 64) (h : 128 ≤ 128 * t.val + j.val) :
    BandRef.two (pad u) (ix4 a (blk t) j d) = u (ix3 a (at_ t j) d) := by
  rw [two_apply, dif_pos (show 128 ≤ 128 * (blk t).val + j.val from h)]
  exact congrArg (fun e => u (ix3 a e d)) (Fin.ext (at_val t j h).symm)

/-- The kernel's score of an admitted key is the reference's. -/
theorem raw_eq (t : Fin cfg0.N) (h : Fin 8) (r : Fin 128) (j : Fin 256) (hj : 128 ≤ 128 * t.val + j.val) :
    raw (iblk m c 0 t) (iblk m c 1 t) (iblk m c 2 t) h r j = sc (X m c) (ix5 h 0 (blk t) r j) := by
  unfold raw
  rw [sc_apply, Pure.eighth_f32, mul_comm _ (((1 / 8 : ℝ)) : EReal), ← pull _ _ (by norm_num)]
  refine Finset.sum_congr rfl fun d _ => ?_
  rw [blk0, keys, Pure.eighth_bf16, two_at _ _ _ _ _ hj, ks_apply, bq_apply, mul_comm _ (((1 / 8 : ℝ)) : EReal), mul_assoc, mul_comm (X m c _) (X m c _)]
  rfl

/-- The masked scores are the reference's. -/
theorem S_eq (t : Fin cfg0.N) (h : Fin 8) (r : Fin 128) :
    S (iblk m c 0 t) (iblk m c 1 t) (iblk m c 2 t) (grid0.coords t 1).val h r = BandEntry.S (X m c) h (blk t) r := by
  funext j
  rw [coord]
  show msk t.val r.val j.val _ = msk t.val r.val j.val _
  unfold msk
  split_ifs with e
  · exact raw_eq m c t h r j e.2.2
  · rfl

/-- The value of an admitted key is the reference's. -/
theorem val_eq (t : Fin cfg0.N) (h : Fin 8) (d : Fin 64) (j : Fin 256) (hj : 128 ≤ 128 * t.val + j.val) :
    BandBody.two (iblk m c 3 t) (iblk m c 4 t) j ⟨h.val * 64 + d.val, by omega⟩ = BandRef.two (pad (vs (Y m c))) (ix4 h (blk t) j d) := by
  rw [vals, two_at _ _ _ _ _ hj, vs_apply]
  rfl

/-- The reference's result over the kernel's arguments. -/
def REF : FVec Ideal S1x8192x640 .f32 := res (X m c) (Y m c)

/-- The block of a grid point: an average is the reference's, -/
theorem point (t : Fin cfg0.N) (h : Fin 8) (r : Fin 128) (d : Fin 64) :
    out0_5 (F := Ideal) (grid0.coords t) (iblk m c 0 t) (iblk m c 1 t) (iblk m c 2 t) (iblk m c 3 t) (iblk m c 4 t) (ix3 0 r (ocol h d))
      = REF m c (ix3 0 (row (blk t) r) (ocol h d)) := by
  unfold REF
  rw [BandEntry.res_out, assembled]
  refine (cat_apply _ _ h r d).trans ?_
  rw [heads_apply, S_eq]
  exact avg_eq _ _ _ fun j hj => val_eq m c t h d j (adm_of _ _ _ _ hj).2.2

/-- a logarithm is, -/
theorem point_log (t : Fin cfg0.N) (h : Fin 8) (r : Fin 128) :
    out0_5 (F := Ideal) (grid0.coords t) (iblk m c 0 t) (iblk m c 1 t) (iblk m c 2 t) (iblk m c 3 t) (iblk m c 4 t) (ix3 0 r (lcol h))
      = REF m c (ix3 0 (row (blk t) r) (lcol h)) := by
  unfold REF
  rw [BandEntry.res_log, assembled]
  refine (cat_tile _ _ r ⟨h.val, by omega⟩).trans ?_
  rw [tile_apply, dif_pos h.isLt]
  refine (lses_apply _ _ _ _ h r).trans ?_
  rw [S_eq]

/-- and so is a zero. -/
theorem point_zero (t : Fin cfg0.N) (x : Fin 120) (r : Fin 128) :
    out0_5 (F := Ideal) (grid0.coords t) (iblk m c 0 t) (iblk m c 1 t) (iblk m c 2 t) (iblk m c 3 t) (iblk m c 4 t) (ix3 0 r (zcol x))
      = REF m c (ix3 0 (row (blk t) r) (zcol x)) := by
  unfold REF
  rw [BandEntry.res_zero, assembled]
  have e : zcol x = (⟨512 + (⟨8 + x.val, by omega⟩ : Fin 128).val, by dsimp only; omega⟩ : Fin 640) := by
    unfold zcol
    exact Fin.ext (by dsimp only; omega)
  rw [e]
  refine (cat_tile _ _ r ⟨8 + x.val, by omega⟩).trans ?_
  rw [tile_apply, dif_neg (by dsimp only; omega)]

/-- THE KERNEL'S OUTPUT, whole: the reference's result. -/
theorem final : (dats m 0 c).arrAt 5 (cfgs 0).N = REF m c := by
  refine (dats m 0 c).arrAt_eq_of_covers 5 _ (by decide +kernel) fun t _ y => ?_
  blk_simp
  rw [after0_5]
  obtain ⟨q, r, e, rfl⟩ : ∃ (q : Fin 1) (r : Fin 128) (e : Fin 640), y = ix3 q r e := ⟨y 0, y 1, y 2, (ix3_eta y).symm⟩
  obtain rfl : q = 0 := Subsingleton.elim _ _
  have key : out0_5 (F := Ideal) (grid0.coords t) (iblk m c 0 t) (iblk m c 1 t) (iblk m c 2 t) (iblk m c 3 t) (iblk m c 4 t) (ix3 0 r e)
      = REF m c (ix3 0 (row (blk t) r) e) := by
    by_cases h1 : e.val < 512
    · obtain ⟨h, d, rfl⟩ : ∃ (h : Fin 8) (d : Fin 64), e = ocol h d := by
        refine ⟨⟨e.val / 64, by omega⟩, ⟨e.val % 64, by omega⟩, Fin.ext ?_⟩
        unfold ocol
        show e.val = e.val / 64 * 64 + e.val % 64
        omega
      exact point m c t h r d
    · by_cases h2 : e.val < 520
      · obtain ⟨h, rfl⟩ : ∃ h : Fin 8, e = lcol h := by
          refine ⟨⟨e.val - 512, by omega⟩, Fin.ext ?_⟩
          unfold lcol
          show e.val = 512 + (e.val - 512)
          omega
        exact point_log m c t h r
      · obtain ⟨x, rfl⟩ : ∃ x : Fin 120, e = zcol x := by
          refine ⟨⟨e.val - 520, by omega⟩, Fin.ext ?_⟩
          unfold zcol
          show e.val = 520 + (e.val - 520)
          omega
        exact point_zero m c t x r
  rw [key]
  unfold BandRef.row blk
  blk_ext [idx t]
end

/-- The run: the output array is the reference's, and the arguments are as launched. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v5) = REF m c
      ∧ r.2.mem ((c : Thread nD τ).loc main_arg0) = m ((c : Thread nD τ).loc main_arg0) ∧ r.2.mem ((c : Thread nD τ).loc main_arg1) = m ((c : Thread nD τ).loc main_arg1) :=
  (θ_run _ _ _).mono (fun r h c => ⟨((h.1 c).1 5).trans (final m c), h.2 c⟩)
    (θ_run_and (run_main (F := Ideal) m ρ) (unchanged (F := Ideal) m ρ))

end Cert.Proof.BandValue
end
-- ==== Proof.Band4Ref.lean ====
module

public import proofs.«01_k».proof.Proof.Gen.Band4ReferenceIdeal.Run
public import proofs.«01_k».proof.Proof.BandRow
public import Idealize.ShloMosaic.Lib.Pointwise

@[expose] public section

set_option maxRecDepth 16384
noncomputable section

/-! The reference of the dilated band attention with dilation 4, entry by entry: four residue classes of the rows, 2048 rows each. -/

namespace Cert.Proof.Band4Ref
open Cert.Band4ReferenceIdeal Cert.Band4ReferenceIdeal.Gen Idealize.ShloMosaic Idealize.ShloMosaic.TcCoe Idealize.SL.Sem Idealize.ShloMosaic.StableHlo
open Cert.Proof.BandRow

variable (X : FVec Ideal S8192x3840 .bf16) (V : FVec Ideal S8192x1280 .bf16)

/-- The residue classes of the rows, class by class. -/
def fold (u : FVec Ideal S8x8192x64 .f32) : FVec Ideal S32x2048x64 .f32 :=
  shapeCast _ (transpose S4x8x2048x64 [2, 0, 1, 3] (shapeCast _ u shapeCasts_S8x8192x64_S8x2048x4x64) transposes_S8x2048x4x64_S4x8x2048x64_2_0_1_3) shapeCasts_S4x8x2048x64_S32x2048x64
/-- Columns of the projections, by class and head. -/
def byHead (u : FVec Ideal S8192x512 .bf16) : FVec Ideal S32x2048x64 .f32 :=
  fold (transpose S8x8192x64 [1, 0, 2] (shapeCast _ (extf .f32 u bitsLt_bf16_f32) shapeCasts_S8192x512_S8192x8x64) transposes_S8192x8x64_S8x8192x64_1_0_2)
/-- The queries, by head, block, row. -/
def bq : FVec Ideal S32x1x16x128x64 .f32 :=
  shapeCast _ (broadcastInDim S32x1x2048x64 ![0, 2, 3] bcast_S32x2048x64_S32x1x2048x64_0_2_3 (byHead (extractStridedSlice S8192x512 ![0, 1536] X slices_S8192x3840_S8192x512_0_1536))) shapeCasts_S32x1x2048x64_S32x1x16x128x64
/-- The keys by head. -/
def ks : FVec Ideal S32x2048x64 .f32 := byHead (extractStridedSlice S8192x512 ![0, 2048] X slices_S8192x3840_S8192x512_0_2048)
/-- The values by head. -/
def vs : FVec Ideal S32x2048x64 .f32 := byHead (extractStridedSlice S8192x512 ![0, 512] V slices_S8192x1280_S8192x512_0_512)
/-- A block of zeros in front, cut into blocks. -/
def pad (u : FVec Ideal S32x2048x64 .f32) : FVec Ideal S32x17x128x64 .f32 :=
  shapeCast _ (concatenate S32x2176x64 1 [⟨S32x128x64, (broadcastInDim S32x128x64 ![] bcast_S_S32x128x64 (constant S_ .f32 0x00000000#32))⟩, ⟨S32x2048x64, u⟩] concatenates_S32x128x64_S32x2048x64_S32x2176x64_d1) shapeCasts_S32x2176x64_S32x17x128x64
/-- Each block after the one before it. -/
def two (p : FVec Ideal S32x17x128x64 .f32) : FVec Ideal S32x16x256x64 .f32 :=
  concatenate S32x16x256x64 2 [⟨S32x16x128x64, (extractStridedSlice S32x16x128x64 ![0, 0, 0, 0] p slices_S32x17x128x64_S32x16x128x64_0_0_0_0)⟩, ⟨S32x16x128x64, (extractStridedSlice S32x16x128x64 ![0, 1, 0, 0] p slices_S32x17x128x64_S32x16x128x64_0_1_0_0)⟩] concatenates_S32x16x128x64_S32x16x128x64_S32x16x256x64_d2
/-- The scores before the mask. -/
def sc : FVec Ideal S32x1x16x128x256 .f32 :=
  mulf (transpose S32x1x16x128x256 [0, 3, 1, 4, 2] (Host.dotGeneral dot_S32x16x256x64_S32x1x16x128x64_S32x16x256x1x128_3_4_2_13_01_02 none (two (pad (ks X))) (bq X)) transposes_S32x16x256x1x128_S32x1x16x128x256_0_3_1_4_2) (broadcastInDim S32x1x16x128x256 ![] bcast_S_S32x1x16x128x256 (constant S_ .f32 0x3E000000#32))
/-- The mask. -/
def mask : IVec S16x128x256 1 :=
  andi (broadcastInDim S16x128x256 ![0, 1, 2] bcast_S1x128x256_S16x128x256_0_1_2 (broadcastInDim S1x128x256 ![1, 2] bcast_S128x256_S1x128x256_1_2 (andi (cmpi .sge (subi (broadcastInDim S128x256 ![0, 1] bcast_S128x1_S128x256_0_1 (addi (broadcastInDim S128x1 ![0] bcast_S128_S128x1_0 (iotaInDim S128 32 0)) (broadcastInDim S128x1 ![] bcast_S_S128x1 (constantI S_ 32 128#32)))) (broadcastInDim S128x256 ![0, 1] bcast_S1x256_S128x256_0_1 (broadcastInDim S1x256 ![1] bcast_S256_S1x256_1 (iotaInDim S256 32 0)))) (broadcastInDim S128x256 ![] bcast_S_S128x256 (constantI S_ 32 0#32))) (cmpi .sle (subi (broadcastInDim S128x256 ![0, 1] bcast_S128x1_S128x256_0_1 (addi (broadcastInDim S128x1 ![0] bcast_S128_S128x1_0 (iotaInDim S128 32 0)) (broadcastInDim S128x1 ![] bcast_S_S128x1 (constantI S_ 32 128#32)))) (broadcastInDim S128x256 ![0, 1] bcast_S1x256_S128x256_0_1 (broadcastInDim S1x256 ![1] bcast_S256_S1x256_1 (iotaInDim S256 32 0)))) (broadcastInDim S128x256 ![] bcast_S_S128x256 (constantI S_ 32 128#32)))))) (broadcastInDim S16x128x256 ![0, 1, 2] bcast_S16x1x256_S16x128x256_0_1_2 (cmpi .sge (addi (broadcastInDim S16x1x256 ![0, 1, 2] bcast_S16x1x1_S16x1x256_0_1_2 (subi (muli (broadcastInDim S16x1x1 ![0] bcast_S16_S16x1x1_0 (iotaInDim S16 32 0)) (broadcastInDim S16x1x1 ![] bcast_S_S16x1x1 (constantI S_ 32 128#32))) (broadcastInDim S16x1x1 ![] bcast_S_S16x1x1 (constantI S_ 32 128#32)))) (broadcastInDim S16x1x256 ![0, 1, 2] bcast_S1x1x256_S16x1x256_0_1_2 (broadcastInDim S1x1x256 ![1, 2] bcast_S1x256_S1x1x256_1_2 (broadcastInDim S1x256 ![1] bcast_S256_S1x256_1 (iotaInDim S256 32 0))))) (broadcastInDim S16x1x256 ![] bcast_S_S16x1x256 (constantI S_ 32 0#32))))
/-- The masked scores. -/
def ms : FVec Ideal S32x1x16x128x256 .f32 :=
  select (broadcastInDim S32x1x16x128x256 ![2, 3, 4] bcast_S16x128x256_S32x1x16x128x256_2_3_4 mask) (sc X) (broadcastInDim S32x1x16x128x256 ![] bcast_S_S32x1x16x128x256 (id (constant S_ .f32 0xFF800000#32)))
/-- The row maxima. -/
def mx (s : FVec Ideal S32x1x16x128x256 .f32) : FVec Ideal S32x1x16x128 .f32 :=
  Host.reduce FloatOps.maximumf s (constant S_ .f32 0xFF800000#32) reducesTo_S32x1x16x128x256_S32x1x16x128_d4 h_S_
/-- The exponentials. -/
def ex (s : FVec Ideal S32x1x16x128x256 .f32) (m : FVec Ideal S32x1x16x128 .f32) : FVec Ideal S32x1x16x128x256 .f32 :=
  Host.exp (subf s (broadcastInDim S32x1x16x128x256 ![0, 1, 2, 3, 4] bcast_S32x1x16x128x1_S32x1x16x128x256_0_1_2_3_4 (broadcastInDim S32x1x16x128x1 ![0, 1, 2, 3] bcast_S32x1x16x128_S32x1x16x128x1_0_1_2_3 m)))
/-- Their sums. -/
def sm (p : FVec Ideal S32x1x16x128x256 .f32) : FVec Ideal S32x1x16x128 .f32 :=
  Host.reduceAdd p (constant S_ .f32 0x00000000#32) reducesTo_S32x1x16x128x256_S32x1x16x128_d4 h_S_
/-- The sums of the values weighted by them. -/
def ac (p : FVec Ideal S32x1x16x128x256 .f32) : FVec Ideal S32x1x16x128x64 .f32 :=
  transpose S32x1x16x128x64 [0, 3, 1, 4, 2] (Host.dotGeneral dot_S32x16x256x64_S32x1x16x128x256_S32x16x64x1x128_2_4_3_13_01_02 none (two (pad (vs V))) p) transposes_S32x16x64x1x128_S32x1x16x128x64_0_3_1_4_2
/-- The weighted sums, the rows back in their order. -/
def lineA (a : FVec Ideal S32x1x16x128x64 .f32) : FVec Ideal S8x8192x64 .f32 :=
  shapeCast _ (transpose S8x2048x4x64 [1, 2, 0, 3] (shapeCast _ (shapeCast _ (shapeCast _ a shapeCasts_S32x1x16x128x64_S32x1x2048x64) shapeCasts_S32x1x2048x64_S32x2048x64) shapeCasts_S32x2048x64_S4x8x2048x64) transposes_S4x8x2048x64_S8x2048x4x64_1_2_0_3) shapeCasts_S8x2048x4x64_S8x8192x64
/-- The maxima or the sums, the rows back in their order. -/
def line (m : FVec Ideal S32x1x16x128 .f32) : FVec Ideal S8x8192 .f32 :=
  shapeCast _ (transpose S8x2048x4 [1, 2, 0] (shapeCast _ (shapeCast _ (shapeCast _ m shapeCasts_S32x1x16x128_S32x1x2048) shapeCasts_S32x1x2048_S32x2048) shapeCasts_S32x2048_S4x8x2048) transposes_S4x8x2048_S8x2048x4_1_2_0) shapeCasts_S8x2048x4_S8x8192
/-- The heads' averages, side by side. -/
def outs (a : FVec Ideal S8x8192x64 .f32) (l : FVec Ideal S8x8192 .f32) : FVec Ideal S8192x512 .f32 :=
  shapeCast _ (transpose S8192x8x64 [1, 0, 2] (Host.divf a (broadcastInDim S8x8192x64 ![0, 1, 2] bcast_S8x8192x1_S8x8192x64_0_1_2 (broadcastInDim S8x8192x1 ![0, 1] bcast_S8x8192_S8x8192x1_0_1 l))) transposes_S8x8192x64_S8192x8x64_1_0_2) shapeCasts_S8192x8x64_S8192x512
/-- The heads' logarithms of the denominators. -/
def logs (m l : FVec Ideal S8x8192 .f32) : FVec Ideal S8192x8 .f32 :=
  transpose S8192x8 [1, 0] (addf m (Host.log l)) transposes_S8x8192_S8192x8_1_0
/-- Averages, logarithms and zeros. -/
def all (o : FVec Ideal S8192x512 .f32) (e : FVec Ideal S8192x8 .f32) : FVec Ideal S8192x640 .f32 :=
  concatenate S8192x640 1 [⟨S8192x512, o⟩, ⟨S8192x8, e⟩, ⟨S8192x120, (broadcastInDim S8192x120 ![] bcast_S_S8192x120 (constant S_ .f32 0x00000000#32))⟩] concatenates_S8192x512_S8192x8_S8192x120_S8192x640_d1
/-- The row maxima of the scores, -/
def MX : FVec Ideal S32x1x16x128 .f32 := mx (ms X)
/-- their exponentials, -/
def EX : FVec Ideal S32x1x16x128x256 .f32 := ex (ms X) (MX X)
/-- and the whole result. -/
def res : FVec Ideal S8192x640 .f32 :=
  all (outs (lineA (ac V (EX X))) (line (sm (EX X)))) (logs (line (MX X)) (line (sm (EX X))))

/-- The reference's composed term is the staged result. -/
theorem res_eq (m : (ℓ : Loc nD τ sig) → Buf (Elt Ideal) ℓ) (c : Dev nD) :
    Cert.Band4ReferenceIdeal.Value.res_out0 (F := Ideal) m c
      = res (m ((c.tc : Thread nD τ).loc main_arg0)) (m ((c.tc : Thread nD τ).loc main_arg1)) := by
  unfold Cert.Band4ReferenceIdeal.Value.res_out0 Cert.Band4ReferenceIdeal.Value.res_main_v102
  rfl

/-- Row `l` of class `k`. -/
def at_ (k : Fin 4) (l : Fin 2048) : Fin 8192 := ⟨l.val * 4 + k.val, by omega⟩
/-- Row `r` of block `n`, within a class. -/
def row (n : Fin 16) (r : Fin 128) : Fin 2048 := ⟨n.val * 128 + r.val, by omega⟩
/-- Head `h` of class `k`. -/
def hd (k : Fin 4) (h : Fin 8) : Fin 32 := ⟨k.val * 8 + h.val, by omega⟩
/-- The column of a query entry, -/
def qcol (h : Fin 8) (d : Fin 64) : Fin 3840 := ⟨1536 + (h.val * 64 + d.val), by omega⟩
/-- of a key entry, -/
def kcol (h : Fin 8) (d : Fin 64) : Fin 3840 := ⟨2048 + (h.val * 64 + d.val), by omega⟩
/-- of a value entry, -/
def vcol (h : Fin 8) (d : Fin 64) : Fin 1280 := ⟨512 + (h.val * 64 + d.val), by omega⟩
/-- of an average, -/
def ocol (h : Fin 8) (d : Fin 64) : Fin 640 := ⟨h.val * 64 + d.val, by omega⟩
/-- of a logarithm, -/
def lcol (h : Fin 8) : Fin 640 := ⟨512 + h.val, by omega⟩
/-- and of a zero. -/
def zcol (x : Fin 120) : Fin 640 := ⟨520 + x.val, by omega⟩

/-- A folded entry. -/
theorem fold_apply (u : FVec Ideal S8x8192x64 .f32) (k : Fin 4) (h : Fin 8) (l : Fin 2048) (d : Fin 64) : fold u (ix3 (hd k h) l d) = u (ix3 h (at_ k l) d) := by
  unfold hd at_
  pointwise [fold]
/-- An entry by head. -/
theorem byHead_apply (u : FVec Ideal S8192x512 .bf16) (k : Fin 4) (h : Fin 8) (l : Fin 2048) (d : Fin 64) :
    byHead u (ix3 (hd k h) l d) = u (ix2 (at_ k l) ⟨h.val * 64 + d.val, by omega⟩) := by
  unfold byHead
  rw [fold_apply]
  pointwise
/-- A query entry. -/
theorem bq_apply (k : Fin 4) (h : Fin 8) (n : Fin 16) (r : Fin 128) (d : Fin 64) : bq X (ix5 (hd k h) 0 n r d) = X (ix2 (at_ k (row n r)) (qcol h d)) := by
  have e : bq X (ix5 (hd k h) 0 n r d) = byHead (extractStridedSlice S8192x512 ![0, 1536] X slices_S8192x3840_S8192x512_0_1536) (ix3 (hd k h) (row n r) d) := by
    unfold bq row
    generalize byHead _ = u
    generalize hd k h = a
    pointwise
  rw [e, byHead_apply]
  unfold qcol
  pointwise
/-- A key entry. -/
theorem ks_apply (k : Fin 4) (h : Fin 8) (l : Fin 2048) (d : Fin 64) : ks X (ix3 (hd k h) l d) = X (ix2 (at_ k l) (kcol h d)) := by
  unfold ks kcol
  rw [byHead_apply]
  pointwise
/-- A value entry. -/
theorem vs_apply (k : Fin 4) (h : Fin 8) (l : Fin 2048) (d : Fin 64) : vs V (ix3 (hd k h) l d) = V (ix2 (at_ k l) (vcol h d)) := by
  unfold vs vcol
  rw [byHead_apply]
  pointwise
/-- The rows a block sees: zeros before the first. -/
theorem two_apply (u : FVec Ideal S32x2048x64 .f32) (a : Fin 32) (n : Fin 16) (j : Fin 256) (d : Fin 64) :
    two (pad u) (ix4 a n j d) = if h : 128 ≤ 128 * n.val + j.val then u (ix3 a ⟨128 * n.val + j.val - 128, by omega⟩ d) else 0 := by
  pointwise [two, pad]
  by_cases h : 128 ≤ 128 * n.val + j.val
  · rw [dif_pos h]
    split_ifs <;> first
      | (exfalso; omega)
      | exact congrArg (fun e => u (ix3 a e d)) (Fin.ext (by dsimp only; omega))
  · rw [dif_neg h]
    split_ifs <;> first
      | rfl
      | (exfalso; omega)
/-- The mask. -/
theorem mask_apply (n : Fin 16) (r : Fin 128) (j : Fin 256) : mask (ix3 n r j)
    = IntOp.andi (IntOp.andi (IntOp.cmpi .sge (IntOp.subi (IntOp.addi (BitVec.ofNat 32 r.val) 128#32) (BitVec.ofNat 32 j.val)) 0#32)
      (IntOp.cmpi .sle (IntOp.subi (IntOp.addi (BitVec.ofNat 32 r.val) 128#32) (BitVec.ofNat 32 j.val)) 128#32))
      (IntOp.cmpi .sge (IntOp.addi (IntOp.subi (IntOp.muli (BitVec.ofNat 32 n.val) 128#32) 128#32) (BitVec.ofNat 32 j.val)) 0#32) := by
  pointwise [mask]
/-- A score before the mask. -/
theorem sc_apply (h : Fin 32) (n : Fin 16) (r : Fin 128) (j : Fin 256) : sc X (ix5 h 0 n r j)
    = (∑ d : Fin 64, two (pad (ks X)) (ix4 h n j d) * bq X (ix5 h 0 n r d)) * Ideal.ofBits .f32 0x3E000000#32 := by
  unfold sc
  generalize two (pad (ks X)) = K
  generalize bq X = Q
  pointwise
/-- A masked score. -/
theorem ms_apply (h : Fin 32) (n : Fin 16) (r : Fin 128) (j : Fin 256) : ms X (ix5 h 0 n r j)
    = Scalar.select (mask (ix3 n r j)) (sc X (ix5 h 0 n r j)) (Ideal.ofBits .f32 0xFF800000#32) := by
  unfold ms
  generalize mask = M
  generalize sc X = S
  pointwise
  rfl
/-- A row maximum. -/
theorem mx_apply (s : FVec Ideal S32x1x16x128x256 .f32) (h : Fin 32) (n : Fin 16) (r : Fin 128) :
    mx s (ix4 h 0 n r) = Finset.univ.fold max (Ideal.ofBits .f32 0xFF800000#32) fun j : Fin 256 => s (ix5 h 0 n r j) := by
  pointwise [mx]
/-- An exponential. -/
theorem ex_apply (s : FVec Ideal S32x1x16x128x256 .f32) (m : FVec Ideal S32x1x16x128 .f32) (h : Fin 32) (n : Fin 16) (r : Fin 128) (j : Fin 256) :
    ex s m (ix5 h 0 n r j) = Ideal.exp (s (ix5 h 0 n r j) - m (ix4 h 0 n r)) := by
  pointwise [ex]
/-- A sum. -/
theorem sm_apply (p : FVec Ideal S32x1x16x128x256 .f32) (h : Fin 32) (n : Fin 16) (r : Fin 128) :
    sm p (ix4 h 0 n r) = ∑ j : Fin 256, p (ix5 h 0 n r j) := by
  pointwise [sm]
/-- A weighted sum. -/
theorem ac_apply (p : FVec Ideal S32x1x16x128x256 .f32) (h : Fin 32) (n : Fin 16) (r : Fin 128) (d : Fin 64) :
    ac V p (ix5 h 0 n r d) = ∑ j : Fin 256, two (pad (vs V)) (ix4 h n j d) * p (ix5 h 0 n r j) := by
  unfold ac
  generalize two (pad (vs V)) = K
  pointwise
/-- A weighted sum, its row back in place. -/
theorem lineA_apply (A : FVec Ideal S32x1x16x128x64 .f32) (k : Fin 4) (h : Fin 8) (n : Fin 16) (r : Fin 128) (d : Fin 64) :
    lineA A (ix3 h (at_ k (row n r)) d) = A (ix5 (hd k h) 0 n r d) := by
  unfold hd at_ row
  pointwise [lineA]
/-- A maximum or a sum, its row back in place. -/
theorem line_apply (m : FVec Ideal S32x1x16x128 .f32) (k : Fin 4) (h : Fin 8) (n : Fin 16) (r : Fin 128) :
    line m (ix2 h (at_ k (row n r))) = m (ix4 (hd k h) 0 n r) := by
  unfold hd at_ row
  pointwise [line]
/-- An average. -/
theorem outs_apply (A : FVec Ideal S8x8192x64 .f32) (l : FVec Ideal S8x8192 .f32) (h : Fin 8) (q : Fin 8192) (d : Fin 64) :
    outs A l (ix2 q ⟨h.val * 64 + d.val, by omega⟩) = Ideal.div (A (ix3 h q d)) (l (ix2 h q)) := by
  pointwise [outs]
/-- A logarithm. -/
theorem logs_apply (m l : FVec Ideal S8x8192 .f32) (h : Fin 8) (q : Fin 8192) :
    logs m l (ix2 q h) = m (ix2 h q) + Ideal.log (l (ix2 h q)) := by
  pointwise [logs]
/-- The result's averages, -/
theorem all_out (o : FVec Ideal S8192x512 .f32) (e : FVec Ideal S8192x8 .f32) (q : Fin 8192) (h : Fin 8) (d : Fin 64) :
    all o e (ix2 q (ocol h d)) = o (ix2 q ⟨h.val * 64 + d.val, by omega⟩) := by
  unfold ocol
  pointwise [all]
  rw [dif_pos (by omega)]
/-- logarithms -/
theorem all_log (o : FVec Ideal S8192x512 .f32) (e : FVec Ideal S8192x8 .f32) (q : Fin 8192) (h : Fin 8) :
    all o e (ix2 q (lcol h)) = e (ix2 q h) := by
  unfold lcol
  pointwise [all]
/-- and zeros. -/
theorem all_zero (o : FVec Ideal S8192x512 .f32) (e : FVec Ideal S8192x8 .f32) (q : Fin 8192) (x : Fin 120) :
    all o e (ix2 q (zcol x)) = 0 := by
  unfold zcol
  pointwise [all]
  rw [dif_neg (by omega), dif_neg (by omega)]

end Cert.Proof.Band4Ref
end
-- ==== Proof.Band4Entry.lean ====
module

public import proofs.«01_k».proof.Proof.Band4Ref
public import Idealize.ShloMosaic.Lib.Pointwise

@[expose] public section

set_option maxRecDepth 16384
noncomputable section

/-! The reference of the dilated band attention with dilation 4: what each column of its result holds. -/

namespace Cert.Proof.Band4Entry
open Cert.Band4ReferenceIdeal Cert.Band4ReferenceIdeal.Gen Idealize.ShloMosaic Idealize.ShloMosaic.TcCoe Idealize.SL.Sem Idealize.ShloMosaic.StableHlo
open Cert.Proof.BandRow Cert.Proof.Band4Ref

variable (X : FVec Ideal S8192x3840 .bf16) (V : FVec Ideal S8192x1280 .bf16)

/-- The word of minus infinity. -/
theorem bits_bot : Ideal.ofBits .f32 0xFF800000#32 = ⊥ := by
  simp [Ideal.ofBits, Ideal.ieee]

/-- The masked scores of a row. -/
def S (k : Fin 4) (h : Fin 8) (n : Fin 16) (r : Fin 128) (j : Fin 256) : EReal := msk n.val r.val j.val (sc X (ix5 (hd k h) 0 n r j))

/-- A masked score is the score where the key is admitted. -/
theorem ms_row (k : Fin 4) (h : Fin 8) (n : Fin 16) (r : Fin 128) (j : Fin 256) : ms X (ix5 (hd k h) 0 n r j) = S X k h n r j := by
  rw [ms_apply, mask_apply, bits_bot, sel_ref _ _ _ (by omega) r.isLt j.isLt]
  rfl

/-- A row's maximum. -/
theorem MX_row (k : Fin 4) (h : Fin 8) (n : Fin 16) (r : Fin 128) : MX X (ix4 (hd k h) 0 n r) = top (S X k h n r) := by
  unfold MX top
  rw [mx_apply, bits_bot]
  simp only [ms_row]

/-- A row's exponentials. -/
theorem EX_row (k : Fin 4) (h : Fin 8) (n : Fin 16) (r : Fin 128) (j : Fin 256) : EX X (ix5 (hd k h) 0 n r j) = Ideal.exp (S X k h n r j - top (S X k h n r)) := by
  unfold EX
  rw [ex_apply, MX_row, ms_row]

/-- A row's denominator. -/
theorem sm_row (k : Fin 4) (h : Fin 8) (n : Fin 16) (r : Fin 128) : sm (EX X) (ix4 (hd k h) 0 n r) = den (S X k h n r) := by
  unfold den
  rw [sm_apply]
  simp only [EX_row]

/-- A head's average, -/
theorem res_out (k : Fin 4) (h : Fin 8) (n : Fin 16) (r : Fin 128) (d : Fin 64) : res X V (ix2 (at_ k (row n r)) (ocol h d))
    = Ideal.div (∑ j : Fin 256, two (pad (vs V)) (ix4 (hd k h) n j d) * Ideal.exp (S X k h n r j - top (S X k h n r))) (den (S X k h n r)) := by
  unfold res
  rw [all_out, outs_apply, lineA_apply, line_apply, ac_apply, sm_row]
  simp only [EX_row]

/-- the logarithm of its denominator, -/
theorem res_log (k : Fin 4) (h : Fin 8) (n : Fin 16) (r : Fin 128) : res X V (ix2 (at_ k (row n r)) (lcol h)) = lse (S X k h n r) := by
  unfold res lse
  rw [all_log, logs_apply, line_apply, line_apply, MX_row, sm_row]

/-- and a zero. -/
theorem res_zero (q : Fin 8192) (x : Fin 120) : res X V (ix2 q (zcol x)) = 0 := by
  unfold res
  rw [all_zero]

end Cert.Proof.Band4Entry
end
-- ==== Proof.Band4Body.lean ====
module

public import proofs.«01_k».proof.Proof.BandBody
public import proofs.«01_k».proof.Proof.Gen.Band4Ideal.Frame
public import Idealize.ShloMosaic.Lib.Pointwise
public import Idealize.ShloMosaic.Lib.Pipeline.Value
public import Idealize.ShloMosaic.Lib.Pipeline.ValueKit
public import Idealize.ShloMosaic.Lib.Pipeline.ReadBack

@[expose] public section

set_option maxRecDepth 16384
noncomputable section

/-! The body of the dilated band attention with dilation 4 is the body with dilation 1, at the same second grid coordinate. -/

namespace Cert.Proof.Band4Body
open Cert.Band4Ideal Cert.Band4Ideal.Gen Idealize.ShloMosaic Idealize.ShloMosaic.TcCoe Idealize.SL.Sem

/-- The grid point of the call with dilation 1 that has the same second coordinate. -/
def to1 (i : grid0.Coords) : Cert.BandIdeal.grid0.Coords
  | ⟨0, _⟩ => ⟨0, Nat.one_pos⟩
  | ⟨1, _⟩ => ⟨(i 1).val, lt_of_lt_of_le (show (i 1).val < 16 from (i 1).isLt) (show 16 ≤ 64 by omega)⟩

/-- The bodies' blocks are the same. -/
theorem assembled (i : grid0.Coords) (x0 x1 x2 x3 x4 : Vec Ideal S1x128x512 .bf16) : out0_5 (F := Ideal) i x0 x1 x2 x3 x4
    = Cert.BandIdeal.Gen.k0_pay1 (F := Ideal) (BandBody.cat (BandBody.heads (to1 i) x0 x1 x2 x3 x4) (BandBody.tile (BandBody.lses (to1 i) x0 x1 x2))) := by
  unfold_out out0_5
  frame_out
  rfl

end Cert.Proof.Band4Body
end
-- ==== Proof.Band4Value.lean ====
module

public import proofs.«01_k».proof.Proof.Band4Entry
public import proofs.«01_k».proof.Proof.Band4Body
public import proofs.«01_k».proof.Proof.Pure
public import proofs.«01_k».proof.Proof.Gen.Band4Ideal.Frame
public import Idealize.ShloMosaic.Lib.Pipeline.Value
public import Idealize.ShloMosaic.Lib.Pipeline.ValueKit
public import Idealize.ShloMosaic.Lib.Pipeline.ReadBack

@[expose] public section

set_option maxRecDepth 16384
noncomputable section

/-! The kernel of the dilated band attention with dilation 4: its result after the run is the reference's over the same arguments. -/

namespace Cert.Proof.Band4Value
open Cert.Band4Ideal Cert.Band4Ideal.Gen Idealize.ShloMosaic Idealize.ShloMosaic.TcCoe Idealize.SL.Sem
open Idealize.ShloMosaic.Pipeline (Dat)
open Cert.Proof.BandRow Cert.Proof.BandBody
open Cert.Proof.SwaRow (pull)
open Cert.Proof.Band4Ref (res sc bq ks vs pad at_ row hd qcol kcol vcol ocol lcol zcol bq_apply ks_apply vs_apply two_apply sc_apply)

/-- The windows' block indices at every grid point. -/
theorem idx : ∀ t : Fin cfg0.N, win0_0.index t = ![t.val / 16, t.val % 16, 0] ∧ win0_1.index t = ![t.val / 16, t.val % 16 - 1, 1] ∧ win0_2.index t = ![t.val / 16, t.val % 16, 1]
    ∧ win0_3.index t = ![t.val / 16, t.val % 16 - 1, 2] ∧ win0_4.index t = ![t.val / 16, t.val % 16, 2] ∧ win0_5.index t = ![t.val / 16, t.val % 16, 0] :=
  (by decide +kernel : ∀ t : Fin grid0.N, _)

/-- The grid has 64 points, -/
theorem lt64 (t : Fin cfg0.N) : t.val < 64 := lt_of_lt_of_eq t.isLt N_0
/-- and the second coordinate is the block. -/
theorem coord : ∀ t : Fin cfg0.N, (grid0.coords t 1).val = t.val % 16 :=
  (by decide +kernel : ∀ t : Fin grid0.N, _)

/-- The residue class of a grid point, -/
def cls (t : Fin cfg0.N) : Fin 4 := ⟨t.val / 16, by have := lt64 t; omega⟩
/-- its block, -/
def blk (t : Fin cfg0.N) : Fin 16 := ⟨t.val % 16, by omega⟩
/-- and the block before. -/
def prev (t : Fin cfg0.N) : Fin 16 := ⟨t.val % 16 - 1, by omega⟩

section
variable (m : (ℓ : Loc nD τ sig) → Buf (Elt Ideal) ℓ) (c : Dev nD)

/-- The queries and keys -/
abbrev X : FVec Ideal S8192x3840 .bf16 := m ((c : Thread nD τ).loc main_arg0)
/-- and the values of the launch. -/
abbrev Y : FVec Ideal S8192x1280 .bf16 := m ((c : Thread nD τ).loc main_arg1)

/-- What the host prepares: queries, keys and values side by side, by residue classes. -/
def HOST : FVec Ideal S4x2048x1536 .bf16 :=
  transpose S4x2048x1536 [1, 0, 2] (shapeCast _ (concatenate S8192x1536 1 [⟨S8192x1024, extractStridedSlice S8192x1024 ![0, 1536] (X m c) slices_S8192x3840_S8192x1024_0_1536⟩, ⟨S8192x512, extractStridedSlice S8192x512 ![0, 512] (Y m c) slices_S8192x1280_S8192x512_0_512⟩] concatenates_S8192x1024_S8192x512_S8192x1536_d1) shapeCasts_S8192x1536_S2048x4x1536) transposes_S2048x4x1536_S4x2048x1536_1_0_2

/-- The call's array at its entry. -/
theorem host : V m c main_v4 = HOST m c := by
  show StableHlo.after [hostOps0 (F := Ideal)].flatten (fun b => m (c, b)) (Proc.tc.devRef main_v4) = HOST m c
  simp only [List.flatten_cons, List.flatten_nil, List.append_nil, hostOps0]
  after_results_simp
  rfl

/-- A query or key of it, -/
theorem host_qk (k : Fin 4) (l : Fin 2048) (e : Fin 1024) : HOST m c (ix3 k l ⟨e.val, by omega⟩) = X m c (ix2 (at_ k l) ⟨1536 + e.val, by omega⟩) := by
  unfold Band4Ref.at_ HOST
  pointwise
/-- and a value. -/
theorem host_v (k : Fin 4) (l : Fin 2048) (e : Fin 512) : HOST m c (ix3 k l ⟨1024 + e.val, by omega⟩) = Y m c (ix2 (at_ k l) ⟨512 + e.val, by omega⟩) := by
  unfold Band4Ref.at_ HOST
  pointwise

/-- The queries' block. -/
theorem blk0 (t : Fin cfg0.N) (r : Fin 128) (e : Fin 512) : (iblk m c 0 t : FVec Ideal S1x128x512 .bf16) (ix3 0 r e)
    = X m c (ix2 (at_ (cls t) (row (blk t) r)) ⟨1536 + e.val, by omega⟩) := by
  refine Eq.trans (b := HOST m c (ix3 (cls t) (row (blk t) r) ⟨e.val, by omega⟩)) ?_ ((host_qk m c _ _ ⟨e.val, by omega⟩))
  have ht := lt64 t
  blk_simp [iblk, idx t]
  rw [host]
  generalize HOST m c = u
  unfold Band4Ref.row cls blk
  blk_ext [idx t]
/-- The previous keys' block, -/
theorem blk1 (t : Fin cfg0.N) (r : Fin 128) (e : Fin 512) : (iblk m c 1 t : FVec Ideal S1x128x512 .bf16) (ix3 0 r e)
    = X m c (ix2 (at_ (cls t) (row (prev t) r)) ⟨2048 + e.val, by omega⟩) := by
  refine Eq.trans (b := HOST m c (ix3 (cls t) (row (prev t) r) ⟨512 + e.val, by omega⟩)) ?_ ((host_qk m c _ _ ⟨512 + e.val, by omega⟩).trans (congrArg (fun e => X m c (ix2 _ e)) (Fin.ext (by dsimp only; omega))))
  have ht := lt64 t
  blk_simp [iblk, idx t]
  rw [host]
  generalize HOST m c = u
  unfold Band4Ref.row cls prev
  blk_ext [idx t]
/-- the current, -/
theorem blk2 (t : Fin cfg0.N) (r : Fin 128) (e : Fin 512) : (iblk m c 2 t : FVec Ideal S1x128x512 .bf16) (ix3 0 r e)
    = X m c (ix2 (at_ (cls t) (row (blk t) r)) ⟨2048 + e.val, by omega⟩) := by
  refine Eq.trans (b := HOST m c (ix3 (cls t) (row (blk t) r) ⟨512 + e.val, by omega⟩)) ?_ ((host_qk m c _ _ ⟨512 + e.val, by omega⟩).trans (congrArg (fun e => X m c (ix2 _ e)) (Fin.ext (by dsimp only; omega))))
  have ht := lt64 t
  blk_simp [iblk, idx t]
  rw [host]
  generalize HOST m c = u
  unfold Band4Ref.row cls blk
  blk_ext [idx t]
/-- the previous values', -/
theorem blk3 (t : Fin cfg0.N) (r : Fin 128) (e : Fin 512) : (iblk m c 3 t : FVec Ideal S1x128x512 .bf16) (ix3 0 r e)
    = Y m c (ix2 (at_ (cls t) (row (prev t) r)) ⟨512 + e.val, by omega⟩) := by
  refine Eq.trans (b := HOST m c (ix3 (cls t) (row (prev t) r) ⟨1024 + e.val, by omega⟩)) ?_ ((host_v m c _ _ e))
  have ht := lt64 t
  blk_simp [iblk, idx t]
  rw [host]
  generalize HOST m c = u
  unfold Band4Ref.row cls prev
  blk_ext [idx t]
/-- and the current. -/
theorem blk4 (t : Fin cfg0.N) (r : Fin 128) (e : Fin 512) : (iblk m c 4 t : FVec Ideal S1x128x512 .bf16) (ix3 0 r e)
    = Y m c (ix2 (at_ (cls t) (row (blk t) r)) ⟨512 + e.val, by omega⟩) := by
  refine Eq.trans (b := HOST m c (ix3 (cls t) (row (blk t) r) ⟨1024 + e.val, by omega⟩)) ?_ ((host_v m c _ _ e))
  have ht := lt64 t
  blk_simp [iblk, idx t]
  rw [host]
  generalize HOST m c = u
  unfold Band4Ref.row cls blk
  blk_ext [idx t]

/-- The row of its class that holds key `j` of a grid point. -/
def key (t : Fin cfg0.N) (j : Fin 256) : Fin 2048 :=
  if h : j.val < 128 then row (prev t) ⟨j.val, h⟩ else row (blk t) ⟨j.val - 128, by omega⟩

/-- A key of the two blocks, -/
theorem keys (t : Fin cfg0.N) (j : Fin 256) (e : Fin 512) :
    BandBody.two (iblk m c 1 t) (iblk m c 2 t) j e = X m c (ix2 (at_ (cls t) (key t j)) ⟨2048 + e.val, by omega⟩) := by
  unfold BandBody.two key
  split_ifs
  · exact blk1 m c t _ e
  · exact blk2 m c t _ e
/-- and a value. -/
theorem vals (t : Fin cfg0.N) (j : Fin 256) (e : Fin 512) :
    BandBody.two (iblk m c 3 t) (iblk m c 4 t) j e = Y m c (ix2 (at_ (cls t) (key t j)) ⟨512 + e.val, by omega⟩) := by
  unfold BandBody.two key
  split_ifs
  · exact blk3 m c t _ e
  · exact blk4 m c t _ e

/-- For an admitted key it is the row the padded array has there. -/
theorem key_val (t : Fin cfg0.N) (j : Fin 256) (h : 128 ≤ 128 * (t.val % 16) + j.val) : (key t j).val = 128 * (t.val % 16) + j.val - 128 := by
  unfold key Band4Ref.row prev blk
  split_ifs <;> (dsimp only; omega)

/-- The rows the reference sees at an admitted key. -/
theorem two_at (u : FVec Ideal Cert.Band4ReferenceIdeal.S32x2048x64 .f32) (a : Fin 32) (t : Fin cfg0.N) (j : Fin 256) (d : Fin 64) (h : 128 ≤ 128 * (t.val % 16) + j.val) :
    Band4Ref.two (pad u) (ix4 a (blk t) j d) = u (ix3 a (key t j) d) := by
  rw [two_apply, dif_pos (show 128 ≤ 128 * (blk t).val + j.val from h)]
  exact congrArg (fun e => u (ix3 a e d)) (Fin.ext (key_val t j h).symm)

/-- The kernel's score of an admitted key is the reference's. -/
theorem raw_eq (t : Fin cfg0.N) (h : Fin 8) (r : Fin 128) (j : Fin 256) (hj : 128 ≤ 128 * (t.val % 16) + j.val) :
    raw (iblk m c 0 t) (iblk m c 1 t) (iblk m c 2 t) h r j = sc (X m c) (ix5 (hd (cls t) h) 0 (blk t) r j) := by
  unfold raw
  rw [sc_apply, Pure.eighth_f32, mul_comm _ (((1 / 8 : ℝ)) : EReal), ← pull _ _ (by norm_num)]
  refine Finset.sum_congr rfl fun d _ => ?_
  rw [blk0, keys, Pure.eighth_bf16, two_at _ _ _ _ _ hj, ks_apply, bq_apply, mul_comm _ (((1 / 8 : ℝ)) : EReal), mul_assoc, mul_comm (X m c _) (X m c _)]
  rfl

/-- The masked scores are the reference's. -/
theorem S_eq (t : Fin cfg0.N) (h : Fin 8) (r : Fin 128) :
    S (iblk m c 0 t) (iblk m c 1 t) (iblk m c 2 t) (Band4Body.to1 (grid0.coords t) 1).val h r = Band4Entry.S (X m c) (cls t) h (blk t) r := by
  funext j
  rw [show (Band4Body.to1 (grid0.coords t) 1).val = t.val % 16 from coord t]
  show msk (t.val % 16) r.val j.val _ = msk (t.val % 16) r.val j.val _
  unfold msk
  split_ifs with e
  · exact raw_eq m c t h r j e.2.2
  · rfl

/-- The value of an admitted key is the reference's. -/
theorem val_eq (t : Fin cfg0.N) (h : Fin 8) (d : Fin 64) (j : Fin 256) (hj : 128 ≤ 128 * (t.val % 16) + j.val) :
    BandBody.two (iblk m c 3 t) (iblk m c 4 t) j ⟨h.val * 64 + d.val, by omega⟩ = Band4Ref.two (pad (vs (Y m c))) (ix4 (hd (cls t) h) (blk t) j d) := by
  rw [vals, two_at _ _ _ _ _ hj, vs_apply]
  rfl

/-- The reference's result over the kernel's arguments. -/
def REF : FVec Ideal S8192x640 .f32 := res (X m c) (Y m c)

/-- The block of a grid point: an average is the reference's, -/
theorem point (t : Fin cfg0.N) (h : Fin 8) (r : Fin 128) (d : Fin 64) :
    out0_5 (F := Ideal) (grid0.coords t) (iblk m c 0 t) (iblk m c 1 t) (iblk m c 2 t) (iblk m c 3 t) (iblk m c 4 t) (ix3 0 r (ocol h d))
      = REF m c (ix2 (at_ (cls t) (row (blk t) r)) (ocol h d)) := by
  unfold REF
  rw [Band4Entry.res_out, Band4Body.assembled]
  refine (cat_apply _ _ h r d).trans ?_
  rw [heads_apply, S_eq]
  exact avg_eq _ _ _ fun j hj => val_eq m c t h d j (adm_of _ _ _ _ hj).2.2

/-- a logarithm is, -/
theorem point_log (t : Fin cfg0.N) (h : Fin 8) (r : Fin 128) :
    out0_5 (F := Ideal) (grid0.coords t) (iblk m c 0 t) (iblk m c 1 t) (iblk m c 2 t) (iblk m c 3 t) (iblk m c 4 t) (ix3 0 r (lcol h))
      = REF m c (ix2 (at_ (cls t) (row (blk t) r)) (lcol h)) := by
  unfold REF
  rw [Band4Entry.res_log, Band4Body.assembled]
  refine (cat_tile _ _ r ⟨h.val, by omega⟩).trans ?_
  rw [tile_apply, dif_pos h.isLt]
  refine (lses_apply _ _ _ _ h r).trans ?_
  rw [S_eq]

/-- and so is a zero. -/
theorem point_zero (t : Fin cfg0.N) (x : Fin 120) (r : Fin 128) :
    out0_5 (F := Ideal) (grid0.coords t) (iblk m c 0 t) (iblk m c 1 t) (iblk m c 2 t) (iblk m c 3 t) (iblk m c 4 t) (ix3 0 r (zcol x))
      = REF m c (ix2 (at_ (cls t) (row (blk t) r)) (zcol x)) := by
  unfold REF
  rw [Band4Entry.res_zero, Band4Body.assembled]
  have e : zcol x = (⟨512 + (⟨8 + x.val, by omega⟩ : Fin 128).val, by dsimp only; omega⟩ : Fin 640) := by
    unfold zcol
    exact Fin.ext (by dsimp only; omega)
  rw [e]
  refine (cat_tile _ _ r ⟨8 + x.val, by omega⟩).trans ?_
  rw [tile_apply, dif_neg (by dsimp only; omega)]

/-- The reference's result by residue classes. -/
def ARR : FVec Ideal S4x2048x640 .f32 := fun y => REF m c (ix2 (at_ (y 0) (y 1)) (y 2))

/-- The call's array, whole: the reference's result by residue classes. -/
theorem final : (dats m 0 c).arrAt 5 (cfgs 0).N = ARR m c := by
  refine (dats m 0 c).arrAt_eq_of_covers 5 _ (by decide +kernel) fun t _ y => ?_
  blk_simp
  rw [after0_5]
  obtain ⟨q, r, e, rfl⟩ : ∃ (q : Fin 1) (r : Fin 128) (e : Fin 640), y = ix3 q r e := ⟨y 0, y 1, y 2, (ix3_eta y).symm⟩
  obtain rfl : q = 0 := Subsingleton.elim _ _
  have key : out0_5 (F := Ideal) (grid0.coords t) (iblk m c 0 t) (iblk m c 1 t) (iblk m c 2 t) (iblk m c 3 t) (iblk m c 4 t) (ix3 0 r e)
      = REF m c (ix2 (at_ (cls t) (row (blk t) r)) e) := by
    by_cases h1 : e.val < 512
    · obtain ⟨h, d, rfl⟩ : ∃ (h : Fin 8) (d : Fin 64), e = ocol h d := by
        refine ⟨⟨e.val / 64, by omega⟩, ⟨e.val % 64, by omega⟩, Fin.ext ?_⟩
        unfold ocol
        show e.val = e.val / 64 * 64 + e.val % 64
        omega
      exact point m c t h r d
    · by_cases h2 : e.val < 520
      · obtain ⟨h, rfl⟩ : ∃ h : Fin 8, e = lcol h := by
          refine ⟨⟨e.val - 512, by omega⟩, Fin.ext ?_⟩
          unfold lcol
          show e.val = 512 + (e.val - 512)
          omega
        exact point_log m c t h r
      · obtain ⟨x, rfl⟩ : ∃ x : Fin 120, e = zcol x := by
          refine ⟨⟨e.val - 520, by omega⟩, Fin.ext ?_⟩
          unfold zcol
          show e.val = 520 + (e.val - 520)
          omega
        exact point_zero m c t x r
  rw [key]
  have ht := lt64 t
  unfold ARR Band4Ref.at_ Band4Ref.row cls blk
  blk_ext [idx t]

/-- The rows back in their order: the reference's result. -/
theorem back : (shapeCast S8192x640 (transpose S2048x4x640 [1, 0, 2] (ARR m c) transposes_S4x2048x640_S2048x4x640_1_0_2) shapeCasts_S2048x4x640_S8192x640 : FVec Ideal S8192x640 .f32) = REF m c := by
  funext y
  obtain ⟨q, e, rfl⟩ : ∃ (q : Fin 8192) (e : Fin 640), y = ix2 q e := ⟨y 0, y 1, (ix2_eta y).symm⟩
  obtain ⟨k, l, rfl⟩ : ∃ (k : Fin 4) (l : Fin 2048), q = at_ k l := by
    refine ⟨⟨q.val % 4, by omega⟩, ⟨q.val / 4, by omega⟩, Fin.ext ?_⟩
    unfold Band4Ref.at_
    show q.val = q.val / 4 * 4 + q.val % 4
    omega
  refine Eq.trans (b := ARR m c (ix3 k l e)) ?_ rfl
  unfold Band4Ref.at_
  generalize ARR m c = u
  pointwise

/-- The result's array after the run. -/
theorem tail : Pipeline.afterTail₀ cfgs (dats m) 0 (V0 m) [hostOps1] c main_v7 = REF m c := by
  have h := (dats m 0 c).withArrays_arrAt sharedIn0 (V0 m c) (A_eq m c) 5
  rw [final] at h
  refine Eq.trans ?_ (back m c)
  unfold Pipeline.afterTail₀
  generalize hW : Pipeline.withArrays (cfgs 0).spec c (V0 m c) (fun w => (dats m 0 c).arrAt w (cfgs 0).N) = W at h ⊢
  simp only [List.flatten_cons, List.flatten_nil, List.append_nil, hostOps1]
  after_results_simp
  rw [← h]
  rfl
end

/-- The run: the output array is the reference's, and the arguments are as launched. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v7) = REF m c
      ∧ r.2.mem ((c : Thread nD τ).loc main_arg0) = m ((c : Thread nD τ).loc main_arg0) ∧ r.2.mem ((c : Thread nD τ).loc main_arg1) = m ((c : Thread nD τ).loc main_arg1) :=
  (θ_run _ _ _).mono (fun r h c => ⟨((h.1 c).2 main_v7 (Pipeline.mem_restRefs_of main_v7 (by decide) (by decide))).trans (tail m c), h.2 c⟩)
    (θ_run_and (run_main (F := Ideal) m ρ) (unchanged (F := Ideal) m ρ))

end Cert.Proof.Band4Value
end
-- ==== Proof.Band16Ref.lean ====
module

public import proofs.«01_k».proof.Proof.Gen.Band16ReferenceIdeal.Run
public import proofs.«01_k».proof.Proof.BandRow
public import Idealize.ShloMosaic.Lib.Pointwise

@[expose] public section

set_option maxRecDepth 16384
noncomputable section

/-! The reference of the dilated band attention with dilation 16, entry by entry: sixteen residue classes of the rows, 512 rows each. -/

namespace Cert.Proof.Band16Ref
open Cert.Band16ReferenceIdeal Cert.Band16ReferenceIdeal.Gen Idealize.ShloMosaic Idealize.ShloMosaic.TcCoe Idealize.SL.Sem Idealize.ShloMosaic.StableHlo
open Cert.Proof.BandRow

variable (X : FVec Ideal S8192x3840 .bf16) (V : FVec Ideal S8192x1280 .bf16)

/-- The residue classes of the rows, class by class. -/
def fold (u : FVec Ideal S8x8192x64 .f32) : FVec Ideal S128x512x64 .f32 :=
  shapeCast _ (transpose S16x8x512x64 [2, 0, 1, 3] (shapeCast _ u shapeCasts_S8x8192x64_S8x512x16x64) transposes_S8x512x16x64_S16x8x512x64_2_0_1_3) shapeCasts_S16x8x512x64_S128x512x64
/-- Columns of the projections, by class and head. -/
def byHead (u : FVec Ideal S8192x512 .bf16) : FVec Ideal S128x512x64 .f32 :=
  fold (transpose S8x8192x64 [1, 0, 2] (shapeCast _ (extf .f32 u bitsLt_bf16_f32) shapeCasts_S8192x512_S8192x8x64) transposes_S8192x8x64_S8x8192x64_1_0_2)
/-- The queries, by head, block, row. -/
def bq : FVec Ideal S128x1x4x128x64 .f32 :=
  shapeCast _ (broadcastInDim S128x1x512x64 ![0, 2, 3] bcast_S128x512x64_S128x1x512x64_0_2_3 (byHead (extractStridedSlice S8192x512 ![0, 1536] X slices_S8192x3840_S8192x512_0_1536))) shapeCasts_S128x1x512x64_S128x1x4x128x64
/-- The keys by head. -/
def ks : FVec Ideal S128x512x64 .f32 := byHead (extractStridedSlice S8192x512 ![0, 2048] X slices_S8192x3840_S8192x512_0_2048)
/-- The values by head. -/
def vs : FVec Ideal S128x512x64 .f32 := byHead (extractStridedSlice S8192x512 ![0, 512] V slices_S8192x1280_S8192x512_0_512)
/-- A block of zeros in front, cut into blocks. -/
def pad (u : FVec Ideal S128x512x64 .f32) : FVec Ideal S128x5x128x64 .f32 :=
  shapeCast _ (concatenate S128x640x64 1 [⟨S128x128x64, (broadcastInDim S128x128x64 ![] bcast_S_S128x128x64 (constant S_ .f32 0x00000000#32))⟩, ⟨S128x512x64, u⟩] concatenates_S128x128x64_S128x512x64_S128x640x64_d1) shapeCasts_S128x640x64_S128x5x128x64
/-- Each block after the one before it. -/
def two (p : FVec Ideal S128x5x128x64 .f32) : FVec Ideal S128x4x256x64 .f32 :=
  concatenate S128x4x256x64 2 [⟨S128x4x128x64, (extractStridedSlice S128x4x128x64 ![0, 0, 0, 0] p slices_S128x5x128x64_S128x4x128x64_0_0_0_0)⟩, ⟨S128x4x128x64, (extractStridedSlice S128x4x128x64 ![0, 1, 0, 0] p slices_S128x5x128x64_S128x4x128x64_0_1_0_0)⟩] concatenates_S128x4x128x64_S128x4x128x64_S128x4x256x64_d2
/-- The scores before the mask. -/
def sc : FVec Ideal S128x1x4x128x256 .f32 :=
  mulf (transpose S128x1x4x128x256 [0, 3, 1, 4, 2] (Host.dotGeneral dot_S128x4x256x64_S128x1x4x128x64_S128x4x256x1x128_3_4_2_13_01_02 none (two (pad (ks X))) (bq X)) transposes_S128x4x256x1x128_S128x1x4x128x256_0_3_1_4_2) (broadcastInDim S128x1x4x128x256 ![] bcast_S_S128x1x4x128x256 (constant S_ .f32 0x3E000000#32))
/-- The mask. -/
def mask : IVec S4x128x256 1 :=
  andi (broadcastInDim S4x128x256 ![0, 1, 2] bcast_S1x128x256_S4x128x256_0_1_2 (broadcastInDim S1x128x256 ![1, 2] bcast_S128x256_S1x128x256_1_2 (andi (cmpi .sge (subi (broadcastInDim S128x256 ![0, 1] bcast_S128x1_S128x256_0_1 (addi (broadcastInDim S128x1 ![0] bcast_S128_S128x1_0 (iotaInDim S128 32 0)) (broadcastInDim S128x1 ![] bcast_S_S128x1 (constantI S_ 32 128#32)))) (broadcastInDim S128x256 ![0, 1] bcast_S1x256_S128x256_0_1 (broadcastInDim S1x256 ![1] bcast_S256_S1x256_1 (iotaInDim S256 32 0)))) (broadcastInDim S128x256 ![] bcast_S_S128x256 (constantI S_ 32 0#32))) (cmpi .sle (subi (broadcastInDim S128x256 ![0, 1] bcast_S128x1_S128x256_0_1 (addi (broadcastInDim S128x1 ![0] bcast_S128_S128x1_0 (iotaInDim S128 32 0)) (broadcastInDim S128x1 ![] bcast_S_S128x1 (constantI S_ 32 128#32)))) (broadcastInDim S128x256 ![0, 1] bcast_S1x256_S128x256_0_1 (broadcastInDim S1x256 ![1] bcast_S256_S1x256_1 (iotaInDim S256 32 0)))) (broadcastInDim S128x256 ![] bcast_S_S128x256 (constantI S_ 32 128#32)))))) (broadcastInDim S4x128x256 ![0, 1, 2] bcast_S4x1x256_S4x128x256_0_1_2 (cmpi .sge (addi (broadcastInDim S4x1x256 ![0, 1, 2] bcast_S4x1x1_S4x1x256_0_1_2 (subi (muli (broadcastInDim S4x1x1 ![0] bcast_S4_S4x1x1_0 (iotaInDim S4 32 0)) (broadcastInDim S4x1x1 ![] bcast_S_S4x1x1 (constantI S_ 32 128#32))) (broadcastInDim S4x1x1 ![] bcast_S_S4x1x1 (constantI S_ 32 128#32)))) (broadcastInDim S4x1x256 ![0, 1, 2] bcast_S1x1x256_S4x1x256_0_1_2 (broadcastInDim S1x1x256 ![1, 2] bcast_S1x256_S1x1x256_1_2 (broadcastInDim S1x256 ![1] bcast_S256_S1x256_1 (iotaInDim S256 32 0))))) (broadcastInDim S4x1x256 ![] bcast_S_S4x1x256 (constantI S_ 32 0#32))))
/-- The masked scores. -/
def ms : FVec Ideal S128x1x4x128x256 .f32 :=
  select (broadcastInDim S128x1x4x128x256 ![2, 3, 4] bcast_S4x128x256_S128x1x4x128x256_2_3_4 mask) (sc X) (broadcastInDim S128x1x4x128x256 ![] bcast_S_S128x1x4x128x256 (id (constant S_ .f32 0xFF800000#32)))
/-- The row maxima. -/
def mx (s : FVec Ideal S128x1x4x128x256 .f32) : FVec Ideal S128x1x4x128 .f32 :=
  Host.reduce FloatOps.maximumf s (constant S_ .f32 0xFF800000#32) reducesTo_S128x1x4x128x256_S128x1x4x128_d4 h_S_
/-- The exponentials. -/
def ex (s : FVec Ideal S128x1x4x128x256 .f32) (m : FVec Ideal S128x1x4x128 .f32) : FVec Ideal S128x1x4x128x256 .f32 :=
  Host.exp (subf s (broadcastInDim S128x1x4x128x256 ![0, 1, 2, 3, 4] bcast_S128x1x4x128x1_S128x1x4x128x256_0_1_2_3_4 (broadcastInDim S128x1x4x128x1 ![0, 1, 2, 3] bcast_S128x1x4x128_S128x1x4x128x1_0_1_2_3 m)))
/-- Their sums. -/
def sm (p : FVec Ideal S128x1x4x128x256 .f32) : FVec Ideal S128x1x4x128 .f32 :=
  Host.reduceAdd p (constant S_ .f32 0x00000000#32) reducesTo_S128x1x4x128x256_S128x1x4x128_d4 h_S_
/-- The sums of the values weighted by them. -/
def ac (p : FVec Ideal S128x1x4x128x256 .f32) : FVec Ideal S128x1x4x128x64 .f32 :=
  transpose S128x1x4x128x64 [0, 3, 1, 4, 2] (Host.dotGeneral dot_S128x4x256x64_S128x1x4x128x256_S128x4x64x1x128_2_4_3_13_01_02 none (two (pad (vs V))) p) transposes_S128x4x64x1x128_S128x1x4x128x64_0_3_1_4_2
/-- The weighted sums, the rows back in their order. -/
def lineA (a : FVec Ideal S128x1x4x128x64 .f32) : FVec Ideal S8x8192x64 .f32 :=
  shapeCast _ (transpose S8x512x16x64 [1, 2, 0, 3] (shapeCast _ (shapeCast _ (shapeCast _ a shapeCasts_S128x1x4x128x64_S128x1x512x64) shapeCasts_S128x1x512x64_S128x512x64) shapeCasts_S128x512x64_S16x8x512x64) transposes_S16x8x512x64_S8x512x16x64_1_2_0_3) shapeCasts_S8x512x16x64_S8x8192x64
/-- The maxima or the sums, the rows back in their order. -/
def line (m : FVec Ideal S128x1x4x128 .f32) : FVec Ideal S8x8192 .f32 :=
  shapeCast _ (transpose S8x512x16 [1, 2, 0] (shapeCast _ (shapeCast _ (shapeCast _ m shapeCasts_S128x1x4x128_S128x1x512) shapeCasts_S128x1x512_S128x512) shapeCasts_S128x512_S16x8x512) transposes_S16x8x512_S8x512x16_1_2_0) shapeCasts_S8x512x16_S8x8192
/-- The heads' averages, side by side. -/
def outs (a : FVec Ideal S8x8192x64 .f32) (l : FVec Ideal S8x8192 .f32) : FVec Ideal S8192x512 .f32 :=
  shapeCast _ (transpose S8192x8x64 [1, 0, 2] (Host.divf a (broadcastInDim S8x8192x64 ![0, 1, 2] bcast_S8x8192x1_S8x8192x64_0_1_2 (broadcastInDim S8x8192x1 ![0, 1] bcast_S8x8192_S8x8192x1_0_1 l))) transposes_S8x8192x64_S8192x8x64_1_0_2) shapeCasts_S8192x8x64_S8192x512
/-- The heads' logarithms of the denominators. -/
def logs (m l : FVec Ideal S8x8192 .f32) : FVec Ideal S8192x8 .f32 :=
  transpose S8192x8 [1, 0] (addf m (Host.log l)) transposes_S8x8192_S8192x8_1_0
/-- Averages, logarithms and zeros. -/
def all (o : FVec Ideal S8192x512 .f32) (e : FVec Ideal S8192x8 .f32) : FVec Ideal S8192x640 .f32 :=
  concatenate S8192x640 1 [⟨S8192x512, o⟩, ⟨S8192x8, e⟩, ⟨S8192x120, (broadcastInDim S8192x120 ![] bcast_S_S8192x120 (constant S_ .f32 0x00000000#32))⟩] concatenates_S8192x512_S8192x8_S8192x120_S8192x640_d1
/-- The row maxima of the scores, -/
def MX : FVec Ideal S128x1x4x128 .f32 := mx (ms X)
/-- their exponentials, -/
def EX : FVec Ideal S128x1x4x128x256 .f32 := ex (ms X) (MX X)
/-- and the whole result. -/
def res : FVec Ideal S8192x640 .f32 :=
  all (outs (lineA (ac V (EX X))) (line (sm (EX X)))) (logs (line (MX X)) (line (sm (EX X))))

/-- The reference's composed term is the staged result. -/
theorem res_eq (m : (ℓ : Loc nD τ sig) → Buf (Elt Ideal) ℓ) (c : Dev nD) :
    Cert.Band16ReferenceIdeal.Value.res_out0 (F := Ideal) m c
      = res (m ((c.tc : Thread nD τ).loc main_arg0)) (m ((c.tc : Thread nD τ).loc main_arg1)) := by
  unfold Cert.Band16ReferenceIdeal.Value.res_out0 Cert.Band16ReferenceIdeal.Value.res_main_v102
  rfl

/-- Row `l` of class `k`. -/
def at_ (k : Fin 16) (l : Fin 512) : Fin 8192 := ⟨l.val * 16 + k.val, by omega⟩
/-- Row `r` of block `n`, within a class. -/
def row (n : Fin 4) (r : Fin 128) : Fin 512 := ⟨n.val * 128 + r.val, by omega⟩
/-- Head `h` of class `k`. -/
def hd (k : Fin 16) (h : Fin 8) : Fin 128 := ⟨k.val * 8 + h.val, by omega⟩
/-- The column of a query entry, -/
def qcol (h : Fin 8) (d : Fin 64) : Fin 3840 := ⟨1536 + (h.val * 64 + d.val), by omega⟩
/-- of a key entry, -/
def kcol (h : Fin 8) (d : Fin 64) : Fin 3840 := ⟨2048 + (h.val * 64 + d.val), by omega⟩
/-- of a value entry, -/
def vcol (h : Fin 8) (d : Fin 64) : Fin 1280 := ⟨512 + (h.val * 64 + d.val), by omega⟩
/-- of an average, -/
def ocol (h : Fin 8) (d : Fin 64) : Fin 640 := ⟨h.val * 64 + d.val, by omega⟩
/-- of a logarithm, -/
def lcol (h : Fin 8) : Fin 640 := ⟨512 + h.val, by omega⟩
/-- and of a zero. -/
def zcol (x : Fin 120) : Fin 640 := ⟨520 + x.val, by omega⟩

/-- A folded entry. -/
theorem fold_apply (u : FVec Ideal S8x8192x64 .f32) (k : Fin 16) (h : Fin 8) (l : Fin 512) (d : Fin 64) : fold u (ix3 (hd k h) l d) = u (ix3 h (at_ k l) d) := by
  unfold hd at_
  pointwise [fold]
/-- An entry by head. -/
theorem byHead_apply (u : FVec Ideal S8192x512 .bf16) (k : Fin 16) (h : Fin 8) (l : Fin 512) (d : Fin 64) :
    byHead u (ix3 (hd k h) l d) = u (ix2 (at_ k l) ⟨h.val * 64 + d.val, by omega⟩) := by
  unfold byHead
  rw [fold_apply]
  pointwise
/-- A query entry. -/
theorem bq_apply (k : Fin 16) (h : Fin 8) (n : Fin 4) (r : Fin 128) (d : Fin 64) : bq X (ix5 (hd k h) 0 n r d) = X (ix2 (at_ k (row n r)) (qcol h d)) := by
  have e : bq X (ix5 (hd k h) 0 n r d) = byHead (extractStridedSlice S8192x512 ![0, 1536] X slices_S8192x3840_S8192x512_0_1536) (ix3 (hd k h) (row n r) d) := by
    unfold bq row
    generalize byHead _ = u
    generalize hd k h = a
    pointwise
  rw [e, byHead_apply]
  unfold qcol
  pointwise
/-- A key entry. -/
theorem ks_apply (k : Fin 16) (h : Fin 8) (l : Fin 512) (d : Fin 64) : ks X (ix3 (hd k h) l d) = X (ix2 (at_ k l) (kcol h d)) := by
  unfold ks kcol
  rw [byHead_apply]
  pointwise
/-- A value entry. -/
theorem vs_apply (k : Fin 16) (h : Fin 8) (l : Fin 512) (d : Fin 64) : vs V (ix3 (hd k h) l d) = V (ix2 (at_ k l) (vcol h d)) := by
  unfold vs vcol
  rw [byHead_apply]
  pointwise
/-- The rows a block sees: zeros before the first. -/
theorem two_apply (u : FVec Ideal S128x512x64 .f32) (a : Fin 128) (n : Fin 4) (j : Fin 256) (d : Fin 64) :
    two (pad u) (ix4 a n j d) = if h : 128 ≤ 128 * n.val + j.val then u (ix3 a ⟨128 * n.val + j.val - 128, by omega⟩ d) else 0 := by
  pointwise [two, pad]
  by_cases h : 128 ≤ 128 * n.val + j.val
  · rw [dif_pos h]
    split_ifs <;> first
      | (exfalso; omega)
      | exact congrArg (fun e => u (ix3 a e d)) (Fin.ext (by dsimp only; omega))
  · rw [dif_neg h]
    split_ifs <;> first
      | rfl
      | (exfalso; omega)
/-- The mask. -/
theorem mask_apply (n : Fin 4) (r : Fin 128) (j : Fin 256) : mask (ix3 n r j)
    = IntOp.andi (IntOp.andi (IntOp.cmpi .sge (IntOp.subi (IntOp.addi (BitVec.ofNat 32 r.val) 128#32) (BitVec.ofNat 32 j.val)) 0#32)
      (IntOp.cmpi .sle (IntOp.subi (IntOp.addi (BitVec.ofNat 32 r.val) 128#32) (BitVec.ofNat 32 j.val)) 128#32))
      (IntOp.cmpi .sge (IntOp.addi (IntOp.subi (IntOp.muli (BitVec.ofNat 32 n.val) 128#32) 128#32) (BitVec.ofNat 32 j.val)) 0#32) := by
  pointwise [mask]
/-- A score before the mask. -/
theorem sc_apply (h : Fin 128) (n : Fin 4) (r : Fin 128) (j : Fin 256) : sc X (ix5 h 0 n r j)
    = (∑ d : Fin 64, two (pad (ks X)) (ix4 h n j d) * bq X (ix5 h 0 n r d)) * Ideal.ofBits .f32 0x3E000000#32 := by
  unfold sc
  generalize two (pad (ks X)) = K
  generalize bq X = Q
  pointwise
/-- A masked score. -/
theorem ms_apply (h : Fin 128) (n : Fin 4) (r : Fin 128) (j : Fin 256) : ms X (ix5 h 0 n r j)
    = Scalar.select (mask (ix3 n r j)) (sc X (ix5 h 0 n r j)) (Ideal.ofBits .f32 0xFF800000#32) := by
  unfold ms
  generalize mask = M
  generalize sc X = S
  pointwise
  rfl
/-- A row maximum. -/
theorem mx_apply (s : FVec Ideal S128x1x4x128x256 .f32) (h : Fin 128) (n : Fin 4) (r : Fin 128) :
    mx s (ix4 h 0 n r) = Finset.univ.fold max (Ideal.ofBits .f32 0xFF800000#32) fun j : Fin 256 => s (ix5 h 0 n r j) := by
  pointwise [mx]
/-- An exponential. -/
theorem ex_apply (s : FVec Ideal S128x1x4x128x256 .f32) (m : FVec Ideal S128x1x4x128 .f32) (h : Fin 128) (n : Fin 4) (r : Fin 128) (j : Fin 256) :
    ex s m (ix5 h 0 n r j) = Ideal.exp (s (ix5 h 0 n r j) - m (ix4 h 0 n r)) := by
  pointwise [ex]
/-- A sum. -/
theorem sm_apply (p : FVec Ideal S128x1x4x128x256 .f32) (h : Fin 128) (n : Fin 4) (r : Fin 128) :
    sm p (ix4 h 0 n r) = ∑ j : Fin 256, p (ix5 h 0 n r j) := by
  pointwise [sm]
/-- A weighted sum. -/
theorem ac_apply (p : FVec Ideal S128x1x4x128x256 .f32) (h : Fin 128) (n : Fin 4) (r : Fin 128) (d : Fin 64) :
    ac V p (ix5 h 0 n r d) = ∑ j : Fin 256, two (pad (vs V)) (ix4 h n j d) * p (ix5 h 0 n r j) := by
  unfold ac
  generalize two (pad (vs V)) = K
  pointwise
/-- A weighted sum, its row back in place. -/
theorem lineA_apply (A : FVec Ideal S128x1x4x128x64 .f32) (k : Fin 16) (h : Fin 8) (n : Fin 4) (r : Fin 128) (d : Fin 64) :
    lineA A (ix3 h (at_ k (row n r)) d) = A (ix5 (hd k h) 0 n r d) := by
  unfold hd at_ row
  pointwise [lineA]
/-- A maximum or a sum, its row back in place. -/
theorem line_apply (m : FVec Ideal S128x1x4x128 .f32) (k : Fin 16) (h : Fin 8) (n : Fin 4) (r : Fin 128) :
    line m (ix2 h (at_ k (row n r))) = m (ix4 (hd k h) 0 n r) := by
  unfold hd at_ row
  pointwise [line]
/-- An average. -/
theorem outs_apply (A : FVec Ideal S8x8192x64 .f32) (l : FVec Ideal S8x8192 .f32) (h : Fin 8) (q : Fin 8192) (d : Fin 64) :
    outs A l (ix2 q ⟨h.val * 64 + d.val, by omega⟩) = Ideal.div (A (ix3 h q d)) (l (ix2 h q)) := by
  pointwise [outs]
/-- A logarithm. -/
theorem logs_apply (m l : FVec Ideal S8x8192 .f32) (h : Fin 8) (q : Fin 8192) :
    logs m l (ix2 q h) = m (ix2 h q) + Ideal.log (l (ix2 h q)) := by
  pointwise [logs]
/-- The result's averages, -/
theorem all_out (o : FVec Ideal S8192x512 .f32) (e : FVec Ideal S8192x8 .f32) (q : Fin 8192) (h : Fin 8) (d : Fin 64) :
    all o e (ix2 q (ocol h d)) = o (ix2 q ⟨h.val * 64 + d.val, by omega⟩) := by
  unfold ocol
  pointwise [all]
  rw [dif_pos (by omega)]
/-- logarithms -/
theorem all_log (o : FVec Ideal S8192x512 .f32) (e : FVec Ideal S8192x8 .f32) (q : Fin 8192) (h : Fin 8) :
    all o e (ix2 q (lcol h)) = e (ix2 q h) := by
  unfold lcol
  pointwise [all]
/-- and zeros. -/
theorem all_zero (o : FVec Ideal S8192x512 .f32) (e : FVec Ideal S8192x8 .f32) (q : Fin 8192) (x : Fin 120) :
    all o e (ix2 q (zcol x)) = 0 := by
  unfold zcol
  pointwise [all]
  rw [dif_neg (by omega), dif_neg (by omega)]

end Cert.Proof.Band16Ref
end
-- ==== Proof.Band16Entry.lean ====
module

public import proofs.«01_k».proof.Proof.Band16Ref
public import Idealize.ShloMosaic.Lib.Pointwise

@[expose] public section

set_option maxRecDepth 16384
noncomputable section

/-! The reference of the dilated band attention with dilation 16: what each column of its result holds. -/

namespace Cert.Proof.Band16Entry
open Cert.Band16ReferenceIdeal Cert.Band16ReferenceIdeal.Gen Idealize.ShloMosaic Idealize.ShloMosaic.TcCoe Idealize.SL.Sem Idealize.ShloMosaic.StableHlo
open Cert.Proof.BandRow Cert.Proof.Band16Ref

variable (X : FVec Ideal S8192x3840 .bf16) (V : FVec Ideal S8192x1280 .bf16)

/-- The word of minus infinity. -/
theorem bits_bot : Ideal.ofBits .f32 0xFF800000#32 = ⊥ := by
  simp [Ideal.ofBits, Ideal.ieee]

/-- The masked scores of a row. -/
def S (k : Fin 16) (h : Fin 8) (n : Fin 4) (r : Fin 128) (j : Fin 256) : EReal := msk n.val r.val j.val (sc X (ix5 (hd k h) 0 n r j))

/-- A masked score is the score where the key is admitted. -/
theorem ms_row (k : Fin 16) (h : Fin 8) (n : Fin 4) (r : Fin 128) (j : Fin 256) : ms X (ix5 (hd k h) 0 n r j) = S X k h n r j := by
  rw [ms_apply, mask_apply, bits_bot, sel_ref _ _ _ (by omega) r.isLt j.isLt]
  rfl

/-- A row's maximum. -/
theorem MX_row (k : Fin 16) (h : Fin 8) (n : Fin 4) (r : Fin 128) : MX X (ix4 (hd k h) 0 n r) = top (S X k h n r) := by
  unfold MX top
  rw [mx_apply, bits_bot]
  simp only [ms_row]

/-- A row's exponentials. -/
theorem EX_row (k : Fin 16) (h : Fin 8) (n : Fin 4) (r : Fin 128) (j : Fin 256) : EX X (ix5 (hd k h) 0 n r j) = Ideal.exp (S X k h n r j - top (S X k h n r)) := by
  unfold EX
  rw [ex_apply, MX_row, ms_row]

/-- A row's denominator. -/
theorem sm_row (k : Fin 16) (h : Fin 8) (n : Fin 4) (r : Fin 128) : sm (EX X) (ix4 (hd k h) 0 n r) = den (S X k h n r) := by
  unfold den
  rw [sm_apply]
  simp only [EX_row]

/-- A head's average, -/
theorem res_out (k : Fin 16) (h : Fin 8) (n : Fin 4) (r : Fin 128) (d : Fin 64) : res X V (ix2 (at_ k (row n r)) (ocol h d))
    = Ideal.div (∑ j : Fin 256, two (pad (vs V)) (ix4 (hd k h) n j d) * Ideal.exp (S X k h n r j - top (S X k h n r))) (den (S X k h n r)) := by
  unfold res
  rw [all_out, outs_apply, lineA_apply, line_apply, ac_apply, sm_row]
  simp only [EX_row]

/-- the logarithm of its denominator, -/
theorem res_log (k : Fin 16) (h : Fin 8) (n : Fin 4) (r : Fin 128) : res X V (ix2 (at_ k (row n r)) (lcol h)) = lse (S X k h n r) := by
  unfold res lse
  rw [all_log, logs_apply, line_apply, line_apply, MX_row, sm_row]

/-- and a zero. -/
theorem res_zero (q : Fin 8192) (x : Fin 120) : res X V (ix2 q (zcol x)) = 0 := by
  unfold res
  rw [all_zero]

end Cert.Proof.Band16Entry
end
-- ==== Proof.Band16Body.lean ====
module

public import proofs.«01_k».proof.Proof.BandBody
public import proofs.«01_k».proof.Proof.Gen.Band16Ideal.Frame
public import Idealize.ShloMosaic.Lib.Pointwise
public import Idealize.ShloMosaic.Lib.Pipeline.Value
public import Idealize.ShloMosaic.Lib.Pipeline.ValueKit
public import Idealize.ShloMosaic.Lib.Pipeline.ReadBack

@[expose] public section

set_option maxRecDepth 16384
noncomputable section

/-! The body of the dilated band attention with dilation 16 is the body with dilation 1, at the same second grid coordinate. -/

namespace Cert.Proof.Band16Body
open Cert.Band16Ideal Cert.Band16Ideal.Gen Idealize.ShloMosaic Idealize.ShloMosaic.TcCoe Idealize.SL.Sem

/-- The grid point of the call with dilation 1 that has the same second coordinate. -/
def to1 (i : grid0.Coords) : Cert.BandIdeal.grid0.Coords
  | ⟨0, _⟩ => ⟨0, Nat.one_pos⟩
  | ⟨1, _⟩ => ⟨(i 1).val, lt_of_lt_of_le (show (i 1).val < 4 from (i 1).isLt) (show 4 ≤ 64 by omega)⟩

/-- The bodies' blocks are the same. -/
theorem assembled (i : grid0.Coords) (x0 x1 x2 x3 x4 : Vec Ideal S1x128x512 .bf16) : out0_5 (F := Ideal) i x0 x1 x2 x3 x4
    = Cert.BandIdeal.Gen.k0_pay1 (F := Ideal) (BandBody.cat (BandBody.heads (to1 i) x0 x1 x2 x3 x4) (BandBody.tile (BandBody.lses (to1 i) x0 x1 x2))) := by
  unfold_out out0_5
  frame_out
  rfl

end Cert.Proof.Band16Body
end
-- ==== Proof.Band16Value.lean ====
module

public import proofs.«01_k».proof.Proof.Band16Entry
public import proofs.«01_k».proof.Proof.Band16Body
public import proofs.«01_k».proof.Proof.Pure
public import proofs.«01_k».proof.Proof.Gen.Band16Ideal.Frame
public import Idealize.ShloMosaic.Lib.Pipeline.Value
public import Idealize.ShloMosaic.Lib.Pipeline.ValueKit
public import Idealize.ShloMosaic.Lib.Pipeline.ReadBack

@[expose] public section

set_option maxRecDepth 16384
noncomputable section

/-! The kernel of the dilated band attention with dilation 16: its result after the run is the reference's over the same arguments. -/

namespace Cert.Proof.Band16Value
open Cert.Band16Ideal Cert.Band16Ideal.Gen Idealize.ShloMosaic Idealize.ShloMosaic.TcCoe Idealize.SL.Sem
open Idealize.ShloMosaic.Pipeline (Dat)
open Cert.Proof.BandRow Cert.Proof.BandBody
open Cert.Proof.SwaRow (pull)
open Cert.Proof.Band16Ref (res sc bq ks vs pad at_ row hd qcol kcol vcol ocol lcol zcol bq_apply ks_apply vs_apply two_apply sc_apply)

/-- The windows' block indices at every grid point. -/
theorem idx : ∀ t : Fin cfg0.N, win0_0.index t = ![t.val / 4, t.val % 4, 0] ∧ win0_1.index t = ![t.val / 4, t.val % 4 - 1, 1] ∧ win0_2.index t = ![t.val / 4, t.val % 4, 1]
    ∧ win0_3.index t = ![t.val / 4, t.val % 4 - 1, 2] ∧ win0_4.index t = ![t.val / 4, t.val % 4, 2] ∧ win0_5.index t = ![t.val / 4, t.val % 4, 0] :=
  (by decide +kernel : ∀ t : Fin grid0.N, _)

/-- The grid has 64 points, -/
theorem lt64 (t : Fin cfg0.N) : t.val < 64 := lt_of_lt_of_eq t.isLt N_0
/-- and the second coordinate is the block. -/
theorem coord : ∀ t : Fin cfg0.N, (grid0.coords t 1).val = t.val % 4 :=
  (by decide +kernel : ∀ t : Fin grid0.N, _)

/-- The residue class of a grid point, -/
def cls (t : Fin cfg0.N) : Fin 16 := ⟨t.val / 4, by have := lt64 t; omega⟩
/-- its block, -/
def blk (t : Fin cfg0.N) : Fin 4 := ⟨t.val % 4, by omega⟩
/-- and the block before. -/
def prev (t : Fin cfg0.N) : Fin 4 := ⟨t.val % 4 - 1, by omega⟩

section
variable (m : (ℓ : Loc nD τ sig) → Buf (Elt Ideal) ℓ) (c : Dev nD)

/-- The queries and keys -/
abbrev X : FVec Ideal S8192x3840 .bf16 := m ((c : Thread nD τ).loc main_arg0)
/-- and the values of the launch. -/
abbrev Y : FVec Ideal S8192x1280 .bf16 := m ((c : Thread nD τ).loc main_arg1)

/-- What the host prepares: queries, keys and values side by side, by residue classes. -/
def HOST : FVec Ideal S16x512x1536 .bf16 :=
  transpose S16x512x1536 [1, 0, 2] (shapeCast _ (concatenate S8192x1536 1 [⟨S8192x1024, extractStridedSlice S8192x1024 ![0, 1536] (X m c) slices_S8192x3840_S8192x1024_0_1536⟩, ⟨S8192x512, extractStridedSlice S8192x512 ![0, 512] (Y m c) slices_S8192x1280_S8192x512_0_512⟩] concatenates_S8192x1024_S8192x512_S8192x1536_d1) shapeCasts_S8192x1536_S512x16x1536) transposes_S512x16x1536_S16x512x1536_1_0_2

/-- The call's array at its entry. -/
theorem host : V m c main_v4 = HOST m c := by
  show StableHlo.after [hostOps0 (F := Ideal)].flatten (fun b => m (c, b)) (Proc.tc.devRef main_v4) = HOST m c
  simp only [List.flatten_cons, List.flatten_nil, List.append_nil, hostOps0]
  after_results_simp
  rfl

/-- A query or key of it, -/
theorem host_qk (k : Fin 16) (l : Fin 512) (e : Fin 1024) : HOST m c (ix3 k l ⟨e.val, by omega⟩) = X m c (ix2 (at_ k l) ⟨1536 + e.val, by omega⟩) := by
  unfold Band16Ref.at_ HOST
  pointwise
/-- and a value. -/
theorem host_v (k : Fin 16) (l : Fin 512) (e : Fin 512) : HOST m c (ix3 k l ⟨1024 + e.val, by omega⟩) = Y m c (ix2 (at_ k l) ⟨512 + e.val, by omega⟩) := by
  unfold Band16Ref.at_ HOST
  pointwise

/-- The queries' block. -/
theorem blk0 (t : Fin cfg0.N) (r : Fin 128) (e : Fin 512) : (iblk m c 0 t : FVec Ideal S1x128x512 .bf16) (ix3 0 r e)
    = X m c (ix2 (at_ (cls t) (row (blk t) r)) ⟨1536 + e.val, by omega⟩) := by
  refine Eq.trans (b := HOST m c (ix3 (cls t) (row (blk t) r) ⟨e.val, by omega⟩)) ?_ ((host_qk m c _ _ ⟨e.val, by omega⟩))
  have ht := lt64 t
  blk_simp [iblk, idx t]
  rw [host]
  generalize HOST m c = u
  unfold Band16Ref.row cls blk
  blk_ext [idx t]
/-- The previous keys' block, -/
theorem blk1 (t : Fin cfg0.N) (r : Fin 128) (e : Fin 512) : (iblk m c 1 t : FVec Ideal S1x128x512 .bf16) (ix3 0 r e)
    = X m c (ix2 (at_ (cls t) (row (prev t) r)) ⟨2048 + e.val, by omega⟩) := by
  refine Eq.trans (b := HOST m c (ix3 (cls t) (row (prev t) r) ⟨512 + e.val, by omega⟩)) ?_ ((host_qk m c _ _ ⟨512 + e.val, by omega⟩).trans (congrArg (fun e => X m c (ix2 _ e)) (Fin.ext (by dsimp only; omega))))
  have ht := lt64 t
  blk_simp [iblk, idx t]
  rw [host]
  generalize HOST m c = u
  unfold Band16Ref.row cls prev
  blk_ext [idx t]
/-- the current, -/
theorem blk2 (t : Fin cfg0.N) (r : Fin 128) (e : Fin 512) : (iblk m c 2 t : FVec Ideal S1x128x512 .bf16) (ix3 0 r e)
    = X m c (ix2 (at_ (cls t) (row (blk t) r)) ⟨2048 + e.val, by omega⟩) := by
  refine Eq.trans (b := HOST m c (ix3 (cls t) (row (blk t) r) ⟨512 + e.val, by omega⟩)) ?_ ((host_qk m c _ _ ⟨512 + e.val, by omega⟩).trans (congrArg (fun e => X m c (ix2 _ e)) (Fin.ext (by dsimp only; omega))))
  have ht := lt64 t
  blk_simp [iblk, idx t]
  rw [host]
  generalize HOST m c = u
  unfold Band16Ref.row cls blk
  blk_ext [idx t]
/-- the previous values', -/
theorem blk3 (t : Fin cfg0.N) (r : Fin 128) (e : Fin 512) : (iblk m c 3 t : FVec Ideal S1x128x512 .bf16) (ix3 0 r e)
    = Y m c (ix2 (at_ (cls t) (row (prev t) r)) ⟨512 + e.val, by omega⟩) := by
  refine Eq.trans (b := HOST m c (ix3 (cls t) (row (prev t) r) ⟨1024 + e.val, by omega⟩)) ?_ ((host_v m c _ _ e))
  have ht := lt64 t
  blk_simp [iblk, idx t]
  rw [host]
  generalize HOST m c = u
  unfold Band16Ref.row cls prev
  blk_ext [idx t]
/-- and the current. -/
theorem blk4 (t : Fin cfg0.N) (r : Fin 128) (e : Fin 512) : (iblk m c 4 t : FVec Ideal S1x128x512 .bf16) (ix3 0 r e)
    = Y m c (ix2 (at_ (cls t) (row (blk t) r)) ⟨512 + e.val, by omega⟩) := by
  refine Eq.trans (b := HOST m c (ix3 (cls t) (row (blk t) r) ⟨1024 + e.val, by omega⟩)) ?_ ((host_v m c _ _ e))
  have ht := lt64 t
  blk_simp [iblk, idx t]
  rw [host]
  generalize HOST m c = u
  unfold Band16Ref.row cls blk
  blk_ext [idx t]

/-- The row of its class that holds key `j` of a grid point. -/
def key (t : Fin cfg0.N) (j : Fin 256) : Fin 512 :=
  if h : j.val < 128 then row (prev t) ⟨j.val, h⟩ else row (blk t) ⟨j.val - 128, by omega⟩

/-- A key of the two blocks, -/
theorem keys (t : Fin cfg0.N) (j : Fin 256) (e : Fin 512) :
    BandBody.two (iblk m c 1 t) (iblk m c 2 t) j e = X m c (ix2 (at_ (cls t) (key t j)) ⟨2048 + e.val, by omega⟩) := by
  unfold BandBody.two key
  split_ifs
  · exact blk1 m c t _ e
  · exact blk2 m c t _ e
/-- and a value. -/
theorem vals (t : Fin cfg0.N) (j : Fin 256) (e : Fin 512) :
    BandBody.two (iblk m c 3 t) (iblk m c 4 t) j e = Y m c (ix2 (at_ (cls t) (key t j)) ⟨512 + e.val, by omega⟩) := by
  unfold BandBody.two key
  split_ifs
  · exact blk3 m c t _ e
  · exact blk4 m c t _ e

/-- For an admitted key it is the row the padded array has there. -/
theorem key_val (t : Fin cfg0.N) (j : Fin 256) (h : 128 ≤ 128 * (t.val % 4) + j.val) : (key t j).val = 128 * (t.val % 4) + j.val - 128 := by
  unfold key Band16Ref.row prev blk
  split_ifs <;> (dsimp only; omega)

/-- The rows the reference sees at an admitted key. -/
theorem two_at (u : FVec Ideal Cert.Band16ReferenceIdeal.S128x512x64 .f32) (a : Fin 128) (t : Fin cfg0.N) (j : Fin 256) (d : Fin 64) (h : 128 ≤ 128 * (t.val % 4) + j.val) :
    Band16Ref.two (pad u) (ix4 a (blk t) j d) = u (ix3 a (key t j) d) := by
  rw [two_apply, dif_pos (show 128 ≤ 128 * (blk t).val + j.val from h)]
  exact congrArg (fun e => u (ix3 a e d)) (Fin.ext (key_val t j h).symm)

/-- The kernel's score of an admitted key is the reference's. -/
theorem raw_eq (t : Fin cfg0.N) (h : Fin 8) (r : Fin 128) (j : Fin 256) (hj : 128 ≤ 128 * (t.val % 4) + j.val) :
    raw (iblk m c 0 t) (iblk m c 1 t) (iblk m c 2 t) h r j = sc (X m c) (ix5 (hd (cls t) h) 0 (blk t) r j) := by
  unfold raw
  rw [sc_apply, Pure.eighth_f32, mul_comm _ (((1 / 8 : ℝ)) : EReal), ← pull _ _ (by norm_num)]
  refine Finset.sum_congr rfl fun d _ => ?_
  rw [blk0, keys, Pure.eighth_bf16, two_at _ _ _ _ _ hj, ks_apply, bq_apply, mul_comm _ (((1 / 8 : ℝ)) : EReal), mul_assoc, mul_comm (X m c _) (X m c _)]
  rfl

/-- The masked scores are the reference's. -/
theorem S_eq (t : Fin cfg0.N) (h : Fin 8) (r : Fin 128) :
    S (iblk m c 0 t) (iblk m c 1 t) (iblk m c 2 t) (Band16Body.to1 (grid0.coords t) 1).val h r = Band16Entry.S (X m c) (cls t) h (blk t) r := by
  funext j
  rw [show (Band16Body.to1 (grid0.coords t) 1).val = t.val % 4 from coord t]
  show msk (t.val % 4) r.val j.val _ = msk (t.val % 4) r.val j.val _
  unfold msk
  split_ifs with e
  · exact raw_eq m c t h r j e.2.2
  · rfl

/-- The value of an admitted key is the reference's. -/
theorem val_eq (t : Fin cfg0.N) (h : Fin 8) (d : Fin 64) (j : Fin 256) (hj : 128 ≤ 128 * (t.val % 4) + j.val) :
    BandBody.two (iblk m c 3 t) (iblk m c 4 t) j ⟨h.val * 64 + d.val, by omega⟩ = Band16Ref.two (pad (vs (Y m c))) (ix4 (hd (cls t) h) (blk t) j d) := by
  rw [vals, two_at _ _ _ _ _ hj, vs_apply]
  rfl

/-- The reference's result over the kernel's arguments. -/
def REF : FVec Ideal S8192x640 .f32 := res (X m c) (Y m c)

/-- The block of a grid point: an average is the reference's, -/
theorem point (t : Fin cfg0.N) (h : Fin 8) (r : Fin 128) (d : Fin 64) :
    out0_5 (F := Ideal) (grid0.coords t) (iblk m c 0 t) (iblk m c 1 t) (iblk m c 2 t) (iblk m c 3 t) (iblk m c 4 t) (ix3 0 r (ocol h d))
      = REF m c (ix2 (at_ (cls t) (row (blk t) r)) (ocol h d)) := by
  unfold REF
  rw [Band16Entry.res_out, Band16Body.assembled]
  refine (cat_apply _ _ h r d).trans ?_
  rw [heads_apply, S_eq]
  exact avg_eq _ _ _ fun j hj => val_eq m c t h d j (adm_of _ _ _ _ hj).2.2

/-- a logarithm is, -/
theorem point_log (t : Fin cfg0.N) (h : Fin 8) (r : Fin 128) :
    out0_5 (F := Ideal) (grid0.coords t) (iblk m c 0 t) (iblk m c 1 t) (iblk m c 2 t) (iblk m c 3 t) (iblk m c 4 t) (ix3 0 r (lcol h))
      = REF m c (ix2 (at_ (cls t) (row (blk t) r)) (lcol h)) := by
  unfold REF
  rw [Band16Entry.res_log, Band16Body.assembled]
  refine (cat_tile _ _ r ⟨h.val, by omega⟩).trans ?_
  rw [tile_apply, dif_pos h.isLt]
  refine (lses_apply _ _ _ _ h r).trans ?_
  rw [S_eq]

/-- and so is a zero. -/
theorem point_zero (t : Fin cfg0.N) (x : Fin 120) (r : Fin 128) :
    out0_5 (F := Ideal) (grid0.coords t) (iblk m c 0 t) (iblk m c 1 t) (iblk m c 2 t) (iblk m c 3 t) (iblk m c 4 t) (ix3 0 r (zcol x))
      = REF m c (ix2 (at_ (cls t) (row (blk t) r)) (zcol x)) := by
  unfold REF
  rw [Band16Entry.res_zero, Band16Body.assembled]
  have e : zcol x = (⟨512 + (⟨8 + x.val, by omega⟩ : Fin 128).val, by dsimp only; omega⟩ : Fin 640) := by
    unfold zcol
    exact Fin.ext (by dsimp only; omega)
  rw [e]
  refine (cat_tile _ _ r ⟨8 + x.val, by omega⟩).trans ?_
  rw [tile_apply, dif_neg (by dsimp only; omega)]

/-- The reference's result by residue classes. -/
def ARR : FVec Ideal S16x512x640 .f32 := fun y => REF m c (ix2 (at_ (y 0) (y 1)) (y 2))

/-- The call's array, whole: the reference's result by residue classes. -/
theorem final : (dats m 0 c).arrAt 5 (cfgs 0).N = ARR m c := by
  refine (dats m 0 c).arrAt_eq_of_covers 5 _ (by decide +kernel) fun t _ y => ?_
  blk_simp
  rw [after0_5]
  obtain ⟨q, r, e, rfl⟩ : ∃ (q : Fin 1) (r : Fin 128) (e : Fin 640), y = ix3 q r e := ⟨y 0, y 1, y 2, (ix3_eta y).symm⟩
  obtain rfl : q = 0 := Subsingleton.elim _ _
  have key : out0_5 (F := Ideal) (grid0.coords t) (iblk m c 0 t) (iblk m c 1 t) (iblk m c 2 t) (iblk m c 3 t) (iblk m c 4 t) (ix3 0 r e)
      = REF m c (ix2 (at_ (cls t) (row (blk t) r)) e) := by
    by_cases h1 : e.val < 512
    · obtain ⟨h, d, rfl⟩ : ∃ (h : Fin 8) (d : Fin 64), e = ocol h d := by
        refine ⟨⟨e.val / 64, by omega⟩, ⟨e.val % 64, by omega⟩, Fin.ext ?_⟩
        unfold ocol
        show e.val = e.val / 64 * 64 + e.val % 64
        omega
      exact point m c t h r d
    · by_cases h2 : e.val < 520
      · obtain ⟨h, rfl⟩ : ∃ h : Fin 8, e = lcol h := by
          refine ⟨⟨e.val - 512, by omega⟩, Fin.ext ?_⟩
          unfold lcol
          show e.val = 512 + (e.val - 512)
          omega
        exact point_log m c t h r
      · obtain ⟨x, rfl⟩ : ∃ x : Fin 120, e = zcol x := by
          refine ⟨⟨e.val - 520, by omega⟩, Fin.ext ?_⟩
          unfold zcol
          show e.val = 520 + (e.val - 520)
          omega
        exact point_zero m c t x r
  rw [key]
  have ht := lt64 t
  unfold ARR Band16Ref.at_ Band16Ref.row cls blk
  blk_ext [idx t]

/-- The rows back in their order: the reference's result. -/
theorem back : (shapeCast S8192x640 (transpose S512x16x640 [1, 0, 2] (ARR m c) transposes_S16x512x640_S512x16x640_1_0_2) shapeCasts_S512x16x640_S8192x640 : FVec Ideal S8192x640 .f32) = REF m c := by
  funext y
  obtain ⟨q, e, rfl⟩ : ∃ (q : Fin 8192) (e : Fin 640), y = ix2 q e := ⟨y 0, y 1, (ix2_eta y).symm⟩
  obtain ⟨k, l, rfl⟩ : ∃ (k : Fin 16) (l : Fin 512), q = at_ k l := by
    refine ⟨⟨q.val % 16, by omega⟩, ⟨q.val / 16, by omega⟩, Fin.ext ?_⟩
    unfold Band16Ref.at_
    show q.val = q.val / 16 * 16 + q.val % 16
    omega
  refine Eq.trans (b := ARR m c (ix3 k l e)) ?_ rfl
  unfold Band16Ref.at_
  generalize ARR m c = u
  pointwise

/-- The result's array after the run. -/
theorem tail : Pipeline.afterTail₀ cfgs (dats m) 0 (V0 m) [hostOps1] c main_v7 = REF m c := by
  have h := (dats m 0 c).withArrays_arrAt sharedIn0 (V0 m c) (A_eq m c) 5
  rw [final] at h
  refine Eq.trans ?_ (back m c)
  unfold Pipeline.afterTail₀
  generalize hW : Pipeline.withArrays (cfgs 0).spec c (V0 m c) (fun w => (dats m 0 c).arrAt w (cfgs 0).N) = W at h ⊢
  simp only [List.flatten_cons, List.flatten_nil, List.append_nil, hostOps1]
  after_results_simp
  rw [← h]
  rfl
end

/-- The run: the output array is the reference's, and the arguments are as launched. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v7) = REF m c
      ∧ r.2.mem ((c : Thread nD τ).loc main_arg0) = m ((c : Thread nD τ).loc main_arg0) ∧ r.2.mem ((c : Thread nD τ).loc main_arg1) = m ((c : Thread nD τ).loc main_arg1) :=
  (θ_run _ _ _).mono (fun r h c => ⟨((h.1 c).2 main_v7 (Pipeline.mem_restRefs_of main_v7 (by decide) (by decide))).trans (tail m c), h.2 c⟩)
    (θ_run_and (run_main (F := Ideal) m ρ) (unchanged (F := Ideal) m ρ))

end Cert.Proof.Band16Value
end
-- ==== Proof.LnRow.lean ====
module

public import Idealize.ShloMosaic.Lib.Pointwise

@[expose] public section

set_option maxRecDepth 16384
noncomputable section

/-! One row of the layer norm, over the extended reals. -/

namespace Cert.Proof.LnRow
open Idealize.ShloMosaic

/-- The mean of a row. -/
def mean (z : Fin 2048 → EReal) : EReal := Ideal.div (∑ k : Fin 2048, z k) (Ideal.ofBits .f32 0x45000000#32)
/-- A row less its mean. -/
def cen (z : Fin 2048 → EReal) (e : Fin 2048) : EReal := z e - mean z
/-- An entry of the normalised row, with its gain and its offset. -/
def lnRow (z : Fin 2048 → EReal) (g b : EReal) (e : Fin 2048) : EReal :=
  cen z e * Ideal.rsqrt (mean (fun k => cen z k * cen z k) + Ideal.ofBits .f32 0x3727C5AC#32) * g + b

end Cert.Proof.LnRow
end
-- ==== Proof.LnRef.lean ====
module

public import proofs.«01_k».proof.Proof.Gen.LnReferenceIdeal.Run
public import proofs.«01_k».proof.Proof.LnRow
public import Idealize.ShloMosaic.Lib.Pointwise

@[expose] public section

set_option maxRecDepth 16384
noncomputable section

/-! The residual norm's reference, entry by entry. -/

namespace Cert.Proof.LnRef
open Cert.LnReferenceIdeal Cert.LnReferenceIdeal.Gen Idealize.ShloMosaic Idealize.ShloMosaic.TcCoe Idealize.SL.Sem Idealize.ShloMosaic.StableHlo
open Cert.Proof.LnRow

/-- The mean of every row. -/
def mu (Z : FVec Ideal S8192x2048 .f32) : FVec Ideal S8192x1 .f32 :=
  Host.divf (broadcastInDim S8192x1 ![0] bcast_S8192_S8192x1_0 (Host.reduceAdd Z (constant S_ .f32 0x00000000#32) reducesTo_S8192x2048_S8192_d1 h_S_)) (broadcastInDim S8192x1 ![] bcast_S_S8192x1 (constant S_ .f32 0x45000000#32))
/-- Every row less its mean. -/
def sub (Z : FVec Ideal S8192x2048 .f32) : FVec Ideal S8192x2048 .f32 :=
  subf Z (broadcastInDim S8192x2048 ![0, 1] bcast_S8192x1_S8192x2048_0_1 (mu Z))
/-- The layer norm. -/
def ln (Z : FVec Ideal S8192x2048 .f32) (g b : FVec Ideal S2048 .f32) : FVec Ideal S8192x2048 .f32 :=
  addf (mulf (mulf (sub Z) (broadcastInDim S8192x2048 ![0, 1] bcast_S8192x1_S8192x2048_0_1 (Host.rsqrt (addf (mu (mulf (sub Z) (sub Z))) (broadcastInDim S8192x1 ![] bcast_S_S8192x1 (constant S_ .f32 0x3727C5AC#32))))))
    (broadcastInDim S8192x2048 ![0, 1] bcast_S1x2048_S8192x2048_0_1 (broadcastInDim S1x2048 ![1] bcast_S2048_S1x2048_1 g)))
    (broadcastInDim S8192x2048 ![0, 1] bcast_S1x2048_S8192x2048_0_1 (broadcastInDim S1x2048 ![1] bcast_S2048_S1x2048_1 b))

/-- The mean of a row, -/
theorem mu_apply (Z : FVec Ideal S8192x2048 .f32) (l : Fin 8192) (i : Fin 1) : mu Z (ix2 l i) = mean (fun k => Z (ix2 l k)) := by
  unfold mean
  pointwise [mu]
/-- an entry of the row less it, -/
theorem sub_apply (Z : FVec Ideal S8192x2048 .f32) (l : Fin 8192) (e : Fin 2048) : sub Z (ix2 l e) = cen (fun k => Z (ix2 l k)) e := by
  unfold sub cen
  rw [← mu_apply Z l 0]
  generalize mu Z = M
  pointwise
/-- and an entry of the layer norm. -/
theorem ln_apply (Z : FVec Ideal S8192x2048 .f32) (g b : FVec Ideal S2048 .f32) (l : Fin 8192) (e : Fin 2048) :
    ln Z g b (ix2 l e) = lnRow (fun k => Z (ix2 l k)) (g (ix1 e)) (b (ix1 e)) e := by
  have h : mu (mulf (sub Z) (sub Z)) (ix2 l 0) = mean (fun k => cen (fun k => Z (ix2 l k)) k * cen (fun k => Z (ix2 l k)) k) := by
    rw [mu_apply]
    congr 1
    funext k
    rw [← sub_apply]
    rfl
  unfold ln lnRow
  rw [← h, ← sub_apply]
  generalize mu (mulf (sub Z) (sub Z)) = M
  generalize sub Z = Y
  pointwise

/-- The scaled residual and the layer's output, added. -/
def pre (X Y : FVec Ideal S8192x2048 .f32) : FVec Ideal S8192x2048 .f32 :=
  addf (mulf (broadcastInDim S8192x2048 ![] bcast_S_S8192x2048 (constant S_ .f32 0x3FB504F3#32)) X) Y
/-- An entry of the sum. -/
theorem pre_apply (X Y : FVec Ideal S8192x2048 .f32) (l : Fin 8192) (e : Fin 2048) :
    pre X Y (ix2 l e) = Ideal.ofBits .f32 0x3FB504F3#32 * X (ix2 l e) + Y (ix2 l e) := by
  pointwise [pre]
/-- The reference's result, -/
def res (X Y : FVec Ideal S8192x2048 .f32) (g b : FVec Ideal S2048 .f32) : FVec Ideal S8192x2048 .f32 := ln (pre X Y) g b
/-- rounded too. -/
def resB (X Y : FVec Ideal S8192x2048 .f32) (g b : FVec Ideal S2048 .f32) : FVec Ideal S8192x2048 .bf16 := truncf .bf16 (res X Y g b) bitsLt_bf16_f32
/-- The rounded result is the result. -/
theorem resB_apply (X Y : FVec Ideal S8192x2048 .f32) (g b : FVec Ideal S2048 .f32) (l : Fin 8192) (e : Fin 2048) :
    resB X Y g b (ix2 l e) = res X Y g b (ix2 l e) := by
  unfold resB
  generalize res X Y g b = R
  pointwise
end Cert.Proof.LnRef
end
-- ==== Proof.LnValue.lean ====
module

public import proofs.«01_k».proof.Proof.LnRef
public import proofs.«01_k».proof.Proof.Gen.LnIdeal.Value
public import Idealize.ShloMosaic.Lib.Pipeline.ValueKit
public import Idealize.ShloMosaic.Lib.Pipeline.ReadBack

@[expose] public section

set_option maxRecDepth 16384
noncomputable section

/-! The residual norm's kernel: its two output arrays after the run are the reference's results over the same arguments. -/

namespace Cert.Proof.LnValue
open Cert.LnIdeal Cert.LnIdeal.Gen Idealize.ShloMosaic Idealize.ShloMosaic.TcCoe Idealize.SL.Sem
open Idealize.ShloMosaic.Pipeline (Dat)
open Cert.Proof.LnRow Cert.Proof.LnRef

/-- The windows' block indices at every grid point. -/
theorem idx : ∀ t : Fin cfg0.N, win0_0.index t = ![t.val, 0] ∧ win0_1.index t = ![t.val, 0] ∧ win0_2.index t = ![0, 0] ∧ win0_3.index t = ![0, 0]
    ∧ win0_4.index t = ![t.val, 0] ∧ win0_5.index t = ![t.val, 0] :=
  (by decide +kernel : ∀ t : Fin grid0.N, _)

/-- The grid has 32 points. -/
theorem lt32 (t : Fin cfg0.N) : t.val < 32 := lt_of_lt_of_eq t.isLt N_0

/-- Row `r` of the block a grid point writes. -/
def row (n : ℕ) (h : n < 32) (r : Fin 256) : Fin 8192 := ⟨256 * n + r.val, by omega⟩

/-- The body's block at an entry, -/
theorem pay1 (x y : Vec Ideal S256x2048 .f32) (g b : Vec Ideal S1x2048 .f32) (r : Fin 256) (e : Fin 2048) :
    k0_pay1 (F := Ideal) x y g b (ix2 r e) = lnRow (fun k => Ideal.ofBits .f32 0x3FB504F3#32 * x (ix2 r k) + y (ix2 r k)) (g (ix2 0 e)) (b (ix2 0 e)) e := by
  unfold lnRow cen mean
  pointwise [k0_pay1]
/-- and rounded. -/
theorem pay2 (x y : Vec Ideal S256x2048 .f32) (g b : Vec Ideal S1x2048 .f32) (r : Fin 256) (e : Fin 2048) :
    k0_pay2 (F := Ideal) x y g b (ix2 r e) = k0_pay1 (F := Ideal) x y g b (ix2 r e) := by
  unfold k0_pay2
  generalize k0_pay1 (F := Ideal) x y g b = R
  pointwise

section
variable (m : (ℓ : Loc nD τ sig) → Buf (Elt Ideal) ℓ) (c : Dev nD)

/-- The residual's block of a grid point, -/
theorem blk0 (t : Fin cfg0.N) (r : Fin 256) (k : Fin 2048) : (iblk m c 0 t : FVec Ideal S256x2048 .f32) (ix2 r k)
    = (m ((c : Thread nD τ).loc main_arg0) : FVec Ideal S8192x2048 .f32) (ix2 (row t.val (lt32 t) r) k) := by
  unfold row
  blk_ext [iblk, V, idx t]
/-- the layer's output's, -/
theorem blk1 (t : Fin cfg0.N) (r : Fin 256) (k : Fin 2048) : (iblk m c 1 t : FVec Ideal S256x2048 .f32) (ix2 r k)
    = (m ((c : Thread nD τ).loc main_arg1) : FVec Ideal S8192x2048 .f32) (ix2 (row t.val (lt32 t) r) k) := by
  unfold row
  blk_ext [iblk, V, idx t]
/-- the gains -/
theorem blk2 (t : Fin cfg0.N) (e : Fin 2048) : (iblk m c 2 t : FVec Ideal S1x2048 .f32) (ix2 0 e)
    = (m ((c : Thread nD τ).loc main_arg2) : FVec Ideal S2048 .f32) (ix1 e) := by
  blk_simp [iblk, idx t]
  entry_read
  pointwise
  blk_ext [idx t]
/-- and the offsets. -/
theorem blk3 (t : Fin cfg0.N) (e : Fin 2048) : (iblk m c 3 t : FVec Ideal S1x2048 .f32) (ix2 0 e)
    = (m ((c : Thread nD τ).loc main_arg3) : FVec Ideal S2048 .f32) (ix1 e) := by
  blk_simp [iblk, idx t]
  entry_read
  pointwise
  blk_ext [idx t]

/-- The reference's result over the kernel's arguments, -/
def REF : FVec Ideal S8192x2048 .f32 :=
  res (m ((c : Thread nD τ).loc main_arg0)) (m ((c : Thread nD τ).loc main_arg1)) (m ((c : Thread nD τ).loc main_arg2)) (m ((c : Thread nD τ).loc main_arg3))
/-- and rounded. -/
def REFB : FVec Ideal S8192x2048 .bf16 :=
  resB (m ((c : Thread nD τ).loc main_arg0)) (m ((c : Thread nD τ).loc main_arg1)) (m ((c : Thread nD τ).loc main_arg2)) (m ((c : Thread nD τ).loc main_arg3))

/-- A grid point's block is the reference's. -/
theorem point (t : Fin cfg0.N) (r : Fin 256) (e : Fin 2048) :
    k0_pay1 (F := Ideal) (iblk m c 0 t) (iblk m c 1 t) (iblk m c 2 t) (iblk m c 3 t) (ix2 r e) = REF m c (ix2 (row t.val (lt32 t) r) e) := by
  rw [pay1]
  unfold REF res
  rw [ln_apply, blk2, blk3]
  congr 1
  funext k
  rw [blk0, blk1, pre_apply]

/-- THE KERNEL'S OUTPUT, whole: the reference's result, -/
theorem final : (dats m 0 c).arrAt 4 (cfgs 0).N = REF m c := by
  refine (dats m 0 c).arrAt_eq_of_covers 4 _ (by decide +kernel) fun t _ y => ?_
  blk_simp
  rw [after0_4]
  obtain ⟨r, e, rfl⟩ : ∃ (r : Fin 256) (e : Fin 2048), y = ix2 r e := ⟨y 0, y 1, (ix2_eta y).symm⟩
  refine Eq.trans (b := k0_pay1 (F := Ideal) (iblk m c 0 t) (iblk m c 1 t) (iblk m c 2 t) (iblk m c 3 t) (ix2 r e)) (by frame_out) ?_
  rw [point m c t r e]
  unfold row
  blk_ext [idx t]
/-- and the rounded one. -/
theorem finalB : (dats m 0 c).arrAt 5 (cfgs 0).N = REFB m c := by
  refine (dats m 0 c).arrAt_eq_of_covers 5 _ (by decide +kernel) fun t _ y => ?_
  blk_simp
  rw [after0_5]
  obtain ⟨r, e, rfl⟩ : ∃ (r : Fin 256) (e : Fin 2048), y = ix2 r e := ⟨y 0, y 1, (ix2_eta y).symm⟩
  refine Eq.trans (b := k0_pay2 (F := Ideal) (iblk m c 0 t) (iblk m c 1 t) (iblk m c 2 t) (iblk m c 3 t) (ix2 r e)) (by frame_out) ?_
  rw [pay2, point m c t r e]
  unfold row REFB
  refine Eq.trans (resB_apply _ _ _ _ _ _).symm ?_
  blk_ext [idx t]
end

end Cert.Proof.LnValue
end
-- ==== Proof.OutRef.lean ====
module

public import proofs.«01_k».proof.Proof.Gen.OutReferenceIdeal.Run
public import proofs.«01_k».proof.Proof.OutRow
public import proofs.«01_k».proof.Proof.LnRow
public import Idealize.ShloMosaic.Lib.Pointwise

@[expose] public section

set_option maxRecDepth 16384
noncomputable section

/-! The output projection's reference, entry by entry. -/

namespace Cert.Proof.OutRef
open Cert.OutReferenceIdeal Cert.OutReferenceIdeal.Gen Idealize.ShloMosaic Idealize.ShloMosaic.TcCoe Idealize.SL.Sem Idealize.ShloMosaic.StableHlo
open Cert.Proof.LnRow Cert.Proof.OutRow

section
variable (A B C : FVec Ideal S8192x640 .f32)

/-- The three configurations' arrays. -/
def stk : FVec Ideal S3x8192x640 .f32 :=
  concatenate S3x8192x640 0 [⟨S1x8192x640, (broadcastInDim S1x8192x640 ![1, 2] bcast_S8192x640_S1x8192x640_1_2 A : FVec Ideal S1x8192x640 .f32)⟩, ⟨S1x8192x640, (broadcastInDim S1x8192x640 ![1, 2] bcast_S8192x640_S1x8192x640_1_2 B : FVec Ideal S1x8192x640 .f32)⟩, ⟨S1x8192x640, (broadcastInDim S1x8192x640 ![1, 2] bcast_S8192x640_S1x8192x640_1_2 C : FVec Ideal S1x8192x640 .f32)⟩] concatenates_S1x8192x640_S1x8192x640_S1x8192x640_S3x8192x640_d0
/-- The logarithms. -/
def lse : FVec Ideal S3x8192x8 .f32 := extractStridedSlice S3x8192x8 ![0, 0, 512] (stk A B C) slices_S3x8192x640_S3x8192x8_0_0_512
/-- The greatest of the three. -/
def mx : FVec Ideal S8192x8 .f32 := Host.reduce FloatOps.maximumf (lse A B C) (constant S_ .f32 0xFF800000#32) reducesTo_S3x8192x8_S8192x8_d0 h_S_
/-- The weights. -/
def wts : FVec Ideal S3x8192x8 .f32 :=
  Host.exp (subf (lse A B C) (broadcastInDim S3x8192x8 ![0, 1, 2] bcast_S1x8192x8_S3x8192x8_0_1_2 (broadcastInDim S1x8192x8 ![1, 2] bcast_S8192x8_S1x8192x8_1_2 (mx A B C))))
/-- The outputs by head. -/
def acc : FVec Ideal S3x8192x8x64 .f32 :=
  shapeCast _ (extractStridedSlice S3x8192x512 ![0, 0, 0] (stk A B C) slices_S3x8192x640_S3x8192x512_0_0_0) shapeCasts_S3x8192x512_S3x8192x8x64
/-- The weighted outputs. -/
def wo : FVec Ideal S3x8192x8x64 .f32 :=
  mulf (broadcastInDim S3x8192x8x64 ![0, 1, 2, 3] bcast_S3x8192x8x1_S3x8192x8x64_0_1_2_3 (broadcastInDim S3x8192x8x1 ![0, 1, 2] bcast_S3x8192x8_S3x8192x8x1_0_1_2 (wts A B C))) (acc A B C)
/-- The weighted sum. -/
def nm : FVec Ideal S8192x8x64 .f32 := Host.reduceAdd (wo A B C) (constant S_ .f32 0x00000000#32) reducesTo_S3x8192x8x64_S8192x8x64_d0 h_S_
/-- The sum of the weights. -/
def dn : FVec Ideal S8192x8 .f32 := Host.reduceAdd (wts A B C) (constant S_ .f32 0x00000000#32) reducesTo_S3x8192x8_S8192x8_d0 h_S_
/-- The merged output. -/
def oc : FVec Ideal S8192x512 .f32 :=
  shapeCast _ (Host.divf (nm A B C) (broadcastInDim S8192x8x64 ![0, 1, 2] bcast_S8192x8x1_S8192x8x64_0_1_2 (broadcastInDim S8192x8x1 ![0, 1] bcast_S8192x8_S8192x8x1_0_1 (dn A B C)))) shapeCasts_S8192x8x64_S8192x512

/-- The stack, slab by slab. -/
theorem stk0 (l : Fin 8192) (j : Fin 640) : stk A B C (ix3 0 l j) = A (ix2 l j) := by
  unfold stk
  pointwise
theorem stk1 (l : Fin 8192) (j : Fin 640) : stk A B C (ix3 1 l j) = B (ix2 l j) := by
  unfold stk
  pointwise
theorem stk2 (l : Fin 8192) (j : Fin 640) : stk A B C (ix3 2 l j) = C (ix2 l j) := by
  unfold stk
  pointwise

/-- The column of a head's logarithm. -/
def hcol (h : Fin 8) : Fin 640 := ⟨512 + h.val, by omega⟩
/-- A logarithm. -/
theorem lse_apply (c : Fin 3) (l : Fin 8192) (h : Fin 8) : lse A B C (ix3 c l h) = stk A B C (ix3 c l (hcol h)) := by
  unfold lse hcol
  generalize stk A B C = S
  pointwise
/-- The word of minus infinity. -/
theorem bits_bot : Ideal.ofBits .f32 0xFF800000#32 = ⊥ := by
  simp [Ideal.ofBits, Ideal.ieee]
/-- The greatest of three, folded. -/
theorem fold_three (f : Fin 3 → EReal) : Finset.fold max (Ideal.ofBits .f32 0xFF800000#32) f Finset.univ = max (max (f 0) (f 1)) (f 2) := by
  rw [bits_bot, show (Finset.univ : Finset (Fin 3)) = {0, 1, 2} from by decide, Finset.fold_insert (by decide), Finset.fold_insert (by decide), Finset.fold_singleton,
    max_eq_left (bot_le : ⊥ ≤ f 2), max_assoc]
/-- The greatest. -/
theorem mx_apply (l : Fin 8192) (h : Fin 8) : mx A B C (ix2 l h) = top (A (ix2 l (hcol h))) (B (ix2 l (hcol h))) (C (ix2 l (hcol h))) := by
  unfold top
  rw [← stk0 A B C l (hcol h), ← stk1 A B C l (hcol h), ← stk2 A B C l (hcol h), ← lse_apply, ← lse_apply, ← lse_apply]
  unfold mx
  generalize lse A B C = S
  pointwise
  exact fold_three (fun x => S (ix3 x l h))
/-- A weight. -/
theorem wts_apply (c : Fin 3) (l : Fin 8192) (h : Fin 8) : wts A B C (ix3 c l h) = Ideal.exp (lse A B C (ix3 c l h) - mx A B C (ix2 l h)) := by
  unfold wts
  generalize lse A B C = S
  generalize mx A B C = T
  pointwise
/-- The column of a head's entry. -/
def ecol (h : Fin 8) (d : Fin 64) : Fin 640 := ⟨h.val * 64 + d.val, by omega⟩
/-- An output. -/
theorem acc_apply (c : Fin 3) (l : Fin 8192) (h : Fin 8) (d : Fin 64) : acc A B C (ix4 c l h d) = stk A B C (ix3 c l (ecol h d)) := by
  unfold acc ecol
  generalize stk A B C = S
  pointwise
/-- A weighted output. -/
theorem wo_apply (c : Fin 3) (l : Fin 8192) (h : Fin 8) (d : Fin 64) : wo A B C (ix4 c l h d) = wts A B C (ix3 c l h) * acc A B C (ix4 c l h d) := by
  unfold wo
  generalize wts A B C = W
  generalize acc A B C = S
  pointwise
/-- The weighted sum. -/
theorem nm_apply (l : Fin 8192) (h : Fin 8) (d : Fin 64) : nm A B C (ix3 l h d) = ∑ c : Fin 3, wts A B C (ix3 c l h) * acc A B C (ix4 c l h d) := by
  simp only [← wo_apply]
  unfold nm
  generalize wo A B C = S
  pointwise
/-- The sum of the weights. -/
theorem dn_apply (l : Fin 8192) (h : Fin 8) : dn A B C (ix2 l h) = ∑ c : Fin 3, wts A B C (ix3 c l h) := by
  unfold dn
  generalize wts A B C = W
  pointwise
/-- The head of a column, -/
def hd (k : Fin 512) : Fin 8 := ⟨k.val / 64, by omega⟩
/-- and its place within the head. -/
def dm (k : Fin 512) : Fin 64 := ⟨k.val % 64, by omega⟩
/-- The merged output is the quotient. -/
theorem oc_div (l : Fin 8192) (k : Fin 512) : oc A B C (ix2 l k) = Ideal.div (nm A B C (ix3 l (hd k) (dm k))) (dn A B C (ix2 l (hd k))) := by
  unfold oc hd dm
  generalize nm A B C = N
  generalize dn A B C = D
  pointwise
/-- The merged output. -/
theorem oc_apply (l : Fin 8192) (k : Fin 512) : oc A B C (ix2 l k)
    = mrg (A (ix2 l (lcol k))) (B (ix2 l (lcol k))) (C (ix2 l (lcol k))) (A (ix2 l (ocol k))) (B (ix2 l (ocol k))) (C (ix2 l (ocol k))) := by
  have e1 : hcol (hd k) = lcol k := rfl
  have e2 : ecol (hd k) (dm k) = ocol k := by
    apply Fin.ext
    show k.val / 64 * 64 + k.val % 64 = k.val
    omega
  rw [oc_div, nm_apply, dn_apply, Fin.sum_univ_three, Fin.sum_univ_three]
  simp only [wts_apply, acc_apply, lse_apply, mx_apply, stk0, stk1, stk2, e1, e2]
  rfl
end

section
variable (X : FVec Ideal S8192x2048 .f32) (Oa Ob : FVec Ideal S8192x512 .bf16) (Q : FVec Ideal S8192x512 .f32) (Od : FVec Ideal S8192x512 .bf16) (W : FVec Ideal S2048x2048 .f32)

/-- The four mixers' outputs side by side. -/
def mix : FVec Ideal S8192x2048 .f32 :=
  concatenate S8192x2048 1 [⟨S8192x512, (extf .f32 Oa bitsLt_bf16_f32 : FVec Ideal S8192x512 .f32)⟩, ⟨S8192x512, (extf .f32 Ob bitsLt_bf16_f32 : FVec Ideal S8192x512 .f32)⟩, ⟨S8192x512, Q⟩, ⟨S8192x512, (extf .f32 Od bitsLt_bf16_f32 : FVec Ideal S8192x512 .f32)⟩] concatenates_S8192x512_S8192x512_S8192x512_S8192x512_S8192x2048_d1
theorem mix0 (l : Fin 8192) (k : Fin 512) : mix Oa Ob Q Od (ix2 l (part 0 (by omega) k)) = Oa (ix2 l k) := by
  unfold mix part
  pointwise
theorem mix1 (l : Fin 8192) (k : Fin 512) : mix Oa Ob Q Od (ix2 l (part 1 (by omega) k)) = Ob (ix2 l k) := by
  unfold mix part
  pointwise
theorem mix2 (l : Fin 8192) (k : Fin 512) : mix Oa Ob Q Od (ix2 l (part 2 (by omega) k)) = Q (ix2 l k) := by
  unfold mix part
  pointwise
  rw [dif_neg (by omega), dif_neg (by omega), dif_pos (by omega)]
  refine congrArg (fun j => Q (ix2 l j)) (Fin.ext ?_)
  show 1024 + k.val - 512 - 512 = k.val
  omega
theorem mix3 (l : Fin 8192) (k : Fin 512) : mix Oa Ob Q Od (ix2 l (part 3 (by omega) k)) = Od (ix2 l k) := by
  unfold mix part
  pointwise
  rw [dif_neg (by omega), dif_neg (by omega), dif_neg (by omega)]
  refine congrArg (fun j => Od (ix2 l j)) (Fin.ext ?_)
  show 1536 + k.val - 512 - 512 - 512 = k.val
  omega
/-- The projected row. -/
def prj (M : FVec Ideal S8192x2048 .f32) : FVec Ideal S8192x2048 .f32 := Host.dotGeneral dot_S8192x2048_S2048x2048_S8192x2048_1_0_0_1_n_n none M W
/-- An entry of the projected row. -/
theorem prj_apply (M : FVec Ideal S8192x2048 .f32) (l : Fin 8192) (e : Fin 2048) : prj W M (ix2 l e) = ∑ k : Fin 2048, M (ix2 l k) * W (ix2 k e) := by
  unfold prj
  pointwise
/-- The scaled residual and the projected row, added. -/
def pre (Y : FVec Ideal S8192x2048 .f32) : FVec Ideal S8192x2048 .f32 :=
  addf (mulf (broadcastInDim S8192x2048 ![] bcast_S_S8192x2048 (constant S_ .f32 0x3FB504F3#32)) X) Y
/-- An entry of the sum. -/
theorem pre_apply (Y : FVec Ideal S8192x2048 .f32) (l : Fin 8192) (e : Fin 2048) :
    pre X Y (ix2 l e) = Ideal.ofBits .f32 0x3FB504F3#32 * X (ix2 l e) + Y (ix2 l e) := by
  pointwise [pre]
end

/-- The mean of every row. -/
def mu (Z : FVec Ideal S8192x2048 .f32) : FVec Ideal S8192x1 .f32 :=
  Host.divf (broadcastInDim S8192x1 ![0] bcast_S8192_S8192x1_0 (Host.reduceAdd Z (constant S_ .f32 0x00000000#32) reducesTo_S8192x2048_S8192_d1 h_S_)) (broadcastInDim S8192x1 ![] bcast_S_S8192x1 (constant S_ .f32 0x45000000#32))
/-- Every row less its mean. -/
def sub (Z : FVec Ideal S8192x2048 .f32) : FVec Ideal S8192x2048 .f32 :=
  subf Z (broadcastInDim S8192x2048 ![0, 1] bcast_S8192x1_S8192x2048_0_1 (mu Z))
/-- The layer norm. -/
def ln (Z : FVec Ideal S8192x2048 .f32) (g b : FVec Ideal S2048 .f32) : FVec Ideal S8192x2048 .f32 :=
  addf (mulf (mulf (sub Z) (broadcastInDim S8192x2048 ![0, 1] bcast_S8192x1_S8192x2048_0_1 (Host.rsqrt (addf (mu (mulf (sub Z) (sub Z))) (broadcastInDim S8192x1 ![] bcast_S_S8192x1 (constant S_ .f32 0x3727C5AC#32))))))
    (broadcastInDim S8192x2048 ![0, 1] bcast_S1x2048_S8192x2048_0_1 (broadcastInDim S1x2048 ![1] bcast_S2048_S1x2048_1 g)))
    (broadcastInDim S8192x2048 ![0, 1] bcast_S1x2048_S8192x2048_0_1 (broadcastInDim S1x2048 ![1] bcast_S2048_S1x2048_1 b))

/-- The mean of a row, -/
theorem mu_apply (Z : FVec Ideal S8192x2048 .f32) (l : Fin 8192) (i : Fin 1) : mu Z (ix2 l i) = mean (fun k => Z (ix2 l k)) := by
  unfold mean
  pointwise [mu]
/-- an entry of the row less it, -/
theorem sub_apply (Z : FVec Ideal S8192x2048 .f32) (l : Fin 8192) (e : Fin 2048) : sub Z (ix2 l e) = cen (fun k => Z (ix2 l k)) e := by
  unfold sub cen
  rw [← mu_apply Z l 0]
  generalize mu Z = M
  pointwise
/-- and an entry of the layer norm. -/
theorem ln_apply (Z : FVec Ideal S8192x2048 .f32) (g b : FVec Ideal S2048 .f32) (l : Fin 8192) (e : Fin 2048) :
    ln Z g b (ix2 l e) = lnRow (fun k => Z (ix2 l k)) (g (ix1 e)) (b (ix1 e)) e := by
  have h : mu (mulf (sub Z) (sub Z)) (ix2 l 0) = mean (fun k => cen (fun k => Z (ix2 l k)) k * cen (fun k => Z (ix2 l k)) k) := by
    rw [mu_apply]
    congr 1
    funext k
    rw [← sub_apply]
    rfl
  unfold ln lnRow
  rw [← h, ← sub_apply]
  generalize mu (mulf (sub Z) (sub Z)) = M
  generalize sub Z = Y
  pointwise

section
variable (X : FVec Ideal S8192x2048 .f32) (Oa Ob : FVec Ideal S8192x512 .bf16) (A B C : FVec Ideal S8192x640 .f32) (Od : FVec Ideal S8192x512 .bf16) (W : FVec Ideal S2048x2048 .f32) (g b : FVec Ideal S2048 .f32)
/-- The row that is normalised, -/
def sums : FVec Ideal S8192x2048 .f32 := pre X (prj W (mix Oa Ob (oc A B C) Od))
/-- and an entry of it. -/
theorem sums_apply (l : Fin 8192) (e : Fin 2048) : sums X Oa Ob A B C Od W (ix2 l e) = Ideal.ofBits .f32 0x3FB504F3#32 * X (ix2 l e)
    + ((∑ k, Oa (ix2 l k) * W (ix2 (part 0 (by omega) k) e)) + (∑ k, Ob (ix2 l k) * W (ix2 (part 1 (by omega) k) e))
      + (∑ k, oc A B C (ix2 l k) * W (ix2 (part 2 (by omega) k) e)) + ∑ k, Od (ix2 l k) * W (ix2 (part 3 (by omega) k) e)) := by
  unfold sums
  rw [pre_apply, prj_apply, sum_part]
  simp only [mix0, mix1, mix2, mix3]
/-- The reference's result, -/
def res : FVec Ideal S8192x2048 .f32 := ln (sums X Oa Ob A B C Od W) g b
/-- rounded too. -/
def resB : FVec Ideal S8192x2048 .bf16 := truncf .bf16 (res X Oa Ob A B C Od W g b) bitsLt_bf16_f32
/-- The rounded result is the result. -/
theorem resB_apply (l : Fin 8192) (e : Fin 2048) : resB X Oa Ob A B C Od W g b (ix2 l e) = res X Oa Ob A B C Od W g b (ix2 l e) := by
  unfold resB
  generalize res X Oa Ob A B C Od W g b = R
  pointwise
end

/-- The reference's run leaves these two arrays. -/
theorem res_eq (m : (ℓ : Loc nD τ sig) → Buf (Elt Ideal) ℓ) (c : Dev nD) :
    Cert.OutReferenceIdeal.Value.res_out0 m c = res (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := rfl
theorem resB_eq (m : (ℓ : Loc nD τ sig) → Buf (Elt Ideal) ℓ) (c : Dev nD) :
    Cert.OutReferenceIdeal.Value.res_out1 m c = resB (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := rfl
end Cert.Proof.OutRef
end
-- ==== Proof.OutBody.lean ====
module

public import proofs.«01_k».proof.Proof.OutRow
public import proofs.«01_k».proof.Proof.Gen.OutIdeal.Frame
public import Idealize.ShloMosaic.Lib.Pipeline.ValueKit
public import Idealize.ShloMosaic.Lib.Pointwise

@[expose] public section

set_option maxRecDepth 16384
noncomputable section

/-! The output projection's body: the merged heads, and the row before the norm, entry by entry. -/

namespace Cert.Proof.OutBody
open Cert.OutIdeal Cert.OutIdeal.Gen Idealize.ShloMosaic Idealize.ShloMosaic.TcCoe Idealize.SL.Sem
open Cert.Proof.OutRow

/-- The lane of a head's weight, -/
def lane (h : ℕ) (hh : h < 8) : Fin 128 := ⟨h, by omega⟩
/-- and the column of an entry of the head. -/
def col (h : ℕ) (hh : h < 8) (d : Fin 64) : Fin 512 := ⟨64 * h + d.val, by omega⟩

section
variable (W1 W2 W3 I : FVec Ideal S256x128 .f32) (O1 O2 O3 : FVec Ideal S256x512 .f32)

/-- An entry of a merged head. -/
def ent (r : Fin 256) (j : Fin 128) (k : Fin 512) : EReal :=
  (W1 (ix2 r j) * O1 (ix2 r k) + W2 (ix2 r j) * O2 (ix2 r k) + W3 (ix2 r j) * O3 (ix2 r k)) * I (ix2 r j)

/-- The merged head 0, -/
def head0 : FVec Ideal S256x64 .f32 :=
  mulf (addf (addf (addf (broadcast S256x64 (Scalar.ofBits .f32 0x00000000#32)) (mulf (broadcastTo S256x64 (extractStridedSlice S256x1 ![0, 0] W1 slices_S256x128_o0_0_S256x1) broadcasts_S256x1_S256x64) (extractStridedSlice S256x64 ![0, 0] O1 slices_S256x512_o0_0_S256x64)))
      (mulf (broadcastTo S256x64 (extractStridedSlice S256x1 ![0, 0] W2 slices_S256x128_o0_0_S256x1) broadcasts_S256x1_S256x64) (extractStridedSlice S256x64 ![0, 0] O2 slices_S256x512_o0_0_S256x64)))
      (mulf (broadcastTo S256x64 (extractStridedSlice S256x1 ![0, 0] W3 slices_S256x128_o0_0_S256x1) broadcasts_S256x1_S256x64) (extractStridedSlice S256x64 ![0, 0] O3 slices_S256x512_o0_0_S256x64)))
    (broadcastTo S256x64 (extractStridedSlice S256x1 ![0, 0] I slices_S256x128_o0_0_S256x1) broadcasts_S256x1_S256x64)
/-- and an entry of it. -/
theorem head0_apply (r : Fin 256) (d : Fin 64) : head0 W1 W2 W3 I O1 O2 O3 (ix2 r d) = ent W1 W2 W3 I O1 O2 O3 r (lane 0 (by omega)) (col 0 (by omega) d) := by
  unfold ent lane col
  pointwise [head0]
/-- The merged head 1, -/
def head1 : FVec Ideal S256x64 .f32 :=
  mulf (addf (addf (addf (broadcast S256x64 (Scalar.ofBits .f32 0x00000000#32)) (mulf (broadcastTo S256x64 (extractStridedSlice S256x1 ![0, 1] W1 slices_S256x128_o0_1_S256x1) broadcasts_S256x1_S256x64) (extractStridedSlice S256x64 ![0, 64] O1 slices_S256x512_o0_64_S256x64)))
      (mulf (broadcastTo S256x64 (extractStridedSlice S256x1 ![0, 1] W2 slices_S256x128_o0_1_S256x1) broadcasts_S256x1_S256x64) (extractStridedSlice S256x64 ![0, 64] O2 slices_S256x512_o0_64_S256x64)))
      (mulf (broadcastTo S256x64 (extractStridedSlice S256x1 ![0, 1] W3 slices_S256x128_o0_1_S256x1) broadcasts_S256x1_S256x64) (extractStridedSlice S256x64 ![0, 64] O3 slices_S256x512_o0_64_S256x64)))
    (broadcastTo S256x64 (extractStridedSlice S256x1 ![0, 1] I slices_S256x128_o0_1_S256x1) broadcasts_S256x1_S256x64)
/-- and an entry of it. -/
theorem head1_apply (r : Fin 256) (d : Fin 64) : head1 W1 W2 W3 I O1 O2 O3 (ix2 r d) = ent W1 W2 W3 I O1 O2 O3 r (lane 1 (by omega)) (col 1 (by omega) d) := by
  unfold ent lane col
  pointwise [head1]
/-- The merged head 2, -/
def head2 : FVec Ideal S256x64 .f32 :=
  mulf (addf (addf (addf (broadcast S256x64 (Scalar.ofBits .f32 0x00000000#32)) (mulf (broadcastTo S256x64 (extractStridedSlice S256x1 ![0, 2] W1 slices_S256x128_o0_2_S256x1) broadcasts_S256x1_S256x64) (extractStridedSlice S256x64 ![0, 128] O1 slices_S256x512_o0_128_S256x64)))
      (mulf (broadcastTo S256x64 (extractStridedSlice S256x1 ![0, 2] W2 slices_S256x128_o0_2_S256x1) broadcasts_S256x1_S256x64) (extractStridedSlice S256x64 ![0, 128] O2 slices_S256x512_o0_128_S256x64)))
      (mulf (broadcastTo S256x64 (extractStridedSlice S256x1 ![0, 2] W3 slices_S256x128_o0_2_S256x1) broadcasts_S256x1_S256x64) (extractStridedSlice S256x64 ![0, 128] O3 slices_S256x512_o0_128_S256x64)))
    (broadcastTo S256x64 (extractStridedSlice S256x1 ![0, 2] I slices_S256x128_o0_2_S256x1) broadcasts_S256x1_S256x64)
/-- and an entry of it. -/
theorem head2_apply (r : Fin 256) (d : Fin 64) : head2 W1 W2 W3 I O1 O2 O3 (ix2 r d) = ent W1 W2 W3 I O1 O2 O3 r (lane 2 (by omega)) (col 2 (by omega) d) := by
  unfold ent lane col
  pointwise [head2]
/-- The merged head 3, -/
def head3 : FVec Ideal S256x64 .f32 :=
  mulf (addf (addf (addf (broadcast S256x64 (Scalar.ofBits .f32 0x00000000#32)) (mulf (broadcastTo S256x64 (extractStridedSlice S256x1 ![0, 3] W1 slices_S256x128_o0_3_S256x1) broadcasts_S256x1_S256x64) (extractStridedSlice S256x64 ![0, 192] O1 slices_S256x512_o0_192_S256x64)))
      (mulf (broadcastTo S256x64 (extractStridedSlice S256x1 ![0, 3] W2 slices_S256x128_o0_3_S256x1) broadcasts_S256x1_S256x64) (extractStridedSlice S256x64 ![0, 192] O2 slices_S256x512_o0_192_S256x64)))
      (mulf (broadcastTo S256x64 (extractStridedSlice S256x1 ![0, 3] W3 slices_S256x128_o0_3_S256x1) broadcasts_S256x1_S256x64) (extractStridedSlice S256x64 ![0, 192] O3 slices_S256x512_o0_192_S256x64)))
    (broadcastTo S256x64 (extractStridedSlice S256x1 ![0, 3] I slices_S256x128_o0_3_S256x1) broadcasts_S256x1_S256x64)
/-- and an entry of it. -/
theorem head3_apply (r : Fin 256) (d : Fin 64) : head3 W1 W2 W3 I O1 O2 O3 (ix2 r d) = ent W1 W2 W3 I O1 O2 O3 r (lane 3 (by omega)) (col 3 (by omega) d) := by
  unfold ent lane col
  pointwise [head3]
/-- The merged head 4, -/
def head4 : FVec Ideal S256x64 .f32 :=
  mulf (addf (addf (addf (broadcast S256x64 (Scalar.ofBits .f32 0x00000000#32)) (mulf (broadcastTo S256x64 (extractStridedSlice S256x1 ![0, 4] W1 slices_S256x128_o0_4_S256x1) broadcasts_S256x1_S256x64) (extractStridedSlice S256x64 ![0, 256] O1 slices_S256x512_o0_256_S256x64)))
      (mulf (broadcastTo S256x64 (extractStridedSlice S256x1 ![0, 4] W2 slices_S256x128_o0_4_S256x1) broadcasts_S256x1_S256x64) (extractStridedSlice S256x64 ![0, 256] O2 slices_S256x512_o0_256_S256x64)))
      (mulf (broadcastTo S256x64 (extractStridedSlice S256x1 ![0, 4] W3 slices_S256x128_o0_4_S256x1) broadcasts_S256x1_S256x64) (extractStridedSlice S256x64 ![0, 256] O3 slices_S256x512_o0_256_S256x64)))
    (broadcastTo S256x64 (extractStridedSlice S256x1 ![0, 4] I slices_S256x128_o0_4_S256x1) broadcasts_S256x1_S256x64)
/-- and an entry of it. -/
theorem head4_apply (r : Fin 256) (d : Fin 64) : head4 W1 W2 W3 I O1 O2 O3 (ix2 r d) = ent W1 W2 W3 I O1 O2 O3 r (lane 4 (by omega)) (col 4 (by omega) d) := by
  unfold ent lane col
  pointwise [head4]
/-- The merged head 5, -/
def head5 : FVec Ideal S256x64 .f32 :=
  mulf (addf (addf (addf (broadcast S256x64 (Scalar.ofBits .f32 0x00000000#32)) (mulf (broadcastTo S256x64 (extractStridedSlice S256x1 ![0, 5] W1 slices_S256x128_o0_5_S256x1) broadcasts_S256x1_S256x64) (extractStridedSlice S256x64 ![0, 320] O1 slices_S256x512_o0_320_S256x64)))
      (mulf (broadcastTo S256x64 (extractStridedSlice S256x1 ![0, 5] W2 slices_S256x128_o0_5_S256x1) broadcasts_S256x1_S256x64) (extractStridedSlice S256x64 ![0, 320] O2 slices_S256x512_o0_320_S256x64)))
      (mulf (broadcastTo S256x64 (extractStridedSlice S256x1 ![0, 5] W3 slices_S256x128_o0_5_S256x1) broadcasts_S256x1_S256x64) (extractStridedSlice S256x64 ![0, 320] O3 slices_S256x512_o0_320_S256x64)))
    (broadcastTo S256x64 (extractStridedSlice S256x1 ![0, 5] I slices_S256x128_o0_5_S256x1) broadcasts_S256x1_S256x64)
/-- and an entry of it. -/
theorem head5_apply (r : Fin 256) (d : Fin 64) : head5 W1 W2 W3 I O1 O2 O3 (ix2 r d) = ent W1 W2 W3 I O1 O2 O3 r (lane 5 (by omega)) (col 5 (by omega) d) := by
  unfold ent lane col
  pointwise [head5]
/-- The merged head 6, -/
def head6 : FVec Ideal S256x64 .f32 :=
  mulf (addf (addf (addf (broadcast S256x64 (Scalar.ofBits .f32 0x00000000#32)) (mulf (broadcastTo S256x64 (extractStridedSlice S256x1 ![0, 6] W1 slices_S256x128_o0_6_S256x1) broadcasts_S256x1_S256x64) (extractStridedSlice S256x64 ![0, 384] O1 slices_S256x512_o0_384_S256x64)))
      (mulf (broadcastTo S256x64 (extractStridedSlice S256x1 ![0, 6] W2 slices_S256x128_o0_6_S256x1) broadcasts_S256x1_S256x64) (extractStridedSlice S256x64 ![0, 384] O2 slices_S256x512_o0_384_S256x64)))
      (mulf (broadcastTo S256x64 (extractStridedSlice S256x1 ![0, 6] W3 slices_S256x128_o0_6_S256x1) broadcasts_S256x1_S256x64) (extractStridedSlice S256x64 ![0, 384] O3 slices_S256x512_o0_384_S256x64)))
    (broadcastTo S256x64 (extractStridedSlice S256x1 ![0, 6] I slices_S256x128_o0_6_S256x1) broadcasts_S256x1_S256x64)
/-- and an entry of it. -/
theorem head6_apply (r : Fin 256) (d : Fin 64) : head6 W1 W2 W3 I O1 O2 O3 (ix2 r d) = ent W1 W2 W3 I O1 O2 O3 r (lane 6 (by omega)) (col 6 (by omega) d) := by
  unfold ent lane col
  pointwise [head6]
/-- The merged head 7, -/
def head7 : FVec Ideal S256x64 .f32 :=
  mulf (addf (addf (addf (broadcast S256x64 (Scalar.ofBits .f32 0x00000000#32)) (mulf (broadcastTo S256x64 (extractStridedSlice S256x1 ![0, 7] W1 slices_S256x128_o0_7_S256x1) broadcasts_S256x1_S256x64) (extractStridedSlice S256x64 ![0, 448] O1 slices_S256x512_o0_448_S256x64)))
      (mulf (broadcastTo S256x64 (extractStridedSlice S256x1 ![0, 7] W2 slices_S256x128_o0_7_S256x1) broadcasts_S256x1_S256x64) (extractStridedSlice S256x64 ![0, 448] O2 slices_S256x512_o0_448_S256x64)))
      (mulf (broadcastTo S256x64 (extractStridedSlice S256x1 ![0, 7] W3 slices_S256x128_o0_7_S256x1) broadcasts_S256x1_S256x64) (extractStridedSlice S256x64 ![0, 448] O3 slices_S256x512_o0_448_S256x64)))
    (broadcastTo S256x64 (extractStridedSlice S256x1 ![0, 7] I slices_S256x128_o0_7_S256x1) broadcasts_S256x1_S256x64)
/-- and an entry of it. -/
theorem head7_apply (r : Fin 256) (d : Fin 64) : head7 W1 W2 W3 I O1 O2 O3 (ix2 r d) = ent W1 W2 W3 I O1 O2 O3 r (lane 7 (by omega)) (col 7 (by omega) d) := by
  unfold ent lane col
  pointwise [head7]
end

section
variable (P0 P1 P2 P3 P4 P5 P6 P7 : FVec Ideal S256x64 .f32)
/-- The heads side by side. -/
def cat : FVec Ideal S256x512 .f32 :=
  concatenate S256x512 1 [⟨S256x64, P0⟩, ⟨S256x64, P1⟩, ⟨S256x64, P2⟩, ⟨S256x64, P3⟩, ⟨S256x64, P4⟩, ⟨S256x64, P5⟩, ⟨S256x64, P6⟩, ⟨S256x64, P7⟩] concatenates_S256x64_S256x64_S256x64_S256x64_S256x64_S256x64_S256x64_S256x64_S256x512_d1
/-- An entry of head 0. -/
theorem cat0 (r : Fin 256) (d : Fin 64) : cat P0 P1 P2 P3 P4 P5 P6 P7 (ix2 r (col 0 (by omega) d)) = P0 (ix2 r d) := by
  unfold cat col
  pointwise
/-- An entry of head 1. -/
theorem cat1 (r : Fin 256) (d : Fin 64) : cat P0 P1 P2 P3 P4 P5 P6 P7 (ix2 r (col 1 (by omega) d)) = P1 (ix2 r d) := by
  unfold cat col
  pointwise
/-- An entry of head 2. -/
theorem cat2 (r : Fin 256) (d : Fin 64) : cat P0 P1 P2 P3 P4 P5 P6 P7 (ix2 r (col 2 (by omega) d)) = P2 (ix2 r d) := by
  unfold cat col
  pointwise
  rw [dif_neg (by omega), dif_neg (by omega), dif_pos (by omega)]
  refine congrArg (fun j => P2 (ix2 r j)) (Fin.ext ?_)
  show 128 + d.val - 64 - 64 = d.val
  omega
/-- An entry of head 3. -/
theorem cat3 (r : Fin 256) (d : Fin 64) : cat P0 P1 P2 P3 P4 P5 P6 P7 (ix2 r (col 3 (by omega) d)) = P3 (ix2 r d) := by
  unfold cat col
  pointwise
  rw [dif_neg (by omega), dif_neg (by omega), dif_neg (by omega), dif_pos (by omega)]
  refine congrArg (fun j => P3 (ix2 r j)) (Fin.ext ?_)
  show 192 + d.val - 64 - 64 - 64 = d.val
  omega
/-- An entry of head 4. -/
theorem cat4 (r : Fin 256) (d : Fin 64) : cat P0 P1 P2 P3 P4 P5 P6 P7 (ix2 r (col 4 (by omega) d)) = P4 (ix2 r d) := by
  unfold cat col
  pointwise
  rw [dif_neg (by omega), dif_neg (by omega), dif_neg (by omega), dif_neg (by omega), dif_pos (by omega)]
  refine congrArg (fun j => P4 (ix2 r j)) (Fin.ext ?_)
  show 256 + d.val - 64 - 64 - 64 - 64 = d.val
  omega
/-- An entry of head 5. -/
theorem cat5 (r : Fin 256) (d : Fin 64) : cat P0 P1 P2 P3 P4 P5 P6 P7 (ix2 r (col 5 (by omega) d)) = P5 (ix2 r d) := by
  unfold cat col
  pointwise
  rw [dif_neg (by omega), dif_neg (by omega), dif_neg (by omega), dif_neg (by omega), dif_neg (by omega), dif_pos (by omega)]
  refine congrArg (fun j => P5 (ix2 r j)) (Fin.ext ?_)
  show 320 + d.val - 64 - 64 - 64 - 64 - 64 = d.val
  omega
/-- An entry of head 6. -/
theorem cat6 (r : Fin 256) (d : Fin 64) : cat P0 P1 P2 P3 P4 P5 P6 P7 (ix2 r (col 6 (by omega) d)) = P6 (ix2 r d) := by
  unfold cat col
  pointwise
  rw [dif_neg (by omega), dif_neg (by omega), dif_neg (by omega), dif_neg (by omega), dif_neg (by omega), dif_neg (by omega), dif_pos (by omega)]
  refine congrArg (fun j => P6 (ix2 r j)) (Fin.ext ?_)
  show 384 + d.val - 64 - 64 - 64 - 64 - 64 - 64 = d.val
  omega
/-- An entry of head 7. -/
theorem cat7 (r : Fin 256) (d : Fin 64) : cat P0 P1 P2 P3 P4 P5 P6 P7 (ix2 r (col 7 (by omega) d)) = P7 (ix2 r d) := by
  unfold cat col
  pointwise
  rw [dif_neg (by omega), dif_neg (by omega), dif_neg (by omega), dif_neg (by omega), dif_neg (by omega), dif_neg (by omega), dif_neg (by omega)]
  refine congrArg (fun j => P7 (ix2 r j)) (Fin.ext ?_)
  show 448 + d.val - 64 - 64 - 64 - 64 - 64 - 64 - 64 = d.val
  omega
end

section
variable (W1 W2 W3 I : FVec Ideal S256x128 .f32) (O1 O2 O3 : FVec Ideal S256x512 .f32)
/-- The merged rows. -/
def merged : FVec Ideal S256x512 .f32 := cat (head0 W1 W2 W3 I O1 O2 O3) (head1 W1 W2 W3 I O1 O2 O3) (head2 W1 W2 W3 I O1 O2 O3) (head3 W1 W2 W3 I O1 O2 O3) (head4 W1 W2 W3 I O1 O2 O3) (head5 W1 W2 W3 I O1 O2 O3) (head6 W1 W2 W3 I O1 O2 O3) (head7 W1 W2 W3 I O1 O2 O3)
/-- The lane of a column's head. -/
def hl (k : Fin 512) : Fin 128 := ⟨k.val / 64, by omega⟩
/-- An entry of the merged rows. -/
theorem merged_apply (r : Fin 256) (k : Fin 512) : merged W1 W2 W3 I O1 O2 O3 (ix2 r k) = ent W1 W2 W3 I O1 O2 O3 r (hl k) k := by
  have key : ∀ (n : ℕ) (hn : n < 8) (d : Fin 64), merged W1 W2 W3 I O1 O2 O3 (ix2 r (col n hn d)) = ent W1 W2 W3 I O1 O2 O3 r (lane n hn) (col n hn d) := by
    intro n hn d
    unfold merged
    match n, hn with
    | 0, _ => exact (cat0 _ _ _ _ _ _ _ _ r d).trans (head0_apply W1 W2 W3 I O1 O2 O3 r d)
    | 1, _ => exact (cat1 _ _ _ _ _ _ _ _ r d).trans (head1_apply W1 W2 W3 I O1 O2 O3 r d)
    | 2, _ => exact (cat2 _ _ _ _ _ _ _ _ r d).trans (head2_apply W1 W2 W3 I O1 O2 O3 r d)
    | 3, _ => exact (cat3 _ _ _ _ _ _ _ _ r d).trans (head3_apply W1 W2 W3 I O1 O2 O3 r d)
    | 4, _ => exact (cat4 _ _ _ _ _ _ _ _ r d).trans (head4_apply W1 W2 W3 I O1 O2 O3 r d)
    | 5, _ => exact (cat5 _ _ _ _ _ _ _ _ r d).trans (head5_apply W1 W2 W3 I O1 O2 O3 r d)
    | 6, _ => exact (cat6 _ _ _ _ _ _ _ _ r d).trans (head6_apply W1 W2 W3 I O1 O2 O3 r d)
    | 7, _ => exact (cat7 _ _ _ _ _ _ _ _ r d).trans (head7_apply W1 W2 W3 I O1 O2 O3 r d)
  have e := key (k.val / 64) (by omega) ⟨k.val % 64, by omega⟩
  have q : col (k.val / 64) (by omega) ⟨k.val % 64, by omega⟩ = k := by
    apply Fin.ext
    show 64 * (k.val / 64) + k.val % 64 = k.val
    omega
  rw [q] at e
  exact e
end

/-- A product of a block of rows by a part of the weights. -/
def mm (a : FVec Ideal S256x512 .bf16) (w : FVec Ideal S512x2048 .bf16) : FVec Ideal S256x2048 .f32 :=
  matmul dot_S256x512_S512x2048_S256x2048_1_0_0_1_n_n none a (shapeCast S512x2048 w shapeCasts_S512x2048_S512x2048) (constant S256x2048 .f32 0x00000000#32)
/-- An entry of the product. -/
theorem mm_apply (a : FVec Ideal S256x512 .bf16) (w : FVec Ideal S512x2048 .bf16) (r : Fin 256) (e : Fin 2048) :
    mm a w (ix2 r e) = ∑ k : Fin 512, a (ix2 r k) * w (ix2 k e) := by
  pointwise [mm]

/-- The greatest of the three logarithms, lane by lane, -/
def topv (a b c : FVec Ideal S256x128 .f32) : FVec Ideal S256x128 .f32 := maximumf (maximumf a b) c
/-- the weight of one of them, -/
def wt (x a b c : FVec Ideal S256x128 .f32) : FVec Ideal S256x128 .f32 := exp (subf x (topv a b c))
/-- and the reciprocal of the sum of the weights. -/
def inv (a b c : FVec Ideal S256x128 .f32) : FVec Ideal S256x128 .f32 :=
  divf (broadcast S256x128 (Scalar.ofBits .f32 0x3F800000#32)) (addf (addf (wt a a b c) (wt b a b c)) (wt c a b c))
/-- A weight. -/
theorem wt_apply (x a b c : FVec Ideal S256x128 .f32) (i : S256x128.Idx) : wt x a b c i = Ideal.exp (x i - top (a i) (b i) (c i)) := rfl
/-- The reciprocal. -/
theorem inv_apply (a b c : FVec Ideal S256x128 .f32) (i : S256x128.Idx) : inv a b c i = Ideal.div 1 (den (a i) (b i) (c i)) := by
  rw [← bits_one]
  rfl

section
variable (x0 : FVec Ideal S256x2048 .f32) (x1 x2 : FVec Ideal S256x512 .bf16) (x3 x4 x5 : FVec Ideal S256x640 .f32) (x6 : FVec Ideal S256x512 .bf16) (x7 : FVec Ideal S2048x2048 .bf16) (x8 x9 : FVec Ideal S1x2048 .f32)

/-- A configuration's logarithms of a block. -/
def lg (x : FVec Ideal S256x640 .f32) : FVec Ideal S256x128 .f32 := View.ld (Val := Elt Ideal) (e' := .f32) x r0_1
/-- A configuration's outputs of a block. -/
def og (x : FVec Ideal S256x640 .f32) : FVec Ideal S256x512 .f32 := View.ld (Val := Elt Ideal) (e' := .f32) x r0_0
/-- The merged rows of a block. -/
def mg : FVec Ideal S256x512 .f32 :=
  merged (wt (lg x3) (lg x3) (lg x4) (lg x5)) (wt (lg x4) (lg x3) (lg x4) (lg x5)) (wt (lg x5) (lg x3) (lg x4) (lg x5)) (inv (lg x3) (lg x4) (lg x5)) (og x3) (og x4) (og x5)
/-- The rows before the norm, as the body forms them. -/
def rows : FVec Ideal S256x2048 .f32 :=
  addf (mulf (broadcast S256x2048 (Scalar.ofBits .f32 0x3FB504F3#32)) (View.ld (Val := Elt Ideal) (e' := .f32) x0 r0_7))
    (addf (mm (truncf .bf16 (mg x3 x4 x5) bitsLt_bf16_f32) (View.ld (Val := Elt Ideal) (e' := .bf16) x7 r0_6)) (addf (addf (mm (View.ld (Val := Elt Ideal) (e' := .bf16) x1 r0_2) (View.ld (Val := Elt Ideal) (e' := .bf16) x7 r0_3)) (mm (View.ld (Val := Elt Ideal) (e' := .bf16) x2 r0_2) (View.ld (Val := Elt Ideal) (e' := .bf16) x7 r0_4))) (mm (View.ld (Val := Elt Ideal) (e' := .bf16) x6 r0_2) (View.ld (Val := Elt Ideal) (e' := .bf16) x7 r0_5))))
/-- The body's rows are these. -/
theorem rows_eq : k0_pay27 (F := Ideal) x0 x1 x2 x3 x4 x5 x6 x7 x8 x9 = rows x0 x1 x2 x3 x4 x5 x6 x7 := rfl

/-- The blocks the loads read, entry by entry. -/
theorem lg_apply (x : FVec Ideal S256x640 .f32) (r : Fin 256) (k : Fin 512) : lg x (ix2 r (hl k)) = x (ix2 r (lcol k)) := by
  unfold lg
  rw [View.ld_apply]
  congr 1
  funext a
  match a with
  | ⟨0, _⟩ => exact Fin.ext (by show 0 + 1 * r.val = r.val; omega)
  | ⟨1, _⟩ => exact Fin.ext (by show 512 + 1 * (k.val / 64) = 512 + k.val / 64; omega)
theorem og_apply (x : FVec Ideal S256x640 .f32) (r : Fin 256) (k : Fin 512) : og x (ix2 r k) = x (ix2 r (ocol k)) := by
  unfold og
  rw [View.ld_apply]
  congr 1
  funext a
  match a with
  | ⟨0, _⟩ => exact Fin.ext (by show 0 + 1 * r.val = r.val; omega)
  | ⟨1, _⟩ => exact Fin.ext (by show 0 + 1 * k.val = k.val; omega)
theorem ldx (x : FVec Ideal S256x2048 .f32) (r : Fin 256) (k : Fin 2048) : (View.ld (Val := Elt Ideal) (e' := .f32) x r0_7 : FVec Ideal S256x2048 .f32) (ix2 r k) = x (ix2 r k) := by
  rw [View.ld_apply]
  congr 1
  funext a
  match a with
  | ⟨0, _⟩ => exact Fin.ext (by show 0 + 1 * r.val = r.val; omega)
  | ⟨1, _⟩ => exact Fin.ext (by show 0 + 1 * k.val = k.val; omega)
theorem ldo (x : FVec Ideal S256x512 .bf16) (r : Fin 256) (k : Fin 512) : (View.ld (Val := Elt Ideal) (e' := .bf16) x r0_2 : FVec Ideal S256x512 .bf16) (ix2 r k) = x (ix2 r k) := by
  rw [View.ld_apply]
  congr 1
  funext a
  match a with
  | ⟨0, _⟩ => exact Fin.ext (by show 0 + 1 * r.val = r.val; omega)
  | ⟨1, _⟩ => exact Fin.ext (by show 0 + 1 * k.val = k.val; omega)
theorem ldw0 (k : Fin 512) (e : Fin 2048) : (View.ld (Val := Elt Ideal) (e' := .bf16) x7 r0_3 : FVec Ideal S512x2048 .bf16) (ix2 k e) = x7 (ix2 (part 0 (by omega) k) e) := by
  rw [View.ld_apply]
  congr 1
  funext a
  match a with
  | ⟨0, _⟩ => exact Fin.ext (by show 0 + 1 * k.val = 512 * 0 + k.val; omega)
  | ⟨1, _⟩ => exact Fin.ext (by show 0 + 1 * e.val = e.val; omega)
theorem ldw1 (k : Fin 512) (e : Fin 2048) : (View.ld (Val := Elt Ideal) (e' := .bf16) x7 r0_4 : FVec Ideal S512x2048 .bf16) (ix2 k e) = x7 (ix2 (part 1 (by omega) k) e) := by
  rw [View.ld_apply]
  congr 1
  funext a
  match a with
  | ⟨0, _⟩ => exact Fin.ext (by show 512 + 1 * k.val = 512 * 1 + k.val; omega)
  | ⟨1, _⟩ => exact Fin.ext (by show 0 + 1 * e.val = e.val; omega)
theorem ldw2 (k : Fin 512) (e : Fin 2048) : (View.ld (Val := Elt Ideal) (e' := .bf16) x7 r0_6 : FVec Ideal S512x2048 .bf16) (ix2 k e) = x7 (ix2 (part 2 (by omega) k) e) := by
  rw [View.ld_apply]
  congr 1
  funext a
  match a with
  | ⟨0, _⟩ => exact Fin.ext (by show 1024 + 1 * k.val = 512 * 2 + k.val; omega)
  | ⟨1, _⟩ => exact Fin.ext (by show 0 + 1 * e.val = e.val; omega)
theorem ldw3 (k : Fin 512) (e : Fin 2048) : (View.ld (Val := Elt Ideal) (e' := .bf16) x7 r0_5 : FVec Ideal S512x2048 .bf16) (ix2 k e) = x7 (ix2 (part 3 (by omega) k) e) := by
  rw [View.ld_apply]
  congr 1
  funext a
  match a with
  | ⟨0, _⟩ => exact Fin.ext (by show 1536 + 1 * k.val = 512 * 3 + k.val; omega)
  | ⟨1, _⟩ => exact Fin.ext (by show 0 + 1 * e.val = e.val; omega)
/-- An entry of the merged rows of a block: for real logarithms it is the quotient. -/
theorem mg_apply (r : Fin 256) (k : Fin 512) (a b c : ℝ) (ha : x3 (ix2 r (lcol k)) = a) (hb : x4 (ix2 r (lcol k)) = b) (hc : x5 (ix2 r (lcol k)) = c) :
    mg x3 x4 x5 (ix2 r k) = mrg (x3 (ix2 r (lcol k))) (x4 (ix2 r (lcol k))) (x5 (ix2 r (lcol k))) (x3 (ix2 r (ocol k))) (x4 (ix2 r (ocol k))) (x5 (ix2 r (ocol k))) := by
  unfold mg
  rw [merged_apply]
  unfold ent
  rw [wt_apply, wt_apply, wt_apply, inv_apply, lg_apply, lg_apply, lg_apply, og_apply, og_apply, og_apply, ha, hb, hc]
  exact mul_recip a b c _ _ _
/-- An entry of the rows before the norm. -/
theorem rows_apply (r : Fin 256) (e : Fin 2048) : rows x0 x1 x2 x3 x4 x5 x6 x7 (ix2 r e) = Ideal.ofBits .f32 0x3FB504F3#32 * x0 (ix2 r e)
    + ((∑ k, x1 (ix2 r k) * x7 (ix2 (part 0 (by omega) k) e)) + (∑ k, x2 (ix2 r k) * x7 (ix2 (part 1 (by omega) k) e))
      + (∑ k, mg x3 x4 x5 (ix2 r k) * x7 (ix2 (part 2 (by omega) k) e)) + ∑ k, x6 (ix2 r k) * x7 (ix2 (part 3 (by omega) k) e)) := by
  have h : rows x0 x1 x2 x3 x4 x5 x6 x7 (ix2 r e) = Ideal.ofBits .f32 0x3FB504F3#32 * (View.ld (Val := Elt Ideal) (e' := .f32) x0 r0_7 : FVec Ideal S256x2048 .f32) (ix2 r e)
      + (mm (truncf .bf16 (mg x3 x4 x5) bitsLt_bf16_f32) (View.ld (Val := Elt Ideal) (e' := .bf16) x7 r0_6) (ix2 r e) + ((mm (View.ld (Val := Elt Ideal) (e' := .bf16) x1 r0_2) (View.ld (Val := Elt Ideal) (e' := .bf16) x7 r0_3) (ix2 r e) + mm (View.ld (Val := Elt Ideal) (e' := .bf16) x2 r0_2) (View.ld (Val := Elt Ideal) (e' := .bf16) x7 r0_4) (ix2 r e)) + mm (View.ld (Val := Elt Ideal) (e' := .bf16) x6 r0_2) (View.ld (Val := Elt Ideal) (e' := .bf16) x7 r0_5) (ix2 r e))) := rfl
  have t : ∀ k : Fin 512, (truncf .bf16 (mg x3 x4 x5) bitsLt_bf16_f32 : FVec Ideal S256x512 .bf16) (ix2 r k) = mg x3 x4 x5 (ix2 r k) := fun _ => rfl
  have s0 : mm (View.ld (Val := Elt Ideal) (e' := .bf16) x1 r0_2) (View.ld (Val := Elt Ideal) (e' := .bf16) x7 r0_3) (ix2 r e) = ∑ k, x1 (ix2 r k) * x7 (ix2 (part 0 (by omega) k) e) :=
    (mm_apply _ _ r e).trans (Finset.sum_congr rfl fun k _ => congrArg₂ (· * ·) (ldo x1 r k) (ldw0 x7 k e))
  have s1 : mm (View.ld (Val := Elt Ideal) (e' := .bf16) x2 r0_2) (View.ld (Val := Elt Ideal) (e' := .bf16) x7 r0_4) (ix2 r e) = ∑ k, x2 (ix2 r k) * x7 (ix2 (part 1 (by omega) k) e) :=
    (mm_apply _ _ r e).trans (Finset.sum_congr rfl fun k _ => congrArg₂ (· * ·) (ldo x2 r k) (ldw1 x7 k e))
  have s2 : mm (truncf .bf16 (mg x3 x4 x5) bitsLt_bf16_f32) (View.ld (Val := Elt Ideal) (e' := .bf16) x7 r0_6) (ix2 r e) = ∑ k, mg x3 x4 x5 (ix2 r k) * x7 (ix2 (part 2 (by omega) k) e) :=
    (mm_apply _ _ r e).trans (Finset.sum_congr rfl fun k _ => congrArg₂ (· * ·) (t k) (ldw2 x7 k e))
  have s3 : mm (View.ld (Val := Elt Ideal) (e' := .bf16) x6 r0_2) (View.ld (Val := Elt Ideal) (e' := .bf16) x7 r0_5) (ix2 r e) = ∑ k, x6 (ix2 r k) * x7 (ix2 (part 3 (by omega) k) e) :=
    (mm_apply _ _ r e).trans (Finset.sum_congr rfl fun k _ => congrArg₂ (· * ·) (ldo x6 r k) (ldw3 x7 k e))
  have q : ∀ a b c d : EReal, c + ((a + b) + d) = (a + b + c) + d := by
    intro a b c d
    rw [← add_assoc, add_comm c (a + b)]
  rw [h, s0, s1, s2, s3, q]
  exact congrArg₂ (· + ·) (congrArg₂ (· * ·) rfl (ldx x0 r e)) rfl
end

end Cert.Proof.OutBody
end
-- ==== Proof.OutValue.lean ====
module

public import proofs.«01_k».proof.Proof.OutRef
public import proofs.«01_k».proof.Proof.OutBody
public import proofs.«01_k».proof.Proof.Gen.OutIdeal.Frame
public import Idealize.ShloMosaic.Lib.Pipeline.Value
public import Idealize.ShloMosaic.Lib.Pipeline.ValueKit
public import Idealize.ShloMosaic.Lib.Pipeline.ReadBack

@[expose] public section

set_option maxRecDepth 16384
noncomputable section

/-! The output projection's kernel: its two output arrays after the run are the reference's results over the same arguments. -/

namespace Cert.Proof.OutValue
open Cert.OutIdeal Cert.OutIdeal.Gen Idealize.ShloMosaic Idealize.ShloMosaic.TcCoe Idealize.SL.Sem
open Idealize.ShloMosaic.Pipeline (Dat)
open Cert.Proof.LnRow Cert.Proof.OutRow Cert.Proof.OutRef

/-- The windows' block indices at every grid point. -/
theorem idx : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![0, 0] ∧ win0_8.index t = ![0, 0] ∧ win0_9.index t = ![0, 0]
    ∧ win0_10.index t = ![t.val, 0] ∧ win0_11.index t = ![t.val, 0] :=
  (by decide +kernel : ∀ t : Fin grid0.N, _)

/-- The grid has 32 points. -/
theorem lt32 (t : Fin cfg0.N) : t.val < 32 := lt_of_lt_of_eq t.isLt N_0

/-- Row `r` of the block a grid point writes. -/
def row (n : ℕ) (h : n < 32) (r : Fin 256) : Fin 8192 := ⟨256 * n + r.val, by omega⟩

/-- The body's block at an entry, -/
theorem pay1 (z : FVec Ideal S256x2048 .f32) (g b : Vec Ideal S1x2048 .f32) (r : Fin 256) (e : Fin 2048) :
    k0_pay1 (F := Ideal) z g b (ix2 r e) = lnRow (fun k => z (ix2 r k)) (g (ix2 0 e)) (b (ix2 0 e)) e := by
  unfold lnRow cen mean
  pointwise [k0_pay1]
/-- and rounded. -/
theorem pay2 (z : FVec Ideal S256x2048 .f32) (g b : Vec Ideal S1x2048 .f32) (r : Fin 256) (e : Fin 2048) :
    k0_pay2 (F := Ideal) z g b (ix2 r e) = k0_pay1 (F := Ideal) z g b (ix2 r e) := by
  unfold k0_pay2
  generalize k0_pay1 (F := Ideal) z g b = R
  pointwise

section
variable (m : (ℓ : Loc nD τ sig) → Buf (Elt Ideal) ℓ) (c : Dev nD)

/-- The block of argument 0. -/
theorem blk0 (t : Fin cfg0.N) (r : Fin 256) (k : Fin 2048) : (iblk m c 0 t : FVec Ideal S256x2048 .f32) (ix2 r k)
    = (m ((c : Thread nD τ).loc main_arg0) : FVec Ideal S8192x2048 .f32) (ix2 (row t.val (lt32 t) r) k) := by
  unfold row
  blk_ext [iblk, V, idx t]
/-- The block of argument 1. -/
theorem blk1 (t : Fin cfg0.N) (r : Fin 256) (k : Fin 512) : (iblk m c 1 t : FVec Ideal S256x512 .bf16) (ix2 r k)
    = (m ((c : Thread nD τ).loc main_arg1) : FVec Ideal S8192x512 .bf16) (ix2 (row t.val (lt32 t) r) k) := by
  unfold row
  blk_ext [iblk, V, idx t]
/-- The block of argument 2. -/
theorem blk2 (t : Fin cfg0.N) (r : Fin 256) (k : Fin 512) : (iblk m c 2 t : FVec Ideal S256x512 .bf16) (ix2 r k)
    = (m ((c : Thread nD τ).loc main_arg2) : FVec Ideal S8192x512 .bf16) (ix2 (row t.val (lt32 t) r) k) := by
  unfold row
  blk_ext [iblk, V, idx t]
/-- The block of argument 3. -/
theorem blk3 (t : Fin cfg0.N) (r : Fin 256) (k : Fin 640) : (iblk m c 3 t : FVec Ideal S256x640 .f32) (ix2 r k)
    = (m ((c : Thread nD τ).loc main_arg3) : FVec Ideal S8192x640 .f32) (ix2 (row t.val (lt32 t) r) k) := by
  unfold row
  blk_ext [iblk, V, idx t]
/-- The block of argument 4. -/
theorem blk4 (t : Fin cfg0.N) (r : Fin 256) (k : Fin 640) : (iblk m c 4 t : FVec Ideal S256x640 .f32) (ix2 r k)
    = (m ((c : Thread nD τ).loc main_arg4) : FVec Ideal S8192x640 .f32) (ix2 (row t.val (lt32 t) r) k) := by
  unfold row
  blk_ext [iblk, V, idx t]
/-- The block of argument 5. -/
theorem blk5 (t : Fin cfg0.N) (r : Fin 256) (k : Fin 640) : (iblk m c 5 t : FVec Ideal S256x640 .f32) (ix2 r k)
    = (m ((c : Thread nD τ).loc main_arg5) : FVec Ideal S8192x640 .f32) (ix2 (row t.val (lt32 t) r) k) := by
  unfold row
  blk_ext [iblk, V, idx t]
/-- The block of argument 6. -/
theorem blk6 (t : Fin cfg0.N) (r : Fin 256) (k : Fin 512) : (iblk m c 6 t : FVec Ideal S256x512 .bf16) (ix2 r k)
    = (m ((c : Thread nD τ).loc main_arg6) : FVec Ideal S8192x512 .bf16) (ix2 (row t.val (lt32 t) r) k) := by
  unfold row
  blk_ext [iblk, V, idx t]
/-- The weights, -/
theorem blk7 (t : Fin cfg0.N) (k e : Fin 2048) : (iblk m c 7 t : FVec Ideal S2048x2048 .bf16) (ix2 k e)
    = (m ((c : Thread nD τ).loc main_arg7) : FVec Ideal S2048x2048 .f32) (ix2 k e) := by
  blk_simp [iblk, idx t]
  entry_read
  pointwise
  blk_ext [idx t]
/-- the gains -/
theorem blk8 (t : Fin cfg0.N) (e : Fin 2048) : (iblk m c 8 t : FVec Ideal S1x2048 .f32) (ix2 0 e)
    = (m ((c : Thread nD τ).loc main_arg8) : FVec Ideal S2048 .f32) (ix1 e) := by
  blk_simp [iblk, idx t]
  entry_read
  pointwise
  blk_ext [idx t]
/-- and the offsets. -/
theorem blk9 (t : Fin cfg0.N) (e : Fin 2048) : (iblk m c 9 t : FVec Ideal S1x2048 .f32) (ix2 0 e)
    = (m ((c : Thread nD τ).loc main_arg9) : FVec Ideal S2048 .f32) (ix1 e) := by
  blk_simp [iblk, idx t]
  entry_read
  pointwise
  blk_ext [idx t]

/-- The reference's result over the kernel's arguments, -/
def REF : FVec Ideal S8192x2048 .f32 := res (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))
/-- and rounded. -/
def REFB : FVec Ideal S8192x2048 .bf16 := resB (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))

/-- The logarithms of the three configurations are real numbers. -/
def RealLse : Prop := ∀ (l : Fin 8192) (k : Fin 512),
  (∃ a : ℝ, (m ((c : Thread nD τ).loc main_arg3) : FVec Ideal S8192x640 .f32) (ix2 l (lcol k)) = (a : EReal))
  ∧ (∃ a : ℝ, (m ((c : Thread nD τ).loc main_arg4) : FVec Ideal S8192x640 .f32) (ix2 l (lcol k)) = (a : EReal))
  ∧ (∃ a : ℝ, (m ((c : Thread nD τ).loc main_arg5) : FVec Ideal S8192x640 .f32) (ix2 l (lcol k)) = (a : EReal))

variable (hf : RealLse m c)
include hf

/-- The merged rows of a grid point's block are the reference's. -/
theorem mg_pt (t : Fin cfg0.N) (r : Fin 256) (k : Fin 512) :
    OutBody.mg (iblk m c 3 t) (iblk m c 4 t) (iblk m c 5 t) (ix2 r k) = oc (m ((c : Thread nD τ).loc main_arg3)) (m ((c : Thread nD τ).loc main_arg4)) (m ((c : Thread nD τ).loc main_arg5)) (ix2 (row t.val (lt32 t) r) k) := by
  obtain ⟨⟨a, ha⟩, ⟨b, hb⟩, ⟨d, hd⟩⟩ := hf (row t.val (lt32 t) r) k
  rw [OutBody.mg_apply _ _ _ r k a b d ((blk3 m c t r _).trans ha) ((blk4 m c t r _).trans hb) ((blk5 m c t r _).trans hd), oc_apply]
  rw [blk3, blk4, blk5, blk3, blk4, blk5]
/-- The rows before the norm are the reference's. -/
theorem rows_pt (t : Fin cfg0.N) (r : Fin 256) (e : Fin 2048) :
    OutBody.rows (iblk m c 0 t) (iblk m c 1 t) (iblk m c 2 t) (iblk m c 3 t) (iblk m c 4 t) (iblk m c 5 t) (iblk m c 6 t) (iblk m c 7 t) (ix2 r e) = sums (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (ix2 (row t.val (lt32 t) r) e) := by
  rw [OutBody.rows_apply, sums_apply]
  refine congrArg₂ (· + ·) (congrArg₂ (· * ·) rfl (blk0 m c t r e)) ?_
  refine congrArg₂ (· + ·) (congrArg₂ (· + ·) (congrArg₂ (· + ·) ?_ ?_) ?_) ?_
  · exact Finset.sum_congr rfl fun k _ => congrArg₂ (· * ·) (blk1 m c t r k) (blk7 m c t _ e)
  · exact Finset.sum_congr rfl fun k _ => congrArg₂ (· * ·) (blk2 m c t r k) (blk7 m c t _ e)
  · exact Finset.sum_congr rfl fun k _ => congrArg₂ (· * ·) (mg_pt m c hf t r k) (blk7 m c t _ e)
  · exact Finset.sum_congr rfl fun k _ => congrArg₂ (· * ·) (blk6 m c t r k) (blk7 m c t _ e)
/-- The block of a grid point is the reference's. -/
theorem point (t : Fin cfg0.N) (r : Fin 256) (e : Fin 2048) :
    k0_pay1 (F := Ideal) (OutBody.rows (iblk m c 0 t) (iblk m c 1 t) (iblk m c 2 t) (iblk m c 3 t) (iblk m c 4 t) (iblk m c 5 t) (iblk m c 6 t) (iblk m c 7 t)) (iblk m c 8 t) (iblk m c 9 t) (ix2 r e) = REF m c (ix2 (row t.val (lt32 t) r) e) := by
  rw [pay1]
  unfold REF res
  rw [ln_apply, blk8, blk9]
  congr 1
  funext k
  rw [rows_pt m c hf]

/-- THE KERNEL'S OUTPUT, whole: the reference's result, -/
theorem final : (dats m 0 c).arrAt 10 (cfgs 0).N = REF m c := by
  refine (dats m 0 c).arrAt_eq_of_covers 10 _ (by decide +kernel) fun t _ y => ?_
  blk_simp
  rw [after0_10]
  obtain ⟨r, e, rfl⟩ : ∃ (r : Fin 256) (e : Fin 2048), y = ix2 r e := ⟨y 0, y 1, (ix2_eta y).symm⟩
  refine Eq.trans (b := k0_pay1 (F := Ideal) (OutBody.rows (iblk m c 0 t) (iblk m c 1 t) (iblk m c 2 t) (iblk m c 3 t) (iblk m c 4 t) (iblk m c 5 t) (iblk m c 6 t) (iblk m c 7 t)) (iblk m c 8 t) (iblk m c 9 t) (ix2 r e)) ?_ ?_
  · unfold out0_10
    rw [OutBody.rows_eq]
    generalize OutBody.rows (iblk m c 0 t) (iblk m c 1 t) (iblk m c 2 t) (iblk m c 3 t) (iblk m c 4 t) (iblk m c 5 t) (iblk m c 6 t) (iblk m c 7 t) = Z
    frame_out
  rw [point m c hf t r e]
  unfold row
  blk_ext [idx t]
/-- and the rounded one. -/
theorem finalB : (dats m 0 c).arrAt 11 (cfgs 0).N = REFB m c := by
  refine (dats m 0 c).arrAt_eq_of_covers 11 _ (by decide +kernel) fun t _ y => ?_
  blk_simp
  rw [after0_11]
  obtain ⟨r, e, rfl⟩ : ∃ (r : Fin 256) (e : Fin 2048), y = ix2 r e := ⟨y 0, y 1, (ix2_eta y).symm⟩
  refine Eq.trans (b := k0_pay2 (F := Ideal) (OutBody.rows (iblk m c 0 t) (iblk m c 1 t) (iblk m c 2 t) (iblk m c 3 t) (iblk m c 4 t) (iblk m c 5 t) (iblk m c 6 t) (iblk m c 7 t)) (iblk m c 8 t) (iblk m c 9 t) (ix2 r e)) ?_ ?_
  · unfold out0_11
    rw [OutBody.rows_eq]
    generalize OutBody.rows (iblk m c 0 t) (iblk m c 1 t) (iblk m c 2 t) (iblk m c 3 t) (iblk m c 4 t) (iblk m c 5 t) (iblk m c 6 t) (iblk m c 7 t) = Z
    frame_out
  rw [pay2, point m c hf t r e]
  unfold row REFB
  refine Eq.trans (resB_apply _ _ _ _ _ _ _ _ _ _ _ _).symm ?_
  blk_ext [idx t]
end

/-- The run: the two output arrays are the reference's, and the arguments are as launched. -/
theorem run (m : (ℓ : Loc nD τ sig) → Buf (Elt Ideal) ℓ) (ρ : Dev nD → PrngReg) (hf : ∀ c, RealLse m c) :
    θ_run defs (onTc (τ := τ) (main (F := Ideal))) ⟨m, fun _ => 0, ρ⟩ fun r => ∀ c : Dev nD,
      r.2.mem ((c : Thread nD τ).loc main_v3_0) = REF m c ∧ r.2.mem ((c : Thread nD τ).loc main_v3_1) = REFB m c
      ∧ r.2.mem ((c : Thread nD τ).loc main_arg0) = m ((c : Thread nD τ).loc main_arg0) ∧ r.2.mem ((c : Thread nD τ).loc main_arg1) = m ((c : Thread nD τ).loc main_arg1) ∧ r.2.mem ((c : Thread nD τ).loc main_arg2) = m ((c : Thread nD τ).loc main_arg2) ∧ r.2.mem ((c : Thread nD τ).loc main_arg3) = m ((c : Thread nD τ).loc main_arg3) ∧ r.2.mem ((c : Thread nD τ).loc main_arg4) = m ((c : Thread nD τ).loc main_arg4) ∧ r.2.mem ((c : Thread nD τ).loc main_arg5) = m ((c : Thread nD τ).loc main_arg5) ∧ r.2.mem ((c : Thread nD τ).loc main_arg6) = m ((c : Thread nD τ).loc main_arg6) ∧ r.2.mem ((c : Thread nD τ).loc main_arg7) = m ((c : Thread nD τ).loc main_arg7) ∧ r.2.mem ((c : Thread nD τ).loc main_arg8) = m ((c : Thread nD τ).loc main_arg8) ∧ r.2.mem ((c : Thread nD τ).loc main_arg9) = m ((c : Thread nD τ).loc main_arg9) :=
  (θ_run _ _ _).mono (fun r h c => ⟨((h.1 c).1 10).trans (final m c (hf c)), ((h.1 c).1 11).trans (finalB m c (hf c)), h.2 c⟩)
    (θ_run_and (run_main (F := Ideal) m ρ) (unchanged (F := Ideal) m ρ))

end Cert.Proof.OutValue
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.Rope
public import proofs.«01_k».proof.Proof.Gen.Rope.Frame
public import proofs.«01_k».proof.Proof.Gen.RopeIdeal
public import proofs.«01_k».proof.Proof.Gen.RopeIdeal.Frame
public import proofs.«01_k».proof.Proof.Gen.RopeIdeal.Value
public import proofs.«01_k».proof.Proof.Gen.RopeReferenceIdeal
public import proofs.«01_k».proof.Proof.Gen.RopeReferenceIdeal.Run
public import proofs.«01_k».proof.Proof.Gen.Val
public import proofs.«01_k».proof.Proof.Gen.Val.Frame
public import proofs.«01_k».proof.Proof.Gen.ValIdeal
public import proofs.«01_k».proof.Proof.Gen.ValIdeal.Frame
public import proofs.«01_k».proof.Proof.Gen.ValIdeal.Value
public import proofs.«01_k».proof.Proof.Gen.ValReferenceIdeal
public import proofs.«01_k».proof.Proof.Gen.ValReferenceIdeal.Run
public import proofs.«01_k».proof.Proof.Gen.Iw
public import proofs.«01_k».proof.Proof.Gen.Iw.Frame
public import proofs.«01_k».proof.Proof.Gen.IwIdeal
public import proofs.«01_k».proof.Proof.Gen.IwIdeal.Frame
public import proofs.«01_k».proof.Proof.Gen.IwIdeal.Value
public import proofs.«01_k».proof.Proof.Gen.IwReferenceIdeal
public import proofs.«01_k».proof.Proof.Gen.IwReferenceIdeal.Run
public import proofs.«01_k».proof.Proof.Gen.Swa
public import proofs.«01_k».proof.Proof.Gen.Swa.Frame
public import proofs.«01_k».proof.Proof.Gen.SwaIdeal
public import proofs.«01_k».proof.Proof.Gen.SwaIdeal.Frame
public import proofs.«01_k».proof.Proof.Gen.SwaReferenceIdeal
public import proofs.«01_k».proof.Proof.Gen.SwaReferenceIdeal.Run
public import proofs.«01_k».proof.Proof.Gen.Band
public import proofs.«01_k».proof.Proof.Gen.Band.Frame
public import proofs.«01_k».proof.Proof.Gen.BandIdeal
public import proofs.«01_k».proof.Proof.Gen.BandIdeal.Frame
public import proofs.«01_k».proof.Proof.Gen.BandReferenceIdeal
public import proofs.«01_k».proof.Proof.Gen.BandReferenceIdeal.Run
public import proofs.«01_k».proof.Proof.Gen.Band4
public import proofs.«01_k».proof.Proof.Gen.Band4.Frame
public import proofs.«01_k».proof.Proof.Gen.Band4Ideal
public import proofs.«01_k».proof.Proof.Gen.Band4Ideal.Frame
public import proofs.«01_k».proof.Proof.Gen.Band4ReferenceIdeal
public import proofs.«01_k».proof.Proof.Gen.Band4ReferenceIdeal.Run
public import proofs.«01_k».proof.Proof.Gen.Band16
public import proofs.«01_k».proof.Proof.Gen.Band16.Frame
public import proofs.«01_k».proof.Proof.Gen.Band16Ideal
public import proofs.«01_k».proof.Proof.Gen.Band16Ideal.Frame
public import proofs.«01_k».proof.Proof.Gen.Band16ReferenceIdeal
public import proofs.«01_k».proof.Proof.Gen.Band16ReferenceIdeal.Run
public import proofs.«01_k».proof.Proof.Gen.Out
public import proofs.«01_k».proof.Proof.Gen.Out.Frame
public import proofs.«01_k».proof.Proof.Gen.OutIdeal
public import proofs.«01_k».proof.Proof.Gen.OutIdeal.Frame
public import proofs.«01_k».proof.Proof.Gen.OutReferenceIdeal
public import proofs.«01_k».proof.Proof.Gen.OutReferenceIdeal.Run
public import proofs.«01_k».proof.Proof.Gen.Ln
public import proofs.«01_k».proof.Proof.Gen.Ln.Frame
public import proofs.«01_k».proof.Proof.Gen.LnIdeal
public import proofs.«01_k».proof.Proof.Gen.LnIdeal.Frame
public import proofs.«01_k».proof.Proof.Gen.LnIdeal.Value
public import proofs.«01_k».proof.Proof.Gen.LnReferenceIdeal
public import proofs.«01_k».proof.Proof.Gen.LnReferenceIdeal.Run
public import proofs.«01_k».proof.Proof.Value
public import proofs.«01_k».proof.Proof.Finite
public import proofs.«01_k».proof.Proof.RopeValue
public import proofs.«01_k».proof.Proof.ValValue
public import proofs.«01_k».proof.Proof.IwValue
public import proofs.«01_k».proof.Proof.SwaFinite
public import proofs.«01_k».proof.Proof.SwaValue
public import proofs.«01_k».proof.Proof.BandValue
public import proofs.«01_k».proof.Proof.Band4Value
public import proofs.«01_k».proof.Proof.Band16Value
public import proofs.«01_k».proof.Proof.LnValue
public import proofs.«01_k».proof.Proof.OutFinite
public import proofs.«01_k».proof.Proof.OutValue
public import Idealize.ShloMosaic.Adequacy
public import Idealize.ShloMosaic.Init

@[expose] public section

noncomputable section

/-! The claims of the certificate, assembled: the frames, the idealization, and the kernel against the reference. -/

namespace Cert.Proof

open Idealize.ShloMosaic Idealize.SL.Sem Cert.Kernel

/-- THE REFERENCE'S FRAME: its run leaves the arguments as they were, and it has no semaphore. -/
theorem ref_frame (m : (ℓ : Loc Cert.ReferenceIdeal.nD Cert.ReferenceIdeal.τ Cert.ReferenceIdeal.sig) → Buf (Elt Ideal) ℓ) (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0) :=
  (θ_run _ _ _).mono (fun r h => ⟨fun c => (h c).2, sem_eq_zero_of_no_sems (by decide) r.2⟩) (Cert.ReferenceIdeal.Value.run (F := Ideal) m g)

/-- THE ATTENTION: over the extended reals, on finite arguments, the kernel's array is the reference's. -/
theorem algebraic : @Cert.algebraic_KernelIdeal_ReferenceIdeal_pre_finite_inputs Cert.KernelIdeal.Gen.facts Cert.ReferenceIdeal.Gen.facts Finite.facts := by
  intro m g m' g' hpre heq
  refine ⟨fun c => Value.REF m c, ?_, ?_⟩
  · refine (θ_run _ _ _).mono (fun r h c => ?_) (Cert.KernelIdeal.Value.run_blocks (F := Ideal) m g)
    obtain ⟨h1, h2⟩ := h c
    obtain ⟨fa, fb, fl⟩ := @Finite.finite Finite.facts _ _ _ _ (hpre c)
    refine ⟨h1.trans ?_, h2⟩
    exact Value.final m c _ (fun i j => Softmax.coe_real (fa (ix2 i j))) _ (fun i j => Softmax.coe_real (fb (ix2 i j))) _ (fun i j => Softmax.coe_real (fl (ix2 i j)))
  · refine (θ_run _ _ _).mono (fun r h c => ?_) (Cert.ReferenceIdeal.Value.run (F := Ideal) m' g')
    obtain ⟨h1, h2⟩ := h c
    refine ⟨h1.trans ?_, h2⟩
    obtain ⟨a0, a1, a2, a3⟩ := heq c
    rw [Ref.res_eq, a0, a1, a2, a3]
    rfl

/-- The frame of the rotated projection's reference. -/
theorem rope_ref_frame (m : (ℓ : Loc Cert.RopeReferenceIdeal.nD Cert.RopeReferenceIdeal.τ Cert.RopeReferenceIdeal.sig) → Buf (Elt Ideal) ℓ) (g : Dev Cert.RopeReferenceIdeal.nD → PrngReg) :
    θ_run (Cert.RopeReferenceIdeal.defs (F := Ideal)) (onTc (τ := Cert.RopeReferenceIdeal.τ) (Cert.RopeReferenceIdeal.main (F := Ideal))) ⟨m, fun _ => 0, g⟩ (fun r => (∀ c : Dev Cert.RopeReferenceIdeal.nD,
      r.2.mem ((c.tc : Thread Cert.RopeReferenceIdeal.nD Cert.RopeReferenceIdeal.τ).loc Cert.RopeReferenceIdeal.main_arg0) = m ((c.tc : Thread Cert.RopeReferenceIdeal.nD Cert.RopeReferenceIdeal.τ).loc Cert.RopeReferenceIdeal.main_arg0)
      ∧ r.2.mem ((c.tc : Thread Cert.RopeReferenceIdeal.nD Cert.RopeReferenceIdeal.τ).loc Cert.RopeReferenceIdeal.main_arg1) = m ((c.tc : Thread Cert.RopeReferenceIdeal.nD Cert.RopeReferenceIdeal.τ).loc Cert.RopeReferenceIdeal.main_arg1))
      ∧ r.2.sem = fun _ => 0) :=
  (θ_run _ _ _).mono (fun r h => ⟨fun c => (h c).2, sem_eq_zero_of_no_sems (by decide) r.2⟩) (Cert.RopeReferenceIdeal.Value.run (F := Ideal) m g)

/-- The frame of the value projection's reference. -/
theorem val_ref_frame (m : (ℓ : Loc Cert.ValReferenceIdeal.nD Cert.ValReferenceIdeal.τ Cert.ValReferenceIdeal.sig) → Buf (Elt Ideal) ℓ) (g : Dev Cert.ValReferenceIdeal.nD → PrngReg) :
    θ_run (Cert.ValReferenceIdeal.defs (F := Ideal)) (onTc (τ := Cert.ValReferenceIdeal.τ) (Cert.ValReferenceIdeal.main (F := Ideal))) ⟨m, fun _ => 0, g⟩ (fun r => (∀ c : Dev Cert.ValReferenceIdeal.nD,
      r.2.mem ((c.tc : Thread Cert.ValReferenceIdeal.nD Cert.ValReferenceIdeal.τ).loc Cert.ValReferenceIdeal.main_arg0) = m ((c.tc : Thread Cert.ValReferenceIdeal.nD Cert.ValReferenceIdeal.τ).loc Cert.ValReferenceIdeal.main_arg0)
      ∧ r.2.mem ((c.tc : Thread Cert.ValReferenceIdeal.nD Cert.ValReferenceIdeal.τ).loc Cert.ValReferenceIdeal.main_arg1) = m ((c.tc : Thread Cert.ValReferenceIdeal.nD Cert.ValReferenceIdeal.τ).loc Cert.ValReferenceIdeal.main_arg1))
      ∧ r.2.sem = fun _ => 0) :=
  (θ_run _ _ _).mono (fun r h => ⟨fun c => (h c).2, sem_eq_zero_of_no_sems (by decide) r.2⟩) (Cert.ValReferenceIdeal.Value.run (F := Ideal) m g)

/-- THE ROTATED PROJECTION: over the extended reals the kernel's array is the reference's. -/
theorem rope_algebraic : @Cert.algebraic_RopeIdeal_RopeReferenceIdeal Cert.RopeIdeal.Gen.facts Cert.RopeReferenceIdeal.Gen.facts := by
  intro m g m' g' _ heq
  refine ⟨fun c => RopeValue.REF m c, ?_, ?_⟩
  · refine (θ_run _ _ _).mono (fun r h c => ?_) (Cert.RopeIdeal.Value.run_blocks (F := Ideal) m g)
    obtain ⟨h1, h2⟩ := h c
    exact ⟨h1.trans (RopeValue.final m c), h2⟩
  · refine (θ_run _ _ _).mono (fun r h c => ?_) (Cert.RopeReferenceIdeal.Value.run (F := Ideal) m' g')
    obtain ⟨h1, h2⟩ := h c
    refine ⟨h1.trans ?_, h2⟩
    obtain ⟨a0, a1⟩ := heq c
    rw [RopeRef.res_eq, a0, a1]
    rfl

/-- THE VALUE PROJECTION: over the extended reals the kernel's array is the reference's. -/
theorem val_algebraic : @Cert.algebraic_ValIdeal_ValReferenceIdeal Cert.ValIdeal.Gen.facts Cert.ValReferenceIdeal.Gen.facts := by
  intro m g m' g' _ heq
  refine ⟨fun c => ValValue.REF m c, ?_, ?_⟩
  · refine (θ_run _ _ _).mono (fun r h c => ?_) (Cert.ValIdeal.Value.run_blocks (F := Ideal) m g)
    obtain ⟨h1, h2⟩ := h c
    exact ⟨h1.trans (ValValue.final m c), h2⟩
  · refine (θ_run _ _ _).mono (fun r h c => ?_) (Cert.ValReferenceIdeal.Value.run (F := Ideal) m' g')
    obtain ⟨h1, h2⟩ := h c
    refine ⟨h1.trans ?_, h2⟩
    obtain ⟨a0, a1⟩ := heq c
    rw [a0, a1]
    rfl

/-- The frame of the indexer weights' reference. -/
theorem iw_ref_frame (m : (ℓ : Loc Cert.IwReferenceIdeal.nD Cert.IwReferenceIdeal.τ Cert.IwReferenceIdeal.sig) → Buf (Elt Ideal) ℓ) (g : Dev Cert.IwReferenceIdeal.nD → PrngReg) :
    θ_run (Cert.IwReferenceIdeal.defs (F := Ideal)) (onTc (τ := Cert.IwReferenceIdeal.τ) (Cert.IwReferenceIdeal.main (F := Ideal))) ⟨m, fun _ => 0, g⟩ (fun r => (∀ c : Dev Cert.IwReferenceIdeal.nD,
      r.2.mem ((c.tc : Thread Cert.IwReferenceIdeal.nD Cert.IwReferenceIdeal.τ).loc Cert.IwReferenceIdeal.main_arg0) = m ((c.tc : Thread Cert.IwReferenceIdeal.nD Cert.IwReferenceIdeal.τ).loc Cert.IwReferenceIdeal.main_arg0)
      ∧ r.2.mem ((c.tc : Thread Cert.IwReferenceIdeal.nD Cert.IwReferenceIdeal.τ).loc Cert.IwReferenceIdeal.main_arg1) = m ((c.tc : Thread Cert.IwReferenceIdeal.nD Cert.IwReferenceIdeal.τ).loc Cert.IwReferenceIdeal.main_arg1))
      ∧ r.2.sem = fun _ => 0) :=
  (θ_run _ _ _).mono (fun r h => ⟨fun c => (h c).2, sem_eq_zero_of_no_sems (by decide) r.2⟩) (Cert.IwReferenceIdeal.Value.run (F := Ideal) m g)

/-- THE INDEXER'S WEIGHTS: over the extended reals the kernel's array is the reference's. -/
theorem iw_algebraic : @Cert.algebraic_IwIdeal_IwReferenceIdeal Cert.IwIdeal.Gen.facts Cert.IwReferenceIdeal.Gen.facts := by
  intro m g m' g' _ heq
  refine ⟨fun c => IwValue.REF m c, ?_, ?_⟩
  · refine (θ_run _ _ _).mono (fun r h c => ?_) (Cert.IwIdeal.Value.run_blocks (F := Ideal) m g)
    obtain ⟨h1, h2⟩ := h c
    exact ⟨h1.trans (IwValue.final m c), h2⟩
  · refine (θ_run _ _ _).mono (fun r h c => ?_) (Cert.IwReferenceIdeal.Value.run (F := Ideal) m' g')
    obtain ⟨h1, h2⟩ := h c
    refine ⟨h1.trans ?_, h2⟩
    obtain ⟨a0, a1⟩ := heq c
    rw [a0, a1]
    rfl

/-- The frame of the sliding-window attention's reference. -/
theorem swa_ref_frame (m : (ℓ : Loc Cert.SwaReferenceIdeal.nD Cert.SwaReferenceIdeal.τ Cert.SwaReferenceIdeal.sig) → Buf (Elt Ideal) ℓ) (g : Dev Cert.SwaReferenceIdeal.nD → PrngReg) :
    θ_run (Cert.SwaReferenceIdeal.defs (F := Ideal)) (onTc (τ := Cert.SwaReferenceIdeal.τ) (Cert.SwaReferenceIdeal.main (F := Ideal))) ⟨m, fun _ => 0, g⟩ (fun r => (∀ c : Dev Cert.SwaReferenceIdeal.nD,
      r.2.mem ((c.tc : Thread Cert.SwaReferenceIdeal.nD Cert.SwaReferenceIdeal.τ).loc Cert.SwaReferenceIdeal.main_arg0) = m ((c.tc : Thread Cert.SwaReferenceIdeal.nD Cert.SwaReferenceIdeal.τ).loc Cert.SwaReferenceIdeal.main_arg0)
      ∧ r.2.mem ((c.tc : Thread Cert.SwaReferenceIdeal.nD Cert.SwaReferenceIdeal.τ).loc Cert.SwaReferenceIdeal.main_arg1) = m ((c.tc : Thread Cert.SwaReferenceIdeal.nD Cert.SwaReferenceIdeal.τ).loc Cert.SwaReferenceIdeal.main_arg1)
      ∧ r.2.mem ((c.tc : Thread Cert.SwaReferenceIdeal.nD Cert.SwaReferenceIdeal.τ).loc Cert.SwaReferenceIdeal.main_arg2) = m ((c.tc : Thread Cert.SwaReferenceIdeal.nD Cert.SwaReferenceIdeal.τ).loc Cert.SwaReferenceIdeal.main_arg2))
      ∧ r.2.sem = fun _ => 0) :=
  (θ_run _ _ _).mono (fun r h => ⟨fun c => (h c).2, sem_eq_zero_of_no_sems (by decide) r.2⟩) (Cert.SwaReferenceIdeal.Value.run (F := Ideal) m g)

/-- THE SLIDING-WINDOW ATTENTION: over the extended reals, on finite queries, keys and sinks, the kernel's array is the reference's. -/
theorem swa_algebraic : @Cert.algebraic_SwaIdeal_SwaReferenceIdeal_pre_finite_scores Cert.SwaIdeal.Gen.facts Cert.SwaReferenceIdeal.Gen.facts SwaFinite.facts := by
  intro m g m' g' hpre heq
  refine ⟨fun c => SwaValue.REF m c, ?_, ?_⟩
  · exact SwaValue.run m g fun c => @SwaFinite.finite SwaFinite.facts _ _ _ (hpre c)
  · refine (θ_run _ _ _).mono (fun r h c => ?_) (Cert.SwaReferenceIdeal.Value.run (F := Ideal) m' g')
    obtain ⟨h1, h2⟩ := h c
    obtain ⟨a0, a1, a2⟩ := heq c
    refine ⟨h1.trans ((SwaRef.res_eq m' c).trans ?_), h2⟩
    rw [a0, a1, a2]
    rfl

/-- The frame of the dilated band attention's reference. -/
theorem band_ref_frame (m : (ℓ : Loc Cert.BandReferenceIdeal.nD Cert.BandReferenceIdeal.τ Cert.BandReferenceIdeal.sig) → Buf (Elt Ideal) ℓ) (g : Dev Cert.BandReferenceIdeal.nD → PrngReg) :
    θ_run (Cert.BandReferenceIdeal.defs (F := Ideal)) (onTc (τ := Cert.BandReferenceIdeal.τ) (Cert.BandReferenceIdeal.main (F := Ideal))) ⟨m, fun _ => 0, g⟩ (fun r => (∀ c : Dev Cert.BandReferenceIdeal.nD,
      r.2.mem ((c.tc : Thread Cert.BandReferenceIdeal.nD Cert.BandReferenceIdeal.τ).loc Cert.BandReferenceIdeal.main_arg0) = m ((c.tc : Thread Cert.BandReferenceIdeal.nD Cert.BandReferenceIdeal.τ).loc Cert.BandReferenceIdeal.main_arg0)
      ∧ r.2.mem ((c.tc : Thread Cert.BandReferenceIdeal.nD Cert.BandReferenceIdeal.τ).loc Cert.BandReferenceIdeal.main_arg1) = m ((c.tc : Thread Cert.BandReferenceIdeal.nD Cert.BandReferenceIdeal.τ).loc Cert.BandReferenceIdeal.main_arg1))
      ∧ r.2.sem = fun _ => 0) :=
  (θ_run _ _ _).mono (fun r h => ⟨fun c => (h c).2, sem_eq_zero_of_no_sems (by decide) r.2⟩) (Cert.BandReferenceIdeal.Value.run (F := Ideal) m g)

/-- THE DILATED BAND ATTENTION: over the extended reals the kernel's array is the reference's. -/
theorem band_algebraic : @Cert.algebraic_BandIdeal_BandReferenceIdeal Cert.BandIdeal.Gen.facts Cert.BandReferenceIdeal.Gen.facts := by
  intro m g m' g' _ heq
  refine ⟨fun c => BandValue.REF m c, BandValue.run m g, ?_⟩
  refine (θ_run _ _ _).mono (fun r h c => ?_) (Cert.BandReferenceIdeal.Value.run (F := Ideal) m' g')
  obtain ⟨h1, h2⟩ := h c
  obtain ⟨a0, a1⟩ := heq c
  refine ⟨h1.trans ((BandRef.res_eq m' c).trans ?_), h2⟩
  rw [a0, a1]
  rfl

/-- The frame of the dilated band attention's reference, dilation 4. -/
theorem band4_ref_frame (m : (ℓ : Loc Cert.Band4ReferenceIdeal.nD Cert.Band4ReferenceIdeal.τ Cert.Band4ReferenceIdeal.sig) → Buf (Elt Ideal) ℓ) (g : Dev Cert.Band4ReferenceIdeal.nD → PrngReg) :
    θ_run (Cert.Band4ReferenceIdeal.defs (F := Ideal)) (onTc (τ := Cert.Band4ReferenceIdeal.τ) (Cert.Band4ReferenceIdeal.main (F := Ideal))) ⟨m, fun _ => 0, g⟩ (fun r => (∀ c : Dev Cert.Band4ReferenceIdeal.nD,
      r.2.mem ((c.tc : Thread Cert.Band4ReferenceIdeal.nD Cert.Band4ReferenceIdeal.τ).loc Cert.Band4ReferenceIdeal.main_arg0) = m ((c.tc : Thread Cert.Band4ReferenceIdeal.nD Cert.Band4ReferenceIdeal.τ).loc Cert.Band4ReferenceIdeal.main_arg0)
      ∧ r.2.mem ((c.tc : Thread Cert.Band4ReferenceIdeal.nD Cert.Band4ReferenceIdeal.τ).loc Cert.Band4ReferenceIdeal.main_arg1) = m ((c.tc : Thread Cert.Band4ReferenceIdeal.nD Cert.Band4ReferenceIdeal.τ).loc Cert.Band4ReferenceIdeal.main_arg1))
      ∧ r.2.sem = fun _ => 0) :=
  (θ_run _ _ _).mono (fun r h => ⟨fun c => (h c).2, sem_eq_zero_of_no_sems (by decide) r.2⟩) (Cert.Band4ReferenceIdeal.Value.run (F := Ideal) m g)

/-- THE DILATED BAND ATTENTION, DILATION 4: over the extended reals the kernel's array is the reference's. -/
theorem band4_algebraic : @Cert.algebraic_Band4Ideal_Band4ReferenceIdeal Cert.Band4Ideal.Gen.facts Cert.Band4ReferenceIdeal.Gen.facts := by
  intro m g m' g' _ heq
  refine ⟨fun c => Band4Value.REF m c, Band4Value.run m g, ?_⟩
  refine (θ_run _ _ _).mono (fun r h c => ?_) (Cert.Band4ReferenceIdeal.Value.run (F := Ideal) m' g')
  obtain ⟨h1, h2⟩ := h c
  obtain ⟨a0, a1⟩ := heq c
  refine ⟨h1.trans ((Band4Ref.res_eq m' c).trans ?_), h2⟩
  rw [a0, a1]
  rfl

/-- The frame of the dilated band attention's reference, dilation 16. -/
theorem band16_ref_frame (m : (ℓ : Loc Cert.Band16ReferenceIdeal.nD Cert.Band16ReferenceIdeal.τ Cert.Band16ReferenceIdeal.sig) → Buf (Elt Ideal) ℓ) (g : Dev Cert.Band16ReferenceIdeal.nD → PrngReg) :
    θ_run (Cert.Band16ReferenceIdeal.defs (F := Ideal)) (onTc (τ := Cert.Band16ReferenceIdeal.τ) (Cert.Band16ReferenceIdeal.main (F := Ideal))) ⟨m, fun _ => 0, g⟩ (fun r => (∀ c : Dev Cert.Band16ReferenceIdeal.nD,
      r.2.mem ((c.tc : Thread Cert.Band16ReferenceIdeal.nD Cert.Band16ReferenceIdeal.τ).loc Cert.Band16ReferenceIdeal.main_arg0) = m ((c.tc : Thread Cert.Band16ReferenceIdeal.nD Cert.Band16ReferenceIdeal.τ).loc Cert.Band16ReferenceIdeal.main_arg0)
      ∧ r.2.mem ((c.tc : Thread Cert.Band16ReferenceIdeal.nD Cert.Band16ReferenceIdeal.τ).loc Cert.Band16ReferenceIdeal.main_arg1) = m ((c.tc : Thread Cert.Band16ReferenceIdeal.nD Cert.Band16ReferenceIdeal.τ).loc Cert.Band16ReferenceIdeal.main_arg1))
      ∧ r.2.sem = fun _ => 0) :=
  (θ_run _ _ _).mono (fun r h => ⟨fun c => (h c).2, sem_eq_zero_of_no_sems (by decide) r.2⟩) (Cert.Band16ReferenceIdeal.Value.run (F := Ideal) m g)

/-- THE DILATED BAND ATTENTION, DILATION 16: over the extended reals the kernel's array is the reference's. -/
theorem band16_algebraic : @Cert.algebraic_Band16Ideal_Band16ReferenceIdeal Cert.Band16Ideal.Gen.facts Cert.Band16ReferenceIdeal.Gen.facts := by
  intro m g m' g' _ heq
  refine ⟨fun c => Band16Value.REF m c, Band16Value.run m g, ?_⟩
  refine (θ_run _ _ _).mono (fun r h c => ?_) (Cert.Band16ReferenceIdeal.Value.run (F := Ideal) m' g')
  obtain ⟨h1, h2⟩ := h c
  obtain ⟨a0, a1⟩ := heq c
  refine ⟨h1.trans ((Band16Ref.res_eq m' c).trans ?_), h2⟩
  rw [a0, a1]
  rfl

/-- The frame of the output projection's reference. -/
theorem out_ref_frame (m : (ℓ : Loc Cert.OutReferenceIdeal.nD Cert.OutReferenceIdeal.τ Cert.OutReferenceIdeal.sig) → Buf (Elt Ideal) ℓ) (g : Dev Cert.OutReferenceIdeal.nD → PrngReg) :
    θ_run (Cert.OutReferenceIdeal.defs (F := Ideal)) (onTc (τ := Cert.OutReferenceIdeal.τ) (Cert.OutReferenceIdeal.main (F := Ideal))) ⟨m, fun _ => 0, g⟩ (fun r => (∀ c : Dev Cert.OutReferenceIdeal.nD,
      r.2.mem ((c.tc : Thread Cert.OutReferenceIdeal.nD Cert.OutReferenceIdeal.τ).loc Cert.OutReferenceIdeal.main_arg0) = m ((c.tc : Thread Cert.OutReferenceIdeal.nD Cert.OutReferenceIdeal.τ).loc Cert.OutReferenceIdeal.main_arg0)
      ∧ r.2.mem ((c.tc : Thread Cert.OutReferenceIdeal.nD Cert.OutReferenceIdeal.τ).loc Cert.OutReferenceIdeal.main_arg1) = m ((c.tc : Thread Cert.OutReferenceIdeal.nD Cert.OutReferenceIdeal.τ).loc Cert.OutReferenceIdeal.main_arg1)
      ∧ r.2.mem ((c.tc : Thread Cert.OutReferenceIdeal.nD Cert.OutReferenceIdeal.τ).loc Cert.OutReferenceIdeal.main_arg2) = m ((c.tc : Thread Cert.OutReferenceIdeal.nD Cert.OutReferenceIdeal.τ).loc Cert.OutReferenceIdeal.main_arg2)
      ∧ r.2.mem ((c.tc : Thread Cert.OutReferenceIdeal.nD Cert.OutReferenceIdeal.τ).loc Cert.OutReferenceIdeal.main_arg3) = m ((c.tc : Thread Cert.OutReferenceIdeal.nD Cert.OutReferenceIdeal.τ).loc Cert.OutReferenceIdeal.main_arg3)
      ∧ r.2.mem ((c.tc : Thread Cert.OutReferenceIdeal.nD Cert.OutReferenceIdeal.τ).loc Cert.OutReferenceIdeal.main_arg4) = m ((c.tc : Thread Cert.OutReferenceIdeal.nD Cert.OutReferenceIdeal.τ).loc Cert.OutReferenceIdeal.main_arg4)
      ∧ r.2.mem ((c.tc : Thread Cert.OutReferenceIdeal.nD Cert.OutReferenceIdeal.τ).loc Cert.OutReferenceIdeal.main_arg5) = m ((c.tc : Thread Cert.OutReferenceIdeal.nD Cert.OutReferenceIdeal.τ).loc Cert.OutReferenceIdeal.main_arg5)
      ∧ r.2.mem ((c.tc : Thread Cert.OutReferenceIdeal.nD Cert.OutReferenceIdeal.τ).loc Cert.OutReferenceIdeal.main_arg6) = m ((c.tc : Thread Cert.OutReferenceIdeal.nD Cert.OutReferenceIdeal.τ).loc Cert.OutReferenceIdeal.main_arg6)
      ∧ r.2.mem ((c.tc : Thread Cert.OutReferenceIdeal.nD Cert.OutReferenceIdeal.τ).loc Cert.OutReferenceIdeal.main_arg7) = m ((c.tc : Thread Cert.OutReferenceIdeal.nD Cert.OutReferenceIdeal.τ).loc Cert.OutReferenceIdeal.main_arg7)
      ∧ r.2.mem ((c.tc : Thread Cert.OutReferenceIdeal.nD Cert.OutReferenceIdeal.τ).loc Cert.OutReferenceIdeal.main_arg8) = m ((c.tc : Thread Cert.OutReferenceIdeal.nD Cert.OutReferenceIdeal.τ).loc Cert.OutReferenceIdeal.main_arg8)
      ∧ r.2.mem ((c.tc : Thread Cert.OutReferenceIdeal.nD Cert.OutReferenceIdeal.τ).loc Cert.OutReferenceIdeal.main_arg9) = m ((c.tc : Thread Cert.OutReferenceIdeal.nD Cert.OutReferenceIdeal.τ).loc Cert.OutReferenceIdeal.main_arg9))
      ∧ r.2.sem = fun _ => 0) :=
  (θ_run _ _ _).mono (fun r h => ⟨fun c => (h c).2.2, sem_eq_zero_of_no_sems (by decide) r.2⟩) (Cert.OutReferenceIdeal.Value.run (F := Ideal) m g)

/-- THE OUTPUT PROJECTION: over the extended reals, on finite logarithms, the kernel's two arrays are the reference's. -/
theorem out_algebraic : @Cert.algebraic_OutIdeal_OutReferenceIdeal_pre_finite_lse Cert.OutIdeal.Gen.facts Cert.OutReferenceIdeal.Gen.facts OutFinite.facts := by
  intro m g m' g' hpre heq
  refine ⟨fun c => OutValue.REF m c, fun c => OutValue.REFB m c, ?_, ?_⟩
  · exact OutValue.run m g fun c => @OutFinite.finite OutFinite.facts _ _ _ _ _ _ _ _ _ _ (hpre c)
  · refine (θ_run _ _ _).mono (fun r h c => ?_) (Cert.OutReferenceIdeal.Value.run (F := Ideal) m' g')
    obtain ⟨h1, h1', h2⟩ := h c
    obtain ⟨a0, a1, a2, a3, a4, a5, a6, a7, a8, a9⟩ := heq c
    refine ⟨h1.trans ((OutRef.res_eq m' c).trans ?_), h1'.trans ((OutRef.resB_eq m' c).trans ?_), h2⟩
    · rw [a0, a1, a2, a3, a4, a5, a6, a7, a8, a9]
      rfl
    · rw [a0, a1, a2, a3, a4, a5, a6, a7, a8, a9]
      rfl

/-- The frame of the residual norm's reference. -/
theorem ln_ref_frame (m : (ℓ : Loc Cert.LnReferenceIdeal.nD Cert.LnReferenceIdeal.τ Cert.LnReferenceIdeal.sig) → Buf (Elt Ideal) ℓ) (g : Dev Cert.LnReferenceIdeal.nD → PrngReg) :
    θ_run (Cert.LnReferenceIdeal.defs (F := Ideal)) (onTc (τ := Cert.LnReferenceIdeal.τ) (Cert.LnReferenceIdeal.main (F := Ideal))) ⟨m, fun _ => 0, g⟩ (fun r => (∀ c : Dev Cert.LnReferenceIdeal.nD,
      r.2.mem ((c.tc : Thread Cert.LnReferenceIdeal.nD Cert.LnReferenceIdeal.τ).loc Cert.LnReferenceIdeal.main_arg0) = m ((c.tc : Thread Cert.LnReferenceIdeal.nD Cert.LnReferenceIdeal.τ).loc Cert.LnReferenceIdeal.main_arg0)
      ∧ r.2.mem ((c.tc : Thread Cert.LnReferenceIdeal.nD Cert.LnReferenceIdeal.τ).loc Cert.LnReferenceIdeal.main_arg1) = m ((c.tc : Thread Cert.LnReferenceIdeal.nD Cert.LnReferenceIdeal.τ).loc Cert.LnReferenceIdeal.main_arg1)
      ∧ r.2.mem ((c.tc : Thread Cert.LnReferenceIdeal.nD Cert.LnReferenceIdeal.τ).loc Cert.LnReferenceIdeal.main_arg2) = m ((c.tc : Thread Cert.LnReferenceIdeal.nD Cert.LnReferenceIdeal.τ).loc Cert.LnReferenceIdeal.main_arg2)
      ∧ r.2.mem ((c.tc : Thread Cert.LnReferenceIdeal.nD Cert.LnReferenceIdeal.τ).loc Cert.LnReferenceIdeal.main_arg3) = m ((c.tc : Thread Cert.LnReferenceIdeal.nD Cert.LnReferenceIdeal.τ).loc Cert.LnReferenceIdeal.main_arg3))
      ∧ r.2.sem = fun _ => 0) :=
  (θ_run _ _ _).mono (fun r h => ⟨fun c => (h c).2.2, sem_eq_zero_of_no_sems (by decide) r.2⟩) (Cert.LnReferenceIdeal.Value.run (F := Ideal) m g)

/-- THE RESIDUAL NORM: over the extended reals the kernel's two arrays, the layer's result among them, are the reference's. -/
theorem ln_algebraic : @Cert.algebraic_LnIdeal_LnReferenceIdeal Cert.LnIdeal.Gen.facts Cert.LnReferenceIdeal.Gen.facts := by
  intro m g m' g' _ heq
  refine ⟨fun c => LnValue.REF m c, fun c => LnValue.REFB m c, ?_, ?_⟩
  · refine (θ_run _ _ _).mono (fun r h c => ?_) (Cert.LnIdeal.Value.run_blocks (F := Ideal) m g)
    obtain ⟨h1, h1', h2⟩ := h c
    exact ⟨h1.trans (LnValue.final m c), h1'.trans (LnValue.finalB m c), h2⟩
  · refine (θ_run _ _ _).mono (fun r h c => ?_) (Cert.LnReferenceIdeal.Value.run (F := Ideal) m' g')
    obtain ⟨h1, h1', h2⟩ := h c
    obtain ⟨a0, a1, a2, a3⟩ := heq c
    refine ⟨h1.trans ?_, h1'.trans ?_, h2⟩
    · rw [a0, a1, a2, a3]
      rfl
    · rw [a0, a1, a2, a3]
      rfl

/-- All the claims. -/
theorem claim : Cert.Claim :=
  ⟨Cert.Kernel.Gen.facts, Cert.KernelIdeal.Gen.facts, Cert.ReferenceIdeal.Gen.facts, Cert.Rope.Gen.facts, Cert.RopeIdeal.Gen.facts,
    Cert.RopeReferenceIdeal.Gen.facts, Cert.Val.Gen.facts, Cert.ValIdeal.Gen.facts, Cert.ValReferenceIdeal.Gen.facts,
    Cert.Iw.Gen.facts, Cert.IwIdeal.Gen.facts, Cert.IwReferenceIdeal.Gen.facts, Cert.Swa.Gen.facts, Cert.SwaIdeal.Gen.facts, Cert.SwaReferenceIdeal.Gen.facts,
    Cert.Band.Gen.facts, Cert.BandIdeal.Gen.facts, Cert.BandReferenceIdeal.Gen.facts,
    Cert.Band4.Gen.facts, Cert.Band4Ideal.Gen.facts, Cert.Band4ReferenceIdeal.Gen.facts,
    Cert.Band16.Gen.facts, Cert.Band16Ideal.Gen.facts, Cert.Band16ReferenceIdeal.Gen.facts,
    Cert.Out.Gen.facts, Cert.OutIdeal.Gen.facts, Cert.OutReferenceIdeal.Gen.facts,
    Cert.Ln.Gen.facts, Cert.LnIdeal.Gen.facts, Cert.LnReferenceIdeal.Gen.facts, Finite.facts, SwaFinite.facts, OutFinite.facts,
    fun m ρ _ => Cert.Kernel.Gen.frame m ρ, fun m ρ _ => Cert.KernelIdeal.Gen.frame m ρ, fun m ρ _ => Cert.KernelIdeal.Gen.frame m ρ,
    fun m ρ _ => ref_frame m ρ, fun m ρ _ => ref_frame m ρ,
    fun m ρ _ => Cert.Rope.Gen.frame m ρ, fun m ρ _ => Cert.RopeIdeal.Gen.frame m ρ, fun m ρ _ => rope_ref_frame m ρ,
    fun m ρ _ => Cert.Val.Gen.frame m ρ, fun m ρ _ => Cert.ValIdeal.Gen.frame m ρ, fun m ρ _ => val_ref_frame m ρ,
    fun m ρ _ => Cert.Iw.Gen.frame m ρ, fun m ρ _ => Cert.IwIdeal.Gen.frame m ρ, fun m ρ _ => iw_ref_frame m ρ,
    fun m ρ _ => Cert.Swa.Gen.frame m ρ, fun m ρ _ => Cert.SwaIdeal.Gen.frame m ρ, fun m ρ _ => Cert.SwaIdeal.Gen.frame m ρ,
    fun m ρ _ => swa_ref_frame m ρ, fun m ρ _ => swa_ref_frame m ρ,
    fun m ρ _ => Cert.Band.Gen.frame m ρ, fun m ρ _ => Cert.BandIdeal.Gen.frame m ρ, fun m ρ _ => band_ref_frame m ρ,
    fun m ρ _ => Cert.Band4.Gen.frame m ρ, fun m ρ _ => Cert.Band4Ideal.Gen.frame m ρ, fun m ρ _ => band4_ref_frame m ρ,
    fun m ρ _ => Cert.Band16.Gen.frame m ρ, fun m ρ _ => Cert.Band16Ideal.Gen.frame m ρ, fun m ρ _ => band16_ref_frame m ρ,
    fun m ρ _ => Cert.Out.Gen.frame m ρ, fun m ρ _ => Cert.OutIdeal.Gen.frame m ρ, fun m ρ _ => Cert.OutIdeal.Gen.frame m ρ,
    fun m ρ _ => out_ref_frame m ρ, fun m ρ _ => out_ref_frame m ρ,
    fun m ρ _ => Cert.Ln.Gen.frame m ρ, fun m ρ _ => Cert.LnIdeal.Gen.frame m ρ, fun m ρ _ => ln_ref_frame m ρ,
    IdealRules.named_const.statement Cert.KernelIdeal.κ "mask" .f32 0xF149F2CA#32 ⊥ rfl, algebraic,
    trivial, rope_algebraic, trivial, val_algebraic, trivial, iw_algebraic,
    IdealRules.named_const.statement Cert.SwaIdeal.κ "mask" .f32 0xF149F2CA#32 ⊥ rfl, swa_algebraic,
    IdealRules.named_const.statement Cert.BandIdeal.κ "mask" .f32 0xF149F2CA#32 ⊥ rfl, band_algebraic,
    IdealRules.named_const.statement Cert.Band4Ideal.κ "mask" .f32 0xF149F2CA#32 ⊥ rfl, band4_algebraic,
    IdealRules.named_const.statement Cert.Band16Ideal.κ "mask" .f32 0xF149F2CA#32 ⊥ rfl, band16_algebraic,
    trivial, out_algebraic, trivial, ln_algebraic⟩

end Cert.Proof

end
